-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_SampleTail (m : (ℓ : Loc Cert.SampleTail.nD Cert.SampleTail.τ Cert.SampleTail.sig) → Buf (Elt Bits) ℓ) : Prop :=
  True

def Pre_SampleTailIdeal (m : (ℓ : Loc Cert.SampleTailIdeal.nD Cert.SampleTailIdeal.τ Cert.SampleTailIdeal.sig) → Buf (Elt Ideal) ℓ) : Prop :=
  True

def Pre_SampleTailReferenceIdeal (m : (ℓ : Loc Cert.SampleTailReferenceIdeal.nD Cert.SampleTailReferenceIdeal.τ Cert.SampleTailReferenceIdeal.sig) → Buf (Elt Ideal) ℓ) : Prop :=
  True

def Pre_SampleAttn (m : (ℓ : Loc Cert.SampleAttn.nD Cert.SampleAttn.τ Cert.SampleAttn.sig) → Buf (Elt Bits) ℓ) : Prop :=
  True

def Pre_SampleAttnIdeal (m : (ℓ : Loc Cert.SampleAttnIdeal.nD Cert.SampleAttnIdeal.τ Cert.SampleAttnIdeal.sig) → Buf (Elt Ideal) ℓ) : Prop :=
  True

def Pre_SampleAttnIdeal_finite_sample [hPre_finite_sample : Cert.Pre_finite_sample.Facts] (m : (ℓ : Loc Cert.SampleAttnIdeal.nD Cert.SampleAttnIdeal.τ Cert.SampleAttnIdeal.sig) → Buf (Elt Ideal) ℓ) : Prop :=
  ∀ c : Dev Cert.SampleAttnIdeal.nD,
    (Cert.Pre_finite_sample.fn (F := Ideal) (m ((c.tc : Thread Cert.SampleAttnIdeal.nD Cert.SampleAttnIdeal.τ).loc Cert.SampleAttnIdeal.main_arg0)) (m ((c.tc : Thread Cert.SampleAttnIdeal.nD Cert.SampleAttnIdeal.τ).loc Cert.SampleAttnIdeal.main_arg1)) (m ((c.tc : Thread Cert.SampleAttnIdeal.nD Cert.SampleAttnIdeal.τ).loc Cert.SampleAttnIdeal.main_arg2))) = (fun _ => 1#1)

def Pre_SampleAttnReferenceIdeal (m : (ℓ : Loc Cert.SampleAttnReferenceIdeal.nD Cert.SampleAttnReferenceIdeal.τ Cert.SampleAttnReferenceIdeal.sig) → Buf (Elt Ideal) ℓ) : Prop :=
  True

def Pre_SampleAttnReferenceIdeal_finite_sample [hPre_finite_sample : Cert.Pre_finite_sample.Facts] (m : (ℓ : Loc Cert.SampleAttnReferenceIdeal.nD Cert.SampleAttnReferenceIdeal.τ Cert.SampleAttnReferenceIdeal.sig) → Buf (Elt Ideal) ℓ) : Prop :=
  ∀ c : Dev Cert.SampleAttnReferenceIdeal.nD,
    (Cert.Pre_finite_sample.fn (F := Ideal) (m ((c.tc : Thread Cert.SampleAttnReferenceIdeal.nD Cert.SampleAttnReferenceIdeal.τ).loc Cert.SampleAttnReferenceIdeal.main_arg0)) (m ((c.tc : Thread Cert.SampleAttnReferenceIdeal.nD Cert.SampleAttnReferenceIdeal.τ).loc Cert.SampleAttnReferenceIdeal.main_arg1)) (m ((c.tc : Thread Cert.SampleAttnReferenceIdeal.nD Cert.SampleAttnReferenceIdeal.τ).loc Cert.SampleAttnReferenceIdeal.main_arg2))) = (fun _ => 1#1)

def Pre_SampleProj (m : (ℓ : Loc Cert.SampleProj.nD Cert.SampleProj.τ Cert.SampleProj.sig) → Buf (Elt Bits) ℓ) : Prop :=
  True

def Pre_SampleProjIdeal (m : (ℓ : Loc Cert.SampleProjIdeal.nD Cert.SampleProjIdeal.τ Cert.SampleProjIdeal.sig) → Buf (Elt Ideal) ℓ) : Prop :=
  True

def Pre_SampleProjReferenceIdeal (m : (ℓ : Loc Cert.SampleProjReferenceIdeal.nD Cert.SampleProjReferenceIdeal.τ Cert.SampleProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_SampleTail [hSampleTail : Cert.SampleTail.Facts] : Prop :=
  ∀ (m : (ℓ : Loc Cert.SampleTail.nD Cert.SampleTail.τ Cert.SampleTail.sig) → Buf (Elt Bits) ℓ) (g : Dev Cert.SampleTail.nD → PrngReg), Pre_SampleTail m →
    θ_run (Cert.SampleTail.defs (F := Bits)) (onTc (τ := Cert.SampleTail.τ) (Cert.SampleTail.main (F := Bits))) ⟨m, fun _ => 0, g⟩ (fun r => (∀ c : Dev Cert.SampleTail.nD,
      r.2.mem ((c.tc : Thread Cert.SampleTail.nD Cert.SampleTail.τ).loc Cert.SampleTail.main_arg0) = m ((c.tc : Thread Cert.SampleTail.nD Cert.SampleTail.τ).loc Cert.SampleTail.main_arg0)
      ∧ r.2.mem ((c.tc : Thread Cert.SampleTail.nD Cert.SampleTail.τ).loc Cert.SampleTail.main_arg1) = m ((c.tc : Thread Cert.SampleTail.nD Cert.SampleTail.τ).loc Cert.SampleTail.main_arg1)
      ∧ r.2.mem ((c.tc : Thread Cert.SampleTail.nD Cert.SampleTail.τ).loc Cert.SampleTail.main_arg2) = m ((c.tc : Thread Cert.SampleTail.nD Cert.SampleTail.τ).loc Cert.SampleTail.main_arg2)
      ∧ r.2.mem ((c.tc : Thread Cert.SampleTail.nD Cert.SampleTail.τ).loc Cert.SampleTail.main_arg3) = m ((c.tc : Thread Cert.SampleTail.nD Cert.SampleTail.τ).loc Cert.SampleTail.main_arg3)
      ∧ r.2.mem ((c.tc : Thread Cert.SampleTail.nD Cert.SampleTail.τ).loc Cert.SampleTail.main_arg4) = m ((c.tc : Thread Cert.SampleTail.nD Cert.SampleTail.τ).loc Cert.SampleTail.main_arg4)
      ∧ r.2.mem ((c.tc : Thread Cert.SampleTail.nD Cert.SampleTail.τ).loc Cert.SampleTail.main_arg5) = m ((c.tc : Thread Cert.SampleTail.nD Cert.SampleTail.τ).loc Cert.SampleTail.main_arg5)
      ∧ r.2.mem ((c.tc : Thread Cert.SampleTail.nD Cert.SampleTail.τ).loc Cert.SampleTail.main_arg6) = m ((c.tc : Thread Cert.SampleTail.nD Cert.SampleTail.τ).loc Cert.SampleTail.main_arg6)
      ∧ r.2.mem ((c.tc : Thread Cert.SampleTail.nD Cert.SampleTail.τ).loc Cert.SampleTail.main_arg7) = m ((c.tc : Thread Cert.SampleTail.nD Cert.SampleTail.τ).loc Cert.SampleTail.main_arg7)
      ∧ r.2.mem ((c.tc : Thread Cert.SampleTail.nD Cert.SampleTail.τ).loc Cert.SampleTail.main_arg8) = m ((c.tc : Thread Cert.SampleTail.nD Cert.SampleTail.τ).loc Cert.SampleTail.main_arg8)
      ∧ r.2.mem ((c.tc : Thread Cert.SampleTail.nD Cert.SampleTail.τ).loc Cert.SampleTail.main_arg9) = m ((c.tc : Thread Cert.SampleTail.nD Cert.SampleTail.τ).loc Cert.SampleTail.main_arg9)
      ∧ r.2.mem ((c.tc : Thread Cert.SampleTail.nD Cert.SampleTail.τ).loc Cert.SampleTail.main_arg10) = m ((c.tc : Thread Cert.SampleTail.nD Cert.SampleTail.τ).loc Cert.SampleTail.main_arg10)
      ∧ r.2.mem ((c.tc : Thread Cert.SampleTail.nD Cert.SampleTail.τ).loc Cert.SampleTail.main_arg11) = m ((c.tc : Thread Cert.SampleTail.nD Cert.SampleTail.τ).loc Cert.SampleTail.main_arg11))
      ∧ r.2.sem = fun _ => 0)

def quiescent_SampleTailIdeal [hSampleTailIdeal : Cert.SampleTailIdeal.Facts] : Prop :=
  ∀ (m : (ℓ : Loc Cert.SampleTailIdeal.nD Cert.SampleTailIdeal.τ Cert.SampleTailIdeal.sig) → Buf (Elt Ideal) ℓ) (g : Dev Cert.SampleTailIdeal.nD → PrngReg), Pre_SampleTailIdeal m →
    θ_run (Cert.SampleTailIdeal.defs (F := Ideal)) (onTc (τ := Cert.SampleTailIdeal.τ) (Cert.SampleTailIdeal.main (F := Ideal))) ⟨m, fun _ => 0, g⟩ (fun r => (∀ c : Dev Cert.SampleTailIdeal.nD,
      r.2.mem ((c.tc : Thread Cert.SampleTailIdeal.nD Cert.SampleTailIdeal.τ).loc Cert.SampleTailIdeal.main_arg0) = m ((c.tc : Thread Cert.SampleTailIdeal.nD Cert.SampleTailIdeal.τ).loc Cert.SampleTailIdeal.main_arg0)
      ∧ r.2.mem ((c.tc : Thread Cert.SampleTailIdeal.nD Cert.SampleTailIdeal.τ).loc Cert.SampleTailIdeal.main_arg1) = m ((c.tc : Thread Cert.SampleTailIdeal.nD Cert.SampleTailIdeal.τ).loc Cert.SampleTailIdeal.main_arg1)
      ∧ r.2.mem ((c.tc : Thread Cert.SampleTailIdeal.nD Cert.SampleTailIdeal.τ).loc Cert.SampleTailIdeal.main_arg2) = m ((c.tc : Thread Cert.SampleTailIdeal.nD Cert.SampleTailIdeal.τ).loc Cert.SampleTailIdeal.main_arg2)
      ∧ r.2.mem ((c.tc : Thread Cert.SampleTailIdeal.nD Cert.SampleTailIdeal.τ).loc Cert.SampleTailIdeal.main_arg3) = m ((c.tc : Thread Cert.SampleTailIdeal.nD Cert.SampleTailIdeal.τ).loc Cert.SampleTailIdeal.main_arg3)
      ∧ r.2.mem ((c.tc : Thread Cert.SampleTailIdeal.nD Cert.SampleTailIdeal.τ).loc Cert.SampleTailIdeal.main_arg4) = m ((c.tc : Thread Cert.SampleTailIdeal.nD Cert.SampleTailIdeal.τ).loc Cert.SampleTailIdeal.main_arg4)
      ∧ r.2.mem ((c.tc : Thread Cert.SampleTailIdeal.nD Cert.SampleTailIdeal.τ).loc Cert.SampleTailIdeal.main_arg5) = m ((c.tc : Thread Cert.SampleTailIdeal.nD Cert.SampleTailIdeal.τ).loc Cert.SampleTailIdeal.main_arg5)
      ∧ r.2.mem ((c.tc : Thread Cert.SampleTailIdeal.nD Cert.SampleTailIdeal.τ).loc Cert.SampleTailIdeal.main_arg6) = m ((c.tc : Thread Cert.SampleTailIdeal.nD Cert.SampleTailIdeal.τ).loc Cert.SampleTailIdeal.main_arg6)
      ∧ r.2.mem ((c.tc : Thread Cert.SampleTailIdeal.nD Cert.SampleTailIdeal.τ).loc Cert.SampleTailIdeal.main_arg7) = m ((c.tc : Thread Cert.SampleTailIdeal.nD Cert.SampleTailIdeal.τ).loc Cert.SampleTailIdeal.main_arg7)
      ∧ r.2.mem ((c.tc : Thread Cert.SampleTailIdeal.nD Cert.SampleTailIdeal.τ).loc Cert.SampleTailIdeal.main_arg8) = m ((c.tc : Thread Cert.SampleTailIdeal.nD Cert.SampleTailIdeal.τ).loc Cert.SampleTailIdeal.main_arg8)
      ∧ r.2.mem ((c.tc : Thread Cert.SampleTailIdeal.nD Cert.SampleTailIdeal.τ).loc Cert.SampleTailIdeal.main_arg9) = m ((c.tc : Thread Cert.SampleTailIdeal.nD Cert.SampleTailIdeal.τ).loc Cert.SampleTailIdeal.main_arg9)
      ∧ r.2.mem ((c.tc : Thread Cert.SampleTailIdeal.nD Cert.SampleTailIdeal.τ).loc Cert.SampleTailIdeal.main_arg10) = m ((c.tc : Thread Cert.SampleTailIdeal.nD Cert.SampleTailIdeal.τ).loc Cert.SampleTailIdeal.main_arg10)
      ∧ r.2.mem ((c.tc : Thread Cert.SampleTailIdeal.nD Cert.SampleTailIdeal.τ).loc Cert.SampleTailIdeal.main_arg11) = m ((c.tc : Thread Cert.SampleTailIdeal.nD Cert.SampleTailIdeal.τ).loc Cert.SampleTailIdeal.main_arg11))
      ∧ r.2.sem = fun _ => 0)

def quiescent_SampleTailReferenceIdeal [hSampleTailReferenceIdeal : Cert.SampleTailReferenceIdeal.Facts] : Prop :=
  ∀ (m : (ℓ : Loc Cert.SampleTailReferenceIdeal.nD Cert.SampleTailReferenceIdeal.τ Cert.SampleTailReferenceIdeal.sig) → Buf (Elt Ideal) ℓ) (g : Dev Cert.SampleTailReferenceIdeal.nD → PrngReg), Pre_SampleTailReferenceIdeal m →
    θ_run (Cert.SampleTailReferenceIdeal.defs (F := Ideal)) (onTc (τ := Cert.SampleTailReferenceIdeal.τ) (Cert.SampleTailReferenceIdeal.main (F := Ideal))) ⟨m, fun _ => 0, g⟩ (fun r => (∀ c : Dev Cert.SampleTailReferenceIdeal.nD,
      r.2.mem ((c.tc : Thread Cert.SampleTailReferenceIdeal.nD Cert.SampleTailReferenceIdeal.τ).loc Cert.SampleTailReferenceIdeal.main_arg0) = m ((c.tc : Thread Cert.SampleTailReferenceIdeal.nD Cert.SampleTailReferenceIdeal.τ).loc Cert.SampleTailReferenceIdeal.main_arg0)
      ∧ r.2.mem ((c.tc : Thread Cert.SampleTailReferenceIdeal.nD Cert.SampleTailReferenceIdeal.τ).loc Cert.SampleTailReferenceIdeal.main_arg1) = m ((c.tc : Thread Cert.SampleTailReferenceIdeal.nD Cert.SampleTailReferenceIdeal.τ).loc Cert.SampleTailReferenceIdeal.main_arg1)
      ∧ r.2.mem ((c.tc : Thread Cert.SampleTailReferenceIdeal.nD Cert.SampleTailReferenceIdeal.τ).loc Cert.SampleTailReferenceIdeal.main_arg2) = m ((c.tc : Thread Cert.SampleTailReferenceIdeal.nD Cert.SampleTailReferenceIdeal.τ).loc Cert.SampleTailReferenceIdeal.main_arg2)
      ∧ r.2.mem ((c.tc : Thread Cert.SampleTailReferenceIdeal.nD Cert.SampleTailReferenceIdeal.τ).loc Cert.SampleTailReferenceIdeal.main_arg3) = m ((c.tc : Thread Cert.SampleTailReferenceIdeal.nD Cert.SampleTailReferenceIdeal.τ).loc Cert.SampleTailReferenceIdeal.main_arg3)
      ∧ r.2.mem ((c.tc : Thread Cert.SampleTailReferenceIdeal.nD Cert.SampleTailReferenceIdeal.τ).loc Cert.SampleTailReferenceIdeal.main_arg4) = m ((c.tc : Thread Cert.SampleTailReferenceIdeal.nD Cert.SampleTailReferenceIdeal.τ).loc Cert.SampleTailReferenceIdeal.main_arg4)
      ∧ r.2.mem ((c.tc : Thread Cert.SampleTailReferenceIdeal.nD Cert.SampleTailReferenceIdeal.τ).loc Cert.SampleTailReferenceIdeal.main_arg5) = m ((c.tc : Thread Cert.SampleTailReferenceIdeal.nD Cert.SampleTailReferenceIdeal.τ).loc Cert.SampleTailReferenceIdeal.main_arg5)
      ∧ r.2.mem ((c.tc : Thread Cert.SampleTailReferenceIdeal.nD Cert.SampleTailReferenceIdeal.τ).loc Cert.SampleTailReferenceIdeal.main_arg6) = m ((c.tc : Thread Cert.SampleTailReferenceIdeal.nD Cert.SampleTailReferenceIdeal.τ).loc Cert.SampleTailReferenceIdeal.main_arg6)
      ∧ r.2.mem ((c.tc : Thread Cert.SampleTailReferenceIdeal.nD Cert.SampleTailReferenceIdeal.τ).loc Cert.SampleTailReferenceIdeal.main_arg7) = m ((c.tc : Thread Cert.SampleTailReferenceIdeal.nD Cert.SampleTailReferenceIdeal.τ).loc Cert.SampleTailReferenceIdeal.main_arg7)
      ∧ r.2.mem ((c.tc : Thread Cert.SampleTailReferenceIdeal.nD Cert.SampleTailReferenceIdeal.τ).loc Cert.SampleTailReferenceIdeal.main_arg8) = m ((c.tc : Thread Cert.SampleTailReferenceIdeal.nD Cert.SampleTailReferenceIdeal.τ).loc Cert.SampleTailReferenceIdeal.main_arg8)
      ∧ r.2.mem ((c.tc : Thread Cert.SampleTailReferenceIdeal.nD Cert.SampleTailReferenceIdeal.τ).loc Cert.SampleTailReferenceIdeal.main_arg9) = m ((c.tc : Thread Cert.SampleTailReferenceIdeal.nD Cert.SampleTailReferenceIdeal.τ).loc Cert.SampleTailReferenceIdeal.main_arg9)
      ∧ r.2.mem ((c.tc : Thread Cert.SampleTailReferenceIdeal.nD Cert.SampleTailReferenceIdeal.τ).loc Cert.SampleTailReferenceIdeal.main_arg10) = m ((c.tc : Thread Cert.SampleTailReferenceIdeal.nD Cert.SampleTailReferenceIdeal.τ).loc Cert.SampleTailReferenceIdeal.main_arg10)
      ∧ r.2.mem ((c.tc : Thread Cert.SampleTailReferenceIdeal.nD Cert.SampleTailReferenceIdeal.τ).loc Cert.SampleTailReferenceIdeal.main_arg11) = m ((c.tc : Thread Cert.SampleTailReferenceIdeal.nD Cert.SampleTailReferenceIdeal.τ).loc Cert.SampleTailReferenceIdeal.main_arg11))
      ∧ r.2.sem = fun _ => 0)

def quiescent_SampleAttn [hSampleAttn : Cert.SampleAttn.Facts] : Prop :=
  ∀ (m : (ℓ : Loc Cert.SampleAttn.nD Cert.SampleAttn.τ Cert.SampleAttn.sig) → Buf (Elt Bits) ℓ) (g : Dev Cert.SampleAttn.nD → PrngReg), Pre_SampleAttn m →
    θ_run (Cert.SampleAttn.defs (F := Bits)) (onTc (τ := Cert.SampleAttn.τ) (Cert.SampleAttn.main (F := Bits))) ⟨m, fun _ => 0, g⟩ (fun r => (∀ c : Dev Cert.SampleAttn.nD,
      r.2.mem ((c.tc : Thread Cert.SampleAttn.nD Cert.SampleAttn.τ).loc Cert.SampleAttn.main_arg0) = m ((c.tc : Thread Cert.SampleAttn.nD Cert.SampleAttn.τ).loc Cert.SampleAttn.main_arg0)
      ∧ r.2.mem ((c.tc : Thread Cert.SampleAttn.nD Cert.SampleAttn.τ).loc Cert.SampleAttn.main_arg1) = m ((c.tc : Thread Cert.SampleAttn.nD Cert.SampleAttn.τ).loc Cert.SampleAttn.main_arg1)
      ∧ r.2.mem ((c.tc : Thread Cert.SampleAttn.nD Cert.SampleAttn.τ).loc Cert.SampleAttn.main_arg2) = m ((c.tc : Thread Cert.SampleAttn.nD Cert.SampleAttn.τ).loc Cert.SampleAttn.main_arg2))
      ∧ r.2.sem = fun _ => 0)

def quiescent_SampleAttnIdeal [hSampleAttnIdeal : Cert.SampleAttnIdeal.Facts] : Prop :=
  ∀ (m : (ℓ : Loc Cert.SampleAttnIdeal.nD Cert.SampleAttnIdeal.τ Cert.SampleAttnIdeal.sig) → Buf (Elt Ideal) ℓ) (g : Dev Cert.SampleAttnIdeal.nD → PrngReg), Pre_SampleAttnIdeal m →
    θ_run (Cert.SampleAttnIdeal.defs (F := Ideal)) (onTc (τ := Cert.SampleAttnIdeal.τ) (Cert.SampleAttnIdeal.main (F := Ideal))) ⟨m, fun _ => 0, g⟩ (fun r => (∀ c : Dev Cert.SampleAttnIdeal.nD,
      r.2.mem ((c.tc : Thread Cert.SampleAttnIdeal.nD Cert.SampleAttnIdeal.τ).loc Cert.SampleAttnIdeal.main_arg0) = m ((c.tc : Thread Cert.SampleAttnIdeal.nD Cert.SampleAttnIdeal.τ).loc Cert.SampleAttnIdeal.main_arg0)
      ∧ r.2.mem ((c.tc : Thread Cert.SampleAttnIdeal.nD Cert.SampleAttnIdeal.τ).loc Cert.SampleAttnIdeal.main_arg1) = m ((c.tc : Thread Cert.SampleAttnIdeal.nD Cert.SampleAttnIdeal.τ).loc Cert.SampleAttnIdeal.main_arg1)
      ∧ r.2.mem ((c.tc : Thread Cert.SampleAttnIdeal.nD Cert.SampleAttnIdeal.τ).loc Cert.SampleAttnIdeal.main_arg2) = m ((c.tc : Thread Cert.SampleAttnIdeal.nD Cert.SampleAttnIdeal.τ).loc Cert.SampleAttnIdeal.main_arg2))
      ∧ r.2.sem = fun _ => 0)

def quiescent_SampleAttnIdeal_pre_finite_sample [hSampleAttnIdeal : Cert.SampleAttnIdeal.Facts] [hPre_finite_sample : Cert.Pre_finite_sample.Facts] : Prop :=
  ∀ (m : (ℓ : Loc Cert.SampleAttnIdeal.nD Cert.SampleAttnIdeal.τ Cert.SampleAttnIdeal.sig) → Buf (Elt Ideal) ℓ) (g : Dev Cert.SampleAttnIdeal.nD → PrngReg), Pre_SampleAttnIdeal_finite_sample m →
    θ_run (Cert.SampleAttnIdeal.defs (F := Ideal)) (onTc (τ := Cert.SampleAttnIdeal.τ) (Cert.SampleAttnIdeal.main (F := Ideal))) ⟨m, fun _ => 0, g⟩ (fun r => (∀ c : Dev Cert.SampleAttnIdeal.nD,
      r.2.mem ((c.tc : Thread Cert.SampleAttnIdeal.nD Cert.SampleAttnIdeal.τ).loc Cert.SampleAttnIdeal.main_arg0) = m ((c.tc : Thread Cert.SampleAttnIdeal.nD Cert.SampleAttnIdeal.τ).loc Cert.SampleAttnIdeal.main_arg0)
      ∧ r.2.mem ((c.tc : Thread Cert.SampleAttnIdeal.nD Cert.SampleAttnIdeal.τ).loc Cert.SampleAttnIdeal.main_arg1) = m ((c.tc : Thread Cert.SampleAttnIdeal.nD Cert.SampleAttnIdeal.τ).loc Cert.SampleAttnIdeal.main_arg1)
      ∧ r.2.mem ((c.tc : Thread Cert.SampleAttnIdeal.nD Cert.SampleAttnIdeal.τ).loc Cert.SampleAttnIdeal.main_arg2) = m ((c.tc : Thread Cert.SampleAttnIdeal.nD Cert.SampleAttnIdeal.τ).loc Cert.SampleAttnIdeal.main_arg2))
      ∧ r.2.sem = fun _ => 0)

def quiescent_SampleAttnReferenceIdeal [hSampleAttnReferenceIdeal : Cert.SampleAttnReferenceIdeal.Facts] : Prop :=
  ∀ (m : (ℓ : Loc Cert.SampleAttnReferenceIdeal.nD Cert.SampleAttnReferenceIdeal.τ Cert.SampleAttnReferenceIdeal.sig) → Buf (Elt Ideal) ℓ) (g : Dev Cert.SampleAttnReferenceIdeal.nD → PrngReg), Pre_SampleAttnReferenceIdeal m →
    θ_run (Cert.SampleAttnReferenceIdeal.defs (F := Ideal)) (onTc (τ := Cert.SampleAttnReferenceIdeal.τ) (Cert.SampleAttnReferenceIdeal.main (F := Ideal))) ⟨m, fun _ => 0, g⟩ (fun r => (∀ c : Dev Cert.SampleAttnReferenceIdeal.nD,
      r.2.mem ((c.tc : Thread Cert.SampleAttnReferenceIdeal.nD Cert.SampleAttnReferenceIdeal.τ).loc Cert.SampleAttnReferenceIdeal.main_arg0) = m ((c.tc : Thread Cert.SampleAttnReferenceIdeal.nD Cert.SampleAttnReferenceIdeal.τ).loc Cert.SampleAttnReferenceIdeal.main_arg0)
      ∧ r.2.mem ((c.tc : Thread Cert.SampleAttnReferenceIdeal.nD Cert.SampleAttnReferenceIdeal.τ).loc Cert.SampleAttnReferenceIdeal.main_arg1) = m ((c.tc : Thread Cert.SampleAttnReferenceIdeal.nD Cert.SampleAttnReferenceIdeal.τ).loc Cert.SampleAttnReferenceIdeal.main_arg1)
      ∧ r.2.mem ((c.tc : Thread Cert.SampleAttnReferenceIdeal.nD Cert.SampleAttnReferenceIdeal.τ).loc Cert.SampleAttnReferenceIdeal.main_arg2) = m ((c.tc : Thread Cert.SampleAttnReferenceIdeal.nD Cert.SampleAttnReferenceIdeal.τ).loc Cert.SampleAttnReferenceIdeal.main_arg2))
      ∧ r.2.sem = fun _ => 0)

def quiescent_SampleAttnReferenceIdeal_pre_finite_sample [hSampleAttnReferenceIdeal : Cert.SampleAttnReferenceIdeal.Facts] [hPre_finite_sample : Cert.Pre_finite_sample.Facts] : Prop :=
  ∀ (m : (ℓ : Loc Cert.SampleAttnReferenceIdeal.nD Cert.SampleAttnReferenceIdeal.τ Cert.SampleAttnReferenceIdeal.sig) → Buf (Elt Ideal) ℓ) (g : Dev Cert.SampleAttnReferenceIdeal.nD → PrngReg), Pre_SampleAttnReferenceIdeal_finite_sample m →
    θ_run (Cert.SampleAttnReferenceIdeal.defs (F := Ideal)) (onTc (τ := Cert.SampleAttnReferenceIdeal.τ) (Cert.SampleAttnReferenceIdeal.main (F := Ideal))) ⟨m, fun _ => 0, g⟩ (fun r => (∀ c : Dev Cert.SampleAttnReferenceIdeal.nD,
      r.2.mem ((c.tc : Thread Cert.SampleAttnReferenceIdeal.nD Cert.SampleAttnReferenceIdeal.τ).loc Cert.SampleAttnReferenceIdeal.main_arg0) = m ((c.tc : Thread Cert.SampleAttnReferenceIdeal.nD Cert.SampleAttnReferenceIdeal.τ).loc Cert.SampleAttnReferenceIdeal.main_arg0)
      ∧ r.2.mem ((c.tc : Thread Cert.SampleAttnReferenceIdeal.nD Cert.SampleAttnReferenceIdeal.τ).loc Cert.SampleAttnReferenceIdeal.main_arg1) = m ((c.tc : Thread Cert.SampleAttnReferenceIdeal.nD Cert.SampleAttnReferenceIdeal.τ).loc Cert.SampleAttnReferenceIdeal.main_arg1)
      ∧ r.2.mem ((c.tc : Thread Cert.SampleAttnReferenceIdeal.nD Cert.SampleAttnReferenceIdeal.τ).loc Cert.SampleAttnReferenceIdeal.main_arg2) = m ((c.tc : Thread Cert.SampleAttnReferenceIdeal.nD Cert.SampleAttnReferenceIdeal.τ).loc Cert.SampleAttnReferenceIdeal.main_arg2))
      ∧ r.2.sem = fun _ => 0)

def quiescent_SampleProj [hSampleProj : Cert.SampleProj.Facts] : Prop :=
  ∀ (m : (ℓ : Loc Cert.SampleProj.nD Cert.SampleProj.τ Cert.SampleProj.sig) → Buf (Elt Bits) ℓ) (g : Dev Cert.SampleProj.nD → PrngReg), Pre_SampleProj m →
    θ_run (Cert.SampleProj.defs (F := Bits)) (onTc (τ := Cert.SampleProj.τ) (Cert.SampleProj.main (F := Bits))) ⟨m, fun _ => 0, g⟩ (fun r => (∀ c : Dev Cert.SampleProj.nD,
      r.2.mem ((c.tc : Thread Cert.SampleProj.nD Cert.SampleProj.τ).loc Cert.SampleProj.main_arg0) = m ((c.tc : Thread Cert.SampleProj.nD Cert.SampleProj.τ).loc Cert.SampleProj.main_arg0)
      ∧ r.2.mem ((c.tc : Thread Cert.SampleProj.nD Cert.SampleProj.τ).loc Cert.SampleProj.main_arg1) = m ((c.tc : Thread Cert.SampleProj.nD Cert.SampleProj.τ).loc Cert.SampleProj.main_arg1)
      ∧ r.2.mem ((c.tc : Thread Cert.SampleProj.nD Cert.SampleProj.τ).loc Cert.SampleProj.main_arg2) = m ((c.tc : Thread Cert.SampleProj.nD Cert.SampleProj.τ).loc Cert.SampleProj.main_arg2)
      ∧ r.2.mem ((c.tc : Thread Cert.SampleProj.nD Cert.SampleProj.τ).loc Cert.SampleProj.main_arg3) = m ((c.tc : Thread Cert.SampleProj.nD Cert.SampleProj.τ).loc Cert.SampleProj.main_arg3)
      ∧ r.2.mem ((c.tc : Thread Cert.SampleProj.nD Cert.SampleProj.τ).loc Cert.SampleProj.main_arg4) = m ((c.tc : Thread Cert.SampleProj.nD Cert.SampleProj.τ).loc Cert.SampleProj.main_arg4))
      ∧ r.2.sem = fun _ => 0)

def quiescent_SampleProjIdeal [hSampleProjIdeal : Cert.SampleProjIdeal.Facts] : Prop :=
  ∀ (m : (ℓ : Loc Cert.SampleProjIdeal.nD Cert.SampleProjIdeal.τ Cert.SampleProjIdeal.sig) → Buf (Elt Ideal) ℓ) (g : Dev Cert.SampleProjIdeal.nD → PrngReg), Pre_SampleProjIdeal m →
    θ_run (Cert.SampleProjIdeal.defs (F := Ideal)) (onTc (τ := Cert.SampleProjIdeal.τ) (Cert.SampleProjIdeal.main (F := Ideal))) ⟨m, fun _ => 0, g⟩ (fun r => (∀ c : Dev Cert.SampleProjIdeal.nD,
      r.2.mem ((c.tc : Thread Cert.SampleProjIdeal.nD Cert.SampleProjIdeal.τ).loc Cert.SampleProjIdeal.main_arg0) = m ((c.tc : Thread Cert.SampleProjIdeal.nD Cert.SampleProjIdeal.τ).loc Cert.SampleProjIdeal.main_arg0)
      ∧ r.2.mem ((c.tc : Thread Cert.SampleProjIdeal.nD Cert.SampleProjIdeal.τ).loc Cert.SampleProjIdeal.main_arg1) = m ((c.tc : Thread Cert.SampleProjIdeal.nD Cert.SampleProjIdeal.τ).loc Cert.SampleProjIdeal.main_arg1)
      ∧ r.2.mem ((c.tc : Thread Cert.SampleProjIdeal.nD Cert.SampleProjIdeal.τ).loc Cert.SampleProjIdeal.main_arg2) = m ((c.tc : Thread Cert.SampleProjIdeal.nD Cert.SampleProjIdeal.τ).loc Cert.SampleProjIdeal.main_arg2)
      ∧ r.2.mem ((c.tc : Thread Cert.SampleProjIdeal.nD Cert.SampleProjIdeal.τ).loc Cert.SampleProjIdeal.main_arg3) = m ((c.tc : Thread Cert.SampleProjIdeal.nD Cert.SampleProjIdeal.τ).loc Cert.SampleProjIdeal.main_arg3)
      ∧ r.2.mem ((c.tc : Thread Cert.SampleProjIdeal.nD Cert.SampleProjIdeal.τ).loc Cert.SampleProjIdeal.main_arg4) = m ((c.tc : Thread Cert.SampleProjIdeal.nD Cert.SampleProjIdeal.τ).loc Cert.SampleProjIdeal.main_arg4))
      ∧ r.2.sem = fun _ => 0)

def quiescent_SampleProjReferenceIdeal [hSampleProjReferenceIdeal : Cert.SampleProjReferenceIdeal.Facts] : Prop :=
  ∀ (m : (ℓ : Loc Cert.SampleProjReferenceIdeal.nD Cert.SampleProjReferenceIdeal.τ Cert.SampleProjReferenceIdeal.sig) → Buf (Elt Ideal) ℓ) (g : Dev Cert.SampleProjReferenceIdeal.nD → PrngReg), Pre_SampleProjReferenceIdeal m →
    θ_run (Cert.SampleProjReferenceIdeal.defs (F := Ideal)) (onTc (τ := Cert.SampleProjReferenceIdeal.τ) (Cert.SampleProjReferenceIdeal.main (F := Ideal))) ⟨m, fun _ => 0, g⟩ (fun r => (∀ c : Dev Cert.SampleProjReferenceIdeal.nD,
      r.2.mem ((c.tc : Thread Cert.SampleProjReferenceIdeal.nD Cert.SampleProjReferenceIdeal.τ).loc Cert.SampleProjReferenceIdeal.main_arg0) = m ((c.tc : Thread Cert.SampleProjReferenceIdeal.nD Cert.SampleProjReferenceIdeal.τ).loc Cert.SampleProjReferenceIdeal.main_arg0)
      ∧ r.2.mem ((c.tc : Thread Cert.SampleProjReferenceIdeal.nD Cert.SampleProjReferenceIdeal.τ).loc Cert.SampleProjReferenceIdeal.main_arg1) = m ((c.tc : Thread Cert.SampleProjReferenceIdeal.nD Cert.SampleProjReferenceIdeal.τ).loc Cert.SampleProjReferenceIdeal.main_arg1)
      ∧ r.2.mem ((c.tc : Thread Cert.SampleProjReferenceIdeal.nD Cert.SampleProjReferenceIdeal.τ).loc Cert.SampleProjReferenceIdeal.main_arg2) = m ((c.tc : Thread Cert.SampleProjReferenceIdeal.nD Cert.SampleProjReferenceIdeal.τ).loc Cert.SampleProjReferenceIdeal.main_arg2)
      ∧ r.2.mem ((c.tc : Thread Cert.SampleProjReferenceIdeal.nD Cert.SampleProjReferenceIdeal.τ).loc Cert.SampleProjReferenceIdeal.main_arg3) = m ((c.tc : Thread Cert.SampleProjReferenceIdeal.nD Cert.SampleProjReferenceIdeal.τ).loc Cert.SampleProjReferenceIdeal.main_arg3)
      ∧ r.2.mem ((c.tc : Thread Cert.SampleProjReferenceIdeal.nD Cert.SampleProjReferenceIdeal.τ).loc Cert.SampleProjReferenceIdeal.main_arg4) = m ((c.tc : Thread Cert.SampleProjReferenceIdeal.nD Cert.SampleProjReferenceIdeal.τ).loc Cert.SampleProjReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)
      ∧ m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11)) →
    ∃ (v0 : (c : Dev Cert.TailIdeal.nD) → Buf (Elt Ideal) ((c.tc : Thread Cert.TailIdeal.nD Cert.TailIdeal.τ).loc Cert.TailIdeal.main_v1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v1) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v287) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)) (v3 : (c : Dev Cert.ProjIdeal.nD) → Buf (Elt Ideal) ((c.tc : Thread Cert.ProjIdeal.nD Cert.ProjIdeal.τ).loc Cert.ProjIdeal.main_v0_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_v0_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v183) = v0 c
          ∧ r.2.mem ((c.tc : Thread Cert.ProjReferenceIdeal.nD Cert.ProjReferenceIdeal.τ).loc Cert.ProjReferenceIdeal.main_v185) = v1 c
          ∧ r.2.mem ((c.tc : Thread Cert.ProjReferenceIdeal.nD Cert.ProjReferenceIdeal.τ).loc Cert.ProjReferenceIdeal.main_v186) = v2 c
          ∧ r.2.mem ((c.tc : Thread Cert.ProjReferenceIdeal.nD Cert.ProjReferenceIdeal.τ).loc Cert.ProjReferenceIdeal.main_v178) = v3 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_SampleTail_SampleTailIdeal : Prop :=
  True

def algebraic_SampleTailIdeal_SampleTailReferenceIdeal [hSampleTailIdeal : Cert.SampleTailIdeal.Facts] [hSampleTailReferenceIdeal : Cert.SampleTailReferenceIdeal.Facts] : Prop :=
  ∀ (m : (ℓ : Loc Cert.SampleTailIdeal.nD Cert.SampleTailIdeal.τ Cert.SampleTailIdeal.sig) → Buf (Elt Ideal) ℓ) (g : Dev Cert.SampleTailIdeal.nD → PrngReg)
    (m' : (ℓ : Loc Cert.SampleTailReferenceIdeal.nD Cert.SampleTailReferenceIdeal.τ Cert.SampleTailReferenceIdeal.sig) → Buf (Elt Ideal) ℓ) (g' : Dev Cert.SampleTailReferenceIdeal.nD → PrngReg), Pre_SampleTailIdeal m →
    (∀ c : Dev Cert.SampleTailIdeal.nD,
      m' ((c.tc : Thread Cert.SampleTailReferenceIdeal.nD Cert.SampleTailReferenceIdeal.τ).loc Cert.SampleTailReferenceIdeal.main_arg0) = m ((c.tc : Thread Cert.SampleTailIdeal.nD Cert.SampleTailIdeal.τ).loc Cert.SampleTailIdeal.main_arg0)
      ∧ m' ((c.tc : Thread Cert.SampleTailReferenceIdeal.nD Cert.SampleTailReferenceIdeal.τ).loc Cert.SampleTailReferenceIdeal.main_arg1) = m ((c.tc : Thread Cert.SampleTailIdeal.nD Cert.SampleTailIdeal.τ).loc Cert.SampleTailIdeal.main_arg1)
      ∧ m' ((c.tc : Thread Cert.SampleTailReferenceIdeal.nD Cert.SampleTailReferenceIdeal.τ).loc Cert.SampleTailReferenceIdeal.main_arg2) = m ((c.tc : Thread Cert.SampleTailIdeal.nD Cert.SampleTailIdeal.τ).loc Cert.SampleTailIdeal.main_arg2)
      ∧ m' ((c.tc : Thread Cert.SampleTailReferenceIdeal.nD Cert.SampleTailReferenceIdeal.τ).loc Cert.SampleTailReferenceIdeal.main_arg3) = m ((c.tc : Thread Cert.SampleTailIdeal.nD Cert.SampleTailIdeal.τ).loc Cert.SampleTailIdeal.main_arg3)
      ∧ m' ((c.tc : Thread Cert.SampleTailReferenceIdeal.nD Cert.SampleTailReferenceIdeal.τ).loc Cert.SampleTailReferenceIdeal.main_arg4) = m ((c.tc : Thread Cert.SampleTailIdeal.nD Cert.SampleTailIdeal.τ).loc Cert.SampleTailIdeal.main_arg4)
      ∧ m' ((c.tc : Thread Cert.SampleTailReferenceIdeal.nD Cert.SampleTailReferenceIdeal.τ).loc Cert.SampleTailReferenceIdeal.main_arg5) = m ((c.tc : Thread Cert.SampleTailIdeal.nD Cert.SampleTailIdeal.τ).loc Cert.SampleTailIdeal.main_arg5)
      ∧ m' ((c.tc : Thread Cert.SampleTailReferenceIdeal.nD Cert.SampleTailReferenceIdeal.τ).loc Cert.SampleTailReferenceIdeal.main_arg6) = m ((c.tc : Thread Cert.SampleTailIdeal.nD Cert.SampleTailIdeal.τ).loc Cert.SampleTailIdeal.main_arg6)
      ∧ m' ((c.tc : Thread Cert.SampleTailReferenceIdeal.nD Cert.SampleTailReferenceIdeal.τ).loc Cert.SampleTailReferenceIdeal.main_arg7) = m ((c.tc : Thread Cert.SampleTailIdeal.nD Cert.SampleTailIdeal.τ).loc Cert.SampleTailIdeal.main_arg7)
      ∧ m' ((c.tc : Thread Cert.SampleTailReferenceIdeal.nD Cert.SampleTailReferenceIdeal.τ).loc Cert.SampleTailReferenceIdeal.main_arg8) = m ((c.tc : Thread Cert.SampleTailIdeal.nD Cert.SampleTailIdeal.τ).loc Cert.SampleTailIdeal.main_arg8)
      ∧ m' ((c.tc : Thread Cert.SampleTailReferenceIdeal.nD Cert.SampleTailReferenceIdeal.τ).loc Cert.SampleTailReferenceIdeal.main_arg9) = m ((c.tc : Thread Cert.SampleTailIdeal.nD Cert.SampleTailIdeal.τ).loc Cert.SampleTailIdeal.main_arg9)
      ∧ m' ((c.tc : Thread Cert.SampleTailReferenceIdeal.nD Cert.SampleTailReferenceIdeal.τ).loc Cert.SampleTailReferenceIdeal.main_arg10) = m ((c.tc : Thread Cert.SampleTailIdeal.nD Cert.SampleTailIdeal.τ).loc Cert.SampleTailIdeal.main_arg10)
      ∧ m' ((c.tc : Thread Cert.SampleTailReferenceIdeal.nD Cert.SampleTailReferenceIdeal.τ).loc Cert.SampleTailReferenceIdeal.main_arg11) = m ((c.tc : Thread Cert.SampleTailIdeal.nD Cert.SampleTailIdeal.τ).loc Cert.SampleTailIdeal.main_arg11)) →
    ∃ (v0 : (c : Dev Cert.SampleTailIdeal.nD) → Buf (Elt Ideal) ((c.tc : Thread Cert.SampleTailIdeal.nD Cert.SampleTailIdeal.τ).loc Cert.SampleTailIdeal.main_v1)),
      θ_run (Cert.SampleTailIdeal.defs (F := Ideal)) (onTc (τ := Cert.SampleTailIdeal.τ) (Cert.SampleTailIdeal.main (F := Ideal))) ⟨m, fun _ => 0, g⟩ (fun r => ∀ c : Dev Cert.SampleTailIdeal.nD,
          r.2.mem ((c.tc : Thread Cert.SampleTailIdeal.nD Cert.SampleTailIdeal.τ).loc Cert.SampleTailIdeal.main_v1) = v0 c
          ∧ r.2.mem ((c.tc : Thread Cert.SampleTailIdeal.nD Cert.SampleTailIdeal.τ).loc Cert.SampleTailIdeal.main_arg0) = m ((c.tc : Thread Cert.SampleTailIdeal.nD Cert.SampleTailIdeal.τ).loc Cert.SampleTailIdeal.main_arg0)
          ∧ r.2.mem ((c.tc : Thread Cert.SampleTailIdeal.nD Cert.SampleTailIdeal.τ).loc Cert.SampleTailIdeal.main_arg1) = m ((c.tc : Thread Cert.SampleTailIdeal.nD Cert.SampleTailIdeal.τ).loc Cert.SampleTailIdeal.main_arg1)
          ∧ r.2.mem ((c.tc : Thread Cert.SampleTailIdeal.nD Cert.SampleTailIdeal.τ).loc Cert.SampleTailIdeal.main_arg2) = m ((c.tc : Thread Cert.SampleTailIdeal.nD Cert.SampleTailIdeal.τ).loc Cert.SampleTailIdeal.main_arg2)
          ∧ r.2.mem ((c.tc : Thread Cert.SampleTailIdeal.nD Cert.SampleTailIdeal.τ).loc Cert.SampleTailIdeal.main_arg3) = m ((c.tc : Thread Cert.SampleTailIdeal.nD Cert.SampleTailIdeal.τ).loc Cert.SampleTailIdeal.main_arg3)
          ∧ r.2.mem ((c.tc : Thread Cert.SampleTailIdeal.nD Cert.SampleTailIdeal.τ).loc Cert.SampleTailIdeal.main_arg4) = m ((c.tc : Thread Cert.SampleTailIdeal.nD Cert.SampleTailIdeal.τ).loc Cert.SampleTailIdeal.main_arg4)
          ∧ r.2.mem ((c.tc : Thread Cert.SampleTailIdeal.nD Cert.SampleTailIdeal.τ).loc Cert.SampleTailIdeal.main_arg5) = m ((c.tc : Thread Cert.SampleTailIdeal.nD Cert.SampleTailIdeal.τ).loc Cert.SampleTailIdeal.main_arg5)
          ∧ r.2.mem ((c.tc : Thread Cert.SampleTailIdeal.nD Cert.SampleTailIdeal.τ).loc Cert.SampleTailIdeal.main_arg6) = m ((c.tc : Thread Cert.SampleTailIdeal.nD Cert.SampleTailIdeal.τ).loc Cert.SampleTailIdeal.main_arg6)
          ∧ r.2.mem ((c.tc : Thread Cert.SampleTailIdeal.nD Cert.SampleTailIdeal.τ).loc Cert.SampleTailIdeal.main_arg7) = m ((c.tc : Thread Cert.SampleTailIdeal.nD Cert.SampleTailIdeal.τ).loc Cert.SampleTailIdeal.main_arg7)
          ∧ r.2.mem ((c.tc : Thread Cert.SampleTailIdeal.nD Cert.SampleTailIdeal.τ).loc Cert.SampleTailIdeal.main_arg8) = m ((c.tc : Thread Cert.SampleTailIdeal.nD Cert.SampleTailIdeal.τ).loc Cert.SampleTailIdeal.main_arg8)
          ∧ r.2.mem ((c.tc : Thread Cert.SampleTailIdeal.nD Cert.SampleTailIdeal.τ).loc Cert.SampleTailIdeal.main_arg9) = m ((c.tc : Thread Cert.SampleTailIdeal.nD Cert.SampleTailIdeal.τ).loc Cert.SampleTailIdeal.main_arg9)
          ∧ r.2.mem ((c.tc : Thread Cert.SampleTailIdeal.nD Cert.SampleTailIdeal.τ).loc Cert.SampleTailIdeal.main_arg10) = m ((c.tc : Thread Cert.SampleTailIdeal.nD Cert.SampleTailIdeal.τ).loc Cert.SampleTailIdeal.main_arg10)
          ∧ r.2.mem ((c.tc : Thread Cert.SampleTailIdeal.nD Cert.SampleTailIdeal.τ).loc Cert.SampleTailIdeal.main_arg11) = m ((c.tc : Thread Cert.SampleTailIdeal.nD Cert.SampleTailIdeal.τ).loc Cert.SampleTailIdeal.main_arg11))
      ∧ θ_run (Cert.SampleTailReferenceIdeal.defs (F := Ideal)) (onTc (τ := Cert.SampleTailReferenceIdeal.τ) (Cert.SampleTailReferenceIdeal.main (F := Ideal))) ⟨m', fun _ => 0, g'⟩ (fun r => ∀ c : Dev Cert.SampleTailReferenceIdeal.nD,
          r.2.mem ((c.tc : Thread Cert.SampleTailReferenceIdeal.nD Cert.SampleTailReferenceIdeal.τ).loc Cert.SampleTailReferenceIdeal.main_v287) = v0 c
          ∧ r.2.mem ((c.tc : Thread Cert.SampleTailReferenceIdeal.nD Cert.SampleTailReferenceIdeal.τ).loc Cert.SampleTailReferenceIdeal.main_arg0) = m' ((c.tc : Thread Cert.SampleTailReferenceIdeal.nD Cert.SampleTailReferenceIdeal.τ).loc Cert.SampleTailReferenceIdeal.main_arg0)
          ∧ r.2.mem ((c.tc : Thread Cert.SampleTailReferenceIdeal.nD Cert.SampleTailReferenceIdeal.τ).loc Cert.SampleTailReferenceIdeal.main_arg1) = m' ((c.tc : Thread Cert.SampleTailReferenceIdeal.nD Cert.SampleTailReferenceIdeal.τ).loc Cert.SampleTailReferenceIdeal.main_arg1)
          ∧ r.2.mem ((c.tc : Thread Cert.SampleTailReferenceIdeal.nD Cert.SampleTailReferenceIdeal.τ).loc Cert.SampleTailReferenceIdeal.main_arg2) = m' ((c.tc : Thread Cert.SampleTailReferenceIdeal.nD Cert.SampleTailReferenceIdeal.τ).loc Cert.SampleTailReferenceIdeal.main_arg2)
          ∧ r.2.mem ((c.tc : Thread Cert.SampleTailReferenceIdeal.nD Cert.SampleTailReferenceIdeal.τ).loc Cert.SampleTailReferenceIdeal.main_arg3) = m' ((c.tc : Thread Cert.SampleTailReferenceIdeal.nD Cert.SampleTailReferenceIdeal.τ).loc Cert.SampleTailReferenceIdeal.main_arg3)
          ∧ r.2.mem ((c.tc : Thread Cert.SampleTailReferenceIdeal.nD Cert.SampleTailReferenceIdeal.τ).loc Cert.SampleTailReferenceIdeal.main_arg4) = m' ((c.tc : Thread Cert.SampleTailReferenceIdeal.nD Cert.SampleTailReferenceIdeal.τ).loc Cert.SampleTailReferenceIdeal.main_arg4)
          ∧ r.2.mem ((c.tc : Thread Cert.SampleTailReferenceIdeal.nD Cert.SampleTailReferenceIdeal.τ).loc Cert.SampleTailReferenceIdeal.main_arg5) = m' ((c.tc : Thread Cert.SampleTailReferenceIdeal.nD Cert.SampleTailReferenceIdeal.τ).loc Cert.SampleTailReferenceIdeal.main_arg5)
          ∧ r.2.mem ((c.tc : Thread Cert.SampleTailReferenceIdeal.nD Cert.SampleTailReferenceIdeal.τ).loc Cert.SampleTailReferenceIdeal.main_arg6) = m' ((c.tc : Thread Cert.SampleTailReferenceIdeal.nD Cert.SampleTailReferenceIdeal.τ).loc Cert.SampleTailReferenceIdeal.main_arg6)
          ∧ r.2.mem ((c.tc : Thread Cert.SampleTailReferenceIdeal.nD Cert.SampleTailReferenceIdeal.τ).loc Cert.SampleTailReferenceIdeal.main_arg7) = m' ((c.tc : Thread Cert.SampleTailReferenceIdeal.nD Cert.SampleTailReferenceIdeal.τ).loc Cert.SampleTailReferenceIdeal.main_arg7)
          ∧ r.2.mem ((c.tc : Thread Cert.SampleTailReferenceIdeal.nD Cert.SampleTailReferenceIdeal.τ).loc Cert.SampleTailReferenceIdeal.main_arg8) = m' ((c.tc : Thread Cert.SampleTailReferenceIdeal.nD Cert.SampleTailReferenceIdeal.τ).loc Cert.SampleTailReferenceIdeal.main_arg8)
          ∧ r.2.mem ((c.tc : Thread Cert.SampleTailReferenceIdeal.nD Cert.SampleTailReferenceIdeal.τ).loc Cert.SampleTailReferenceIdeal.main_arg9) = m' ((c.tc : Thread Cert.SampleTailReferenceIdeal.nD Cert.SampleTailReferenceIdeal.τ).loc Cert.SampleTailReferenceIdeal.main_arg9)
          ∧ r.2.mem ((c.tc : Thread Cert.SampleTailReferenceIdeal.nD Cert.SampleTailReferenceIdeal.τ).loc Cert.SampleTailReferenceIdeal.main_arg10) = m' ((c.tc : Thread Cert.SampleTailReferenceIdeal.nD Cert.SampleTailReferenceIdeal.τ).loc Cert.SampleTailReferenceIdeal.main_arg10)
          ∧ r.2.mem ((c.tc : Thread Cert.SampleTailReferenceIdeal.nD Cert.SampleTailReferenceIdeal.τ).loc Cert.SampleTailReferenceIdeal.main_arg11) = m' ((c.tc : Thread Cert.SampleTailReferenceIdeal.nD Cert.SampleTailReferenceIdeal.τ).loc Cert.SampleTailReferenceIdeal.main_arg11))

def preserves_SampleAttn_SampleAttnIdeal : Prop :=
  True

def algebraic_SampleAttnIdeal_SampleAttnReferenceIdeal_pre_finite_sample [hSampleAttnIdeal : Cert.SampleAttnIdeal.Facts] [hSampleAttnReferenceIdeal : Cert.SampleAttnReferenceIdeal.Facts] [hPre_finite_sample : Cert.Pre_finite_sample.Facts] : Prop :=
  ∀ (m : (ℓ : Loc Cert.SampleAttnIdeal.nD Cert.SampleAttnIdeal.τ Cert.SampleAttnIdeal.sig) → Buf (Elt Ideal) ℓ) (g : Dev Cert.SampleAttnIdeal.nD → PrngReg)
    (m' : (ℓ : Loc Cert.SampleAttnReferenceIdeal.nD Cert.SampleAttnReferenceIdeal.τ Cert.SampleAttnReferenceIdeal.sig) → Buf (Elt Ideal) ℓ) (g' : Dev Cert.SampleAttnReferenceIdeal.nD → PrngReg), Pre_SampleAttnIdeal_finite_sample m →
    (∀ c : Dev Cert.SampleAttnIdeal.nD,
      m' ((c.tc : Thread Cert.SampleAttnReferenceIdeal.nD Cert.SampleAttnReferenceIdeal.τ).loc Cert.SampleAttnReferenceIdeal.main_arg0) = m ((c.tc : Thread Cert.SampleAttnIdeal.nD Cert.SampleAttnIdeal.τ).loc Cert.SampleAttnIdeal.main_arg0)
      ∧ m' ((c.tc : Thread Cert.SampleAttnReferenceIdeal.nD Cert.SampleAttnReferenceIdeal.τ).loc Cert.SampleAttnReferenceIdeal.main_arg1) = m ((c.tc : Thread Cert.SampleAttnIdeal.nD Cert.SampleAttnIdeal.τ).loc Cert.SampleAttnIdeal.main_arg1)
      ∧ m' ((c.tc : Thread Cert.SampleAttnReferenceIdeal.nD Cert.SampleAttnReferenceIdeal.τ).loc Cert.SampleAttnReferenceIdeal.main_arg2) = m ((c.tc : Thread Cert.SampleAttnIdeal.nD Cert.SampleAttnIdeal.τ).loc Cert.SampleAttnIdeal.main_arg2)) →
    ∃ (v0 : (c : Dev Cert.SampleAttnIdeal.nD) → Buf (Elt Ideal) ((c.tc : Thread Cert.SampleAttnIdeal.nD Cert.SampleAttnIdeal.τ).loc Cert.SampleAttnIdeal.main_v0)),
      θ_run (Cert.SampleAttnIdeal.defs (F := Ideal)) (onTc (τ := Cert.SampleAttnIdeal.τ) (Cert.SampleAttnIdeal.main (F := Ideal))) ⟨m, fun _ => 0, g⟩ (fun r => ∀ c : Dev Cert.SampleAttnIdeal.nD,
          r.2.mem ((c.tc : Thread Cert.SampleAttnIdeal.nD Cert.SampleAttnIdeal.τ).loc Cert.SampleAttnIdeal.main_v0) = v0 c
          ∧ r.2.mem ((c.tc : Thread Cert.SampleAttnIdeal.nD Cert.SampleAttnIdeal.τ).loc Cert.SampleAttnIdeal.main_arg0) = m ((c.tc : Thread Cert.SampleAttnIdeal.nD Cert.SampleAttnIdeal.τ).loc Cert.SampleAttnIdeal.main_arg0)
          ∧ r.2.mem ((c.tc : Thread Cert.SampleAttnIdeal.nD Cert.SampleAttnIdeal.τ).loc Cert.SampleAttnIdeal.main_arg1) = m ((c.tc : Thread Cert.SampleAttnIdeal.nD Cert.SampleAttnIdeal.τ).loc Cert.SampleAttnIdeal.main_arg1)
          ∧ r.2.mem ((c.tc : Thread Cert.SampleAttnIdeal.nD Cert.SampleAttnIdeal.τ).loc Cert.SampleAttnIdeal.main_arg2) = m ((c.tc : Thread Cert.SampleAttnIdeal.nD Cert.SampleAttnIdeal.τ).loc Cert.SampleAttnIdeal.main_arg2))
      ∧ θ_run (Cert.SampleAttnReferenceIdeal.defs (F := Ideal)) (onTc (τ := Cert.SampleAttnReferenceIdeal.τ) (Cert.SampleAttnReferenceIdeal.main (F := Ideal))) ⟨m', fun _ => 0, g'⟩ (fun r => ∀ c : Dev Cert.SampleAttnReferenceIdeal.nD,
          r.2.mem ((c.tc : Thread Cert.SampleAttnReferenceIdeal.nD Cert.SampleAttnReferenceIdeal.τ).loc Cert.SampleAttnReferenceIdeal.main_v26) = v0 c
          ∧ r.2.mem ((c.tc : Thread Cert.SampleAttnReferenceIdeal.nD Cert.SampleAttnReferenceIdeal.τ).loc Cert.SampleAttnReferenceIdeal.main_arg0) = m' ((c.tc : Thread Cert.SampleAttnReferenceIdeal.nD Cert.SampleAttnReferenceIdeal.τ).loc Cert.SampleAttnReferenceIdeal.main_arg0)
          ∧ r.2.mem ((c.tc : Thread Cert.SampleAttnReferenceIdeal.nD Cert.SampleAttnReferenceIdeal.τ).loc Cert.SampleAttnReferenceIdeal.main_arg1) = m' ((c.tc : Thread Cert.SampleAttnReferenceIdeal.nD Cert.SampleAttnReferenceIdeal.τ).loc Cert.SampleAttnReferenceIdeal.main_arg1)
          ∧ r.2.mem ((c.tc : Thread Cert.SampleAttnReferenceIdeal.nD Cert.SampleAttnReferenceIdeal.τ).loc Cert.SampleAttnReferenceIdeal.main_arg2) = m' ((c.tc : Thread Cert.SampleAttnReferenceIdeal.nD Cert.SampleAttnReferenceIdeal.τ).loc Cert.SampleAttnReferenceIdeal.main_arg2))

def preserves_SampleProj_SampleProjIdeal : Prop :=
  True

def algebraic_SampleProjIdeal_SampleProjReferenceIdeal [hSampleProjIdeal : Cert.SampleProjIdeal.Facts] [hSampleProjReferenceIdeal : Cert.SampleProjReferenceIdeal.Facts] : Prop :=
  ∀ (m : (ℓ : Loc Cert.SampleProjIdeal.nD Cert.SampleProjIdeal.τ Cert.SampleProjIdeal.sig) → Buf (Elt Ideal) ℓ) (g : Dev Cert.SampleProjIdeal.nD → PrngReg)
    (m' : (ℓ : Loc Cert.SampleProjReferenceIdeal.nD Cert.SampleProjReferenceIdeal.τ Cert.SampleProjReferenceIdeal.sig) → Buf (Elt Ideal) ℓ) (g' : Dev Cert.SampleProjReferenceIdeal.nD → PrngReg), Pre_SampleProjIdeal m →
    (∀ c : Dev Cert.SampleProjIdeal.nD,
      m' ((c.tc : Thread Cert.SampleProjReferenceIdeal.nD Cert.SampleProjReferenceIdeal.τ).loc Cert.SampleProjReferenceIdeal.main_arg0) = m ((c.tc : Thread Cert.SampleProjIdeal.nD Cert.SampleProjIdeal.τ).loc Cert.SampleProjIdeal.main_arg0)
      ∧ m' ((c.tc : Thread Cert.SampleProjReferenceIdeal.nD Cert.SampleProjReferenceIdeal.τ).loc Cert.SampleProjReferenceIdeal.main_arg1) = m ((c.tc : Thread Cert.SampleProjIdeal.nD Cert.SampleProjIdeal.τ).loc Cert.SampleProjIdeal.main_arg1)
      ∧ m' ((c.tc : Thread Cert.SampleProjReferenceIdeal.nD Cert.SampleProjReferenceIdeal.τ).loc Cert.SampleProjReferenceIdeal.main_arg2) = m ((c.tc : Thread Cert.SampleProjIdeal.nD Cert.SampleProjIdeal.τ).loc Cert.SampleProjIdeal.main_arg2)
      ∧ m' ((c.tc : Thread Cert.SampleProjReferenceIdeal.nD Cert.SampleProjReferenceIdeal.τ).loc Cert.SampleProjReferenceIdeal.main_arg3) = m ((c.tc : Thread Cert.SampleProjIdeal.nD Cert.SampleProjIdeal.τ).loc Cert.SampleProjIdeal.main_arg3)
      ∧ m' ((c.tc : Thread Cert.SampleProjReferenceIdeal.nD Cert.SampleProjReferenceIdeal.τ).loc Cert.SampleProjReferenceIdeal.main_arg4) = m ((c.tc : Thread Cert.SampleProjIdeal.nD Cert.SampleProjIdeal.τ).loc Cert.SampleProjIdeal.main_arg4)) →
    ∃ (v0 : (c : Dev Cert.SampleProjIdeal.nD) → Buf (Elt Ideal) ((c.tc : Thread Cert.SampleProjIdeal.nD Cert.SampleProjIdeal.τ).loc Cert.SampleProjIdeal.main_v0_0)) (v1 : (c : Dev Cert.SampleProjIdeal.nD) → Buf (Elt Ideal) ((c.tc : Thread Cert.SampleProjIdeal.nD Cert.SampleProjIdeal.τ).loc Cert.SampleProjIdeal.main_v0_1)) (v2 : (c : Dev Cert.SampleProjIdeal.nD) → Buf (Elt Ideal) ((c.tc : Thread Cert.SampleProjIdeal.nD Cert.SampleProjIdeal.τ).loc Cert.SampleProjIdeal.main_v0_2)) (v3 : (c : Dev Cert.SampleProjIdeal.nD) → Buf (Elt Ideal) ((c.tc : Thread Cert.SampleProjIdeal.nD Cert.SampleProjIdeal.τ).loc Cert.SampleProjIdeal.main_v0_3)),
      θ_run (Cert.SampleProjIdeal.defs (F := Ideal)) (onTc (τ := Cert.SampleProjIdeal.τ) (Cert.SampleProjIdeal.main (F := Ideal))) ⟨m, fun _ => 0, g⟩ (fun r => ∀ c : Dev Cert.SampleProjIdeal.nD,
          r.2.mem ((c.tc : Thread Cert.SampleProjIdeal.nD Cert.SampleProjIdeal.τ).loc Cert.SampleProjIdeal.main_v0_0) = v0 c
          ∧ r.2.mem ((c.tc : Thread Cert.SampleProjIdeal.nD Cert.SampleProjIdeal.τ).loc Cert.SampleProjIdeal.main_v0_1) = v1 c
          ∧ r.2.mem ((c.tc : Thread Cert.SampleProjIdeal.nD Cert.SampleProjIdeal.τ).loc Cert.SampleProjIdeal.main_v0_2) = v2 c
          ∧ r.2.mem ((c.tc : Thread Cert.SampleProjIdeal.nD Cert.SampleProjIdeal.τ).loc Cert.SampleProjIdeal.main_v0_3) = v3 c
          ∧ r.2.mem ((c.tc : Thread Cert.SampleProjIdeal.nD Cert.SampleProjIdeal.τ).loc Cert.SampleProjIdeal.main_arg0) = m ((c.tc : Thread Cert.SampleProjIdeal.nD Cert.SampleProjIdeal.τ).loc Cert.SampleProjIdeal.main_arg0)
          ∧ r.2.mem ((c.tc : Thread Cert.SampleProjIdeal.nD Cert.SampleProjIdeal.τ).loc Cert.SampleProjIdeal.main_arg1) = m ((c.tc : Thread Cert.SampleProjIdeal.nD Cert.SampleProjIdeal.τ).loc Cert.SampleProjIdeal.main_arg1)
          ∧ r.2.mem ((c.tc : Thread Cert.SampleProjIdeal.nD Cert.SampleProjIdeal.τ).loc Cert.SampleProjIdeal.main_arg2) = m ((c.tc : Thread Cert.SampleProjIdeal.nD Cert.SampleProjIdeal.τ).loc Cert.SampleProjIdeal.main_arg2)
          ∧ r.2.mem ((c.tc : Thread Cert.SampleProjIdeal.nD Cert.SampleProjIdeal.τ).loc Cert.SampleProjIdeal.main_arg3) = m ((c.tc : Thread Cert.SampleProjIdeal.nD Cert.SampleProjIdeal.τ).loc Cert.SampleProjIdeal.main_arg3)
          ∧ r.2.mem ((c.tc : Thread Cert.SampleProjIdeal.nD Cert.SampleProjIdeal.τ).loc Cert.SampleProjIdeal.main_arg4) = m ((c.tc : Thread Cert.SampleProjIdeal.nD Cert.SampleProjIdeal.τ).loc Cert.SampleProjIdeal.main_arg4))
      ∧ θ_run (Cert.SampleProjReferenceIdeal.defs (F := Ideal)) (onTc (τ := Cert.SampleProjReferenceIdeal.τ) (Cert.SampleProjReferenceIdeal.main (F := Ideal))) ⟨m', fun _ => 0, g'⟩ (fun r => ∀ c : Dev Cert.SampleProjReferenceIdeal.nD,
          r.2.mem ((c.tc : Thread Cert.SampleProjReferenceIdeal.nD Cert.SampleProjReferenceIdeal.τ).loc Cert.SampleProjReferenceIdeal.main_v183) = v0 c
          ∧ r.2.mem ((c.tc : Thread Cert.SampleProjReferenceIdeal.nD Cert.SampleProjReferenceIdeal.τ).loc Cert.SampleProjReferenceIdeal.main_v185) = v1 c
          ∧ r.2.mem ((c.tc : Thread Cert.SampleProjReferenceIdeal.nD Cert.SampleProjReferenceIdeal.τ).loc Cert.SampleProjReferenceIdeal.main_v186) = v2 c
          ∧ r.2.mem ((c.tc : Thread Cert.SampleProjReferenceIdeal.nD Cert.SampleProjReferenceIdeal.τ).loc Cert.SampleProjReferenceIdeal.main_v178) = v3 c
          ∧ r.2.mem ((c.tc : Thread Cert.SampleProjReferenceIdeal.nD Cert.SampleProjReferenceIdeal.τ).loc Cert.SampleProjReferenceIdeal.main_arg0) = m' ((c.tc : Thread Cert.SampleProjReferenceIdeal.nD Cert.SampleProjReferenceIdeal.τ).loc Cert.SampleProjReferenceIdeal.main_arg0)
          ∧ r.2.mem ((c.tc : Thread Cert.SampleProjReferenceIdeal.nD Cert.SampleProjReferenceIdeal.τ).loc Cert.SampleProjReferenceIdeal.main_arg1) = m' ((c.tc : Thread Cert.SampleProjReferenceIdeal.nD Cert.SampleProjReferenceIdeal.τ).loc Cert.SampleProjReferenceIdeal.main_arg1)
          ∧ r.2.mem ((c.tc : Thread Cert.SampleProjReferenceIdeal.nD Cert.SampleProjReferenceIdeal.τ).loc Cert.SampleProjReferenceIdeal.main_arg2) = m' ((c.tc : Thread Cert.SampleProjReferenceIdeal.nD Cert.SampleProjReferenceIdeal.τ).loc Cert.SampleProjReferenceIdeal.main_arg2)
          ∧ r.2.mem ((c.tc : Thread Cert.SampleProjReferenceIdeal.nD Cert.SampleProjReferenceIdeal.τ).loc Cert.SampleProjReferenceIdeal.main_arg3) = m' ((c.tc : Thread Cert.SampleProjReferenceIdeal.nD Cert.SampleProjReferenceIdeal.τ).loc Cert.SampleProjReferenceIdeal.main_arg3)
          ∧ r.2.mem ((c.tc : Thread Cert.SampleProjReferenceIdeal.nD Cert.SampleProjReferenceIdeal.τ).loc Cert.SampleProjReferenceIdeal.main_arg4) = m' ((c.tc : Thread Cert.SampleProjReferenceIdeal.nD Cert.SampleProjReferenceIdeal.τ).loc Cert.SampleProjReferenceIdeal.main_arg4))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailReferenceIdeal : Cert.TailReferenceIdeal.Facts) (hProj : Cert.Proj.Facts) (hProjIdeal : Cert.ProjIdeal.Facts) (hProjReferenceIdeal : Cert.ProjReferenceIdeal.Facts) (hSampleTail : Cert.SampleTail.Facts) (hSampleTailIdeal : Cert.SampleTailIdeal.Facts) (hSampleTailReferenceIdeal : Cert.SampleTailReferenceIdeal.Facts) (hSampleAttn : Cert.SampleAttn.Facts) (hSampleAttnIdeal : Cert.SampleAttnIdeal.Facts) (hSampleAttnReferenceIdeal : Cert.SampleAttnReferenceIdeal.Facts) (hSampleProj : Cert.SampleProj.Facts) (hSampleProjIdeal : Cert.SampleProjIdeal.Facts) (hSampleProjReferenceIdeal : Cert.SampleProjReferenceIdeal.Facts) (hPre_finite : Cert.Pre_finite.Facts) (hPre_finite_sample : Cert.Pre_finite_sample.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Tail (hTail := hTail)
    ∧ quiescent_TailIdeal (hTailIdeal := hTailIdeal)
    ∧ quiescent_TailReferenceIdeal (hTailReferenceIdeal := hTailReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_SampleTail (hSampleTail := hSampleTail)
    ∧ quiescent_SampleTailIdeal (hSampleTailIdeal := hSampleTailIdeal)
    ∧ quiescent_SampleTailReferenceIdeal (hSampleTailReferenceIdeal := hSampleTailReferenceIdeal)
    ∧ quiescent_SampleAttn (hSampleAttn := hSampleAttn)
    ∧ quiescent_SampleAttnIdeal (hSampleAttnIdeal := hSampleAttnIdeal)
    ∧ quiescent_SampleAttnIdeal_pre_finite_sample (hSampleAttnIdeal := hSampleAttnIdeal) (hPre_finite_sample := hPre_finite_sample)
    ∧ quiescent_SampleAttnReferenceIdeal (hSampleAttnReferenceIdeal := hSampleAttnReferenceIdeal)
    ∧ quiescent_SampleAttnReferenceIdeal_pre_finite_sample (hSampleAttnReferenceIdeal := hSampleAttnReferenceIdeal) (hPre_finite_sample := hPre_finite_sample)
    ∧ quiescent_SampleProj (hSampleProj := hSampleProj)
    ∧ quiescent_SampleProjIdeal (hSampleProjIdeal := hSampleProjIdeal)
    ∧ quiescent_SampleProjReferenceIdeal (hSampleProjReferenceIdeal := hSampleProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Tail_TailIdeal
    ∧ algebraic_TailIdeal_TailReferenceIdeal (hTailIdeal := hTailIdeal) (hTailReferenceIdeal := hTailReferenceIdeal)
    ∧ preserves_Proj_ProjIdeal
    ∧ algebraic_ProjIdeal_ProjReferenceIdeal (hProjIdeal := hProjIdeal) (hProjReferenceIdeal := hProjReferenceIdeal)
    ∧ preserves_SampleTail_SampleTailIdeal
    ∧ algebraic_SampleTailIdeal_SampleTailReferenceIdeal (hSampleTailIdeal := hSampleTailIdeal) (hSampleTailReferenceIdeal := hSampleTailReferenceIdeal)
    ∧ preserves_SampleAttn_SampleAttnIdeal
    ∧ algebraic_SampleAttnIdeal_SampleAttnReferenceIdeal_pre_finite_sample (hSampleAttnIdeal := hSampleAttnIdeal) (hSampleAttnReferenceIdeal := hSampleAttnReferenceIdeal) (hPre_finite_sample := hPre_finite_sample)
    ∧ preserves_SampleProj_SampleProjIdeal
    ∧ algebraic_SampleProjIdeal_SampleProjReferenceIdeal (hSampleProjIdeal := hSampleProjIdeal) (hSampleProjReferenceIdeal := hSampleProjReferenceIdeal)
-- ==== Pre_finite.lean ====
abbrev S4x8x16x64x512 : Shape := ⟨5, ![4, 8, 16, 64, 512]⟩
abbrev S4x2x8192x64 : Shape := ⟨4, ![4, 2, 8192, 64]⟩
abbrev S4x2x16x64x512 : Shape := ⟨5, ![4, 2, 16, 64, 512]⟩
abbrev S_ : Shape := ⟨0, ![]⟩

class Facts : Prop where
  bitsLt_bf16_f32 : FTy.bits .bf16 < FTy.bits .f32
  bcast_S_S4x8x16x64x512 : S_.BroadcastsInDim S4x8x16x64x512 (![] : Fin 0 → Fin S4x8x16x64x512.rank)
  reducesTo_S4x8x16x64x512_S_d0_1_2_3_4 : S4x8x16x64x512.ReducesTo [0, 1, 2, 3, 4] S_
  h_S_ : 0 < S_.numel
  bcast_S_S4x2x8192x64 : S_.BroadcastsInDim S4x2x8192x64 (![] : Fin 0 → Fin S4x2x8192x64.rank)
  reducesTo_S4x2x8192x64_S_d0_1_2_3 : S4x2x8192x64.ReducesTo [0, 1, 2, 3] S_

variable [Facts]

def fn {F : FTy → Type} [FloatOps F] (main_arg0 : FVec F S4x8x16x64x512 .bf16) (main_arg1 : FVec F S4x2x8192x64 .bf16) (main_arg2 : FVec F S4x2x16x64x512 .bf16) : IVec S_ 1 :=
  let main_v0 : FVec F S4x8x16x64x512 .f32 := (extf .f32 · bitsLt_bf16_f32) main_arg0
  let main_v1 : FVec F S4x8x16x64x512 .f32 := Host.absf main_v0
  let main_cst : FVec F S_ .f32 := constant S_ .f32 0x7F800000#32
  let main_v2 : FVec F S4x8x16x64x512 .f32 := broadcastInDim S4x8x16x64x512 ![] bcast_S_S4x8x16x64x512 main_cst
  let main_v3 : IVec S4x8x16x64x512 1 := cmpf .olt main_v1 main_v2
  let main_c : IVec S_ 1 := constantI S_ 1 1#1
  let main_v4 : IVec S_ 1 := (fun x v => Host.reduce IntOp.andi x v reducesTo_S4x8x16x64x512_S_d0_1_2_3_4 h_S_) main_v3 main_c
  let main_v5 : FVec F S4x2x8192x64 .f32 := (extf .f32 · bitsLt_bf16_f32) main_arg1
  let main_v6 : FVec F S4x2x8192x64 .f32 := Host.absf main_v5
  let main_cst_0 : FVec F S_ .f32 := constant S_ .f32 0x7F800000#32
  let main_v7 : FVec F S4x2x8192x64 .f32 := broadcastInDim S4x2x8192x64 ![] bcast_S_S4x2x8192x64 main_cst_0
  let main_v8 : IVec S4x2x8192x64 1 := cmpf .olt main_v6 main_v7
  let main_c_1 : IVec S_ 1 := constantI S_ 1 1#1
  let main_v9 : IVec S_ 1 := (fun x v => Host.reduce IntOp.andi x v reducesTo_S4x2x8192x64_S_d0_1_2_3 h_S_) main_v8 main_c_1
  let main_v10 : IVec S_ 1 := andi main_v4 main_v9
  main_v10
-- ==== Pre_finite_sample.lean ====
abbrev S32x8x4x64x512 : Shape := ⟨5, ![32, 8, 4, 64, 512]⟩
abbrev S32x2x2048x64 : Shape := ⟨4, ![32, 2, 2048, 64]⟩
abbrev S32x2x4x64x512 : Shape := ⟨5, ![32, 2, 4, 64, 512]⟩
abbrev S_ : Shape := ⟨0, ![]⟩

class Facts : Prop where
  bitsLt_bf16_f32 : FTy.bits .bf16 < FTy.bits .f32
  bcast_S_S32x8x4x64x512 : S_.BroadcastsInDim S32x8x4x64x512 (![] : Fin 0 → Fin S32x8x4x64x512.rank)
  reducesTo_S32x8x4x64x512_S_d0_1_2_3_4 : S32x8x4x64x512.ReducesTo [0, 1, 2, 3, 4] S_
  h_S_ : 0 < S_.numel
  bcast_S_S32x2x2048x64 : S_.BroadcastsInDim S32x2x2048x64 (![] : Fin 0 → Fin S32x2x2048x64.rank)
  reducesTo_S32x2x2048x64_S_d0_1_2_3 : S32x2x2048x64.ReducesTo [0, 1, 2, 3] S_

variable [Facts]

def fn {F : FTy → Type} [FloatOps F] (main_arg0 : FVec F S32x8x4x64x512 .bf16) (main_arg1 : FVec F S32x2x2048x64 .bf16) (main_arg2 : FVec F S32x2x4x64x512 .bf16) : IVec S_ 1 :=
  let main_v0 : FVec F S32x8x4x64x512 .f32 := (extf .f32 · bitsLt_bf16_f32) main_arg0
  let main_v1 : FVec F S32x8x4x64x512 .f32 := Host.absf main_v0
  let main_cst : FVec F S_ .f32 := constant S_ .f32 0x7F800000#32
  let main_v2 : FVec F S32x8x4x64x512 .f32 := broadcastInDim S32x8x4x64x512 ![] bcast_S_S32x8x4x64x512 main_cst
  let main_v3 : IVec S32x8x4x64x512 1 := cmpf .olt main_v1 main_v2
  let main_c : IVec S_ 1 := constantI S_ 1 1#1
  let main_v4 : IVec S_ 1 := (fun x v => Host.reduce IntOp.andi x v reducesTo_S32x8x4x64x512_S_d0_1_2_3_4 h_S_) main_v3 main_c
  let main_v5 : FVec F S32x2x2048x64 .f32 := (extf .f32 · bitsLt_bf16_f32) main_arg1
  let main_v6 : FVec F S32x2x2048x64 .f32 := Host.absf main_v5
  let main_cst_0 : FVec F S_ .f32 := constant S_ .f32 0x7F800000#32
  let main_v7 : FVec F S32x2x2048x64 .f32 := broadcastInDim S32x2x2048x64 ![] bcast_S_S32x2x2048x64 main_cst_0
  let main_v8 : IVec S32x2x2048x64 1 := cmpf .olt main_v6 main_v7
  let main_c_1 : IVec S_ 1 := constantI S_ 1 1#1
  let main_v9 : IVec S_ 1 := (fun x v => Host.reduce IntOp.andi x v reducesTo_S32x2x2048x64_S_d0_1_2_3 h_S_) main_v8 main_c_1
  let main_v10 : IVec S_ 1 := andi main_v4 main_v9
  main_v10
-- ==== Kernel.lean ====
abbrev S4x8x16x64x512 : Shape := ⟨5, ![4, 8, 16, 64, 512]⟩
abbrev S4x2x8192x64 : Shape := ⟨4, ![4, 2, 8192, 64]⟩
abbrev S4x2x16x64x512 : Shape := ⟨5, ![4, 2, 16, 64, 512]⟩
abbrev S4x8192x512 : Shape := ⟨3, ![4, 8192, 512]⟩
abbrev S1x4x1x64x512 : Shape := ⟨5, ![1, 4, 1, 64, 512]⟩
abbrev S1x1x8192x64 : Shape := ⟨4, ![1, 1, 8192, 64]⟩
abbrev S1x1x16x64x512 : Shape := ⟨5, ![1, 1, 16, 64, 512]⟩
abbrev S1x512x256 : Shape := ⟨3, ![1, 512, 256]⟩
abbrev S1x1x1x64x512 : Shape := ⟨5, ![1, 1, 1, 64, 512]⟩
abbrev S64x512 : Shape := ⟨2, ![64, 512]⟩
abbrev S1x512 : Shape := ⟨2, ![1, 512]⟩
abbrev S1x1x512x64 : Shape := ⟨4, ![1, 1, 512, 64]⟩
abbrev S512x64 : Shape := ⟨2, ![512, 64]⟩
abbrev S512x512 : Shape := ⟨2, ![512, 512]⟩
abbrev S512 : Shape := ⟨1, ![512]⟩
abbrev S256x512 : Shape := ⟨2, ![256, 512]⟩
abbrev S512x256 : Shape := ⟨2, ![512, 256]⟩

abbrev nBuf : Space → Nat
  | .hbm => 4
  | .vmem => 8
  | .smem => 0
  | _ => 0

abbrev bufTy : (tb : Table) → Fin (tcTables nBuf tb) → BufTy
  | .hbm, ⟨0, _⟩ => ⟨S4x8x16x64x512, .bf16⟩
  | .hbm, ⟨1, _⟩ => ⟨S4x2x8192x64, .bf16⟩
  | .hbm, ⟨2, _⟩ => ⟨S4x2x16x64x512, .bf16⟩
  | .hbm, ⟨3, _⟩ => ⟨S4x8192x512, .bf16⟩
  | .local _ .vmem, ⟨0, _⟩ => ⟨S1x4x1x64x512, .bf16⟩
  | .local _ .vmem, ⟨1, _⟩ => ⟨S1x4x1x64x512, .bf16⟩
  | .local _ .vmem, ⟨2, _⟩ => ⟨S1x1x8192x64, .bf16⟩
  | .local _ .vmem, ⟨3, _⟩ => ⟨S1x1x8192x64, .bf16⟩
  | .local _ .vmem, ⟨4, _⟩ => ⟨S1x1x16x64x512, .bf16⟩
  | .local _ .vmem, ⟨5, _⟩ => ⟨S1x1x16x64x512, .bf16⟩
  | .local _ .vmem, ⟨6, _⟩ => ⟨S1x512x256, .bf16⟩
  | .local _ .vmem, ⟨7, _⟩ => ⟨S1x512x256, .bf16⟩
  | _, _ => ⟨S4x8x16x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 16], ![false, false, false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v42 : BitVec 32 := Scalar.muli arg7 c512_i32
  v42
def k0_off1 (k0_t1 : Fin k0_t1_loop.trips) : Fin 4 → Nat :=
  let c0_43 : Index := 0#32
  let c0_44 : Index := 0#32
  let c0_i32 : BitVec 32 := 0#32
  let c1_i32 : BitVec 32 := 1#32
  let arg7 : BitVec 32 := Scf.iv c0_i32 c1_i32 k0_t1
  let c512_i32 : BitVec 32 := 512#32
  let v42 : BitVec 32 := Scalar.muli arg7 c512_i32
  let v43 : BitVec 32 := v42
  let v44 : Index := Scalar.indexCast v43
  let c0_45 : Index := 0#32
  ![0, 0, v44.toNat, 0]
def k0_off2 (k0_t1 : Fin k0_t1_loop.trips) : Fin 5 → Nat :=
  let c0_49 : Index := 0#32
  let c0_50 : Index := 0#32
  let c0_i32 : BitVec 32 := 0#32
  let c1_i32 : BitVec 32 := 1#32
  let arg7 : BitVec 32 := Scf.iv c0_i32 c1_i32 k0_t1
  let v60 : Index := Scalar.indexCast arg7
  let c0_51 : Index := 0#32
  let c0_52 : Index := 0#32
  ![0, 0, v60.toNat, 0, 0]
@[reducible] def k0_t2_loop : Scf.Loop 32 :=
  let c0_i32_14 : BitVec 32 := 0#32
  let c16_i32_15 : BitVec 32 := 16#32
  let v14 : BitVec 32 := Scalar.addi c0_i32_14 c16_i32_15
  let c1_i32_16 : BitVec 32 := 1#32
  ⟨c0_i32_14, v14, c1_i32_16⟩
def k0_mult2 (k0_t2 : Fin k0_t2_loop.trips) : BitVec 32 :=
  let c0_i32_14 : BitVec 32 := 0#32
  let c1_i32_16 : BitVec 32 := 1#32
  let arg7 : BitVec 32 := Scf.iv c0_i32_14 c1_i32_16 k0_t2
  let c512_i32 : BitVec 32 := 512#32
  let v42 : BitVec 32 := Scalar.muli arg7 c512_i32
  v42
def k0_off3 (k0_t2 : Fin k0_t2_loop.trips) : Fin 4 → Nat :=
  let c0_43 : Index := 0#32
  let c0_44 : Index := 0#32
  let c0_i32_14 : BitVec 32 := 0#32
  let c1_i32_16 : BitVec 32 := 1#32
  let arg7 : BitVec 32 := Scf.iv c0_i32_14 c1_i32_16 k0_t2
  let c512_i32 : BitVec 32 := 512#32
  let v42 : BitVec 32 := Scalar.muli arg7 c512_i32
  let v43 : BitVec 32 := v42
  let v44 : Index := Scalar.indexCast v43
  let c0_45 : Index := 0#32
  ![0, 0, v44.toNat, 0]
def k0_off4 (k0_t2 : Fin k0_t2_loop.trips) : Fin 5 → Nat :=
  let c0_49 : Index := 0#32
  let c0_50 : Index := 0#32
  let c0_i32_14 : BitVec 32 := 0#32
  let c1_i32_16 : BitVec 32 := 1#32
  let arg7 : BitVec 32 := Scf.iv c0_i32_14 c1_i32_16 k0_t2
  let v60 : Index := Scalar.indexCast arg7
  let c0_51 : Index := 0#32
  let c0_52 : Index := 0#32
  ![0, 0, v60.toNat, 0, 0]
@[reducible] def k0_t3_loop : Scf.Loop 32 :=
  let c0_i32_25 : BitVec 32 := 0#32
  let c16_i32_26 : BitVec 32 := 16#32
  let v23 : BitVec 32 := Scalar.addi c0_i32_25 c16_i32_26
  let c1_i32_27 : BitVec 32 := 1#32
  ⟨c0_i32_25, v23, c1_i32_27⟩
def k0_mult3 (k0_t3 : Fin k0_t3_loop.trips) : BitVec 32 :=
  let c0_i32_25 : BitVec 32 := 0#32
  let c1_i32_27 : BitVec 32 := 1#32
  let arg7 : BitVec 32 := Scf.iv c0_i32_25 c1_i32_27 k0_t3
  let c512_i32 : BitVec 32 := 512#32
  let v42 : BitVec 32 := Scalar.muli arg7 c512_i32
  v42
def k0_off5 (k0_t3 : Fin k0_t3_loop.trips) : Fin 4 → Nat :=
  let c0_43 : Index := 0#32
  let c0_44 : Index := 0#32
  let c0_i32_25 : BitVec 32 := 0#32
  let c1_i32_27 : BitVec 32 := 1#32
  let arg7 : BitVec 32 := Scf.iv c0_i32_25 c1_i32_27 k0_t3
  let c512_i32 : BitVec 32 := 512#32
  let v42 : BitVec 32 := Scalar.muli arg7 c512_i32
  let v43 : BitVec 32 := v42
  let v44 : Index := Scalar.indexCast v43
  let c0_45 : Index := 0#32
  ![0, 0, v44.toNat, 0]
def k0_off6 (k0_t3 : Fin k0_t3_loop.trips) : Fin 5 → Nat :=
  let c0_49 : Index := 0#32
  let c0_50 : Index := 0#32
  let c0_i32_25 : BitVec 32 := 0#32
  let c1_i32_27 : BitVec 32 := 1#32
  let arg7 : BitVec 32 := Scf.iv c0_i32_25 c1_i32_27 k0_t3
  let v60 : Index := Scalar.indexCast arg7
  let c0_51 : Index := 0#32
  let c0_52 : Index := 0#32
  ![0, 0, v60.toNat, 0, 0]
@[reducible] def k0_t4_loop : Scf.Loop 32 :=
  let c0_i32_36 : BitVec 32 := 0#32
  let c16_i32_37 : BitVec 32 := 16#32
  let v32 : BitVec 32 := Scalar.addi c0_i32_36 c16_i32_37
  let c1_i32_38 : BitVec 32 := 1#32
  ⟨c0_i32_36, v32, c1_i32_38⟩
def k0_mult4 (k0_t4 : Fin k0_t4_loop.trips) : BitVec 32 :=
  let c0_i32_36 : BitVec 32 := 0#32
  let c1_i32_38 : BitVec 32 := 1#32
  let arg7 : BitVec 32 := Scf.iv c0_i32_36 c1_i32_38 k0_t4
  let c512_i32 : BitVec 32 := 512#32
  let v42 : BitVec 32 := Scalar.muli arg7 c512_i32
  v42
def k0_off7 (k0_t4 : Fin k0_t4_loop.trips) : Fin 4 → Nat :=
  let c0_43 : Index := 0#32
  let c0_44 : Index := 0#32
  let c0_i32_36 : BitVec 32 := 0#32
  let c1_i32_38 : BitVec 32 := 1#32
  let arg7 : BitVec 32 := Scf.iv c0_i32_36 c1_i32_38 k0_t4
  let c512_i32 : BitVec 32 := 512#32
  let v42 : BitVec 32 := Scalar.muli arg7 c512_i32
  let v43 : BitVec 32 := v42
  let v44 : Index := Scalar.indexCast v43
  let c0_45 : Index := 0#32
  ![0, 0, v44.toNat, 0]
def k0_off8 (k0_t4 : Fin k0_t4_loop.trips) : Fin 5 → Nat :=
  let c0_49 : Index := 0#32
  let c0_50 : Index := 0#32
  let c0_i32_36 : BitVec 32 := 0#32
  let c1_i32_38 : BitVec 32 := 1#32
  let arg7 : BitVec 32 := Scf.iv c0_i32_36 c1_i32_38 k0_t4
  let v60 : Index := Scalar.indexCast arg7
  let c0_51 : Index := 0#32
  let c0_52 : Index := 0#32
  ![0, 0, v60.toNat, 0, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
abbrev S4x8x16x64x512 : Shape := ⟨5, ![4, 8, 16, 64, 512]⟩
abbrev S4x2x8192x64 : Shape := ⟨4, ![4, 2, 8192, 64]⟩
abbrev S4x2x16x64x512 : Shape := ⟨5, ![4, 2, 16, 64, 512]⟩
abbrev S4x8192x512 : Shape := ⟨3, ![4, 8192, 512]⟩
abbrev S1x4x1x64x512 : Shape := ⟨5, ![1, 4, 1, 64, 512]⟩
abbrev S1x1x8192x64 : Shape := ⟨4, ![1, 1, 8192, 64]⟩
abbrev S1x1x16x64x512 : Shape := ⟨5, ![1, 1, 16, 64, 512]⟩
abbrev S1x512x256 : Shape := ⟨3, ![1, 512, 256]⟩
abbrev S1x1x1x64x512 : Shape := ⟨5, ![1, 1, 1, 64, 512]⟩
abbrev S64x512 : Shape := ⟨2, ![64, 512]⟩
abbrev S1x512 : Shape := ⟨2, ![1, 512]⟩
abbrev S1x1x512x64 : Shape := ⟨4, ![1, 1, 512, 64]⟩
abbrev S512x64 : Shape := ⟨2, ![512, 64]⟩
abbrev S512x512 : Shape := ⟨2, ![512, 512]⟩
abbrev S512 : Shape := ⟨1, ![512]⟩
abbrev S256x512 : Shape := ⟨2, ![256, 512]⟩
abbrev S512x256 : Shape := ⟨2, ![512, 256]⟩

abbrev nBuf : Space → Nat
  | .hbm => 4
  | .vmem => 8
  | .smem => 0
  | _ => 0

abbrev bufTy : (tb : Table) → Fin (tcTables nBuf tb) → BufTy
  | .hbm, ⟨0, _⟩ => ⟨S4x8x16x64x512, .bf16⟩
  | .hbm, ⟨1, _⟩ => ⟨S4x2x8192x64, .bf16⟩
  | .hbm, ⟨2, _⟩ => ⟨S4x2x16x64x512, .bf16⟩
  | .hbm, ⟨3, _⟩ => ⟨S4x8192x512, .bf16⟩
  | .local _ .vmem, ⟨0, _⟩ => ⟨S1x4x1x64x512, .bf16⟩
  | .local _ .vmem, ⟨1, _⟩ => ⟨S1x4x1x64x512, .bf16⟩
  | .local _ .vmem, ⟨2, _⟩ => ⟨S1x1x8192x64, .bf16⟩
  | .local _ .vmem, ⟨3, _⟩ => ⟨S1x1x8192x64, .bf16⟩
  | .local _ .vmem, ⟨4, _⟩ => ⟨S1x1x16x64x512, .bf16⟩
  | .local _ .vmem, ⟨5, _⟩ => ⟨S1x1x16x64x512, .bf16⟩
  | .local _ .vmem, ⟨6, _⟩ => ⟨S1x512x256, .bf16⟩
  | .local _ .vmem, ⟨7, _⟩ => ⟨S1x512x256, .bf16⟩
  | _, _ => ⟨S4x8x16x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 16], ![false, false, false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v42 : BitVec 32 := Scalar.muli arg7 c512_i32
  v42
def k0_off1 (k0_t1 : Fin k0_t1_loop.trips) : Fin 4 → Nat :=
  let c0_43 : Index := 0#32
  let c0_44 : Index := 0#32
  let c0_i32 : BitVec 32 := 0#32
  let c1_i32 : BitVec 32 := 1#32
  let arg7 : BitVec 32 := Scf.iv c0_i32 c1_i32 k0_t1
  let c512_i32 : BitVec 32 := 512#32
  let v42 : BitVec 32 := Scalar.muli arg7 c512_i32
  let v43 : BitVec 32 := v42
  let v44 : Index := Scalar.indexCast v43
  let c0_45 : Index := 0#32
  ![0, 0, v44.toNat, 0]
def k0_off2 (k0_t1 : Fin k0_t1_loop.trips) : Fin 5 → Nat :=
  let c0_49 : Index := 0#32
  let c0_50 : Index := 0#32
  let c0_i32 : BitVec 32 := 0#32
  let c1_i32 : BitVec 32 := 1#32
  let arg7 : BitVec 32 := Scf.iv c0_i32 c1_i32 k0_t1
  let v60 : Index := Scalar.indexCast arg7
  let c0_51 : Index := 0#32
  let c0_52 : Index := 0#32
  ![0, 0, v60.toNat, 0, 0]
@[reducible] def k0_t2_loop : Scf.Loop 32 :=
  let c0_i32_14 : BitVec 32 := 0#32
  let c16_i32_15 : BitVec 32 := 16#32
  let v14 : BitVec 32 := Scalar.addi c0_i32_14 c16_i32_15
  let c1_i32_16 : BitVec 32 := 1#32
  ⟨c0_i32_14, v14, c1_i32_16⟩
def k0_mult2 (k0_t2 : Fin k0_t2_loop.trips) : BitVec 32 :=
  let c0_i32_14 : BitVec 32 := 0#32
  let c1_i32_16 : BitVec 32 := 1#32
  let arg7 : BitVec 32 := Scf.iv c0_i32_14 c1_i32_16 k0_t2
  let c512_i32 : BitVec 32 := 512#32
  let v42 : BitVec 32 := Scalar.muli arg7 c512_i32
  v42
def k0_off3 (k0_t2 : Fin k0_t2_loop.trips) : Fin 4 → Nat :=
  let c0_43 : Index := 0#32
  let c0_44 : Index := 0#32
  let c0_i32_14 : BitVec 32 := 0#32
  let c1_i32_16 : BitVec 32 := 1#32
  let arg7 : BitVec 32 := Scf.iv c0_i32_14 c1_i32_16 k0_t2
  let c512_i32 : BitVec 32 := 512#32
  let v42 : BitVec 32 := Scalar.muli arg7 c512_i32
  let v43 : BitVec 32 := v42
  let v44 : Index := Scalar.indexCast v43
  let c0_45 : Index := 0#32
  ![0, 0, v44.toNat, 0]
def k0_off4 (k0_t2 : Fin k0_t2_loop.trips) : Fin 5 → Nat :=
  let c0_49 : Index := 0#32
  let c0_50 : Index := 0#32
  let c0_i32_14 : BitVec 32 := 0#32
  let c1_i32_16 : BitVec 32 := 1#32
  let arg7 : BitVec 32 := Scf.iv c0_i32_14 c1_i32_16 k0_t2
  let v60 : Index := Scalar.indexCast arg7
  let c0_51 : Index := 0#32
  let c0_52 : Index := 0#32
  ![0, 0, v60.toNat, 0, 0]
@[reducible] def k0_t3_loop : Scf.Loop 32 :=
  let c0_i32_25 : BitVec 32 := 0#32
  let c16_i32_26 : BitVec 32 := 16#32
  let v23 : BitVec 32 := Scalar.addi c0_i32_25 c16_i32_26
  let c1_i32_27 : BitVec 32 := 1#32
  ⟨c0_i32_25, v23, c1_i32_27⟩
def k0_mult3 (k0_t3 : Fin k0_t3_loop.trips) : BitVec 32 :=
  let c0_i32_25 : BitVec 32 := 0#32
  let c1_i32_27 : BitVec 32 := 1#32
  let arg7 : BitVec 32 := Scf.iv c0_i32_25 c1_i32_27 k0_t3
  let c512_i32 : BitVec 32 := 512#32
  let v42 : BitVec 32 := Scalar.muli arg7 c512_i32
  v42
def k0_off5 (k0_t3 : Fin k0_t3_loop.trips) : Fin 4 → Nat :=
  let c0_43 : Index := 0#32
  let c0_44 : Index := 0#32
  let c0_i32_25 : BitVec 32 := 0#32
  let c1_i32_27 : BitVec 32 := 1#32
  let arg7 : BitVec 32 := Scf.iv c0_i32_25 c1_i32_27 k0_t3
  let c512_i32 : BitVec 32 := 512#32
  let v42 : BitVec 32 := Scalar.muli arg7 c512_i32
  let v43 : BitVec 32 := v42
  let v44 : Index := Scalar.indexCast v43
  let c0_45 : Index := 0#32
  ![0, 0, v44.toNat, 0]
def k0_off6 (k0_t3 : Fin k0_t3_loop.trips) : Fin 5 → Nat :=
  let c0_49 : Index := 0#32
  let c0_50 : Index := 0#32
  let c0_i32_25 : BitVec 32 := 0#32
  let c1_i32_27 : BitVec 32 := 1#32
  let arg7 : BitVec 32 := Scf.iv c0_i32_25 c1_i32_27 k0_t3
  let v60 : Index := Scalar.indexCast arg7
  let c0_51 : Index := 0#32
  let c0_52 : Index := 0#32
  ![0, 0, v60.toNat, 0, 0]
@[reducible] def k0_t4_loop : Scf.Loop 32 :=
  let c0_i32_36 : BitVec 32 := 0#32
  let c16_i32_37 : BitVec 32 := 16#32
  let v32 : BitVec 32 := Scalar.addi c0_i32_36 c16_i32_37
  let c1_i32_38 : BitVec 32 := 1#32
  ⟨c0_i32_36, v32, c1_i32_38⟩
def k0_mult4 (k0_t4 : Fin k0_t4_loop.trips) : BitVec 32 :=
  let c0_i32_36 : BitVec 32 := 0#32
  let c1_i32_38 : BitVec 32 := 1#32
  let arg7 : BitVec 32 := Scf.iv c0_i32_36 c1_i32_38 k0_t4
  let c512_i32 : BitVec 32 := 512#32
  let v42 : BitVec 32 := Scalar.muli arg7 c512_i32
  v42
def k0_off7 (k0_t4 : Fin k0_t4_loop.trips) : Fin 4 → Nat :=
  let c0_43 : Index := 0#32
  let c0_44 : Index := 0#32
  let c0_i32_36 : BitVec 32 := 0#32
  let c1_i32_38 : BitVec 32 := 1#32
  let arg7 : BitVec 32 := Scf.iv c0_i32_36 c1_i32_38 k0_t4
  let c512_i32 : BitVec 32 := 512#32
  let v42 : BitVec 32 := Scalar.muli arg7 c512_i32
  let v43 : BitVec 32 := v42
  let v44 : Index := Scalar.indexCast v43
  let c0_45 : Index := 0#32
  ![0, 0, v44.toNat, 0]
def k0_off8 (k0_t4 : Fin k0_t4_loop.trips) : Fin 5 → Nat :=
  let c0_49 : Index := 0#32
  let c0_50 : Index := 0#32
  let c0_i32_36 : BitVec 32 := 0#32
  let c1_i32_38 : BitVec 32 := 1#32
  let arg7 : BitVec 32 := Scf.iv c0_i32_36 c1_i32_38 k0_t4
  let v60 : Index := Scalar.indexCast arg7
  let c0_51 : Index := 0#32
  let c0_52 : Index := 0#32
  ![0, 0, v60.toNat, 0, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x8x16x64x512 : Shape := ⟨5, ![4, 8, 16, 64, 512]⟩
abbrev S4x2x8192x64 : Shape := ⟨4, ![4, 2, 8192, 64]⟩
abbrev S4x2x16x64x512 : Shape := ⟨5, ![4, 2, 16, 64, 512]⟩
abbrev S4x16x512x8x64 : Shape := ⟨5, ![4, 16, 512, 8, 64]⟩
abbrev S4x8192x2x4x64 : Shape := ⟨5, ![4, 8192, 2, 4, 64]⟩
abbrev S4x2x16x512x64 : Shape := ⟨5, ![4, 2, 16, 512, 64]⟩
abbrev S4x2x8192x8192x4 : Shape := ⟨5, ![4, 2, 8192, 8192, 4]⟩
abbrev S4x2x4x8192x8192 : Shape := ⟨5, ![4, 2, 4, 8192, 8192]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x2x64x4x8192 : Shape := ⟨5, ![4, 2, 64, 4, 8192]⟩
abbrev S4x8192x512 : Shape := ⟨3, ![4, 8192, 512]⟩

abbrev nBuf : Space → Nat
  | .hbm => 34
  | .vmem => 0
  | .smem => 0
  | _ => 0

abbrev bufTy : (tb : Table) → Fin (tcTables nBuf tb) → BufTy
  | .hbm, ⟨0, _⟩ => ⟨S4x8x16x64x512, .bf16⟩
  | .hbm, ⟨1, _⟩ => ⟨S4x2x8192x64, .bf16⟩
  | .hbm, ⟨2, _⟩ => ⟨S4x2x16x64x512, .bf16⟩
  | .hbm, ⟨3, _⟩ => ⟨S4x8x16x64x512, .f32⟩
  | .hbm, ⟨4, _⟩ => ⟨S4x16x512x8x64, .f32⟩
  | .hbm, ⟨5, _⟩ => ⟨S4x8192x2x4x64, .f32⟩
  | .hbm, ⟨6, _⟩ => ⟨S4x2x8192x64, .f32⟩
  | .hbm, ⟨7, _⟩ => ⟨S4x2x16x64x512, .f32⟩
  | .hbm, ⟨8, _⟩ => ⟨S4x2x16x512x64, .f32⟩
  | .hbm, ⟨9, _⟩ => ⟨S4x2x8192x64, .f32⟩
  | .hbm, ⟨10, _⟩ => ⟨S4x2x8192x8192x4, .f32⟩
  | .hbm, ⟨11, _⟩ => ⟨S4x2x4x8192x8192, .f32⟩
  | .hbm, ⟨12, _⟩ => ⟨S_, .f32⟩
  | .hbm, ⟨13, _⟩ => ⟨S_, .f32⟩
  | .hbm, ⟨14, _⟩ => ⟨S4x2x4x8192x8192, .f32⟩
  | .hbm, ⟨15, _⟩ => ⟨S4x2x4x8192x8192, .f32⟩
  | .hbm, ⟨16, _⟩ => ⟨S_, .f32⟩
  | .hbm, ⟨17, _⟩ => ⟨S4x2x4x8192, .f32⟩
  | .hbm, ⟨18, _⟩ => ⟨S_, .f32⟩
  | .hbm, ⟨19, _⟩ => ⟨S4x2x4x8192, .f32⟩
  | .hbm, ⟨20, _⟩ => ⟨S4x2x4x8192, .f32⟩
  | .hbm, ⟨21, _⟩ => ⟨S4x2x4x8192x1, .f32⟩
  | .hbm, ⟨22, _⟩ => ⟨S4x2x4x8192x8192, .f32⟩
  | .hbm, ⟨23, _⟩ => ⟨S4x2x4x8192x8192, .f32⟩
  | .hbm, ⟨24, _⟩ => ⟨S4x2x4x8192x8192, .f32⟩
  | .hbm, ⟨25, _⟩ => ⟨S_, .f32⟩
  | .hbm, ⟨26, _⟩ => ⟨S4x2x4x8192, .f32⟩
  | .hbm, ⟨27, _⟩ => ⟨S4x2x4x8192x1, .f32⟩
  | .hbm, ⟨28, _⟩ => ⟨S4x2x4x8192x8192, .f32⟩
  | .hbm, ⟨29, _⟩ => ⟨S4x2x4x8192x8192, .f32⟩
  | .hbm, ⟨30, _⟩ => ⟨S4x2x64x4x8192, .f32⟩
  | .hbm, ⟨31, _⟩ => ⟨S4x8192x2x4x64, .f32⟩
  | .hbm, ⟨32, _⟩ => ⟨S4x8192x512, .f32⟩
  | .hbm, ⟨33, _⟩ => ⟨S4x8192x512, .bf16⟩
  | _, _ => ⟨S4x8x16x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Tail.lean ====
abbrev S4x8192x1024 : Shape := ⟨3, ![4, 8192, 1024]⟩
abbrev S4x8192x512 : Shape := ⟨3, ![4, 8192, 512]⟩
abbrev S31x512 : Shape := ⟨2, ![31, 512]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S4x32768x128 : Shape := ⟨3, ![4, 32768, 128]⟩
abbrev S1x512x1024 : Shape := ⟨3, ![1, 512, 1024]⟩
abbrev S1x512x512 : Shape := ⟨3, ![1, 512, 512]⟩
abbrev S1x2048x128 : Shape := ⟨3, ![1, 2048, 128]⟩
abbrev S1x64x128 : Shape := ⟨3, ![1, 64, 128]⟩
abbrev S2176x128 : Shape := ⟨2, ![2176, 128]⟩
abbrev S512x512 : Shape := ⟨2, ![512, 512]⟩
abbrev S64x128 : Shape := ⟨2, ![64, 128]⟩
abbrev S2048x128 : Shape := ⟨2, ![2048, 128]⟩
abbrev S1x128 : Shape := ⟨2, ![1, 128]⟩
abbrev S8x128 : Shape := ⟨2, ![8, 128]⟩
abbrev S128x128 : Shape := ⟨2, ![128, 128]⟩
abbrev S512 : Shape := ⟨1, ![512]⟩
abbrev S512x1 : Shape := ⟨2, ![512, 1]⟩
abbrev S512x1024 : Shape := ⟨2, ![512, 1024]⟩

abbrev nBuf : Space → Nat
  | .hbm => 14
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .f32⟩
  | .hbm, ⟨3, _⟩ => ⟨S31x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1024x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S4x32768x128, .f32⟩
  | .hbm, ⟨13, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x2048x128, .f32⟩
  | .local _ .vmem, ⟨5, _⟩ => ⟨S1x2048x128, .f32⟩
  | .local _ .vmem, ⟨6, _⟩ => ⟨S1x64x128, .f32⟩
  | .local _ .vmem, ⟨7, _⟩ => ⟨S1x64x128, .f32⟩
  | .local _ .vmem, ⟨8, _⟩ => ⟨S1x64x128, .f32⟩
  | .local _ .vmem, ⟨9, _⟩ => ⟨S1x64x128, .f32⟩
  | .local _ .vmem, ⟨10, _⟩ => ⟨S31x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | .local _ .vmem, ⟨21, _⟩ => ⟨S2176x128, .f32⟩
  | .local _ .vmem, ⟨22, _⟩ => ⟨S512x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_46 : BitVec 32 := 0#32
  let c4_i32 : BitVec 32 := 4#32
  let v121 : BitVec 32 := Scalar.addi c0_i32_46 c4_i32
  let c1_i32 : BitVec 32 := 1#32
  ⟨c0_i32_46, v121, c1_i32⟩
def k0_mult1 (k0_t1 : Fin k0_t1_loop.trips) : BitVec 32 :=
  let c0_i32_46 : BitVec 32 := 0#32
  let c1_i32 : BitVec 32 := 1#32
  let arg19 : BitVec 32 := Scf.iv c0_i32_46 c1_i32 k0_t1
  let c128_i32 : BitVec 32 := 128#32
  let v523 : BitVec 32 := Scalar.muli arg19 c128_i32
  v523
def k0_off1 (k0_t1 : Fin k0_t1_loop.trips) (c0_i32_312 : BitVec 32) : Fin 2 → Nat :=
  let c0_i32_46 : BitVec 32 := 0#32
  let c1_i32 : BitVec 32 := 1#32
  let arg19 : BitVec 32 := Scf.iv c0_i32_46 c1_i32 k0_t1
  let c128_i32 : BitVec 32 := 128#32
  let v523 : BitVec 32 := Scalar.muli arg19 c128_i32
  let v524 : BitVec 32 := v523
  let v525 : BitVec 32 := Scalar.addi v524 c0_i32_312
  let c16_i32 : BitVec 32 := 16#32
  let v526 : BitVec 32 := Scalar.addi v525 c16_i32
  let c15_i32_313 : BitVec 32 := 15#32
  let v527 : BitVec 32 := Scalar.subi v526 c15_i32_313
  let c4_i32_314 : BitVec 32 := 4#32
  let v528 : BitVec 32 := Scalar.muli v527 c4_i32_314
  let c0_i32_315 : BitVec 32 := 0#32
  let v529 : BitVec 32 := Scalar.addi v528 c0_i32_315
  let v530 : Index := Scalar.indexCast v529
  let c0_316 : Index := 0#32
  ![v530.toNat, 0]
def k0_off2 (k0_t1 : Fin k0_t1_loop.trips) : Fin 2 → Nat :=
  let c0_i32_46 : BitVec 32 := 0#32
  let c1_i32 : BitVec 32 := 1#32
  let arg19 : BitVec 32 := Scf.iv c0_i32_46 c1_i32 k0_t1
  let c128_i32 : BitVec 32 := 128#32
  let v523 : BitVec 32 := Scalar.muli arg19 c128_i32
  let v524 : BitVec 32 := v523
  let v2575 : Index := Scalar.indexCast v524
  let c0_1072 : Index := 0#32
  ![v2575.toNat, 0]
@[reducible] def k0_t2_loop : Scf.Loop 32 :=
  let c0_i32_111 : BitVec 32 := 0#32
  let c4_i32_112 : BitVec 32 := 4#32
  let v218 : BitVec 32 := Scalar.addi c0_i32_111 c4_i32_112
  let c1_i32_113 : BitVec 32 := 1#32
  ⟨c0_i32_111, v218, c1_i32_113⟩
def k0_mult2 (k0_t2 : Fin k0_t2_loop.trips) : BitVec 32 :=
  let c0_i32_111 : BitVec 32 := 0#32
  let c1_i32_113 : BitVec 32 := 1#32
  let arg19 : BitVec 32 := Scf.iv c0_i32_111 c1_i32_113 k0_t2
  let c128_i32 : BitVec 32 := 128#32
  let v523 : BitVec 32 := Scalar.muli arg19 c128_i32
  v523
def k0_off3 (k0_t2 : Fin k0_t2_loop.trips) (c0_i32_312 : BitVec 32) : Fin 2 → Nat :=
  let c0_i32_111 : BitVec 32 := 0#32
  let c1_i32_113 : BitVec 32 := 1#32
  let arg19 : BitVec 32 := Scf.iv c0_i32_111 c1_i32_113 k0_t2
  let c128_i32 : BitVec 32 := 128#32
  let v523 : BitVec 32 := Scalar.muli arg19 c128_i32
  let v524 : BitVec 32 := v523
  let v525 : BitVec 32 := Scalar.addi v524 c0_i32_312
  let c16_i32 : BitVec 32 := 16#32
  let v526 : BitVec 32 := Scalar.addi v525 c16_i32
  let c15_i32_313 : BitVec 32 := 15#32
  let v527 : BitVec 32 := Scalar.subi v526 c15_i32_313
  let c4_i32_314 : BitVec 32 := 4#32
  let v528 : BitVec 32 := Scalar.muli v527 c4_i32_314
  let c1_i32_315 : BitVec 32 := 1#32
  let v529 : BitVec 32 := Scalar.addi v528 c1_i32_315
  let v530 : Index := Scalar.indexCast v529
  let c0_316 : Index := 0#32
  ![v530.toNat, 0]
def k0_off4 (k0_t2 : Fin k0_t2_loop.trips) : Fin 2 → Nat :=
  let c0_i32_111 : BitVec 32 := 0#32
  let c1_i32_113 : BitVec 32 := 1#32
  let arg19 : BitVec 32 := Scf.iv c0_i32_111 c1_i32_113 k0_t2
  let c128_i32 : BitVec 32 := 128#32
  let v523 : BitVec 32 := Scalar.muli arg19 c128_i32
  let v524 : BitVec 32 := v523
  let v2575 : Index := Scalar.indexCast v524
  let c128_1072 : Index := 128#32
  ![v2575.toNat, 128]
@[reducible] def k0_t3_loop : Scf.Loop 32 :=
  let c0_i32_178 : BitVec 32 := 0#32
  let c4_i32_179 : BitVec 32 := 4#32
  let v315 : BitVec 32 := Scalar.addi c0_i32_178 c4_i32_179
  let c1_i32_180 : BitVec 32 := 1#32
  ⟨c0_i32_178, v315, c1_i32_180⟩
def k0_mult3 (k0_t3 : Fin k0_t3_loop.trips) : BitVec 32 :=
  let c0_i32_178 : BitVec 32 := 0#32
  let c1_i32_180 : BitVec 32 := 1#32
  let arg19 : BitVec 32 := Scf.iv c0_i32_178 c1_i32_180 k0_t3
  let c128_i32 : BitVec 32 := 128#32
  let v523 : BitVec 32 := Scalar.muli arg19 c128_i32
  v523
def k0_off5 (k0_t3 : Fin k0_t3_loop.trips) (c0_i32_312 : BitVec 32) : Fin 2 → Nat :=
  let c0_i32_178 : BitVec 32 := 0#32
  let c1_i32_180 : BitVec 32 := 1#32
  let arg19 : BitVec 32 := Scf.iv c0_i32_178 c1_i32_180 k0_t3
  let c128_i32 : BitVec 32 := 128#32
  let v523 : BitVec 32 := Scalar.muli arg19 c128_i32
  let v524 : BitVec 32 := v523
  let v525 : BitVec 32 := Scalar.addi v524 c0_i32_312
  let c16_i32 : BitVec 32 := 16#32
  let v526 : BitVec 32 := Scalar.addi v525 c16_i32
  let c15_i32_313 : BitVec 32 := 15#32
  let v527 : BitVec 32 := Scalar.subi v526 c15_i32_313
  let c4_i32_314 : BitVec 32 := 4#32
  let v528 : BitVec 32 := Scalar.muli v527 c4_i32_314
  let c2_i32 : BitVec 32 := 2#32
  let v529 : BitVec 32 := Scalar.addi v528 c2_i32
  let v530 : Index := Scalar.indexCast v529
  let c0_315 : Index := 0#32
  ![v530.toNat, 0]
def k0_off6 (k0_t3 : Fin k0_t3_loop.trips) : Fin 2 → Nat :=
  let c0_i32_178 : BitVec 32 := 0#32
  let c1_i32_180 : BitVec 32 := 1#32
  let arg19 : BitVec 32 := Scf.iv c0_i32_178 c1_i32_180 k0_t3
  let c128_i32 : BitVec 32 := 128#32
  let v523 : BitVec 32 := Scalar.muli arg19 c128_i32
  let v524 : BitVec 32 := v523
  let v2575 : Index := Scalar.indexCast v524
  let c256_1072 : Index := 256#32
  ![v2575.toNat, 256]
@[reducible] def k0_t4_loop : Scf.Loop 32 :=
  let c0_i32_245 : BitVec 32 := 0#32
  let c4_i32_246 : BitVec 32 := 4#32
  let v412 : BitVec 32 := Scalar.addi c0_i32_245 c4_i32_246
  let c1_i32_247 : BitVec 32 := 1#32
  ⟨c0_i32_245, v412, c1_i32_247⟩
def k0_mult4 (k0_t4 : Fin k0_t4_loop.trips) : BitVec 32 :=
  let c0_i32_245 : BitVec 32 := 0#32
  let c1_i32_247 : BitVec 32 := 1#32
  let arg19 : BitVec 32 := Scf.iv c0_i32_245 c1_i32_247 k0_t4
  let c128_i32 : BitVec 32 := 128#32
  let v523 : BitVec 32 := Scalar.muli arg19 c128_i32
  v523
def k0_off7 (k0_t4 : Fin k0_t4_loop.trips) (c0_i32_312 : BitVec 32) : Fin 2 → Nat :=
  let c0_i32_245 : BitVec 32 := 0#32
  let c1_i32_247 : BitVec 32 := 1#32
  let arg19 : BitVec 32 := Scf.iv c0_i32_245 c1_i32_247 k0_t4
  let c128_i32 : BitVec 32 := 128#32
  let v523 : BitVec 32 := Scalar.muli arg19 c128_i32
  let v524 : BitVec 32 := v523
  let v525 : BitVec 32 := Scalar.addi v524 c0_i32_312
  let c16_i32 : BitVec 32 := 16#32
  let v526 : BitVec 32 := Scalar.addi v525 c16_i32
  let c15_i32_313 : BitVec 32 := 15#32
  let v527 : BitVec 32 := Scalar.subi v526 c15_i32_313
  let c4_i32_314 : BitVec 32 := 4#32
  let v528 : BitVec 32 := Scalar.muli v527 c4_i32_314
  let c3_i32 : BitVec 32 := 3#32
  let v529 : BitVec 32 := Scalar.addi v528 c3_i32
  let v530 : Index := Scalar.indexCast v529
  let c0_315 : Index := 0#32
  ![v530.toNat, 0]
def k0_off8 (k0_t4 : Fin k0_t4_loop.trips) : Fin 2 → Nat :=
  let c0_i32_245 : BitVec 32 := 0#32
  let c1_i32_247 : BitVec 32 := 1#32
  let arg19 : BitVec 32 := Scf.iv c0_i32_245 c1_i32_247 k0_t4
  let c128_i32 : BitVec 32 := 128#32
  let v523 : BitVec 32 := Scalar.muli arg19 c128_i32
  let v524 : BitVec 32 := v523
  let v2575 : Index := Scalar.indexCast v524
  let c384_1072 : Index := 384#32
  ![v2575.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== TailIdeal.lean ====
abbrev S4x8192x1024 : Shape := ⟨3, ![4, 8192, 1024]⟩
abbrev S4x8192x512 : Shape := ⟨3, ![4, 8192, 512]⟩
abbrev S31x512 : Shape := ⟨2, ![31, 512]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S4x32768x128 : Shape := ⟨3, ![4, 32768, 128]⟩
abbrev S1x512x1024 : Shape := ⟨3, ![1, 512, 1024]⟩
abbrev S1x512x512 : Shape := ⟨3, ![1, 512, 512]⟩
abbrev S1x2048x128 : Shape := ⟨3, ![1, 2048, 128]⟩
abbrev S1x64x128 : Shape := ⟨3, ![1, 64, 128]⟩
abbrev S2176x128 : Shape := ⟨2, ![2176, 128]⟩
abbrev S512x512 : Shape := ⟨2, ![512, 512]⟩
abbrev S64x128 : Shape := ⟨2, ![64, 128]⟩
abbrev S2048x128 : Shape := ⟨2, ![2048, 128]⟩
abbrev S1x128 : Shape := ⟨2, ![1, 128]⟩
abbrev S8x128 : Shape := ⟨2, ![8, 128]⟩
abbrev S128x128 : Shape := ⟨2, ![128, 128]⟩
abbrev S512 : Shape := ⟨1, ![512]⟩
abbrev S512x1 : Shape := ⟨2, ![512, 1]⟩
abbrev S512x1024 : Shape := ⟨2, ![512, 1024]⟩

abbrev nBuf : Space → Nat
  | .hbm => 14
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .f32⟩
  | .hbm, ⟨3, _⟩ => ⟨S31x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1024x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S4x32768x128, .f32⟩
  | .hbm, ⟨13, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x2048x128, .f32⟩
  | .local _ .vmem, ⟨5, _⟩ => ⟨S1x2048x128, .f32⟩
  | .local _ .vmem, ⟨6, _⟩ => ⟨S1x64x128, .f32⟩
  | .local _ .vmem, ⟨7, _⟩ => ⟨S1x64x128, .f32⟩
  | .local _ .vmem, ⟨8, _⟩ => ⟨S1x64x128, .f32⟩
  | .local _ .vmem, ⟨9, _⟩ => ⟨S1x64x128, .f32⟩
  | .local _ .vmem, ⟨10, _⟩ => ⟨S31x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | .local _ .vmem, ⟨21, _⟩ => ⟨S2176x128, .f32⟩
  | .local _ .vmem, ⟨22, _⟩ => ⟨S512x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_46 : BitVec 32 := 0#32
  let c4_i32 : BitVec 32 := 4#32
  let v121 : BitVec 32 := Scalar.addi c0_i32_46 c4_i32
  let c1_i32 : BitVec 32 := 1#32
  ⟨c0_i32_46, v121, c1_i32⟩
def k0_mult1 (k0_t1 : Fin k0_t1_loop.trips) : BitVec 32 :=
  let c0_i32_46 : BitVec 32 := 0#32
  let c1_i32 : BitVec 32 := 1#32
  let arg19 : BitVec 32 := Scf.iv c0_i32_46 c1_i32 k0_t1
  let c128_i32 : BitVec 32 := 128#32
  let v523 : BitVec 32 := Scalar.muli arg19 c128_i32
  v523
def k0_off1 (k0_t1 : Fin k0_t1_loop.trips) (c0_i32_312 : BitVec 32) : Fin 2 → Nat :=
  let c0_i32_46 : BitVec 32 := 0#32
  let c1_i32 : BitVec 32 := 1#32
  let arg19 : BitVec 32 := Scf.iv c0_i32_46 c1_i32 k0_t1
  let c128_i32 : BitVec 32 := 128#32
  let v523 : BitVec 32 := Scalar.muli arg19 c128_i32
  let v524 : BitVec 32 := v523
  let v525 : BitVec 32 := Scalar.addi v524 c0_i32_312
  let c16_i32 : BitVec 32 := 16#32
  let v526 : BitVec 32 := Scalar.addi v525 c16_i32
  let c15_i32_313 : BitVec 32 := 15#32
  let v527 : BitVec 32 := Scalar.subi v526 c15_i32_313
  let c4_i32_314 : BitVec 32 := 4#32
  let v528 : BitVec 32 := Scalar.muli v527 c4_i32_314
  let c0_i32_315 : BitVec 32 := 0#32
  let v529 : BitVec 32 := Scalar.addi v528 c0_i32_315
  let v530 : Index := Scalar.indexCast v529
  let c0_316 : Index := 0#32
  ![v530.toNat, 0]
def k0_off2 (k0_t1 : Fin k0_t1_loop.trips) : Fin 2 → Nat :=
  let c0_i32_46 : BitVec 32 := 0#32
  let c1_i32 : BitVec 32 := 1#32
  let arg19 : BitVec 32 := Scf.iv c0_i32_46 c1_i32 k0_t1
  let c128_i32 : BitVec 32 := 128#32
  let v523 : BitVec 32 := Scalar.muli arg19 c128_i32
  let v524 : BitVec 32 := v523
  let v2575 : Index := Scalar.indexCast v524
  let c0_1072 : Index := 0#32
  ![v2575.toNat, 0]
@[reducible] def k0_t2_loop : Scf.Loop 32 :=
  let c0_i32_111 : BitVec 32 := 0#32
  let c4_i32_112 : BitVec 32 := 4#32
  let v218 : BitVec 32 := Scalar.addi c0_i32_111 c4_i32_112
  let c1_i32_113 : BitVec 32 := 1#32
  ⟨c0_i32_111, v218, c1_i32_113⟩
def k0_mult2 (k0_t2 : Fin k0_t2_loop.trips) : BitVec 32 :=
  let c0_i32_111 : BitVec 32 := 0#32
  let c1_i32_113 : BitVec 32 := 1#32
  let arg19 : BitVec 32 := Scf.iv c0_i32_111 c1_i32_113 k0_t2
  let c128_i32 : BitVec 32 := 128#32
  let v523 : BitVec 32 := Scalar.muli arg19 c128_i32
  v523
def k0_off3 (k0_t2 : Fin k0_t2_loop.trips) (c0_i32_312 : BitVec 32) : Fin 2 → Nat :=
  let c0_i32_111 : BitVec 32 := 0#32
  let c1_i32_113 : BitVec 32 := 1#32
  let arg19 : BitVec 32 := Scf.iv c0_i32_111 c1_i32_113 k0_t2
  let c128_i32 : BitVec 32 := 128#32
  let v523 : BitVec 32 := Scalar.muli arg19 c128_i32
  let v524 : BitVec 32 := v523
  let v525 : BitVec 32 := Scalar.addi v524 c0_i32_312
  let c16_i32 : BitVec 32 := 16#32
  let v526 : BitVec 32 := Scalar.addi v525 c16_i32
  let c15_i32_313 : BitVec 32 := 15#32
  let v527 : BitVec 32 := Scalar.subi v526 c15_i32_313
  let c4_i32_314 : BitVec 32 := 4#32
  let v528 : BitVec 32 := Scalar.muli v527 c4_i32_314
  let c1_i32_315 : BitVec 32 := 1#32
  let v529 : BitVec 32 := Scalar.addi v528 c1_i32_315
  let v530 : Index := Scalar.indexCast v529
  let c0_316 : Index := 0#32
  ![v530.toNat, 0]
def k0_off4 (k0_t2 : Fin k0_t2_loop.trips) : Fin 2 → Nat :=
  let c0_i32_111 : BitVec 32 := 0#32
  let c1_i32_113 : BitVec 32 := 1#32
  let arg19 : BitVec 32 := Scf.iv c0_i32_111 c1_i32_113 k0_t2
  let c128_i32 : BitVec 32 := 128#32
  let v523 : BitVec 32 := Scalar.muli arg19 c128_i32
  let v524 : BitVec 32 := v523
  let v2575 : Index := Scalar.indexCast v524
  let c128_1072 : Index := 128#32
  ![v2575.toNat, 128]
@[reducible] def k0_t3_loop : Scf.Loop 32 :=
  let c0_i32_178 : BitVec 32 := 0#32
  let c4_i32_179 : BitVec 32 := 4#32
  let v315 : BitVec 32 := Scalar.addi c0_i32_178 c4_i32_179
  let c1_i32_180 : BitVec 32 := 1#32
  ⟨c0_i32_178, v315, c1_i32_180⟩
def k0_mult3 (k0_t3 : Fin k0_t3_loop.trips) : BitVec 32 :=
  let c0_i32_178 : BitVec 32 := 0#32
  let c1_i32_180 : BitVec 32 := 1#32
  let arg19 : BitVec 32 := Scf.iv c0_i32_178 c1_i32_180 k0_t3
  let c128_i32 : BitVec 32 := 128#32
  let v523 : BitVec 32 := Scalar.muli arg19 c128_i32
  v523
def k0_off5 (k0_t3 : Fin k0_t3_loop.trips) (c0_i32_312 : BitVec 32) : Fin 2 → Nat :=
  let c0_i32_178 : BitVec 32 := 0#32
  let c1_i32_180 : BitVec 32 := 1#32
  let arg19 : BitVec 32 := Scf.iv c0_i32_178 c1_i32_180 k0_t3
  let c128_i32 : BitVec 32 := 128#32
  let v523 : BitVec 32 := Scalar.muli arg19 c128_i32
  let v524 : BitVec 32 := v523
  let v525 : BitVec 32 := Scalar.addi v524 c0_i32_312
  let c16_i32 : BitVec 32 := 16#32
  let v526 : BitVec 32 := Scalar.addi v525 c16_i32
  let c15_i32_313 : BitVec 32 := 15#32
  let v527 : BitVec 32 := Scalar.subi v526 c15_i32_313
  let c4_i32_314 : BitVec 32 := 4#32
  let v528 : BitVec 32 := Scalar.muli v527 c4_i32_314
  let c2_i32 : BitVec 32 := 2#32
  let v529 : BitVec 32 := Scalar.addi v528 c2_i32
  let v530 : Index := Scalar.indexCast v529
  let c0_315 : Index := 0#32
  ![v530.toNat, 0]
def k0_off6 (k0_t3 : Fin k0_t3_loop.trips) : Fin 2 → Nat :=
  let c0_i32_178 : BitVec 32 := 0#32
  let c1_i32_180 : BitVec 32 := 1#32
  let arg19 : BitVec 32 := Scf.iv c0_i32_178 c1_i32_180 k0_t3
  let c128_i32 : BitVec 32 := 128#32
  let v523 : BitVec 32 := Scalar.muli arg19 c128_i32
  let v524 : BitVec 32 := v523
  let v2575 : Index := Scalar.indexCast v524
  let c256_1072 : Index := 256#32
  ![v2575.toNat, 256]
@[reducible] def k0_t4_loop : Scf.Loop 32 :=
  let c0_i32_245 : BitVec 32 := 0#32
  let c4_i32_246 : BitVec 32 := 4#32
  let v412 : BitVec 32 := Scalar.addi c0_i32_245 c4_i32_246
  let c1_i32_247 : BitVec 32 := 1#32
  ⟨c0_i32_245, v412, c1_i32_247⟩
def k0_mult4 (k0_t4 : Fin k0_t4_loop.trips) : BitVec 32 :=
  let c0_i32_245 : BitVec 32 := 0#32
  let c1_i32_247 : BitVec 32 := 1#32
  let arg19 : BitVec 32 := Scf.iv c0_i32_245 c1_i32_247 k0_t4
  let c128_i32 : BitVec 32 := 128#32
  let v523 : BitVec 32 := Scalar.muli arg19 c128_i32
  v523
def k0_off7 (k0_t4 : Fin k0_t4_loop.trips) (c0_i32_312 : BitVec 32) : Fin 2 → Nat :=
  let c0_i32_245 : BitVec 32 := 0#32
  let c1_i32_247 : BitVec 32 := 1#32
  let arg19 : BitVec 32 := Scf.iv c0_i32_245 c1_i32_247 k0_t4
  let c128_i32 : BitVec 32 := 128#32
  let v523 : BitVec 32 := Scalar.muli arg19 c128_i32
  let v524 : BitVec 32 := v523
  let v525 : BitVec 32 := Scalar.addi v524 c0_i32_312
  let c16_i32 : BitVec 32 := 16#32
  let v526 : BitVec 32 := Scalar.addi v525 c16_i32
  let c15_i32_313 : BitVec 32 := 15#32
  let v527 : BitVec 32 := Scalar.subi v526 c15_i32_313
  let c4_i32_314 : BitVec 32 := 4#32
  let v528 : BitVec 32 := Scalar.muli v527 c4_i32_314
  let c3_i32 : BitVec 32 := 3#32
  let v529 : BitVec 32 := Scalar.addi v528 c3_i32
  let v530 : Index := Scalar.indexCast v529
  let c0_315 : Index := 0#32
  ![v530.toNat, 0]
def k0_off8 (k0_t4 : Fin k0_t4_loop.trips) : Fin 2 → Nat :=
  let c0_i32_245 : BitVec 32 := 0#32
  let c1_i32_247 : BitVec 32 := 1#32
  let arg19 : BitVec 32 := Scf.iv c0_i32_245 c1_i32_247 k0_t4
  let c128_i32 : BitVec 32 := 128#32
  let v523 : BitVec 32 := Scalar.muli arg19 c128_i32
  let v524 : BitVec 32 := v523
  let v2575 : Index := Scalar.indexCast v524
  let c384_1072 : Index := 384#32
  ![v2575.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== TailReferenceIdeal.lean ====
abbrev S4x8192x1024 : Shape := ⟨3, ![4, 8192, 1024]⟩
abbrev S4x8192x512 : Shape := ⟨3, ![4, 8192, 512]⟩
abbrev S31x512 : Shape := ⟨2, ![31, 512]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S4x8222x512 : Shape := ⟨3, ![4, 8222, 512]⟩
abbrev S512 : Shape := ⟨1, ![512]⟩
abbrev S1x1x512 : Shape := ⟨3, ![1, 1, 512]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩
abbrev S4x8192x4096 : Shape := ⟨3, ![4, 8192, 4096]⟩

abbrev nBuf : Space → Nat
  | .hbm => 324
  | .vmem => 0
  | .smem => 0
  | _ => 0

abbrev hbmTy0_0 (i : Nat) : BufTy := match i % 128 with
  | 0 => ⟨S4x8192x1024, .f32⟩
  | 1 => ⟨S4x8192x512, .bf16⟩
  | 2 => ⟨S4x8192x512, .f32⟩
  | 3 => ⟨S31x512, .f32⟩
  | 4 => ⟨S1x512, .f32⟩
  | 5 => ⟨S1x512, .f32⟩
  | 6 => ⟨S1x512, .f32⟩
  | 7 => ⟨S1024x1024, .bf16⟩
  | 8 => ⟨S1x1024, .f32⟩
  | 9 => ⟨S1024x4096, .bf16⟩
  | 10 => ⟨S4096x1024, .bf16⟩
  | 11 => ⟨S1x1024, .f32⟩
  | 12 => ⟨S_, .i32⟩
  | 13 => ⟨S_, .f32⟩
  | 14 => ⟨S4x8222x512, .f32⟩
  | 15 => ⟨S4x8192x512, .f32⟩
  | 16 => ⟨S1x512, .f32⟩
  | 17 => ⟨S512, .f32⟩
  | 18 => ⟨S1x1x512, .f32⟩
  | 19 => ⟨S4x8192x512, .f32⟩
  | 20 => ⟨S4x8192x512, .f32⟩
  | 21 => ⟨S_, .f32⟩
  | 22 => ⟨S4x8192x512, .f32⟩
  | 23 => ⟨S4x8192x512, .f32⟩
  | 24 => ⟨S4x8192x512, .f32⟩
  | 25 => ⟨S1x512, .f32⟩
  | 26 => ⟨S512, .f32⟩
  | 27 => ⟨S1x1x512, .f32⟩
  | 28 => ⟨S4x8192x512, .f32⟩
  | 29 => ⟨S4x8192x512, .f32⟩
  | 30 => ⟨S4x8192x512, .f32⟩
  | 31 => ⟨S4x8192x512, .f32⟩
  | 32 => ⟨S1x512, .f32⟩
  | 33 => ⟨S512, .f32⟩
  | 34 => ⟨S1x1x512, .f32⟩
  | 35 => ⟨S4x8192x512, .f32⟩
  | 36 => ⟨S4x8192x512, .f32⟩
  | 37 => ⟨S4x8192x512, .f32⟩
  | 38 => ⟨S4x8192x512, .f32⟩
  | 39 => ⟨S1x512, .f32⟩
  | 40 => ⟨S512, .f32⟩
  | 41 => ⟨S1x1x512, .f32⟩
  | 42 => ⟨S4x8192x512, .f32⟩
  | 43 => ⟨S4x8192x512, .f32⟩
  | 44 => ⟨S4x8192x512, .f32⟩
  | 45 => ⟨S4x8192x512, .f32⟩
  | 46 => ⟨S1x512, .f32⟩
  | 47 => ⟨S512, .f32⟩
  | 48 => ⟨S1x1x512, .f32⟩
  | 49 => ⟨S4x8192x512, .f32⟩
  | 50 => ⟨S4x8192x512, .f32⟩
  | 51 => ⟨S4x8192x512, .f32⟩
  | 52 => ⟨S4x8192x512, .f32⟩
  | 53 => ⟨S1x512, .f32⟩
  | 54 => ⟨S512, .f32⟩
  | 55 => ⟨S1x1x512, .f32⟩
  | 56 => ⟨S4x8192x512, .f32⟩
  | 57 => ⟨S4x8192x512, .f32⟩
  | 58 => ⟨S4x8192x512, .f32⟩
  | 59 => ⟨S4x8192x512, .f32⟩
  | 60 => ⟨S1x512, .f32⟩
  | 61 => ⟨S512, .f32⟩
  | 62 => ⟨S1x1x512, .f32⟩
  | 63 => ⟨S4x8192x512, .f32⟩
  | 64 => ⟨S4x8192x512, .f32⟩
  | 65 => ⟨S4x8192x512, .f32⟩
  | 66 => ⟨S4x8192x512, .f32⟩
  | 67 => ⟨S1x512, .f32⟩
  | 68 => ⟨S512, .f32⟩
  | 69 => ⟨S1x1x512, .f32⟩
  | 70 => ⟨S4x8192x512, .f32⟩
  | 71 => ⟨S4x8192x512, .f32⟩
  | 72 => ⟨S4x8192x512, .f32⟩
  | 73 => ⟨S4x8192x512, .f32⟩
  | 74 => ⟨S1x512, .f32⟩
  | 75 => ⟨S512, .f32⟩
  | 76 => ⟨S1x1x512, .f32⟩
  | 77 => ⟨S4x8192x512, .f32⟩
  | 78 => ⟨S4x8192x512, .f32⟩
  | 79 => ⟨S4x8192x512, .f32⟩
  | 80 => ⟨S4x8192x512, .f32⟩
  | 81 => ⟨S1x512, .f32⟩
  | 82 => ⟨S512, .f32⟩
  | 83 => ⟨S1x1x512, .f32⟩
  | 84 => ⟨S4x8192x512, .f32⟩
  | 85 => ⟨S4x8192x512, .f32⟩
  | 86 => ⟨S4x8192x512, .f32⟩
  | 87 => ⟨S4x8192x512, .f32⟩
  | 88 => ⟨S1x512, .f32⟩
  | 89 => ⟨S512, .f32⟩
  | 90 => ⟨S1x1x512, .f32⟩
  | 91 => ⟨S4x8192x512, .f32⟩
  | 92 => ⟨S4x8192x512, .f32⟩
  | 93 => ⟨S4x8192x512, .f32⟩
  | 94 => ⟨S4x8192x512, .f32⟩
  | 95 => ⟨S1x512, .f32⟩
  | 96 => ⟨S512, .f32⟩
  | 97 => ⟨S1x1x512, .f32⟩
  | 98 => ⟨S4x8192x512, .f32⟩
  | 99 => ⟨S4x8192x512, .f32⟩
  | 100 => ⟨S4x8192x512, .f32⟩
  | 101 => ⟨S4x8192x512, .f32⟩
  | 102 => ⟨S1x512, .f32⟩
  | 103 => ⟨S512, .f32⟩
  | 104 => ⟨S1x1x512, .f32⟩
  | 105 => ⟨S4x8192x512, .f32⟩
  | 106 => ⟨S4x8192x512, .f32⟩
  | 107 => ⟨S4x8192x512, .f32⟩
  | 108 => ⟨S4x8192x512, .f32⟩
  | 109 => ⟨S1x512, .f32⟩
  | 110 => ⟨S512, .f32⟩
  | 111 => ⟨S1x1x512, .f32⟩
  | 112 => ⟨S4x8192x512, .f32⟩
  | 113 => ⟨S4x8192x512, .f32⟩
  | 114 => ⟨S4x8192x512, .f32⟩
  | 115 => ⟨S4x8192x512, .f32⟩
  | 116 => ⟨S1x512, .f32⟩
  | 117 => ⟨S512, .f32⟩
  | 118 => ⟨S1x1x512, .f32⟩
  | 119 => ⟨S4x8192x512, .f32⟩
  | 120 => ⟨S4x8192x512, .f32⟩
  | 121 => ⟨S4x8192x512, .f32⟩
  | 122 => ⟨S4x8192x512, .f32⟩
  | 123 => ⟨S1x512, .f32⟩
  | 124 => ⟨S512, .f32⟩
  | 125 => ⟨S1x1x512, .f32⟩
  | 126 => ⟨S4x8192x512, .f32⟩
  | 127 => ⟨S4x8192x512, .f32⟩
  | _ => ⟨S4x8192x1024, .f32⟩

abbrev hbmTy0_1 (i : Nat) : BufTy := match i % 128 with
  | 0 => ⟨S4x8192x512, .f32⟩
  | 1 => ⟨S4x8192x512, .f32⟩
  | 2 => ⟨S1x512, .f32⟩
  | 3 => ⟨S512, .f32⟩
  | 4 => ⟨S1x1x512, .f32⟩
  | 5 => ⟨S4x8192x512, .f32⟩
  | 6 => ⟨S4x8192x512, .f32⟩
  | 7 => ⟨S4x8192x512, .f32⟩
  | 8 => ⟨S4x8192x512, .f32⟩
  | 9 => ⟨S1x512, .f32⟩
  | 10 => ⟨S512, .f32⟩
  | 11 => ⟨S1x1x512, .f32⟩
  | 12 => ⟨S4x8192x512, .f32⟩
  | 13 => ⟨S4x8192x512, .f32⟩
  | 14 => ⟨S4x8192x512, .f32⟩
  | 15 => ⟨S4x8192x512, .f32⟩
  | 16 => ⟨S1x512, .f32⟩
  | 17 => ⟨S512, .f32⟩
  | 18 => ⟨S1x1x512, .f32⟩
  | 19 => ⟨S4x8192x512, .f32⟩
  | 20 => ⟨S4x8192x512, .f32⟩
  | 21 => ⟨S4x8192x512, .f32⟩
  | 22 => ⟨S4x8192x512, .f32⟩
  | 23 => ⟨S1x512, .f32⟩
  | 24 => ⟨S512, .f32⟩
  | 25 => ⟨S1x1x512, .f32⟩
  | 26 => ⟨S4x8192x512, .f32⟩
  | 27 => ⟨S4x8192x512, .f32⟩
  | 28 => ⟨S4x8192x512, .f32⟩
  | 29 => ⟨S4x8192x512, .f32⟩
  | 30 => ⟨S1x512, .f32⟩
  | 31 => ⟨S512, .f32⟩
  | 32 => ⟨S1x1x512, .f32⟩
  | 33 => ⟨S4x8192x512, .f32⟩
  | 34 => ⟨S4x8192x512, .f32⟩
  | 35 => ⟨S4x8192x512, .f32⟩
  | 36 => ⟨S4x8192x512, .f32⟩
  | 37 => ⟨S1x512, .f32⟩
  | 38 => ⟨S512, .f32⟩
  | 39 => ⟨S1x1x512, .f32⟩
  | 40 => ⟨S4x8192x512, .f32⟩
  | 41 => ⟨S4x8192x512, .f32⟩
  | 42 => ⟨S4x8192x512, .f32⟩
  | 43 => ⟨S4x8192x512, .f32⟩
  | 44 => ⟨S1x512, .f32⟩
  | 45 => ⟨S512, .f32⟩
  | 46 => ⟨S1x1x512, .f32⟩
  | 47 => ⟨S4x8192x512, .f32⟩
  | 48 => ⟨S4x8192x512, .f32⟩
  | 49 => ⟨S4x8192x512, .f32⟩
  | 50 => ⟨S4x8192x512, .f32⟩
  | 51 => ⟨S1x512, .f32⟩
  | 52 => ⟨S512, .f32⟩
  | 53 => ⟨S1x1x512, .f32⟩
  | 54 => ⟨S4x8192x512, .f32⟩
  | 55 => ⟨S4x8192x512, .f32⟩
  | 56 => ⟨S4x8192x512, .f32⟩
  | 57 => ⟨S4x8192x512, .f32⟩
  | 58 => ⟨S1x512, .f32⟩
  | 59 => ⟨S512, .f32⟩
  | 60 => ⟨S1x1x512, .f32⟩
  | 61 => ⟨S4x8192x512, .f32⟩
  | 62 => ⟨S4x8192x512, .f32⟩
  | 63 => ⟨S4x8192x512, .f32⟩
  | 64 => ⟨S4x8192x512, .f32⟩
  | 65 => ⟨S1x512, .f32⟩
  | 66 => ⟨S512, .f32⟩
  | 67 => ⟨S1x1x512, .f32⟩
  | 68 => ⟨S4x8192x512, .f32⟩
  | 69 => ⟨S4x8192x512, .f32⟩
  | 70 => ⟨S4x8192x512, .f32⟩
  | 71 => ⟨S4x8192x512, .f32⟩
  | 72 => ⟨S1x512, .f32⟩
  | 73 => ⟨S512, .f32⟩
  | 74 => ⟨S1x1x512, .f32⟩
  | 75 => ⟨S4x8192x512, .f32⟩
  | 76 => ⟨S4x8192x512, .f32⟩
  | 77 => ⟨S4x8192x512, .f32⟩
  | 78 => ⟨S4x8192x512, .f32⟩
  | 79 => ⟨S1x512, .f32⟩
  | 80 => ⟨S512, .f32⟩
  | 81 => ⟨S1x1x512, .f32⟩
  | 82 => ⟨S4x8192x512, .f32⟩
  | 83 => ⟨S4x8192x512, .f32⟩
  | 84 => ⟨S4x8192x512, .f32⟩
  | 85 => ⟨S4x8192x512, .f32⟩
  | 86 => ⟨S1x512, .f32⟩
  | 87 => ⟨S512, .f32⟩
  | 88 => ⟨S1x1x512, .f32⟩
  | 89 => ⟨S4x8192x512, .f32⟩
  | 90 => ⟨S4x8192x512, .f32⟩
  | 91 => ⟨S4x8192x512, .f32⟩
  | 92 => ⟨S4x8192x512, .f32⟩
  | 93 => ⟨S1x512, .f32⟩
  | 94 => ⟨S512, .f32⟩
  | 95 => ⟨S1x1x512, .f32⟩
  | 96 => ⟨S4x8192x512, .f32⟩
  | 97 => ⟨S4x8192x512, .f32⟩
  | 98 => ⟨S4x8192x512, .f32⟩
  | 99 => ⟨S4x8192x512, .f32⟩
  | 100 => ⟨S1x512, .f32⟩
  | 101 => ⟨S512, .f32⟩
  | 102 => ⟨S1x1x512, .f32⟩
  | 103 => ⟨S4x8192x512, .f32⟩
  | 104 => ⟨S4x8192x512, .f32⟩
  | 105 => ⟨S4x8192x512, .f32⟩
  | 106 => ⟨S512, .f32⟩
  | 107 => ⟨S1x1x512, .f32⟩
  | 108 => ⟨S4x8192x512, .f32⟩
  | 109 => ⟨S4x8192x512, .f32⟩
  | 110 => ⟨S_, .f32⟩
  | 111 => ⟨S4x8192, .f32⟩
  | 112 => ⟨S4x8192x1, .f32⟩
  | 113 => ⟨S_, .f32⟩
  | 114 => ⟨S4x8192x1, .f32⟩
  | 115 => ⟨S4x8192x1, .f32⟩
  | 116 => ⟨S4x8192x512, .f32⟩
  | 117 => ⟨S4x8192x512, .f32⟩
  | 118 => ⟨S4x8192x512, .f32⟩
  | 119 => ⟨S_, .f32⟩
  | 120 => ⟨S4x8192, .f32⟩
  | 121 => ⟨S4x8192x1, .f32⟩
  | 122 => ⟨S_, .f32⟩
  | 123 => ⟨S4x8192x1, .f32⟩
  | 124 => ⟨S4x8192x1, .f32⟩
  | 125 => ⟨S_, .f32⟩
  | 126 => ⟨S4x8192x1, .f32⟩
  | 127 => ⟨S4x8192x1, .f32⟩
  | _ => ⟨S4x8192x1024, .f32⟩

abbrev hbmTy0_2 (i : Nat) : BufTy := match i % 128 with
  | 0 => ⟨S4x8192x1, .f32⟩
  | 1 => ⟨S4x8192x512, .f32⟩
  | 2 => ⟨S4x8192x512, .f32⟩
  | 3 => ⟨S512, .f32⟩
  | 4 => ⟨S1x1x512, .f32⟩
  | 5 => ⟨S4x8192x512, .f32⟩
  | 6 => ⟨S4x8192x512, .f32⟩
  | 7 => ⟨S512, .f32⟩
  | 8 => ⟨S1x1x512, .f32⟩
  | 9 => ⟨S4x8192x512, .f32⟩
  | 10 => ⟨S4x8192x512, .f32⟩
  | 11 => ⟨S4x8192x512, .f32⟩
  | 12 => ⟨S4x8192x512, .f32⟩
  | 13 => ⟨S_, .f32⟩
  | 14 => ⟨S4x8192x512, .f32⟩
  | 15 => ⟨S4x8192x512, .f32⟩
  | 16 => ⟨S_, .f32⟩
  | 17 => ⟨S4x8192x512, .f32⟩
  | 18 => ⟨S4x8192x512, .f32⟩
  | 19 => ⟨S4x8192x512, .f32⟩
  | 20 => ⟨S4x8192x512, .f32⟩
  | 21 => ⟨S4x8192x1024, .f32⟩
  | 22 => ⟨S1024x1024, .f32⟩
  | 23 => ⟨S4x8192x1024, .f32⟩
  | 24 => ⟨S4x8192x1024, .f32⟩
  | 25 => ⟨S4x8192x1024, .f32⟩
  | 26 => ⟨S_, .f32⟩
  | 27 => ⟨S4x8192, .f32⟩
  | 28 => ⟨S4x8192x1, .f32⟩
  | 29 => ⟨S_, .f32⟩
  | 30 => ⟨S4x8192x1, .f32⟩
  | 31 => ⟨S4x8192x1, .f32⟩
  | 32 => ⟨S_, .f32⟩
  | 33 => ⟨S4x8192x1, .f32⟩
  | 34 => ⟨S4x8192x1, .f32⟩
  | 35 => ⟨S4x8192x1, .f32⟩
  | 36 => ⟨S4x8192x1024, .f32⟩
  | 37 => ⟨S4x8192x1024, .f32⟩
  | 38 => ⟨S1024, .f32⟩
  | 39 => ⟨S1x1x1024, .f32⟩
  | 40 => ⟨S4x8192x1024, .f32⟩
  | 41 => ⟨S4x8192x1024, .f32⟩
  | 42 => ⟨S1024x4096, .f32⟩
  | 43 => ⟨S4x8192x4096, .f32⟩
  | 44 => ⟨S_, .f32⟩
  | 45 => ⟨S4x8192x4096, .f32⟩
  | 46 => ⟨S4x8192x4096, .f32⟩
  | 47 => ⟨S4x8192x4096, .f32⟩
  | 48 => ⟨S4096x1024, .f32⟩
  | 49 => ⟨S4x8192x1024, .f32⟩
  | 50 => ⟨S4x8192x1024, .f32⟩
  | 51 => ⟨S4x8192x1024, .f32⟩
  | 52 => ⟨S_, .f32⟩
  | 53 => ⟨S4x8192, .f32⟩
  | 54 => ⟨S4x8192x1, .f32⟩
  | 55 => ⟨S_, .f32⟩
  | 56 => ⟨S4x8192x1, .f32⟩
  | 57 => ⟨S4x8192x1, .f32⟩
  | 58 => ⟨S_, .f32⟩
  | 59 => ⟨S4x8192x1, .f32⟩
  | 60 => ⟨S4x8192x1, .f32⟩
  | 61 => ⟨S4x8192x1, .f32⟩
  | 62 => ⟨S4x8192x1024, .f32⟩
  | 63 => ⟨S4x8192x1024, .f32⟩
  | 64 => ⟨S1024, .f32⟩
  | 65 => ⟨S1x1x1024, .f32⟩
  | 66 => ⟨S4x8192x1024, .f32⟩
  | 67 => ⟨S4x8192x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_cst_0 : Ref sig .tc := ⟨.hbm, 238, rfl⟩
abbrev main_v223 : Ref sig .tc := ⟨.hbm, 239, rfl⟩
abbrev main_v224 : Ref sig .tc := ⟨.hbm, 240, rfl⟩
abbrev main_cst_1 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_cst_2 : Ref sig .tc := ⟨.hbm, 247, rfl⟩
abbrev main_v230 : Ref sig .tc := ⟨.hbm, 248, rfl⟩
abbrev main_v231 : Ref sig .tc := ⟨.hbm, 249, rfl⟩
abbrev main_cst_3 : Ref sig .tc := ⟨.hbm, 250, rfl⟩
abbrev main_v232 : Ref sig .tc := ⟨.hbm, 251, rfl⟩
abbrev main_v233 : Ref sig .tc := ⟨.hbm, 252, rfl⟩
abbrev main_cst_4 : Ref sig .tc := ⟨.hbm, 253, rfl⟩
abbrev main_v234 : Ref sig .tc := ⟨.hbm, 254, rfl⟩
abbrev main_v235 : Ref sig .tc := ⟨.hbm, 255, rfl⟩
abbrev main_v236 : Ref sig .tc := ⟨.hbm, 256, rfl⟩
abbrev main_v237 : Ref sig .tc := ⟨.hbm, 257, rfl⟩
abbrev main_v238 : Ref sig .tc := ⟨.hbm, 258, rfl⟩
abbrev main_v239 : Ref sig .tc := ⟨.hbm, 259, rfl⟩
abbrev main_v240 : Ref sig .tc := ⟨.hbm, 260, rfl⟩
abbrev main_v241 : Ref sig .tc := ⟨.hbm, 261, rfl⟩
abbrev main_v242 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩
abbrev main_call1_v0 : Ref sig .tc := ⟨.hbm, 267, rfl⟩
abbrev main_call1_v1 : Ref sig .tc := ⟨.hbm, 268, rfl⟩
abbrev main_call1_cst : Ref sig .tc := ⟨.hbm, 269, rfl⟩
abbrev main_call1_v2 : Ref sig .tc := ⟨.hbm, 270, rfl⟩
abbrev main_call1_v3 : Ref sig .tc := ⟨.hbm, 271, rfl⟩
abbrev main_call1_cst_0 : Ref sig .tc := ⟨.hbm, 272, rfl⟩
abbrev main_call1_v4 : Ref sig .tc := ⟨.hbm, 273, rfl⟩
abbrev main_call1_v5 : Ref sig .tc := ⟨.hbm, 274, rfl⟩
abbrev main_v247 : Ref sig .tc := ⟨.hbm, 275, rfl⟩
abbrev main_v248 : Ref sig .tc := ⟨.hbm, 276, rfl⟩
abbrev main_v249 : Ref sig .tc := ⟨.hbm, 277, rfl⟩
abbrev main_v250 : Ref sig .tc := ⟨.hbm, 278, rfl⟩
abbrev main_v251 : Ref sig .tc := ⟨.hbm, 279, rfl⟩
abbrev main_v252 : Ref sig .tc := ⟨.hbm, 280, rfl⟩
abbrev main_v253 : Ref sig .tc := ⟨.hbm, 281, rfl⟩
abbrev main_cst_5 : Ref sig .tc := ⟨.hbm, 282, rfl⟩
abbrev main_v254 : Ref sig .tc := ⟨.hbm, 283, rfl⟩
abbrev main_v255 : Ref sig .tc := ⟨.hbm, 284, rfl⟩
abbrev main_cst_6 : Ref sig .tc := ⟨.hbm, 285, rfl⟩
abbrev main_v256 : Ref sig .tc := ⟨.hbm, 286, rfl⟩
abbrev main_v257 : Ref sig .tc := ⟨.hbm, 287, rfl⟩
abbrev main_cst_7 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_call2_cst : Ref sig .tc := ⟨.hbm, 300, rfl⟩
abbrev main_call2_v0 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_v274 : Ref sig .tc := ⟨.hbm, 307, rfl⟩
abbrev main_cst_8 : Ref sig .tc := ⟨.hbm, 308, rfl⟩
abbrev main_v275 : Ref sig .tc := ⟨.hbm, 309, rfl⟩
abbrev main_v276 : Ref sig .tc := ⟨.hbm, 310, rfl⟩
abbrev main_cst_9 : Ref sig .tc := ⟨.hbm, 311, rfl⟩
abbrev main_v277 : Ref sig .tc := ⟨.hbm, 312, rfl⟩
abbrev main_v278 : Ref sig .tc := ⟨.hbm, 313, rfl⟩
abbrev main_cst_10 : Ref sig .tc := ⟨.hbm, 314, rfl⟩
abbrev main_v279 : Ref sig .tc := ⟨.hbm, 315, rfl⟩
abbrev main_v280 : Ref sig .tc := ⟨.hbm, 316, rfl⟩
abbrev main_v281 : Ref sig .tc := ⟨.hbm, 317, rfl⟩
abbrev main_v282 : Ref sig .tc := ⟨.hbm, 318, rfl⟩
abbrev main_v283 : Ref sig .tc := ⟨.hbm, 319, rfl⟩
abbrev main_v284 : Ref sig .tc := ⟨.hbm, 320, rfl⟩
abbrev main_v285 : Ref sig .tc := ⟨.hbm, 321, rfl⟩
abbrev main_v286 : Ref sig .tc := ⟨.hbm, 322, rfl⟩
abbrev main_v287 : Ref sig .tc := ⟨.hbm, 323, rfl⟩

abbrev nD : Nat := 1
abbrev τ : Topo := Topo.v7x

variable {F : FTy → Type} [FloatOps F]
-- ==== Proj.lean ====
abbrev S4x8192x1024 : Shape := ⟨3, ![4, 8192, 1024]⟩
abbrev S1x1024 : Shape := ⟨2, ![1, 1024]⟩
abbrev S768x1024 : Shape := ⟨2, ![768, 1024]⟩
abbrev S1024x1024 : Shape := ⟨2, ![1024, 1024]⟩
abbrev S4x64x8192 : Shape := ⟨3, ![4, 64, 8192]⟩
abbrev S4x8x16x64x512 : Shape := ⟨5, ![4, 8, 16, 64, 512]⟩
abbrev S4x2x8192x64 : Shape := ⟨4, ![4, 2, 8192, 64]⟩
abbrev S4x2x16x64x512 : Shape := ⟨5, ![4, 2, 16, 64, 512]⟩
abbrev S4x8192x512 : Shape := ⟨3, ![4, 8192, 512]⟩
abbrev S1x512x1024 : Shape := ⟨3, ![1, 512, 1024]⟩
abbrev S4x64x512 : Shape := ⟨3, ![4, 64, 512]⟩
abbrev S1x8x1x64x512 : Shape := ⟨5, ![1, 8, 1, 64, 512]⟩
abbrev S1x2x512x64 : Shape := ⟨4, ![1, 2, 512, 64]⟩
abbrev S1x2x1x64x512 : Shape := ⟨5, ![1, 2, 1, 64, 512]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S768x512 : Shape := ⟨2, ![768, 512]⟩
abbrev S64x512 : Shape := ⟨2, ![64, 512]⟩
abbrev S1x64x512 : Shape := ⟨3, ![1, 64, 512]⟩
abbrev S1x512 : Shape := ⟨2, ![1, 512]⟩
abbrev S16x512 : Shape := ⟨2, ![16, 512]⟩
abbrev S1x1x1x64x512 : Shape := ⟨5, ![1, 1, 1, 64, 512]⟩
abbrev S128x512 : Shape := ⟨2, ![128, 512]⟩
abbrev S512x128 : Shape := ⟨2, ![512, 128]⟩
abbrev S512x64 : Shape := ⟨2, ![512, 64]⟩
abbrev S1x1x512x64 : Shape := ⟨4, ![1, 1, 512, 64]⟩

abbrev nBuf : Space → Nat
  | .hbm => 9
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S768x1024, .bf16⟩
  | .hbm, ⟨3, _⟩ => ⟨S1024x1024, .bf16⟩
  | .hbm, ⟨4, _⟩ => ⟨S4x64x8192, .f32⟩
  | .hbm, ⟨5, _⟩ => ⟨S4x8x16x64x512, .bf16⟩
  | .hbm, ⟨6, _⟩ => ⟨S4x2x8192x64, .bf16⟩
  | .hbm, ⟨7, _⟩ => ⟨S4x2x16x64x512, .bf16⟩
  | .hbm, ⟨8, _⟩ => ⟨S4x8192x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S768x1024, .bf16⟩
  | .local _ .vmem, ⟨4, _⟩ => ⟨S1024x1024, .bf16⟩
  | .local _ .vmem, ⟨5, _⟩ => ⟨S4x64x512, .f32⟩
  | .local _ .vmem, ⟨6, _⟩ => ⟨S4x64x512, .f32⟩
  | .local _ .vmem, ⟨7, _⟩ => ⟨S1x8x1x64x512, .bf16⟩
  | .local _ .vmem, ⟨8, _⟩ => ⟨S1x8x1x64x512, .bf16⟩
  | .local _ .vmem, ⟨9, _⟩ => ⟨S1x2x512x64, .bf16⟩
  | .local _ .vmem, ⟨10, _⟩ => ⟨S1x2x512x64, .bf16⟩
  | .local _ .vmem, ⟨11, _⟩ => ⟨S1x2x1x64x512, .bf16⟩
  | .local _ .vmem, ⟨12, _⟩ => ⟨S1x2x1x64x512, .bf16⟩
  | .local _ .vmem, ⟨13, _⟩ => ⟨S1x512x512, .f32⟩
  | .local _ .vmem, ⟨14, _⟩ => ⟨S1x512x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x1x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjIdeal.lean ====
abbrev S4x8192x1024 : Shape := ⟨3, ![4, 8192, 1024]⟩
abbrev S1x1024 : Shape := ⟨2, ![1, 1024]⟩
abbrev S768x1024 : Shape := ⟨2, ![768, 1024]⟩
abbrev S1024x1024 : Shape := ⟨2, ![1024, 1024]⟩
abbrev S4x64x8192 : Shape := ⟨3, ![4, 64, 8192]⟩
abbrev S4x8x16x64x512 : Shape := ⟨5, ![4, 8, 16, 64, 512]⟩
abbrev S4x2x8192x64 : Shape := ⟨4, ![4, 2, 8192, 64]⟩
abbrev S4x2x16x64x512 : Shape := ⟨5, ![4, 2, 16, 64, 512]⟩
abbrev S4x8192x512 : Shape := ⟨3, ![4, 8192, 512]⟩
abbrev S1x512x1024 : Shape := ⟨3, ![1, 512, 1024]⟩
abbrev S4x64x512 : Shape := ⟨3, ![4, 64, 512]⟩
abbrev S1x8x1x64x512 : Shape := ⟨5, ![1, 8, 1, 64, 512]⟩
abbrev S1x2x512x64 : Shape := ⟨4, ![1, 2, 512, 64]⟩
abbrev S1x2x1x64x512 : Shape := ⟨5, ![1, 2, 1, 64, 512]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S768x512 : Shape := ⟨2, ![768, 512]⟩
abbrev S64x512 : Shape := ⟨2, ![64, 512]⟩
abbrev S1x64x512 : Shape := ⟨3, ![1, 64, 512]⟩
abbrev S1x512 : Shape := ⟨2, ![1, 512]⟩
abbrev S16x512 : Shape := ⟨2, ![16, 512]⟩
abbrev S1x1x1x64x512 : Shape := ⟨5, ![1, 1, 1, 64, 512]⟩
abbrev S128x512 : Shape := ⟨2, ![128, 512]⟩
abbrev S512x128 : Shape := ⟨2, ![512, 128]⟩
abbrev S512x64 : Shape := ⟨2, ![512, 64]⟩
abbrev S1x1x512x64 : Shape := ⟨4, ![1, 1, 512, 64]⟩

abbrev nBuf : Space → Nat
  | .hbm => 9
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S768x1024, .bf16⟩
  | .hbm, ⟨3, _⟩ => ⟨S1024x1024, .bf16⟩
  | .hbm, ⟨4, _⟩ => ⟨S4x64x8192, .f32⟩
  | .hbm, ⟨5, _⟩ => ⟨S4x8x16x64x512, .bf16⟩
  | .hbm, ⟨6, _⟩ => ⟨S4x2x8192x64, .bf16⟩
  | .hbm, ⟨7, _⟩ => ⟨S4x2x16x64x512, .bf16⟩
  | .hbm, ⟨8, _⟩ => ⟨S4x8192x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S768x1024, .bf16⟩
  | .local _ .vmem, ⟨4, _⟩ => ⟨S1024x1024, .bf16⟩
  | .local _ .vmem, ⟨5, _⟩ => ⟨S4x64x512, .f32⟩
  | .local _ .vmem, ⟨6, _⟩ => ⟨S4x64x512, .f32⟩
  | .local _ .vmem, ⟨7, _⟩ => ⟨S1x8x1x64x512, .bf16⟩
  | .local _ .vmem, ⟨8, _⟩ => ⟨S1x8x1x64x512, .bf16⟩
  | .local _ .vmem, ⟨9, _⟩ => ⟨S1x2x512x64, .bf16⟩
  | .local _ .vmem, ⟨10, _⟩ => ⟨S1x2x512x64, .bf16⟩
  | .local _ .vmem, ⟨11, _⟩ => ⟨S1x2x1x64x512, .bf16⟩
  | .local _ .vmem, ⟨12, _⟩ => ⟨S1x2x1x64x512, .bf16⟩
  | .local _ .vmem, ⟨13, _⟩ => ⟨S1x512x512, .f32⟩
  | .local _ .vmem, ⟨14, _⟩ => ⟨S1x512x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x1x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjReferenceIdeal.lean ====
abbrev S4x8192x1024 : Shape := ⟨3, ![4, 8192, 1024]⟩
abbrev S1x1024 : Shape := ⟨2, ![1, 1024]⟩
abbrev S768x1024 : Shape := ⟨2, ![768, 1024]⟩
abbrev S1024x1024 : Shape := ⟨2, ![1024, 1024]⟩
abbrev S4x64x8192 : Shape := ⟨3, ![4, 64, 8192]⟩
abbrev S_ : Shape := ⟨0, ![]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩
abbrev S4x8192x768 : Shape := ⟨3, ![4, 8192, 768]⟩
abbrev S4x8192x512 : Shape := ⟨3, ![4, 8192, 512]⟩
abbrev S4x8192x8x64 : Shape := ⟨4, ![4, 8192, 8, 64]⟩
abbrev S4x8192x128 : Shape := ⟨3, ![4, 8192, 128]⟩
abbrev S4x8192x2x64 : Shape := ⟨4, ![4, 8192, 2, 64]⟩
abbrev S4x8192x8 : Shape := ⟨3, ![4, 8192, 8]⟩
abbrev S4x8192x8x1 : Shape := ⟨4, ![4, 8192, 8, 1]⟩
abbrev S1x64x8192 : Shape := ⟨3, ![1, 64, 8192]⟩
abbrev S64x8192 : Shape := ⟨2, ![64, 8192]⟩
abbrev S8192x64 : Shape := ⟨2, ![8192, 64]⟩
abbrev S4x8192x8x32 : Shape := ⟨4, ![4, 8192, 8, 32]⟩
abbrev S8192x32 : Shape := ⟨2, ![8192, 32]⟩
abbrev S4x8192x8x16 : Shape := ⟨4, ![4, 8192, 8, 16]⟩
abbrev S8192x16 : Shape := ⟨2, ![8192, 16]⟩
abbrev S8192x1x16 : Shape := ⟨3, ![8192, 1, 16]⟩
abbrev S1x8192x1x16 : Shape := ⟨4, ![1, 8192, 1, 16]⟩
abbrev S4x8192x2 : Shape := ⟨3, ![4, 8192, 2]⟩
abbrev S4x8192x2x1 : Shape := ⟨4, ![4, 8192, 2, 1]⟩
abbrev S4x8192x2x32 : Shape := ⟨4, ![4, 8192, 2, 32]⟩
abbrev S4x8192x2x16 : Shape := ⟨4, ![4, 8192, 2, 16]⟩
abbrev S4x16x512x8x64 : Shape := ⟨5, ![4, 16, 512, 8, 64]⟩
abbrev S4x8x16x64x512 : Shape := ⟨5, ![4, 8, 16, 64, 512]⟩
abbrev S4x16x512x2x64 : Shape := ⟨5, ![4, 16, 512, 2, 64]⟩
abbrev S4x2x16x64x512 : Shape := ⟨5, ![4, 2, 16, 64, 512]⟩
abbrev S4x2x8192x64 : Shape := ⟨4, ![4, 2, 8192, 64]⟩

abbrev nBuf : Space → Nat
  | .hbm => 203
  | .vmem => 0
  | .smem => 0
  | _ => 0

abbrev hbmTy0_0 (i : Nat) : BufTy := match i % 128 with
  | 0 => ⟨S4x8192x1024, .f32⟩
  | 1 => ⟨S1x1024, .f32⟩
  | 2 => ⟨S768x1024, .bf16⟩
  | 3 => ⟨S1024x1024, .bf16⟩
  | 4 => ⟨S4x64x8192, .f32⟩
  | 5 => ⟨S4x8192x1024, .f32⟩
  | 6 => ⟨S_, .f32⟩
  | 7 => ⟨S4x8192, .f32⟩
  | 8 => ⟨S4x8192x1, .f32⟩
  | 9 => ⟨S_, .f32⟩
  | 10 => ⟨S4x8192x1, .f32⟩
  | 11 => ⟨S4x8192x1, .f32⟩
  | 12 => ⟨S_, .f32⟩
  | 13 => ⟨S4x8192x1, .f32⟩
  | 14 => ⟨S4x8192x1, .f32⟩
  | 15 => ⟨S4x8192x1, .f32⟩
  | 16 => ⟨S4x8192x1024, .f32⟩
  | 17 => ⟨S4x8192x1024, .f32⟩
  | 18 => ⟨S1024, .f32⟩
  | 19 => ⟨S1x1x1024, .f32⟩
  | 20 => ⟨S4x8192x1024, .f32⟩
  | 21 => ⟨S4x8192x1024, .f32⟩
  | 22 => ⟨S768x1024, .f32⟩
  | 23 => ⟨S4x8192x768, .f32⟩
  | 24 => ⟨S4x8192x512, .f32⟩
  | 25 => ⟨S4x8192x8x64, .f32⟩
  | 26 => ⟨S4x8192x128, .f32⟩
  | 27 => ⟨S4x8192x2x64, .f32⟩
  | 28 => ⟨S4x8192x128, .f32⟩
  | 29 => ⟨S4x8192x2x64, .f32⟩
  | 30 => ⟨S4x8192x8x64, .f32⟩
  | 31 => ⟨S_, .f32⟩
  | 32 => ⟨S4x8192x8, .f32⟩
  | 33 => ⟨S4x8192x8x1, .f32⟩
  | 34 => ⟨S_, .f32⟩
  | 35 => ⟨S4x8192x8x1, .f32⟩
  | 36 => ⟨S4x8192x8x1, .f32⟩
  | 37 => ⟨S_, .f32⟩
  | 38 => ⟨S4x8192x8x1, .f32⟩
  | 39 => ⟨S4x8192x8x1, .f32⟩
  | 40 => ⟨S4x8192x8x1, .f32⟩
  | 41 => ⟨S4x8192x8x64, .f32⟩
  | 42 => ⟨S4x8192x8x64, .f32⟩
  | 43 => ⟨S1x64x8192, .f32⟩
  | 44 => ⟨S64x8192, .f32⟩
  | 45 => ⟨S8192x64, .f32⟩
  | 46 => ⟨S1x64x8192, .f32⟩
  | 47 => ⟨S64x8192, .f32⟩
  | 48 => ⟨S8192x64, .f32⟩
  | 49 => ⟨S4x8192x8x32, .f32⟩
  | 50 => ⟨S8192x32, .f32⟩
  | 51 => ⟨S8192x32, .f32⟩
  | 52 => ⟨S4x8192x8x16, .f32⟩
  | 53 => ⟨S4x8192x8x16, .f32⟩
  | 54 => ⟨S8192x16, .f32⟩
  | 55 => ⟨S8192x1x16, .f32⟩
  | 56 => ⟨S1x8192x1x16, .f32⟩
  | 57 => ⟨S4x8192x8x16, .f32⟩
  | 58 => ⟨S4x8192x8x16, .f32⟩
  | 59 => ⟨S8192x16, .f32⟩
  | 60 => ⟨S8192x1x16, .f32⟩
  | 61 => ⟨S1x8192x1x16, .f32⟩
  | 62 => ⟨S4x8192x8x16, .f32⟩
  | 63 => ⟨S4x8192x8x16, .f32⟩
  | 64 => ⟨S4x8192x8x16, .f32⟩
  | 65 => ⟨S8192x16, .f32⟩
  | 66 => ⟨S8192x1x16, .f32⟩
  | 67 => ⟨S1x8192x1x16, .f32⟩
  | 68 => ⟨S4x8192x8x16, .f32⟩
  | 69 => ⟨S4x8192x8x16, .f32⟩
  | 70 => ⟨S8192x16, .f32⟩
  | 71 => ⟨S8192x1x16, .f32⟩
  | 72 => ⟨S1x8192x1x16, .f32⟩
  | 73 => ⟨S4x8192x8x16, .f32⟩
  | 74 => ⟨S4x8192x8x16, .f32⟩
  | 75 => ⟨S4x8192x8x16, .f32⟩
  | 76 => ⟨S4x8192x8x32, .f32⟩
  | 77 => ⟨S4x8192x8x32, .f32⟩
  | 78 => ⟨S8192x32, .f32⟩
  | 79 => ⟨S8192x32, .f32⟩
  | 80 => ⟨S4x8192x8x16, .f32⟩
  | 81 => ⟨S4x8192x8x16, .f32⟩
  | 82 => ⟨S8192x16, .f32⟩
  | 83 => ⟨S8192x1x16, .f32⟩
  | 84 => ⟨S1x8192x1x16, .f32⟩
  | 85 => ⟨S4x8192x8x16, .f32⟩
  | 86 => ⟨S4x8192x8x16, .f32⟩
  | 87 => ⟨S8192x16, .f32⟩
  | 88 => ⟨S8192x1x16, .f32⟩
  | 89 => ⟨S1x8192x1x16, .f32⟩
  | 90 => ⟨S4x8192x8x16, .f32⟩
  | 91 => ⟨S4x8192x8x16, .f32⟩
  | 92 => ⟨S4x8192x8x16, .f32⟩
  | 93 => ⟨S8192x16, .f32⟩
  | 94 => ⟨S8192x1x16, .f32⟩
  | 95 => ⟨S1x8192x1x16, .f32⟩
  | 96 => ⟨S4x8192x8x16, .f32⟩
  | 97 => ⟨S4x8192x8x16, .f32⟩
  | 98 => ⟨S8192x16, .f32⟩
  | 99 => ⟨S8192x1x16, .f32⟩
  | 100 => ⟨S1x8192x1x16, .f32⟩
  | 101 => ⟨S4x8192x8x16, .f32⟩
  | 102 => ⟨S4x8192x8x16, .f32⟩
  | 103 => ⟨S4x8192x8x16, .f32⟩
  | 104 => ⟨S4x8192x8x32, .f32⟩
  | 105 => ⟨S4x8192x8x64, .f32⟩
  | 106 => ⟨S4x8192x2x64, .f32⟩
  | 107 => ⟨S_, .f32⟩
  | 108 => ⟨S4x8192x2, .f32⟩
  | 109 => ⟨S4x8192x2x1, .f32⟩
  | 110 => ⟨S_, .f32⟩
  | 111 => ⟨S4x8192x2x1, .f32⟩
  | 112 => ⟨S4x8192x2x1, .f32⟩
  | 113 => ⟨S_, .f32⟩
  | 114 => ⟨S4x8192x2x1, .f32⟩
  | 115 => ⟨S4x8192x2x1, .f32⟩
  | 116 => ⟨S4x8192x2x1, .f32⟩
  | 117 => ⟨S4x8192x2x64, .f32⟩
  | 118 => ⟨S4x8192x2x64, .f32⟩
  | 119 => ⟨S1x64x8192, .f32⟩
  | 120 => ⟨S64x8192, .f32⟩
  | 121 => ⟨S8192x64, .f32⟩
  | 122 => ⟨S1x64x8192, .f32⟩
  | 123 => ⟨S64x8192, .f32⟩
  | 124 => ⟨S8192x64, .f32⟩
  | 125 => ⟨S4x8192x2x32, .f32⟩
  | 126 => ⟨S8192x32, .f32⟩
  | 127 => ⟨S8192x32, .f32⟩
  | _ => ⟨S4x8192x1024, .f32⟩

abbrev hbmTy0_1 (i : Nat) : BufTy := match i % 128 with
  | 0 => ⟨S4x8192x2x16, .f32⟩
  | 1 => ⟨S4x8192x2x16, .f32⟩
  | 2 => ⟨S8192x16, .f32⟩
  | 3 => ⟨S8192x1x16, .f32⟩
  | 4 => ⟨S1x8192x1x16, .f32⟩
  | 5 => ⟨S4x8192x2x16, .f32⟩
  | 6 => ⟨S4x8192x2x16, .f32⟩
  | 7 => ⟨S8192x16, .f32⟩
  | 8 => ⟨S8192x1x16, .f32⟩
  | 9 => ⟨S1x8192x1x16, .f32⟩
  | 10 => ⟨S4x8192x2x16, .f32⟩
  | 11 => ⟨S4x8192x2x16, .f32⟩
  | 12 => ⟨S4x8192x2x16, .f32⟩
  | 13 => ⟨S8192x16, .f32⟩
  | 14 => ⟨S8192x1x16, .f32⟩
  | 15 => ⟨S1x8192x1x16, .f32⟩
  | 16 => ⟨S4x8192x2x16, .f32⟩
  | 17 => ⟨S4x8192x2x16, .f32⟩
  | 18 => ⟨S8192x16, .f32⟩
  | 19 => ⟨S8192x1x16, .f32⟩
  | 20 => ⟨S1x8192x1x16, .f32⟩
  | 21 => ⟨S4x8192x2x16, .f32⟩
  | 22 => ⟨S4x8192x2x16, .f32⟩
  | 23 => ⟨S4x8192x2x16, .f32⟩
  | 24 => ⟨S4x8192x2x32, .f32⟩
  | 25 => ⟨S4x8192x2x32, .f32⟩
  | 26 => ⟨S8192x32, .f32⟩
  | 27 => ⟨S8192x32, .f32⟩
  | 28 => ⟨S4x8192x2x16, .f32⟩
  | 29 => ⟨S4x8192x2x16, .f32⟩
  | 30 => ⟨S8192x16, .f32⟩
  | 31 => ⟨S8192x1x16, .f32⟩
  | 32 => ⟨S1x8192x1x16, .f32⟩
  | 33 => ⟨S4x8192x2x16, .f32⟩
  | 34 => ⟨S4x8192x2x16, .f32⟩
  | 35 => ⟨S8192x16, .f32⟩
  | 36 => ⟨S8192x1x16, .f32⟩
  | 37 => ⟨S1x8192x1x16, .f32⟩
  | 38 => ⟨S4x8192x2x16, .f32⟩
  | 39 => ⟨S4x8192x2x16, .f32⟩
  | 40 => ⟨S4x8192x2x16, .f32⟩
  | 41 => ⟨S8192x16, .f32⟩
  | 42 => ⟨S8192x1x16, .f32⟩
  | 43 => ⟨S1x8192x1x16, .f32⟩
  | 44 => ⟨S4x8192x2x16, .f32⟩
  | 45 => ⟨S4x8192x2x16, .f32⟩
  | 46 => ⟨S8192x16, .f32⟩
  | 47 => ⟨S8192x1x16, .f32⟩
  | 48 => ⟨S1x8192x1x16, .f32⟩
  | 49 => ⟨S4x8192x2x16, .f32⟩
  | 50 => ⟨S4x8192x2x16, .f32⟩
  | 51 => ⟨S4x8192x2x16, .f32⟩
  | 52 => ⟨S4x8192x2x32, .f32⟩
  | 53 => ⟨S4x8192x2x64, .f32⟩
  | 54 => ⟨S1024x1024, .f32⟩
  | 55 => ⟨S4x8192x1024, .f32⟩
  | 56 => ⟨S4x8192x512, .f32⟩
  | 57 => ⟨S4x8192x512, .f32⟩
  | 58 => ⟨S4x8192x512, .f32⟩
  | 59 => ⟨S4x8192x512, .f32⟩
  | 60 => ⟨S_, .f32⟩
  | 61 => ⟨S4x8192x512, .f32⟩
  | 62 => ⟨S4x8192x512, .f32⟩
  | 63 => ⟨S_, .f32⟩
  | 64 => ⟨S4x8192x512, .f32⟩
  | 65 => ⟨S4x8192x512, .f32⟩
  | 66 => ⟨S4x8192x512, .f32⟩
  | 67 => ⟨S4x16x512x8x64, .f32⟩
  | 68 => ⟨S4x8x16x64x512, .f32⟩
  | 69 => ⟨S4x16x512x2x64, .f32⟩
  | 70 => ⟨S4x2x16x64x512, .f32⟩
  | 71 => ⟨S4x8x16x64x512, .bf16⟩
  | 72 => ⟨S4x2x8192x64, .f32⟩
  | 73 => ⟨S4x2x8192x64, .bf16⟩
  | 74 => ⟨S4x2x16x64x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_cst_5 : Ref sig .tc := ⟨.hbm, 107, rfl⟩
abbrev main_v96 : Ref sig .tc := ⟨.hbm, 108, rfl⟩
abbrev main_v97 : Ref sig .tc := ⟨.hbm, 109, rfl⟩
abbrev main_cst_6 : Ref sig .tc := ⟨.hbm, 110, rfl⟩
abbrev main_v98 : Ref sig .tc := ⟨.hbm, 111, rfl⟩
abbrev main_v99 : Ref sig .tc := ⟨.hbm, 112, rfl⟩
abbrev main_cst_7 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_cst_8 : Ref sig .tc := ⟨.hbm, 188, rfl⟩
abbrev main_v174 : Ref sig .tc := ⟨.hbm, 189, rfl⟩
abbrev main_v175 : Ref sig .tc := ⟨.hbm, 190, rfl⟩
abbrev main_cst_9 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩

abbrev nD : Nat := 1
abbrev τ : Topo := Topo.v7x

variable {F : FTy → Type} [FloatOps F]
-- ==== SampleTail.lean ====
abbrev S32x2048x1024 : Shape := ⟨3, ![32, 2048, 1024]⟩
abbrev S32x2048x512 : Shape := ⟨3, ![32, 2048, 512]⟩
abbrev S31x512 : Shape := ⟨2, ![31, 512]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S32x8192x128 : Shape := ⟨3, ![32, 8192, 128]⟩
abbrev S1x512x1024 : Shape := ⟨3, ![1, 512, 1024]⟩
abbrev S1x512x512 : Shape := ⟨3, ![1, 512, 512]⟩
abbrev S1x2048x128 : Shape := ⟨3, ![1, 2048, 128]⟩
abbrev S1x64x128 : Shape := ⟨3, ![1, 64, 128]⟩
abbrev S2176x128 : Shape := ⟨2, ![2176, 128]⟩
abbrev S512x512 : Shape := ⟨2, ![512, 512]⟩
abbrev S64x128 : Shape := ⟨2, ![64, 128]⟩
abbrev S2048x128 : Shape := ⟨2, ![2048, 128]⟩
abbrev S1x128 : Shape := ⟨2, ![1, 128]⟩
abbrev S8x128 : Shape := ⟨2, ![8, 128]⟩
abbrev S128x128 : Shape := ⟨2, ![128, 128]⟩
abbrev S512 : Shape := ⟨1, ![512]⟩
abbrev S512x1 : Shape := ⟨2, ![512, 1]⟩
abbrev S512x1024 : Shape := ⟨2, ![512, 1024]⟩

abbrev nBuf : Space → Nat
  | .hbm => 14
  | .vmem => 23
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .f32⟩
  | .hbm, ⟨3, _⟩ => ⟨S31x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1024x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S32x8192x128, .f32⟩
  | .hbm, ⟨13, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x2048x128, .f32⟩
  | .local _ .vmem, ⟨5, _⟩ => ⟨S1x2048x128, .f32⟩
  | .local _ .vmem, ⟨6, _⟩ => ⟨S1x64x128, .f32⟩
  | .local _ .vmem, ⟨7, _⟩ => ⟨S1x64x128, .f32⟩
  | .local _ .vmem, ⟨8, _⟩ => ⟨S1x64x128, .f32⟩
  | .local _ .vmem, ⟨9, _⟩ => ⟨S1x64x128, .f32⟩
  | .local _ .vmem, ⟨10, _⟩ => ⟨S31x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | .local _ .vmem, ⟨21, _⟩ => ⟨S2176x128, .f32⟩
  | .local _ .vmem, ⟨22, _⟩ => ⟨S512x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![32, 4], ![false, false]⟩

@[reducible] def k0_t1_loop : Scf.Loop 32 :=
  let c0_i32_46 : BitVec 32 := 0#32
  let c4_i32 : BitVec 32 := 4#32
  let v121 : BitVec 32 := Scalar.addi c0_i32_46 c4_i32
  let c1_i32 : BitVec 32 := 1#32
  ⟨c0_i32_46, v121, c1_i32⟩
def k0_mult1 (k0_t1 : Fin k0_t1_loop.trips) : BitVec 32 :=
  let c0_i32_46 : BitVec 32 := 0#32
  let c1_i32 : BitVec 32 := 1#32
  let arg19 : BitVec 32 := Scf.iv c0_i32_46 c1_i32 k0_t1
  let c128_i32 : BitVec 32 := 128#32
  let v523 : BitVec 32 := Scalar.muli arg19 c128_i32
  v523
def k0_off1 (k0_t1 : Fin k0_t1_loop.trips) (c0_i32_312 : BitVec 32) : Fin 2 → Nat :=
  let c0_i32_46 : BitVec 32 := 0#32
  let c1_i32 : BitVec 32 := 1#32
  let arg19 : BitVec 32 := Scf.iv c0_i32_46 c1_i32 k0_t1
  let c128_i32 : BitVec 32 := 128#32
  let v523 : BitVec 32 := Scalar.muli arg19 c128_i32
  let v524 : BitVec 32 := v523
  let v525 : BitVec 32 := Scalar.addi v524 c0_i32_312
  let c16_i32 : BitVec 32 := 16#32
  let v526 : BitVec 32 := Scalar.addi v525 c16_i32
  let c15_i32 : BitVec 32 := 15#32
  let v527 : BitVec 32 := Scalar.subi v526 c15_i32
  let c4_i32_313 : BitVec 32 := 4#32
  let v528 : BitVec 32 := Scalar.muli v527 c4_i32_313
  let c0_i32_314 : BitVec 32 := 0#32
  let v529 : BitVec 32 := Scalar.addi v528 c0_i32_314
  let v530 : Index := Scalar.indexCast v529
  let c0_315 : Index := 0#32
  ![v530.toNat, 0]
def k0_off2 (k0_t1 : Fin k0_t1_loop.trips) : Fin 2 → Nat :=
  let c0_i32_46 : BitVec 32 := 0#32
  let c1_i32 : BitVec 32 := 1#32
  let arg19 : BitVec 32 := Scf.iv c0_i32_46 c1_i32 k0_t1
  let c128_i32 : BitVec 32 := 128#32
  let v523 : BitVec 32 := Scalar.muli arg19 c128_i32
  let v524 : BitVec 32 := v523
  let v2575 : Index := Scalar.indexCast v524
  let c0_1072 : Index := 0#32
  ![v2575.toNat, 0]
@[reducible] def k0_t2_loop : Scf.Loop 32 :=
  let c0_i32_111 : BitVec 32 := 0#32
  let c4_i32_112 : BitVec 32 := 4#32
  let v218 : BitVec 32 := Scalar.addi c0_i32_111 c4_i32_112
  let c1_i32_113 : BitVec 32 := 1#32
  ⟨c0_i32_111, v218, c1_i32_113⟩
def k0_mult2 (k0_t2 : Fin k0_t2_loop.trips) : BitVec 32 :=
  let c0_i32_111 : BitVec 32 := 0#32
  let c1_i32_113 : BitVec 32 := 1#32
  let arg19 : BitVec 32 := Scf.iv c0_i32_111 c1_i32_113 k0_t2
  let c128_i32 : BitVec 32 := 128#32
  let v523 : BitVec 32 := Scalar.muli arg19 c128_i32
  v523
def k0_off3 (k0_t2 : Fin k0_t2_loop.trips) (c0_i32_312 : BitVec 32) : Fin 2 → Nat :=
  let c0_i32_111 : BitVec 32 := 0#32
  let c1_i32_113 : BitVec 32 := 1#32
  let arg19 : BitVec 32 := Scf.iv c0_i32_111 c1_i32_113 k0_t2
  let c128_i32 : BitVec 32 := 128#32
  let v523 : BitVec 32 := Scalar.muli arg19 c128_i32
  let v524 : BitVec 32 := v523
  let v525 : BitVec 32 := Scalar.addi v524 c0_i32_312
  let c16_i32 : BitVec 32 := 16#32
  let v526 : BitVec 32 := Scalar.addi v525 c16_i32
  let c15_i32 : BitVec 32 := 15#32
  let v527 : BitVec 32 := Scalar.subi v526 c15_i32
  let c4_i32_313 : BitVec 32 := 4#32
  let v528 : BitVec 32 := Scalar.muli v527 c4_i32_313
  let c1_i32_314 : BitVec 32 := 1#32
  let v529 : BitVec 32 := Scalar.addi v528 c1_i32_314
  let v530 : Index := Scalar.indexCast v529
  let c0_315 : Index := 0#32
  ![v530.toNat, 0]
def k0_off4 (k0_t2 : Fin k0_t2_loop.trips) : Fin 2 → Nat :=
  let c0_i32_111 : BitVec 32 := 0#32
  let c1_i32_113 : BitVec 32 := 1#32
  let arg19 : BitVec 32 := Scf.iv c0_i32_111 c1_i32_113 k0_t2
  let c128_i32 : BitVec 32 := 128#32
  let v523 : BitVec 32 := Scalar.muli arg19 c128_i32
  let v524 : BitVec 32 := v523
  let v2575 : Index := Scalar.indexCast v524
  let c128_1072 : Index := 128#32
  ![v2575.toNat, 128]
@[reducible] def k0_t3_loop : Scf.Loop 32 :=
  let c0_i32_178 : BitVec 32 := 0#32
  let c4_i32_179 : BitVec 32 := 4#32
  let v315 : BitVec 32 := Scalar.addi c0_i32_178 c4_i32_179
  let c1_i32_180 : BitVec 32 := 1#32
  ⟨c0_i32_178, v315, c1_i32_180⟩
def k0_mult3 (k0_t3 : Fin k0_t3_loop.trips) : BitVec 32 :=
  let c0_i32_178 : BitVec 32 := 0#32
  let c1_i32_180 : BitVec 32 := 1#32
  let arg19 : BitVec 32 := Scf.iv c0_i32_178 c1_i32_180 k0_t3
  let c128_i32 : BitVec 32 := 128#32
  let v523 : BitVec 32 := Scalar.muli arg19 c128_i32
  v523
def k0_off5 (k0_t3 : Fin k0_t3_loop.trips) (c0_i32_312 : BitVec 32) : Fin 2 → Nat :=
  let c0_i32_178 : BitVec 32 := 0#32
  let c1_i32_180 : BitVec 32 := 1#32
  let arg19 : BitVec 32 := Scf.iv c0_i32_178 c1_i32_180 k0_t3
  let c128_i32 : BitVec 32 := 128#32
  let v523 : BitVec 32 := Scalar.muli arg19 c128_i32
  let v524 : BitVec 32 := v523
  let v525 : BitVec 32 := Scalar.addi v524 c0_i32_312
  let c16_i32 : BitVec 32 := 16#32
  let v526 : BitVec 32 := Scalar.addi v525 c16_i32
  let c15_i32 : BitVec 32 := 15#32
  let v527 : BitVec 32 := Scalar.subi v526 c15_i32
  let c4_i32_313 : BitVec 32 := 4#32
  let v528 : BitVec 32 := Scalar.muli v527 c4_i32_313
  let c2_i32 : BitVec 32 := 2#32
  let v529 : BitVec 32 := Scalar.addi v528 c2_i32
  let v530 : Index := Scalar.indexCast v529
  let c0_314 : Index := 0#32
  ![v530.toNat, 0]
def k0_off6 (k0_t3 : Fin k0_t3_loop.trips) : Fin 2 → Nat :=
  let c0_i32_178 : BitVec 32 := 0#32
  let c1_i32_180 : BitVec 32 := 1#32
  let arg19 : BitVec 32 := Scf.iv c0_i32_178 c1_i32_180 k0_t3
  let c128_i32 : BitVec 32 := 128#32
  let v523 : BitVec 32 := Scalar.muli arg19 c128_i32
  let v524 : BitVec 32 := v523
  let v2575 : Index := Scalar.indexCast v524
  let c256_1072 : Index := 256#32
  ![v2575.toNat, 256]
@[reducible] def k0_t4_loop : Scf.Loop 32 :=
  let c0_i32_245 : BitVec 32 := 0#32
  let c4_i32_246 : BitVec 32 := 4#32
  let v412 : BitVec 32 := Scalar.addi c0_i32_245 c4_i32_246
  let c1_i32_247 : BitVec 32 := 1#32
  ⟨c0_i32_245, v412, c1_i32_247⟩
def k0_mult4 (k0_t4 : Fin k0_t4_loop.trips) : BitVec 32 :=
  let c0_i32_245 : BitVec 32 := 0#32
  let c1_i32_247 : BitVec 32 := 1#32
  let arg19 : BitVec 32 := Scf.iv c0_i32_245 c1_i32_247 k0_t4
  let c128_i32 : BitVec 32 := 128#32
  let v523 : BitVec 32 := Scalar.muli arg19 c128_i32
  v523
def k0_off7 (k0_t4 : Fin k0_t4_loop.trips) (c0_i32_312 : BitVec 32) : Fin 2 → Nat :=
  let c0_i32_245 : BitVec 32 := 0#32
  let c1_i32_247 : BitVec 32 := 1#32
  let arg19 : BitVec 32 := Scf.iv c0_i32_245 c1_i32_247 k0_t4
  let c128_i32 : BitVec 32 := 128#32
  let v523 : BitVec 32 := Scalar.muli arg19 c128_i32
  let v524 : BitVec 32 := v523
  let v525 : BitVec 32 := Scalar.addi v524 c0_i32_312
  let c16_i32 : BitVec 32 := 16#32
  let v526 : BitVec 32 := Scalar.addi v525 c16_i32
  let c15_i32 : BitVec 32 := 15#32
  let v527 : BitVec 32 := Scalar.subi v526 c15_i32
  let c4_i32_313 : BitVec 32 := 4#32
  let v528 : BitVec 32 := Scalar.muli v527 c4_i32_313
  let c3_i32_314 : BitVec 32 := 3#32
  let v529 : BitVec 32 := Scalar.addi v528 c3_i32_314
  let v530 : Index := Scalar.indexCast v529
  let c0_315 : Index := 0#32
  ![v530.toNat, 0]
def k0_off8 (k0_t4 : Fin k0_t4_loop.trips) : Fin 2 → Nat :=
  let c0_i32_245 : BitVec 32 := 0#32
  let c1_i32_247 : BitVec 32 := 1#32
  let arg19 : BitVec 32 := Scf.iv c0_i32_245 c1_i32_247 k0_t4
  let c128_i32 : BitVec 32 := 128#32
  let v523 : BitVec 32 := Scalar.muli arg19 c128_i32
  let v524 : BitVec 32 := v523
  let v2575 : Index := Scalar.indexCast v524
  let c384_1072 : Index := 384#32
  ![v2575.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== SampleTailReferenceIdeal.lean ====
abbrev S32x2048x1024 : Shape := ⟨3, ![32, 2048, 1024]⟩
abbrev S32x2048x512 : Shape := ⟨3, ![32, 2048, 512]⟩
abbrev S31x512 : Shape := ⟨2, ![31, 512]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S32x2078x512 : Shape := ⟨3, ![32, 2078, 512]⟩
abbrev S512 : Shape := ⟨1, ![512]⟩
abbrev S1x1x512 : Shape := ⟨3, ![1, 1, 512]⟩
abbrev S32x2048 : Shape := ⟨2, ![32, 2048]⟩
abbrev S32x2048x1 : Shape := ⟨3, ![32, 2048, 1]⟩
abbrev S1024 : Shape := ⟨1, ![1024]⟩
abbrev S1x1x1024 : Shape := ⟨3, ![1, 1, 1024]⟩
abbrev S32x2048x4096 : Shape := ⟨3, ![32, 2048, 4096]⟩

abbrev nBuf : Space → Nat
  | .hbm => 324
  | .vmem => 0
  | .smem => 0
  | _ => 0

abbrev hbmTy0_0 (i : Nat) : BufTy := match i % 128 with
  | 0 => ⟨S32x2048x1024, .f32⟩
  | 1 => ⟨S32x2048x512, .bf16⟩
  | 2 => ⟨S32x2048x512, .f32⟩
  | 3 => ⟨S31x512, .f32⟩
  | 4 => ⟨S1x512, .f32⟩
  | 5 => ⟨S1x512, .f32⟩
  | 6 => ⟨S1x512, .f32⟩
  | 7 => ⟨S1024x1024, .bf16⟩
  | 8 => ⟨S1x1024, .f32⟩
  | 9 => ⟨S1024x4096, .bf16⟩
  | 10 => ⟨S4096x1024, .bf16⟩
  | 11 => ⟨S1x1024, .f32⟩
  | 12 => ⟨S_, .i32⟩
  | 13 => ⟨S_, .f32⟩
  | 14 => ⟨S32x2078x512, .f32⟩
  | 15 => ⟨S32x2048x512, .f32⟩
  | 16 => ⟨S1x512, .f32⟩
  | 17 => ⟨S512, .f32⟩
  | 18 => ⟨S1x1x512, .f32⟩
  | 19 => ⟨S32x2048x512, .f32⟩
  | 20 => ⟨S32x2048x512, .f32⟩
  | 21 => ⟨S_, .f32⟩
  | 22 => ⟨S32x2048x512, .f32⟩
  | 23 => ⟨S32x2048x512, .f32⟩
  | 24 => ⟨S32x2048x512, .f32⟩
  | 25 => ⟨S1x512, .f32⟩
  | 26 => ⟨S512, .f32⟩
  | 27 => ⟨S1x1x512, .f32⟩
  | 28 => ⟨S32x2048x512, .f32⟩
  | 29 => ⟨S32x2048x512, .f32⟩
  | 30 => ⟨S32x2048x512, .f32⟩
  | 31 => ⟨S32x2048x512, .f32⟩
  | 32 => ⟨S1x512, .f32⟩
  | 33 => ⟨S512, .f32⟩
  | 34 => ⟨S1x1x512, .f32⟩
  | 35 => ⟨S32x2048x512, .f32⟩
  | 36 => ⟨S32x2048x512, .f32⟩
  | 37 => ⟨S32x2048x512, .f32⟩
  | 38 => ⟨S32x2048x512, .f32⟩
  | 39 => ⟨S1x512, .f32⟩
  | 40 => ⟨S512, .f32⟩
  | 41 => ⟨S1x1x512, .f32⟩
  | 42 => ⟨S32x2048x512, .f32⟩
  | 43 => ⟨S32x2048x512, .f32⟩
  | 44 => ⟨S32x2048x512, .f32⟩
  | 45 => ⟨S32x2048x512, .f32⟩
  | 46 => ⟨S1x512, .f32⟩
  | 47 => ⟨S512, .f32⟩
  | 48 => ⟨S1x1x512, .f32⟩
  | 49 => ⟨S32x2048x512, .f32⟩
  | 50 => ⟨S32x2048x512, .f32⟩
  | 51 => ⟨S32x2048x512, .f32⟩
  | 52 => ⟨S32x2048x512, .f32⟩
  | 53 => ⟨S1x512, .f32⟩
  | 54 => ⟨S512, .f32⟩
  | 55 => ⟨S1x1x512, .f32⟩
  | 56 => ⟨S32x2048x512, .f32⟩
  | 57 => ⟨S32x2048x512, .f32⟩
  | 58 => ⟨S32x2048x512, .f32⟩
  | 59 => ⟨S32x2048x512, .f32⟩
  | 60 => ⟨S1x512, .f32⟩
  | 61 => ⟨S512, .f32⟩
  | 62 => ⟨S1x1x512, .f32⟩
  | 63 => ⟨S32x2048x512, .f32⟩
  | 64 => ⟨S32x2048x512, .f32⟩
  | 65 => ⟨S32x2048x512, .f32⟩
  | 66 => ⟨S32x2048x512, .f32⟩
  | 67 => ⟨S1x512, .f32⟩
  | 68 => ⟨S512, .f32⟩
  | 69 => ⟨S1x1x512, .f32⟩
  | 70 => ⟨S32x2048x512, .f32⟩
  | 71 => ⟨S32x2048x512, .f32⟩
  | 72 => ⟨S32x2048x512, .f32⟩
  | 73 => ⟨S32x2048x512, .f32⟩
  | 74 => ⟨S1x512, .f32⟩
  | 75 => ⟨S512, .f32⟩
  | 76 => ⟨S1x1x512, .f32⟩
  | 77 => ⟨S32x2048x512, .f32⟩
  | 78 => ⟨S32x2048x512, .f32⟩
  | 79 => ⟨S32x2048x512, .f32⟩
  | 80 => ⟨S32x2048x512, .f32⟩
  | 81 => ⟨S1x512, .f32⟩
  | 82 => ⟨S512, .f32⟩
  | 83 => ⟨S1x1x512, .f32⟩
  | 84 => ⟨S32x2048x512, .f32⟩
  | 85 => ⟨S32x2048x512, .f32⟩
  | 86 => ⟨S32x2048x512, .f32⟩
  | 87 => ⟨S32x2048x512, .f32⟩
  | 88 => ⟨S1x512, .f32⟩
  | 89 => ⟨S512, .f32⟩
  | 90 => ⟨S1x1x512, .f32⟩
  | 91 => ⟨S32x2048x512, .f32⟩
  | 92 => ⟨S32x2048x512, .f32⟩
  | 93 => ⟨S32x2048x512, .f32⟩
  | 94 => ⟨S32x2048x512, .f32⟩
  | 95 => ⟨S1x512, .f32⟩
  | 96 => ⟨S512, .f32⟩
  | 97 => ⟨S1x1x512, .f32⟩
  | 98 => ⟨S32x2048x512, .f32⟩
  | 99 => ⟨S32x2048x512, .f32⟩
  | 100 => ⟨S32x2048x512, .f32⟩
  | 101 => ⟨S32x2048x512, .f32⟩
  | 102 => ⟨S1x512, .f32⟩
  | 103 => ⟨S512, .f32⟩
  | 104 => ⟨S1x1x512, .f32⟩
  | 105 => ⟨S32x2048x512, .f32⟩
  | 106 => ⟨S32x2048x512, .f32⟩
  | 107 => ⟨S32x2048x512, .f32⟩
  | 108 => ⟨S32x2048x512, .f32⟩
  | 109 => ⟨S1x512, .f32⟩
  | 110 => ⟨S512, .f32⟩
  | 111 => ⟨S1x1x512, .f32⟩
  | 112 => ⟨S32x2048x512, .f32⟩
  | 113 => ⟨S32x2048x512, .f32⟩
  | 114 => ⟨S32x2048x512, .f32⟩
  | 115 => ⟨S32x2048x512, .f32⟩
  | 116 => ⟨S1x512, .f32⟩
  | 117 => ⟨S512, .f32⟩
  | 118 => ⟨S1x1x512, .f32⟩
  | 119 => ⟨S32x2048x512, .f32⟩
  | 120 => ⟨S32x2048x512, .f32⟩
  | 121 => ⟨S32x2048x512, .f32⟩
  | 122 => ⟨S32x2048x512, .f32⟩
  | 123 => ⟨S1x512, .f32⟩
  | 124 => ⟨S512, .f32⟩
  | 125 => ⟨S1x1x512, .f32⟩
  | 126 => ⟨S32x2048x512, .f32⟩
  | 127 => ⟨S32x2048x512, .f32⟩
  | _ => ⟨S32x2048x1024, .f32⟩

abbrev hbmTy0_1 (i : Nat) : BufTy := match i % 128 with
  | 0 => ⟨S32x2048x512, .f32⟩
  | 1 => ⟨S32x2048x512, .f32⟩
  | 2 => ⟨S1x512, .f32⟩
  | 3 => ⟨S512, .f32⟩
  | 4 => ⟨S1x1x512, .f32⟩
  | 5 => ⟨S32x2048x512, .f32⟩
  | 6 => ⟨S32x2048x512, .f32⟩
  | 7 => ⟨S32x2048x512, .f32⟩
  | 8 => ⟨S32x2048x512, .f32⟩
  | 9 => ⟨S1x512, .f32⟩
  | 10 => ⟨S512, .f32⟩
  | 11 => ⟨S1x1x512, .f32⟩
  | 12 => ⟨S32x2048x512, .f32⟩
  | 13 => ⟨S32x2048x512, .f32⟩
  | 14 => ⟨S32x2048x512, .f32⟩
  | 15 => ⟨S32x2048x512, .f32⟩
  | 16 => ⟨S1x512, .f32⟩
  | 17 => ⟨S512, .f32⟩
  | 18 => ⟨S1x1x512, .f32⟩
  | 19 => ⟨S32x2048x512, .f32⟩
  | 20 => ⟨S32x2048x512, .f32⟩
  | 21 => ⟨S32x2048x512, .f32⟩
  | 22 => ⟨S32x2048x512, .f32⟩
  | 23 => ⟨S1x512, .f32⟩
  | 24 => ⟨S512, .f32⟩
  | 25 => ⟨S1x1x512, .f32⟩
  | 26 => ⟨S32x2048x512, .f32⟩
  | 27 => ⟨S32x2048x512, .f32⟩
  | 28 => ⟨S32x2048x512, .f32⟩
  | 29 => ⟨S32x2048x512, .f32⟩
  | 30 => ⟨S1x512, .f32⟩
  | 31 => ⟨S512, .f32⟩
  | 32 => ⟨S1x1x512, .f32⟩
  | 33 => ⟨S32x2048x512, .f32⟩
  | 34 => ⟨S32x2048x512, .f32⟩
  | 35 => ⟨S32x2048x512, .f32⟩
  | 36 => ⟨S32x2048x512, .f32⟩
  | 37 => ⟨S1x512, .f32⟩
  | 38 => ⟨S512, .f32⟩
  | 39 => ⟨S1x1x512, .f32⟩
  | 40 => ⟨S32x2048x512, .f32⟩
  | 41 => ⟨S32x2048x512, .f32⟩
  | 42 => ⟨S32x2048x512, .f32⟩
  | 43 => ⟨S32x2048x512, .f32⟩
  | 44 => ⟨S1x512, .f32⟩
  | 45 => ⟨S512, .f32⟩
  | 46 => ⟨S1x1x512, .f32⟩
  | 47 => ⟨S32x2048x512, .f32⟩
  | 48 => ⟨S32x2048x512, .f32⟩
  | 49 => ⟨S32x2048x512, .f32⟩
  | 50 => ⟨S32x2048x512, .f32⟩
  | 51 => ⟨S1x512, .f32⟩
  | 52 => ⟨S512, .f32⟩
  | 53 => ⟨S1x1x512, .f32⟩
  | 54 => ⟨S32x2048x512, .f32⟩
  | 55 => ⟨S32x2048x512, .f32⟩
  | 56 => ⟨S32x2048x512, .f32⟩
  | 57 => ⟨S32x2048x512, .f32⟩
  | 58 => ⟨S1x512, .f32⟩
  | 59 => ⟨S512, .f32⟩
  | 60 => ⟨S1x1x512, .f32⟩
  | 61 => ⟨S32x2048x512, .f32⟩
  | 62 => ⟨S32x2048x512, .f32⟩
  | 63 => ⟨S32x2048x512, .f32⟩
  | 64 => ⟨S32x2048x512, .f32⟩
  | 65 => ⟨S1x512, .f32⟩
  | 66 => ⟨S512, .f32⟩
  | 67 => ⟨S1x1x512, .f32⟩
  | 68 => ⟨S32x2048x512, .f32⟩
  | 69 => ⟨S32x2048x512, .f32⟩
  | 70 => ⟨S32x2048x512, .f32⟩
  | 71 => ⟨S32x2048x512, .f32⟩
  | 72 => ⟨S1x512, .f32⟩
  | 73 => ⟨S512, .f32⟩
  | 74 => ⟨S1x1x512, .f32⟩
  | 75 => ⟨S32x2048x512, .f32⟩
  | 76 => ⟨S32x2048x512, .f32⟩
  | 77 => ⟨S32x2048x512, .f32⟩
  | 78 => ⟨S32x2048x512, .f32⟩
  | 79 => ⟨S1x512, .f32⟩
  | 80 => ⟨S512, .f32⟩
  | 81 => ⟨S1x1x512, .f32⟩
  | 82 => ⟨S32x2048x512, .f32⟩
  | 83 => ⟨S32x2048x512, .f32⟩
  | 84 => ⟨S32x2048x512, .f32⟩
  | 85 => ⟨S32x2048x512, .f32⟩
  | 86 => ⟨S1x512, .f32⟩
  | 87 => ⟨S512, .f32⟩
  | 88 => ⟨S1x1x512, .f32⟩
  | 89 => ⟨S32x2048x512, .f32⟩
  | 90 => ⟨S32x2048x512, .f32⟩
  | 91 => ⟨S32x2048x512, .f32⟩
  | 92 => ⟨S32x2048x512, .f32⟩
  | 93 => ⟨S1x512, .f32⟩
  | 94 => ⟨S512, .f32⟩
  | 95 => ⟨S1x1x512, .f32⟩
  | 96 => ⟨S32x2048x512, .f32⟩
  | 97 => ⟨S32x2048x512, .f32⟩
  | 98 => ⟨S32x2048x512, .f32⟩
  | 99 => ⟨S32x2048x512, .f32⟩
  | 100 => ⟨S1x512, .f32⟩
  | 101 => ⟨S512, .f32⟩
  | 102 => ⟨S1x1x512, .f32⟩
  | 103 => ⟨S32x2048x512, .f32⟩
  | 104 => ⟨S32x2048x512, .f32⟩
  | 105 => ⟨S32x2048x512, .f32⟩
  | 106 => ⟨S512, .f32⟩
  | 107 => ⟨S1x1x512, .f32⟩
  | 108 => ⟨S32x2048x512, .f32⟩
  | 109 => ⟨S32x2048x512, .f32⟩
  | 110 => ⟨S_, .f32⟩
  | 111 => ⟨S32x2048, .f32⟩
  | 112 => ⟨S32x2048x1, .f32⟩
  | 113 => ⟨S_, .f32⟩
  | 114 => ⟨S32x2048x1, .f32⟩
  | 115 => ⟨S32x2048x1, .f32⟩
  | 116 => ⟨S32x2048x512, .f32⟩
  | 117 => ⟨S32x2048x512, .f32⟩
  | 118 => ⟨S32x2048x512, .f32⟩
  | 119 => ⟨S_, .f32⟩
  | 120 => ⟨S32x2048, .f32⟩
  | 121 => ⟨S32x2048x1, .f32⟩
  | 122 => ⟨S_, .f32⟩
  | 123 => ⟨S32x2048x1, .f32⟩
  | 124 => ⟨S32x2048x1, .f32⟩
  | 125 => ⟨S_, .f32⟩
  | 126 => ⟨S32x2048x1, .f32⟩
  | 127 => ⟨S32x2048x1, .f32⟩
  | _ => ⟨S32x2048x1024, .f32⟩

abbrev hbmTy0_2 (i : Nat) : BufTy := match i % 128 with
  | 0 => ⟨S32x2048x1, .f32⟩
  | 1 => ⟨S32x2048x512, .f32⟩
  | 2 => ⟨S32x2048x512, .f32⟩
  | 3 => ⟨S512, .f32⟩
  | 4 => ⟨S1x1x512, .f32⟩
  | 5 => ⟨S32x2048x512, .f32⟩
  | 6 => ⟨S32x2048x512, .f32⟩
  | 7 => ⟨S512, .f32⟩
  | 8 => ⟨S1x1x512, .f32⟩
  | 9 => ⟨S32x2048x512, .f32⟩
  | 10 => ⟨S32x2048x512, .f32⟩
  | 11 => ⟨S32x2048x512, .f32⟩
  | 12 => ⟨S32x2048x512, .f32⟩
  | 13 => ⟨S_, .f32⟩
  | 14 => ⟨S32x2048x512, .f32⟩
  | 15 => ⟨S32x2048x512, .f32⟩
  | 16 => ⟨S_, .f32⟩
  | 17 => ⟨S32x2048x512, .f32⟩
  | 18 => ⟨S32x2048x512, .f32⟩
  | 19 => ⟨S32x2048x512, .f32⟩
  | 20 => ⟨S32x2048x512, .f32⟩
  | 21 => ⟨S32x2048x1024, .f32⟩
  | 22 => ⟨S1024x1024, .f32⟩
  | 23 => ⟨S32x2048x1024, .f32⟩
  | 24 => ⟨S32x2048x1024, .f32⟩
  | 25 => ⟨S32x2048x1024, .f32⟩
  | 26 => ⟨S_, .f32⟩
  | 27 => ⟨S32x2048, .f32⟩
  | 28 => ⟨S32x2048x1, .f32⟩
  | 29 => ⟨S_, .f32⟩
  | 30 => ⟨S32x2048x1, .f32⟩
  | 31 => ⟨S32x2048x1, .f32⟩
  | 32 => ⟨S_, .f32⟩
  | 33 => ⟨S32x2048x1, .f32⟩
  | 34 => ⟨S32x2048x1, .f32⟩
  | 35 => ⟨S32x2048x1, .f32⟩
  | 36 => ⟨S32x2048x1024, .f32⟩
  | 37 => ⟨S32x2048x1024, .f32⟩
  | 38 => ⟨S1024, .f32⟩
  | 39 => ⟨S1x1x1024, .f32⟩
  | 40 => ⟨S32x2048x1024, .f32⟩
  | 41 => ⟨S32x2048x1024, .f32⟩
  | 42 => ⟨S1024x4096, .f32⟩
  | 43 => ⟨S32x2048x4096, .f32⟩
  | 44 => ⟨S_, .f32⟩
  | 45 => ⟨S32x2048x4096, .f32⟩
  | 46 => ⟨S32x2048x4096, .f32⟩
  | 47 => ⟨S32x2048x4096, .f32⟩
  | 48 => ⟨S4096x1024, .f32⟩
  | 49 => ⟨S32x2048x1024, .f32⟩
  | 50 => ⟨S32x2048x1024, .f32⟩
  | 51 => ⟨S32x2048x1024, .f32⟩
  | 52 => ⟨S_, .f32⟩
  | 53 => ⟨S32x2048, .f32⟩
  | 54 => ⟨S32x2048x1, .f32⟩
  | 55 => ⟨S_, .f32⟩
  | 56 => ⟨S32x2048x1, .f32⟩
  | 57 => ⟨S32x2048x1, .f32⟩
  | 58 => ⟨S_, .f32⟩
  | 59 => ⟨S32x2048x1, .f32⟩
  | 60 => ⟨S32x2048x1, .f32⟩
  | 61 => ⟨S32x2048x1, .f32⟩
  | 62 => ⟨S32x2048x1024, .f32⟩
  | 63 => ⟨S32x2048x1024, .f32⟩
  | 64 => ⟨S1024, .f32⟩
  | 65 => ⟨S1x1x1024, .f32⟩
  | 66 => ⟨S32x2048x1024, .f32⟩
  | 67 => ⟨S32x2048x1024, .f32⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_cst_0 : Ref sig .tc := ⟨.hbm, 238, rfl⟩
abbrev main_v223 : Ref sig .tc := ⟨.hbm, 239, rfl⟩
abbrev main_v224 : Ref sig .tc := ⟨.hbm, 240, rfl⟩
abbrev main_cst_1 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_cst_2 : Ref sig .tc := ⟨.hbm, 247, rfl⟩
abbrev main_v230 : Ref sig .tc := ⟨.hbm, 248, rfl⟩
abbrev main_v231 : Ref sig .tc := ⟨.hbm, 249, rfl⟩
abbrev main_cst_3 : Ref sig .tc := ⟨.hbm, 250, rfl⟩
abbrev main_v232 : Ref sig .tc := ⟨.hbm, 251, rfl⟩
abbrev main_v233 : Ref sig .tc := ⟨.hbm, 252, rfl⟩
abbrev main_cst_4 : Ref sig .tc := ⟨.hbm, 253, rfl⟩
abbrev main_v234 : Ref sig .tc := ⟨.hbm, 254, rfl⟩
abbrev main_v235 : Ref sig .tc := ⟨.hbm, 255, rfl⟩
abbrev main_v236 : Ref sig .tc := ⟨.hbm, 256, rfl⟩
abbrev main_v237 : Ref sig .tc := ⟨.hbm, 257, rfl⟩
abbrev main_v238 : Ref sig .tc := ⟨.hbm, 258, rfl⟩
abbrev main_v239 : Ref sig .tc := ⟨.hbm, 259, rfl⟩
abbrev main_v240 : Ref sig .tc := ⟨.hbm, 260, rfl⟩
abbrev main_v241 : Ref sig .tc := ⟨.hbm, 261, rfl⟩
abbrev main_v242 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩
abbrev main_call1_v0 : Ref sig .tc := ⟨.hbm, 267, rfl⟩
abbrev main_call1_v1 : Ref sig .tc := ⟨.hbm, 268, rfl⟩
abbrev main_call1_cst : Ref sig .tc := ⟨.hbm, 269, rfl⟩
abbrev main_call1_v2 : Ref sig .tc := ⟨.hbm, 270, rfl⟩
abbrev main_call1_v3 : Ref sig .tc := ⟨.hbm, 271, rfl⟩
abbrev main_call1_cst_0 : Ref sig .tc := ⟨.hbm, 272, rfl⟩
abbrev main_call1_v4 : Ref sig .tc := ⟨.hbm, 273, rfl⟩
abbrev main_call1_v5 : Ref sig .tc := ⟨.hbm, 274, rfl⟩
abbrev main_v247 : Ref sig .tc := ⟨.hbm, 275, rfl⟩
abbrev main_v248 : Ref sig .tc := ⟨.hbm, 276, rfl⟩
abbrev main_v249 : Ref sig .tc := ⟨.hbm, 277, rfl⟩
abbrev main_v250 : Ref sig .tc := ⟨.hbm, 278, rfl⟩
abbrev main_v251 : Ref sig .tc := ⟨.hbm, 279, rfl⟩
abbrev main_v252 : Ref sig .tc := ⟨.hbm, 280, rfl⟩
abbrev main_v253 : Ref sig .tc := ⟨.hbm, 281, rfl⟩
abbrev main_cst_5 : Ref sig .tc := ⟨.hbm, 282, rfl⟩
abbrev main_v254 : Ref sig .tc := ⟨.hbm, 283, rfl⟩
abbrev main_v255 : Ref sig .tc := ⟨.hbm, 284, rfl⟩
abbrev main_cst_6 : Ref sig .tc := ⟨.hbm, 285, rfl⟩
abbrev main_v256 : Ref sig .tc := ⟨.hbm, 286, rfl⟩
abbrev main_v257 : Ref sig .tc := ⟨.hbm, 287, rfl⟩
abbrev main_cst_7 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_call2_cst : Ref sig .tc := ⟨.hbm, 300, rfl⟩
abbrev main_call2_v0 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_v274 : Ref sig .tc := ⟨.hbm, 307, rfl⟩
abbrev main_cst_8 : Ref sig .tc := ⟨.hbm, 308, rfl⟩
abbrev main_v275 : Ref sig .tc := ⟨.hbm, 309, rfl⟩
abbrev main_v276 : Ref sig .tc := ⟨.hbm, 310, rfl⟩
abbrev main_cst_9 : Ref sig .tc := ⟨.hbm, 311, rfl⟩
abbrev main_v277 : Ref sig .tc := ⟨.hbm, 312, rfl⟩
abbrev main_v278 : Ref sig .tc := ⟨.hbm, 313, rfl⟩
abbrev main_cst_10 : Ref sig .tc := ⟨.hbm, 314, rfl⟩
abbrev main_v279 : Ref sig .tc := ⟨.hbm, 315, rfl⟩
abbrev main_v280 : Ref sig .tc := ⟨.hbm, 316, rfl⟩
abbrev main_v281 : Ref sig .tc := ⟨.hbm, 317, rfl⟩
abbrev main_v282 : Ref sig .tc := ⟨.hbm, 318, rfl⟩
abbrev main_v283 : Ref sig .tc := ⟨.hbm, 319, rfl⟩
abbrev main_v284 : Ref sig .tc := ⟨.hbm, 320, rfl⟩
abbrev main_v285 : Ref sig .tc := ⟨.hbm, 321, rfl⟩
abbrev main_v286 : Ref sig .tc := ⟨.hbm, 322, rfl⟩
abbrev main_v287 : Ref sig .tc := ⟨.hbm, 323, rfl⟩

abbrev nD : Nat := 1
abbrev τ : Topo := Topo.v7x

variable {F : FTy → Type} [FloatOps F]
-- ==== SampleAttn.lean ====
abbrev S32x8x4x64x512 : Shape := ⟨5, ![32, 8, 4, 64, 512]⟩
abbrev S32x2x2048x64 : Shape := ⟨4, ![32, 2, 2048, 64]⟩
abbrev S32x2x4x64x512 : Shape := ⟨5, ![32, 2, 4, 64, 512]⟩
abbrev S32x2048x512 : Shape := ⟨3, ![32, 2048, 512]⟩
abbrev S1x4x1x64x512 : Shape := ⟨5, ![1, 4, 1, 64, 512]⟩
abbrev S1x1x2048x64 : Shape := ⟨4, ![1, 1, 2048, 64]⟩
abbrev S1x1x4x64x512 : Shape := ⟨5, ![1, 1, 4, 64, 512]⟩
abbrev S1x512x256 : Shape := ⟨3, ![1, 512, 256]⟩
abbrev S1x1x1x64x512 : Shape := ⟨5, ![1, 1, 1, 64, 512]⟩
abbrev S64x512 : Shape := ⟨2, ![64, 512]⟩
abbrev S1x512 : Shape := ⟨2, ![1, 512]⟩
abbrev S1x1x512x64 : Shape := ⟨4, ![1, 1, 512, 64]⟩
abbrev S512x64 : Shape := ⟨2, ![512, 64]⟩
abbrev S512x512 : Shape := ⟨2, ![512, 512]⟩
abbrev S512 : Shape := ⟨1, ![512]⟩
abbrev S256x512 : Shape := ⟨2, ![256, 512]⟩
abbrev S512x256 : Shape := ⟨2, ![512, 256]⟩

abbrev nBuf : Space → Nat
  | .hbm => 4
  | .vmem => 8
  | .smem => 0
  | _ => 0

abbrev bufTy : (tb : Table) → Fin (tcTables nBuf tb) → BufTy
  | .hbm, ⟨0, _⟩ => ⟨S32x8x4x64x512, .bf16⟩
  | .hbm, ⟨1, _⟩ => ⟨S32x2x2048x64, .bf16⟩
  | .hbm, ⟨2, _⟩ => ⟨S32x2x4x64x512, .bf16⟩
  | .hbm, ⟨3, _⟩ => ⟨S32x2048x512, .bf16⟩
  | .local _ .vmem, ⟨0, _⟩ => ⟨S1x4x1x64x512, .bf16⟩
  | .local _ .vmem, ⟨1, _⟩ => ⟨S1x4x1x64x512, .bf16⟩
  | .local _ .vmem, ⟨2, _⟩ => ⟨S1x1x2048x64, .bf16⟩
  | .local _ .vmem, ⟨3, _⟩ => ⟨S1x1x2048x64, .bf16⟩
  | .local _ .vmem, ⟨4, _⟩ => ⟨S1x1x4x64x512, .bf16⟩
  | .local _ .vmem, ⟨5, _⟩ => ⟨S1x1x4x64x512, .bf16⟩
  | .local _ .vmem, ⟨6, _⟩ => ⟨S1x512x256, .bf16⟩
  | .local _ .vmem, ⟨7, _⟩ => ⟨S1x512x256, .bf16⟩
  | _, _ => ⟨S32x8x4x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 2, 4], ![false, false, false]⟩

@[reducible] def k0_t1_loop : Scf.Loop 32 :=
  let c0_i32 : BitVec 32 := 0#32
  let c4_i32 : BitVec 32 := 4#32
  let v5 : BitVec 32 := Scalar.addi c0_i32 c4_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v42 : BitVec 32 := Scalar.muli arg7 c512_i32
  v42
def k0_off1 (k0_t1 : Fin k0_t1_loop.trips) : Fin 4 → Nat :=
  let c0_43 : Index := 0#32
  let c0_44 : Index := 0#32
  let c0_i32 : BitVec 32 := 0#32
  let c1_i32 : BitVec 32 := 1#32
  let arg7 : BitVec 32 := Scf.iv c0_i32 c1_i32 k0_t1
  let c512_i32 : BitVec 32 := 512#32
  let v42 : BitVec 32 := Scalar.muli arg7 c512_i32
  let v43 : BitVec 32 := v42
  let v44 : Index := Scalar.indexCast v43
  let c0_45 : Index := 0#32
  ![0, 0, v44.toNat, 0]
def k0_off2 (k0_t1 : Fin k0_t1_loop.trips) : Fin 5 → Nat :=
  let c0_49 : Index := 0#32
  let c0_50 : Index := 0#32
  let c0_i32 : BitVec 32 := 0#32
  let c1_i32 : BitVec 32 := 1#32
  let arg7 : BitVec 32 := Scf.iv c0_i32 c1_i32 k0_t1
  let v60 : Index := Scalar.indexCast arg7
  let c0_51 : Index := 0#32
  let c0_52 : Index := 0#32
  ![0, 0, v60.toNat, 0, 0]
@[reducible] def k0_t2_loop : Scf.Loop 32 :=
  let c0_i32_14 : BitVec 32 := 0#32
  let c4_i32_15 : BitVec 32 := 4#32
  let v14 : BitVec 32 := Scalar.addi c0_i32_14 c4_i32_15
  let c1_i32_16 : BitVec 32 := 1#32
  ⟨c0_i32_14, v14, c1_i32_16⟩
def k0_mult2 (k0_t2 : Fin k0_t2_loop.trips) : BitVec 32 :=
  let c0_i32_14 : BitVec 32 := 0#32
  let c1_i32_16 : BitVec 32 := 1#32
  let arg7 : BitVec 32 := Scf.iv c0_i32_14 c1_i32_16 k0_t2
  let c512_i32 : BitVec 32 := 512#32
  let v42 : BitVec 32 := Scalar.muli arg7 c512_i32
  v42
def k0_off3 (k0_t2 : Fin k0_t2_loop.trips) : Fin 4 → Nat :=
  let c0_43 : Index := 0#32
  let c0_44 : Index := 0#32
  let c0_i32_14 : BitVec 32 := 0#32
  let c1_i32_16 : BitVec 32 := 1#32
  let arg7 : BitVec 32 := Scf.iv c0_i32_14 c1_i32_16 k0_t2
  let c512_i32 : BitVec 32 := 512#32
  let v42 : BitVec 32 := Scalar.muli arg7 c512_i32
  let v43 : BitVec 32 := v42
  let v44 : Index := Scalar.indexCast v43
  let c0_45 : Index := 0#32
  ![0, 0, v44.toNat, 0]
def k0_off4 (k0_t2 : Fin k0_t2_loop.trips) : Fin 5 → Nat :=
  let c0_49 : Index := 0#32
  let c0_50 : Index := 0#32
  let c0_i32_14 : BitVec 32 := 0#32
  let c1_i32_16 : BitVec 32 := 1#32
  let arg7 : BitVec 32 := Scf.iv c0_i32_14 c1_i32_16 k0_t2
  let v60 : Index := Scalar.indexCast arg7
  let c0_51 : Index := 0#32
  let c0_52 : Index := 0#32
  ![0, 0, v60.toNat, 0, 0]
@[reducible] def k0_t3_loop : Scf.Loop 32 :=
  let c0_i32_25 : BitVec 32 := 0#32
  let c4_i32_26 : BitVec 32 := 4#32
  let v23 : BitVec 32 := Scalar.addi c0_i32_25 c4_i32_26
  let c1_i32_27 : BitVec 32 := 1#32
  ⟨c0_i32_25, v23, c1_i32_27⟩
def k0_mult3 (k0_t3 : Fin k0_t3_loop.trips) : BitVec 32 :=
  let c0_i32_25 : BitVec 32 := 0#32
  let c1_i32_27 : BitVec 32 := 1#32
  let arg7 : BitVec 32 := Scf.iv c0_i32_25 c1_i32_27 k0_t3
  let c512_i32 : BitVec 32 := 512#32
  let v42 : BitVec 32 := Scalar.muli arg7 c512_i32
  v42
def k0_off5 (k0_t3 : Fin k0_t3_loop.trips) : Fin 4 → Nat :=
  let c0_43 : Index := 0#32
  let c0_44 : Index := 0#32
  let c0_i32_25 : BitVec 32 := 0#32
  let c1_i32_27 : BitVec 32 := 1#32
  let arg7 : BitVec 32 := Scf.iv c0_i32_25 c1_i32_27 k0_t3
  let c512_i32 : BitVec 32 := 512#32
  let v42 : BitVec 32 := Scalar.muli arg7 c512_i32
  let v43 : BitVec 32 := v42
  let v44 : Index := Scalar.indexCast v43
  let c0_45 : Index := 0#32
  ![0, 0, v44.toNat, 0]
def k0_off6 (k0_t3 : Fin k0_t3_loop.trips) : Fin 5 → Nat :=
  let c0_49 : Index := 0#32
  let c0_50 : Index := 0#32
  let c0_i32_25 : BitVec 32 := 0#32
  let c1_i32_27 : BitVec 32 := 1#32
  let arg7 : BitVec 32 := Scf.iv c0_i32_25 c1_i32_27 k0_t3
  let v60 : Index := Scalar.indexCast arg7
  let c0_51 : Index := 0#32
  let c0_52 : Index := 0#32
  ![0, 0, v60.toNat, 0, 0]
@[reducible] def k0_t4_loop : Scf.Loop 32 :=
  let c0_i32_36 : BitVec 32 := 0#32
  let c4_i32_37 : BitVec 32 := 4#32
  let v32 : BitVec 32 := Scalar.addi c0_i32_36 c4_i32_37
  let c1_i32_38 : BitVec 32 := 1#32
  ⟨c0_i32_36, v32, c1_i32_38⟩
def k0_mult4 (k0_t4 : Fin k0_t4_loop.trips) : BitVec 32 :=
  let c0_i32_36 : BitVec 32 := 0#32
  let c1_i32_38 : BitVec 32 := 1#32
  let arg7 : BitVec 32 := Scf.iv c0_i32_36 c1_i32_38 k0_t4
  let c512_i32 : BitVec 32 := 512#32
  let v42 : BitVec 32 := Scalar.muli arg7 c512_i32
  v42
def k0_off7 (k0_t4 : Fin k0_t4_loop.trips) : Fin 4 → Nat :=
  let c0_43 : Index := 0#32
  let c0_44 : Index := 0#32
  let c0_i32_36 : BitVec 32 := 0#32
  let c1_i32_38 : BitVec 32 := 1#32
  let arg7 : BitVec 32 := Scf.iv c0_i32_36 c1_i32_38 k0_t4
  let c512_i32 : BitVec 32 := 512#32
  let v42 : BitVec 32 := Scalar.muli arg7 c512_i32
  let v43 : BitVec 32 := v42
  let v44 : Index := Scalar.indexCast v43
  let c0_45 : Index := 0#32
  ![0, 0, v44.toNat, 0]
def k0_off8 (k0_t4 : Fin k0_t4_loop.trips) : Fin 5 → Nat :=
  let c0_49 : Index := 0#32
  let c0_50 : Index := 0#32
  let c0_i32_36 : BitVec 32 := 0#32
  let c1_i32_38 : BitVec 32 := 1#32
  let arg7 : BitVec 32 := Scf.iv c0_i32_36 c1_i32_38 k0_t4
  let v60 : Index := Scalar.indexCast arg7
  let c0_51 : Index := 0#32
  let c0_52 : Index := 0#32
  ![0, 0, v60.toNat, 0, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== SampleAttnReferenceIdeal.lean ====
abbrev S32x8x4x64x512 : Shape := ⟨5, ![32, 8, 4, 64, 512]⟩
abbrev S32x2x2048x64 : Shape := ⟨4, ![32, 2, 2048, 64]⟩
abbrev S32x2x4x64x512 : Shape := ⟨5, ![32, 2, 4, 64, 512]⟩
abbrev S32x4x512x8x64 : Shape := ⟨5, ![32, 4, 512, 8, 64]⟩
abbrev S32x2048x2x4x64 : Shape := ⟨5, ![32, 2048, 2, 4, 64]⟩
abbrev S32x2x4x512x64 : Shape := ⟨5, ![32, 2, 4, 512, 64]⟩
abbrev S32x2x2048x2048x4 : Shape := ⟨5, ![32, 2, 2048, 2048, 4]⟩
abbrev S32x2x4x2048x2048 : Shape := ⟨5, ![32, 2, 4, 2048, 2048]⟩
abbrev S_ : Shape := ⟨0, ![]⟩
abbrev S32x2x4x2048 : Shape := ⟨4, ![32, 2, 4, 2048]⟩
abbrev S32x2x4x2048x1 : Shape := ⟨5, ![32, 2, 4, 2048, 1]⟩
abbrev S32x2x64x4x2048 : Shape := ⟨5, ![32, 2, 64, 4, 2048]⟩
abbrev S32x2048x512 : Shape := ⟨3, ![32, 2048, 512]⟩

abbrev nBuf : Space → Nat
  | .hbm => 34
  | .vmem => 0
  | .smem => 0
  | _ => 0

abbrev bufTy : (tb : Table) → Fin (tcTables nBuf tb) → BufTy
  | .hbm, ⟨0, _⟩ => ⟨S32x8x4x64x512, .bf16⟩
  | .hbm, ⟨1, _⟩ => ⟨S32x2x2048x64, .bf16⟩
  | .hbm, ⟨2, _⟩ => ⟨S32x2x4x64x512, .bf16⟩
  | .hbm, ⟨3, _⟩ => ⟨S32x8x4x64x512, .f32⟩
  | .hbm, ⟨4, _⟩ => ⟨S32x4x512x8x64, .f32⟩
  | .hbm, ⟨5, _⟩ => ⟨S32x2048x2x4x64, .f32⟩
  | .hbm, ⟨6, _⟩ => ⟨S32x2x2048x64, .f32⟩
  | .hbm, ⟨7, _⟩ => ⟨S32x2x4x64x512, .f32⟩
  | .hbm, ⟨8, _⟩ => ⟨S32x2x4x512x64, .f32⟩
  | .hbm, ⟨9, _⟩ => ⟨S32x2x2048x64, .f32⟩
  | .hbm, ⟨10, _⟩ => ⟨S32x2x2048x2048x4, .f32⟩
  | .hbm, ⟨11, _⟩ => ⟨S32x2x4x2048x2048, .f32⟩
  | .hbm, ⟨12, _⟩ => ⟨S_, .f32⟩
  | .hbm, ⟨13, _⟩ => ⟨S_, .f32⟩
  | .hbm, ⟨14, _⟩ => ⟨S32x2x4x2048x2048, .f32⟩
  | .hbm, ⟨15, _⟩ => ⟨S32x2x4x2048x2048, .f32⟩
  | .hbm, ⟨16, _⟩ => ⟨S_, .f32⟩
  | .hbm, ⟨17, _⟩ => ⟨S32x2x4x2048, .f32⟩
  | .hbm, ⟨18, _⟩ => ⟨S_, .f32⟩
  | .hbm, ⟨19, _⟩ => ⟨S32x2x4x2048, .f32⟩
  | .hbm, ⟨20, _⟩ => ⟨S32x2x4x2048, .f32⟩
  | .hbm, ⟨21, _⟩ => ⟨S32x2x4x2048x1, .f32⟩
  | .hbm, ⟨22, _⟩ => ⟨S32x2x4x2048x2048, .f32⟩
  | .hbm, ⟨23, _⟩ => ⟨S32x2x4x2048x2048, .f32⟩
  | .hbm, ⟨24, _⟩ => ⟨S32x2x4x2048x2048, .f32⟩
  | .hbm, ⟨25, _⟩ => ⟨S_, .f32⟩
  | .hbm, ⟨26, _⟩ => ⟨S32x2x4x2048, .f32⟩
  | .hbm, ⟨27, _⟩ => ⟨S32x2x4x2048x1, .f32⟩
  | .hbm, ⟨28, _⟩ => ⟨S32x2x4x2048x2048, .f32⟩
  | .hbm, ⟨29, _⟩ => ⟨S32x2x4x2048x2048, .f32⟩
  | .hbm, ⟨30, _⟩ => ⟨S32x2x64x4x2048, .f32⟩
  | .hbm, ⟨31, _⟩ => ⟨S32x2048x2x4x64, .f32⟩
  | .hbm, ⟨32, _⟩ => ⟨S32x2048x512, .f32⟩
  | .hbm, ⟨33, _⟩ => ⟨S32x2048x512, .bf16⟩
  | _, _ => ⟨S32x8x4x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== SampleProj.lean ====
abbrev S32x2048x1024 : Shape := ⟨3, ![32, 2048, 1024]⟩
abbrev S1x1024 : Shape := ⟨2, ![1, 1024]⟩
abbrev S768x1024 : Shape := ⟨2, ![768, 1024]⟩
abbrev S1024x1024 : Shape := ⟨2, ![1024, 1024]⟩
abbrev S4x64x2048 : Shape := ⟨3, ![4, 64, 2048]⟩
abbrev S32x8x4x64x512 : Shape := ⟨5, ![32, 8, 4, 64, 512]⟩
abbrev S32x2x2048x64 : Shape := ⟨4, ![32, 2, 2048, 64]⟩
abbrev S32x2x4x64x512 : Shape := ⟨5, ![32, 2, 4, 64, 512]⟩
abbrev S32x2048x512 : Shape := ⟨3, ![32, 2048, 512]⟩
abbrev S1x512x1024 : Shape := ⟨3, ![1, 512, 1024]⟩
abbrev S4x64x512 : Shape := ⟨3, ![4, 64, 512]⟩
abbrev S1x8x1x64x512 : Shape := ⟨5, ![1, 8, 1, 64, 512]⟩
abbrev S1x2x512x64 : Shape := ⟨4, ![1, 2, 512, 64]⟩
abbrev S1x2x1x64x512 : Shape := ⟨5, ![1, 2, 1, 64, 512]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S768x512 : Shape := ⟨2, ![768, 512]⟩
abbrev S64x512 : Shape := ⟨2, ![64, 512]⟩
abbrev S1x64x512 : Shape := ⟨3, ![1, 64, 512]⟩
abbrev S1x512 : Shape := ⟨2, ![1, 512]⟩
abbrev S16x512 : Shape := ⟨2, ![16, 512]⟩
abbrev S1x1x1x64x512 : Shape := ⟨5, ![1, 1, 1, 64, 512]⟩
abbrev S128x512 : Shape := ⟨2, ![128, 512]⟩
abbrev S512x128 : Shape := ⟨2, ![512, 128]⟩
abbrev S512x64 : Shape := ⟨2, ![512, 64]⟩
abbrev S1x1x512x64 : Shape := ⟨4, ![1, 1, 512, 64]⟩

abbrev nBuf : Space → Nat
  | .hbm => 9
  | .vmem => 15
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S768x1024, .bf16⟩
  | .hbm, ⟨3, _⟩ => ⟨S1024x1024, .bf16⟩
  | .hbm, ⟨4, _⟩ => ⟨S4x64x2048, .f32⟩
  | .hbm, ⟨5, _⟩ => ⟨S32x8x4x64x512, .bf16⟩
  | .hbm, ⟨6, _⟩ => ⟨S32x2x2048x64, .bf16⟩
  | .hbm, ⟨7, _⟩ => ⟨S32x2x4x64x512, .bf16⟩
  | .hbm, ⟨8, _⟩ => ⟨S32x2048x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S768x1024, .bf16⟩
  | .local _ .vmem, ⟨4, _⟩ => ⟨S1024x1024, .bf16⟩
  | .local _ .vmem, ⟨5, _⟩ => ⟨S4x64x512, .f32⟩
  | .local _ .vmem, ⟨6, _⟩ => ⟨S4x64x512, .f32⟩
  | .local _ .vmem, ⟨7, _⟩ => ⟨S1x8x1x64x512, .bf16⟩
  | .local _ .vmem, ⟨8, _⟩ => ⟨S1x8x1x64x512, .bf16⟩
  | .local _ .vmem, ⟨9, _⟩ => ⟨S1x2x512x64, .bf16⟩
  | .local _ .vmem, ⟨10, _⟩ => ⟨S1x2x512x64, .bf16⟩
  | .local _ .vmem, ⟨11, _⟩ => ⟨S1x2x1x64x512, .bf16⟩
  | .local _ .vmem, ⟨12, _⟩ => ⟨S1x2x1x64x512, .bf16⟩
  | .local _ .vmem, ⟨13, _⟩ => ⟨S1x512x512, .f32⟩
  | .local _ .vmem, ⟨14, _⟩ => ⟨S1x512x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x1x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SampleProjReferenceIdeal.lean ====
abbrev S32x2048x1024 : Shape := ⟨3, ![32, 2048, 1024]⟩
abbrev S1x1024 : Shape := ⟨2, ![1, 1024]⟩
abbrev S768x1024 : Shape := ⟨2, ![768, 1024]⟩
abbrev S1024x1024 : Shape := ⟨2, ![1024, 1024]⟩
abbrev S4x64x2048 : Shape := ⟨3, ![4, 64, 2048]⟩
abbrev S_ : Shape := ⟨0, ![]⟩
abbrev S32x2048 : Shape := ⟨2, ![32, 2048]⟩
abbrev S32x2048x1 : Shape := ⟨3, ![32, 2048, 1]⟩
abbrev S1024 : Shape := ⟨1, ![1024]⟩
abbrev S1x1x1024 : Shape := ⟨3, ![1, 1, 1024]⟩
abbrev S32x2048x768 : Shape := ⟨3, ![32, 2048, 768]⟩
abbrev S32x2048x512 : Shape := ⟨3, ![32, 2048, 512]⟩
abbrev S32x2048x8x64 : Shape := ⟨4, ![32, 2048, 8, 64]⟩
abbrev S32x2048x128 : Shape := ⟨3, ![32, 2048, 128]⟩
abbrev S32x2048x2x64 : Shape := ⟨4, ![32, 2048, 2, 64]⟩
abbrev S32x2048x8 : Shape := ⟨3, ![32, 2048, 8]⟩
abbrev S32x2048x8x1 : Shape := ⟨4, ![32, 2048, 8, 1]⟩
abbrev S1x64x2048 : Shape := ⟨3, ![1, 64, 2048]⟩
abbrev S64x2048 : Shape := ⟨2, ![64, 2048]⟩
abbrev S2048x64 : Shape := ⟨2, ![2048, 64]⟩
abbrev S32x2048x8x32 : Shape := ⟨4, ![32, 2048, 8, 32]⟩
abbrev S2048x32 : Shape := ⟨2, ![2048, 32]⟩
abbrev S32x2048x8x16 : Shape := ⟨4, ![32, 2048, 8, 16]⟩
abbrev S2048x16 : Shape := ⟨2, ![2048, 16]⟩
abbrev S2048x1x16 : Shape := ⟨3, ![2048, 1, 16]⟩
abbrev S1x2048x1x16 : Shape := ⟨4, ![1, 2048, 1, 16]⟩
abbrev S32x2048x2 : Shape := ⟨3, ![32, 2048, 2]⟩
abbrev S32x2048x2x1 : Shape := ⟨4, ![32, 2048, 2, 1]⟩
abbrev S32x2048x2x32 : Shape := ⟨4, ![32, 2048, 2, 32]⟩
abbrev S32x2048x2x16 : Shape := ⟨4, ![32, 2048, 2, 16]⟩
abbrev S32x4x512x8x64 : Shape := ⟨5, ![32, 4, 512, 8, 64]⟩
abbrev S32x8x4x64x512 : Shape := ⟨5, ![32, 8, 4, 64, 512]⟩
abbrev S32x4x512x2x64 : Shape := ⟨5, ![32, 4, 512, 2, 64]⟩
abbrev S32x2x4x64x512 : Shape := ⟨5, ![32, 2, 4, 64, 512]⟩
abbrev S32x2x2048x64 : Shape := ⟨4, ![32, 2, 2048, 64]⟩

abbrev nBuf : Space → Nat
  | .hbm => 203
  | .vmem => 0
  | .smem => 0
  | _ => 0

abbrev hbmTy0_0 (i : Nat) : BufTy := match i % 128 with
  | 0 => ⟨S32x2048x1024, .f32⟩
  | 1 => ⟨S1x1024, .f32⟩
  | 2 => ⟨S768x1024, .bf16⟩
  | 3 => ⟨S1024x1024, .bf16⟩
  | 4 => ⟨S4x64x2048, .f32⟩
  | 5 => ⟨S32x2048x1024, .f32⟩
  | 6 => ⟨S_, .f32⟩
  | 7 => ⟨S32x2048, .f32⟩
  | 8 => ⟨S32x2048x1, .f32⟩
  | 9 => ⟨S_, .f32⟩
  | 10 => ⟨S32x2048x1, .f32⟩
  | 11 => ⟨S32x2048x1, .f32⟩
  | 12 => ⟨S_, .f32⟩
  | 13 => ⟨S32x2048x1, .f32⟩
  | 14 => ⟨S32x2048x1, .f32⟩
  | 15 => ⟨S32x2048x1, .f32⟩
  | 16 => ⟨S32x2048x1024, .f32⟩
  | 17 => ⟨S32x2048x1024, .f32⟩
  | 18 => ⟨S1024, .f32⟩
  | 19 => ⟨S1x1x1024, .f32⟩
  | 20 => ⟨S32x2048x1024, .f32⟩
  | 21 => ⟨S32x2048x1024, .f32⟩
  | 22 => ⟨S768x1024, .f32⟩
  | 23 => ⟨S32x2048x768, .f32⟩
  | 24 => ⟨S32x2048x512, .f32⟩
  | 25 => ⟨S32x2048x8x64, .f32⟩
  | 26 => ⟨S32x2048x128, .f32⟩
  | 27 => ⟨S32x2048x2x64, .f32⟩
  | 28 => ⟨S32x2048x128, .f32⟩
  | 29 => ⟨S32x2048x2x64, .f32⟩
  | 30 => ⟨S32x2048x8x64, .f32⟩
  | 31 => ⟨S_, .f32⟩
  | 32 => ⟨S32x2048x8, .f32⟩
  | 33 => ⟨S32x2048x8x1, .f32⟩
  | 34 => ⟨S_, .f32⟩
  | 35 => ⟨S32x2048x8x1, .f32⟩
  | 36 => ⟨S32x2048x8x1, .f32⟩
  | 37 => ⟨S_, .f32⟩
  | 38 => ⟨S32x2048x8x1, .f32⟩
  | 39 => ⟨S32x2048x8x1, .f32⟩
  | 40 => ⟨S32x2048x8x1, .f32⟩
  | 41 => ⟨S32x2048x8x64, .f32⟩
  | 42 => ⟨S32x2048x8x64, .f32⟩
  | 43 => ⟨S1x64x2048, .f32⟩
  | 44 => ⟨S64x2048, .f32⟩
  | 45 => ⟨S2048x64, .f32⟩
  | 46 => ⟨S1x64x2048, .f32⟩
  | 47 => ⟨S64x2048, .f32⟩
  | 48 => ⟨S2048x64, .f32⟩
  | 49 => ⟨S32x2048x8x32, .f32⟩
  | 50 => ⟨S2048x32, .f32⟩
  | 51 => ⟨S2048x32, .f32⟩
  | 52 => ⟨S32x2048x8x16, .f32⟩
  | 53 => ⟨S32x2048x8x16, .f32⟩
  | 54 => ⟨S2048x16, .f32⟩
  | 55 => ⟨S2048x1x16, .f32⟩
  | 56 => ⟨S1x2048x1x16, .f32⟩
  | 57 => ⟨S32x2048x8x16, .f32⟩
  | 58 => ⟨S32x2048x8x16, .f32⟩
  | 59 => ⟨S2048x16, .f32⟩
  | 60 => ⟨S2048x1x16, .f32⟩
  | 61 => ⟨S1x2048x1x16, .f32⟩
  | 62 => ⟨S32x2048x8x16, .f32⟩
  | 63 => ⟨S32x2048x8x16, .f32⟩
  | 64 => ⟨S32x2048x8x16, .f32⟩
  | 65 => ⟨S2048x16, .f32⟩
  | 66 => ⟨S2048x1x16, .f32⟩
  | 67 => ⟨S1x2048x1x16, .f32⟩
  | 68 => ⟨S32x2048x8x16, .f32⟩
  | 69 => ⟨S32x2048x8x16, .f32⟩
  | 70 => ⟨S2048x16, .f32⟩
  | 71 => ⟨S2048x1x16, .f32⟩
  | 72 => ⟨S1x2048x1x16, .f32⟩
  | 73 => ⟨S32x2048x8x16, .f32⟩
  | 74 => ⟨S32x2048x8x16, .f32⟩
  | 75 => ⟨S32x2048x8x16, .f32⟩
  | 76 => ⟨S32x2048x8x32, .f32⟩
  | 77 => ⟨S32x2048x8x32, .f32⟩
  | 78 => ⟨S2048x32, .f32⟩
  | 79 => ⟨S2048x32, .f32⟩
  | 80 => ⟨S32x2048x8x16, .f32⟩
  | 81 => ⟨S32x2048x8x16, .f32⟩
  | 82 => ⟨S2048x16, .f32⟩
  | 83 => ⟨S2048x1x16, .f32⟩
  | 84 => ⟨S1x2048x1x16, .f32⟩
  | 85 => ⟨S32x2048x8x16, .f32⟩
  | 86 => ⟨S32x2048x8x16, .f32⟩
  | 87 => ⟨S2048x16, .f32⟩
  | 88 => ⟨S2048x1x16, .f32⟩
  | 89 => ⟨S1x2048x1x16, .f32⟩
  | 90 => ⟨S32x2048x8x16, .f32⟩
  | 91 => ⟨S32x2048x8x16, .f32⟩
  | 92 => ⟨S32x2048x8x16, .f32⟩
  | 93 => ⟨S2048x16, .f32⟩
  | 94 => ⟨S2048x1x16, .f32⟩
  | 95 => ⟨S1x2048x1x16, .f32⟩
  | 96 => ⟨S32x2048x8x16, .f32⟩
  | 97 => ⟨S32x2048x8x16, .f32⟩
  | 98 => ⟨S2048x16, .f32⟩
  | 99 => ⟨S2048x1x16, .f32⟩
  | 100 => ⟨S1x2048x1x16, .f32⟩
  | 101 => ⟨S32x2048x8x16, .f32⟩
  | 102 => ⟨S32x2048x8x16, .f32⟩
  | 103 => ⟨S32x2048x8x16, .f32⟩
  | 104 => ⟨S32x2048x8x32, .f32⟩
  | 105 => ⟨S32x2048x8x64, .f32⟩
  | 106 => ⟨S32x2048x2x64, .f32⟩
  | 107 => ⟨S_, .f32⟩
  | 108 => ⟨S32x2048x2, .f32⟩
  | 109 => ⟨S32x2048x2x1, .f32⟩
  | 110 => ⟨S_, .f32⟩
  | 111 => ⟨S32x2048x2x1, .f32⟩
  | 112 => ⟨S32x2048x2x1, .f32⟩
  | 113 => ⟨S_, .f32⟩
  | 114 => ⟨S32x2048x2x1, .f32⟩
  | 115 => ⟨S32x2048x2x1, .f32⟩
  | 116 => ⟨S32x2048x2x1, .f32⟩
  | 117 => ⟨S32x2048x2x64, .f32⟩
  | 118 => ⟨S32x2048x2x64, .f32⟩
  | 119 => ⟨S1x64x2048, .f32⟩
  | 120 => ⟨S64x2048, .f32⟩
  | 121 => ⟨S2048x64, .f32⟩
  | 122 => ⟨S1x64x2048, .f32⟩
  | 123 => ⟨S64x2048, .f32⟩
  | 124 => ⟨S2048x64, .f32⟩
  | 125 => ⟨S32x2048x2x32, .f32⟩
  | 126 => ⟨S2048x32, .f32⟩
  | 127 => ⟨S2048x32, .f32⟩
  | _ => ⟨S32x2048x1024, .f32⟩

abbrev hbmTy0_1 (i : Nat) : BufTy := match i % 128 with
  | 0 => ⟨S32x2048x2x16, .f32⟩
  | 1 => ⟨S32x2048x2x16, .f32⟩
  | 2 => ⟨S2048x16, .f32⟩
  | 3 => ⟨S2048x1x16, .f32⟩
  | 4 => ⟨S1x2048x1x16, .f32⟩
  | 5 => ⟨S32x2048x2x16, .f32⟩
  | 6 => ⟨S32x2048x2x16, .f32⟩
  | 7 => ⟨S2048x16, .f32⟩
  | 8 => ⟨S2048x1x16, .f32⟩
  | 9 => ⟨S1x2048x1x16, .f32⟩
  | 10 => ⟨S32x2048x2x16, .f32⟩
  | 11 => ⟨S32x2048x2x16, .f32⟩
  | 12 => ⟨S32x2048x2x16, .f32⟩
  | 13 => ⟨S2048x16, .f32⟩
  | 14 => ⟨S2048x1x16, .f32⟩
  | 15 => ⟨S1x2048x1x16, .f32⟩
  | 16 => ⟨S32x2048x2x16, .f32⟩
  | 17 => ⟨S32x2048x2x16, .f32⟩
  | 18 => ⟨S2048x16, .f32⟩
  | 19 => ⟨S2048x1x16, .f32⟩
  | 20 => ⟨S1x2048x1x16, .f32⟩
  | 21 => ⟨S32x2048x2x16, .f32⟩
  | 22 => ⟨S32x2048x2x16, .f32⟩
  | 23 => ⟨S32x2048x2x16, .f32⟩
  | 24 => ⟨S32x2048x2x32, .f32⟩
  | 25 => ⟨S32x2048x2x32, .f32⟩
  | 26 => ⟨S2048x32, .f32⟩
  | 27 => ⟨S2048x32, .f32⟩
  | 28 => ⟨S32x2048x2x16, .f32⟩
  | 29 => ⟨S32x2048x2x16, .f32⟩
  | 30 => ⟨S2048x16, .f32⟩
  | 31 => ⟨S2048x1x16, .f32⟩
  | 32 => ⟨S1x2048x1x16, .f32⟩
  | 33 => ⟨S32x2048x2x16, .f32⟩
  | 34 => ⟨S32x2048x2x16, .f32⟩
  | 35 => ⟨S2048x16, .f32⟩
  | 36 => ⟨S2048x1x16, .f32⟩
  | 37 => ⟨S1x2048x1x16, .f32⟩
  | 38 => ⟨S32x2048x2x16, .f32⟩
  | 39 => ⟨S32x2048x2x16, .f32⟩
  | 40 => ⟨S32x2048x2x16, .f32⟩
  | 41 => ⟨S2048x16, .f32⟩
  | 42 => ⟨S2048x1x16, .f32⟩
  | 43 => ⟨S1x2048x1x16, .f32⟩
  | 44 => ⟨S32x2048x2x16, .f32⟩
  | 45 => ⟨S32x2048x2x16, .f32⟩
  | 46 => ⟨S2048x16, .f32⟩
  | 47 => ⟨S2048x1x16, .f32⟩
  | 48 => ⟨S1x2048x1x16, .f32⟩
  | 49 => ⟨S32x2048x2x16, .f32⟩
  | 50 => ⟨S32x2048x2x16, .f32⟩
  | 51 => ⟨S32x2048x2x16, .f32⟩
  | 52 => ⟨S32x2048x2x32, .f32⟩
  | 53 => ⟨S32x2048x2x64, .f32⟩
  | 54 => ⟨S1024x1024, .f32⟩
  | 55 => ⟨S32x2048x1024, .f32⟩
  | 56 => ⟨S32x2048x512, .f32⟩
  | 57 => ⟨S32x2048x512, .f32⟩
  | 58 => ⟨S32x2048x512, .f32⟩
  | 59 => ⟨S32x2048x512, .f32⟩
  | 60 => ⟨S_, .f32⟩
  | 61 => ⟨S32x2048x512, .f32⟩
  | 62 => ⟨S32x2048x512, .f32⟩
  | 63 => ⟨S_, .f32⟩
  | 64 => ⟨S32x2048x512, .f32⟩
  | 65 => ⟨S32x2048x512, .f32⟩
  | 66 => ⟨S32x2048x512, .f32⟩
  | 67 => ⟨S32x4x512x8x64, .f32⟩
  | 68 => ⟨S32x8x4x64x512, .f32⟩
  | 69 => ⟨S32x4x512x2x64, .f32⟩
  | 70 => ⟨S32x2x4x64x512, .f32⟩
  | 71 => ⟨S32x8x4x64x512, .bf16⟩
  | 72 => ⟨S32x2x2048x64, .f32⟩
  | 73 => ⟨S32x2x2048x64, .bf16⟩
  | 74 => ⟨S32x2x4x64x512, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_cst_5 : Ref sig .tc := ⟨.hbm, 107, rfl⟩
abbrev main_v96 : Ref sig .tc := ⟨.hbm, 108, rfl⟩
abbrev main_v97 : Ref sig .tc := ⟨.hbm, 109, rfl⟩
abbrev main_cst_6 : Ref sig .tc := ⟨.hbm, 110, rfl⟩
abbrev main_v98 : Ref sig .tc := ⟨.hbm, 111, rfl⟩
abbrev main_v99 : Ref sig .tc := ⟨.hbm, 112, rfl⟩
abbrev main_cst_7 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_cst_8 : Ref sig .tc := ⟨.hbm, 188, rfl⟩
abbrev main_v174 : Ref sig .tc := ⟨.hbm, 189, rfl⟩
abbrev main_v175 : Ref sig .tc := ⟨.hbm, 190, rfl⟩
abbrev main_cst_9 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩

abbrev nD : Nat := 1
abbrev τ : Topo := Topo.v7x

variable {F : FTy → Type} [FloatOps F]
-- ==== Proof.Softmax.lean ====
/-
  Softmax-weighted means over the extended reals, with real scores and unrestricted values: the mean itself
  (`mean`), the running form that takes the keys a chunk at a time and keeps a shift `μ`, the sum of the shifted
  weights and the shifted weighted sums (`Running`), and the exponential form with a subtracted maximum (`weight_exp`).
-/
module

public import Idealize.ShloMosaic.PureOps.Ideal
public import Idealize.ShloMosaic.PureOps.Ideal.Laws

@[expose] public section

noncomputable section

namespace Attn

open Idealize.ShloMosaic

/-- A nonnegative real factor goes inside a finite sum of extended reals. -/
theorem coe_mul_sum {ι : Type} (t : Finset ι) (r : ℝ) (hr : 0 ≤ r) (f : ι → EReal) :
    (r : EReal) * ∑ i ∈ t, f i = ∑ i ∈ t, (r : EReal) * f i := by
  classical
  induction t using Finset.induction_on with
  | empty => simp
  | insert a t ha ih =>
    rw [Finset.sum_insert ha, Finset.sum_insert ha, ← ih]
    exact EReal.left_distrib_of_nonneg_of_ne_top (by exact_mod_cast hr) (EReal.coe_ne_top r) _ _

/-- The coercion of a finite sum of reals is the sum of the coercions. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The maximum of finitely many reals, at least one, is a real. -/
theorem fold_max_coe {n : ℕ} (hn : 0 < n) (f : Fin n → ℝ) :
    ∃ μ : ℝ, Finset.univ.fold max (⊥ : EReal) (fun j => (f j : EReal)) = (μ : EReal) := by
  have key : ∀ t : Finset (Fin n), t.fold max (⊥ : EReal) (fun j => (f j : EReal)) = ⊥ ∧ t = ∅
      ∨ ∃ μ : ℝ, t.fold max (⊥ : EReal) (fun j => (f j : EReal)) = (μ : EReal) := by
    intro t
    induction t using Finset.induction_on with
    | empty => exact .inl ⟨rfl, rfl⟩
    | insert a t ha ih =>
      right
      rw [Finset.fold_insert ha]
      rcases ih with ⟨h, _⟩ | ⟨μ, h⟩
      · exact ⟨f a, by rw [h]; exact max_eq_left bot_le⟩
      · exact ⟨max (f a) μ, by rw [h]; exact (EReal.coe_strictMono.monotone.map_max).symm⟩
  rcases key Finset.univ with ⟨_, h⟩ | h
  · exact absurd (h ▸ Finset.mem_univ (⟨0, hn⟩ : Fin n)) (Finset.notMem_empty _)
  · exact h

/-- The maximum of two reals is a real. -/
theorem max_coe (a b : ℝ) : max (a : EReal) (b : EReal) = ((max a b : ℝ) : EReal) :=
  (EReal.coe_strictMono.monotone.map_max).symm

/-- A sum over the first `N + M` keys is the sum over the first `N` and the sum over the `M` that follow. -/
theorem sum_range_chunk {A : Type} [AddCommMonoid A] (N M : ℕ) (f : ℕ → A) :
    ∑ n ∈ Finset.range (N + M), f n = ∑ n ∈ Finset.range N, f n + ∑ j : Fin M, f (N + j.val) := by
  rw [Finset.sum_range_add]
  congr 1
  exact Finset.sum_range fun x => f (N + x)

/-- The softmax weight, in base two, of key `n` among the first `N`. -/
def weight (s : ℕ → ℝ) (N n : ℕ) : ℝ := (2 : ℝ) ^ s n / ∑ k ∈ Finset.range N, (2 : ℝ) ^ s k

/-- The mean of `v` over the first `N` keys under the softmax weights of the scores `s`. -/
def mean (s : ℕ → ℝ) (v : ℕ → EReal) (N : ℕ) : EReal := ∑ n ∈ Finset.range N, v n * (weight s N n : EReal)

/-- The sum of powers of two over at least one key is positive. -/
theorem sum_pow_pos (s : ℕ → ℝ) {N : ℕ} (hN : 0 < N) : 0 < ∑ k ∈ Finset.range N, (2 : ℝ) ^ s k :=
  Finset.sum_pos (fun _ _ => Real.rpow_pos_of_pos two_pos _) ⟨0, Finset.mem_range.2 hN⟩

/-- The sum of the shifted powers is the sum of the powers divided by the shift's power. -/
theorem sum_shift (s : ℕ → ℝ) (N : ℕ) (μ : ℝ) :
    ∑ k ∈ Finset.range N, (2 : ℝ) ^ (s k - μ) = (∑ k ∈ Finset.range N, (2 : ℝ) ^ s k) / 2 ^ μ := by
  rw [Finset.sum_div]
  exact Finset.sum_congr rfl fun k _ => Real.rpow_sub two_pos _ _

/-- What the running softmax of one query holds after `N` keys: a real shift, the sum of the shifted weights and, for
    each value coordinate, the sum of the values under the shifted weights. -/
def Running {D : Type} (s : ℕ → ℝ) (v : D → ℕ → EReal) (N : ℕ) (m l : EReal) (a : D → EReal) : Prop :=
  ∃ μ : ℝ, m = (μ : EReal) ∧ l = ((∑ n ∈ Finset.range N, (2 : ℝ) ^ (s n - μ) : ℝ) : EReal)
    ∧ ∀ d, a d = ∑ n ∈ Finset.range N, v d n * (((2 : ℝ) ^ (s n - μ) : ℝ) : EReal)

variable {D : Type} {s : ℕ → ℝ} {v : D → ℕ → EReal}

/-- Before the first key any real shift will do, the sums being zero. -/
theorem Running.zero {m : EReal} (hm : ∃ μ : ℝ, m = (μ : EReal)) : Running s v 0 m 0 (fun _ => 0) := by
  obtain ⟨μ, rfl⟩ := hm
  exact ⟨μ, rfl, by simp, fun d => by simp⟩

/-- One chunk of `M` keys: the shift grows to the chunk's maximum, the old sums are rescaled by the power of the
    shifts' difference, and the chunk's terms are added. -/
theorem Running.step {N M : ℕ} (hM : 0 < M) {m l : EReal} {a : D → EReal} (h : Running s v N m l a)
    (sc : Fin M → EReal) (hs : ∀ j, sc j = (s (N + j.val) : EReal)) (vc : D → Fin M → EReal)
    (hv : ∀ d j, vc d j = v d (N + j.val)) :
    Running s v (N + M) (max m (Finset.univ.fold max ⊥ sc))
      (Ideal.exp2 (m - max m (Finset.univ.fold max ⊥ sc)) * l
        + ∑ j, Ideal.exp2 (sc j - max m (Finset.univ.fold max ⊥ sc)))
      (fun d => Ideal.exp2 (m - max m (Finset.univ.fold max ⊥ sc)) * a d
        + ∑ j, vc d j * Ideal.exp2 (sc j - max m (Finset.univ.fold max ⊥ sc))) := by
  obtain ⟨μ, rfl, rfl, ha⟩ := h
  obtain rfl : sc = fun j => (s (N + j.val) : EReal) := funext hs
  obtain ⟨κ, hκ⟩ := fold_max_coe hM fun j : Fin M => s (N + j.val)
  rw [hκ, max_coe]
  generalize max μ κ = ν
  have hexp : ∀ x : ℝ, Ideal.exp2 ((x : EReal) - (ν : EReal)) = (((2 : ℝ) ^ (x - ν) : ℝ) : EReal) := fun x => by
    rw [← EReal.coe_sub]; rfl
  have hshift : ∀ n, (2 : ℝ) ^ (μ - ν) * (2 : ℝ) ^ (s n - μ) = (2 : ℝ) ^ (s n - ν) := fun n => by
    rw [← Real.rpow_add two_pos]; congr 1; ring
  refine ⟨ν, rfl, ?_, fun d => ?_⟩
  · simp only [hexp]
    rw [← coe_sum, ← EReal.coe_mul, ← EReal.coe_add, sum_range_chunk, Finset.mul_sum]
    simp only [hshift]
  · simp only [hexp, hv]
    rw [ha, coe_mul_sum _ _ (Real.rpow_nonneg two_pos.le _), sum_range_chunk]
    congr 1
    refine Finset.sum_congr rfl fun n _ => ?_
    rw [mul_left_comm, ← EReal.coe_mul, hshift]

/-- After all the keys, the weighted sums divided by the sum of the weights are the softmax means. -/
theorem Running.final {N : ℕ} (hN : 0 < N) {m l : EReal} {a : D → EReal} (h : Running s v N m l a) (d : D) :
    Ideal.div (a d) l = mean s (v d) N := by
  obtain ⟨μ, rfl, rfl, ha⟩ := h
  have hp : 0 < (2 : ℝ) ^ μ := Real.rpow_pos_of_pos two_pos _
  have hL : 0 < ∑ n ∈ Finset.range N, (2 : ℝ) ^ (s n - μ) := by
    rw [sum_shift]; exact div_pos (sum_pow_pos s hN) hp
  rw [Ideal.div_coe hL.ne', ha, mul_comm, coe_mul_sum _ _ (by positivity), mean]
  refine Finset.sum_congr rfl fun n _ => ?_
  rw [mul_left_comm, ← EReal.coe_mul, weight, sum_shift, Real.rpow_sub two_pos]
  congr 2
  have := (sum_pow_pos s hN).ne'
  field_simp

/-- The same weight from natural exponentials of the scores times the logarithm of two, a real subtracted. -/
theorem weight_exp {N : ℕ} (hN : 0 < N) (s : ℕ → ℝ) (M : ℝ) (n : ℕ) :
    Ideal.div (Ideal.exp ((s n : EReal) * (Real.log 2 : EReal) - (M : EReal)))
        (∑ k : Fin N, Ideal.exp ((s k.val : EReal) * (Real.log 2 : EReal) - (M : EReal)))
      = (weight s N n : EReal) := by
  have hexp : ∀ k : ℕ, Ideal.exp ((s k : EReal) * (Real.log 2 : EReal) - (M : EReal))
      = (((2 : ℝ) ^ s k / Real.exp M : ℝ) : EReal) := fun k => by
    rw [← EReal.coe_mul, ← EReal.coe_sub, Ideal.exp_coe, Real.exp_sub, Real.rpow_def_of_pos two_pos, mul_comm (s k)]
  simp only [hexp]
  have he := (Real.exp_pos M).ne'
  have hs := sum_pow_pos s hN
  have hsum : ∑ k : Fin N, (((2 : ℝ) ^ s k.val / Real.exp M : ℝ) : EReal)
      = (((∑ k ∈ Finset.range N, (2 : ℝ) ^ s k) / Real.exp M : ℝ) : EReal) := by
    rw [← coe_sum, Finset.sum_div, Finset.sum_range]
  rw [hsum, Ideal.div_coe (div_pos hs (Real.exp_pos M)).ne', ← EReal.coe_mul, weight]
  congr 1
  field_simp

end Attn
-- ==== Proof.Block.lean ====
/-
  What the attention body computes at one grid point, from the point's blocks: four query heads of 512 queries, the
  keys and the values of one key/value head. Each head's loop keeps the running softmax of its queries (`Holds`), 512
  keys a trip; the block written is, head by head, the softmax mean of the values over all 8192 keys (`out_apply`).
-/
module

public import proofs.«01_k».proof.Proof.Softmax
public import proofs.«01_k».proof.Proof.Gen.KernelIdeal.Value
public import Idealize.ShloMosaic.Lib.Pointwise

@[expose] public section

set_option maxRecDepth 16384

noncomputable section

namespace Attn

open Cert.KernelIdeal Cert.KernelIdeal.Gen Idealize.ShloMosaic Idealize.ShloMosaic.TcCoe Idealize.SL.Sem
open Idealize.ShloMosaic.Pointwise

/-- Key `n`'s row in a key array of `S` rows. -/
def key {S : ℕ} [NeZero S] (n : ℕ) : Fin S := ⟨n % S, Nat.mod_lt _ (NeZero.pos S)⟩
/-- Key `n`'s chunk of 512 in a value array of `J` chunks. -/
def chunk {J : ℕ} [NeZero J] (n : ℕ) : Fin J := ⟨n / 512 % J, Nat.mod_lt _ (NeZero.pos J)⟩
/-- Key `n`'s place in its chunk. -/
def place (n : ℕ) : Fin 512 := ⟨n % 512, Nat.mod_lt _ (by norm_num)⟩

/-- The state of a head's loop is, query by query, a running softmax over the first `N` keys. -/
def Holds (s : Fin 512 → ℕ → ℝ) (v : Fin 64 → ℕ → EReal) (N : ℕ)
    (st : FVec Ideal S1x512 .f32 × FVec Ideal S1x512 .f32 × FVec Ideal S64x512 .f32) : Prop :=
  ∀ x : Fin 512, Running (s x) v N (st.1 (ix2 0 x)) (st.2.1 (ix2 0 x)) (fun d => st.2.2 (ix2 d x))

variable {s : Fin 512 → ℕ → ℝ} {v : Fin 64 → ℕ → EReal}

/-- The pattern of minus infinity denotes the bottom. -/
theorem ofBits_bot : Ideal.ofBits .f32 0xFF800000#32 = ⊥ := by simp [Ideal.ofBits, Ideal.ieee]

/-- The loop's initial state: a finite shift and zero sums. -/
theorem holds_init : Holds s v 0 (k0_pay17 (F := Ideal), k0_pay18 (F := Ideal), k0_pay19 (F := Ideal)) := by
  intro x
  have h1 : k0_pay17 (F := Ideal) (ix2 0 x) = Ideal.ofBits .f32 0xF149F2CA#32 := by pointwise [k0_pay17]
  have h2 : k0_pay18 (F := Ideal) (ix2 0 x) = 0 := by pointwise [k0_pay18]
  have h3 : (fun d => k0_pay19 (F := Ideal) (ix2 d x)) = fun _ => 0 := by funext d; pointwise [k0_pay19]
  show Running (s x) v 0 (k0_pay17 (F := Ideal) (ix2 0 x)) (k0_pay18 (F := Ideal) (ix2 0 x)) (fun d => k0_pay19 (F := Ideal) (ix2 d x))
  rw [h1, h2, h3]
  exact Running.zero ⟨_, by simp [Ideal.ofBits, Ideal.ieee]; rfl⟩

/-- One trip: 512 keys more. -/
theorem holds_step {N : ℕ} (q : Vec Ideal S1x1x1x64x512 .bf16) (kc : Vec Ideal S1x1x512x64 .bf16)
    (vc : Vec Ideal S1x1x1x64x512 .bf16) (st) (h : Holds s v N st)
    (hs : ∀ x j, ∑ d : Fin 64, kc (ix4 0 0 j d) * q (ix5 0 0 0 d x) = (s x (N + j.val) : EReal))
    (hv : ∀ d j, vc (ix5 0 0 0 d j) = v d (N + j.val)) :
    Holds s v (N + 512) (k0_pay21 q st.1 kc, k0_pay24 q st.1 st.2.1 kc, k0_pay25 q st.1 st.2.2 kc vc) := by
  intro x
  have e20 : ∀ j : Fin 512, k0_pay20 q kc (ix2 j x) = ∑ d : Fin 64, kc (ix4 0 0 j d) * q (ix5 0 0 0 d x) := fun j => by
    pointwise [k0_pay20]
  have e21 : k0_pay21 q st.1 kc (ix2 0 x)
      = max (st.1 (ix2 0 x)) (Finset.univ.fold max ⊥ fun j => k0_pay20 q kc (ix2 j x)) := by
    pointwise [k0_pay21]
    rw [ofBits_bot]
  have e24 : k0_pay24 q st.1 st.2.1 kc (ix2 0 x)
      = Ideal.exp2 (st.1 (ix2 0 x) - k0_pay21 q st.1 kc (ix2 0 x)) * st.2.1 (ix2 0 x)
        + ∑ j : Fin 512, Ideal.exp2 (k0_pay20 q kc (ix2 j x) - k0_pay21 q st.1 kc (ix2 0 x)) := by
    pointwise [k0_pay24, k0_pay22, k0_pay23]
    rfl
  have e25 : (fun d => k0_pay25 q st.1 st.2.2 kc vc (ix2 d x))
      = fun d => Ideal.exp2 (st.1 (ix2 0 x) - k0_pay21 q st.1 kc (ix2 0 x)) * st.2.2 (ix2 d x)
        + ∑ j : Fin 512, vc (ix5 0 0 0 d j) * Ideal.exp2 (k0_pay20 q kc (ix2 j x) - k0_pay21 q st.1 kc (ix2 0 x)) := by
    funext d
    pointwise [k0_pay25, k0_pay22, k0_pay23]
    rfl
  show Running (s x) v (N + 512) (k0_pay21 q st.1 kc (ix2 0 x)) (k0_pay24 q st.1 st.2.1 kc (ix2 0 x))
    (fun d => k0_pay25 q st.1 st.2.2 kc vc (ix2 d x))
  rw [e24, e25, e21]
  exact (h x).step (by norm_num) (fun j => k0_pay20 q kc (ix2 j x)) (fun j => (e20 j).trans (hs x j))
    (fun d j => vc (ix5 0 0 0 d j)) hv

/-- One trip read off the key and value blocks, the loads' offsets those of chunk `k`. -/
theorem holds_chunk {S J : ℕ} [NeZero S] [NeZero J] (hS : 512 * J = S) {k : ℕ} (hk : k < J) (q : Vec Ideal S1x1x1x64x512 .bf16)
    (B4 : Vec Ideal ⟨4, ![1, 1, S, 64]⟩ .bf16) (B5 : Vec Ideal ⟨5, ![1, 1, J, 64, 512]⟩ .bf16)
    (hs : ∀ x n, ∑ d : Fin 64, B4 (ix4 0 0 (key n) d) * q (ix5 0 0 0 d x) = (s x n : EReal))
    (hv : ∀ d n, B5 (ix5 0 0 (chunk n) d (place n)) = v d n)
    (o4 : Fin 4 → ℕ) (h4 : o4 = ![0, 0, 512 * k, 0]) (b4 : ∀ a, o4 a + S1x1x512x64.size a ≤ (⟨4, ![1, 1, S, 64]⟩ : Shape).size a)
    (o5 : Fin 5 → ℕ) (h5 : o5 = ![0, 0, k, 0, 0]) (b5 : ∀ a, o5 a + S1x1x1x64x512.size a ≤ (⟨5, ![1, 1, J, 64, 512]⟩ : Shape).size a)
    (st) (h : Holds s v (512 * k) st) :
    Holds s v (512 * (k + 1))
      (k0_pay21 q st.1 (View.ld B4 (Rect.unit o4 S1x1x512x64.size b4)),
        k0_pay24 q st.1 st.2.1 (View.ld B4 (Rect.unit o4 S1x1x512x64.size b4)),
        k0_pay25 q st.1 st.2.2 (View.ld B4 (Rect.unit o4 S1x1x512x64.size b4))
          (View.ld B5 (Rect.unit o5 S1x1x1x64x512.size b5))) := by
  subst h4 h5
  have e4 : ∀ (j : Fin 512) (d : Fin 64),
      View.ld B4 (Rect.unit ![0, 0, 512 * k, 0] S1x1x512x64.size b4) (ix4 0 0 j d) = B4 (ix4 0 0 (key (512 * k + j.val)) d) := by
    intro j d
    have hj := j.isLt
    have e : key (S := S) (512 * k + j.val) = ⟨512 * k + j.val, by omega⟩ := Fin.ext (Nat.mod_eq_of_lt (by omega))
    rw [e]
    refine congrArg B4 (funext fun a => Fin.ext ?_)
    match a with
    | ⟨0, _⟩ => rfl
    | ⟨1, _⟩ => rfl
    | ⟨2, _⟩ => show 512 * k + 1 * j.val = 512 * k + j.val; omega
    | ⟨3, _⟩ => show 0 + 1 * d.val = d.val; omega
  have e5 : ∀ (d : Fin 64) (j : Fin 512),
      View.ld B5 (Rect.unit ![0, 0, k, 0, 0] S1x1x1x64x512.size b5) (ix5 0 0 0 d j)
        = B5 (ix5 0 0 (chunk (512 * k + j.val)) d (place (512 * k + j.val))) := by
    intro d j
    have hj := j.isLt
    have h1 : chunk (J := J) (512 * k + j.val) = ⟨k, hk⟩ := by
      refine Fin.ext ?_
      show (512 * k + j.val) / 512 % J = k
      rw [show (512 * k + j.val) / 512 = k by omega]
      exact Nat.mod_eq_of_lt hk
    have h2 : place (512 * k + j.val) = j := Fin.ext (by show (512 * k + j.val) % 512 = j.val; omega)
    rw [h1, h2]
    refine congrArg B5 (funext fun a => Fin.ext ?_)
    match a with
    | ⟨0, _⟩ => rfl
    | ⟨1, _⟩ => rfl
    | ⟨2, _⟩ => show k + 1 * 0 = k; omega
    | ⟨3, _⟩ => show 0 + 1 * d.val = d.val; omega
    | ⟨4, _⟩ => show 0 + 1 * j.val = j.val; omega
  exact holds_step q _ _ st h (fun x j => by simp only [e4]; exact hs x _) (fun d j => (e5 d j).trans (hv d _))

section Loops

variable (c : Dev nD) (i : grid0.Coords) (arg3 : Memref sig .tc .vmem S1x4x1x64x512 .bf16) (harg3 : arg3.IsWhole)
  (arg4 : Memref sig .tc .vmem S1x1x8192x64 .bf16) (harg4 : arg4.IsWhole)
  (arg5 : Memref sig .tc .vmem S1x1x16x64x512 .bf16) (harg5 : arg5.IsWhole)
  (arg6 : Memref sig .tc .vmem S1x512x256 .bf16) (harg6 : arg6.IsWhole)
  (B4 : Vec Ideal S1x1x8192x64 .bf16) (B5 : Vec Ideal S1x1x16x64x512 .bf16)
  (q : Vec Ideal S1x1x1x64x512 .bf16)
  (hs : ∀ x n, ∑ d : Fin 64, B4 (ix4 0 0 (key n) d) * q (ix5 0 0 0 d x) = (s x n : EReal))
  (hv : ∀ d n, B5 (ix5 0 0 (chunk n) d (place n)) = v d n)

include hs hv

/-- The first head's loop before trip `k`: a running softmax over `512 k` keys. -/
theorem loop1 : ∀ k, k ≤ 16 → Holds s v (512 * k)
    (st_k0_t1 (F := Ideal) Variants.none c none i arg3 harg3 arg4 harg4 arg5 harg5 arg6 harg6 q
      (harg4.unread B4) (harg5.unread B5) (k0_pay17, k0_pay18, k0_pay19) k)
  | 0, _ => holds_init
  | k + 1, hk => by
    have ih := loop1 k (by omega)
    have ht : k < k0_t1_loop.trips := hk
    rw [st_k0_t1_succ (k := ⟨k, ht⟩)]
    unfold tripR_k0_t1 trip_k0_t1
    dsimp only
    sl_unfold_words
    simp only [View.readAt_eq_ld, harg4.read_unread, harg5.read_unread]
    exact holds_chunk (J := 16) rfl hk q B4 B5 hs hv _ (k0_off1_eq ⟨k, ht⟩) (k0_off1_inb ⟨k, ht⟩) _ (k0_off2_eq ⟨k, ht⟩) (k0_off2_inb ⟨k, ht⟩) _ ih

/-- The second head's loop before trip `k`. -/
theorem loop2 : ∀ k, k ≤ 16 → Holds s v (512 * k)
    (st_k0_t2 (F := Ideal) Variants.none c none i arg3 harg3 arg4 harg4 arg5 harg5 arg6 harg6 q
      (harg4.unread B4) (harg5.unread B5) (k0_pay27, k0_pay28, k0_pay29) k)
  | 0, _ => holds_init
  | k + 1, hk => by
    have ih := loop2 k (by omega)
    have ht : k < k0_t2_loop.trips := hk
    rw [st_k0_t2_succ (k := ⟨k, ht⟩)]
    unfold tripR_k0_t2 trip_k0_t2
    dsimp only
    sl_unfold_words
    simp only [View.readAt_eq_ld, harg4.read_unread, harg5.read_unread]
    exact holds_chunk (J := 16) rfl hk q B4 B5 hs hv _ (k0_off3_eq ⟨k, ht⟩) (k0_off3_inb ⟨k, ht⟩) _ (k0_off4_eq ⟨k, ht⟩) (k0_off4_inb ⟨k, ht⟩) _ ih

/-- The third head's loop before trip `k`. -/
theorem loop3 : ∀ k, k ≤ 16 → Holds s v (512 * k)
    (st_k0_t3 (F := Ideal) Variants.none c none i arg3 harg3 arg4 harg4 arg5 harg5 arg6 harg6 (k0_pay37 q)
      (harg4.unread B4) (harg5.unread B5) (k0_pay38, k0_pay39, k0_pay40) k)
  | 0, _ => holds_init
  | k + 1, hk => by
    have ih := loop3 k (by omega)
    have ht : k < k0_t3_loop.trips := hk
    rw [st_k0_t3_succ (k := ⟨k, ht⟩)]
    unfold tripR_k0_t3 trip_k0_t3
    dsimp only
    sl_unfold_words
    simp only [View.readAt_eq_ld, harg4.read_unread, harg5.read_unread]
    exact holds_chunk (J := 16) rfl hk q B4 B5 hs hv _ (k0_off5_eq ⟨k, ht⟩) (k0_off5_inb ⟨k, ht⟩) _ (k0_off6_eq ⟨k, ht⟩) (k0_off6_inb ⟨k, ht⟩) _ ih

/-- The fourth head's loop before trip `k`. -/
theorem loop4 : ∀ k, k ≤ 16 → Holds s v (512 * k)
    (st_k0_t4 (F := Ideal) Variants.none c none i arg3 harg3 arg4 harg4 arg5 harg5 arg6 harg6 q
      (harg4.unread B4) (harg5.unread B5) (k0_pay7, k0_pay8, k0_pay9) k)
  | 0, _ => holds_init
  | k + 1, hk => by
    have ih := loop4 k (by omega)
    have ht : k < k0_t4_loop.trips := hk
    rw [st_k0_t4_succ (k := ⟨k, ht⟩)]
    unfold tripR_k0_t4 trip_k0_t4
    dsimp only
    sl_unfold_words
    simp only [View.readAt_eq_ld, harg4.read_unread, harg5.read_unread]
    exact holds_chunk (J := 16) rfl hk q B4 B5 hs hv _ (k0_off7_eq ⟨k, ht⟩) (k0_off7_inb ⟨k, ht⟩) _ (k0_off8_eq ⟨k, ht⟩) (k0_off8_inb ⟨k, ht⟩) _ ih

end Loops

/-- What the body divides at the end of a head: the softmax means over all the keys. -/
theorem Holds.mean {S : ℕ} (hS : 0 < S) (st) (h : Holds s v S st) (d : Fin 64) (x : Fin 512) :
    Ideal.div (st.2.2 (ix2 d x)) (st.2.1 (ix2 0 x)) = Attn.mean (s x) (v d) S :=
  (h x).final hS d

/-- The body's four quotients stacked, turned and stored: at query `x` and column `y`, head `y / 64`'s quotient at
    coordinate `y % 64`. -/
theorem stored_apply (l1 : FVec Ideal S1x512 .f32) (a1 : FVec Ideal S64x512 .f32) (l2 : FVec Ideal S1x512 .f32)
    (a2 : FVec Ideal S64x512 .f32) (l3 : FVec Ideal S1x512 .f32) (a3 : FVec Ideal S64x512 .f32)
    (l4 : FVec Ideal S1x512 .f32) (a4 : FVec Ideal S64x512 .f32) (R : Fin 4 → Fin 64 → Fin 512 → EReal)
    (h1 : ∀ d x, Ideal.div (a1 (ix2 d x)) (l1 (ix2 0 x)) = R 0 d x)
    (h2 : ∀ d x, Ideal.div (a2 (ix2 d x)) (l2 (ix2 0 x)) = R 1 d x)
    (h3 : ∀ d x, Ideal.div (a3 (ix2 d x)) (l3 (ix2 0 x)) = R 2 d x)
    (h4 : ∀ d x, Ideal.div (a4 (ix2 d x)) (l4 (ix2 0 x)) = R 3 d x)
    (u : Fin 1) (x : Fin 512) (h : Fin 4) (d : Fin 64) :
    k0_pay16 (F := Ideal) (k0_pay26 l1 a1) (k0_pay36 l2 a2) l3 a3 l4 a4
        (ix3 u x ⟨64 * h.val + d.val, by have := h.isLt; have := d.isLt; omega⟩) = R h d x := by
  pointwise [k0_pay16, k0_pay26, k0_pay36]
  have hd := d.isLt
  simp only [h1, h2, h3, h4]
  by_cases c1 : 64 * h.val + d.val < 64
  · rw [dif_pos c1]
    obtain rfl : h = 0 := Fin.ext (by show h.val = 0; omega)
    exact congrArg (R 0 · x) (Fin.ext (by show 64 * 0 + d.val = d.val; omega))
  rw [dif_neg c1]
  by_cases c2 : 64 * h.val + d.val - 64 < 64
  · rw [dif_pos c2]
    obtain rfl : h = 1 := Fin.ext (by show h.val = 1; omega)
    exact congrArg (R 1 · x) (Fin.ext (by show 64 * 1 + d.val - 64 = d.val; omega))
  rw [dif_neg c2]
  by_cases c3 : 64 * h.val + d.val - 64 - 64 < 64
  · rw [dif_pos c3]
    obtain rfl : h = 2 := Fin.ext (by show h.val = 2; omega)
    exact congrArg (R 2 · x) (Fin.ext (by show 64 * 2 + d.val - 64 - 64 = d.val; omega))
  rw [dif_neg c3]
  obtain rfl : h = 3 := Fin.ext (by show h.val = 3; have := h.isLt; omega)
  exact congrArg (R 3 · x) (Fin.ext (by show 64 * 3 + d.val - 64 - 64 - 64 = d.val; omega))

/-- The score of key `n` for head `h`'s query `x`, from the point's query and key blocks. -/
def blockScore {S : ℕ} [NeZero S] (Q : Vec Ideal S1x4x1x64x512 .bf16) (K : Vec Ideal ⟨4, ![1, 1, S, 64]⟩ .bf16) (h : Fin 4) (x : Fin 512) (n : ℕ) :
    EReal :=
  ∑ d : Fin 64, K (ix4 0 0 (key n) d) * Q (ix5 0 h 0 d x)

/-- Coordinate `d` of key `n`'s value, from the point's value block. -/
def blockValue {J : ℕ} [NeZero J] (V : Vec Ideal ⟨5, ![1, 1, J, 64, 512]⟩ .bf16) (d : Fin 64) (n : ℕ) : EReal := V (ix5 0 0 (chunk n) d (place n))

/-- Head `h`'s scores from the body's load of its queries. -/
theorem score_loaded {S : ℕ} [NeZero S] (Q : Vec Ideal S1x4x1x64x512 .bf16) (K : Vec Ideal ⟨4, ![1, 1, S, 64]⟩ .bf16)
    (hreal : ∀ h x n, blockScore Q K h x n = ((blockScore Q K h x n).toReal : EReal))
    (h : Fin 4) (b : ∀ a, ![0, h.val, 0, 0, 0] a + S1x1x1x64x512.size a ≤ S1x4x1x64x512.size a) (x : Fin 512) (n : ℕ) :
    ∑ d : Fin 64, K (ix4 0 0 (key n) d) * View.ld Q (Rect.unit ![0, h.val, 0, 0, 0] S1x1x1x64x512.size b) (ix5 0 0 0 d x)
      = ((blockScore Q K h x n).toReal : EReal) := by
  have hq : ∀ d : Fin 64, View.ld Q (Rect.unit ![0, h.val, 0, 0, 0] S1x1x1x64x512.size b) (ix5 0 0 0 d x) = Q (ix5 0 h 0 d x) := by
    intro d
    pointwise
  simp only [hq]
  exact hreal h x n

/-- THE BODY'S BLOCK: when the scores are real, query `x`'s entry for head `h` and coordinate `d` is the softmax mean of
    the values. -/
theorem out_apply (c : Dev nD) (i : grid0.Coords) (arg3 : Memref sig .tc .vmem S1x4x1x64x512 .bf16) (harg3 : arg3.IsWhole)
    (arg4 : Memref sig .tc .vmem S1x1x8192x64 .bf16) (harg4 : arg4.IsWhole)
    (arg5 : Memref sig .tc .vmem S1x1x16x64x512 .bf16) (harg5 : arg5.IsWhole)
    (arg6 : Memref sig .tc .vmem S1x512x256 .bf16) (harg6 : arg6.IsWhole)
    (Q : Vec Ideal S1x4x1x64x512 .bf16) (K : Vec Ideal S1x1x8192x64 .bf16) (V : Vec Ideal S1x1x16x64x512 .bf16)
    (hreal : ∀ h x n, blockScore Q K h x n = ((blockScore Q K h x n).toReal : EReal))
    (u : Fin 1) (x : Fin 512) (h : Fin 4) (d : Fin 64) :
    out0_A_3 (F := Ideal) c i arg3 harg3 arg4 harg4 arg5 harg5 arg6 harg6 Q K V
        (ix3 u x ⟨64 * h.val + d.val, by have := h.isLt; have := d.isLt; omega⟩)
      = mean (fun n => (blockScore Q K h x n).toReal) (blockValue V d) 8192 := by
  unfold out0_A_3
  rw [View.read_writes_eq_canon _ _ _ (fun y => cover0_A_3 c i arg3 harg3 arg4 harg4 arg5 harg5 arg6 harg6 Q K V y)]
  unfold kernelRun0_A
  dsimp only
  sl_unfold_words
  rw [View.canon_unit_zero (by decide)]
  simp only [View.readAt_eq_ld, harg4.read_unread, harg5.read_unread, harg3.read_unread]
  have hs := score_loaded Q K hreal
  exact stored_apply _ _ _ _ _ _ _ _ (fun h d x => mean (fun n => (blockScore Q K h x n).toReal) (blockValue V d) 8192)
    (Holds.mean (by norm_num) _ (loop1 c i arg3 harg3 arg4 harg4 arg5 harg5 arg6 harg6 K V _ (hs 0 _) (fun _ _ => rfl) 16 le_rfl))
    (Holds.mean (by norm_num) _ (loop2 c i arg3 harg3 arg4 harg4 arg5 harg5 arg6 harg6 K V _ (hs 1 _) (fun _ _ => rfl) 16 le_rfl))
    (Holds.mean (by norm_num) _ (loop3 c i arg3 harg3 arg4 harg4 arg5 harg5 arg6 harg6 K V _ (hs 2 _) (fun _ _ => rfl) 16 le_rfl))
    (Holds.mean (by norm_num) _ (loop4 c i arg3 harg3 arg4 harg4 arg5 harg5 arg6 harg6 K V _ (hs 3 _) (fun _ _ => rfl) 16 le_rfl))
    u x h d

end Attn
-- ==== Proof.Spec.lean ====
/-
  Softmax attention over `S` keys in `J` chunks, as one function of the three arrays (queries, keys, values), index by index: the score of a key
  for a query, the value of a key, and the softmax mean of the values.
-/
module

public import proofs.«01_k».proof.Proof.Block

@[expose] public section

noncomputable section

namespace Attn

open Cert.KernelIdeal Idealize.ShloMosaic Idealize.ShloMosaic.Pointwise

variable {N S J : ℕ} [NeZero S] [NeZero J]

/-- The score of key `n` for query `t` of head `h` in batch `b` (four heads to a key/value head). -/
def score (Q : Vec Ideal ⟨5, ![N, 8, J, 64, 512]⟩ .bf16) (K : Vec Ideal ⟨4, ![N, 2, S, 64]⟩ .bf16) (b : Fin N) (h : Fin 8) (t : Fin S)
    (n : ℕ) : EReal :=
  ∑ d : Fin 64, K (ix4 b ⟨h.val / 4, by have := h.isLt; omega⟩ (key n) d) * Q (ix5 b h (chunk t.val) d (place t.val))

/-- Coordinate `d` of key `n`'s value in batch `b`, key/value head `g`. -/
def value (V : Vec Ideal ⟨5, ![N, 2, J, 64, 512]⟩ .bf16) (b : Fin N) (g : Fin 2) (d : Fin 64) (n : ℕ) : EReal :=
  V (ix5 b g (chunk n) d (place n))

/-- Attention at batch `b`, query `t`, head `h`, coordinate `d`. -/
def attnAt (Q : Vec Ideal ⟨5, ![N, 8, J, 64, 512]⟩ .bf16) (K : Vec Ideal ⟨4, ![N, 2, S, 64]⟩ .bf16) (V : Vec Ideal ⟨5, ![N, 2, J, 64, 512]⟩ .bf16)
    (b : Fin N) (t : Fin S) (h : Fin 8) (d : Fin 64) : EReal :=
  mean (fun n => (score Q K b h t n).toReal) (value V b ⟨h.val / 4, by have := h.isLt; omega⟩ d) S

/-- Attention as an array: column `64 h + d` is head `h`'s coordinate `d`. -/
def attn (Q : Vec Ideal ⟨5, ![N, 8, J, 64, 512]⟩ .bf16) (K : Vec Ideal ⟨4, ![N, 2, S, 64]⟩ .bf16) (V : Vec Ideal ⟨5, ![N, 2, J, 64, 512]⟩ .bf16) :
    Vec Ideal ⟨3, ![N, S, 512]⟩ .bf16 := fun i =>
  attnAt Q K V (i 0) (i 1) ⟨(i 2).val / 64, by have : (i 2).val < 512 := (i 2).isLt; omega⟩
    ⟨(i 2).val % 64, Nat.mod_lt _ (by norm_num)⟩

/-- A sum of products of reals is a real. -/
theorem sum_mul_real {ι : Type} (s : Finset ι) (f g : ι → EReal) (hf : ∀ i, f i = ((f i).toReal : EReal))
    (hg : ∀ i, g i = ((g i).toReal : EReal)) :
    ∑ i ∈ s, f i * g i = ((∑ i ∈ s, f i * g i).toReal : EReal) := by
  have : ∑ i ∈ s, f i * g i = ((∑ i ∈ s, (f i).toReal * (g i).toReal : ℝ) : EReal) := by
    rw [coe_sum]
    exact Finset.sum_congr rfl fun i _ => by rw [EReal.coe_mul, ← hf i, ← hg i]
  rw [this, EReal.toReal_coe]

/-- With real queries and keys the scores are real. -/
theorem score_real {Q : Vec Ideal ⟨5, ![N, 8, J, 64, 512]⟩ .bf16} {K : Vec Ideal ⟨4, ![N, 2, S, 64]⟩ .bf16}
    (hQ : ∀ i, (Q i : EReal) = ((Q i : EReal).toReal : EReal)) (hK : ∀ i, (K i : EReal) = ((K i : EReal).toReal : EReal))
    (b : Fin N) (h : Fin 8) (t : Fin S) (n : ℕ) : score Q K b h t n = ((score Q K b h t n).toReal : EReal) :=
  sum_mul_real _ _ _ (fun _ => hK _) (fun _ => hQ _)

section

variable (hS : 512 * J = S) (Q : Vec Ideal ⟨5, ![N, 8, J, 64, 512]⟩ .bf16) (K : Vec Ideal ⟨4, ![N, 2, S, 64]⟩ .bf16)
  (V : Vec Ideal ⟨5, ![N, 2, J, 64, 512]⟩ .bf16) (q : Vec Ideal S1x4x1x64x512 .bf16) (k : Vec Ideal ⟨4, ![1, 1, S, 64]⟩ .bf16)
  (v : Vec Ideal ⟨5, ![1, 1, J, 64, 512]⟩ .bf16) (b : Fin N) (g : Fin 2) (j : Fin J)
  (hq : ∀ (h : Fin 4) (a : Fin 8), a.val = 4 * g.val + h.val → ∀ d x, q (ix5 0 h 0 d x) = Q (ix5 b a j d x)) (hk : ∀ n d, k (ix4 0 0 n d) = K (ix4 b g n d))
  (hv : ∀ n d x, v (ix5 0 0 n d x) = V (ix5 b g n d x))

include hS hq hk in
/-- The scores of the blocks of batch `b`, key/value head `g` and tile `j` are the arrays'. -/
theorem blockScore_eq (h : Fin 4) (a : Fin 8) (ha : a.val = 4 * g.val + h.val) (x : Fin 512) (t : Fin S) (ht : t.val = 512 * j.val + x.val) (n : ℕ) :
    blockScore q k h x n = score Q K b a t n := by
  unfold blockScore score
  have e1 : (⟨a.val / 4, by omega⟩ : Fin 2) = g := Fin.ext (by show a.val / 4 = g.val; omega)
  have e2 : chunk t.val = j := by
    refine Fin.ext ?_
    show t.val / 512 % J = j.val
    rw [show t.val / 512 = j.val by omega]
    exact Nat.mod_eq_of_lt j.isLt
  have e3 : place t.val = x := Fin.ext (by show t.val % 512 = x.val; omega)
  rw [e1, e2, e3]
  exact Finset.sum_congr rfl fun d _ => congrArg₂ (· * ·) (hk _ d) (hq h a ha d x)

include hS hq hk hv in
/-- The softmax means of the blocks are the arrays' attention, column `y` of the block being column `256 g + y`. -/
theorem attn_block (x : Fin 512) (y : Fin 256) (t : Fin S) (ht : t.val = 512 * j.val + x.val) (z : Fin 512) (hz : z.val = 256 * g.val + y.val)
    (h : Fin 4) (hh : h.val = y.val / 64) (d : Fin 64) (hd : d.val = y.val % 64) :
    mean (fun n => (blockScore q k h x n).toReal) (blockValue v d) S = attn Q K V (ix3 b t z) := by
  have h1 : (⟨z.val / 64, by omega⟩ : Fin 8) = ⟨4 * g.val + h.val, by omega⟩ := Fin.ext (by show z.val / 64 = 4 * g.val + h.val; omega)
  have h2 : (⟨z.val % 64, Nat.mod_lt _ (by norm_num)⟩ : Fin 64) = d := Fin.ext (by show z.val % 64 = d.val; omega)
  have h3 : (⟨(4 * g.val + h.val) / 4, by omega⟩ : Fin 2) = g := Fin.ext (by show (4 * g.val + h.val) / 4 = g.val; omega)
  have h4 : blockValue v d = value V b g d := funext fun n => hv _ _ _
  show _ = attnAt Q K V b t ⟨z.val / 64, by omega⟩ ⟨z.val % 64, Nat.mod_lt _ (by norm_num)⟩
  rw [h1, h2]
  unfold attnAt
  show _ = mean _ (value V b ⟨(4 * g.val + h.val) / 4, _⟩ _) S
  rw [h3, h4]
  refine congrArg (mean · _ S) (funext fun n => congrArg EReal.toReal ?_)
  exact blockScore_eq hS Q K q k b g j hq hk h _ rfl x t ht n

end

end Attn
-- ==== Proof.KernelValue.lean ====
/-
  The attention program's result array after a run: every grid point writes its block of `attn` of the three arguments,
  and the blocks cover the array.
-/
module

public import proofs.«01_k».proof.Proof.Spec
public import Idealize.ShloMosaic.Lib.Pipeline.Value

@[expose] public section

set_option maxRecDepth 16384

noncomputable section

namespace Attn

open Cert.KernelIdeal Cert.KernelIdeal.Gen Idealize.ShloMosaic Idealize.ShloMosaic.TcCoe Idealize.SL.Sem
open Idealize.ShloMosaic.Pointwise
open Idealize.ShloMosaic.Pipeline (Dat)

/-- The windows' block indices at grid point `t`: batch `t / 32`, key/value head `t / 16 % 2`, query tile `t % 16`. -/
theorem index_facts : ∀ t : Fin grid0.N,
    (win0_0.index t 0 = t.val / 32 ∧ win0_0.index t 1 = t.val / 16 % 2 ∧ win0_0.index t 2 = t.val % 16
      ∧ win0_0.index t 3 = 0 ∧ win0_0.index t 4 = 0)
    ∧ (win0_1.index t 0 = t.val / 32 ∧ win0_1.index t 1 = t.val / 16 % 2 ∧ win0_1.index t 2 = 0 ∧ win0_1.index t 3 = 0)
    ∧ (win0_2.index t 0 = t.val / 32 ∧ win0_2.index t 1 = t.val / 16 % 2 ∧ win0_2.index t 2 = 0 ∧ win0_2.index t 3 = 0
      ∧ win0_2.index t 4 = 0)
    ∧ (win0_3.index t 0 = t.val / 32 ∧ win0_3.index t 1 = t.val % 16 ∧ win0_3.index t 2 = t.val / 16 % 2) := by
  decide +kernel

/-- The grid's point `t` among its 128. -/
theorem point_lt (t : Fin cfg0.N) : t.val < 128 := lt_of_lt_of_eq t.isLt N_0

/-- Point `t`'s batch, key/value head and query tile. -/
def pb (t : Fin cfg0.N) : Fin 4 := ⟨t.val / 32, by have := point_lt t; omega⟩
/-- Point `t`'s key/value head. -/
def pg (t : Fin cfg0.N) : Fin 2 := ⟨t.val / 16 % 2, by omega⟩
/-- Point `t`'s query tile. -/
def pj (t : Fin cfg0.N) : Fin 16 := ⟨t.val % 16, by omega⟩

variable (m : (ℓ : Loc nD τ sig) → Buf (Elt Ideal) ℓ) (ρ : Dev nD → PrngReg)

/-- The query argument on device `c`. -/
abbrev argQ (c : Dev nD) : Vec Ideal S4x8x16x64x512 .bf16 := m ((c : Thread nD τ).loc main_arg0)
/-- The key argument on device `c`. -/
abbrev argK (c : Dev nD) : Vec Ideal S4x2x8192x64 .bf16 := m ((c : Thread nD τ).loc main_arg1)
/-- The value argument on device `c`. -/
abbrev argV (c : Dev nD) : Vec Ideal S4x2x16x64x512 .bf16 := m ((c : Thread nD τ).loc main_arg2)

/-- The query block at a point, read off the query argument. -/
theorem iblk0_apply (c : Dev nD) (t : Fin cfg0.N) (h : Fin 4) (a : Fin 8) (ha : a.val = 4 * (pg t).val + h.val) (d : Fin 64) (x : Fin 512) :
    iblk m c 0 t (ix5 0 h 0 d x) = argQ m c (ix5 (pb t) a (pj t) d x) := by
  obtain ⟨⟨e0, e1, e2, e3, e4⟩, _⟩ := index_facts t
  refine congrArg (argQ m c) (funext fun e => Fin.ext ?_)
  match e with
  | ⟨0, _⟩ => show win0_0.index t 0 * 1 + 0 = t.val / 32; rw [e0]; omega
  | ⟨1, _⟩ => show win0_0.index t 1 * 4 + 1 * h.val = a.val; rw [e1, ha]; show t.val / 16 % 2 * 4 + 1 * h.val = 4 * (t.val / 16 % 2) + h.val; omega
  | ⟨2, _⟩ => show win0_0.index t 2 * 1 + 0 = t.val % 16; rw [e2]; omega
  | ⟨3, _⟩ => show win0_0.index t 3 * 64 + 1 * d.val = d.val; rw [e3]; omega
  | ⟨4, _⟩ => show win0_0.index t 4 * 512 + 1 * x.val = x.val; rw [e4]; omega

/-- The key block at a point, read off the key argument. -/
theorem iblk1_apply (c : Dev nD) (t : Fin cfg0.N) (n : Fin 8192) (d : Fin 64) :
    iblk m c 1 t (ix4 0 0 n d) = argK m c (ix4 (pb t) (pg t) n d) := by
  obtain ⟨_, ⟨e0, e1, e2, e3⟩, _⟩ := index_facts t
  refine congrArg (argK m c) (funext fun a => Fin.ext ?_)
  match a with
  | ⟨0, _⟩ => show win0_1.index t 0 * 1 + 0 = t.val / 32; rw [e0]; omega
  | ⟨1, _⟩ => show win0_1.index t 1 * 1 + 0 = t.val / 16 % 2; rw [e1]; omega
  | ⟨2, _⟩ => show win0_1.index t 2 * 8192 + 1 * n.val = n.val; rw [e2]; omega
  | ⟨3, _⟩ => show win0_1.index t 3 * 64 + 1 * d.val = d.val; rw [e3]; omega

/-- The value block at a point, read off the value argument. -/
theorem iblk2_apply (c : Dev nD) (t : Fin cfg0.N) (k : Fin 16) (d : Fin 64) (x : Fin 512) :
    iblk m c 2 t (ix5 0 0 k d x) = argV m c (ix5 (pb t) (pg t) k d x) := by
  obtain ⟨_, _, ⟨e0, e1, e2, e3, e4⟩, _⟩ := index_facts t
  refine congrArg (argV m c) (funext fun a => Fin.ext ?_)
  match a with
  | ⟨0, _⟩ => show win0_2.index t 0 * 1 + 0 = t.val / 32; rw [e0]; omega
  | ⟨1, _⟩ => show win0_2.index t 1 * 1 + 0 = t.val / 16 % 2; rw [e1]; omega
  | ⟨2, _⟩ => show win0_2.index t 2 * 16 + 1 * k.val = k.val; rw [e2]; omega
  | ⟨3, _⟩ => show win0_2.index t 3 * 64 + 1 * d.val = d.val; rw [e3]; omega
  | ⟨4, _⟩ => show win0_2.index t 4 * 512 + 1 * x.val = x.val; rw [e4]; omega

/-- WHAT POINT `t` WRITES BACK is its block of `attn`, when the scores are real. -/
theorem flushed_eq (c : Dev nD) (hreal : ∀ b h t n, score (argQ m c) (argK m c) b h t n = ((score (argQ m c) (argK m c) b h t n).toReal : EReal))
    (t : Fin cfg0.N) :
    (dats m 0 c).flushed 3 t = ((cfg0.win 3).blk t).view.read (Elt Ideal) (attn (argQ m c) (argK m c) (argV m c)) := by
  rw [Value.flushed3_A]
  obtain ⟨_, _, _, e0, e1, e2⟩ := index_facts t
  funext (y : S1x512x256.Idx)
  have hy : (y 2).val < 256 := (y 2).isLt
  have ey : y = ix3 (y 0) (y 1) ⟨64 * ((y 2).val / 64) + (y 2).val % 64, by omega⟩ := by
    funext a
    match a with
    | ⟨0, _⟩ => rfl
    | ⟨1, _⟩ => rfl
    | ⟨2, _⟩ => exact Fin.ext (by show (y 2).val = 64 * ((y 2).val / 64) + (y 2).val % 64; omega)
  show out0_A_3 (F := Ideal) c (grid0.coords t) (ms0_0 t) (hs0_0 t) (ms0_1 t) (hs0_1 t) (ms0_2 t) (hs0_2 t) (ms0_3 t) (hs0_3 t)
    (iblk m c 0 t) (iblk m c 1 t) (iblk m c 2 t) y = attn (argQ m c) (argK m c) (argV m c) (((cfg0.win 3).blk t).view.emb y)
  have ht := point_lt t
  have hx : (y 1).val < 512 := (y 1).isLt
  have hu : (y 0).val < 1 := (y 0).isLt
  have hs := blockScore_eq (J := 16) rfl (argQ m c) (argK m c) (iblk m c 0 t) (iblk m c 1 t) (pb t) (pg t) (pj t) (iblk0_apply m c t) (iblk1_apply m c t)
  refine (congrArg _ ey).trans ((out_apply c _ _ _ _ _ _ _ _ _ _ _ _ (fun h x n => by
      rw [hs h ⟨4 * (t.val / 16 % 2) + h.val, by omega⟩ rfl x ⟨512 * (t.val % 16) + x.val, by omega⟩ rfl n]; exact hreal _ _ _ _)
    (y 0) (y 1) ⟨(y 2).val / 64, by omega⟩ ⟨(y 2).val % 64, by omega⟩).trans ?_)
  have eemb : ((cfg0.win 3).blk t).view.emb y
      = ix3 (pb t) ⟨512 * (t.val % 16) + (y 1).val, by omega⟩ ⟨256 * (t.val / 16 % 2) + (y 2).val, by omega⟩ := by
    funext a
    refine Fin.ext ?_
    match a with
    | ⟨0, _⟩ => show win0_3.index t 0 * 1 + 1 * (y 0).val = t.val / 32; rw [e0]; omega
    | ⟨1, _⟩ => show win0_3.index t 1 * 512 + 1 * (y 1).val = 512 * (t.val % 16) + (y 1).val; rw [e1]; omega
    | ⟨2, _⟩ => show win0_3.index t 2 * 256 + 1 * (y 2).val = 256 * (t.val / 16 % 2) + (y 2).val; rw [e2]; omega
  rw [eemb]
  exact attn_block (J := 16) rfl (argQ m c) (argK m c) (argV m c) (iblk m c 0 t) (iblk m c 1 t) (iblk m c 2 t) (pb t) (pg t) (pj t)
    (iblk0_apply m c t) (iblk1_apply m c t) (iblk2_apply m c t) (y 1) (y 2) _ rfl _ rfl _ rfl _ rfl

/-- The blocks the points write back cover the result array. -/
theorem cover (i : S4x8192x512.Idx) : ∃ t : Fin cfg0.N, (cfg0.win 3).flush t = true ∧ i ∈ ((cfg0.win 3).blk t).view.set := by
  have h0 : (i 0).val < 4 := (i 0).isLt
  have h1 : (i 1).val < 8192 := (i 1).isLt
  have h2 : (i 2).val < 512 := (i 2).isLt
  have hN : cfg0.N = 128 := N_0
  refine ⟨⟨(i 0).val * 32 + (i 2).val / 256 * 16 + (i 1).val / 512, by omega⟩, flush0_3 _, ?_⟩
  generalize ht : (⟨(i 0).val * 32 + (i 2).val / 256 * 16 + (i 1).val / 512, by omega⟩ : Fin cfg0.N) = t
  have hv : t.val = (i 0).val * 32 + (i 2).val / 256 * 16 + (i 1).val / 512 := by rw [← ht]
  obtain ⟨_, _, _, e0, e1, e2⟩ := index_facts t
  show i ∈ ((View.whole main_v0).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [e0]; omega
  | ⟨1, _⟩ =>
    show win0_3.index t 1 * 512 ≤ (i 1).val ∧ (i 1).val < win0_3.index t 1 * 512 + 512
    rw [e1]; omega
  | ⟨2, _⟩ =>
    show win0_3.index t 2 * 256 ≤ (i 2).val ∧ (i 2).val < win0_3.index t 2 * 256 + 256
    rw [e2]; omega

/-- The result array after the run is attention of the arguments, -/
theorem final (c : Dev nD)
    (hreal : ∀ b h t n, score (argQ m c) (argK m c) b h t n = ((score (argQ m c) (argK m c) b h t n).toReal : EReal)) :
    (dats m 0 c).arrAt 3 cfg0.N = attn (argQ m c) (argK m c) (argV m c) :=
  (dats m 0 c).arrAt_eq_of_cover 3 _ (fun t _ => flushed_eq m c hreal t) cover

/-- and the run ends with it, the arguments unchanged. -/
theorem kernel_run (hreal : ∀ (c : Dev nD) b h t n, score (argQ m c) (argK m c) b h t n = ((score (argQ m c) (argK m c) b h t n).toReal : EReal)) :
    θ_run defs (onTc (τ := τ) (main (F := Ideal))) ⟨m, fun _ => 0, ρ⟩ fun r => ∀ c : Dev nD,
      r.2.mem ((c : Thread nD τ).loc main_v0) = attn (argQ m c) (argK m c) (argV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hreal c)), (h c).2⟩) (Value.run_blocks m ρ)

end Attn
-- ==== Proof.Shift.lean ====
/-
  The steps of the reference over `S` keys in `J` chunks: its logits are the scores times the logarithm of two, its shift of a
  row of real logits is a real, its weights are the softmax weights, and its sums of weighted values are `attn`.
-/
module

public import proofs.«01_k».proof.Proof.Spec
public import Idealize.ShloMosaic.Lib.KernelVsHost
public import Idealize.ShloMosaic.Lib.Pipeline.Value

@[expose] public section

set_option maxRecDepth 16384

noncomputable section

namespace Attn

open Idealize.ShloMosaic Idealize.ShloMosaic.TcCoe Idealize.SL.Sem
open Idealize.ShloMosaic.Pointwise

/-- The constant two. -/
theorem ofBits_two : Ideal.ofBits .f32 0x40000000#32 = ((2 : ℝ) : EReal) := by
  simp [Ideal.ofBits, Ideal.ieee]
  rw [← EReal.coe_mul]
  norm_num

/-- A maximum over the last axis of an array of reals, from −∞, is a real. -/
theorem reduce_max_real {N S : ℕ} (hS : 0 < S) (hr : (⟨5, ![N, 2, 4, S, S]⟩ : Shape).Reduces [4] ⟨4, ![N, 2, 4, S]⟩)
    (hd : (⟨5, ![N, 2, 4, S, S]⟩ : Shape).ReducesTo [4] ⟨4, ![N, 2, 4, S]⟩) (h0 : 0 < (⟨0, ![]⟩ : Shape).numel)
    (x : FVec Ideal ⟨5, ![N, 2, 4, S, S]⟩ .f32) (hx : ∀ i, ∃ r : ℝ, x i = (r : EReal)) (j : (⟨4, ![N, 2, 4, S]⟩ : Shape).Idx) :
    ∃ μ : ℝ, Host.reduce FloatOps.maximumf x (constant (F := Ideal) ⟨0, ![]⟩ .f32 0xFF800000#32) hd h0 j = (μ : EReal) := by
  choose f hf using hx
  obtain ⟨μ, hμ⟩ := fold_max_coe (n := S) hS fun k => f (hr.lift j k)
  refine ⟨μ, ?_⟩
  rw [Host.reduce_eq_fold_single _ _ _ _ hr, ← hμ]
  have e : (x ∘ hr.lift j) = fun k => (f (hr.lift j k) : EReal) := funext fun k => hf _
  rw [e]
  show Finset.univ.fold max (Ideal.ofBits .f32 0xFF800000#32) _ = _
  rw [ofBits_bot]
  rfl

section

variable {N S J : ℕ} [NeZero S] [NeZero J] (hS : 512 * J = S) (Q : Vec Ideal ⟨5, ![N, 8, J, 64, 512]⟩ .bf16) (K : Vec Ideal ⟨4, ![N, 2, S, 64]⟩ .bf16)
  (V : Vec Ideal ⟨5, ![N, 2, J, 64, 512]⟩ .bf16)

/-- A number below `S` divided by 512 is its chunk. -/
theorem chunk_of_lt (n : ℕ) (hn : n < S) : chunk (J := J) n = ⟨n / 512, by omega⟩ := Fin.ext (Nat.mod_eq_of_lt (by omega))

/-- The reference's logits: the scores times the logarithm of two. -/
theorem logit_eq (b : Fin N) (g : Fin 2) (r : Fin 4) (t n : Fin S) :
    (∑ x : Fin 64, K (ix4 b g n x) * Q (ix5 b ⟨g.val * 4 + r.val, by omega⟩ ⟨t.val / 512, by omega⟩ x ⟨t.val % 512, by omega⟩))
        * Ideal.log (Ideal.ofBits FTy.f32 0x40000000#32)
      = score Q K b ⟨4 * g.val + r.val, by omega⟩ t n.val * (Real.log 2 : EReal) := by
  have hl : Ideal.log ((2 : ℝ) : EReal) = (Real.log 2 : EReal) :=
    if_neg (c := (2 : ℝ) ≤ 0) (by norm_num)
  rw [ofBits_two, hl]
  unfold score
  refine congrArg (· * _) (Finset.sum_congr rfl fun d _ => ?_)
  have e0 : (⟨(4 * g.val + r.val) / 4, by omega⟩ : Fin 2) = g := Fin.ext (by show (4 * g.val + r.val) / 4 = g.val; omega)
  have e1 : key n.val = n := Fin.ext (Nat.mod_eq_of_lt n.isLt)
  have e3 : place t.val = ⟨t.val % 512, by omega⟩ := rfl
  have e4 : (⟨g.val * 4 + r.val, by omega⟩ : Fin 8) = ⟨4 * g.val + r.val, by omega⟩ := Fin.ext (by show g.val * 4 + r.val = 4 * g.val + r.val; omega)
  show _ = K (ix4 b ⟨(4 * g.val + r.val) / 4, _⟩ (key n.val) d) * Q (ix5 b ⟨4 * g.val + r.val, _⟩ (chunk t.val) d (place t.val))
  rw [e0, e1, chunk_of_lt hS t.val t.isLt, e3, e4]

/-- A row of real logits, shifted by a real, gives the softmax weights. -/
theorem weight_of_logits (h0 : 0 < S) (s : ℕ → EReal) (hs : ∀ k, s k = ((s k).toReal : EReal)) (L : Fin S → EReal) (M : EReal)
    (hM : ∃ y : ℝ, M = (y : EReal)) (hL : ∀ k : Fin S, L k = s k.val * (Real.log 2 : EReal)) (n : Fin S) :
    Ideal.div (Ideal.exp (L n - M)) (∑ x, Ideal.exp (L x - M)) = ((weight (fun k => (s k).toReal) S n.val : ℝ) : EReal) := by
  obtain ⟨y, rfl⟩ := hM
  rw [← weight_exp h0 _ y n.val]
  have e : ∀ k : Fin S, L k = ((s k.val).toReal : EReal) * (Real.log 2 : EReal) := fun k => by rw [hL, ← hs]
  simp only [e]

/-- The values weighted by the softmax weights sum to `attn`. -/
theorem attn_of_weights (W : Fin 2 → Fin 4 → Fin S → Fin S → EReal) (b : Fin N)
    (hW : ∀ g r t n, W g r t n = ((weight (fun k => (score Q K b ⟨4 * g.val + r.val, by omega⟩ t k).toReal) S n.val : ℝ) : EReal))
    (t : Fin S) (y : Fin 512) :
    ∑ x : Fin S, V (ix5 b ⟨y.val / 256, by omega⟩ ⟨x.val / 512, by omega⟩ ⟨y.val % 64, by omega⟩ ⟨x.val % 512, by omega⟩)
        * W ⟨y.val / 256, by omega⟩ ⟨y.val / 64 % 4, by omega⟩ t x = attn Q K V (ix3 b t y) := by
  show _ = attnAt Q K V b t ⟨y.val / 64, by omega⟩ ⟨y.val % 64, Nat.mod_lt _ (by norm_num)⟩
  unfold attnAt mean
  rw [Finset.sum_range]
  refine Finset.sum_congr rfl fun x _ => ?_
  rw [hW]
  have e0 : (⟨4 * (y.val / 256) + y.val / 64 % 4, by omega⟩ : Fin 8) = ⟨y.val / 64, by omega⟩ :=
    Fin.ext (by show 4 * (y.val / 256) + y.val / 64 % 4 = y.val / 64; omega)
  have e1 : (⟨y.val / 64 / 4, by omega⟩ : Fin 2) = ⟨y.val / 256, by omega⟩ := Fin.ext (by show y.val / 64 / 4 = y.val / 256; omega)
  have e3 : place x.val = ⟨x.val % 512, by omega⟩ := rfl
  show _ * ((weight (fun k => (score Q K b ⟨4 * (y.val / 256) + y.val / 64 % 4, _⟩ t k).toReal) S x.val : ℝ) : EReal)
    = V (ix5 b ⟨y.val / 64 / 4, _⟩ (chunk x.val) ⟨y.val % 64, _⟩ (place x.val)) * _
  rw [e0, e1, chunk_of_lt hS x.val x.isLt, e3]

end

end Attn
-- ==== Proof.RefValue.lean ====
/-
  What the attention reference computes, index by index: `attn` of its three arguments.
-/
module

public import proofs.«01_k».proof.Proof.Shift
public import proofs.«01_k».proof.Proof.Gen.ReferenceIdeal.Run
public import proofs.«01_k».proof.Proof.Gen.ReferenceIdeal.Read

@[expose] public section

set_option maxRecDepth 16384

noncomputable section

namespace Attn

open Cert.ReferenceIdeal Cert.ReferenceIdeal.Gen Cert.ReferenceIdeal.Read Idealize.ShloMosaic Idealize.ShloMosaic.TcCoe Idealize.SL.Sem
open Idealize.ShloMosaic.Pointwise

variable (Q : Vec Ideal S4x8x16x64x512 .bf16) (K : Vec Ideal S4x2x8192x64 .bf16) (V : Vec Ideal S4x2x16x64x512 .bf16)

/-- The reference's logits: the scores times the logarithm of two. -/
theorem logit_apply (b : Fin 4) (g : Fin 2) (r : Fin 4) (t n : Fin 8192) :
    val_main_v11 (F := Ideal) Q K (ix5 b g r t n)
      = score Q K b ⟨4 * g.val + r.val, by have := g.isLt; have := r.isLt; omega⟩ t n.val * (Real.log 2 : EReal) := by
  have h : val_main_v11 (F := Ideal) Q K (ix5 b g r t n) =
      (∑ x : Fin 64, K (ix4 b g n x) * Q (ix5 b ⟨g.val * 4 + r.val, by have := g.isLt; have := r.isLt; omega⟩
        ⟨t.val / 512, by have := t.isLt; omega⟩ x ⟨t.val % 512, by omega⟩)) * Ideal.log (Ideal.ofBits FTy.f32 0x40000000#32) := by
    pointwise [val_main_v11, val_main_v10, val_main_v9, val_main_cst, val_main_v8, val_main_v7, val_main_v3, val_main_v2, val_main_v1, val_main_v0]
  exact h.trans (logit_eq (J := 16) rfl Q K b g r t n)

/-- The reference's shift of a row of logits is a real when the scores are. -/
theorem shift_real (hreal : ∀ b h t n, score Q K b h t n = ((score Q K b h t n).toReal : EReal)) (j : S4x2x4x8192.Idx) :
    ∃ M : ℝ, val_main_v14 (F := Ideal) Q K j = (M : EReal) := by
  have hv (b : Fin 4) (g : Fin 2) (r : Fin 4) (t n : Fin 8192) : ∃ y : ℝ, val_main_v11 (F := Ideal) Q K (ix5 b g r t n) = (y : EReal) :=
    ⟨_, by rw [logit_apply, hreal, ← EReal.coe_mul]⟩
  obtain ⟨μ, hμ⟩ := reduce_max_real (by norm_num) (by decide) reducesTo_S4x2x4x8192x8192_S4x2x4x8192_d4 h_S_ (val_main_v11 (F := Ideal) Q K) (fun i => by
    rw [eq_ix5 i]
    exact hv (i 0) (i 1) (i 2) (i 3) (i 4)) j
  refine ⟨μ, ?_⟩
  rw [val_main_v14_apply, val_main_v13_apply]
  unfold val_main_v12
  show max (Ideal.ofBits .f32 0xFF800000#32) _ = _
  rw [ofBits_bot, max_eq_right bot_le]
  exact hμ

/-- The reference's softmax weights. -/
theorem weight_apply (hreal : ∀ b h t n, score Q K b h t n = ((score Q K b h t n).toReal : EReal))
    (b : Fin 4) (g : Fin 2) (r : Fin 4) (t n : Fin 8192) :
    val_main_v22 (F := Ideal) Q K (ix5 b g r t n)
      = ((weight (fun k => (score Q K b ⟨4 * g.val + r.val, by have := g.isLt; have := r.isLt; omega⟩ t k).toReal) 8192 n.val : ℝ) : EReal) := by
  have h : val_main_v22 (F := Ideal) Q K (ix5 b g r t n) =
      Ideal.div (Ideal.exp (val_main_v11 (F := Ideal) Q K (ix5 b g r t n) - val_main_v14 (F := Ideal) Q K (ix4 b g r t)))
        (∑ x, Ideal.exp (val_main_v11 (F := Ideal) Q K (ix5 b g r t x) - val_main_v14 (F := Ideal) Q K (ix4 b g r t))) := by
    pointwise [val_main_v22, val_main_v21, val_main_v20, val_main_v19, val_main_cst_2, val_main_v18, val_main_v17, val_main_v16, val_main_v15]
  rw [h]
  exact weight_of_logits (by norm_num) (fun k => score Q K b ⟨4 * g.val + r.val, by have := g.isLt; have := r.isLt; omega⟩ t k) (hreal b _ t)
    (fun x => val_main_v11 (F := Ideal) Q K (ix5 b g r t x)) _ (shift_real Q K hreal (ix4 b g r t)) (logit_apply Q K b g r t) n

/-- THE REFERENCE'S RESULT is `attn` of its arguments, when the scores are real. -/
theorem reference_eq (hreal : ∀ b h t n, score Q K b h t n = ((score Q K b h t n).toReal : EReal)) :
    val_main_v26 (F := Ideal) Q K V = attn Q K V := by
  funext i
  rw [eq_ix3 i]
  generalize i 0 = b
  generalize i 1 = t
  generalize i 2 = y
  change Fin 4 at b
  change Fin 8192 at t
  change Fin 512 at y
  have hy := y.isLt
  have h : val_main_v26 (F := Ideal) Q K V (ix3 b t y) = ∑ x : Fin 8192,
      V (ix5 b ⟨y.val / 256, by omega⟩ ⟨x.val / 512, by have := x.isLt; omega⟩ ⟨y.val % 64, by omega⟩ ⟨x.val % 512, by omega⟩) *
        val_main_v22 (F := Ideal) Q K (ix5 b ⟨y.val / 256, by omega⟩ ⟨y.val / 64 % 4, by omega⟩ t x) := by
    pointwise [val_main_v26, val_main_v25, val_main_v24, val_main_v23, val_main_v6, val_main_v5, val_main_v4]
  exact h.trans (attn_of_weights (J := 16) rfl Q K V (fun g r t n => val_main_v22 (F := Ideal) Q K (ix5 b g r t n)) b (weight_apply Q K hreal b) t y)

open Idealize.ShloMosaic.StableHlo in
/-- The reference runs, ends with `attn` of its arguments, and leaves the arguments unchanged. -/
theorem reference_run (m : (ℓ : Loc nD τ sig) → Buf (Elt Ideal) ℓ) (ρ : Dev nD → PrngReg)
    (hreal : ∀ (c : Dev nD) b h t n, score (m ((c.tc : Thread nD τ).loc main_arg0)) (m ((c.tc : Thread nD τ).loc main_arg1)) b h t n
      = ((score (m ((c.tc : Thread nD τ).loc main_arg0)) (m ((c.tc : Thread nD τ).loc main_arg1)) b h t n).toReal : EReal)) :
    θ_run (defs (F := Ideal)) (onTc (τ := τ) (main (F := Ideal))) ⟨m, fun _ => 0, ρ⟩ fun r => ∀ c : Dev nD,
      r.2.mem ((c.tc : Thread nD τ).loc main_v26) = attn (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v26_eq _ _ _).trans (reference_eq _ _ _ (hreal c))), (h c).2⟩)
    (Cert.ReferenceIdeal.Value.run m ρ)

end Attn
-- ==== Proof.Pre.lean ====
/-
  What the precondition says: every query and every key is a real.
-/
module

public import proofs.«01_k».proof.Proof.Spec
public import proofs.«01_k».proof.Proof.Gen.Pre_finite
public import Idealize.ShloMosaic.Lib.ReduceAll

@[expose] public section

set_option maxRecDepth 16384

noncomputable section

namespace Attn

open Cert.Pre_finite Cert.Pre_finite.Gen Idealize.ShloMosaic

/-- The constant infinity. -/
theorem ofBits_top : Ideal.ofBits .f32 0x7F800000#32 = (⊤ : EReal) := by
  simp [Ideal.ofBits, Ideal.ieee]

/-- An extended real below infinity in absolute value is a real. -/
theorem real_of_abs_lt {x : EReal} (h : Ideal.cmp .olt (max x (-x)) ⊤ = 1#1) : x = (x.toReal : EReal) := by
  have h' : max x (-x) < ⊤ := by
    by_contra hn
    simp [Ideal.cmp, hn] at h
  refine (EReal.coe_toReal ?_ ?_).symm
  · rintro rfl; simp at h'
  · rintro rfl; simp at h'

instance : Subsingleton S_.Idx := ⟨fun a b => funext fun k => k.elim0⟩

/-- The precondition's word is one only when every query and every key is a real. -/
theorem finite_real (Q : FVec Ideal S4x8x16x64x512 .bf16) (K : FVec Ideal S4x2x8192x64 .bf16) (V : FVec Ideal S4x2x16x64x512 .bf16)
    (h : fn (F := Ideal) Q K V = fun _ => 1#1) :
    (∀ i, (Q i : EReal) = ((Q i : EReal).toReal : EReal)) ∧ ∀ i, (K i : EReal) = ((K i : EReal).toReal : EReal) := by
  have h0 := congrFun h (Shape.Idx.first h_S_)
  dsimp only [fn] at h0
  obtain ⟨hq, hk⟩ := IntOp.andi_eq_one.1 h0
  exact ⟨fun i => real_of_abs_lt (by rw [← ofBits_top]; exact Host.reduce_andi_all _ _ _ _ _ hq i),
    fun i => real_of_abs_lt (by rw [← ofBits_top]; exact Host.reduce_andi_all _ _ _ _ _ hk i)⟩

end Attn
-- ==== Proof.Tail.Chain.lean ====
/-
  The convolution of the tail's body at one element: a chain of thirty-one multiply-adds over the extended channels,
  whatever loop and trip computed it.
-/
module

public import proofs.«01_k».proof.Proof.Gen.TailIdeal.Skeleton
public import Idealize.ShloMosaic.Lib.Pointwise

@[expose] public section

set_option maxRecDepth 16384

noncomputable section

namespace Tail

open Cert.TailIdeal Cert.TailIdeal.Gen Idealize.ShloMosaic Idealize.ShloMosaic.TcCoe Idealize.SL.Sem
open Idealize.ShloMosaic.Pointwise

section Words
variable {F : FTy → Type} [FloatOps F]

/-- A chain of multiply-adds from `b`: after `n` steps it holds `b + w 0 · x 0 + … + w (n-1) · x (n-1)`, associated to
    the left. -/
def chain (b : FVec F S8x128 .f32) (w x : ℕ → FVec F S8x128 .f32) : ℕ → FVec F S8x128 .f32
  | 0 => b
  | n + 1 => addf (chain b w x n) (mulf (w n) (x n))

/-- A row of taps repeated over eight sublanes. -/
def spread (v : Vec F S1x128 .f32) : FVec F S8x128 .f32 :=
  broadcastTo S8x128 (shapeCast S1x128 v shapeCasts_S1x128_S1x128 : FVec F S1x128 .f32) broadcasts_S1x128_S8x128

/-- Sixteen blocks of eight rows, one under the other. -/
def stack (f : Fin 16 → FVec F S8x128 .f32) : FVec F S128x128 .f32 :=
  k0_pay774 (f 0) (f 1) (f 2) (f 3) (f 4) (f 5) (f 6) (f 7) (f 8) (f 9) (f 10) (f 11) (f 12) (f 13) (f 14) (f 15)

/-- The taps of loop 1, first to last. -/
def taps1 (v27 v30 v33 v36 v39 v42 v45 v48 v51 v54 v57 v60 v63 v66 v69 v72 v75 v78 v81 v84 v87 v90 v93 v96 v99 v102 : FVec F S8x128 .f32) (v103 v106 v109 v112 : Vec F S1x128 .f32) (v117 : FVec F S8x128 .f32) (v118 : Vec F S1x128 .f32) : ℕ → FVec F S8x128 .f32
  | 0 => v27
  | 1 => v30
  | 2 => v33
  | 3 => v36
  | 4 => v39
  | 5 => v42
  | 6 => v45
  | 7 => v48
  | 8 => v51
  | 9 => v54
  | 10 => v57
  | 11 => v60
  | 12 => v63
  | 13 => v66
  | 14 => v69
  | 15 => v72
  | 16 => v75
  | 17 => v78
  | 18 => v81
  | 19 => v84
  | 20 => v87
  | 21 => v90
  | 22 => v93
  | 23 => v96
  | 24 => v99
  | 25 => v102
  | 26 => spread v103
  | 27 => spread v106
  | 28 => spread v109
  | 29 => spread v112
  | _ => v117

/-- The taps of loop 2, first to last. -/
def taps2 (v124 v127 v130 v133 v136 v139 v142 v145 v148 v151 v154 v157 v160 v163 v166 v169 v172 v175 v178 v181 v184 v187 v190 v193 v196 v199 v202 v205 v208 : FVec F S8x128 .f32) (v209 : Vec F S1x128 .f32) (v214 : FVec F S8x128 .f32) (v215 : Vec F S1x128 .f32) : ℕ → FVec F S8x128 .f32
  | 0 => v124
  | 1 => v127
  | 2 => v130
  | 3 => v133
  | 4 => v136
  | 5 => v139
  | 6 => v142
  | 7 => v145
  | 8 => v148
  | 9 => v151
  | 10 => v154
  | 11 => v157
  | 12 => v160
  | 13 => v163
  | 14 => v166
  | 15 => v169
  | 16 => v172
  | 17 => v175
  | 18 => v178
  | 19 => v181
  | 20 => v184
  | 21 => v187
  | 22 => v190
  | 23 => v193
  | 24 => v196
  | 25 => v199
  | 26 => v202
  | 27 => v205
  | 28 => v208
  | 29 => spread v209
  | _ => v214

/-- The taps of loop 3, first to last. -/
def taps3 (v221 v224 v227 v230 v233 v236 v239 v242 v245 v248 v251 v254 v257 v260 v263 v266 v269 v272 v275 v278 v281 v284 v287 v290 v293 v296 v299 v302 v305 v308 v311 v314 : FVec F S8x128 .f32) (c0_i32_178 : BitVec 32) : ℕ → FVec F S8x128 .f32
  | 0 => v221
  | 1 => v224
  | 2 => v227
  | 3 => v230
  | 4 => v233
  | 5 => v236
  | 6 => v239
  | 7 => v242
  | 8 => v245
  | 9 => v248
  | 10 => v251
  | 11 => v254
  | 12 => v257
  | 13 => v260
  | 14 => v263
  | 15 => v266
  | 16 => v269
  | 17 => v272
  | 18 => v275
  | 19 => v278
  | 20 => v281
  | 21 => v284
  | 22 => v287
  | 23 => v290
  | 24 => v293
  | 25 => v296
  | 26 => v299
  | 27 => v302
  | 28 => v305
  | 29 => v308
  | _ => v311

/-- The taps of loop 4, first to last. -/
def taps4 (v318 v321 v324 v327 v330 v333 v336 v339 v342 v345 v348 v351 v354 v357 v360 v363 v366 v369 v372 v375 v378 v381 v384 : FVec F S8x128 .f32) (v385 v388 v391 v394 v397 v400 v403 : Vec F S1x128 .f32) (v408 : FVec F S8x128 .f32) (v409 : Vec F S1x128 .f32) : ℕ → FVec F S8x128 .f32
  | 0 => v318
  | 1 => v321
  | 2 => v324
  | 3 => v327
  | 4 => v330
  | 5 => v333
  | 6 => v336
  | 7 => v339
  | 8 => v342
  | 9 => v345
  | 10 => v348
  | 11 => v351
  | 12 => v354
  | 13 => v357
  | 14 => v360
  | 15 => v363
  | 16 => v366
  | 17 => v369
  | 18 => v372
  | 19 => v375
  | 20 => v378
  | 21 => v381
  | 22 => v384
  | 23 => spread v385
  | 24 => spread v388
  | 25 => spread v391
  | 26 => spread v394
  | 27 => spread v397
  | 28 => spread v400
  | 29 => spread v403
  | _ => v408

end Words

/-- The convolution at row `r` and channel `l` of a block: the bias and thirty-one products of taps `T` with rows of the
    extended channels `E`, whose row `4 a + q` holds channels `128 q` to `128 q + 127` of position `a`. -/
def convAt (T : Fin 31 → Fin 512 → EReal) (B : Fin 512 → EReal) (E : Fin 2176 → Fin 128 → EReal) (r l : Fin 512) : EReal :=
  B l + ∑ n : Fin 31, T n l * E ⟨4 * (r.val + n.val + 1) + l.val / 128, by omega⟩ ⟨l.val % 128, by omega⟩

/-- A chain of multiply-adds, at an element. -/
theorem chain_apply (b : FVec Ideal S8x128 .f32) (w x : ℕ → FVec Ideal S8x128 .f32) (i : S8x128.Idx) (n : ℕ) :
    chain b w x n i = b i + ∑ m : Fin n, w m.val i * x m.val i := by
  induction n with
  | zero => simp [chain]
  | succ n ih =>
    show chain b w x n i + w n i * x n i = _
    rw [ih, Fin.sum_univ_castSucc, add_assoc]
    rfl

/-- Sixteen blocks stacked, at an element. -/
theorem stack_apply (f : Fin 16 → FVec Ideal S8x128 .f32) (r l : Fin 128) :
    stack f (ix2 r l) = f ⟨r.val / 8, by omega⟩ (ix2 ⟨r.val % 8, by omega⟩ l) := by
  have e : stack f = shapeCast S128x128 (concatenate S128x128 0 (List.ofFn fun n : Fin 16 => (⟨S8x128, f n⟩ : (s : Shape) × (s.Idx → Ideal .f32)))
      concatenates_S8x128_S8x128_S8x128_S8x128_S8x128_S8x128_S8x128_S8x128_S8x128_S8x128_S8x128_S8x128_S8x128_S8x128_S8x128_S8x128_S128x128_d0)
      shapeCasts_S128x128_S128x128 := rfl
  rw [e, shapeCast_self]
  exact Idealize.ShloMosaic.concatenate_ofFn_apply (t := S128x128) (s₁ := S8x128) 0 f _ rfl 8 rfl (ix2 r l) ⟨r.val / 8, by omega⟩ rfl (ix2 ⟨r.val % 8, by omega⟩ l) rfl (fun b hb => by
    match b with
    | ⟨0, _⟩ => exact absurd rfl hb
    | ⟨1, _⟩ => rfl)

/-- A row of taps spread over eight sublanes, read off the taps' block. -/
theorem spread_apply (v : Vec Ideal S1x128 .f32) (s : Fin 8) (l : Fin 128) : spread v (ix2 s l) = v (ix2 0 l) := by
  unfold spread
  pointwise

variable {T : Fin 31 → Fin 512 → EReal} {B : Fin 512 → EReal} {E : Fin 2176 → Fin 128 → EReal}

/-- WHAT A TRIP STORES is the convolution at its rows and channels. -/
theorem piece_apply (q : ℕ) (hq : q < 4) (k : ℕ) (hk : k < 4) (b : FVec Ideal S8x128 .f32) (w : ℕ → FVec Ideal S8x128 .f32)
    (rows : Fin 151 → Vec Ideal S8x128 .f32)
    (hb : ∀ s (l : Fin 128), b (ix2 s l) = B ⟨128 * q + l.val, by omega⟩)
    (hw : ∀ (n : Fin 31) s (l : Fin 128), w n.val (ix2 s l) = T n ⟨128 * q + l.val, by omega⟩)
    (hr : ∀ (u : Fin 151) (s : Fin 8) (l : Fin 128), rows u (ix2 s l) = E ⟨4 * (128 * k + u.val + s.val + 1) + q, by omega⟩ l)
    (off : Fin 2 → ℕ) (h0 : off 0 = 128 * k) (h1 : off 1 = 128 * q) (inb : ∀ a, off a + S128x128.size a ≤ S512x512.size a)
    (x : S128x128.Idx) :
    stack (fun blk => chain b w (fun n => rows (Fin.ofNat 151 (8 * blk.val + n))) 31) x
      = convAt T B E ((Rect.unit (s := S512x512) off S128x128.size inb).emb x 0) ((Rect.unit (s := S512x512) off S128x128.size inb).emb x 1) := by
  have hx : x = ix2 (x 0) (x 1) := by
    funext a
    match a with
    | ⟨0, _⟩ => rfl
    | ⟨1, _⟩ => rfl
  have x0 : (x 0).val < 128 := (x 0).isLt
  have x1 : (x 1).val < 128 := (x 1).isLt
  have e0 : (Rect.unit (s := S512x512) off S128x128.size inb).emb x 0 = (⟨128 * k + (x 0).val, by omega⟩ : Fin 512) :=
    Fin.ext (by show off 0 + 1 * (x 0).val = _; rw [h0]; simp only; omega)
  have e1 : (Rect.unit (s := S512x512) off S128x128.size inb).emb x 1 = (⟨128 * q + (x 1).val, by omega⟩ : Fin 512) :=
    Fin.ext (by show off 1 + 1 * (x 1).val = _; rw [h1]; simp only; omega)
  rw [e0, e1]
  refine (congrArg _ hx).trans ((stack_apply _ (x 0) (x 1)).trans ?_)
  rw [chain_apply]
  unfold convAt
  refine congrArg₂ (· + ·) (hb _ _) (Finset.sum_congr rfl fun n _ => congrArg₂ (· * ·) (hw _ _ _) ?_)
  refine (hr _ _ _).trans ?_
  have hn := n.isLt
  have hm : (8 * ((x 0).val / 8) + n.val) % 151 = 8 * ((x 0).val / 8) + n.val := Nat.mod_eq_of_lt (by omega)
  refine congrArg₂ E (Fin.ext ?_) (Fin.ext ?_)
  · show 4 * (128 * k + (8 * ((x 0).val / 8) + n.val) % 151 + (x 0).val % 8 + 1) + q
      = 4 * (128 * k + (x 0).val + n.val + 1) + (128 * q + (x 1).val) / 128
    rw [hm]
    omega
  · show (x 1).val = (128 * q + (x 1).val) % 128
    omega

end Tail
-- ==== Proof.Tail.Loop.lean ====
/-
  What a convolution loop stores, whatever loop it is: trip `k` stores one piece, at rows `128 k` and at the loop's own
  128 lanes. Such pieces cover the loop's lanes, and when the trips compute chains of multiply-adds over the extended
  channels they hold the convolution.
-/
module

public import proofs.«01_k».proof.Proof.Tail.Chain
public import Idealize.ShloMosaic.Lib.HeldBySlice

@[expose] public section

set_option maxRecDepth 16384

noncomputable section

namespace Tail

open Cert.TailIdeal Cert.TailIdeal.Gen Idealize.ShloMosaic Idealize.ShloMosaic.TcCoe Idealize.SL.Sem
open Idealize.ShloMosaic.Pointwise

variable {F : FTy → Type} [FloatOps F]

/-- `p` is the piece at rows `128 k` and lanes `128 q` that holds `v`. -/
def IsPiece (q k : ℕ) (v : Vec F S128x128 .f32) (p : View.Piece (Elt F) S512x512 .f32) : Prop :=
  ∃ (off : Fin 2 → ℕ) (inb : ∀ a, off a + S128x128.size a ≤ S512x512.size a),
    off 0 = 128 * k ∧ off 1 = 128 * q ∧ p = ⟨Rect.unit (s := S512x512) off S128x128.size inb, v⟩

/-- The pieces of `L` are those of four trips at the lanes from `128 q`, trip `k`'s holding `f k`. -/
def Stores {N : ℕ} (q : ℕ) (f : Fin N → Vec F S128x128 .f32) (L : List (View.Piece (Elt F) S512x512 .f32)) : Prop :=
  N = 4 ∧ (∀ p ∈ L, ∃ k, IsPiece q k.val (f k) p) ∧ ∀ k, ∃ p ∈ L, IsPiece q k.val (f k) p

/-- A loop whose trips store one piece each stores those pieces. -/
theorem stores_of_trips {N : ℕ} (hN : N = 4) (q : ℕ) (f : Fin N → Vec F S128x128 .f32) (pb : ℕ → List (View.Piece (Elt F) S512x512 .f32))
    (trip : Fin N → List (View.Piece (Elt F) S512x512 .f32)) (h0 : pb 0 = []) (hs : ∀ k : Fin N, pb (k.val + 1) = trip k ++ pb k.val)
    (off : Fin N → Fin 2 → ℕ) (inb : ∀ k a, off k a + S128x128.size a ≤ S512x512.size a)
    (ho : ∀ k, off k 0 = 128 * k.val ∧ off k 1 = 128 * q)
    (ht : ∀ k, trip k = [⟨Rect.unit (s := S512x512) (off k) S128x128.size (inb k), f k⟩]) : Stores q f (pb N) := by
  have piece (k : Fin N) : IsPiece q k.val (f k) ⟨Rect.unit (s := S512x512) (off k) S128x128.size (inb k), f k⟩ :=
    ⟨off k, inb k, (ho k).1, (ho k).2, rfl⟩
  have all (n : ℕ) (hn : n ≤ N) : (∀ p ∈ pb n, ∃ k, IsPiece q k.val (f k) p) ∧ ∀ k : Fin N, k.val < n → ∃ p ∈ pb n, IsPiece q k.val (f k) p := by
    induction n with
    | zero => exact ⟨fun p hp => absurd (h0 ▸ hp) List.not_mem_nil, fun k hk => absurd hk (Nat.not_lt_zero _)⟩
    | succ n ih =>
      obtain ⟨ih1, ih2⟩ := ih (by omega)
      have e : pb (n + 1) = ⟨Rect.unit (s := S512x512) (off ⟨n, hn⟩) S128x128.size (inb ⟨n, hn⟩), f ⟨n, hn⟩⟩ :: pb n := by
        rw [hs ⟨n, hn⟩, ht]; rfl
      rw [e]
      refine ⟨fun p hp => ?_, fun k hk => ?_⟩
      · rcases List.mem_cons.mp hp with rfl | hp
        · exact ⟨_, piece ⟨n, hn⟩⟩
        · exact ih1 p hp
      · by_cases h : k.val = n
        · obtain rfl : k = ⟨n, hn⟩ := Fin.ext h
          exact ⟨_, List.mem_cons_self .., piece ⟨n, hn⟩⟩
        · obtain ⟨p, hp, h⟩ := ih2 k (by omega)
          exact ⟨p, List.mem_cons_of_mem _ hp, h⟩
  exact ⟨hN, (all N le_rfl).1, fun k => (all N le_rfl).2 k k.isLt⟩

/-- The pieces of a loop cover its lanes. -/
theorem Stores.cover {N : ℕ} {q : ℕ} {f : Fin N → Vec F S128x128 .f32} {L : List (View.Piece (Elt F) S512x512 .f32)} (h : Stores q f L)
    (y : S512x512.Idx) (hy : (y 1).val / 128 = q) : ∃ p ∈ L, y ∈ p.1.set := by
  obtain ⟨hN, -, h⟩ := h
  have h0 : (y 0).val < 512 := (y 0).isLt
  obtain ⟨p, hp, off, inb, e0, e1, rfl⟩ := h ⟨(y 0).val / 128, by omega⟩
  refine ⟨_, hp, (LoadRect.mem_set _).mpr fun a => ?_⟩
  match a with
  | ⟨0, _⟩ => exact ⟨(y 0).val % 128, Nat.mod_lt _ (by decide), by show (y 0).val = off 0 + 1 * _; rw [e0]; dsimp only; omega⟩
  | ⟨1, _⟩ => exact ⟨(y 1).val % 128, Nat.mod_lt _ (by decide), by show (y 1).val = off 1 + 1 * _; rw [e1]; omega⟩

/-- Four loops that each cover their own lanes cover the buffer together. -/
theorem cover_of_stores {N₀ N₁ N₂ N₃ : ℕ} {f₀ : Fin N₀ → Vec F S128x128 .f32} {f₁ : Fin N₁ → Vec F S128x128 .f32}
    {f₂ : Fin N₂ → Vec F S128x128 .f32} {f₃ : Fin N₃ → Vec F S128x128 .f32} {L₀ L₁ L₂ L₃ : List (View.Piece (Elt F) S512x512 .f32)}
    (h₀ : Stores 0 f₀ L₀) (h₁ : Stores 1 f₁ L₁) (h₂ : Stores 2 f₂ L₂) (h₃ : Stores 3 f₃ L₃)
    (y : S512x512.Idx) : ∃ p ∈ L₃ ++ (L₂ ++ (L₁ ++ L₀)), y ∈ p.1.set := by
  have hb : (y 1).val < 512 := (y 1).isLt
  rcases (by omega : (y 1).val / 128 = 0 ∨ (y 1).val / 128 = 1 ∨ (y 1).val / 128 = 2 ∨ (y 1).val / 128 = 3) with h | h | h | h
  · obtain ⟨p, hp, hy⟩ := h₀.cover y h; exact ⟨p, by simp [hp], hy⟩
  · obtain ⟨p, hp, hy⟩ := h₁.cover y h; exact ⟨p, by simp [hp], hy⟩
  · obtain ⟨p, hp, hy⟩ := h₂.cover y h; exact ⟨p, by simp [hp], hy⟩
  · obtain ⟨p, hp, hy⟩ := h₃.cover y h; exact ⟨p, by simp [hp], hy⟩

variable {T : Fin 31 → Fin 512 → EReal} {B : Fin 512 → EReal} {E : Fin 2176 → Fin 128 → EReal}

/-- WHAT A LOOP STORES is the convolution, when its taps are those of its channels. -/
theorem Stores.apply {N : ℕ} {q : ℕ} (hq : q < 4) {b : FVec Ideal S8x128 .f32} {w : ℕ → FVec Ideal S8x128 .f32}
    {rows : Fin N → Fin 151 → Vec Ideal S8x128 .f32} {L : List (View.Piece (Elt Ideal) S512x512 .f32)}
    (h : Stores (F := Ideal) q (fun k => stack fun blk => chain b w (fun n => rows k (Fin.ofNat 151 (8 * blk.val + n))) 31) L)
    (hb : ∀ s (l : Fin 128), b (ix2 s l) = B ⟨128 * q + l.val, by omega⟩)
    (hw : ∀ (n : Fin 31) s (l : Fin 128), w n.val (ix2 s l) = T n ⟨128 * q + l.val, by omega⟩)
    (hr : ∀ (k : Fin N) (hk : k.val < 4) (u : Fin 151) (s : Fin 8) (l : Fin 128),
      rows k u (ix2 s l) = E ⟨4 * (128 * k.val + u.val + s.val + 1) + q, by omega⟩ l) :
    ∀ p ∈ L, ∀ x, p.2 x = convAt T B E (p.1.emb x 0) (p.1.emb x 1) := by
  intro p hp x
  obtain ⟨hN, h, -⟩ := h
  obtain ⟨k, off, inb, e0, e1, rfl⟩ := h p hp
  exact piece_apply q hq k.val (by have := k.isLt; omega) b w (rows k) hb hw (hr k (by have := k.isLt; omega)) off e0 e1 inb x

/-- Eight rows of the extended channels, four apart, as a trip loads them. -/
theorem rows_apply {sig : RefSig} (arg17 : Memref sig .tc .vmem S2176x128 .f32) (X : BufTy.Contents (Elt Ideal) arg17.view.ty)
    (hX : ∀ R l, arg17.view.read (Elt Ideal) X (ix2 R l) = E R l) (off : Fin 2 → ℕ) (inb) (s : Fin 8) (l : Fin 128) (R : Fin 2176)
    (h0 : off 0 + 4 * s.val = R.val) (h1 : off 1 = 0) :
    View.readAt (Elt Ideal) arg17.view (⟨off, S8x128.size, ![4, 1], inb⟩ : LoadRect S2176x128) X (ix2 s l) = E R l := by
  refine Eq.trans ?_ (hX _ _)
  refine congrArg (arg17.view.read (Elt Ideal) X) (funext fun a => Fin.ext ?_)
  match a with
  | ⟨0, _⟩ => exact h0
  | ⟨1, _⟩ => show off 1 + 1 * l.val = l.val; rw [h1]; omega

end Tail
-- ==== Proof.Tail.TailIdealTrip.lean ====
/-
  The tail's four convolution loops: what one trip of each loads and stores, and so what each loop stores.
-/
module

public import proofs.«01_k».proof.Proof.Gen.TailIdeal.Loops
public import proofs.«01_k».proof.Proof.Tail.Loop
public import Idealize.ShloMosaic.Lib.Tactic

@[expose] public section

set_option maxRecDepth 16384

noncomputable section

namespace Tail.TailIdealRun
open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Tail (chain spread stack taps1 taps2 taps3 taps4 rows_apply Stores stores_of_trips)
open Idealize.ShloMosaic.Pipeline (Dat Cfg Window BodyObligation cellOf)

variable {F : FTy → Type} [FloatOps F]

variable {c : Dev nD} {i : grid0.Coords} {arg2 : Memref sig .tc .vmem S1x512x1024 .f32} {harg2 : arg2.IsWhole} {arg3 : Memref sig .tc .vmem S1x512x512 .bf16} {harg3 : arg3.IsWhole} {arg4 : Memref sig .tc .vmem S1x2048x128 .f32} {harg4 : arg4.IsWhole} {arg5 : Memref sig .tc .vmem S1x64x128 .f32} {harg5 : arg5.IsWhole} {arg6 : Memref sig .tc .vmem S1x64x128 .f32} {harg6 : arg6.IsWhole} {arg7 : Memref sig .tc .vmem S31x512 .f32} {harg7 : arg7.IsWhole} {arg8 : Memref sig .tc .vmem S1x512 .f32} {harg8 : arg8.IsWhole} {arg9 : Memref sig .tc .vmem S1x512 .f32} {harg9 : arg9.IsWhole} {arg10 : Memref sig .tc .vmem S1x512 .f32} {harg10 : arg10.IsWhole} {arg11 : Memref sig .tc .vmem S1024x1024 .bf16} {harg11 : arg11.IsWhole} {arg12 : Memref sig .tc .vmem S1x1024 .f32} {harg12 : arg12.IsWhole} {arg13 : Memref sig .tc .vmem S1024x4096 .bf16} {harg13 : arg13.IsWhole} {arg14 : Memref sig .tc .vmem S4096x1024 .bf16} {harg14 : arg14.IsWhole} {arg15 : Memref sig .tc .vmem S1x1024 .f32} {harg15 : arg15.IsWhole} {arg16 : Memref sig .tc .vmem S1x512x1024 .f32} {harg16 : arg16.IsWhole} {arg17 : Memref sig .tc .vmem S2176x128 .f32} {harg17 : arg17.IsWhole} {arg18 : Memref sig .tc .vmem S512x512 .f32} {harg18 : arg18.IsWhole}

section Loop1
variable {v27 v30 v33 v36 v39 v42 v45 v48 v51 v54 v57 v60 v63 v66 v69 v72 v75 v78 v81 v84 v87 v90 v93 v96 v99 v102 : FVec F S8x128 .f32} {v103 v106 v109 v112 : Vec F S1x128 .f32} {v117 : FVec F S8x128 .f32} {v118 : Vec F S1x128 .f32} {X : BufTy.Contents (Elt F) arg17.view.ty}

/-- What trip `k` of loop 1 loads of the extended channels: eight rows, `w` rows below the first of the trip's. -/
def rows1 (arg17 : Memref sig .tc .vmem S2176x128 .f32) (X : BufTy.Contents (Elt F) arg17.view.ty) (k : Fin k0_t1_loop.trips) (w : Fin 151) : Vec F S8x128 .f32 :=
  View.readAt (Elt F) arg17.view (⟨k0_off1 k (BitVec.ofNat 32 w.val), S8x128.size, ![4, 1], k0_off1_inb k w⟩ : LoadRect S2176x128) X

/-- Where it loads, -/
theorem loads1 : ∀ (k : Fin k0_t1_loop.trips) (u : Fin 151),
    k0_off1 k (BitVec.ofNat 32 u.val) 0 = 512 * k.val + 4 * u.val + 4 ∧ k0_off1 k (BitVec.ofNat 32 u.val) 1 = 0 := by
  decide +kernel

/-- where it stores, -/
theorem off1 : ∀ k : Fin k0_t1_loop.trips, k0_off2 k 0 = 128 * k.val ∧ k0_off2 k 1 = 128 * 0 := by decide +kernel

/-- and how often. -/
theorem trips1 : Scf.trips k0_t1_loop.lb k0_t1_loop.ub k0_t1_loop.st = 4 := by decide +kernel

set_option maxHeartbeats 4000000 in
/-- It stores one piece, at its own rows and lanes: sixteen chains of thirty-one multiply-adds. -/
theorem trip1 (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v27 v30 v33 v36 v39 v42 v45 v48 v51 v54 v57 v60 v63 v66 v69 v72 v75 v78 v81 v84 v87 v90 v93 v96 v99 v102 v103 v106 v109 v112 v117 v118 X k
      = [⟨Rect.unit (s := S512x512) (k0_off2 k) S128x128.size (k0_off2_inb k),
          stack fun blk => chain (spread v118) (taps1 v27 v30 v33 v36 v39 v42 v45 v48 v51 v54 v57 v60 v63 v66 v69 v72 v75 v78 v81 v84 v87 v90 v93 v96 v99 v102 v103 v106 v109 v112 v117 v118) (fun n => rows1 arg17 X k (Fin.ofNat 151 (8 * blk.val + n))) 31⟩] := by
  unfold tripL_k0_t1 trip_k0_t1
  rfl

/-- So loop 1 stores four. -/
theorem stores1 : Stores 0 (fun k => stack fun blk => chain (spread v118) (taps1 v27 v30 v33 v36 v39 v42 v45 v48 v51 v54 v57 v60 v63 v66 v69 v72 v75 v78 v81 v84 v87 v90 v93 v96 v99 v102 v103 v106 v109 v112 v117 v118) (fun n => rows1 arg17 X k (Fin.ofNat 151 (8 * blk.val + n))) 31) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v27 v30 v33 v36 v39 v42 v45 v48 v51 v54 v57 v60 v63 v66 v69 v72 v75 v78 v81 v84 v87 v90 v93 v96 v99 v102 v103 v106 v109 v112 v117 v118 X (Scf.trips k0_t1_loop.lb k0_t1_loop.ub k0_t1_loop.st)) :=
  stores_of_trips trips1 0 _ (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v27 v30 v33 v36 v39 v42 v45 v48 v51 v54 v57 v60 v63 v66 v69 v72 v75 v78 v81 v84 v87 v90 v93 v96 v99 v102 v103 v106 v109 v112 v117 v118 X) (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v27 v30 v33 v36 v39 v42 v45 v48 v51 v54 v57 v60 v63 v66 v69 v72 v75 v78 v81 v84 v87 v90 v93 v96 v99 v102 v103 v106 v109 v112 v117 v118 X) (pb_k0_t1.eq_1 ..) (fun k => pb_k0_t1_succ ..) _ k0_off2_inb off1 trip1

/-- What it loads are rows of the extended channels. -/
theorem rows1_apply {arg17 : Memref sig .tc .vmem S2176x128 .f32} {X : BufTy.Contents (Elt Ideal) arg17.view.ty} {E : Fin 2176 → Fin 128 → EReal}
    (hX : ∀ R l, arg17.view.read (Elt Ideal) X (ix2 R l) = E R l) (k : Fin k0_t1_loop.trips) (hk : k.val < 4) (u : Fin 151) (s : Fin 8) (l : Fin 128) :
    rows1 arg17 X k u (ix2 s l) = E ⟨4 * (128 * k.val + u.val + s.val + 1) + 0, by omega⟩ l :=
  rows_apply arg17 X hX _ _ s l _ (by rw [(loads1 k u).1]; dsimp only; omega) (loads1 k u).2

end Loop1

section Loop2
variable {v124 v127 v130 v133 v136 v139 v142 v145 v148 v151 v154 v157 v160 v163 v166 v169 v172 v175 v178 v181 v184 v187 v190 v193 v196 v199 v202 v205 v208 : FVec F S8x128 .f32} {v209 : Vec F S1x128 .f32} {v214 : FVec F S8x128 .f32} {v215 : Vec F S1x128 .f32} {X : BufTy.Contents (Elt F) arg17.view.ty}

/-- What trip `k` of loop 2 loads of the extended channels: eight rows, `w` rows below the first of the trip's. -/
def rows2 (arg17 : Memref sig .tc .vmem S2176x128 .f32) (X : BufTy.Contents (Elt F) arg17.view.ty) (k : Fin k0_t2_loop.trips) (w : Fin 151) : Vec F S8x128 .f32 :=
  View.readAt (Elt F) arg17.view (⟨k0_off3 k (BitVec.ofNat 32 w.val), S8x128.size, ![4, 1], k0_off3_inb k w⟩ : LoadRect S2176x128) X

/-- Where it loads, -/
theorem loads2 : ∀ (k : Fin k0_t2_loop.trips) (u : Fin 151),
    k0_off3 k (BitVec.ofNat 32 u.val) 0 = 512 * k.val + 4 * u.val + 5 ∧ k0_off3 k (BitVec.ofNat 32 u.val) 1 = 0 := by
  decide +kernel

/-- where it stores, -/
theorem off2 : ∀ k : Fin k0_t2_loop.trips, k0_off4 k 0 = 128 * k.val ∧ k0_off4 k 1 = 128 * 1 := by decide +kernel

/-- and how often. -/
theorem trips2 : Scf.trips k0_t2_loop.lb k0_t2_loop.ub k0_t2_loop.st = 4 := by decide +kernel

set_option maxHeartbeats 4000000 in
/-- It stores one piece, at its own rows and lanes: sixteen chains of thirty-one multiply-adds. -/
theorem trip2 (k : Fin k0_t2_loop.trips) :
    tripL_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v124 v127 v130 v133 v136 v139 v142 v145 v148 v151 v154 v157 v160 v163 v166 v169 v172 v175 v178 v181 v184 v187 v190 v193 v196 v199 v202 v205 v208 v209 v214 v215 X k
      = [⟨Rect.unit (s := S512x512) (k0_off4 k) S128x128.size (k0_off4_inb k),
          stack fun blk => chain (spread v215) (taps2 v124 v127 v130 v133 v136 v139 v142 v145 v148 v151 v154 v157 v160 v163 v166 v169 v172 v175 v178 v181 v184 v187 v190 v193 v196 v199 v202 v205 v208 v209 v214 v215) (fun n => rows2 arg17 X k (Fin.ofNat 151 (8 * blk.val + n))) 31⟩] := by
  unfold tripL_k0_t2 trip_k0_t2
  rfl

/-- So loop 2 stores four. -/
theorem stores2 : Stores 1 (fun k => stack fun blk => chain (spread v215) (taps2 v124 v127 v130 v133 v136 v139 v142 v145 v148 v151 v154 v157 v160 v163 v166 v169 v172 v175 v178 v181 v184 v187 v190 v193 v196 v199 v202 v205 v208 v209 v214 v215) (fun n => rows2 arg17 X k (Fin.ofNat 151 (8 * blk.val + n))) 31) (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v124 v127 v130 v133 v136 v139 v142 v145 v148 v151 v154 v157 v160 v163 v166 v169 v172 v175 v178 v181 v184 v187 v190 v193 v196 v199 v202 v205 v208 v209 v214 v215 X (Scf.trips k0_t2_loop.lb k0_t2_loop.ub k0_t2_loop.st)) :=
  stores_of_trips trips2 1 _ (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v124 v127 v130 v133 v136 v139 v142 v145 v148 v151 v154 v157 v160 v163 v166 v169 v172 v175 v178 v181 v184 v187 v190 v193 v196 v199 v202 v205 v208 v209 v214 v215 X) (tripL_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v124 v127 v130 v133 v136 v139 v142 v145 v148 v151 v154 v157 v160 v163 v166 v169 v172 v175 v178 v181 v184 v187 v190 v193 v196 v199 v202 v205 v208 v209 v214 v215 X) (pb_k0_t2.eq_1 ..) (fun k => pb_k0_t2_succ ..) _ k0_off4_inb off2 trip2

/-- What it loads are rows of the extended channels. -/
theorem rows2_apply {arg17 : Memref sig .tc .vmem S2176x128 .f32} {X : BufTy.Contents (Elt Ideal) arg17.view.ty} {E : Fin 2176 → Fin 128 → EReal}
    (hX : ∀ R l, arg17.view.read (Elt Ideal) X (ix2 R l) = E R l) (k : Fin k0_t2_loop.trips) (hk : k.val < 4) (u : Fin 151) (s : Fin 8) (l : Fin 128) :
    rows2 arg17 X k u (ix2 s l) = E ⟨4 * (128 * k.val + u.val + s.val + 1) + 1, by omega⟩ l :=
  rows_apply arg17 X hX _ _ s l _ (by rw [(loads2 k u).1]; dsimp only; omega) (loads2 k u).2

end Loop2

section Loop3
variable {v221 v224 v227 v230 v233 v236 v239 v242 v245 v248 v251 v254 v257 v260 v263 v266 v269 v272 v275 v278 v281 v284 v287 v290 v293 v296 v299 v302 v305 v308 v311 v314 : FVec F S8x128 .f32} {c0_i32_178 : BitVec 32} {X : BufTy.Contents (Elt F) arg17.view.ty}

/-- What trip `k` of loop 3 loads of the extended channels: eight rows, `w` rows below the first of the trip's. -/
def rows3 (arg17 : Memref sig .tc .vmem S2176x128 .f32) (X : BufTy.Contents (Elt F) arg17.view.ty) (k : Fin k0_t3_loop.trips) (w : Fin 151) : Vec F S8x128 .f32 :=
  View.readAt (Elt F) arg17.view (⟨k0_off5 k (BitVec.ofNat 32 w.val), S8x128.size, ![4, 1], k0_off5_inb k w⟩ : LoadRect S2176x128) X

/-- Where it loads, -/
theorem loads3 : ∀ (k : Fin k0_t3_loop.trips) (u : Fin 151),
    k0_off5 k (BitVec.ofNat 32 u.val) 0 = 512 * k.val + 4 * u.val + 6 ∧ k0_off5 k (BitVec.ofNat 32 u.val) 1 = 0 := by
  decide +kernel

/-- where it stores, -/
theorem off3 : ∀ k : Fin k0_t3_loop.trips, k0_off6 k 0 = 128 * k.val ∧ k0_off6 k 1 = 128 * 2 := by decide +kernel

/-- and how often. -/
theorem trips3 : Scf.trips k0_t3_loop.lb k0_t3_loop.ub k0_t3_loop.st = 4 := by decide +kernel

set_option maxHeartbeats 4000000 in
/-- It stores one piece, at its own rows and lanes: sixteen chains of thirty-one multiply-adds. -/
theorem trip3 (k : Fin k0_t3_loop.trips) :
    tripL_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v221 v224 v227 v230 v233 v236 v239 v242 v245 v248 v251 v254 v257 v260 v263 v266 v269 v272 v275 v278 v281 v284 v287 v290 v293 v296 v299 v302 v305 v308 v311 v314 c0_i32_178 X k
      = [⟨Rect.unit (s := S512x512) (k0_off6 k) S128x128.size (k0_off6_inb k),
          stack fun blk => chain (v314) (taps3 v221 v224 v227 v230 v233 v236 v239 v242 v245 v248 v251 v254 v257 v260 v263 v266 v269 v272 v275 v278 v281 v284 v287 v290 v293 v296 v299 v302 v305 v308 v311 v314 c0_i32_178) (fun n => rows3 arg17 X k (Fin.ofNat 151 (8 * blk.val + n))) 31⟩] := by
  unfold tripL_k0_t3 trip_k0_t3
  rfl

/-- So loop 3 stores four. -/
theorem stores3 : Stores 2 (fun k => stack fun blk => chain (v314) (taps3 v221 v224 v227 v230 v233 v236 v239 v242 v245 v248 v251 v254 v257 v260 v263 v266 v269 v272 v275 v278 v281 v284 v287 v290 v293 v296 v299 v302 v305 v308 v311 v314 c0_i32_178) (fun n => rows3 arg17 X k (Fin.ofNat 151 (8 * blk.val + n))) 31) (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v221 v224 v227 v230 v233 v236 v239 v242 v245 v248 v251 v254 v257 v260 v263 v266 v269 v272 v275 v278 v281 v284 v287 v290 v293 v296 v299 v302 v305 v308 v311 v314 c0_i32_178 X (Scf.trips k0_t3_loop.lb k0_t3_loop.ub k0_t3_loop.st)) :=
  stores_of_trips trips3 2 _ (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v221 v224 v227 v230 v233 v236 v239 v242 v245 v248 v251 v254 v257 v260 v263 v266 v269 v272 v275 v278 v281 v284 v287 v290 v293 v296 v299 v302 v305 v308 v311 v314 c0_i32_178 X) (tripL_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v221 v224 v227 v230 v233 v236 v239 v242 v245 v248 v251 v254 v257 v260 v263 v266 v269 v272 v275 v278 v281 v284 v287 v290 v293 v296 v299 v302 v305 v308 v311 v314 c0_i32_178 X) (pb_k0_t3.eq_1 ..) (fun k => pb_k0_t3_succ ..) _ k0_off6_inb off3 trip3

/-- What it loads are rows of the extended channels. -/
theorem rows3_apply {arg17 : Memref sig .tc .vmem S2176x128 .f32} {X : BufTy.Contents (Elt Ideal) arg17.view.ty} {E : Fin 2176 → Fin 128 → EReal}
    (hX : ∀ R l, arg17.view.read (Elt Ideal) X (ix2 R l) = E R l) (k : Fin k0_t3_loop.trips) (hk : k.val < 4) (u : Fin 151) (s : Fin 8) (l : Fin 128) :
    rows3 arg17 X k u (ix2 s l) = E ⟨4 * (128 * k.val + u.val + s.val + 1) + 2, by omega⟩ l :=
  rows_apply arg17 X hX _ _ s l _ (by rw [(loads3 k u).1]; dsimp only; omega) (loads3 k u).2

end Loop3

section Loop4
variable {v318 v321 v324 v327 v330 v333 v336 v339 v342 v345 v348 v351 v354 v357 v360 v363 v366 v369 v372 v375 v378 v381 v384 : FVec F S8x128 .f32} {v385 v388 v391 v394 v397 v400 v403 : Vec F S1x128 .f32} {v408 : FVec F S8x128 .f32} {v409 : Vec F S1x128 .f32} {X : BufTy.Contents (Elt F) arg17.view.ty}

/-- What trip `k` of loop 4 loads of the extended channels: eight rows, `w` rows below the first of the trip's. -/
def rows4 (arg17 : Memref sig .tc .vmem S2176x128 .f32) (X : BufTy.Contents (Elt F) arg17.view.ty) (k : Fin k0_t4_loop.trips) (w : Fin 151) : Vec F S8x128 .f32 :=
  View.readAt (Elt F) arg17.view (⟨k0_off7 k (BitVec.ofNat 32 w.val), S8x128.size, ![4, 1], k0_off7_inb k w⟩ : LoadRect S2176x128) X

/-- Where it loads, -/
theorem loads4 : ∀ (k : Fin k0_t4_loop.trips) (u : Fin 151),
    k0_off7 k (BitVec.ofNat 32 u.val) 0 = 512 * k.val + 4 * u.val + 7 ∧ k0_off7 k (BitVec.ofNat 32 u.val) 1 = 0 := by
  decide +kernel

/-- where it stores, -/
theorem off4 : ∀ k : Fin k0_t4_loop.trips, k0_off8 k 0 = 128 * k.val ∧ k0_off8 k 1 = 128 * 3 := by decide +kernel

/-- and how often. -/
theorem trips4 : Scf.trips k0_t4_loop.lb k0_t4_loop.ub k0_t4_loop.st = 4 := by decide +kernel

set_option maxHeartbeats 4000000 in
/-- It stores one piece, at its own rows and lanes: sixteen chains of thirty-one multiply-adds. -/
theorem trip4 (k : Fin k0_t4_loop.trips) :
    tripL_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v318 v321 v324 v327 v330 v333 v336 v339 v342 v345 v348 v351 v354 v357 v360 v363 v366 v369 v372 v375 v378 v381 v384 v385 v388 v391 v394 v397 v400 v403 v408 v409 X k
      = [⟨Rect.unit (s := S512x512) (k0_off8 k) S128x128.size (k0_off8_inb k),
          stack fun blk => chain (spread v409) (taps4 v318 v321 v324 v327 v330 v333 v336 v339 v342 v345 v348 v351 v354 v357 v360 v363 v366 v369 v372 v375 v378 v381 v384 v385 v388 v391 v394 v397 v400 v403 v408 v409) (fun n => rows4 arg17 X k (Fin.ofNat 151 (8 * blk.val + n))) 31⟩] := by
  unfold tripL_k0_t4 trip_k0_t4
  rfl

/-- So loop 4 stores four. -/
theorem stores4 : Stores 3 (fun k => stack fun blk => chain (spread v409) (taps4 v318 v321 v324 v327 v330 v333 v336 v339 v342 v345 v348 v351 v354 v357 v360 v363 v366 v369 v372 v375 v378 v381 v384 v385 v388 v391 v394 v397 v400 v403 v408 v409) (fun n => rows4 arg17 X k (Fin.ofNat 151 (8 * blk.val + n))) 31) (pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v318 v321 v324 v327 v330 v333 v336 v339 v342 v345 v348 v351 v354 v357 v360 v363 v366 v369 v372 v375 v378 v381 v384 v385 v388 v391 v394 v397 v400 v403 v408 v409 X (Scf.trips k0_t4_loop.lb k0_t4_loop.ub k0_t4_loop.st)) :=
  stores_of_trips trips4 3 _ (pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v318 v321 v324 v327 v330 v333 v336 v339 v342 v345 v348 v351 v354 v357 v360 v363 v366 v369 v372 v375 v378 v381 v384 v385 v388 v391 v394 v397 v400 v403 v408 v409 X) (tripL_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v318 v321 v324 v327 v330 v333 v336 v339 v342 v345 v348 v351 v354 v357 v360 v363 v366 v369 v372 v375 v378 v381 v384 v385 v388 v391 v394 v397 v400 v403 v408 v409 X) (pb_k0_t4.eq_1 ..) (fun k => pb_k0_t4_succ ..) _ k0_off8_inb off4 trip4

/-- What it loads are rows of the extended channels. -/
theorem rows4_apply {arg17 : Memref sig .tc .vmem S2176x128 .f32} {X : BufTy.Contents (Elt Ideal) arg17.view.ty} {E : Fin 2176 → Fin 128 → EReal}
    (hX : ∀ R l, arg17.view.read (Elt Ideal) X (ix2 R l) = E R l) (k : Fin k0_t4_loop.trips) (hk : k.val < 4) (u : Fin 151) (s : Fin 8) (l : Fin 128) :
    rows4 arg17 X k u (ix2 s l) = E ⟨4 * (128 * k.val + u.val + s.val + 1) + 3, by omega⟩ l :=
  rows_apply arg17 X hX _ _ s l _ (by rw [(loads4 k u).1]; dsimp only; omega) (loads4 k u).2

end Loop4

end Tail.TailIdealRun

end
-- ==== Proof.Tail.TailIdealRun.lean ====
/- The tail's body, run once from any contents of its two scratch buffers: what it leaves in the output block. -/
module

public import proofs.«01_k».proof.Proof.Gen.TailIdeal.Frame
public import proofs.«01_k».proof.Proof.Gen.TailIdeal.Loops
public import Idealize.ShloMosaic.Lib.Pipeline.FrameBody
public import Idealize.ShloMosaic.Lib.Tactic

@[expose] public section

set_option maxRecDepth 16384

noncomputable section

namespace Tail.TailIdealRun
open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- The body of the tail at one grid point. From input blocks `x0 … x13`, an output block at anything and the two
    scratch buffers at `d17` and `d18`, it runs to its end with the inputs as they were, the output block holding the
    pieces this definition names, and the scratch buffers at something. -/
noncomputable def bodyRun (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x2048x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S31x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x4096 .bf16) (harg13 : arg13.IsWhole) (arg14 : Memref sig .tc .vmem S4096x1024 .bf16) (harg14 : arg14.IsWhole) (arg15 : Memref sig .tc .vmem S1x1024 .f32) (harg15 : arg15.IsWhole) (arg16 : Memref sig .tc .vmem S1x512x1024 .f32) (harg16 : arg16.IsWhole) (arg17 : Memref sig .tc .vmem S2176x128 .f32) (harg17 : arg17.IsWhole) (arg18 : Memref sig .tc .vmem S512x512 .f32) (harg18 : arg18.IsWhole)
    (x0 : Vec F S1x512x1024 .f32) (x1 : Vec F S1x512x512 .bf16) (x2 : Vec F S1x2048x128 .f32) (x3 : Vec F S1x64x128 .f32) (x4 : Vec F S1x64x128 .f32) (x5 : Vec F S31x512 .f32) (x6 : Vec F S1x512 .f32) (x7 : Vec F S1x512 .f32) (x8 : Vec F S1x512 .f32) (x9 : Vec F S1024x1024 .bf16) (x10 : Vec F S1x1024 .f32) (x11 : Vec F S1024x4096 .bf16) (x12 : Vec F S4096x1024 .bf16) (x13 : Vec F S1x1024 .f32) (d17 : Vec F S2176x128 .f32) (d18 : Vec F S512x512 .f32) :
    { L : List (View.Piece (Elt F) S1x512x1024 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg17 fullShare d17 ∗ owns (c : Thread nD τ) arg18 fullShare d18
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L)
                ∗ (∃ d, owns (c : Thread nD τ) arg17 fullShare d) ∗ (∃ d, owns (c : Thread nD τ) arg18 fullShare d)) -∗ K ⟨⟩))
          ⊢ wp frame (wpE (defs₀ (F := F)) Variants.none c none) E (cc0_tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_tail_eq_skeleton]; unfold cc0_tail_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    obtain rfl := harg17.eq_unread hf15
    obtain rfl := harg18.eq_unread hf16
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; iexact H14
    isplitl [H15]
    · iexists _; iexists _; isplitr; swap; (· iexact H15); ipureintro; rfl
    iexists _; iexists _; isplitr; swap; (· iexact H16); ipureintro; rfl

end Tail.TailIdealRun

end
-- ==== Proof.Tail.TailIdealCover.lean ====
/- The pieces of the tail's four convolution loops cover the convolution's scratch buffer, so what the body loads back
   from it does not depend on what the buffer held before. -/
module

public import proofs.«01_k».proof.Proof.Tail.TailIdealTrip
public import proofs.«01_k».proof.Proof.Tail.TailIdealRun
public import Idealize.ShloMosaic.Lib.HeldBySlice

@[expose] public section

set_option maxRecDepth 16384

noncomputable section

namespace Tail.TailIdealRun
open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Tail (cover_of_stores)
open Idealize.ShloMosaic.Pipeline (Dat Cfg Window BodyObligation cellOf)

variable {F : FTy → Type} [FloatOps F]

variable (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x2048x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S31x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x4096 .bf16) (harg13 : arg13.IsWhole) (arg14 : Memref sig .tc .vmem S4096x1024 .bf16) (harg14 : arg14.IsWhole) (arg15 : Memref sig .tc .vmem S1x1024 .f32) (harg15 : arg15.IsWhole) (arg16 : Memref sig .tc .vmem S1x512x1024 .f32) (harg16 : arg16.IsWhole) (arg17 : Memref sig .tc .vmem S2176x128 .f32) (harg17 : arg17.IsWhole) (arg18 : Memref sig .tc .vmem S512x512 .f32) (harg18 : arg18.IsWhole)

/-- What the body loads of the convolution's scratch buffer is the same whatever the buffer held before. -/
theorem loaded_eq (x2 : Vec F S1x2048x128 .f32) (x3 x4 : Vec F S1x64x128 .f32) (x5 : Vec F S31x512 .f32) (x6 : Vec F S1x512 .f32) (d d' : Vec F S512x512 .f32) :
    bodyRun.sl.v413 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x3 x4 x5 x6 d = bodyRun.sl.v413 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x3 x4 x5 x6 d' := by
  unfold bodyRun.sl.v413
  exact View.readAt_writes_eq_of_cover _ _ _ _ _ fun j => cover_of_stores stores1 stores2 stores3 stores4 _

/-- So the output's pieces are the same whatever the two scratch buffers held before. -/
theorem pieces_eq (x0 : Vec F S1x512x1024 .f32) (x1 : Vec F S1x512x512 .bf16) (x2 : Vec F S1x2048x128 .f32) (x3 : Vec F S1x64x128 .f32) (x4 : Vec F S1x64x128 .f32) (x5 : Vec F S31x512 .f32) (x6 : Vec F S1x512 .f32) (x7 : Vec F S1x512 .f32) (x8 : Vec F S1x512 .f32) (x9 : Vec F S1024x1024 .bf16) (x10 : Vec F S1x1024 .f32) (x11 : Vec F S1024x4096 .bf16) (x12 : Vec F S4096x1024 .bf16) (x13 : Vec F S1x1024 .f32) (d17 d17' : Vec F S2176x128 .f32) (d18 d18' : Vec F S512x512 .f32) :
    (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 d17 d18).1 = (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 d17' d18').1 := by
  unfold bodyRun
  dsimp only
  unfold bodyRun.sl.r_35 bodyRun.sl.r_34 bodyRun.sl.r_33 bodyRun.sl.r_32 bodyRun.sl.r_31 bodyRun.sl.r_30 bodyRun.sl.r_29
  rw [loaded_eq (d := d18) (d' := d18')]

end Tail.TailIdealRun

end
-- ==== Proof.Tail.TailIdealFrame.lean ====
/- The whole run of the tail: every grid point leaves its block of the output, and the arguments stay as they were. -/
module

public import proofs.«01_k».proof.Proof.Tail.TailIdealCover
public import proofs.«01_k».proof.Proof.Gen.TailIdeal.Frame
public import Idealize.ShloMosaic.Lib.Claim

@[expose] public section

set_option maxRecDepth 16384

noncomputable section

namespace Tail.TailIdealRun
open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What the body leaves in the output block: its one piece covers the block. -/
theorem covers (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x2048x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S31x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x4096 .bf16) (harg13 : arg13.IsWhole) (arg14 : Memref sig .tc .vmem S4096x1024 .bf16) (harg14 : arg14.IsWhole) (arg15 : Memref sig .tc .vmem S1x1024 .f32) (harg15 : arg15.IsWhole) (arg16 : Memref sig .tc .vmem S1x512x1024 .f32) (harg16 : arg16.IsWhole) (arg17 : Memref sig .tc .vmem S2176x128 .f32) (harg17 : arg17.IsWhole) (arg18 : Memref sig .tc .vmem S512x512 .f32) (harg18 : arg18.IsWhole) (x0 : Vec F S1x512x1024 .f32) (x1 : Vec F S1x512x512 .bf16) (x2 : Vec F S1x2048x128 .f32) (x3 : Vec F S1x64x128 .f32) (x4 : Vec F S1x64x128 .f32) (x5 : Vec F S31x512 .f32) (x6 : Vec F S1x512 .f32) (x7 : Vec F S1x512 .f32) (x8 : Vec F S1x512 .f32) (x9 : Vec F S1024x1024 .bf16) (x10 : Vec F S1x1024 .f32) (x11 : Vec F S1024x4096 .bf16) (x12 : Vec F S4096x1024 .bf16) (x13 : Vec F S1x1024 .f32) (d17 : Vec F S2176x128 .f32) (d18 : Vec F S512x512 .f32) (y : S1x512x1024.Idx) :
    ∃ p ∈ (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 d17 d18).1, y ∈ p.1.set := by
  unfold bodyRun
  dsimp only
  refine ⟨_, List.mem_singleton_self _, (LoadRect.mem_set _).mpr fun a => ?_⟩
  match a with
  | ⟨0, h⟩ => exact ⟨(y ⟨0, h⟩).val, (y ⟨0, h⟩).isLt, by show (y ⟨0, h⟩).val = 0 + 1 * (y ⟨0, h⟩).val; omega⟩
  | ⟨1, h⟩ => exact ⟨(y ⟨1, h⟩).val, (y ⟨1, h⟩).isLt, by show (y ⟨1, h⟩).val = 0 + 1 * (y ⟨1, h⟩).val; omega⟩
  | ⟨2, h⟩ => exact ⟨(y ⟨2, h⟩).val, (y ⟨2, h⟩).isLt, by show (y ⟨2, h⟩).val = 0 + 1 * (y ⟨2, h⟩).val; omega⟩

/-- Some contents of the two scratch buffers: which does not matter. -/
def any17 : Vec F S2176x128 .f32 := (Memref.whole cc0_scratch0).view.read (Elt F) (Memref.whole cc0_scratch0).view.junk
def any18 : Vec F S512x512 .f32 := (Memref.whole cc0_scratch1).view.read (Elt F) (Memref.whole cc0_scratch1).view.junk

/-- The output block that grid point `t` leaves. -/
def outBlock (c : Dev nD) (t : Fin cfg0.N) : Vec F S1x512x1024 .f32 :=
  View.canon (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) any17 any18).1

/-- The proof data of the pipeline: each input block stays, the output block is the body's, and the scratch buffers
    hold something between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outBlock m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = outBlock m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d

/-- What the body is called with at point `t`. -/
def pre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d)))

/-- What it returns. -/
def post (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t))

set_option maxHeartbeats 1000000 in
/-- The body at any point runs from `pre` to `post`. -/
theorem sound (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5, before6, before7, before8, before9, before10, before11, before12, before13]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0, after1, after2, after3, after4, after5, after6, after7, after8, after9, after10, after11, after12, after13, after14]
  unfold Pipeline.ΦA
  rw [scopedRest0_eq]
  simp only [← owns_whole (c : Thread nD τ) cc0_scratch0 fullShare, ← owns_whole (c : Thread nD τ) cc0_scratch1 fullShare]
  iintro ⟨⟨⟨⟨%d15, H15⟩, ⟨%d16, H16⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((bodyRun c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) d15 d16).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [H16]; · iexact H16
  iintro ⟨H0, H1, H2, H3, H4, H5, H6, H7, H8, H9, H10, H11, H12, H13, ⟨%e14, H14⟩, ⟨%e15, H15⟩, ⟨%e16, H16⟩⟩
  isplitl [H15 H16 Hr]
  · isplitl [H15 H16]
    · isplitl [H15]
      · iexists _; iexact H15
      iexists _; iexact H16
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  unfold owns; iexists _; isplitr
  swap; · iexact H14
  ipureintro
  unfold outBlock
  rw [pieces_eq (d17' := any17) (d18' := any18)]
  exact View.read_writes_eq_canon _ _ _ (covers c _ _ _ _ _ _ _ _ _ _ _ _ _ _ _ _ _ _ _ _ _ _ _ _ _ _ _ _ _ _ _ _ _ _ _ _ _ _ _ _ _ _ _ _ _ _ _ _ _ _ _)

theorem defs₀_at (t : Fin cfg0.N) :
    defs₀ (F := F) .tc cfg0.body (cfg0.bodyArgs t (cfg0.slots t)) = bodyAt0 t := by
  unfold defs₀; rw [Defs.onTc_tc]

/-- The obligation of the pipeline's rule: the body at every point. -/
theorem obligation (c : Dev nD) : BodyObligation (dats (F := F) m 0 c) (defs₀ (F := F)) Variants.none () Set.univ := fun t => by
  rw [bigSep_W0, bigSep_W0, defs₀_at]
  exact triple_restated (sound m c t) rfl .rfl fun _ => .rfl

set_option backward.isDefEq.respectTransparency.types false in
/-- Every execution ends, with the arrays as the proof data say and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- Every execution ends with the arrays as the proof data say. -/
theorem run : θ_run defs (onTc (τ := τ) (main (F := F))) (s₀ m ρ) (Pipeline.FramePost cfgs (dats m) 0 (V m)) :=
  (θ_run defs _ _).mono (fun _ h => h.1) (run_quiescent m ρ)

/-- Every execution ends with the arguments unchanged and every semaphore at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11))
      ∧ r.2.sem = fun _ => 0) :=
  θ_run_and (frame_of m ρ (dats m) (A_eq m) (run m ρ)) ((θ_run defs _ _).mono (fun _ h => h.2) (run_quiescent m ρ))

end Tail.TailIdealRun

end
-- ==== Proof.Tail.Same.lean ====
/-
  The tail program and its idealization are the same program, so what every execution of the one does, every execution of
  the other does: the frame of the tail program.
-/
module

public import proofs.«01_k».proof.Tail
public import proofs.«01_k».proof.Proof.Gen.Tail
public import proofs.«01_k».proof.Proof.Tail.TailIdealFrame

@[expose] public section

noncomputable section

namespace Tail

open Idealize.ShloMosaic Idealize.ShloMosaic.TcCoe Idealize.SL.Sem

variable {F : FTy → Type} [FloatOps F]

/-- The two programs' kernel bodies agree, -/
theorem defs₀_eq : Cert.Tail.defs₀ (F := F) = Cert.TailIdeal.defs₀ (F := F) := by
  unfold Cert.Tail.defs₀ Cert.TailIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

/-- and so do their definitions, pipeline included. -/
theorem defs_eq : Cert.Tail.defs (F := F) = Cert.TailIdeal.defs (F := F) :=
  congrArg (Pipeline.defs _) defs₀_eq

open Cert.Tail in
/-- Every execution of the tail program ends with the arguments unchanged and every semaphore at zero. -/
theorem unchanged (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11))
      ∧ r.2.sem = fun _ => 0) := by
  have h : ∀ D, D = Cert.TailIdeal.defs (F := F) → θ_run D (onTc (τ := Cert.TailIdeal.τ) (Cert.TailIdeal.main (F := F)))
      ⟨m, fun _ => 0, ρ⟩ _ := fun D e => e ▸ TailIdealRun.unchanged m ρ
  exact h _ defs_eq

end Tail
-- ==== Proof.Tail.Rows.lean ====
/-
  The tail of the layer at one position, as functions of rows of extended reals: LayerNorm and SiLU of the convolved
  channels, the output projection of attention and channels with the residual, the RMS norms, and the two-layer map
  with squared rectification.
-/
module

public import Idealize.ShloMosaic.PureOps
public import Idealize.ShloMosaic.Lib.Pointwise

@[expose] public section

noncomputable section

namespace Tail

open Idealize.ShloMosaic

/-- The mean of 512 channels. -/
def mean (v : Fin 512 → EReal) : EReal := Ideal.div (∑ l, v l) (Ideal.ofBits .f32 0x44000000#32)

/-- A channel less the mean. -/
def centred (v : Fin 512 → EReal) (l : Fin 512) : EReal := v l - mean v

/-- LayerNorm of 512 channels, with gain `g` and offset `b`. -/
def layerNorm (v g b : Fin 512 → EReal) (l : Fin 512) : EReal :=
  centred v l * Ideal.rsqrt (Ideal.div (∑ k, centred v k * centred v k) (Ideal.ofBits .f32 0x44000000#32)
    + Ideal.ofBits .f32 0x3727C5AC#32) * g l + b l

/-- SiLU: `a / (1 + exp (-a))`. -/
def silu (a : EReal) : EReal := a * Ideal.logistic a

/-- The channels the convolution hands on. -/
def active (v g b : Fin 512 → EReal) (l : Fin 512) : EReal := silu (layerNorm v g b l)

/-- The residual `x` plus the projection of attention row `a` and channel row `u`. -/
def mixed (x : Fin 1024 → EReal) (a u : Fin 512 → EReal) (w : Fin 1024 → Fin 1024 → EReal) (o : Fin 1024) : EReal :=
  x o + (∑ k : Fin 512, a k * w ⟨k.val, by omega⟩ o + ∑ k : Fin 512, u k * w ⟨512 + k.val, by omega⟩ o)

/-- The RMS norm of 1024 features, with gain `g`. -/
def rms (y g : Fin 1024 → EReal) (o : Fin 1024) : EReal :=
  y o * Ideal.rsqrt (Ideal.div (∑ k, y k * y k) (Ideal.ofBits .f32 0x44800000#32) + Ideal.ofBits .f32 0x358637BD#32) * g o

/-- A hidden unit: the square of the rectified product. -/
def hidden (h : Fin 1024 → EReal) (up : Fin 1024 → Fin 4096 → EReal) (j : Fin 4096) : EReal :=
  max (∑ k, h k * up k j) 0 * max (∑ k, h k * up k j) 0

/-- The row after the two-layer map and its residual. -/
def mapped (y gm : Fin 1024 → EReal) (up : Fin 1024 → Fin 4096 → EReal) (down : Fin 4096 → Fin 1024 → EReal)
    (o : Fin 1024) : EReal :=
  y o + ∑ j, hidden (rms y gm) up j * down j o

/-- The tail at one position, from the residual row, the attention row and the convolved channels. -/
def row (x : Fin 1024 → EReal) (a v g b : Fin 512 → EReal) (w : Fin 1024 → Fin 1024 → EReal) (gm : Fin 1024 → EReal)
    (up : Fin 1024 → Fin 4096 → EReal) (down : Fin 4096 → Fin 1024 → EReal) (gf : Fin 1024 → EReal) : Fin 1024 → EReal :=
  rms (mapped (mixed x a (active v g b) w) gm up down) gf

/-- SiLU as the quotient by `1 + exp (0 - a)`. -/
theorem silu_eq (a : EReal) : a * Ideal.div 1 (1 + Ideal.exp (0 - a)) = silu a := by
  rw [zero_sub]
  rfl

/-- A sum over 1024 as a sum over its two halves. -/
theorem sum_halves (f : Fin 1024 → EReal) :
    ∑ k, f k = ∑ k : Fin 512, f ⟨k.val, by omega⟩ + ∑ k : Fin 512, f ⟨512 + k.val, by omega⟩ :=
  Fin.sum_univ_add (a := 512) (b := 512) f

/-- A sum over 4096 as four sums of 1024, added one after another. -/
theorem sum_quarters (f : Fin 4096 → EReal) :
    ∑ j, f j = ((∑ k : Fin 1024, f ⟨k.val, by omega⟩ + ∑ k : Fin 1024, f ⟨1024 + k.val, by omega⟩)
      + ∑ k : Fin 1024, f ⟨2048 + k.val, by omega⟩) + ∑ k : Fin 1024, f ⟨3072 + k.val, by omega⟩ :=
  (Fin.sum_univ_add (a := 3072) (b := 1024) f).trans (congrArg (· + _)
    ((Fin.sum_univ_add (a := 2048) (b := 1024) fun k : Fin 3072 => f ⟨k.val, by omega⟩).trans (congrArg (· + _)
      (Fin.sum_univ_add (a := 1024) (b := 1024) fun k : Fin 2048 => f ⟨k.val, by omega⟩))))

end Tail
-- ==== Proof.Tail.Result.lean ====
/-
  What the tail computes of `N` sequences of `S` positions, as a function of its arguments: the convolution of the gated channels with zeros outside the
  sequence, then `Tail.row` of each position.
-/
module

public import proofs.«01_k».proof.Proof.Tail.Rows
public import Idealize.ShloMosaic.Lib.Pointwise

@[expose] public section

noncomputable section

namespace Tail

open Idealize.ShloMosaic Idealize.ShloMosaic.Pointwise

variable {N S : ℕ}

/-- Channel `l` at position `p` of the sequence padded with fifteen zero positions at each end. -/
def padded (C : Vec Ideal ⟨3, ![N, S, 512]⟩ .f32) (b : Fin N) (p : ℕ) (l : Fin 512) : EReal :=
  if h : 15 ≤ p ∧ p - 15 < S then C (ix3 b ⟨p - 15, h.2⟩ l) else 0

/-- The depthwise convolution of width 31 at position `s`, channel `l`, with its bias. -/
def conv (C : Vec Ideal ⟨3, ![N, S, 512]⟩ .f32) (T : Vec Ideal ⟨2, ![31, 512]⟩ .f32) (B : Vec Ideal ⟨2, ![1, 512]⟩ .f32)
    (b : Fin N) (s : Fin S) (l : Fin 512) : EReal :=
  B (ix2 0 l) + ∑ n : Fin 31, T (ix2 n l) * padded C b (s.val + n.val) l

/-- Tap `n`'s product at a position. -/
def tap (C : Vec Ideal ⟨3, ![N, S, 512]⟩ .f32) (T : Vec Ideal ⟨2, ![31, 512]⟩ .f32) (b : Fin N) (s : Fin S) (l : Fin 512) (n : ℕ) : EReal :=
  if h : n < 31 then T (ix2 ⟨n, h⟩ l) * padded C b (s.val + n) l else 0

/-- A sum of taps, one longer: `w` is the padded channel the tap reads. -/
theorem sum_step {C : Vec Ideal ⟨3, ![N, S, 512]⟩ .f32} {T : Vec Ideal ⟨2, ![31, 512]⟩ .f32} {b : Fin N} {s : Fin S} {l : Fin 512} {n : ℕ}
    (hn : n < 31) {a m w : EReal} (ha : a = ∑ k ∈ Finset.range n, tap C T b s l k) (hm : m = w * T (ix2 ⟨n, hn⟩ l))
    (hw : w = padded C b (n + s.val) l) : a + m = ∑ k ∈ Finset.range (n + 1), tap C T b s l k := by
  rw [Finset.sum_range_succ, ha, hm, hw, mul_comm, Nat.add_comm n]
  unfold tap
  rw [dif_pos hn]

/-- The convolution is its bias and the sum of all taps. -/
theorem conv_of_taps {C : Vec Ideal ⟨3, ![N, S, 512]⟩ .f32} {T : Vec Ideal ⟨2, ![31, 512]⟩ .f32} {B : Vec Ideal ⟨2, ![1, 512]⟩ .f32}
    {b : Fin N} {s : Fin S} {l : Fin 512} : ∑ k ∈ Finset.range 31, tap C T b s l k + B (ix2 0 l) = conv C T B b s l := by
  rw [add_comm, Finset.sum_range]
  unfold conv
  exact congrArg (B (ix2 0 l) + ·) (Finset.sum_congr rfl fun n _ => dif_pos n.isLt)

/-- The tail at batch `b`, position `s`, column `o`. -/
def tailAt (x : Vec Ideal ⟨3, ![N, S, 1024]⟩ .f32) (a : Vec Ideal ⟨3, ![N, S, 512]⟩ .bf16)
    (C : Vec Ideal ⟨3, ![N, S, 512]⟩ .f32) (T : Vec Ideal ⟨2, ![31, 512]⟩ .f32) (B g β : Vec Ideal ⟨2, ![1, 512]⟩ .f32)
    (W : Vec Ideal ⟨2, ![1024, 1024]⟩ .bf16) (gm : Vec Ideal ⟨2, ![1, 1024]⟩ .f32) (U : Vec Ideal ⟨2, ![1024, 4096]⟩ .bf16)
    (D : Vec Ideal ⟨2, ![4096, 1024]⟩ .bf16) (gf : Vec Ideal ⟨2, ![1, 1024]⟩ .f32) (b : Fin N) (s : Fin S) (o : Fin 1024) : EReal :=
  row (fun o => x (ix3 b s o)) (fun k => a (ix3 b s k)) (fun l => conv C T B b s l) (fun l => g (ix2 0 l)) (fun l => β (ix2 0 l))
    (fun k o => W (ix2 k o)) (fun o => gm (ix2 0 o)) (fun k j => U (ix2 k j)) (fun j o => D (ix2 j o)) (fun o => gf (ix2 0 o)) o

/-- The tail's result array. -/
def tail (x : Vec Ideal ⟨3, ![N, S, 1024]⟩ .f32) (a : Vec Ideal ⟨3, ![N, S, 512]⟩ .bf16)
    (C : Vec Ideal ⟨3, ![N, S, 512]⟩ .f32) (T : Vec Ideal ⟨2, ![31, 512]⟩ .f32) (B g β : Vec Ideal ⟨2, ![1, 512]⟩ .f32)
    (W : Vec Ideal ⟨2, ![1024, 1024]⟩ .bf16) (gm : Vec Ideal ⟨2, ![1, 1024]⟩ .f32) (U : Vec Ideal ⟨2, ![1024, 4096]⟩ .bf16)
    (D : Vec Ideal ⟨2, ![4096, 1024]⟩ .bf16) (gf : Vec Ideal ⟨2, ![1, 1024]⟩ .f32) : Vec Ideal ⟨3, ![N, S, 1024]⟩ .f32 :=
  fun i => tailAt x a C T B g β W gm U D gf (i 0) (i 1) (i 2)

end Tail
-- ==== Proof.Tail.Extended.lean ====
/-
  The extended channels a block's convolution reads: sixty-four rows before the block, the block's 2048 and sixty-four
  behind it, four rows to a position. They are the sequence padded with zeros, whatever the shapes of the batch.
-/
module

public import proofs.«01_k».proof.Proof.Tail.Loop
public import proofs.«01_k».proof.Proof.Tail.Result

@[expose] public section

set_option maxRecDepth 16384

noncomputable section

namespace Tail

open Cert.TailIdeal Cert.TailIdeal.Gen Idealize.ShloMosaic Idealize.ShloMosaic.TcCoe Idealize.SL.Sem
open Idealize.ShloMosaic.Pointwise

/-- A condition as a factor: one where it holds, zero where it does not. -/
def factor (b : BitVec 1) : EReal := (Scalar.sitofp .f32 (Scalar.extui b : BitVec 32) : Ideal .f32)

theorem factor_zero : factor 0#1 = 0 := by
  show (((Scalar.extui (0#1) : BitVec 32).toInt : ℝ) : EReal) = 0
  rw [show (Scalar.extui (0#1) : BitVec 32) = 0#32 from by decide]
  norm_num

theorem factor_one : factor 1#1 = 1 := by
  show (((Scalar.extui (1#1) : BitVec 32).toInt : ℝ) : EReal) = 1
  rw [show (Scalar.extui (1#1) : BitVec 32) = 1#32 from by decide]
  norm_num

/-- One where block `j` is not the batch's first, zero where it is. -/
def before (j : ℕ) : EReal := factor (Scalar.cmpi .sgt (BitVec.ofNat 32 j) 0#32)

/-- One where block `j` is not the batch's last, `n`, zero where it is. -/
def behind (n : BitVec 32) (j : ℕ) : EReal := factor (Scalar.cmpi .slt (BitVec.ofNat 32 j) n)

theorem before_zero : before 0 = 0 := by
  unfold before
  rw [show Scalar.cmpi .sgt (BitVec.ofNat 32 0) 0#32 = 0#1 from by decide, factor_zero]

theorem before_pos {j : ℕ} (hj : j < 16) (h : j ≠ 0) : before j = 1 := by
  have e : ∀ j : Fin 16, j.val ≠ 0 → Scalar.cmpi .sgt (BitVec.ofNat 32 j.val) 0#32 = 1#1 := by decide
  unfold before
  rw [e ⟨j, hj⟩ h, factor_one]

theorem behind_last {n : ℕ} (hn : n < 16) : behind (BitVec.ofNat 32 n) n = 0 := by
  have e : ∀ n : Fin 16, Scalar.cmpi .slt (BitVec.ofNat 32 n.val) (BitVec.ofNat 32 n.val) = 0#1 := by decide
  unfold behind
  rw [e ⟨n, hn⟩, factor_zero]

theorem behind_lt {n j : ℕ} (hn : n < 16) (h : j < n) : behind (BitVec.ofNat 32 n) j = 1 := by
  have e : ∀ n j : Fin 16, j.val < n.val → Scalar.cmpi .slt (BitVec.ofNat 32 j.val) (BitVec.ofNat 32 n.val) = 1#1 := by decide
  unfold behind
  rw [e ⟨n, hn⟩ ⟨j, by omega⟩ h, factor_one]

/-- The extended channels, the rows before and behind the block times `p` and `q`. -/
def extended (p q : EReal) (x2 : Vec Ideal S1x2048x128 .f32) (x3 x4 : Vec Ideal S1x64x128 .f32) (R : Fin 2176) (l : Fin 128) : EReal :=
  if h : R.val < 64 then x3 (ix3 0 ⟨R.val, h⟩ l) * p
  else if h' : R.val < 2112 then x2 (ix3 0 ⟨R.val - 64, by omega⟩ l)
  else x4 (ix3 0 ⟨R.val - 2112, by omega⟩ l) * q

/-- An index of two coordinates is its coordinates. -/
theorem eq_ix2 {a b : ℕ} (y : (⟨2, ![a, b]⟩ : Shape).Idx) : y = ix2 (y 0) (y 1) := by
  funext d
  match d with
  | ⟨0, _⟩ => rfl
  | ⟨1, _⟩ => rfl

section Memrefs
variable {sig : RefSig}

/-- A buffer that three pieces, one under the other, are written to holds the extended channels. -/
theorem extended_read (arg17 : Memref sig .tc .vmem S2176x128 .f32) (p q : EReal) (x2 : Vec Ideal S1x2048x128 .f32) (x3 x4 : Vec Ideal S1x64x128 .f32)
    (w2 : Vec Ideal S2048x128 .f32) (w3 w4 : Vec Ideal S64x128 .f32)
    (h2 : ∀ r l, w2 (ix2 r l) = x2 (ix3 0 r l)) (h3 : ∀ r l, w3 (ix2 r l) = x3 (ix3 0 r l) * p) (h4 : ∀ r l, w4 (ix2 r l) = x4 (ix3 0 r l) * q)
    (inb2 : ∀ a, ![64, 0] a + S2048x128.size a ≤ S2176x128.size a) (inb3 : ∀ a, ![0, 0] a + S64x128.size a ≤ S2176x128.size a)
    (inb4 : ∀ a, ![2112, 0] a + S64x128.size a ≤ S2176x128.size a) (R : Fin 2176) (l : Fin 128) :
    arg17.view.read (Elt Ideal) (arg17.view.writes (Elt Ideal) arg17.view.junk
        [⟨Rect.unit (s := S2176x128) ![2112, 0] S64x128.size inb4, w4⟩, ⟨Rect.unit (s := S2176x128) ![64, 0] S2048x128.size inb2, w2⟩,
          ⟨Rect.unit (s := S2176x128) ![0, 0] S64x128.size inb3, w3⟩]) (ix2 R l) = extended p q x2 x3 x4 R l := by
  refine View.read_writes_apply_of_pieces _ _ (Val := Elt Ideal) (s := S2176x128) (e := .f32) (fun y : S2176x128.Idx => extended p q x2 x3 x4 (y 0) (y 1)) _ ?_ (ix2 R l) ?_
  · intro r hp
    rcases List.mem_cons.mp hp with rfl | hp
    · intro (x : S64x128.Idx)
      have h0 : (x 0).val < 64 := (x 0).isLt
      refine (congrArg _ (eq_ix2 x)).trans ((h4 (x 0) (x 1)).trans ?_)
      unfold extended
      rw [dif_neg (by show ¬ 2112 + 1 * (x 0).val < 64; omega), dif_neg (by show ¬ 2112 + 1 * (x 0).val < 2112; omega)]
      exact congrArg (· * q) (congrArg₂ (fun a b => x4 (ix3 0 a b)) (Fin.ext (by show (x 0).val = 2112 + 1 * (x 0).val - 2112; omega)) (Fin.ext (by show (x 1).val = 0 + 1 * (x 1).val; omega)))
    rcases List.mem_cons.mp hp with rfl | hp
    · intro (x : S2048x128.Idx)
      have h0 : (x 0).val < 2048 := (x 0).isLt
      refine (congrArg _ (eq_ix2 x)).trans ((h2 (x 0) (x 1)).trans ?_)
      unfold extended
      rw [dif_neg (by show ¬ 64 + 1 * (x 0).val < 64; omega), dif_pos (by show 64 + 1 * (x 0).val < 2112; omega)]
      exact congrArg₂ (fun a b => x2 (ix3 0 a b)) (Fin.ext (by show (x 0).val = 64 + 1 * (x 0).val - 64; omega)) (Fin.ext (by show (x 1).val = 0 + 1 * (x 1).val; omega))
    obtain rfl := List.mem_singleton.mp hp
    intro (x : S64x128.Idx)
    have h0 : (x 0).val < 64 := (x 0).isLt
    refine (congrArg _ (eq_ix2 x)).trans ((h3 (x 0) (x 1)).trans ?_)
    unfold extended
    rw [dif_pos (by show 0 + 1 * (x 0).val < 64; omega)]
    exact congrArg (· * p) (congrArg₂ (fun a b => x3 (ix3 0 a b)) (Fin.ext (by show (x 0).val = 0 + 1 * (x 0).val; omega)) (Fin.ext (by show (x 1).val = 0 + 1 * (x 1).val; omega)))
  · have hR := R.isLt
    by_cases h : R.val < 64
    · refine ⟨_, List.mem_cons_of_mem _ (List.mem_cons_of_mem _ (List.mem_singleton_self _)), (LoadRect.mem_set _).mpr fun a => ?_⟩
      match a with
      | ⟨0, _⟩ => exact ⟨R.val, h, by show R.val = 0 + 1 * R.val; omega⟩
      | ⟨1, _⟩ => exact ⟨l.val, l.isLt, by show l.val = 0 + 1 * l.val; omega⟩
    by_cases h' : R.val < 2112
    · refine ⟨_, List.mem_cons_of_mem _ (List.mem_cons_self ..), (LoadRect.mem_set _).mpr fun a => ?_⟩
      match a with
      | ⟨0, _⟩ => exact ⟨R.val - 64, by show R.val - 64 < 2048; omega, by show R.val = 64 + 1 * (R.val - 64); omega⟩
      | ⟨1, _⟩ => exact ⟨l.val, l.isLt, by show l.val = 0 + 1 * l.val; omega⟩
    · refine ⟨_, List.mem_cons_self .., (LoadRect.mem_set _).mpr fun a => ?_⟩
      match a with
      | ⟨0, _⟩ => exact ⟨R.val - 2112, by show R.val - 2112 < 64; omega, by show R.val = 2112 + 1 * (R.val - 2112); omega⟩
      | ⟨1, _⟩ => exact ⟨l.val, l.isLt, by show l.val = 0 + 1 * l.val; omega⟩

/-- A row of a memref of rows of 512 channels, 128 of them loaded and spread over eight sublanes. -/
theorem spread_load {N : ℕ} (arg : Memref sig .tc .vmem ⟨2, ![N, 512]⟩ .f32) (harg : arg.IsWhole) (x : Vec Ideal ⟨2, ![N, 512]⟩ .f32)
    (n o : ℕ) (inb : ∀ a, ![n, o] a + S1x128.size a ≤ (⟨2, ![N, 512]⟩ : Shape).size a) (hn : n < N) (ho : o + 128 ≤ 512) (s : Fin 8) (l : Fin 128) :
    spread (View.readAt (Elt Ideal) arg.view (Rect.unit (s := ⟨2, ![N, 512]⟩) ![n, o] S1x128.size inb).toLoadRect (harg.unread x)) (ix2 s l)
      = x (ix2 ⟨n, hn⟩ ⟨o + l.val, by omega⟩) := by
  rw [spread_apply, View.readAt_eq_ld, harg.read_unread]
  refine congrArg x (funext fun a => Fin.ext ?_)
  match a with
  | ⟨0, _⟩ => show n + 1 * 0 = n; omega
  | ⟨1, _⟩ => show o + 1 * l.val = o + l.val; omega

/-- A load of a whole buffer reads what the buffer holds. -/
theorem whole_load {S : Shape} {e : EltTy} (arg : Memref sig .tc .vmem S e) (harg : arg.IsWhole) (x : Vec Ideal S e)
    {off : Fin S.rank → ℕ} (h : off = fun _ => 0) (inb : ∀ a, off a + S.size a ≤ S.size a) :
    arg.view.readAt (Elt Ideal) (Rect.unit off S.size inb).toLoadRect (harg.unread x) = x := by
  rw [View.readAt_eq_ld, harg.read_unread]
  exact View.ld_unit_zero h inb x

/-- A load of a rectangle of a matrix reads its entries, shifted. -/
theorem slice_load {M N p q : ℕ} {e : EltTy} (arg : Memref sig .tc .vmem ⟨2, ![M, N]⟩ e) (harg : arg.IsWhole)
    (x : Vec Ideal ⟨2, ![M, N]⟩ e) (a b : ℕ)
    (inb : ∀ d : Fin 2, (![a, b] : Fin 2 → ℕ) d + (![p, q] : Fin 2 → ℕ) d ≤ (![M, N] : Fin 2 → ℕ) d)
    (k : Fin p) (o : Fin q) (k' : Fin M) (o' : Fin N) (hk : k'.val = a + k.val) (ho : o'.val = b + o.val) :
    arg.view.readAt (Elt Ideal) (Rect.unit (s := ⟨2, ![M, N]⟩) ![a, b] ![p, q] inb).toLoadRect (harg.unread x) (ix2 k o) = x (ix2 k' o') := by
  rw [View.readAt_eq_ld, harg.read_unread]
  refine congrArg x (funext fun d => Fin.ext ?_)
  match d with
  | ⟨0, _⟩ => show a + 1 * k.val = k'.val; omega
  | ⟨1, _⟩ => show b + 1 * o.val = o'.val; omega

end Memrefs

variable {N S : ℕ}

/-- Four rows of 128 channels to a position: row `R`, lane `l` is channel `k` of position `s`. -/
theorem channels_apply (C : Vec Ideal ⟨3, ![N, S, 512]⟩ .f32) (h : (⟨3, ![N, S, 512]⟩ : Shape).ShapeCasts ⟨3, ![N, 4 * S, 128]⟩) (b : Fin N)
    (R : Fin (4 * S)) (l : Fin 128) (s : Fin S) (k : Fin 512) (hR : 4 * s.val + k.val / 128 = R.val) (hl : k.val % 128 = l.val) :
    shapeCast ⟨3, ![N, 4 * S, 128]⟩ C h (ix3 b R l) = C (ix3 b s k) := by
  refine Idealize.ShloMosaic.shapeCast_apply _ _ _ _ ?_
  rw [Shape.rowMajor_val_three, Shape.rowMajor_val_three]
  show (b.val * S + s.val) * 512 + k.val = (b.val * (4 * S) + R.val) * 128 + l.val
  have e : b.val * (4 * S) = 4 * (b.val * S) := by ring
  rw [e]
  omega

/-- THE EXTENDED CHANNELS of block `j` of `n`, at the place tap `t` of row `r` reads, are the padded sequence. -/
theorem extended_padded (C : Vec Ideal ⟨3, ![N, S, 512]⟩ .f32) (b : Fin N) (n j : ℕ) (hj : j < n) (hS : S = 512 * n) (p q : EReal)
    (hp : j = 0 → p = 0) (hp' : j ≠ 0 → p = 1) (hq : j + 1 = n → q = 0) (hq' : j + 1 ≠ n → q = 1)
    (x2 : Vec Ideal S1x2048x128 .f32) (x3 x4 : Vec Ideal S1x64x128 .f32)
    (h2 : ∀ R l (s : Fin S) (k : Fin 512), 4 * s.val + k.val / 128 = 2048 * j + R.val → k.val % 128 = l.val → x2 (ix3 0 R l) = C (ix3 b s k))
    (h3 : j ≠ 0 → ∀ R l (s : Fin S) (k : Fin 512), 4 * s.val + k.val / 128 + 64 = 2048 * j + R.val → k.val % 128 = l.val → x3 (ix3 0 R l) = C (ix3 b s k))
    (h4 : j + 1 ≠ n → ∀ R l (s : Fin S) (k : Fin 512), 4 * s.val + k.val / 128 = 2048 * (j + 1) + R.val → k.val % 128 = l.val → x4 (ix3 0 R l) = C (ix3 b s k))
    (r : Fin 512) (t : Fin 31) (l : Fin 512) :
    extended p q x2 x3 x4 ⟨4 * (r.val + t.val + 1) + l.val / 128, by omega⟩ ⟨l.val % 128, by omega⟩
      = padded C b (512 * j + r.val + t.val) l := by
  have hr := r.isLt
  have ht := t.isLt
  have hl := l.isLt
  unfold extended padded
  by_cases h1 : 4 * (r.val + t.val + 1) + l.val / 128 < 64
  · rw [dif_pos h1]
    by_cases h : j = 0
    · rw [hp h, mul_zero, dif_neg (by omega)]
    · rw [hp' h, mul_one, dif_pos (by omega)]
      exact h3 h _ _ _ _ (by dsimp only; omega) rfl
  · rw [dif_neg h1]
    by_cases h2' : 4 * (r.val + t.val + 1) + l.val / 128 < 2112
    · rw [dif_pos h2', dif_pos (by omega)]
      exact h2 _ _ _ _ (by dsimp only; omega) rfl
    · rw [dif_neg h2']
      by_cases h : j + 1 = n
      · rw [hq h, mul_zero, dif_neg (by omega)]
      · rw [hq' h, mul_one, dif_pos (by omega)]
        exact h4 h _ _ _ _ (by dsimp only; omega) rfl

end Tail
-- ==== Proof.Tail.Conv.lean ====
/-
  What the tail's body holds in its convolution buffer before it goes on: at every row and channel the convolution of
  the extended channels with the taps (`conv_apply`).
-/
module

public import proofs.«01_k».proof.Proof.Tail.TailIdealCover
public import proofs.«01_k».proof.Proof.Tail.Extended

@[expose] public section

set_option maxRecDepth 16384

noncomputable section

namespace Tail

open Cert.TailIdeal Cert.TailIdeal.Gen Tail.TailIdealRun Idealize.ShloMosaic Idealize.ShloMosaic.TcCoe Idealize.SL.Sem
open Idealize.ShloMosaic.Pointwise

section Words
variable (i : grid0.Coords)

theorem pay738_apply (u : Vec Ideal S1x64x128 .f32) (r : Fin 64) (l : Fin 128) :
    k0_pay738 i u (ix2 r l) = u (ix3 0 r l) * before (i 1).val := by
  pointwise [k0_pay738]
  rfl

theorem pay739_apply (u : Vec Ideal S1x2048x128 .f32) (r : Fin 2048) (l : Fin 128) :
    k0_pay739 (F := Ideal) u (ix2 r l) = u (ix3 0 r l) := by
  pointwise [k0_pay739]

theorem pay740_apply (u : Vec Ideal S1x64x128 .f32) (r : Fin 64) (l : Fin 128) :
    k0_pay740 i u (ix2 r l) = u (ix3 0 r l) * behind 15#32 (i 1).val := by
  pointwise [k0_pay740]
  rfl

end Words

variable (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x2048x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S31x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x4096 .bf16) (harg13 : arg13.IsWhole) (arg14 : Memref sig .tc .vmem S4096x1024 .bf16) (harg14 : arg14.IsWhole) (arg15 : Memref sig .tc .vmem S1x1024 .f32) (harg15 : arg15.IsWhole) (arg16 : Memref sig .tc .vmem S1x512x1024 .f32) (harg16 : arg16.IsWhole) (arg17 : Memref sig .tc .vmem S2176x128 .f32) (harg17 : arg17.IsWhole) (arg18 : Memref sig .tc .vmem S512x512 .f32) (harg18 : arg18.IsWhole)
  (x2 : Vec Ideal S1x2048x128 .f32) (x3 x4 : Vec Ideal S1x64x128 .f32)

/-- The first scratch buffer, read: the extended channels. -/
theorem extended_at (R : Fin 2176) (l : Fin 128) :
    arg17.view.read (Elt Ideal) (arg17.view.writes (Elt Ideal) arg17.view.junk (bodyRun.sl.H15_3 c i arg4 harg4 arg5 harg5 arg6 harg6 x2 x3 x4)) (ix2 R l) = extended (before (i 1).val) (behind 15#32 (i 1).val) x2 x3 x4 R l := by
  have hz2 := View.ld_unit_zero (S := S1x2048x128) (off := ![0, 0, 0]) (by decide) inb_S1x2048x128_S1x2048x128_0_0_0 x2
  have hz3 := View.ld_unit_zero (Val := Elt Ideal) (S := S1x64x128) (e := .f32) (off := ![0, 0, 0]) (by decide) inb_S1x64x128_S1x64x128_0_0_0
  unfold bodyRun.sl.H15_3
  simp only [View.readAt_eq_ld, harg4.read_unread, harg5.read_unread, harg6.read_unread, hz2, hz3]
  exact extended_read arg17 _ _ x2 x3 x4 _ _ _ (pay739_apply x2) (pay738_apply i x3) (pay740_apply i x4) _ _ _ R l

set_option maxHeartbeats 4000000 in
/-- THE CONVOLUTION BUFFER, as the body loads it back. -/
theorem conv_apply (x5 : Vec Ideal S31x512 .f32) (x6 : Vec Ideal S1x512 .f32) (d : Vec Ideal S512x512 .f32) (r l : Fin 512) :
    bodyRun.sl.v413 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x3 x4 x5 x6 d (ix2 r l)
      = convAt (fun n l => x5 (ix2 n l)) (fun l => x6 (ix2 0 l)) (extended (before (i 1).val) (behind 15#32 (i 1).val) x2 x3 x4) r l := by
  unfold bodyRun.sl.v413
  refine (congrFun (View.ld_unit_zero (S := S512x512) (off := ![0, 0]) (by decide) _ _) (ix2 r l)).trans ?_
  have hX := extended_at c i arg4 harg4 arg5 harg5 arg6 harg6 arg17 x2 x3 x4
  refine View.read_writes_apply_of_pieces _ _ (Val := Elt Ideal) (s := S512x512) (e := .f32) (fun y : S512x512.Idx => convAt (fun n l => x5 (ix2 n l)) (fun l => x6 (ix2 0 l)) (extended (before (i 1).val) (behind 15#32 (i 1).val) x2 x3 x4) (y 0) (y 1)) _ ?_ (ix2 r l) (cover_of_stores stores1 stores2 stores3 stores4 _)
  intro p hp
  rcases List.mem_append.mp hp with hp | hp
  · exact stores4.apply (by norm_num) (fun s l => spread_load arg8 harg8 x6 0 384 _ _ (by norm_num) s l)
      (fun n s l => by fin_cases n <;> exact spread_load arg7 harg7 x5 _ 384 _ _ (by norm_num) s l) (rows4_apply hX) p hp
  rcases List.mem_append.mp hp with hp | hp
  · exact stores3.apply (by norm_num) (fun s l => spread_load arg8 harg8 x6 0 256 _ _ (by norm_num) s l)
      (fun n s l => by fin_cases n <;> exact spread_load arg7 harg7 x5 _ 256 _ _ (by norm_num) s l) (rows3_apply hX) p hp
  rcases List.mem_append.mp hp with hp | hp
  · exact stores2.apply (by norm_num) (fun s l => spread_load arg8 harg8 x6 0 128 _ _ (by norm_num) s l)
      (fun n s l => by fin_cases n <;> exact spread_load arg7 harg7 x5 _ 128 _ _ (by norm_num) s l) (rows2_apply hX) p hp
  · exact stores1.apply (by norm_num) (fun s l => spread_load arg8 harg8 x6 0 0 _ _ (by norm_num) s l)
      (fun n s l => by fin_cases n <;> exact spread_load arg7 harg7 x5 _ 0 _ _ (by norm_num) s l) (rows1_apply hX) p hp

end Tail
-- ==== Proof.Tail.KernelRow.lean ====
/-
  What the tail's body computes after its convolution, row by row: `Tail.row` of the point's blocks.
-/
module

public import proofs.«01_k».proof.Proof.Tail.Rows
public import proofs.«01_k».proof.Proof.Gen.TailIdeal.Skeleton

@[expose] public section

set_option maxRecDepth 16384

noncomputable section

namespace Tail

open Cert.TailIdeal Cert.TailIdeal.Gen Idealize.ShloMosaic Idealize.ShloMosaic.TcCoe Idealize.SL.Sem
open Idealize.ShloMosaic.Pointwise

variable (v : Vec Ideal S512x512 .f32) (g b : Vec Ideal S1x512 .f32) (a : Vec Ideal S1x512x512 .bf16)
  (wa wu : Vec Ideal S512x1024 .bf16) (x : Vec Ideal S1x512x1024 .f32)

/-- The mean of a row of channels. -/
theorem pay877_apply (r : Fin 512) : k0_pay877 v (ix2 r 0) = mean (fun l => v (ix2 r l)) := by
  pointwise [k0_pay877]
  rfl

/-- The residual plus the projection of attention and active channels. -/
theorem pay878_apply (r : Fin 512) (o : Fin 1024) :
    k0_pay878 v (k0_pay877 v) g b a wa wu x (ix2 r o)
      = x (ix3 0 r o) + (∑ k, a (ix3 0 r k) * wa (ix2 k o)
        + ∑ k, active (fun l => v (ix2 r l)) (fun l => g (ix2 0 l)) (fun l => b (ix2 0 l)) k * wu (ix2 k o)) := by
  pointwise [k0_pay878]
  simp only [pay877_apply, silu_eq]
  rfl

variable (y : FVec Ideal S512x1024 .f32) (gm : Vec Ideal S1x1024 .f32)

/-- The squares the RMS norm sums. -/
theorem pay879_apply (r : Fin 512) (o : Fin 1024) :
    k0_pay879 v (k0_pay877 v) g b a wa wu x (ix2 r o)
      = k0_pay878 v (k0_pay877 v) g b a wa wu x (ix2 r o) * k0_pay878 v (k0_pay877 v) g b a wa wu x (ix2 r o) := by
  pointwise [k0_pay879]

/-- The normalised row. -/
theorem pay880_apply (y2 : FVec Ideal S512x1024 .f32) (h2 : ∀ r o, y2 (ix2 r o) = y (ix2 r o) * y (ix2 r o)) (r : Fin 512) (o : Fin 1024) :
    k0_pay880 y y2 gm (ix2 r o) = rms (fun o => y (ix2 r o)) (fun o => gm (ix2 0 o)) o := by
  pointwise [k0_pay880]
  simp only [h2]
  rfl

/-- The part of a hidden unit's product that a chunk of 1024 columns of the first map computes. -/
def chunkHidden (h : Fin 1024 → EReal) (u : Fin 1024 → Fin 1024 → EReal) (j : Fin 1024) : EReal :=
  max (∑ k, h k * u k j) 0 * max (∑ k, h k * u k j) 0

/-- The first two chunks of the two-layer map. -/
theorem pay881_apply (y2 : FVec Ideal S512x1024 .f32) (h2 : ∀ r o, y2 (ix2 r o) = y (ix2 r o) * y (ix2 r o))
    (u0 d0 u1 d1 : Vec Ideal S1024x1024 .bf16) (r : Fin 512) (o : Fin 1024) :
    k0_pay881 y y2 gm u0 d0 u1 d1 (ix2 r o)
      = ∑ j, chunkHidden (rms (fun o => y (ix2 r o)) (fun o => gm (ix2 0 o))) (fun k j => u0 (ix2 k j)) j * d0 (ix2 j o)
        + ∑ j, chunkHidden (rms (fun o => y (ix2 r o)) (fun o => gm (ix2 0 o))) (fun k j => u1 (ix2 k j)) j * d1 (ix2 j o) := by
  pointwise [k0_pay881]
  simp only [pay880_apply y gm y2 h2]
  rfl

/-- The third chunk's rectified products. -/
theorem pay882_apply (y2 : FVec Ideal S512x1024 .f32) (h2 : ∀ r o, y2 (ix2 r o) = y (ix2 r o) * y (ix2 r o))
    (u : Vec Ideal S1024x1024 .bf16) (r : Fin 512) (j : Fin 1024) :
    k0_pay882 y y2 gm u (ix2 r j)
      = max (∑ k, rms (fun o => y (ix2 r o)) (fun o => gm (ix2 0 o)) k * u (ix2 k j)) 0 := by
  pointwise [k0_pay882]
  simp only [pay880_apply y gm y2 h2]

/-- The last two chunks, the residual and the final norm, from the two first chunks' sum `s` and the third's rectified
    products `p`. -/
theorem pay883_apply (n : FVec Ideal S512x1024 .bf16) (s p : FVec Ideal S512x1024 .f32) (d2 u3 d3 : Vec Ideal S1024x1024 .bf16)
    (gf : Vec Ideal S1x1024 .f32) (r : Fin 512) (o : Fin 1024) :
    k0_pay883 y n s p d2 u3 d3 gf (ix2 r o)
      = rms (fun o => y (ix2 r o) + (s (ix2 r o) + ∑ j, p (ix2 r j) * p (ix2 r j) * d2 (ix2 j o)
          + ∑ j, chunkHidden (fun k => n (ix2 r k)) (fun k j => u3 (ix2 k j)) j * d3 (ix2 j o)))
        (fun o => gf (ix2 0 o)) o := by
  pointwise [k0_pay883]
  rfl

/-- THE ROW THE BODY STORES, when its slices of the three weights are those of `W`, `U` and `D`. -/
theorem stored_row (W : Fin 1024 → Fin 1024 → EReal) (U : Fin 1024 → Fin 4096 → EReal) (D : Fin 4096 → Fin 1024 → EReal)
    (u0 u1 u2 u3 d0 d1 d2 d3 : Vec Ideal S1024x1024 .bf16) (gf : Vec Ideal S1x1024 .f32)
    (hwa : ∀ (k : Fin 512) o, wa (ix2 k o) = W ⟨k.val, by omega⟩ o)
    (hwu : ∀ (k : Fin 512) o, wu (ix2 k o) = W ⟨512 + k.val, by omega⟩ o)
    (hu0 : ∀ k (j : Fin 1024), u0 (ix2 k j) = U k ⟨j.val, by omega⟩)
    (hu1 : ∀ k (j : Fin 1024), u1 (ix2 k j) = U k ⟨1024 + j.val, by omega⟩)
    (hu2 : ∀ k (j : Fin 1024), u2 (ix2 k j) = U k ⟨2048 + j.val, by omega⟩)
    (hu3 : ∀ k (j : Fin 1024), u3 (ix2 k j) = U k ⟨3072 + j.val, by omega⟩)
    (hd0 : ∀ (j : Fin 1024) o, d0 (ix2 j o) = D ⟨j.val, by omega⟩ o)
    (hd1 : ∀ (j : Fin 1024) o, d1 (ix2 j o) = D ⟨1024 + j.val, by omega⟩ o)
    (hd2 : ∀ (j : Fin 1024) o, d2 (ix2 j o) = D ⟨2048 + j.val, by omega⟩ o)
    (hd3 : ∀ (j : Fin 1024) o, d3 (ix2 j o) = D ⟨3072 + j.val, by omega⟩ o)
    (z : Fin 1) (r : Fin 512) (o : Fin 1024) :
    k0_pay1 (k0_pay883 (k0_pay878 v (k0_pay877 v) g b a wa wu x)
        (k0_pay880 (k0_pay878 v (k0_pay877 v) g b a wa wu x) (k0_pay879 v (k0_pay877 v) g b a wa wu x) gm)
        (k0_pay881 (k0_pay878 v (k0_pay877 v) g b a wa wu x) (k0_pay879 v (k0_pay877 v) g b a wa wu x) gm u0 d0 u1 d1)
        (k0_pay882 (k0_pay878 v (k0_pay877 v) g b a wa wu x) (k0_pay879 v (k0_pay877 v) g b a wa wu x) gm u2)
        d2 u3 d3 gf) (ix3 z r o)
      = row (fun o => x (ix3 0 r o)) (fun k => a (ix3 0 r k)) (fun l => v (ix2 r l)) (fun l => g (ix2 0 l))
          (fun l => b (ix2 0 l)) W (fun o => gm (ix2 0 o)) U D (fun o => gf (ix2 0 o)) o := by
  have h1 : ∀ Y : FVec Ideal S512x1024 .f32, k0_pay1 Y (ix3 z r o) = Y (ix2 r o) := fun Y => by pointwise [k0_pay1]
  have hy : ∀ o, k0_pay878 v (k0_pay877 v) g b a wa wu x (ix2 r o)
      = mixed (fun o => x (ix3 0 r o)) (fun k => a (ix3 0 r k))
          (active (fun l => v (ix2 r l)) (fun l => g (ix2 0 l)) (fun l => b (ix2 0 l))) W o := fun o => by
    rw [pay878_apply]
    simp only [hwa, hwu]
    rfl
  have h2 := pay879_apply v g b a wa wu x
  rw [h1, pay883_apply]
  simp only [pay881_apply _ gm _ h2, pay882_apply _ gm _ h2, pay880_apply _ gm _ h2, hy, hu0, hu1, hu2, hu3, hd0, hd1, hd2, hd3]
  unfold row
  refine congrArg (fun y => rms y (fun o => gf (ix2 0 o)) o) (funext fun o => ?_)
  unfold mapped
  rw [sum_quarters]
  rfl

end Tail
-- ==== Proof.Tail.Block.lean ====
/-
  What one grid point of the tail leaves in its output block: `Tail.row` of the point's blocks, row by row.
-/
module

public import proofs.«01_k».proof.Proof.Tail.Conv
public import proofs.«01_k».proof.Proof.Tail.KernelRow
public import proofs.«01_k».proof.Proof.Tail.TailIdealFrame

@[expose] public section

set_option maxRecDepth 16384

noncomputable section

namespace Tail

open Cert.TailIdeal Cert.TailIdeal.Gen Idealize.ShloMosaic Idealize.ShloMosaic.TcCoe Idealize.SL.Sem
open Idealize.ShloMosaic.Pointwise Tail.TailIdealRun

set_option maxHeartbeats 4000000 in
/-- The body's output block at row `r`, column `o`. -/
theorem block_row (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x2048x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S31x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x4096 .bf16) (harg13 : arg13.IsWhole) (arg14 : Memref sig .tc .vmem S4096x1024 .bf16) (harg14 : arg14.IsWhole) (arg15 : Memref sig .tc .vmem S1x1024 .f32) (harg15 : arg15.IsWhole) (arg16 : Memref sig .tc .vmem S1x512x1024 .f32) (harg16 : arg16.IsWhole) (arg17 : Memref sig .tc .vmem S2176x128 .f32) (harg17 : arg17.IsWhole) (arg18 : Memref sig .tc .vmem S512x512 .f32) (harg18 : arg18.IsWhole) (x0 : Vec Ideal S1x512x1024 .f32) (x1 : Vec Ideal S1x512x512 .bf16) (x2 : Vec Ideal S1x2048x128 .f32) (x3 : Vec Ideal S1x64x128 .f32) (x4 : Vec Ideal S1x64x128 .f32) (x5 : Vec Ideal S31x512 .f32) (x6 : Vec Ideal S1x512 .f32) (x7 : Vec Ideal S1x512 .f32) (x8 : Vec Ideal S1x512 .f32) (x9 : Vec Ideal S1024x1024 .bf16) (x10 : Vec Ideal S1x1024 .f32) (x11 : Vec Ideal S1024x4096 .bf16) (x12 : Vec Ideal S4096x1024 .bf16) (x13 : Vec Ideal S1x1024 .f32) (d17 : Vec Ideal S2176x128 .f32) (d18 : Vec Ideal S512x512 .f32) (z : Fin 1) (r : Fin 512) (o : Fin 1024) :
    View.canon (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 d17 d18).1 (ix3 z r o)
      = row (fun o => x0 (ix3 0 r o)) (fun k => x1 (ix3 0 r k))
          (fun l => convAt (fun n l => x5 (ix2 n l)) (fun l => x6 (ix2 0 l)) (extended (before (i 1).val) (behind 15#32 (i 1).val) x2 x3 x4) r l)
          (fun l => x7 (ix2 0 l)) (fun l => x8 (ix2 0 l)) (fun k o => x9 (ix2 k o)) (fun o => x10 (ix2 0 o))
          (fun k j => x11 (ix2 k j)) (fun j o => x12 (ix2 j o)) (fun o => x13 (ix2 0 o)) o := by
  have e0 := whole_load arg2 harg2 x0 (off := ![0, 0, 0]) (by decide) inb_S1x512x1024_S1x512x1024_0_0_0
  have e1 := whole_load arg3 harg3 x1 (off := ![0, 0, 0]) (by decide) inb_S1x512x512_S1x512x512_0_0_0
  have e7 := whole_load arg9 harg9 x7 (off := ![0, 0]) (by decide) inb_S1x512_S1x512_0_0
  have e8 := whole_load arg10 harg10 x8 (off := ![0, 0]) (by decide) inb_S1x512_S1x512_0_0
  have e10 := whole_load arg12 harg12 x10 (off := ![0, 0]) (by decide) inb_S1x1024_S1x1024_0_0
  have e13 := whole_load arg15 harg15 x13 (off := ![0, 0]) (by decide) inb_S1x1024_S1x1024_0_0
  unfold bodyRun
  dsimp only
  refine (congrFun (View.canon_unit_zero (S := S1x512x1024) (off := ![0, 0, 0]) (by decide) _ _) _).trans ?_
  unfold bodyRun.sl.r_35 bodyRun.sl.r_34 bodyRun.sl.r_33 bodyRun.sl.r_32 bodyRun.sl.r_31 bodyRun.sl.r_30 bodyRun.sl.r_29
  rw [e0, e1, e7, e8, e10, e13]
  refine (stored_row _ _ _ _ _ _ _ _ (fun k o => x9 (ix2 k o)) (fun k j => x11 (ix2 k j)) (fun j o => x12 (ix2 j o)) _ _ _ _ _ _ _ _ _
    (fun k o => slice_load arg11 harg11 x9 0 0 _ k o _ _ (by simp) (by simp))
    (fun k o => slice_load arg11 harg11 x9 512 0 _ k o _ _ (by simp) (by simp))
    (fun k o => slice_load arg13 harg13 x11 0 0 _ k o _ _ (by simp) (by simp))
    (fun k o => slice_load arg13 harg13 x11 0 1024 _ k o _ _ (by simp) (by simp))
    (fun k o => slice_load arg13 harg13 x11 0 2048 _ k o _ _ (by simp) (by simp))
    (fun k o => slice_load arg13 harg13 x11 0 3072 _ k o _ _ (by simp) (by simp))
    (fun k o => slice_load arg14 harg14 x12 0 0 _ k o _ _ (by simp) (by simp))
    (fun k o => slice_load arg14 harg14 x12 1024 0 _ k o _ _ (by simp) (by simp))
    (fun k o => slice_load arg14 harg14 x12 2048 0 _ k o _ _ (by simp) (by simp))
    (fun k o => slice_load arg14 harg14 x12 3072 0 _ k o _ _ (by simp) (by simp))
    z r o).trans ?_
  refine congrArg (fun v => row (fun o => x0 (ix3 0 r o)) (fun k => x1 (ix3 0 r k)) v
          (fun l => x7 (ix2 0 l)) (fun l => x8 (ix2 0 l)) (fun k o => x9 (ix2 k o)) (fun o => x10 (ix2 0 o))
          (fun k j => x11 (ix2 k j)) (fun j o => x12 (ix2 j o)) (fun o => x13 (ix2 0 o)) o) (funext fun l => ?_)
  exact conv_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x3 x4 x5 x6 d18 r l

end Tail
-- ==== Proof.Tail.KernelArray.lean ====
/-
  The tail program's result array after a run: every grid point writes its block of `tail` of the arguments, and the
  blocks cover the array.
-/
module

public import proofs.«01_k».proof.Proof.Tail.Block
public import proofs.«01_k».proof.Proof.Tail.Result
public import Idealize.ShloMosaic.Lib.Pipeline.Value

@[expose] public section

set_option maxRecDepth 16384

noncomputable section

namespace Tail

open Cert.TailIdeal Cert.TailIdeal.Gen Idealize.ShloMosaic Idealize.ShloMosaic.TcCoe Idealize.SL.Sem
open Idealize.ShloMosaic.Pointwise Tail.TailIdealRun
open Idealize.ShloMosaic.Pipeline (Dat)

/-- Window 0's block index at grid point `t` (batch `t / 16`, row block `t % 16`). -/
theorem index0 : ∀ t : Fin grid0.N, (win0_0.index t 0 = t.val / 16 ∧ win0_0.index t 1 = t.val % 16 ∧ win0_0.index t 2 = 0) := by
  decide +kernel

/-- Window 1's block index at grid point `t` (batch `t / 16`, row block `t % 16`). -/
theorem index1 : ∀ t : Fin grid0.N, (win0_1.index t 0 = t.val / 16 ∧ win0_1.index t 1 = t.val % 16 ∧ win0_1.index t 2 = 0) := by
  decide +kernel

/-- Window 2's block index at grid point `t` (batch `t / 16`, row block `t % 16`). -/
theorem index2 : ∀ t : Fin grid0.N, (win0_2.index t 0 = t.val / 16 ∧ win0_2.index t 1 = t.val % 16 ∧ win0_2.index t 2 = 0) := by
  decide +kernel

/-- Window 3's block index at grid point `t` (batch `t / 16`, row block `t % 16`). -/
theorem index3 : ∀ t : Fin grid0.N, (win0_3.index t 0 = t.val / 16 ∧ win0_3.index t 1 = 32 * (t.val % 16) - 1 ∧ win0_3.index t 2 = 0) := by
  decide +kernel

/-- Window 4's block index at grid point `t` (batch `t / 16`, row block `t % 16`). -/
theorem index4 : ∀ t : Fin grid0.N, (win0_4.index t 0 = t.val / 16 ∧ win0_4.index t 1 = min (32 * (t.val % 16) + 32) 511 ∧ win0_4.index t 2 = 0) := by
  decide +kernel

/-- Window 5's block index at grid point `t` (batch `t / 16`, row block `t % 16`). -/
theorem index5 : ∀ t : Fin grid0.N, (win0_5.index t 0 = 0 ∧ win0_5.index t 1 = 0) := by
  decide +kernel

/-- Window 6's block index at grid point `t` (batch `t / 16`, row block `t % 16`). -/
theorem index6 : ∀ t : Fin grid0.N, (win0_6.index t 0 = 0 ∧ win0_6.index t 1 = 0) := by
  decide +kernel

/-- Window 7's block index at grid point `t` (batch `t / 16`, row block `t % 16`). -/
theorem index7 : ∀ t : Fin grid0.N, (win0_7.index t 0 = 0 ∧ win0_7.index t 1 = 0) := by
  decide +kernel

/-- Window 8's block index at grid point `t` (batch `t / 16`, row block `t % 16`). -/
theorem index8 : ∀ t : Fin grid0.N, (win0_8.index t 0 = 0 ∧ win0_8.index t 1 = 0) := by
  decide +kernel

/-- Window 9's block index at grid point `t` (batch `t / 16`, row block `t % 16`). -/
theorem index9 : ∀ t : Fin grid0.N, (win0_9.index t 0 = 0 ∧ win0_9.index t 1 = 0) := by
  decide +kernel

/-- Window 10's block index at grid point `t` (batch `t / 16`, row block `t % 16`). -/
theorem index10 : ∀ t : Fin grid0.N, (win0_10.index t 0 = 0 ∧ win0_10.index t 1 = 0) := by
  decide +kernel

/-- Window 11's block index at grid point `t` (batch `t / 16`, row block `t % 16`). -/
theorem index11 : ∀ t : Fin grid0.N, (win0_11.index t 0 = 0 ∧ win0_11.index t 1 = 0) := by
  decide +kernel

/-- Window 12's block index at grid point `t` (batch `t / 16`, row block `t % 16`). -/
theorem index12 : ∀ t : Fin grid0.N, (win0_12.index t 0 = 0 ∧ win0_12.index t 1 = 0) := by
  decide +kernel

/-- Window 13's block index at grid point `t` (batch `t / 16`, row block `t % 16`). -/
theorem index13 : ∀ t : Fin grid0.N, (win0_13.index t 0 = 0 ∧ win0_13.index t 1 = 0) := by
  decide +kernel

/-- Window 14's block index at grid point `t` (batch `t / 16`, row block `t % 16`). -/
theorem index14 : ∀ t : Fin grid0.N, (win0_14.index t 0 = t.val / 16 ∧ win0_14.index t 1 = t.val % 16 ∧ win0_14.index t 2 = 0) := by
  decide +kernel

/-- The grid point's second coordinate. -/
theorem coord1 : ∀ t : Fin grid0.N, (grid0.coords t 1).val = t.val % 16 := by decide +kernel

/-- The grid's point `t` among its 64. -/
theorem point_lt (t : Fin cfg0.N) : t.val < 64 := lt_of_lt_of_eq t.isLt N_0

/-- Point `t`'s batch. -/
def pb (t : Fin cfg0.N) : Fin 4 := ⟨t.val / 16, by have := point_lt t; omega⟩
/-- Row `r` of point `t`'s block, as a position of the sequence. -/
def pr (t : Fin cfg0.N) (r : Fin 512) : Fin 8192 := ⟨512 * (t.val % 16) + r.val, by have := r.isLt; omega⟩

variable (m : (ℓ : Loc nD τ sig) → Buf (Elt Ideal) ℓ) (ρ : Dev nD → PrngReg)

/-- Argument 0 on device `c`. -/
abbrev arg0 (c : Dev nD) : Vec Ideal S4x8192x1024 .f32 := m ((c : Thread nD τ).loc main_arg0)
/-- Argument 1 on device `c`. -/
abbrev arg1 (c : Dev nD) : Vec Ideal S4x8192x512 .bf16 := m ((c : Thread nD τ).loc main_arg1)
/-- Argument 2 on device `c`. -/
abbrev arg2 (c : Dev nD) : Vec Ideal S4x8192x512 .f32 := m ((c : Thread nD τ).loc main_arg2)
/-- Argument 3 on device `c`. -/
abbrev arg3 (c : Dev nD) : Vec Ideal S31x512 .f32 := m ((c : Thread nD τ).loc main_arg3)
/-- Argument 4 on device `c`. -/
abbrev arg4 (c : Dev nD) : Vec Ideal S1x512 .f32 := m ((c : Thread nD τ).loc main_arg4)
/-- Argument 5 on device `c`. -/
abbrev arg5 (c : Dev nD) : Vec Ideal S1x512 .f32 := m ((c : Thread nD τ).loc main_arg5)
/-- Argument 6 on device `c`. -/
abbrev arg6 (c : Dev nD) : Vec Ideal S1x512 .f32 := m ((c : Thread nD τ).loc main_arg6)
/-- Argument 7 on device `c`. -/
abbrev arg7 (c : Dev nD) : Vec Ideal S1024x1024 .bf16 := m ((c : Thread nD τ).loc main_arg7)
/-- Argument 8 on device `c`. -/
abbrev arg8 (c : Dev nD) : Vec Ideal S1x1024 .f32 := m ((c : Thread nD τ).loc main_arg8)
/-- Argument 9 on device `c`. -/
abbrev arg9 (c : Dev nD) : Vec Ideal S1024x4096 .bf16 := m ((c : Thread nD τ).loc main_arg9)
/-- Argument 10 on device `c`. -/
abbrev arg10 (c : Dev nD) : Vec Ideal S4096x1024 .bf16 := m ((c : Thread nD τ).loc main_arg10)
/-- Argument 11 on device `c`. -/
abbrev arg11 (c : Dev nD) : Vec Ideal S1x1024 .f32 := m ((c : Thread nD τ).loc main_arg11)

/-- The gated channels as the windows read them: four rows of 128 channels to a position. -/
theorem channels (c : Dev nD) :
    V m c main_v0 = fun i => shapeCast S4x32768x128 (arg2 m c) shapeCasts_S4x8192x512_S4x32768x128 i := by
  show StableHlo.after hostOps0 (fun b => m (c, b)) main_v0 = _
  rw [hostOps0, StableHlo.after_cons, StableHlo.after_nil, StableHlo.reshape_result]
  rfl

/-- Row `R`, lane `l` of them is channel `k` of position `s`. -/
theorem channels_at (c : Dev nD) (b : Fin 4) (R : Fin 32768) (l : Fin 128) (s : Fin 8192) (k : Fin 512) (hR : 4 * s.val + k.val / 128 = R.val)
    (hl : k.val % 128 = l.val) : (V m c main_v0 : Vec Ideal S4x32768x128 .f32) (ix3 b R l) = arg2 m c (ix3 b s k) := by
  rw [channels]
  exact channels_apply (N := 4) (S := 8192) (arg2 m c) shapeCasts_S4x8192x512_S4x32768x128 b R l s k hR hl

/-- The residual's block at a point. -/
theorem iblk0_apply (c : Dev nD) (t : Fin cfg0.N) (r : Fin 512) (o : Fin 1024) :
    iblk m c 0 t (ix3 0 r o) = arg0 m c (ix3 (pb t) (pr t r) o) := by
  obtain ⟨e0, e1, e2⟩ := index0 t
  refine (congrFun (V_main_arg0 m c) _).trans (congrArg (arg0 m c) (funext fun a => Fin.ext ?_))
  match a with
  | ⟨0, _⟩ => show win0_0.index t 0 * 1 + 1 * 0 = t.val / 16; rw [e0]; omega
  | ⟨1, _⟩ => show win0_0.index t 1 * 512 + 1 * r.val = 512 * (t.val % 16) + r.val; rw [e1]; omega
  | ⟨2, _⟩ => show win0_0.index t 2 * 1024 + 1 * o.val = o.val; rw [e2]; omega

/-- The attention's block at a point. -/
theorem iblk1_apply (c : Dev nD) (t : Fin cfg0.N) (r : Fin 512) (k : Fin 512) :
    iblk m c 1 t (ix3 0 r k) = arg1 m c (ix3 (pb t) (pr t r) k) := by
  obtain ⟨e0, e1, e2⟩ := index1 t
  refine (congrFun (V_main_arg1 m c) _).trans (congrArg (arg1 m c) (funext fun a => Fin.ext ?_))
  match a with
  | ⟨0, _⟩ => show win0_1.index t 0 * 1 + 1 * 0 = t.val / 16; rw [e0]; omega
  | ⟨1, _⟩ => show win0_1.index t 1 * 512 + 1 * r.val = 512 * (t.val % 16) + r.val; rw [e1]; omega
  | ⟨2, _⟩ => show win0_1.index t 2 * 512 + 1 * k.val = k.val; rw [e2]; omega

/-- The gated channels at a point: the block's. -/
theorem iblk2_apply (c : Dev nD) (t : Fin cfg0.N) (R : Fin 2048) (l : Fin 128) (s : Fin 8192) (k : Fin 512)
    (h : 4 * s.val + k.val / 128 = 2048 * (t.val % 16) + R.val) (hl : k.val % 128 = l.val) : iblk m c 2 t (ix3 0 R l) = arg2 m c (ix3 (pb t) s k) := by
  obtain ⟨e0, e1, e2⟩ := index2 t
  refine Eq.trans ?_ (channels_at m c (pb t) ⟨2048 * (t.val % 16) + R.val, by omega⟩ l s k (by dsimp only; omega) hl)
  refine congrArg (V m c main_v0 : Vec Ideal S4x32768x128 .f32) (funext fun a => Fin.ext ?_)
  match a with
  | ⟨0, _⟩ => show win0_2.index t 0 * 1 + 1 * 0 = t.val / 16; rw [e0]; omega
  | ⟨1, _⟩ => show win0_2.index t 1 * 2048 + 1 * R.val = 2048 * (t.val % 16) + R.val; rw [e1]; omega
  | ⟨2, _⟩ => show win0_2.index t 2 * 128 + 1 * l.val = l.val; rw [e2]; omega

/-- The gated channels at a point: the rows before it. -/
theorem iblk3_apply (c : Dev nD) (t : Fin cfg0.N) (ht : t.val % 16 ≠ 0) (R : Fin 64) (l : Fin 128) (s : Fin 8192) (k : Fin 512)
    (h : 4 * s.val + k.val / 128 + 64 = 2048 * (t.val % 16) + R.val) (hl : k.val % 128 = l.val) : iblk m c 3 t (ix3 0 R l) = arg2 m c (ix3 (pb t) s k) := by
  obtain ⟨e0, e1, e2⟩ := index3 t
  refine Eq.trans ?_ (channels_at m c (pb t) ⟨64 * (32 * (t.val % 16) - 1) + R.val, by omega⟩ l s k (by dsimp only; omega) hl)
  refine congrArg (V m c main_v0 : Vec Ideal S4x32768x128 .f32) (funext fun a => Fin.ext ?_)
  match a with
  | ⟨0, _⟩ => show win0_3.index t 0 * 1 + 1 * 0 = t.val / 16; rw [e0]; omega
  | ⟨1, _⟩ => show win0_3.index t 1 * 64 + 1 * R.val = 64 * (32 * (t.val % 16) - 1) + R.val; rw [e1]; omega
  | ⟨2, _⟩ => show win0_3.index t 2 * 128 + 1 * l.val = l.val; rw [e2]; omega

/-- The gated channels at a point: the rows behind it. -/
theorem iblk4_apply (c : Dev nD) (t : Fin cfg0.N) (ht : t.val % 16 + 1 ≠ 16) (R : Fin 64) (l : Fin 128) (s : Fin 8192) (k : Fin 512)
    (h : 4 * s.val + k.val / 128 = 2048 * (t.val % 16 + 1) + R.val) (hl : k.val % 128 = l.val) : iblk m c 4 t (ix3 0 R l) = arg2 m c (ix3 (pb t) s k) := by
  obtain ⟨e0, e1, e2⟩ := index4 t
  refine Eq.trans ?_ (channels_at m c (pb t) ⟨64 * min (32 * (t.val % 16) + 32) 511 + R.val, by omega⟩ l s k (by dsimp only; omega) hl)
  refine congrArg (V m c main_v0 : Vec Ideal S4x32768x128 .f32) (funext fun a => Fin.ext ?_)
  match a with
  | ⟨0, _⟩ => show win0_4.index t 0 * 1 + 1 * 0 = t.val / 16; rw [e0]; omega
  | ⟨1, _⟩ => show win0_4.index t 1 * 64 + 1 * R.val = 64 * min (32 * (t.val % 16) + 32) 511 + R.val; rw [e1]; omega
  | ⟨2, _⟩ => show win0_4.index t 2 * 128 + 1 * l.val = l.val; rw [e2]; omega

/-- Window 5 is the whole of argument 3 at every point. -/
theorem iblk5_apply (c : Dev nD) (t : Fin cfg0.N) (k : Fin 31) (o : Fin 512) : iblk m c 5 t (ix2 k o) = arg3 m c (ix2 k o) := by
  obtain ⟨e0, e1⟩ := index5 t
  refine (congrFun (V_main_arg3 m c) _).trans (congrArg (arg3 m c) (funext fun a => Fin.ext ?_))
  match a with
  | ⟨0, _⟩ => show win0_5.index t 0 * 31 + 1 * k.val = k.val; rw [e0]; omega
  | ⟨1, _⟩ => show win0_5.index t 1 * 512 + 1 * o.val = o.val; rw [e1]; omega

/-- Window 6 is the whole of argument 4 at every point. -/
theorem iblk6_apply (c : Dev nD) (t : Fin cfg0.N) (k : Fin 1) (o : Fin 512) : iblk m c 6 t (ix2 k o) = arg4 m c (ix2 k o) := by
  obtain ⟨e0, e1⟩ := index6 t
  refine (congrFun (V_main_arg4 m c) _).trans (congrArg (arg4 m c) (funext fun a => Fin.ext ?_))
  match a with
  | ⟨0, _⟩ => show win0_6.index t 0 * 1 + 1 * k.val = k.val; rw [e0]; omega
  | ⟨1, _⟩ => show win0_6.index t 1 * 512 + 1 * o.val = o.val; rw [e1]; omega

/-- Window 7 is the whole of argument 5 at every point. -/
theorem iblk7_apply (c : Dev nD) (t : Fin cfg0.N) (k : Fin 1) (o : Fin 512) : iblk m c 7 t (ix2 k o) = arg5 m c (ix2 k o) := by
  obtain ⟨e0, e1⟩ := index7 t
  refine (congrFun (V_main_arg5 m c) _).trans (congrArg (arg5 m c) (funext fun a => Fin.ext ?_))
  match a with
  | ⟨0, _⟩ => show win0_7.index t 0 * 1 + 1 * k.val = k.val; rw [e0]; omega
  | ⟨1, _⟩ => show win0_7.index t 1 * 512 + 1 * o.val = o.val; rw [e1]; omega

/-- Window 8 is the whole of argument 6 at every point. -/
theorem iblk8_apply (c : Dev nD) (t : Fin cfg0.N) (k : Fin 1) (o : Fin 512) : iblk m c 8 t (ix2 k o) = arg6 m c (ix2 k o) := by
  obtain ⟨e0, e1⟩ := index8 t
  refine (congrFun (V_main_arg6 m c) _).trans (congrArg (arg6 m c) (funext fun a => Fin.ext ?_))
  match a with
  | ⟨0, _⟩ => show win0_8.index t 0 * 1 + 1 * k.val = k.val; rw [e0]; omega
  | ⟨1, _⟩ => show win0_8.index t 1 * 512 + 1 * o.val = o.val; rw [e1]; omega

/-- Window 9 is the whole of argument 7 at every point. -/
theorem iblk9_apply (c : Dev nD) (t : Fin cfg0.N) (k : Fin 1024) (o : Fin 1024) : iblk m c 9 t (ix2 k o) = arg7 m c (ix2 k o) := by
  obtain ⟨e0, e1⟩ := index9 t
  refine (congrFun (V_main_arg7 m c) _).trans (congrArg (arg7 m c) (funext fun a => Fin.ext ?_))
  match a with
  | ⟨0, _⟩ => show win0_9.index t 0 * 1024 + 1 * k.val = k.val; rw [e0]; omega
  | ⟨1, _⟩ => show win0_9.index t 1 * 1024 + 1 * o.val = o.val; rw [e1]; omega

/-- Window 10 is the whole of argument 8 at every point. -/
theorem iblk10_apply (c : Dev nD) (t : Fin cfg0.N) (k : Fin 1) (o : Fin 1024) : iblk m c 10 t (ix2 k o) = arg8 m c (ix2 k o) := by
  obtain ⟨e0, e1⟩ := index10 t
  refine (congrFun (V_main_arg8 m c) _).trans (congrArg (arg8 m c) (funext fun a => Fin.ext ?_))
  match a with
  | ⟨0, _⟩ => show win0_10.index t 0 * 1 + 1 * k.val = k.val; rw [e0]; omega
  | ⟨1, _⟩ => show win0_10.index t 1 * 1024 + 1 * o.val = o.val; rw [e1]; omega

/-- Window 11 is the whole of argument 9 at every point. -/
theorem iblk11_apply (c : Dev nD) (t : Fin cfg0.N) (k : Fin 1024) (o : Fin 4096) : iblk m c 11 t (ix2 k o) = arg9 m c (ix2 k o) := by
  obtain ⟨e0, e1⟩ := index11 t
  refine (congrFun (V_main_arg9 m c) _).trans (congrArg (arg9 m c) (funext fun a => Fin.ext ?_))
  match a with
  | ⟨0, _⟩ => show win0_11.index t 0 * 1024 + 1 * k.val = k.val; rw [e0]; omega
  | ⟨1, _⟩ => show win0_11.index t 1 * 4096 + 1 * o.val = o.val; rw [e1]; omega

/-- Window 12 is the whole of argument 10 at every point. -/
theorem iblk12_apply (c : Dev nD) (t : Fin cfg0.N) (k : Fin 4096) (o : Fin 1024) : iblk m c 12 t (ix2 k o) = arg10 m c (ix2 k o) := by
  obtain ⟨e0, e1⟩ := index12 t
  refine (congrFun (V_main_arg10 m c) _).trans (congrArg (arg10 m c) (funext fun a => Fin.ext ?_))
  match a with
  | ⟨0, _⟩ => show win0_12.index t 0 * 4096 + 1 * k.val = k.val; rw [e0]; omega
  | ⟨1, _⟩ => show win0_12.index t 1 * 1024 + 1 * o.val = o.val; rw [e1]; omega

/-- Window 13 is the whole of argument 11 at every point. -/
theorem iblk13_apply (c : Dev nD) (t : Fin cfg0.N) (k : Fin 1) (o : Fin 1024) : iblk m c 13 t (ix2 k o) = arg11 m c (ix2 k o) := by
  obtain ⟨e0, e1⟩ := index13 t
  refine (congrFun (V_main_arg11 m c) _).trans (congrArg (arg11 m c) (funext fun a => Fin.ext ?_))
  match a with
  | ⟨0, _⟩ => show win0_13.index t 0 * 1 + 1 * k.val = k.val; rw [e0]; omega
  | ⟨1, _⟩ => show win0_13.index t 1 * 1024 + 1 * o.val = o.val; rw [e1]; omega

/-- The extended channels of point `t`, at the place tap `n` of row `r` reads: the padded sequence. -/
theorem extended_eq (c : Dev nD) (t : Fin cfg0.N) (r : Fin 512) (n : Fin 31) (l : Fin 512) :
    extended (before (grid0.coords t 1).val) (behind 15#32 (grid0.coords t 1).val) (iblk m c 2 t) (iblk m c 3 t) (iblk m c 4 t)
        ⟨4 * (r.val + n.val + 1) + l.val / 128, by omega⟩ ⟨l.val % 128, by omega⟩
      = padded (arg2 m c) (pb t) ((pr t r).val + n.val) l := by
  rw [coord1 t]
  exact extended_padded (arg2 m c) (pb t) 16 (t.val % 16) (by omega) rfl _ _
    (fun h => by rw [h, before_zero]) (fun h => before_pos (by omega) h)
    (fun h => by rw [show t.val % 16 = 15 by omega]; exact behind_last (by norm_num)) (fun h => behind_lt (by norm_num) (by omega))
    _ _ _ (iblk2_apply m c t) (fun h => iblk3_apply m c t h) (fun h => iblk4_apply m c t h) r n l

/-- The block's convolution is the array's. -/
theorem conv_eq (c : Dev nD) (t : Fin cfg0.N) (r l : Fin 512) :
    convAt (fun n l => iblk m c 5 t (ix2 n l)) (fun l => iblk m c 6 t (ix2 0 l))
        (extended (before (grid0.coords t 1).val) (behind 15#32 (grid0.coords t 1).val) (iblk m c 2 t) (iblk m c 3 t) (iblk m c 4 t)) r l
      = conv (arg2 m c) (arg3 m c) (arg4 m c) (pb t) (pr t r) l := by
  unfold convAt conv
  exact congrArg₂ (· + ·) (iblk6_apply m c t 0 l)
    (Finset.sum_congr rfl fun n _ => congrArg₂ (· * ·) (iblk5_apply m c t n l) (extended_eq m c t r n l))

/-- The tail of the arguments on device `c`. -/
abbrev result (c : Dev nD) : Vec Ideal S4x8192x1024 .f32 :=
  tail (arg0 m c) (arg1 m c) (arg2 m c) (arg3 m c) (arg4 m c) (arg5 m c) (arg6 m c) (arg7 m c) (arg8 m c) (arg9 m c) (arg10 m c) (arg11 m c)

/-- What point `t` leaves in its output block. -/
theorem outBlock_apply (c : Dev nD) (t : Fin cfg0.N) (z : Fin 1) (r : Fin 512) (o : Fin 1024) :
    outBlock m c t (ix3 z r o) = result m c (ix3 (pb t) (pr t r) o) := by
  unfold outBlock
  rw [block_row]
  show row _ _ _ _ _ _ _ _ _ _ o = tailAt (arg0 m c) (arg1 m c) (arg2 m c) (arg3 m c) (arg4 m c) (arg5 m c) (arg6 m c) (arg7 m c) (arg8 m c) (arg9 m c) (arg10 m c) (arg11 m c) (pb t) (pr t r) o
  unfold tailAt
  have h0 : (fun o => iblk m c 0 t (ix3 0 r o)) = fun o => arg0 m c (ix3 (pb t) (pr t r) o) := funext fun o => iblk0_apply m c t r o
  have h1 : (fun k => iblk m c 1 t (ix3 0 r k)) = fun k => arg1 m c (ix3 (pb t) (pr t r) k) := funext fun k => iblk1_apply m c t r k
  have h2 : (fun l => convAt (fun n l => iblk m c 5 t (ix2 n l)) (fun l => iblk m c 6 t (ix2 0 l))
        (extended (before (grid0.coords t 1).val) (behind 15#32 (grid0.coords t 1).val) (iblk m c 2 t) (iblk m c 3 t) (iblk m c 4 t)) r l)
      = fun l => conv (arg2 m c) (arg3 m c) (arg4 m c) (pb t) (pr t r) l := funext fun l => conv_eq m c t r l
  have h7 : (fun l => iblk m c 7 t (ix2 0 l)) = fun l => arg5 m c (ix2 0 l) := funext fun l => iblk7_apply m c t 0 l
  have h8 : (fun l => iblk m c 8 t (ix2 0 l)) = fun l => arg6 m c (ix2 0 l) := funext fun l => iblk8_apply m c t 0 l
  have h9 : (fun k o => iblk m c 9 t (ix2 k o)) = fun k o => arg7 m c (ix2 k o) := funext fun k => funext fun o => iblk9_apply m c t k o
  have h10 : (fun o => iblk m c 10 t (ix2 0 o)) = fun o => arg8 m c (ix2 0 o) := funext fun o => iblk10_apply m c t 0 o
  have h11 : (fun k j => iblk m c 11 t (ix2 k j)) = fun k j => arg9 m c (ix2 k j) := funext fun k => funext fun o => iblk11_apply m c t k o
  have h12 : (fun j o => iblk m c 12 t (ix2 j o)) = fun j o => arg10 m c (ix2 j o) := funext fun k => funext fun o => iblk12_apply m c t k o
  have h13 : (fun o => iblk m c 13 t (ix2 0 o)) = fun o => arg11 m c (ix2 0 o) := funext fun o => iblk13_apply m c t 0 o
  erw [h0, h1, h2, h7, h8, h9, h10, h11, h12, h13]

/-- WHAT POINT `t` WRITES BACK is its block of the tail of the arguments. -/
theorem flushed_eq (c : Dev nD) (t : Fin cfg0.N) :
    (dats m 0 c).flushed 14 t = ((cfg0.win 14).blk t).view.read (Elt Ideal) (result m c) := by
  have hf : (dats m 0 c).flushed 14 t = (cfg0.win 14).cut (grid0.coords t) (outBlock m c t) := by
    show (cfg0.win 14).cut (grid0.coords t) ((dats m 0 c).after 14 t) = _
    rw [after14]
  rw [hf]
  obtain ⟨e0, e1, e2⟩ := index14 t
  funext (y : S1x512x1024.Idx)
  have hy : y = ix3 (y 0) (y 1) (y 2) := by
    funext a
    match a with
    | ⟨0, _⟩ => rfl
    | ⟨1, _⟩ => rfl
    | ⟨2, _⟩ => rfl
  have h0 : (y 0).val < 1 := (y 0).isLt
  show outBlock m c t y = result m c (((cfg0.win 14).blk t).view.emb y)
  refine (congrArg _ hy).trans ((outBlock_apply m c t (y 0) (y 1) (y 2)).trans (congrArg (result m c) (funext fun a => Fin.ext ?_)))
  match a with
  | ⟨0, _⟩ => show t.val / 16 = win0_14.index t 0 * 1 + 1 * (y 0).val; rw [e0]; omega
  | ⟨1, _⟩ => show 512 * (t.val % 16) + (y 1).val = win0_14.index t 1 * 512 + 1 * (y 1).val; rw [e1]; omega
  | ⟨2, _⟩ => show (y 2).val = win0_14.index t 2 * 1024 + 1 * (y 2).val; rw [e2]; omega

/-- The blocks the points write back cover the result array. -/
theorem cover (i : S4x8192x1024.Idx) : ∃ t : Fin cfg0.N, (cfg0.win 14).flush t = true ∧ i ∈ ((cfg0.win 14).blk t).view.set := by
  have h0 : (i 0).val < 4 := (i 0).isLt
  have h1 : (i 1).val < 8192 := (i 1).isLt
  have h2 : (i 2).val < 1024 := (i 2).isLt
  have hN : cfg0.N = 64 := N_0
  refine ⟨⟨(i 0).val * 16 + (i 1).val / 512, by omega⟩, flush0_14 _, ?_⟩
  generalize ht : (⟨(i 0).val * 16 + (i 1).val / 512, by omega⟩ : Fin cfg0.N) = t
  have hv : t.val = (i 0).val * 16 + (i 1).val / 512 := by rw [← ht]
  obtain ⟨e0, e1, e2⟩ := index14 t
  show i ∈ ((View.whole main_v1).slice (win0_14.rect t)).set
  rw [View.set_slice_whole, Rect.mem_set_unit]
  intro a
  match a with
  | ⟨0, _⟩ =>
    show win0_14.index t 0 * 1 ≤ (i 0).val ∧ (i 0).val < win0_14.index t 0 * 1 + 1
    rw [e0]; omega
  | ⟨1, _⟩ =>
    show win0_14.index t 1 * 512 ≤ (i 1).val ∧ (i 1).val < win0_14.index t 1 * 512 + 512
    rw [e1]; omega
  | ⟨2, _⟩ =>
    show win0_14.index t 2 * 1024 ≤ (i 2).val ∧ (i 2).val < win0_14.index t 2 * 1024 + 1024
    rw [e2]; omega

/-- The result array after the run is the tail of the arguments, -/
theorem final (c : Dev nD) : (dats m 0 c).arrAt 14 cfg0.N = result m c :=
  (dats m 0 c).arrAt_eq_of_cover 14 _ (fun t _ => flushed_eq m c t) cover

/-- and the run ends with it, the arguments unchanged. -/
theorem kernel_run :
    θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) := by
  have h1 : θ_run defs (onTc (τ := τ) (main (F := Ideal))) ⟨m, fun _ => 0, ρ⟩ fun r => ∀ c : Dev nD,
      r.2.mem ((c : Thread nD τ).loc main_v1) = result m c :=
    (θ_run defs _ _).mono (fun r h (c : Dev nD) => ((h c).1 14).trans (final m c)) (run m ρ)
  exact (θ_run defs _ _).mono (fun r h c => ⟨h.1 c, h.2 c⟩) (θ_run_and h1 (frame_of m ρ (dats m) (A_eq m) (run m ρ)))

end Tail
-- ==== Proof.Tail.RefConv.lean ====
/-
  What the tail reference's convolution computes: the thirty-one shifted products of the padded channels, summed in order.
-/
module

public import proofs.«01_k».proof.Proof.Tail.Result
public import proofs.«01_k».proof.Proof.Gen.TailReferenceIdeal.Run
public import proofs.«01_k».proof.Proof.Gen.TailReferenceIdeal.Read
public import Idealize.ShloMosaic.Lib.KernelVsHost
public import Idealize.ShloMosaic.Lib.Pipeline.Value

@[expose] public section

set_option maxRecDepth 16384

noncomputable section

namespace Tail

open Cert.TailReferenceIdeal Cert.TailReferenceIdeal.Gen Cert.TailReferenceIdeal.Read Idealize.ShloMosaic Idealize.ShloMosaic.TcCoe Idealize.SL.Sem
open Idealize.ShloMosaic.Pointwise

variable (C : Vec Ideal S4x8192x512 .f32) (T : Vec Ideal S31x512 .f32) (B : Vec Ideal S1x512 .f32)

/-- The padded channels. -/
theorem pad_at (b : Fin 4) (p : Fin 8222) (l : Fin 512) :
    val_main_v0 (F := Ideal) C (ix3 b p l) = padded C b p.val l := by
  unfold val_main_v0 padded
  have hp := p.isLt
  by_cases h : 15 ≤ p.val ∧ p.val - 15 < 8192
  · rw [dif_pos h]
    refine pad_apply_of_inside _ _ _ _ _ _ _ _ _ fun a => ?_
    match a with
    | ⟨0, _⟩ => show b.val = 0 + b.val * (0 + 1); omega
    | ⟨1, _⟩ => show p.val = 15 + (p.val - 15) * (0 + 1); omega
    | ⟨2, _⟩ => show l.val = 0 + l.val * (0 + 1); omega
  · rw [dif_neg h]
    refine (pad_apply_of_not_inside _ _ _ _ _ _ _ _ 1 fun hin => h ?_).trans ?_
    · have h1 : 15 ≤ p.val ∧ (p.val - 15) % 1 = 0 ∧ (p.val - 15) / 1 < 8192 := hin
      exact ⟨h1.1, by have := h1.2.2; rwa [Nat.div_one] at this⟩
    · show (((0#32 : BitVec 32).toInt : ℝ) : EReal) = 0
      norm_num

variable (b : Fin 4) (s : Fin 8192) (l : Fin 512)

/-- The sum of the first tap, -/
theorem sum0 : val_main_v8 (F := Ideal) C T (ix3 b s l) = ∑ k ∈ Finset.range 1, tap C T b s l k := by
  have h : val_main_v8 (F := Ideal) C T (ix3 b s l) = 0 + val_main_v6 (F := Ideal) C T (ix3 b s l) := by
    pointwise [val_main_v8, val_main_v7, val_main_cst]
  rw [h]
  exact sum_step (n := 0) (by norm_num) (by simp) (w := val_main_v0 (F := Ideal) C (ix3 b ⟨0 + s.val, by omega⟩ l)) (by pointwise [val_main_v6, val_main_v5, val_main_v4, val_main_v3, val_main_v2, val_main_v1])
    (pad_at C b _ l)

/-- and one more: tap 1. -/
theorem sum1 : val_main_v15 (F := Ideal) C T (ix3 b s l) = ∑ k ∈ Finset.range 2, tap C T b s l k :=
  sum_step (n := 1) (by norm_num) (sum0 C T b s l) (w := val_main_v0 (F := Ideal) C (ix3 b ⟨1 + s.val, by omega⟩ l))
    (by pointwise [val_main_v14, val_main_v13, val_main_v12, val_main_v11, val_main_v10, val_main_v9]) (pad_at C b _ l)

/-- and one more: tap 2. -/
theorem sum2 : val_main_v22 (F := Ideal) C T (ix3 b s l) = ∑ k ∈ Finset.range 3, tap C T b s l k :=
  sum_step (n := 2) (by norm_num) (sum1 C T b s l) (w := val_main_v0 (F := Ideal) C (ix3 b ⟨2 + s.val, by omega⟩ l))
    (by pointwise [val_main_v21, val_main_v20, val_main_v19, val_main_v18, val_main_v17, val_main_v16]) (pad_at C b _ l)

/-- and one more: tap 3. -/
theorem sum3 : val_main_v29 (F := Ideal) C T (ix3 b s l) = ∑ k ∈ Finset.range 4, tap C T b s l k :=
  sum_step (n := 3) (by norm_num) (sum2 C T b s l) (w := val_main_v0 (F := Ideal) C (ix3 b ⟨3 + s.val, by omega⟩ l))
    (by pointwise [val_main_v28, val_main_v27, val_main_v26, val_main_v25, val_main_v24, val_main_v23]) (pad_at C b _ l)

/-- and one more: tap 4. -/
theorem sum4 : val_main_v36 (F := Ideal) C T (ix3 b s l) = ∑ k ∈ Finset.range 5, tap C T b s l k :=
  sum_step (n := 4) (by norm_num) (sum3 C T b s l) (w := val_main_v0 (F := Ideal) C (ix3 b ⟨4 + s.val, by omega⟩ l))
    (by pointwise [val_main_v35, val_main_v34, val_main_v33, val_main_v32, val_main_v31, val_main_v30]) (pad_at C b _ l)

/-- and one more: tap 5. -/
theorem sum5 : val_main_v43 (F := Ideal) C T (ix3 b s l) = ∑ k ∈ Finset.range 6, tap C T b s l k :=
  sum_step (n := 5) (by norm_num) (sum4 C T b s l) (w := val_main_v0 (F := Ideal) C (ix3 b ⟨5 + s.val, by omega⟩ l))
    (by pointwise [val_main_v42, val_main_v41, val_main_v40, val_main_v39, val_main_v38, val_main_v37]) (pad_at C b _ l)

/-- and one more: tap 6. -/
theorem sum6 : val_main_v50 (F := Ideal) C T (ix3 b s l) = ∑ k ∈ Finset.range 7, tap C T b s l k :=
  sum_step (n := 6) (by norm_num) (sum5 C T b s l) (w := val_main_v0 (F := Ideal) C (ix3 b ⟨6 + s.val, by omega⟩ l))
    (by pointwise [val_main_v49, val_main_v48, val_main_v47, val_main_v46, val_main_v45, val_main_v44]) (pad_at C b _ l)

/-- and one more: tap 7. -/
theorem sum7 : val_main_v57 (F := Ideal) C T (ix3 b s l) = ∑ k ∈ Finset.range 8, tap C T b s l k :=
  sum_step (n := 7) (by norm_num) (sum6 C T b s l) (w := val_main_v0 (F := Ideal) C (ix3 b ⟨7 + s.val, by omega⟩ l))
    (by pointwise [val_main_v56, val_main_v55, val_main_v54, val_main_v53, val_main_v52, val_main_v51]) (pad_at C b _ l)

/-- and one more: tap 8. -/
theorem sum8 : val_main_v64 (F := Ideal) C T (ix3 b s l) = ∑ k ∈ Finset.range 9, tap C T b s l k :=
  sum_step (n := 8) (by norm_num) (sum7 C T b s l) (w := val_main_v0 (F := Ideal) C (ix3 b ⟨8 + s.val, by omega⟩ l))
    (by pointwise [val_main_v63, val_main_v62, val_main_v61, val_main_v60, val_main_v59, val_main_v58]) (pad_at C b _ l)

/-- and one more: tap 9. -/
theorem sum9 : val_main_v71 (F := Ideal) C T (ix3 b s l) = ∑ k ∈ Finset.range 10, tap C T b s l k :=
  sum_step (n := 9) (by norm_num) (sum8 C T b s l) (w := val_main_v0 (F := Ideal) C (ix3 b ⟨9 + s.val, by omega⟩ l))
    (by pointwise [val_main_v70, val_main_v69, val_main_v68, val_main_v67, val_main_v66, val_main_v65]) (pad_at C b _ l)

/-- and one more: tap 10. -/
theorem sum10 : val_main_v78 (F := Ideal) C T (ix3 b s l) = ∑ k ∈ Finset.range 11, tap C T b s l k :=
  sum_step (n := 10) (by norm_num) (sum9 C T b s l) (w := val_main_v0 (F := Ideal) C (ix3 b ⟨10 + s.val, by omega⟩ l))
    (by pointwise [val_main_v77, val_main_v76, val_main_v75, val_main_v74, val_main_v73, val_main_v72]) (pad_at C b _ l)

/-- and one more: tap 11. -/
theorem sum11 : val_main_v85 (F := Ideal) C T (ix3 b s l) = ∑ k ∈ Finset.range 12, tap C T b s l k :=
  sum_step (n := 11) (by norm_num) (sum10 C T b s l) (w := val_main_v0 (F := Ideal) C (ix3 b ⟨11 + s.val, by omega⟩ l))
    (by pointwise [val_main_v84, val_main_v83, val_main_v82, val_main_v81, val_main_v80, val_main_v79]) (pad_at C b _ l)

/-- and one more: tap 12. -/
theorem sum12 : val_main_v92 (F := Ideal) C T (ix3 b s l) = ∑ k ∈ Finset.range 13, tap C T b s l k :=
  sum_step (n := 12) (by norm_num) (sum11 C T b s l) (w := val_main_v0 (F := Ideal) C (ix3 b ⟨12 + s.val, by omega⟩ l))
    (by pointwise [val_main_v91, val_main_v90, val_main_v89, val_main_v88, val_main_v87, val_main_v86]) (pad_at C b _ l)

/-- and one more: tap 13. -/
theorem sum13 : val_main_v99 (F := Ideal) C T (ix3 b s l) = ∑ k ∈ Finset.range 14, tap C T b s l k :=
  sum_step (n := 13) (by norm_num) (sum12 C T b s l) (w := val_main_v0 (F := Ideal) C (ix3 b ⟨13 + s.val, by omega⟩ l))
    (by pointwise [val_main_v98, val_main_v97, val_main_v96, val_main_v95, val_main_v94, val_main_v93]) (pad_at C b _ l)

/-- and one more: tap 14. -/
theorem sum14 : val_main_v106 (F := Ideal) C T (ix3 b s l) = ∑ k ∈ Finset.range 15, tap C T b s l k :=
  sum_step (n := 14) (by norm_num) (sum13 C T b s l) (w := val_main_v0 (F := Ideal) C (ix3 b ⟨14 + s.val, by omega⟩ l))
    (by pointwise [val_main_v105, val_main_v104, val_main_v103, val_main_v102, val_main_v101, val_main_v100]) (pad_at C b _ l)

/-- and one more: tap 15. -/
theorem sum15 : val_main_v113 (F := Ideal) C T (ix3 b s l) = ∑ k ∈ Finset.range 16, tap C T b s l k :=
  sum_step (n := 15) (by norm_num) (sum14 C T b s l) (w := val_main_v0 (F := Ideal) C (ix3 b ⟨15 + s.val, by omega⟩ l))
    (by pointwise [val_main_v112, val_main_v111, val_main_v110, val_main_v109, val_main_v108, val_main_v107]) (pad_at C b _ l)

/-- and one more: tap 16. -/
theorem sum16 : val_main_v120 (F := Ideal) C T (ix3 b s l) = ∑ k ∈ Finset.range 17, tap C T b s l k :=
  sum_step (n := 16) (by norm_num) (sum15 C T b s l) (w := val_main_v0 (F := Ideal) C (ix3 b ⟨16 + s.val, by omega⟩ l))
    (by pointwise [val_main_v119, val_main_v118, val_main_v117, val_main_v116, val_main_v115, val_main_v114]) (pad_at C b _ l)

/-- and one more: tap 17. -/
theorem sum17 : val_main_v127 (F := Ideal) C T (ix3 b s l) = ∑ k ∈ Finset.range 18, tap C T b s l k :=
  sum_step (n := 17) (by norm_num) (sum16 C T b s l) (w := val_main_v0 (F := Ideal) C (ix3 b ⟨17 + s.val, by omega⟩ l))
    (by pointwise [val_main_v126, val_main_v125, val_main_v124, val_main_v123, val_main_v122, val_main_v121]) (pad_at C b _ l)

/-- and one more: tap 18. -/
theorem sum18 : val_main_v134 (F := Ideal) C T (ix3 b s l) = ∑ k ∈ Finset.range 19, tap C T b s l k :=
  sum_step (n := 18) (by norm_num) (sum17 C T b s l) (w := val_main_v0 (F := Ideal) C (ix3 b ⟨18 + s.val, by omega⟩ l))
    (by pointwise [val_main_v133, val_main_v132, val_main_v131, val_main_v130, val_main_v129, val_main_v128]) (pad_at C b _ l)

/-- and one more: tap 19. -/
theorem sum19 : val_main_v141 (F := Ideal) C T (ix3 b s l) = ∑ k ∈ Finset.range 20, tap C T b s l k :=
  sum_step (n := 19) (by norm_num) (sum18 C T b s l) (w := val_main_v0 (F := Ideal) C (ix3 b ⟨19 + s.val, by omega⟩ l))
    (by pointwise [val_main_v140, val_main_v139, val_main_v138, val_main_v137, val_main_v136, val_main_v135]) (pad_at C b _ l)

/-- and one more: tap 20. -/
theorem sum20 : val_main_v148 (F := Ideal) C T (ix3 b s l) = ∑ k ∈ Finset.range 21, tap C T b s l k :=
  sum_step (n := 20) (by norm_num) (sum19 C T b s l) (w := val_main_v0 (F := Ideal) C (ix3 b ⟨20 + s.val, by omega⟩ l))
    (by pointwise [val_main_v147, val_main_v146, val_main_v145, val_main_v144, val_main_v143, val_main_v142]) (pad_at C b _ l)

/-- and one more: tap 21. -/
theorem sum21 : val_main_v155 (F := Ideal) C T (ix3 b s l) = ∑ k ∈ Finset.range 22, tap C T b s l k :=
  sum_step (n := 21) (by norm_num) (sum20 C T b s l) (w := val_main_v0 (F := Ideal) C (ix3 b ⟨21 + s.val, by omega⟩ l))
    (by pointwise [val_main_v154, val_main_v153, val_main_v152, val_main_v151, val_main_v150, val_main_v149]) (pad_at C b _ l)

/-- and one more: tap 22. -/
theorem sum22 : val_main_v162 (F := Ideal) C T (ix3 b s l) = ∑ k ∈ Finset.range 23, tap C T b s l k :=
  sum_step (n := 22) (by norm_num) (sum21 C T b s l) (w := val_main_v0 (F := Ideal) C (ix3 b ⟨22 + s.val, by omega⟩ l))
    (by pointwise [val_main_v161, val_main_v160, val_main_v159, val_main_v158, val_main_v157, val_main_v156]) (pad_at C b _ l)

/-- and one more: tap 23. -/
theorem sum23 : val_main_v169 (F := Ideal) C T (ix3 b s l) = ∑ k ∈ Finset.range 24, tap C T b s l k :=
  sum_step (n := 23) (by norm_num) (sum22 C T b s l) (w := val_main_v0 (F := Ideal) C (ix3 b ⟨23 + s.val, by omega⟩ l))
    (by pointwise [val_main_v168, val_main_v167, val_main_v166, val_main_v165, val_main_v164, val_main_v163]) (pad_at C b _ l)

/-- and one more: tap 24. -/
theorem sum24 : val_main_v176 (F := Ideal) C T (ix3 b s l) = ∑ k ∈ Finset.range 25, tap C T b s l k :=
  sum_step (n := 24) (by norm_num) (sum23 C T b s l) (w := val_main_v0 (F := Ideal) C (ix3 b ⟨24 + s.val, by omega⟩ l))
    (by pointwise [val_main_v175, val_main_v174, val_main_v173, val_main_v172, val_main_v171, val_main_v170]) (pad_at C b _ l)

/-- and one more: tap 25. -/
theorem sum25 : val_main_v183 (F := Ideal) C T (ix3 b s l) = ∑ k ∈ Finset.range 26, tap C T b s l k :=
  sum_step (n := 25) (by norm_num) (sum24 C T b s l) (w := val_main_v0 (F := Ideal) C (ix3 b ⟨25 + s.val, by omega⟩ l))
    (by pointwise [val_main_v182, val_main_v181, val_main_v180, val_main_v179, val_main_v178, val_main_v177]) (pad_at C b _ l)

/-- and one more: tap 26. -/
theorem sum26 : val_main_v190 (F := Ideal) C T (ix3 b s l) = ∑ k ∈ Finset.range 27, tap C T b s l k :=
  sum_step (n := 26) (by norm_num) (sum25 C T b s l) (w := val_main_v0 (F := Ideal) C (ix3 b ⟨26 + s.val, by omega⟩ l))
    (by pointwise [val_main_v189, val_main_v188, val_main_v187, val_main_v186, val_main_v185, val_main_v184]) (pad_at C b _ l)

/-- and one more: tap 27. -/
theorem sum27 : val_main_v197 (F := Ideal) C T (ix3 b s l) = ∑ k ∈ Finset.range 28, tap C T b s l k :=
  sum_step (n := 27) (by norm_num) (sum26 C T b s l) (w := val_main_v0 (F := Ideal) C (ix3 b ⟨27 + s.val, by omega⟩ l))
    (by pointwise [val_main_v196, val_main_v195, val_main_v194, val_main_v193, val_main_v192, val_main_v191]) (pad_at C b _ l)

/-- and one more: tap 28. -/
theorem sum28 : val_main_v204 (F := Ideal) C T (ix3 b s l) = ∑ k ∈ Finset.range 29, tap C T b s l k :=
  sum_step (n := 28) (by norm_num) (sum27 C T b s l) (w := val_main_v0 (F := Ideal) C (ix3 b ⟨28 + s.val, by omega⟩ l))
    (by pointwise [val_main_v203, val_main_v202, val_main_v201, val_main_v200, val_main_v199, val_main_v198]) (pad_at C b _ l)

/-- and one more: tap 29. -/
theorem sum29 : val_main_v211 (F := Ideal) C T (ix3 b s l) = ∑ k ∈ Finset.range 30, tap C T b s l k :=
  sum_step (n := 29) (by norm_num) (sum28 C T b s l) (w := val_main_v0 (F := Ideal) C (ix3 b ⟨29 + s.val, by omega⟩ l))
    (by pointwise [val_main_v210, val_main_v209, val_main_v208, val_main_v207, val_main_v206, val_main_v205]) (pad_at C b _ l)

/-- and one more: tap 30. -/
theorem sum30 : val_main_v218 (F := Ideal) C T (ix3 b s l) = ∑ k ∈ Finset.range 31, tap C T b s l k :=
  sum_step (n := 30) (by norm_num) (sum29 C T b s l) (w := val_main_v0 (F := Ideal) C (ix3 b ⟨30 + s.val, by omega⟩ l))
    (by pointwise [val_main_v217, val_main_v216, val_main_v215, val_main_v214, val_main_v213, val_main_v212]) (pad_at C b _ l)

/-- The reference's convolution. -/
theorem conv_at :
    val_main_v222 (F := Ideal) C T B (ix3 b s l) = conv C T B b s l := by
  have h : val_main_v222 (F := Ideal) C T B (ix3 b s l) = val_main_v218 (F := Ideal) C T (ix3 b s l) + B (ix2 0 l) := by
    pointwise [val_main_v222, val_main_v221, val_main_v220, val_main_v219]
  rw [h, sum30, conv_of_taps]

end Tail
-- ==== Proof.Tail.RefValue.lean ====
/-
  What the tail reference computes, index by index: `tail` of its arguments.
-/
module

public import proofs.«01_k».proof.Proof.Tail.RefConv
public import proofs.«01_k».proof.Proof.Gen.TailReferenceIdeal.Run
public import proofs.«01_k».proof.Proof.Gen.TailReferenceIdeal.Read
public import Idealize.ShloMosaic.Lib.KernelVsHost
public import Idealize.ShloMosaic.Lib.Pipeline.Value

@[expose] public section

set_option maxRecDepth 16384

noncomputable section

namespace Tail

open Cert.TailReferenceIdeal Cert.TailReferenceIdeal.Gen Cert.TailReferenceIdeal.Read Idealize.ShloMosaic Idealize.ShloMosaic.TcCoe Idealize.SL.Sem
open Idealize.ShloMosaic.Pointwise

variable (x : Vec Ideal S4x8192x1024 .f32) (a : Vec Ideal S4x8192x512 .bf16) (C : Vec Ideal S4x8192x512 .f32) (T : Vec Ideal S31x512 .f32)
  (B g β : Vec Ideal S1x512 .f32) (W : Vec Ideal S1024x1024 .bf16) (gm : Vec Ideal S1x1024 .f32) (U : Vec Ideal S1024x4096 .bf16)
  (D : Vec Ideal S4096x1024 .bf16) (gf : Vec Ideal S1x1024 .f32) (b : Fin 4) (s : Fin 8192)

/-- The mean over the channels. -/
theorem mean_at : val_main_v226 (F := Ideal) C T B (ix3 b s 0) = mean (fun l => conv C T B b s l) := by
  have h : val_main_v226 (F := Ideal) C T B (ix3 b s 0)
      = Ideal.div (∑ l, val_main_v222 (F := Ideal) C T B (ix3 b s l)) (Ideal.ofBits FTy.f32 0x44000000#32) := by
    pointwise [val_main_v226, val_main_v225, val_main_cst_1, val_main_v224, val_main_v223, val_main_cst_0]
  rw [h]
  simp only [conv_at]
  rfl

/-- The centred channels. -/
theorem centred_at (l : Fin 512) : val_main_v228 (F := Ideal) C T B (ix3 b s l) = centred (fun l => conv C T B b s l) l := by
  have h : val_main_v228 (F := Ideal) C T B (ix3 b s l)
      = val_main_v222 (F := Ideal) C T B (ix3 b s l) - val_main_v226 (F := Ideal) C T B (ix3 b s 0) := by
    pointwise [val_main_v228, val_main_v227]
  rw [h, conv_at, mean_at]
  rfl

/-- The layer norm. -/
theorem layerNorm_at (l : Fin 512) :
    val_main_v246 (F := Ideal) C T B g β (ix3 b s l)
      = layerNorm (fun l => conv C T B b s l) (fun l => g (ix2 0 l)) (fun l => β (ix2 0 l)) l := by
  have h : val_main_v246 (F := Ideal) C T B g β (ix3 b s l)
      = val_main_v228 (F := Ideal) C T B (ix3 b s l) * Ideal.rsqrt (Ideal.div (∑ k, val_main_v228 (F := Ideal) C T B (ix3 b s k)
          * val_main_v228 (F := Ideal) C T B (ix3 b s k)) (Ideal.ofBits FTy.f32 0x44000000#32) + Ideal.ofBits FTy.f32 0x3727C5AC#32)
          * g (ix2 0 l) + β (ix2 0 l) := by
    pointwise [val_main_v246, val_main_v245, val_main_v244, val_main_v243, val_main_v242, val_main_v241, val_main_v240, val_main_v239,
      val_main_v238, val_main_v237, val_main_v236, val_main_v235, val_main_v234, val_main_cst_4, val_main_v233, val_main_v232, val_main_cst_3,
      val_main_v231, val_main_v230, val_main_cst_2, val_main_v229]
  rw [h]
  simp only [centred_at]
  rfl

/-- The activation. -/
theorem active_at (l : Fin 512) :
    val_main_v247 (F := Ideal) C T B g β (ix3 b s l)
      = active (fun l => conv C T B b s l) (fun l => g (ix2 0 l)) (fun l => β (ix2 0 l)) l := by
  have h : val_main_v247 (F := Ideal) C T B g β (ix3 b s l)
      = val_main_v246 (F := Ideal) C T B g β (ix3 b s l)
        * Ideal.div 1 (1 + Ideal.exp (-val_main_v246 (F := Ideal) C T B g β (ix3 b s l))) := by
    pointwise [val_main_v247, val_main_call1_v5, val_main_call1_v4, val_main_call1_cst_0, val_main_call1_v3, val_main_call1_v2, val_main_call1_cst,
      val_main_call1_v1, val_main_call1_v0]
  rw [h, layerNorm_at]
  rfl

/-- The two mixers side by side: the attention, -/
theorem mixers_left (k : Fin 512) :
    val_main_v249 (F := Ideal) a C T B g β (ix3 b s ⟨k.val, by omega⟩) = a (ix3 b s k) := by
  unfold val_main_v249
  refine (Idealize.ShloMosaic.concatenate_pair_apply_left (t := S4x8192x1024) (s₁ := S4x8192x512) (s₂ := S4x8192x512) _ _ _ _ _ rfl (ix3 b s k) fun d => ?_).trans rfl
  match d with
  | ⟨0, _⟩ => rfl
  | ⟨1, _⟩ => rfl
  | ⟨2, _⟩ => rfl

/-- then the active channels. -/
theorem mixers_right (k : Fin 512) :
    val_main_v249 (F := Ideal) a C T B g β (ix3 b s ⟨512 + k.val, by omega⟩)
      = active (fun l => conv C T B b s l) (fun l => g (ix2 0 l)) (fun l => β (ix2 0 l)) k := by
  unfold val_main_v249
  refine (Idealize.ShloMosaic.concatenate_pair_apply_right (t := S4x8192x1024) (s₁ := S4x8192x512) (s₂ := S4x8192x512) _ _ _ _ _ rfl rfl (ix3 b s k) (fun d hd => ?_) ?_).trans (active_at C T B g β b s k)
  · match d, hd with
    | ⟨0, _⟩, _ => rfl
    | ⟨1, _⟩, _ => rfl
    | ⟨2, _⟩, hd => exact absurd rfl hd
  · exact Nat.add_comm _ _

/-- The first residual. -/
theorem mixed_at (o : Fin 1024) :
    val_main_v252 (F := Ideal) x a C T B g β W (ix3 b s o)
      = mixed (fun o => x (ix3 b s o)) (fun k => a (ix3 b s k))
          (active (fun l => conv C T B b s l) (fun l => g (ix2 0 l)) (fun l => β (ix2 0 l))) (fun k o => W (ix2 k o)) o := by
  have h : val_main_v252 (F := Ideal) x a C T B g β W (ix3 b s o)
      = x (ix3 b s o) + ∑ k : Fin 1024, val_main_v249 (F := Ideal) a C T B g β (ix3 b s k) * W (ix2 k o) := by
    pointwise [val_main_v252, val_main_v251, val_main_v250]
  rw [h, sum_halves]
  simp only [mixers_left, mixers_right]
  rfl

/-- The first RMS norm. -/
theorem rms_at (o : Fin 1024) :
    val_main_v266 (F := Ideal) x a C T B g β W gm (ix3 b s o)
      = rms (fun o => val_main_v252 (F := Ideal) x a C T B g β W (ix3 b s o)) (fun o => gm (ix2 0 o)) o := by
  pointwise [val_main_v266, val_main_v265, val_main_v264, val_main_v263, val_main_v262, val_main_v261, val_main_v260, val_main_v259,
    val_main_v258, val_main_cst_7, val_main_v257, val_main_v256, val_main_cst_6, val_main_v255, val_main_v254, val_main_cst_5, val_main_v253]
  rfl

/-- The hidden units. -/
theorem hidden_at (j : Fin 4096) :
    val_main_v270 (F := Ideal) x a C T B g β W gm U (ix3 b s j)
      = hidden (fun o => val_main_v266 (F := Ideal) x a C T B g β W gm (ix3 b s o)) (fun k j => U (ix2 k j)) j := by
  pointwise [val_main_v270, val_main_v269, val_main_call2_v0, val_main_call2_cst, val_main_v268, val_main_v267]
  rfl

/-- The second residual. -/
theorem mapped_at (o : Fin 1024) :
    val_main_v273 (F := Ideal) x a C T B g β W gm U D (ix3 b s o)
      = mapped (fun o => val_main_v252 (F := Ideal) x a C T B g β W (ix3 b s o)) (fun o => gm (ix2 0 o)) (fun k j => U (ix2 k j))
          (fun j o => D (ix2 j o)) o := by
  have h : val_main_v273 (F := Ideal) x a C T B g β W gm U D (ix3 b s o)
      = val_main_v252 (F := Ideal) x a C T B g β W (ix3 b s o)
        + ∑ j : Fin 4096, val_main_v270 (F := Ideal) x a C T B g β W gm U (ix3 b s j) * D (ix2 j o) := by
    pointwise [val_main_v273, val_main_v272, val_main_v271]
  rw [h]
  simp only [hidden_at, rms_at]
  rfl

/-- The last RMS norm. -/
theorem result_at (o : Fin 1024) :
    val_main_v287 (F := Ideal) x a C T B g β W gm U D gf (ix3 b s o)
      = rms (fun o => val_main_v273 (F := Ideal) x a C T B g β W gm U D (ix3 b s o)) (fun o => gf (ix2 0 o)) o := by
  pointwise [val_main_v287, val_main_v286, val_main_v285, val_main_v284, val_main_v283, val_main_v282, val_main_v281, val_main_v280,
    val_main_v279, val_main_cst_10, val_main_v278, val_main_v277, val_main_cst_9, val_main_v276, val_main_v275, val_main_cst_8, val_main_v274]
  rfl

/-- THE REFERENCE'S RESULT is `tail` of its arguments. -/
theorem reference_eq : val_main_v287 (F := Ideal) x a C T B g β W gm U D gf = tail x a C T B g β W gm U D gf := by
  have hv (b : Fin 4) (s : Fin 8192) (o : Fin 1024) :
      val_main_v287 (F := Ideal) x a C T B g β W gm U D gf (ix3 b s o) = tailAt x a C T B g β W gm U D gf b s o := by
    rw [result_at]
    simp only [mapped_at, mixed_at]
    rfl
  funext i
  have hi : i = ix3 (i 0) (i 1) (i 2) := by
    funext a
    match a with
    | ⟨0, _⟩ => rfl
    | ⟨1, _⟩ => rfl
    | ⟨2, _⟩ => rfl
  exact (congrArg _ hi).trans (hv (i 0) (i 1) (i 2))

open Idealize.ShloMosaic.StableHlo in
/-- The reference runs, ends with `tail` of its arguments, and leaves the arguments unchanged. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v287) = tail (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans ((val_main_v287_eq (launchContents m c)).trans (reference_eq _ _ _ _ _ _ _ _ _ _ _ _)), (h c).2⟩)
    (Cert.TailReferenceIdeal.Value.run m ρ)

end Tail
-- ==== Proof.Sample.Trip.lean ====
/-
  The tail's four convolution loops at the sample batch's shapes: what one trip of each loads and stores, and so what
  each loop stores.
-/
module

public import proofs.«01_k».proof.Proof.Gen.SampleTailIdeal.Loops
public import proofs.«01_k».proof.Proof.Tail.Loop
public import Idealize.ShloMosaic.Lib.Tactic

@[expose] public section

set_option maxRecDepth 16384

noncomputable section

namespace SampleTail
open Cert.SampleTailIdeal Cert.SampleTailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Tail (chain spread stack taps1 taps2 taps3 taps4 rows_apply Stores stores_of_trips)
open Idealize.ShloMosaic.Pipeline (Dat Cfg Window BodyObligation cellOf)

variable {F : FTy → Type} [FloatOps F]

variable {c : Dev nD} {i : grid0.Coords} {arg2 : Memref sig .tc .vmem S1x512x1024 .f32} {harg2 : arg2.IsWhole} {arg3 : Memref sig .tc .vmem S1x512x512 .bf16} {harg3 : arg3.IsWhole} {arg4 : Memref sig .tc .vmem S1x2048x128 .f32} {harg4 : arg4.IsWhole} {arg5 : Memref sig .tc .vmem S1x64x128 .f32} {harg5 : arg5.IsWhole} {arg6 : Memref sig .tc .vmem S1x64x128 .f32} {harg6 : arg6.IsWhole} {arg7 : Memref sig .tc .vmem S31x512 .f32} {harg7 : arg7.IsWhole} {arg8 : Memref sig .tc .vmem S1x512 .f32} {harg8 : arg8.IsWhole} {arg9 : Memref sig .tc .vmem S1x512 .f32} {harg9 : arg9.IsWhole} {arg10 : Memref sig .tc .vmem S1x512 .f32} {harg10 : arg10.IsWhole} {arg11 : Memref sig .tc .vmem S1024x1024 .bf16} {harg11 : arg11.IsWhole} {arg12 : Memref sig .tc .vmem S1x1024 .f32} {harg12 : arg12.IsWhole} {arg13 : Memref sig .tc .vmem S1024x4096 .bf16} {harg13 : arg13.IsWhole} {arg14 : Memref sig .tc .vmem S4096x1024 .bf16} {harg14 : arg14.IsWhole} {arg15 : Memref sig .tc .vmem S1x1024 .f32} {harg15 : arg15.IsWhole} {arg16 : Memref sig .tc .vmem S1x512x1024 .f32} {harg16 : arg16.IsWhole} {arg17 : Memref sig .tc .vmem S2176x128 .f32} {harg17 : arg17.IsWhole} {arg18 : Memref sig .tc .vmem S512x512 .f32} {harg18 : arg18.IsWhole}

section Loop1
variable {v27 v30 v33 v36 v39 v42 v45 v48 v51 v54 v57 v60 v63 v66 v69 v72 v75 v78 v81 v84 v87 v90 v93 v96 v99 v102 : FVec F S8x128 .f32} {v103 v106 v109 v112 : Vec F S1x128 .f32} {v117 : FVec F S8x128 .f32} {v118 : Vec F S1x128 .f32} {X : BufTy.Contents (Elt F) arg17.view.ty}

/-- What trip `k` of loop 1 loads of the extended channels: eight rows, `w` rows below the first of the trip's. -/
def rows1 (arg17 : Memref sig .tc .vmem S2176x128 .f32) (X : BufTy.Contents (Elt F) arg17.view.ty) (k : Fin k0_t1_loop.trips) (w : Fin 151) : Vec F S8x128 .f32 :=
  View.readAt (Elt F) arg17.view (⟨k0_off1 k (BitVec.ofNat 32 w.val), S8x128.size, ![4, 1], k0_off1_inb k w⟩ : LoadRect S2176x128) X

/-- Where it loads, -/
theorem loads1 : ∀ (k : Fin k0_t1_loop.trips) (u : Fin 151),
    k0_off1 k (BitVec.ofNat 32 u.val) 0 = 512 * k.val + 4 * u.val + 4 ∧ k0_off1 k (BitVec.ofNat 32 u.val) 1 = 0 := by
  decide +kernel

/-- where it stores, -/
theorem off1 : ∀ k : Fin k0_t1_loop.trips, k0_off2 k 0 = 128 * k.val ∧ k0_off2 k 1 = 128 * 0 := by decide +kernel

/-- and how often. -/
theorem trips1 : Scf.trips k0_t1_loop.lb k0_t1_loop.ub k0_t1_loop.st = 4 := by decide +kernel

set_option maxHeartbeats 4000000 in
/-- It stores one piece, at its own rows and lanes: sixteen chains of thirty-one multiply-adds. -/
theorem trip1 (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v27 v30 v33 v36 v39 v42 v45 v48 v51 v54 v57 v60 v63 v66 v69 v72 v75 v78 v81 v84 v87 v90 v93 v96 v99 v102 v103 v106 v109 v112 v117 v118 X k
      = [⟨Rect.unit (s := S512x512) (k0_off2 k) S128x128.size (k0_off2_inb k),
          stack fun blk => chain (spread v118) (taps1 v27 v30 v33 v36 v39 v42 v45 v48 v51 v54 v57 v60 v63 v66 v69 v72 v75 v78 v81 v84 v87 v90 v93 v96 v99 v102 v103 v106 v109 v112 v117 v118) (fun n => rows1 arg17 X k (Fin.ofNat 151 (8 * blk.val + n))) 31⟩] := by
  unfold tripL_k0_t1 trip_k0_t1
  rfl

/-- So loop 1 stores four. -/
theorem stores1 : Stores 0 (fun k => stack fun blk => chain (spread v118) (taps1 v27 v30 v33 v36 v39 v42 v45 v48 v51 v54 v57 v60 v63 v66 v69 v72 v75 v78 v81 v84 v87 v90 v93 v96 v99 v102 v103 v106 v109 v112 v117 v118) (fun n => rows1 arg17 X k (Fin.ofNat 151 (8 * blk.val + n))) 31) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v27 v30 v33 v36 v39 v42 v45 v48 v51 v54 v57 v60 v63 v66 v69 v72 v75 v78 v81 v84 v87 v90 v93 v96 v99 v102 v103 v106 v109 v112 v117 v118 X (Scf.trips k0_t1_loop.lb k0_t1_loop.ub k0_t1_loop.st)) :=
  stores_of_trips trips1 0 _ (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v27 v30 v33 v36 v39 v42 v45 v48 v51 v54 v57 v60 v63 v66 v69 v72 v75 v78 v81 v84 v87 v90 v93 v96 v99 v102 v103 v106 v109 v112 v117 v118 X) (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v27 v30 v33 v36 v39 v42 v45 v48 v51 v54 v57 v60 v63 v66 v69 v72 v75 v78 v81 v84 v87 v90 v93 v96 v99 v102 v103 v106 v109 v112 v117 v118 X) (pb_k0_t1.eq_1 ..) (fun k => pb_k0_t1_succ ..) _ k0_off2_inb off1 trip1

/-- What it loads are rows of the extended channels. -/
theorem rows1_apply {arg17 : Memref sig .tc .vmem S2176x128 .f32} {X : BufTy.Contents (Elt Ideal) arg17.view.ty} {E : Fin 2176 → Fin 128 → EReal}
    (hX : ∀ R l, arg17.view.read (Elt Ideal) X (ix2 R l) = E R l) (k : Fin k0_t1_loop.trips) (hk : k.val < 4) (u : Fin 151) (s : Fin 8) (l : Fin 128) :
    rows1 arg17 X k u (ix2 s l) = E ⟨4 * (128 * k.val + u.val + s.val + 1) + 0, by omega⟩ l :=
  rows_apply arg17 X hX _ _ s l _ (by rw [(loads1 k u).1]; dsimp only; omega) (loads1 k u).2

end Loop1

section Loop2
variable {v124 v127 v130 v133 v136 v139 v142 v145 v148 v151 v154 v157 v160 v163 v166 v169 v172 v175 v178 v181 v184 v187 v190 v193 v196 v199 v202 v205 v208 : FVec F S8x128 .f32} {v209 : Vec F S1x128 .f32} {v214 : FVec F S8x128 .f32} {v215 : Vec F S1x128 .f32} {X : BufTy.Contents (Elt F) arg17.view.ty}

/-- What trip `k` of loop 2 loads of the extended channels: eight rows, `w` rows below the first of the trip's. -/
def rows2 (arg17 : Memref sig .tc .vmem S2176x128 .f32) (X : BufTy.Contents (Elt F) arg17.view.ty) (k : Fin k0_t2_loop.trips) (w : Fin 151) : Vec F S8x128 .f32 :=
  View.readAt (Elt F) arg17.view (⟨k0_off3 k (BitVec.ofNat 32 w.val), S8x128.size, ![4, 1], k0_off3_inb k w⟩ : LoadRect S2176x128) X

/-- Where it loads, -/
theorem loads2 : ∀ (k : Fin k0_t2_loop.trips) (u : Fin 151),
    k0_off3 k (BitVec.ofNat 32 u.val) 0 = 512 * k.val + 4 * u.val + 5 ∧ k0_off3 k (BitVec.ofNat 32 u.val) 1 = 0 := by
  decide +kernel

/-- where it stores, -/
theorem off2 : ∀ k : Fin k0_t2_loop.trips, k0_off4 k 0 = 128 * k.val ∧ k0_off4 k 1 = 128 * 1 := by decide +kernel

/-- and how often. -/
theorem trips2 : Scf.trips k0_t2_loop.lb k0_t2_loop.ub k0_t2_loop.st = 4 := by decide +kernel

set_option maxHeartbeats 4000000 in
/-- It stores one piece, at its own rows and lanes: sixteen chains of thirty-one multiply-adds. -/
theorem trip2 (k : Fin k0_t2_loop.trips) :
    tripL_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v124 v127 v130 v133 v136 v139 v142 v145 v148 v151 v154 v157 v160 v163 v166 v169 v172 v175 v178 v181 v184 v187 v190 v193 v196 v199 v202 v205 v208 v209 v214 v215 X k
      = [⟨Rect.unit (s := S512x512) (k0_off4 k) S128x128.size (k0_off4_inb k),
          stack fun blk => chain (spread v215) (taps2 v124 v127 v130 v133 v136 v139 v142 v145 v148 v151 v154 v157 v160 v163 v166 v169 v172 v175 v178 v181 v184 v187 v190 v193 v196 v199 v202 v205 v208 v209 v214 v215) (fun n => rows2 arg17 X k (Fin.ofNat 151 (8 * blk.val + n))) 31⟩] := by
  unfold tripL_k0_t2 trip_k0_t2
  rfl

/-- So loop 2 stores four. -/
theorem stores2 : Stores 1 (fun k => stack fun blk => chain (spread v215) (taps2 v124 v127 v130 v133 v136 v139 v142 v145 v148 v151 v154 v157 v160 v163 v166 v169 v172 v175 v178 v181 v184 v187 v190 v193 v196 v199 v202 v205 v208 v209 v214 v215) (fun n => rows2 arg17 X k (Fin.ofNat 151 (8 * blk.val + n))) 31) (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v124 v127 v130 v133 v136 v139 v142 v145 v148 v151 v154 v157 v160 v163 v166 v169 v172 v175 v178 v181 v184 v187 v190 v193 v196 v199 v202 v205 v208 v209 v214 v215 X (Scf.trips k0_t2_loop.lb k0_t2_loop.ub k0_t2_loop.st)) :=
  stores_of_trips trips2 1 _ (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v124 v127 v130 v133 v136 v139 v142 v145 v148 v151 v154 v157 v160 v163 v166 v169 v172 v175 v178 v181 v184 v187 v190 v193 v196 v199 v202 v205 v208 v209 v214 v215 X) (tripL_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v124 v127 v130 v133 v136 v139 v142 v145 v148 v151 v154 v157 v160 v163 v166 v169 v172 v175 v178 v181 v184 v187 v190 v193 v196 v199 v202 v205 v208 v209 v214 v215 X) (pb_k0_t2.eq_1 ..) (fun k => pb_k0_t2_succ ..) _ k0_off4_inb off2 trip2

/-- What it loads are rows of the extended channels. -/
theorem rows2_apply {arg17 : Memref sig .tc .vmem S2176x128 .f32} {X : BufTy.Contents (Elt Ideal) arg17.view.ty} {E : Fin 2176 → Fin 128 → EReal}
    (hX : ∀ R l, arg17.view.read (Elt Ideal) X (ix2 R l) = E R l) (k : Fin k0_t2_loop.trips) (hk : k.val < 4) (u : Fin 151) (s : Fin 8) (l : Fin 128) :
    rows2 arg17 X k u (ix2 s l) = E ⟨4 * (128 * k.val + u.val + s.val + 1) + 1, by omega⟩ l :=
  rows_apply arg17 X hX _ _ s l _ (by rw [(loads2 k u).1]; dsimp only; omega) (loads2 k u).2

end Loop2

section Loop3
variable {v221 v224 v227 v230 v233 v236 v239 v242 v245 v248 v251 v254 v257 v260 v263 v266 v269 v272 v275 v278 v281 v284 v287 v290 v293 v296 v299 v302 v305 v308 v311 v314 : FVec F S8x128 .f32} {c0_i32_178 : BitVec 32} {X : BufTy.Contents (Elt F) arg17.view.ty}

/-- What trip `k` of loop 3 loads of the extended channels: eight rows, `w` rows below the first of the trip's. -/
def rows3 (arg17 : Memref sig .tc .vmem S2176x128 .f32) (X : BufTy.Contents (Elt F) arg17.view.ty) (k : Fin k0_t3_loop.trips) (w : Fin 151) : Vec F S8x128 .f32 :=
  View.readAt (Elt F) arg17.view (⟨k0_off5 k (BitVec.ofNat 32 w.val), S8x128.size, ![4, 1], k0_off5_inb k w⟩ : LoadRect S2176x128) X

/-- Where it loads, -/
theorem loads3 : ∀ (k : Fin k0_t3_loop.trips) (u : Fin 151),
    k0_off5 k (BitVec.ofNat 32 u.val) 0 = 512 * k.val + 4 * u.val + 6 ∧ k0_off5 k (BitVec.ofNat 32 u.val) 1 = 0 := by
  decide +kernel

/-- where it stores, -/
theorem off3 : ∀ k : Fin k0_t3_loop.trips, k0_off6 k 0 = 128 * k.val ∧ k0_off6 k 1 = 128 * 2 := by decide +kernel

/-- and how often. -/
theorem trips3 : Scf.trips k0_t3_loop.lb k0_t3_loop.ub k0_t3_loop.st = 4 := by decide +kernel

set_option maxHeartbeats 4000000 in
/-- It stores one piece, at its own rows and lanes: sixteen chains of thirty-one multiply-adds. -/
theorem trip3 (k : Fin k0_t3_loop.trips) :
    tripL_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v221 v224 v227 v230 v233 v236 v239 v242 v245 v248 v251 v254 v257 v260 v263 v266 v269 v272 v275 v278 v281 v284 v287 v290 v293 v296 v299 v302 v305 v308 v311 v314 c0_i32_178 X k
      = [⟨Rect.unit (s := S512x512) (k0_off6 k) S128x128.size (k0_off6_inb k),
          stack fun blk => chain (v314) (taps3 v221 v224 v227 v230 v233 v236 v239 v242 v245 v248 v251 v254 v257 v260 v263 v266 v269 v272 v275 v278 v281 v284 v287 v290 v293 v296 v299 v302 v305 v308 v311 v314 c0_i32_178) (fun n => rows3 arg17 X k (Fin.ofNat 151 (8 * blk.val + n))) 31⟩] := by
  unfold tripL_k0_t3 trip_k0_t3
  rfl

/-- So loop 3 stores four. -/
theorem stores3 : Stores 2 (fun k => stack fun blk => chain (v314) (taps3 v221 v224 v227 v230 v233 v236 v239 v242 v245 v248 v251 v254 v257 v260 v263 v266 v269 v272 v275 v278 v281 v284 v287 v290 v293 v296 v299 v302 v305 v308 v311 v314 c0_i32_178) (fun n => rows3 arg17 X k (Fin.ofNat 151 (8 * blk.val + n))) 31) (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v221 v224 v227 v230 v233 v236 v239 v242 v245 v248 v251 v254 v257 v260 v263 v266 v269 v272 v275 v278 v281 v284 v287 v290 v293 v296 v299 v302 v305 v308 v311 v314 c0_i32_178 X (Scf.trips k0_t3_loop.lb k0_t3_loop.ub k0_t3_loop.st)) :=
  stores_of_trips trips3 2 _ (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v221 v224 v227 v230 v233 v236 v239 v242 v245 v248 v251 v254 v257 v260 v263 v266 v269 v272 v275 v278 v281 v284 v287 v290 v293 v296 v299 v302 v305 v308 v311 v314 c0_i32_178 X) (tripL_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v221 v224 v227 v230 v233 v236 v239 v242 v245 v248 v251 v254 v257 v260 v263 v266 v269 v272 v275 v278 v281 v284 v287 v290 v293 v296 v299 v302 v305 v308 v311 v314 c0_i32_178 X) (pb_k0_t3.eq_1 ..) (fun k => pb_k0_t3_succ ..) _ k0_off6_inb off3 trip3

/-- What it loads are rows of the extended channels. -/
theorem rows3_apply {arg17 : Memref sig .tc .vmem S2176x128 .f32} {X : BufTy.Contents (Elt Ideal) arg17.view.ty} {E : Fin 2176 → Fin 128 → EReal}
    (hX : ∀ R l, arg17.view.read (Elt Ideal) X (ix2 R l) = E R l) (k : Fin k0_t3_loop.trips) (hk : k.val < 4) (u : Fin 151) (s : Fin 8) (l : Fin 128) :
    rows3 arg17 X k u (ix2 s l) = E ⟨4 * (128 * k.val + u.val + s.val + 1) + 2, by omega⟩ l :=
  rows_apply arg17 X hX _ _ s l _ (by rw [(loads3 k u).1]; dsimp only; omega) (loads3 k u).2

end Loop3

section Loop4
variable {v318 v321 v324 v327 v330 v333 v336 v339 v342 v345 v348 v351 v354 v357 v360 v363 v366 v369 v372 v375 v378 v381 v384 : FVec F S8x128 .f32} {v385 v388 v391 v394 v397 v400 v403 : Vec F S1x128 .f32} {v408 : FVec F S8x128 .f32} {v409 : Vec F S1x128 .f32} {X : BufTy.Contents (Elt F) arg17.view.ty}

/-- What trip `k` of loop 4 loads of the extended channels: eight rows, `w` rows below the first of the trip's. -/
def rows4 (arg17 : Memref sig .tc .vmem S2176x128 .f32) (X : BufTy.Contents (Elt F) arg17.view.ty) (k : Fin k0_t4_loop.trips) (w : Fin 151) : Vec F S8x128 .f32 :=
  View.readAt (Elt F) arg17.view (⟨k0_off7 k (BitVec.ofNat 32 w.val), S8x128.size, ![4, 1], k0_off7_inb k w⟩ : LoadRect S2176x128) X

/-- Where it loads, -/
theorem loads4 : ∀ (k : Fin k0_t4_loop.trips) (u : Fin 151),
    k0_off7 k (BitVec.ofNat 32 u.val) 0 = 512 * k.val + 4 * u.val + 7 ∧ k0_off7 k (BitVec.ofNat 32 u.val) 1 = 0 := by
  decide +kernel

/-- where it stores, -/
theorem off4 : ∀ k : Fin k0_t4_loop.trips, k0_off8 k 0 = 128 * k.val ∧ k0_off8 k 1 = 128 * 3 := by decide +kernel

/-- and how often. -/
theorem trips4 : Scf.trips k0_t4_loop.lb k0_t4_loop.ub k0_t4_loop.st = 4 := by decide +kernel

set_option maxHeartbeats 4000000 in
/-- It stores one piece, at its own rows and lanes: sixteen chains of thirty-one multiply-adds. -/
theorem trip4 (k : Fin k0_t4_loop.trips) :
    tripL_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v318 v321 v324 v327 v330 v333 v336 v339 v342 v345 v348 v351 v354 v357 v360 v363 v366 v369 v372 v375 v378 v381 v384 v385 v388 v391 v394 v397 v400 v403 v408 v409 X k
      = [⟨Rect.unit (s := S512x512) (k0_off8 k) S128x128.size (k0_off8_inb k),
          stack fun blk => chain (spread v409) (taps4 v318 v321 v324 v327 v330 v333 v336 v339 v342 v345 v348 v351 v354 v357 v360 v363 v366 v369 v372 v375 v378 v381 v384 v385 v388 v391 v394 v397 v400 v403 v408 v409) (fun n => rows4 arg17 X k (Fin.ofNat 151 (8 * blk.val + n))) 31⟩] := by
  unfold tripL_k0_t4 trip_k0_t4
  rfl

/-- So loop 4 stores four. -/
theorem stores4 : Stores 3 (fun k => stack fun blk => chain (spread v409) (taps4 v318 v321 v324 v327 v330 v333 v336 v339 v342 v345 v348 v351 v354 v357 v360 v363 v366 v369 v372 v375 v378 v381 v384 v385 v388 v391 v394 v397 v400 v403 v408 v409) (fun n => rows4 arg17 X k (Fin.ofNat 151 (8 * blk.val + n))) 31) (pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v318 v321 v324 v327 v330 v333 v336 v339 v342 v345 v348 v351 v354 v357 v360 v363 v366 v369 v372 v375 v378 v381 v384 v385 v388 v391 v394 v397 v400 v403 v408 v409 X (Scf.trips k0_t4_loop.lb k0_t4_loop.ub k0_t4_loop.st)) :=
  stores_of_trips trips4 3 _ (pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v318 v321 v324 v327 v330 v333 v336 v339 v342 v345 v348 v351 v354 v357 v360 v363 v366 v369 v372 v375 v378 v381 v384 v385 v388 v391 v394 v397 v400 v403 v408 v409 X) (tripL_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v318 v321 v324 v327 v330 v333 v336 v339 v342 v345 v348 v351 v354 v357 v360 v363 v366 v369 v372 v375 v378 v381 v384 v385 v388 v391 v394 v397 v400 v403 v408 v409 X) (pb_k0_t4.eq_1 ..) (fun k => pb_k0_t4_succ ..) _ k0_off8_inb off4 trip4

/-- What it loads are rows of the extended channels. -/
theorem rows4_apply {arg17 : Memref sig .tc .vmem S2176x128 .f32} {X : BufTy.Contents (Elt Ideal) arg17.view.ty} {E : Fin 2176 → Fin 128 → EReal}
    (hX : ∀ R l, arg17.view.read (Elt Ideal) X (ix2 R l) = E R l) (k : Fin k0_t4_loop.trips) (hk : k.val < 4) (u : Fin 151) (s : Fin 8) (l : Fin 128) :
    rows4 arg17 X k u (ix2 s l) = E ⟨4 * (128 * k.val + u.val + s.val + 1) + 3, by omega⟩ l :=
  rows_apply arg17 X hX _ _ s l _ (by rw [(loads4 k u).1]; dsimp only; omega) (loads4 k u).2

end Loop4

end SampleTail

end
-- ==== Proof.Sample.Run.lean ====
/- The tail's body at the sample batch's shapes, run once from any contents of its two scratch buffers: what it leaves in the output block. -/
module

public import proofs.«01_k».proof.Proof.Gen.SampleTailIdeal.Frame
public import proofs.«01_k».proof.Proof.Gen.SampleTailIdeal.Loops
public import Idealize.ShloMosaic.Lib.Pipeline.FrameBody
public import Idealize.ShloMosaic.Lib.Tactic

@[expose] public section

set_option maxRecDepth 16384

noncomputable section

namespace SampleTail
open Cert.SampleTailIdeal Cert.SampleTailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- The body of the tail at one grid point. From input blocks `x0 … x13`, an output block at anything and the two
    scratch buffers at `d17` and `d18`, it runs to its end with the inputs as they were, the output block holding the
    pieces this definition names, and the scratch buffers at something. -/
noncomputable def bodyRun (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x2048x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S31x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x4096 .bf16) (harg13 : arg13.IsWhole) (arg14 : Memref sig .tc .vmem S4096x1024 .bf16) (harg14 : arg14.IsWhole) (arg15 : Memref sig .tc .vmem S1x1024 .f32) (harg15 : arg15.IsWhole) (arg16 : Memref sig .tc .vmem S1x512x1024 .f32) (harg16 : arg16.IsWhole) (arg17 : Memref sig .tc .vmem S2176x128 .f32) (harg17 : arg17.IsWhole) (arg18 : Memref sig .tc .vmem S512x512 .f32) (harg18 : arg18.IsWhole)
    (x0 : Vec F S1x512x1024 .f32) (x1 : Vec F S1x512x512 .bf16) (x2 : Vec F S1x2048x128 .f32) (x3 : Vec F S1x64x128 .f32) (x4 : Vec F S1x64x128 .f32) (x5 : Vec F S31x512 .f32) (x6 : Vec F S1x512 .f32) (x7 : Vec F S1x512 .f32) (x8 : Vec F S1x512 .f32) (x9 : Vec F S1024x1024 .bf16) (x10 : Vec F S1x1024 .f32) (x11 : Vec F S1024x4096 .bf16) (x12 : Vec F S4096x1024 .bf16) (x13 : Vec F S1x1024 .f32) (d17 : Vec F S2176x128 .f32) (d18 : Vec F S512x512 .f32) :
    { L : List (View.Piece (Elt F) S1x512x1024 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg17 fullShare d17 ∗ owns (c : Thread nD τ) arg18 fullShare d18
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L)
                ∗ (∃ d, owns (c : Thread nD τ) arg17 fullShare d) ∗ (∃ d, owns (c : Thread nD τ) arg18 fullShare d)) -∗ K ⟨⟩))
          ⊢ wp frame (wpE (defs₀ (F := F)) Variants.none c none) E (cc0_tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_tail_eq_skeleton]; unfold cc0_tail_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    obtain rfl := harg17.eq_unread hf15
    obtain rfl := harg18.eq_unread hf16
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; iexact H14
    isplitl [H15]
    · iexists _; iexists _; isplitr; swap; (· iexact H15); ipureintro; rfl
    iexists _; iexists _; isplitr; swap; (· iexact H16); ipureintro; rfl

end SampleTail

end
-- ==== Proof.Sample.Cover.lean ====
/- At the sample batch's shapes too, the pieces of the tail's four convolution loops cover the convolution's scratch
   buffer, so what the body loads back from it does not depend on what the buffer held before. -/
module

public import proofs.«01_k».proof.Proof.Sample.Trip
public import proofs.«01_k».proof.Proof.Sample.Run
public import Idealize.ShloMosaic.Lib.HeldBySlice

@[expose] public section

set_option maxRecDepth 16384

noncomputable section

namespace SampleTail
open Cert.SampleTailIdeal Cert.SampleTailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Tail (cover_of_stores)
open Idealize.ShloMosaic.Pipeline (Dat Cfg Window BodyObligation cellOf)

variable {F : FTy → Type} [FloatOps F]

variable (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x2048x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S31x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x4096 .bf16) (harg13 : arg13.IsWhole) (arg14 : Memref sig .tc .vmem S4096x1024 .bf16) (harg14 : arg14.IsWhole) (arg15 : Memref sig .tc .vmem S1x1024 .f32) (harg15 : arg15.IsWhole) (arg16 : Memref sig .tc .vmem S1x512x1024 .f32) (harg16 : arg16.IsWhole) (arg17 : Memref sig .tc .vmem S2176x128 .f32) (harg17 : arg17.IsWhole) (arg18 : Memref sig .tc .vmem S512x512 .f32) (harg18 : arg18.IsWhole)

/-- What the body loads of the convolution's scratch buffer is the same whatever the buffer held before. -/
theorem loaded_eq (x2 : Vec F S1x2048x128 .f32) (x3 x4 : Vec F S1x64x128 .f32) (x5 : Vec F S31x512 .f32) (x6 : Vec F S1x512 .f32) (d d' : Vec F S512x512 .f32) :
    bodyRun.sl.v413 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x3 x4 x5 x6 d = bodyRun.sl.v413 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x3 x4 x5 x6 d' := by
  unfold bodyRun.sl.v413
  exact View.readAt_writes_eq_of_cover _ _ _ _ _ fun j => cover_of_stores stores1 stores2 stores3 stores4 _

/-- So the output's pieces are the same whatever the two scratch buffers held before. -/
theorem pieces_eq (x0 : Vec F S1x512x1024 .f32) (x1 : Vec F S1x512x512 .bf16) (x2 : Vec F S1x2048x128 .f32) (x3 : Vec F S1x64x128 .f32) (x4 : Vec F S1x64x128 .f32) (x5 : Vec F S31x512 .f32) (x6 : Vec F S1x512 .f32) (x7 : Vec F S1x512 .f32) (x8 : Vec F S1x512 .f32) (x9 : Vec F S1024x1024 .bf16) (x10 : Vec F S1x1024 .f32) (x11 : Vec F S1024x4096 .bf16) (x12 : Vec F S4096x1024 .bf16) (x13 : Vec F S1x1024 .f32) (d17 d17' : Vec F S2176x128 .f32) (d18 d18' : Vec F S512x512 .f32) :
    (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 d17 d18).1 = (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 d17' d18').1 := by
  unfold bodyRun
  dsimp only
  unfold bodyRun.sl.r_35 bodyRun.sl.r_34 bodyRun.sl.r_33 bodyRun.sl.r_32 bodyRun.sl.r_31 bodyRun.sl.r_30 bodyRun.sl.r_29
  rw [loaded_eq (d := d18) (d' := d18')]

end SampleTail

end
-- ==== Proof.Sample.Frame.lean ====
/- The whole run of the tail at the sample batch's shapes: every grid point leaves its block of the output, and the
   arguments stay as they were. -/
module

public import proofs.«01_k».proof.Proof.Sample.Cover
public import proofs.«01_k».proof.Proof.Gen.SampleTailIdeal.Frame
public import Idealize.ShloMosaic.Lib.Claim

@[expose] public section

set_option maxRecDepth 16384

noncomputable section

namespace SampleTail
open Cert.SampleTailIdeal Cert.SampleTailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What the body leaves in the output block: its one piece covers the block. -/
theorem covers (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x2048x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S31x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x4096 .bf16) (harg13 : arg13.IsWhole) (arg14 : Memref sig .tc .vmem S4096x1024 .bf16) (harg14 : arg14.IsWhole) (arg15 : Memref sig .tc .vmem S1x1024 .f32) (harg15 : arg15.IsWhole) (arg16 : Memref sig .tc .vmem S1x512x1024 .f32) (harg16 : arg16.IsWhole) (arg17 : Memref sig .tc .vmem S2176x128 .f32) (harg17 : arg17.IsWhole) (arg18 : Memref sig .tc .vmem S512x512 .f32) (harg18 : arg18.IsWhole) (x0 : Vec F S1x512x1024 .f32) (x1 : Vec F S1x512x512 .bf16) (x2 : Vec F S1x2048x128 .f32) (x3 : Vec F S1x64x128 .f32) (x4 : Vec F S1x64x128 .f32) (x5 : Vec F S31x512 .f32) (x6 : Vec F S1x512 .f32) (x7 : Vec F S1x512 .f32) (x8 : Vec F S1x512 .f32) (x9 : Vec F S1024x1024 .bf16) (x10 : Vec F S1x1024 .f32) (x11 : Vec F S1024x4096 .bf16) (x12 : Vec F S4096x1024 .bf16) (x13 : Vec F S1x1024 .f32) (d17 : Vec F S2176x128 .f32) (d18 : Vec F S512x512 .f32) (y : S1x512x1024.Idx) :
    ∃ p ∈ (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 d17 d18).1, y ∈ p.1.set := by
  unfold bodyRun
  dsimp only
  refine ⟨_, List.mem_singleton_self _, (LoadRect.mem_set _).mpr fun a => ?_⟩
  match a with
  | ⟨0, h⟩ => exact ⟨(y ⟨0, h⟩).val, (y ⟨0, h⟩).isLt, by show (y ⟨0, h⟩).val = 0 + 1 * (y ⟨0, h⟩).val; omega⟩
  | ⟨1, h⟩ => exact ⟨(y ⟨1, h⟩).val, (y ⟨1, h⟩).isLt, by show (y ⟨1, h⟩).val = 0 + 1 * (y ⟨1, h⟩).val; omega⟩
  | ⟨2, h⟩ => exact ⟨(y ⟨2, h⟩).val, (y ⟨2, h⟩).isLt, by show (y ⟨2, h⟩).val = 0 + 1 * (y ⟨2, h⟩).val; omega⟩

/-- Some contents of the two scratch buffers: which does not matter. -/
def any17 : Vec F S2176x128 .f32 := (Memref.whole cc0_scratch0).view.read (Elt F) (Memref.whole cc0_scratch0).view.junk
def any18 : Vec F S512x512 .f32 := (Memref.whole cc0_scratch1).view.read (Elt F) (Memref.whole cc0_scratch1).view.junk

/-- The output block that grid point `t` leaves. -/
def outBlock (c : Dev nD) (t : Fin cfg0.N) : Vec F S1x512x1024 .f32 :=
  View.canon (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) any17 any18).1

/-- The proof data of the pipeline: each input block stays, the output block is the body's, and the scratch buffers
    hold something between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outBlock m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = outBlock m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d

/-- What the body is called with at point `t`. -/
def pre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d)))

/-- What it returns. -/
def post (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t))

set_option maxHeartbeats 1000000 in
/-- The body at any point runs from `pre` to `post`. -/
theorem sound (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5, before6, before7, before8, before9, before10, before11, before12, before13]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0, after1, after2, after3, after4, after5, after6, after7, after8, after9, after10, after11, after12, after13, after14]
  unfold Pipeline.ΦA
  rw [scopedRest0_eq]
  simp only [← owns_whole (c : Thread nD τ) cc0_scratch0 fullShare, ← owns_whole (c : Thread nD τ) cc0_scratch1 fullShare]
  iintro ⟨⟨⟨⟨%d15, H15⟩, ⟨%d16, H16⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((bodyRun c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) d15 d16).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [H16]; · iexact H16
  iintro ⟨H0, H1, H2, H3, H4, H5, H6, H7, H8, H9, H10, H11, H12, H13, ⟨%e14, H14⟩, ⟨%e15, H15⟩, ⟨%e16, H16⟩⟩
  isplitl [H15 H16 Hr]
  · isplitl [H15 H16]
    · isplitl [H15]
      · iexists _; iexact H15
      iexists _; iexact H16
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  unfold owns; iexists _; isplitr
  swap; · iexact H14
  ipureintro
  unfold outBlock
  rw [pieces_eq (d17' := any17) (d18' := any18)]
  exact View.read_writes_eq_canon _ _ _ (covers c _ _ _ _ _ _ _ _ _ _ _ _ _ _ _ _ _ _ _ _ _ _ _ _ _ _ _ _ _ _ _ _ _ _ _ _ _ _ _ _ _ _ _ _ _ _ _ _ _ _ _)

theorem defs₀_at (t : Fin cfg0.N) :
    defs₀ (F := F) .tc cfg0.body (cfg0.bodyArgs t (cfg0.slots t)) = bodyAt0 t := by
  unfold defs₀; rw [Defs.onTc_tc]

/-- The obligation of the pipeline's rule: the body at every point. -/
theorem obligation (c : Dev nD) : BodyObligation (dats (F := F) m 0 c) (defs₀ (F := F)) Variants.none () Set.univ := fun t => by
  rw [bigSep_W0, bigSep_W0, defs₀_at]
  exact triple_restated (sound m c t) rfl .rfl fun _ => .rfl

set_option backward.isDefEq.respectTransparency.types false in
/-- Every execution ends, with the arrays as the proof data say and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- Every execution ends with the arrays as the proof data say. -/
theorem run : θ_run defs (onTc (τ := τ) (main (F := F))) (s₀ m ρ) (Pipeline.FramePost cfgs (dats m) 0 (V m)) :=
  (θ_run defs _ _).mono (fun _ h => h.1) (run_quiescent m ρ)

/-- Every execution ends with the arguments unchanged and every semaphore at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11))
      ∧ r.2.sem = fun _ => 0) :=
  θ_run_and (frame_of m ρ (dats m) (A_eq m) (run m ρ)) ((θ_run defs _ _).mono (fun _ h => h.2) (run_quiescent m ρ))

end SampleTail

end
-- ==== Proof.Sample.Same.lean ====
/-
  The tail program at the sample batch's shapes and its idealization are the same program, so what every
  execution of the one does, every execution of the other does: the frame of the tail program.
-/
module

public import proofs.«01_k».proof.SampleTail
public import proofs.«01_k».proof.Proof.Gen.SampleTail
public import proofs.«01_k».proof.Proof.Sample.Frame

@[expose] public section

noncomputable section

namespace SampleTail

open Idealize.ShloMosaic Idealize.ShloMosaic.TcCoe Idealize.SL.Sem

variable {F : FTy → Type} [FloatOps F]

/-- The two programs' kernel bodies agree, -/
theorem defs₀_eq : Cert.SampleTail.defs₀ (F := F) = Cert.SampleTailIdeal.defs₀ (F := F) := by
  unfold Cert.SampleTail.defs₀ Cert.SampleTailIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

/-- and so do their definitions, pipeline included. -/
theorem defs_eq : Cert.SampleTail.defs (F := F) = Cert.SampleTailIdeal.defs (F := F) :=
  congrArg (Pipeline.defs _) defs₀_eq

open Cert.SampleTail in
/-- Every execution of the program ends with the arguments unchanged and every semaphore at zero. -/
theorem program_unchanged (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11))
      ∧ r.2.sem = fun _ => 0) := by
  have h : ∀ D, D = Cert.SampleTailIdeal.defs (F := F) → θ_run D (onTc (τ := Cert.SampleTailIdeal.τ) (Cert.SampleTailIdeal.main (F := F)))
      ⟨m, fun _ => 0, ρ⟩ _ := fun D e => e ▸ SampleTail.unchanged m ρ
  exact h _ defs_eq

end SampleTail
-- ==== Proof.Sample.Conv.lean ====
/-
  What the tail's body holds in its convolution buffer at the sample batch's shapes: the convolution of the extended
  channels with the taps (`conv_apply`).
-/
module

public import proofs.«01_k».proof.Proof.Sample.Cover
public import proofs.«01_k».proof.Proof.Tail.Extended

@[expose] public section

set_option maxRecDepth 16384

noncomputable section

namespace SampleTail

open Cert.SampleTailIdeal Cert.SampleTailIdeal.Gen Tail Idealize.ShloMosaic Idealize.ShloMosaic.TcCoe Idealize.SL.Sem
open Idealize.ShloMosaic.Pointwise

section Words
variable (i : grid0.Coords)

theorem pay738_apply (u : Vec Ideal S1x64x128 .f32) (r : Fin 64) (l : Fin 128) :
    k0_pay738 i u (ix2 r l) = u (ix3 0 r l) * before (i 1).val := by
  pointwise [k0_pay738]
  rfl

theorem pay739_apply (u : Vec Ideal S1x2048x128 .f32) (r : Fin 2048) (l : Fin 128) :
    k0_pay739 (F := Ideal) u (ix2 r l) = u (ix3 0 r l) := by
  pointwise [k0_pay739]

theorem pay740_apply (u : Vec Ideal S1x64x128 .f32) (r : Fin 64) (l : Fin 128) :
    k0_pay740 i u (ix2 r l) = u (ix3 0 r l) * behind 3#32 (i 1).val := by
  pointwise [k0_pay740]
  rfl

end Words

variable (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x2048x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S31x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x4096 .bf16) (harg13 : arg13.IsWhole) (arg14 : Memref sig .tc .vmem S4096x1024 .bf16) (harg14 : arg14.IsWhole) (arg15 : Memref sig .tc .vmem S1x1024 .f32) (harg15 : arg15.IsWhole) (arg16 : Memref sig .tc .vmem S1x512x1024 .f32) (harg16 : arg16.IsWhole) (arg17 : Memref sig .tc .vmem S2176x128 .f32) (harg17 : arg17.IsWhole) (arg18 : Memref sig .tc .vmem S512x512 .f32) (harg18 : arg18.IsWhole)
  (x2 : Vec Ideal S1x2048x128 .f32) (x3 x4 : Vec Ideal S1x64x128 .f32)

/-- The first scratch buffer, read: the extended channels. -/
theorem extended_at (R : Fin 2176) (l : Fin 128) :
    arg17.view.read (Elt Ideal) (arg17.view.writes (Elt Ideal) arg17.view.junk (bodyRun.sl.H15_3 c i arg4 harg4 arg5 harg5 arg6 harg6 x2 x3 x4)) (ix2 R l) = extended (before (i 1).val) (behind 3#32 (i 1).val) x2 x3 x4 R l := by
  have hz2 := View.ld_unit_zero (S := S1x2048x128) (off := ![0, 0, 0]) (by decide) inb_S1x2048x128_S1x2048x128_0_0_0 x2
  have hz3 := View.ld_unit_zero (Val := Elt Ideal) (S := S1x64x128) (e := .f32) (off := ![0, 0, 0]) (by decide) inb_S1x64x128_S1x64x128_0_0_0
  unfold bodyRun.sl.H15_3
  simp only [View.readAt_eq_ld, harg4.read_unread, harg5.read_unread, harg6.read_unread, hz2, hz3]
  exact extended_read arg17 _ _ x2 x3 x4 _ _ _ (pay739_apply x2) (pay738_apply i x3) (pay740_apply i x4) _ _ _ R l

set_option maxHeartbeats 4000000 in
/-- THE CONVOLUTION BUFFER, as the body loads it back. -/
theorem conv_apply (x5 : Vec Ideal S31x512 .f32) (x6 : Vec Ideal S1x512 .f32) (d : Vec Ideal S512x512 .f32) (r l : Fin 512) :
    bodyRun.sl.v413 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x3 x4 x5 x6 d (ix2 r l)
      = convAt (fun n l => x5 (ix2 n l)) (fun l => x6 (ix2 0 l)) (extended (before (i 1).val) (behind 3#32 (i 1).val) x2 x3 x4) r l := by
  unfold bodyRun.sl.v413
  refine (congrFun (View.ld_unit_zero (S := S512x512) (off := ![0, 0]) (by decide) _ _) (ix2 r l)).trans ?_
  have hX := extended_at c i arg4 harg4 arg5 harg5 arg6 harg6 arg17 x2 x3 x4
  refine View.read_writes_apply_of_pieces _ _ (Val := Elt Ideal) (s := S512x512) (e := .f32) (fun y : S512x512.Idx => convAt (fun n l => x5 (ix2 n l)) (fun l => x6 (ix2 0 l)) (extended (before (i 1).val) (behind 3#32 (i 1).val) x2 x3 x4) (y 0) (y 1)) _ ?_ (ix2 r l) (cover_of_stores stores1 stores2 stores3 stores4 _)
  intro p hp
  rcases List.mem_append.mp hp with hp | hp
  · exact stores4.apply (by norm_num) (fun s l => spread_load arg8 harg8 x6 0 384 _ _ (by norm_num) s l)
      (fun n s l => by fin_cases n <;> exact spread_load arg7 harg7 x5 _ 384 _ _ (by norm_num) s l) (rows4_apply hX) p hp
  rcases List.mem_append.mp hp with hp | hp
  · exact stores3.apply (by norm_num) (fun s l => spread_load arg8 harg8 x6 0 256 _ _ (by norm_num) s l)
      (fun n s l => by fin_cases n <;> exact spread_load arg7 harg7 x5 _ 256 _ _ (by norm_num) s l) (rows3_apply hX) p hp
  rcases List.mem_append.mp hp with hp | hp
  · exact stores2.apply (by norm_num) (fun s l => spread_load arg8 harg8 x6 0 128 _ _ (by norm_num) s l)
      (fun n s l => by fin_cases n <;> exact spread_load arg7 harg7 x5 _ 128 _ _ (by norm_num) s l) (rows2_apply hX) p hp
  · exact stores1.apply (by norm_num) (fun s l => spread_load arg8 harg8 x6 0 0 _ _ (by norm_num) s l)
      (fun n s l => by fin_cases n <;> exact spread_load arg7 harg7 x5 _ 0 _ _ (by norm_num) s l) (rows1_apply hX) p hp

end SampleTail
-- ==== Proof.Sample.Block.lean ====
/-
  What one grid point of the tail at the sample batch's shapes leaves in its output block: `Tail.row` of the point's
  blocks, row by row.
-/
module

public import proofs.«01_k».proof.Proof.Sample.Conv
public import proofs.«01_k».proof.Proof.Tail.KernelRow
public import proofs.«01_k».proof.Proof.Sample.Frame

@[expose] public section

set_option maxRecDepth 16384

noncomputable section

namespace SampleTail

open Cert.SampleTailIdeal Cert.SampleTailIdeal.Gen Idealize.ShloMosaic Idealize.ShloMosaic.TcCoe Idealize.SL.Sem
open Idealize.ShloMosaic.Pointwise Tail

set_option maxHeartbeats 4000000 in
/-- The body's output block at row `r`, column `o`. -/
theorem block_row (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x2048x128 .f32) (harg4 : arg4.IsWhole) (arg5 : Memref sig .tc .vmem S1x64x128 .f32) (harg5 : arg5.IsWhole) (arg6 : Memref sig .tc .vmem S1x64x128 .f32) (harg6 : arg6.IsWhole) (arg7 : Memref sig .tc .vmem S31x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x4096 .bf16) (harg13 : arg13.IsWhole) (arg14 : Memref sig .tc .vmem S4096x1024 .bf16) (harg14 : arg14.IsWhole) (arg15 : Memref sig .tc .vmem S1x1024 .f32) (harg15 : arg15.IsWhole) (arg16 : Memref sig .tc .vmem S1x512x1024 .f32) (harg16 : arg16.IsWhole) (arg17 : Memref sig .tc .vmem S2176x128 .f32) (harg17 : arg17.IsWhole) (arg18 : Memref sig .tc .vmem S512x512 .f32) (harg18 : arg18.IsWhole) (x0 : Vec Ideal S1x512x1024 .f32) (x1 : Vec Ideal S1x512x512 .bf16) (x2 : Vec Ideal S1x2048x128 .f32) (x3 : Vec Ideal S1x64x128 .f32) (x4 : Vec Ideal S1x64x128 .f32) (x5 : Vec Ideal S31x512 .f32) (x6 : Vec Ideal S1x512 .f32) (x7 : Vec Ideal S1x512 .f32) (x8 : Vec Ideal S1x512 .f32) (x9 : Vec Ideal S1024x1024 .bf16) (x10 : Vec Ideal S1x1024 .f32) (x11 : Vec Ideal S1024x4096 .bf16) (x12 : Vec Ideal S4096x1024 .bf16) (x13 : Vec Ideal S1x1024 .f32) (d17 : Vec Ideal S2176x128 .f32) (d18 : Vec Ideal S512x512 .f32) (z : Fin 1) (r : Fin 512) (o : Fin 1024) :
    View.canon (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 d17 d18).1 (ix3 z r o)
      = row (fun o => x0 (ix3 0 r o)) (fun k => x1 (ix3 0 r k))
          (fun l => convAt (fun n l => x5 (ix2 n l)) (fun l => x6 (ix2 0 l)) (extended (before (i 1).val) (behind 3#32 (i 1).val) x2 x3 x4) r l)
          (fun l => x7 (ix2 0 l)) (fun l => x8 (ix2 0 l)) (fun k o => x9 (ix2 k o)) (fun o => x10 (ix2 0 o))
          (fun k j => x11 (ix2 k j)) (fun j o => x12 (ix2 j o)) (fun o => x13 (ix2 0 o)) o := by
  have e0 := whole_load arg2 harg2 x0 (off := ![0, 0, 0]) (by decide) inb_S1x512x1024_S1x512x1024_0_0_0
  have e1 := whole_load arg3 harg3 x1 (off := ![0, 0, 0]) (by decide) inb_S1x512x512_S1x512x512_0_0_0
  have e7 := whole_load arg9 harg9 x7 (off := ![0, 0]) (by decide) inb_S1x512_S1x512_0_0
  have e8 := whole_load arg10 harg10 x8 (off := ![0, 0]) (by decide) inb_S1x512_S1x512_0_0
  have e10 := whole_load arg12 harg12 x10 (off := ![0, 0]) (by decide) inb_S1x1024_S1x1024_0_0
  have e13 := whole_load arg15 harg15 x13 (off := ![0, 0]) (by decide) inb_S1x1024_S1x1024_0_0
  unfold bodyRun
  dsimp only
  refine (congrFun (View.canon_unit_zero (S := S1x512x1024) (off := ![0, 0, 0]) (by decide) _ _) _).trans ?_
  unfold bodyRun.sl.r_35 bodyRun.sl.r_34 bodyRun.sl.r_33 bodyRun.sl.r_32 bodyRun.sl.r_31 bodyRun.sl.r_30 bodyRun.sl.r_29
  rw [e0, e1, e7, e8, e10, e13]
  refine (stored_row _ _ _ _ _ _ _ _ (fun k o => x9 (ix2 k o)) (fun k j => x11 (ix2 k j)) (fun j o => x12 (ix2 j o)) _ _ _ _ _ _ _ _ _
    (fun k o => slice_load arg11 harg11 x9 0 0 _ k o _ _ (by simp) (by simp))
    (fun k o => slice_load arg11 harg11 x9 512 0 _ k o _ _ (by simp) (by simp))
    (fun k o => slice_load arg13 harg13 x11 0 0 _ k o _ _ (by simp) (by simp))
    (fun k o => slice_load arg13 harg13 x11 0 1024 _ k o _ _ (by simp) (by simp))
    (fun k o => slice_load arg13 harg13 x11 0 2048 _ k o _ _ (by simp) (by simp))
    (fun k o => slice_load arg13 harg13 x11 0 3072 _ k o _ _ (by simp) (by simp))
    (fun k o => slice_load arg14 harg14 x12 0 0 _ k o _ _ (by simp) (by simp))
    (fun k o => slice_load arg14 harg14 x12 1024 0 _ k o _ _ (by simp) (by simp))
    (fun k o => slice_load arg14 harg14 x12 2048 0 _ k o _ _ (by simp) (by simp))
    (fun k o => slice_load arg14 harg14 x12 3072 0 _ k o _ _ (by simp) (by simp))
    z r o).trans ?_
  refine congrArg (fun v => row (fun o => x0 (ix3 0 r o)) (fun k => x1 (ix3 0 r k)) v
          (fun l => x7 (ix2 0 l)) (fun l => x8 (ix2 0 l)) (fun k o => x9 (ix2 k o)) (fun o => x10 (ix2 0 o))
          (fun k j => x11 (ix2 k j)) (fun j o => x12 (ix2 j o)) (fun o => x13 (ix2 0 o)) o) (funext fun l => ?_)
  exact conv_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x3 x4 x5 x6 d18 r l

end SampleTail
-- ==== Proof.Sample.KernelArray.lean ====
/-
  The tail program's result array after a run at the sample batch's shapes: every grid point writes its block of `tail` of
  the arguments, and the blocks cover the array.
-/
module

public import proofs.«01_k».proof.Proof.Sample.Block
public import proofs.«01_k».proof.Proof.Tail.Result
public import Idealize.ShloMosaic.Lib.Pipeline.Value

@[expose] public section

set_option maxRecDepth 16384

noncomputable section

namespace SampleTail

open Cert.SampleTailIdeal Cert.SampleTailIdeal.Gen Idealize.ShloMosaic Idealize.ShloMosaic.TcCoe Idealize.SL.Sem
open Idealize.ShloMosaic.Pointwise Tail
open Idealize.ShloMosaic.Pipeline (Dat)

/-- Window 0's block index at grid point `t` (batch `t / 4`, row block `t % 4`). -/
theorem index0 : ∀ t : Fin grid0.N, (win0_0.index t 0 = t.val / 4 ∧ win0_0.index t 1 = t.val % 4 ∧ win0_0.index t 2 = 0) := by
  decide +kernel

/-- Window 1's block index at grid point `t` (batch `t / 4`, row block `t % 4`). -/
theorem index1 : ∀ t : Fin grid0.N, (win0_1.index t 0 = t.val / 4 ∧ win0_1.index t 1 = t.val % 4 ∧ win0_1.index t 2 = 0) := by
  decide +kernel

/-- Window 2's block index at grid point `t` (batch `t / 4`, row block `t % 4`). -/
theorem index2 : ∀ t : Fin grid0.N, (win0_2.index t 0 = t.val / 4 ∧ win0_2.index t 1 = t.val % 4 ∧ win0_2.index t 2 = 0) := by
  decide +kernel

/-- Window 3's block index at grid point `t` (batch `t / 4`, row block `t % 4`). -/
theorem index3 : ∀ t : Fin grid0.N, (win0_3.index t 0 = t.val / 4 ∧ win0_3.index t 1 = 32 * (t.val % 4) - 1 ∧ win0_3.index t 2 = 0) := by
  decide +kernel

/-- Window 4's block index at grid point `t` (batch `t / 4`, row block `t % 4`). -/
theorem index4 : ∀ t : Fin grid0.N, (win0_4.index t 0 = t.val / 4 ∧ win0_4.index t 1 = min (32 * (t.val % 4) + 32) 127 ∧ win0_4.index t 2 = 0) := by
  decide +kernel

/-- Window 5's block index at grid point `t` (batch `t / 4`, row block `t % 4`). -/
theorem index5 : ∀ t : Fin grid0.N, (win0_5.index t 0 = 0 ∧ win0_5.index t 1 = 0) := by
  decide +kernel

/-- Window 6's block index at grid point `t` (batch `t / 4`, row block `t % 4`). -/
theorem index6 : ∀ t : Fin grid0.N, (win0_6.index t 0 = 0 ∧ win0_6.index t 1 = 0) := by
  decide +kernel

/-- Window 7's block index at grid point `t` (batch `t / 4`, row block `t % 4`). -/
theorem index7 : ∀ t : Fin grid0.N, (win0_7.index t 0 = 0 ∧ win0_7.index t 1 = 0) := by
  decide +kernel

/-- Window 8's block index at grid point `t` (batch `t / 4`, row block `t % 4`). -/
theorem index8 : ∀ t : Fin grid0.N, (win0_8.index t 0 = 0 ∧ win0_8.index t 1 = 0) := by
  decide +kernel

/-- Window 9's block index at grid point `t` (batch `t / 4`, row block `t % 4`). -/
theorem index9 : ∀ t : Fin grid0.N, (win0_9.index t 0 = 0 ∧ win0_9.index t 1 = 0) := by
  decide +kernel

/-- Window 10's block index at grid point `t` (batch `t / 4`, row block `t % 4`). -/
theorem index10 : ∀ t : Fin grid0.N, (win0_10.index t 0 = 0 ∧ win0_10.index t 1 = 0) := by
  decide +kernel

/-- Window 11's block index at grid point `t` (batch `t / 4`, row block `t % 4`). -/
theorem index11 : ∀ t : Fin grid0.N, (win0_11.index t 0 = 0 ∧ win0_11.index t 1 = 0) := by
  decide +kernel

/-- Window 12's block index at grid point `t` (batch `t / 4`, row block `t % 4`). -/
theorem index12 : ∀ t : Fin grid0.N, (win0_12.index t 0 = 0 ∧ win0_12.index t 1 = 0) := by
  decide +kernel

/-- Window 13's block index at grid point `t` (batch `t / 4`, row block `t % 4`). -/
theorem index13 : ∀ t : Fin grid0.N, (win0_13.index t 0 = 0 ∧ win0_13.index t 1 = 0) := by
  decide +kernel

/-- Window 14's block index at grid point `t` (batch `t / 4`, row block `t % 4`). -/
theorem index14 : ∀ t : Fin grid0.N, (win0_14.index t 0 = t.val / 4 ∧ win0_14.index t 1 = t.val % 4 ∧ win0_14.index t 2 = 0) := by
  decide +kernel

/-- The grid point's second coordinate. -/
theorem coord1 : ∀ t : Fin grid0.N, (grid0.coords t 1).val = t.val % 4 := by decide +kernel

/-- The grid's point `t` among its 128. -/
theorem point_lt (t : Fin cfg0.N) : t.val < 128 := lt_of_lt_of_eq t.isLt N_0

/-- Point `t`'s batch. -/
def pb (t : Fin cfg0.N) : Fin 32 := ⟨t.val / 4, by have := point_lt t; omega⟩
/-- Row `r` of point `t`'s block, as a position of the sequence. -/
def pr (t : Fin cfg0.N) (r : Fin 512) : Fin 2048 := ⟨512 * (t.val % 4) + r.val, by have := r.isLt; omega⟩

variable (m : (ℓ : Loc nD τ sig) → Buf (Elt Ideal) ℓ) (ρ : Dev nD → PrngReg)

/-- Argument 0 on device `c`. -/
abbrev arg0 (c : Dev nD) : Vec Ideal S32x2048x1024 .f32 := m ((c : Thread nD τ).loc main_arg0)
/-- Argument 1 on device `c`. -/
abbrev arg1 (c : Dev nD) : Vec Ideal S32x2048x512 .bf16 := m ((c : Thread nD τ).loc main_arg1)
/-- Argument 2 on device `c`. -/
abbrev arg2 (c : Dev nD) : Vec Ideal S32x2048x512 .f32 := m ((c : Thread nD τ).loc main_arg2)
/-- Argument 3 on device `c`. -/
abbrev arg3 (c : Dev nD) : Vec Ideal S31x512 .f32 := m ((c : Thread nD τ).loc main_arg3)
/-- Argument 4 on device `c`. -/
abbrev arg4 (c : Dev nD) : Vec Ideal S1x512 .f32 := m ((c : Thread nD τ).loc main_arg4)
/-- Argument 5 on device `c`. -/
abbrev arg5 (c : Dev nD) : Vec Ideal S1x512 .f32 := m ((c : Thread nD τ).loc main_arg5)
/-- Argument 6 on device `c`. -/
abbrev arg6 (c : Dev nD) : Vec Ideal S1x512 .f32 := m ((c : Thread nD τ).loc main_arg6)
/-- Argument 7 on device `c`. -/
abbrev arg7 (c : Dev nD) : Vec Ideal S1024x1024 .bf16 := m ((c : Thread nD τ).loc main_arg7)
/-- Argument 8 on device `c`. -/
abbrev arg8 (c : Dev nD) : Vec Ideal S1x1024 .f32 := m ((c : Thread nD τ).loc main_arg8)
/-- Argument 9 on device `c`. -/
abbrev arg9 (c : Dev nD) : Vec Ideal S1024x4096 .bf16 := m ((c : Thread nD τ).loc main_arg9)
/-- Argument 10 on device `c`. -/
abbrev arg10 (c : Dev nD) : Vec Ideal S4096x1024 .bf16 := m ((c : Thread nD τ).loc main_arg10)
/-- Argument 11 on device `c`. -/
abbrev arg11 (c : Dev nD) : Vec Ideal S1x1024 .f32 := m ((c : Thread nD τ).loc main_arg11)

/-- The gated channels as the windows read them: four rows of 128 channels to a position. -/
theorem channels (c : Dev nD) :
    V m c main_v0 = fun i => shapeCast S32x8192x128 (arg2 m c) shapeCasts_S32x2048x512_S32x8192x128 i := by
  show StableHlo.after hostOps0 (fun b => m (c, b)) main_v0 = _
  rw [hostOps0, StableHlo.after_cons, StableHlo.after_nil, StableHlo.reshape_result]
  rfl

/-- Row `R`, lane `l` of them is channel `k` of position `s`. -/
theorem channels_at (c : Dev nD) (b : Fin 32) (R : Fin 8192) (l : Fin 128) (s : Fin 2048) (k : Fin 512) (hR : 4 * s.val + k.val / 128 = R.val)
    (hl : k.val % 128 = l.val) : (V m c main_v0 : Vec Ideal S32x8192x128 .f32) (ix3 b R l) = arg2 m c (ix3 b s k) := by
  rw [channels]
  exact channels_apply (N := 32) (S := 2048) (arg2 m c) shapeCasts_S32x2048x512_S32x8192x128 b R l s k hR hl

/-- The residual's block at a point. -/
theorem iblk0_apply (c : Dev nD) (t : Fin cfg0.N) (r : Fin 512) (o : Fin 1024) :
    iblk m c 0 t (ix3 0 r o) = arg0 m c (ix3 (pb t) (pr t r) o) := by
  obtain ⟨e0, e1, e2⟩ := index0 t
  refine (congrFun (V_main_arg0 m c) _).trans (congrArg (arg0 m c) (funext fun a => Fin.ext ?_))
  match a with
  | ⟨0, _⟩ => show win0_0.index t 0 * 1 + 1 * 0 = t.val / 4; rw [e0]; omega
  | ⟨1, _⟩ => show win0_0.index t 1 * 512 + 1 * r.val = 512 * (t.val % 4) + r.val; rw [e1]; omega
  | ⟨2, _⟩ => show win0_0.index t 2 * 1024 + 1 * o.val = o.val; rw [e2]; omega

/-- The attention's block at a point. -/
theorem iblk1_apply (c : Dev nD) (t : Fin cfg0.N) (r : Fin 512) (k : Fin 512) :
    iblk m c 1 t (ix3 0 r k) = arg1 m c (ix3 (pb t) (pr t r) k) := by
  obtain ⟨e0, e1, e2⟩ := index1 t
  refine (congrFun (V_main_arg1 m c) _).trans (congrArg (arg1 m c) (funext fun a => Fin.ext ?_))
  match a with
  | ⟨0, _⟩ => show win0_1.index t 0 * 1 + 1 * 0 = t.val / 4; rw [e0]; omega
  | ⟨1, _⟩ => show win0_1.index t 1 * 512 + 1 * r.val = 512 * (t.val % 4) + r.val; rw [e1]; omega
  | ⟨2, _⟩ => show win0_1.index t 2 * 512 + 1 * k.val = k.val; rw [e2]; omega

/-- The gated channels at a point: the block's. -/
theorem iblk2_apply (c : Dev nD) (t : Fin cfg0.N) (R : Fin 2048) (l : Fin 128) (s : Fin 2048) (k : Fin 512)
    (h : 4 * s.val + k.val / 128 = 2048 * (t.val % 4) + R.val) (hl : k.val % 128 = l.val) : iblk m c 2 t (ix3 0 R l) = arg2 m c (ix3 (pb t) s k) := by
  obtain ⟨e0, e1, e2⟩ := index2 t
  refine Eq.trans ?_ (channels_at m c (pb t) ⟨2048 * (t.val % 4) + R.val, by omega⟩ l s k (by dsimp only; omega) hl)
  refine congrArg (V m c main_v0 : Vec Ideal S32x8192x128 .f32) (funext fun a => Fin.ext ?_)
  match a with
  | ⟨0, _⟩ => show win0_2.index t 0 * 1 + 1 * 0 = t.val / 4; rw [e0]; omega
  | ⟨1, _⟩ => show win0_2.index t 1 * 2048 + 1 * R.val = 2048 * (t.val % 4) + R.val; rw [e1]; omega
  | ⟨2, _⟩ => show win0_2.index t 2 * 128 + 1 * l.val = l.val; rw [e2]; omega

/-- The gated channels at a point: the rows before it. -/
theorem iblk3_apply (c : Dev nD) (t : Fin cfg0.N) (ht : t.val % 4 ≠ 0) (R : Fin 64) (l : Fin 128) (s : Fin 2048) (k : Fin 512)
    (h : 4 * s.val + k.val / 128 + 64 = 2048 * (t.val % 4) + R.val) (hl : k.val % 128 = l.val) : iblk m c 3 t (ix3 0 R l) = arg2 m c (ix3 (pb t) s k) := by
  obtain ⟨e0, e1, e2⟩ := index3 t
  refine Eq.trans ?_ (channels_at m c (pb t) ⟨64 * (32 * (t.val % 4) - 1) + R.val, by omega⟩ l s k (by dsimp only; omega) hl)
  refine congrArg (V m c main_v0 : Vec Ideal S32x8192x128 .f32) (funext fun a => Fin.ext ?_)
  match a with
  | ⟨0, _⟩ => show win0_3.index t 0 * 1 + 1 * 0 = t.val / 4; rw [e0]; omega
  | ⟨1, _⟩ => show win0_3.index t 1 * 64 + 1 * R.val = 64 * (32 * (t.val % 4) - 1) + R.val; rw [e1]; omega
  | ⟨2, _⟩ => show win0_3.index t 2 * 128 + 1 * l.val = l.val; rw [e2]; omega

/-- The gated channels at a point: the rows behind it. -/
theorem iblk4_apply (c : Dev nD) (t : Fin cfg0.N) (ht : t.val % 4 + 1 ≠ 4) (R : Fin 64) (l : Fin 128) (s : Fin 2048) (k : Fin 512)
    (h : 4 * s.val + k.val / 128 = 2048 * (t.val % 4 + 1) + R.val) (hl : k.val % 128 = l.val) : iblk m c 4 t (ix3 0 R l) = arg2 m c (ix3 (pb t) s k) := by
  obtain ⟨e0, e1, e2⟩ := index4 t
  refine Eq.trans ?_ (channels_at m c (pb t) ⟨64 * min (32 * (t.val % 4) + 32) 127 + R.val, by omega⟩ l s k (by dsimp only; omega) hl)
  refine congrArg (V m c main_v0 : Vec Ideal S32x8192x128 .f32) (funext fun a => Fin.ext ?_)
  match a with
  | ⟨0, _⟩ => show win0_4.index t 0 * 1 + 1 * 0 = t.val / 4; rw [e0]; omega
  | ⟨1, _⟩ => show win0_4.index t 1 * 64 + 1 * R.val = 64 * min (32 * (t.val % 4) + 32) 127 + R.val; rw [e1]; omega
  | ⟨2, _⟩ => show win0_4.index t 2 * 128 + 1 * l.val = l.val; rw [e2]; omega

/-- Window 5 is the whole of argument 3 at every point. -/
theorem iblk5_apply (c : Dev nD) (t : Fin cfg0.N) (k : Fin 31) (o : Fin 512) : iblk m c 5 t (ix2 k o) = arg3 m c (ix2 k o) := by
  obtain ⟨e0, e1⟩ := index5 t
  refine (congrFun (V_main_arg3 m c) _).trans (congrArg (arg3 m c) (funext fun a => Fin.ext ?_))
  match a with
  | ⟨0, _⟩ => show win0_5.index t 0 * 31 + 1 * k.val = k.val; rw [e0]; omega
  | ⟨1, _⟩ => show win0_5.index t 1 * 512 + 1 * o.val = o.val; rw [e1]; omega

/-- Window 6 is the whole of argument 4 at every point. -/
theorem iblk6_apply (c : Dev nD) (t : Fin cfg0.N) (k : Fin 1) (o : Fin 512) : iblk m c 6 t (ix2 k o) = arg4 m c (ix2 k o) := by
  obtain ⟨e0, e1⟩ := index6 t
  refine (congrFun (V_main_arg4 m c) _).trans (congrArg (arg4 m c) (funext fun a => Fin.ext ?_))
  match a with
  | ⟨0, _⟩ => show win0_6.index t 0 * 1 + 1 * k.val = k.val; rw [e0]; omega
  | ⟨1, _⟩ => show win0_6.index t 1 * 512 + 1 * o.val = o.val; rw [e1]; omega

/-- Window 7 is the whole of argument 5 at every point. -/
theorem iblk7_apply (c : Dev nD) (t : Fin cfg0.N) (k : Fin 1) (o : Fin 512) : iblk m c 7 t (ix2 k o) = arg5 m c (ix2 k o) := by
  obtain ⟨e0, e1⟩ := index7 t
  refine (congrFun (V_main_arg5 m c) _).trans (congrArg (arg5 m c) (funext fun a => Fin.ext ?_))
  match a with
  | ⟨0, _⟩ => show win0_7.index t 0 * 1 + 1 * k.val = k.val; rw [e0]; omega
  | ⟨1, _⟩ => show win0_7.index t 1 * 512 + 1 * o.val = o.val; rw [e1]; omega

/-- Window 8 is the whole of argument 6 at every point. -/
theorem iblk8_apply (c : Dev nD) (t : Fin cfg0.N) (k : Fin 1) (o : Fin 512) : iblk m c 8 t (ix2 k o) = arg6 m c (ix2 k o) := by
  obtain ⟨e0, e1⟩ := index8 t
  refine (congrFun (V_main_arg6 m c) _).trans (congrArg (arg6 m c) (funext fun a => Fin.ext ?_))
  match a with
  | ⟨0, _⟩ => show win0_8.index t 0 * 1 + 1 * k.val = k.val; rw [e0]; omega
  | ⟨1, _⟩ => show win0_8.index t 1 * 512 + 1 * o.val = o.val; rw [e1]; omega

/-- Window 9 is the whole of argument 7 at every point. -/
theorem iblk9_apply (c : Dev nD) (t : Fin cfg0.N) (k : Fin 1024) (o : Fin 1024) : iblk m c 9 t (ix2 k o) = arg7 m c (ix2 k o) := by
  obtain ⟨e0, e1⟩ := index9 t
  refine (congrFun (V_main_arg7 m c) _).trans (congrArg (arg7 m c) (funext fun a => Fin.ext ?_))
  match a with
  | ⟨0, _⟩ => show win0_9.index t 0 * 1024 + 1 * k.val = k.val; rw [e0]; omega
  | ⟨1, _⟩ => show win0_9.index t 1 * 1024 + 1 * o.val = o.val; rw [e1]; omega

/-- Window 10 is the whole of argument 8 at every point. -/
theorem iblk10_apply (c : Dev nD) (t : Fin cfg0.N) (k : Fin 1) (o : Fin 1024) : iblk m c 10 t (ix2 k o) = arg8 m c (ix2 k o) := by
  obtain ⟨e0, e1⟩ := index10 t
  refine (congrFun (V_main_arg8 m c) _).trans (congrArg (arg8 m c) (funext fun a => Fin.ext ?_))
  match a with
  | ⟨0, _⟩ => show win0_10.index t 0 * 1 + 1 * k.val = k.val; rw [e0]; omega
  | ⟨1, _⟩ => show win0_10.index t 1 * 1024 + 1 * o.val = o.val; rw [e1]; omega

/-- Window 11 is the whole of argument 9 at every point. -/
theorem iblk11_apply (c : Dev nD) (t : Fin cfg0.N) (k : Fin 1024) (o : Fin 4096) : iblk m c 11 t (ix2 k o) = arg9 m c (ix2 k o) := by
  obtain ⟨e0, e1⟩ := index11 t
  refine (congrFun (V_main_arg9 m c) _).trans (congrArg (arg9 m c) (funext fun a => Fin.ext ?_))
  match a with
  | ⟨0, _⟩ => show win0_11.index t 0 * 1024 + 1 * k.val = k.val; rw [e0]; omega
  | ⟨1, _⟩ => show win0_11.index t 1 * 4096 + 1 * o.val = o.val; rw [e1]; omega

/-- Window 12 is the whole of argument 10 at every point. -/
theorem iblk12_apply (c : Dev nD) (t : Fin cfg0.N) (k : Fin 4096) (o : Fin 1024) : iblk m c 12 t (ix2 k o) = arg10 m c (ix2 k o) := by
  obtain ⟨e0, e1⟩ := index12 t
  refine (congrFun (V_main_arg10 m c) _).trans (congrArg (arg10 m c) (funext fun a => Fin.ext ?_))
  match a with
  | ⟨0, _⟩ => show win0_12.index t 0 * 4096 + 1 * k.val = k.val; rw [e0]; omega
  | ⟨1, _⟩ => show win0_12.index t 1 * 1024 + 1 * o.val = o.val; rw [e1]; omega

/-- Window 13 is the whole of argument 11 at every point. -/
theorem iblk13_apply (c : Dev nD) (t : Fin cfg0.N) (k : Fin 1) (o : Fin 1024) : iblk m c 13 t (ix2 k o) = arg11 m c (ix2 k o) := by
  obtain ⟨e0, e1⟩ := index13 t
  refine (congrFun (V_main_arg11 m c) _).trans (congrArg (arg11 m c) (funext fun a => Fin.ext ?_))
  match a with
  | ⟨0, _⟩ => show win0_13.index t 0 * 1 + 1 * k.val = k.val; rw [e0]; omega
  | ⟨1, _⟩ => show win0_13.index t 1 * 1024 + 1 * o.val = o.val; rw [e1]; omega

/-- The extended channels of point `t`, at the place tap `n` of row `r` reads: the padded sequence. -/
theorem extended_eq (c : Dev nD) (t : Fin cfg0.N) (r : Fin 512) (n : Fin 31) (l : Fin 512) :
    extended (before (grid0.coords t 1).val) (behind 3#32 (grid0.coords t 1).val) (iblk m c 2 t) (iblk m c 3 t) (iblk m c 4 t)
        ⟨4 * (r.val + n.val + 1) + l.val / 128, by omega⟩ ⟨l.val % 128, by omega⟩
      = padded (arg2 m c) (pb t) ((pr t r).val + n.val) l := by
  rw [coord1 t]
  exact extended_padded (arg2 m c) (pb t) 4 (t.val % 4) (by omega) rfl _ _
    (fun h => by rw [h, before_zero]) (fun h => before_pos (by omega) h)
    (fun h => by rw [show t.val % 4 = 3 by omega]; exact behind_last (by norm_num)) (fun h => behind_lt (by norm_num) (by omega))
    _ _ _ (iblk2_apply m c t) (fun h => iblk3_apply m c t h) (fun h => iblk4_apply m c t h) r n l

/-- The block's convolution is the array's. -/
theorem conv_eq (c : Dev nD) (t : Fin cfg0.N) (r l : Fin 512) :
    convAt (fun n l => iblk m c 5 t (ix2 n l)) (fun l => iblk m c 6 t (ix2 0 l))
        (extended (before (grid0.coords t 1).val) (behind 3#32 (grid0.coords t 1).val) (iblk m c 2 t) (iblk m c 3 t) (iblk m c 4 t)) r l
      = conv (arg2 m c) (arg3 m c) (arg4 m c) (pb t) (pr t r) l := by
  unfold convAt conv
  exact congrArg₂ (· + ·) (iblk6_apply m c t 0 l)
    (Finset.sum_congr rfl fun n _ => congrArg₂ (· * ·) (iblk5_apply m c t n l) (extended_eq m c t r n l))

/-- The tail of the arguments on device `c`. -/
abbrev result (c : Dev nD) : Vec Ideal S32x2048x1024 .f32 :=
  tail (arg0 m c) (arg1 m c) (arg2 m c) (arg3 m c) (arg4 m c) (arg5 m c) (arg6 m c) (arg7 m c) (arg8 m c) (arg9 m c) (arg10 m c) (arg11 m c)

/-- What point `t` leaves in its output block. -/
theorem outBlock_apply (c : Dev nD) (t : Fin cfg0.N) (z : Fin 1) (r : Fin 512) (o : Fin 1024) :
    outBlock m c t (ix3 z r o) = result m c (ix3 (pb t) (pr t r) o) := by
  unfold outBlock
  rw [block_row]
  show row _ _ _ _ _ _ _ _ _ _ o = tailAt (arg0 m c) (arg1 m c) (arg2 m c) (arg3 m c) (arg4 m c) (arg5 m c) (arg6 m c) (arg7 m c) (arg8 m c) (arg9 m c) (arg10 m c) (arg11 m c) (pb t) (pr t r) o
  unfold tailAt
  have h0 : (fun o => iblk m c 0 t (ix3 0 r o)) = fun o => arg0 m c (ix3 (pb t) (pr t r) o) := funext fun o => iblk0_apply m c t r o
  have h1 : (fun k => iblk m c 1 t (ix3 0 r k)) = fun k => arg1 m c (ix3 (pb t) (pr t r) k) := funext fun k => iblk1_apply m c t r k
  have h2 : (fun l => convAt (fun n l => iblk m c 5 t (ix2 n l)) (fun l => iblk m c 6 t (ix2 0 l))
        (extended (before (grid0.coords t 1).val) (behind 3#32 (grid0.coords t 1).val) (iblk m c 2 t) (iblk m c 3 t) (iblk m c 4 t)) r l)
      = fun l => conv (arg2 m c) (arg3 m c) (arg4 m c) (pb t) (pr t r) l := funext fun l => conv_eq m c t r l
  have h7 : (fun l => iblk m c 7 t (ix2 0 l)) = fun l => arg5 m c (ix2 0 l) := funext fun l => iblk7_apply m c t 0 l
  have h8 : (fun l => iblk m c 8 t (ix2 0 l)) = fun l => arg6 m c (ix2 0 l) := funext fun l => iblk8_apply m c t 0 l
  have h9 : (fun k o => iblk m c 9 t (ix2 k o)) = fun k o => arg7 m c (ix2 k o) := funext fun k => funext fun o => iblk9_apply m c t k o
  have h10 : (fun o => iblk m c 10 t (ix2 0 o)) = fun o => arg8 m c (ix2 0 o) := funext fun o => iblk10_apply m c t 0 o
  have h11 : (fun k j => iblk m c 11 t (ix2 k j)) = fun k j => arg9 m c (ix2 k j) := funext fun k => funext fun o => iblk11_apply m c t k o
  have h12 : (fun j o => iblk m c 12 t (ix2 j o)) = fun j o => arg10 m c (ix2 j o) := funext fun k => funext fun o => iblk12_apply m c t k o
  have h13 : (fun o => iblk m c 13 t (ix2 0 o)) = fun o => arg11 m c (ix2 0 o) := funext fun o => iblk13_apply m c t 0 o
  erw [h0, h1, h2, h7, h8, h9, h10, h11, h12, h13]

/-- WHAT POINT `t` WRITES BACK is its block of the tail of the arguments. -/
theorem flushed_eq (c : Dev nD) (t : Fin cfg0.N) :
    (dats m 0 c).flushed 14 t = ((cfg0.win 14).blk t).view.read (Elt Ideal) (result m c) := by
  have hf : (dats m 0 c).flushed 14 t = (cfg0.win 14).cut (grid0.coords t) (outBlock m c t) := by
    show (cfg0.win 14).cut (grid0.coords t) ((dats m 0 c).after 14 t) = _
    rw [after14]
  rw [hf]
  obtain ⟨e0, e1, e2⟩ := index14 t
  funext (y : S1x512x1024.Idx)
  have hy : y = ix3 (y 0) (y 1) (y 2) := by
    funext a
    match a with
    | ⟨0, _⟩ => rfl
    | ⟨1, _⟩ => rfl
    | ⟨2, _⟩ => rfl
  have h0 : (y 0).val < 1 := (y 0).isLt
  show outBlock m c t y = result m c (((cfg0.win 14).blk t).view.emb y)
  refine (congrArg _ hy).trans ((outBlock_apply m c t (y 0) (y 1) (y 2)).trans (congrArg (result m c) (funext fun a => Fin.ext ?_)))
  match a with
  | ⟨0, _⟩ => show t.val / 4 = win0_14.index t 0 * 1 + 1 * (y 0).val; rw [e0]; omega
  | ⟨1, _⟩ => show 512 * (t.val % 4) + (y 1).val = win0_14.index t 1 * 512 + 1 * (y 1).val; rw [e1]; omega
  | ⟨2, _⟩ => show (y 2).val = win0_14.index t 2 * 1024 + 1 * (y 2).val; rw [e2]; omega

/-- The blocks the points write back cover the result array. -/
theorem cover (i : S32x2048x1024.Idx) : ∃ t : Fin cfg0.N, (cfg0.win 14).flush t = true ∧ i ∈ ((cfg0.win 14).blk t).view.set := by
  have h0 : (i 0).val < 32 := (i 0).isLt
  have h1 : (i 1).val < 2048 := (i 1).isLt
  have h2 : (i 2).val < 1024 := (i 2).isLt
  have hN : cfg0.N = 128 := N_0
  refine ⟨⟨(i 0).val * 4 + (i 1).val / 512, by omega⟩, flush0_14 _, ?_⟩
  generalize ht : (⟨(i 0).val * 4 + (i 1).val / 512, by omega⟩ : Fin cfg0.N) = t
  have hv : t.val = (i 0).val * 4 + (i 1).val / 512 := by rw [← ht]
  obtain ⟨e0, e1, e2⟩ := index14 t
  show i ∈ ((View.whole main_v1).slice (win0_14.rect t)).set
  rw [View.set_slice_whole, Rect.mem_set_unit]
  intro a
  match a with
  | ⟨0, _⟩ =>
    show win0_14.index t 0 * 1 ≤ (i 0).val ∧ (i 0).val < win0_14.index t 0 * 1 + 1
    rw [e0]; omega
  | ⟨1, _⟩ =>
    show win0_14.index t 1 * 512 ≤ (i 1).val ∧ (i 1).val < win0_14.index t 1 * 512 + 512
    rw [e1]; omega
  | ⟨2, _⟩ =>
    show win0_14.index t 2 * 1024 ≤ (i 2).val ∧ (i 2).val < win0_14.index t 2 * 1024 + 1024
    rw [e2]; omega

/-- The result array after the run is the tail of the arguments, -/
theorem final (c : Dev nD) : (dats m 0 c).arrAt 14 cfg0.N = result m c :=
  (dats m 0 c).arrAt_eq_of_cover 14 _ (fun t _ => flushed_eq m c t) cover

/-- and the run ends with it, the arguments unchanged. -/
theorem kernel_run :
    θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) := by
  have h1 : θ_run defs (onTc (τ := τ) (main (F := Ideal))) ⟨m, fun _ => 0, ρ⟩ fun r => ∀ c : Dev nD,
      r.2.mem ((c : Thread nD τ).loc main_v1) = result m c :=
    (θ_run defs _ _).mono (fun r h (c : Dev nD) => ((h c).1 14).trans (final m c)) (run m ρ)
  exact (θ_run defs _ _).mono (fun r h c => ⟨h.1 c, h.2 c⟩) (θ_run_and h1 (frame_of m ρ (dats m) (A_eq m) (run m ρ)))

end SampleTail
-- ==== Proof.Sample.RefConv.lean ====
/-
  What the tail reference's convolution computes at the sample batch's shapes: the thirty-one
  shifted products of the padded channels, summed in order.
-/
module

public import proofs.«01_k».proof.Proof.Tail.Result
public import proofs.«01_k».proof.Proof.Gen.SampleTailReferenceIdeal.Run
public import proofs.«01_k».proof.Proof.Gen.SampleTailReferenceIdeal.Read
public import Idealize.ShloMosaic.Lib.KernelVsHost
public import Idealize.ShloMosaic.Lib.Pipeline.Value

@[expose] public section

set_option maxRecDepth 16384

noncomputable section

namespace SampleTail

open Tail Cert.SampleTailReferenceIdeal Cert.SampleTailReferenceIdeal.Gen Cert.SampleTailReferenceIdeal.Read Idealize.ShloMosaic Idealize.ShloMosaic.TcCoe Idealize.SL.Sem
open Idealize.ShloMosaic.Pointwise

variable (C : Vec Ideal S32x2048x512 .f32) (T : Vec Ideal S31x512 .f32) (B : Vec Ideal S1x512 .f32)

/-- The padded channels. -/
theorem pad_at (b : Fin 32) (p : Fin 2078) (l : Fin 512) :
    val_main_v0 (F := Ideal) C (ix3 b p l) = padded C b p.val l := by
  unfold val_main_v0 padded
  have hp := p.isLt
  by_cases h : 15 ≤ p.val ∧ p.val - 15 < 2048
  · rw [dif_pos h]
    refine pad_apply_of_inside _ _ _ _ _ _ _ _ _ fun a => ?_
    match a with
    | ⟨0, _⟩ => show b.val = 0 + b.val * (0 + 1); omega
    | ⟨1, _⟩ => show p.val = 15 + (p.val - 15) * (0 + 1); omega
    | ⟨2, _⟩ => show l.val = 0 + l.val * (0 + 1); omega
  · rw [dif_neg h]
    refine (pad_apply_of_not_inside _ _ _ _ _ _ _ _ 1 fun hin => h ?_).trans ?_
    · have h1 : 15 ≤ p.val ∧ (p.val - 15) % 1 = 0 ∧ (p.val - 15) / 1 < 2048 := hin
      exact ⟨h1.1, by have := h1.2.2; rwa [Nat.div_one] at this⟩
    · show (((0#32 : BitVec 32).toInt : ℝ) : EReal) = 0
      norm_num

variable (b : Fin 32) (s : Fin 2048) (l : Fin 512)

/-- The sum of the first tap, -/
theorem sum0 : val_main_v8 (F := Ideal) C T (ix3 b s l) = ∑ k ∈ Finset.range 1, tap C T b s l k := by
  have h : val_main_v8 (F := Ideal) C T (ix3 b s l) = 0 + val_main_v6 (F := Ideal) C T (ix3 b s l) := by
    pointwise [val_main_v8, val_main_v7, val_main_cst]
  rw [h]
  exact sum_step (n := 0) (by norm_num) (by simp) (w := val_main_v0 (F := Ideal) C (ix3 b ⟨0 + s.val, by omega⟩ l)) (by pointwise [val_main_v6, val_main_v5, val_main_v4, val_main_v3, val_main_v2, val_main_v1])
    (pad_at C b _ l)

/-- and one more: tap 1. -/
theorem sum1 : val_main_v15 (F := Ideal) C T (ix3 b s l) = ∑ k ∈ Finset.range 2, tap C T b s l k :=
  sum_step (n := 1) (by norm_num) (sum0 C T b s l) (w := val_main_v0 (F := Ideal) C (ix3 b ⟨1 + s.val, by omega⟩ l))
    (by pointwise [val_main_v14, val_main_v13, val_main_v12, val_main_v11, val_main_v10, val_main_v9]) (pad_at C b _ l)

/-- and one more: tap 2. -/
theorem sum2 : val_main_v22 (F := Ideal) C T (ix3 b s l) = ∑ k ∈ Finset.range 3, tap C T b s l k :=
  sum_step (n := 2) (by norm_num) (sum1 C T b s l) (w := val_main_v0 (F := Ideal) C (ix3 b ⟨2 + s.val, by omega⟩ l))
    (by pointwise [val_main_v21, val_main_v20, val_main_v19, val_main_v18, val_main_v17, val_main_v16]) (pad_at C b _ l)

/-- and one more: tap 3. -/
theorem sum3 : val_main_v29 (F := Ideal) C T (ix3 b s l) = ∑ k ∈ Finset.range 4, tap C T b s l k :=
  sum_step (n := 3) (by norm_num) (sum2 C T b s l) (w := val_main_v0 (F := Ideal) C (ix3 b ⟨3 + s.val, by omega⟩ l))
    (by pointwise [val_main_v28, val_main_v27, val_main_v26, val_main_v25, val_main_v24, val_main_v23]) (pad_at C b _ l)

/-- and one more: tap 4. -/
theorem sum4 : val_main_v36 (F := Ideal) C T (ix3 b s l) = ∑ k ∈ Finset.range 5, tap C T b s l k :=
  sum_step (n := 4) (by norm_num) (sum3 C T b s l) (w := val_main_v0 (F := Ideal) C (ix3 b ⟨4 + s.val, by omega⟩ l))
    (by pointwise [val_main_v35, val_main_v34, val_main_v33, val_main_v32, val_main_v31, val_main_v30]) (pad_at C b _ l)

/-- and one more: tap 5. -/
theorem sum5 : val_main_v43 (F := Ideal) C T (ix3 b s l) = ∑ k ∈ Finset.range 6, tap C T b s l k :=
  sum_step (n := 5) (by norm_num) (sum4 C T b s l) (w := val_main_v0 (F := Ideal) C (ix3 b ⟨5 + s.val, by omega⟩ l))
    (by pointwise [val_main_v42, val_main_v41, val_main_v40, val_main_v39, val_main_v38, val_main_v37]) (pad_at C b _ l)

/-- and one more: tap 6. -/
theorem sum6 : val_main_v50 (F := Ideal) C T (ix3 b s l) = ∑ k ∈ Finset.range 7, tap C T b s l k :=
  sum_step (n := 6) (by norm_num) (sum5 C T b s l) (w := val_main_v0 (F := Ideal) C (ix3 b ⟨6 + s.val, by omega⟩ l))
    (by pointwise [val_main_v49, val_main_v48, val_main_v47, val_main_v46, val_main_v45, val_main_v44]) (pad_at C b _ l)

/-- and one more: tap 7. -/
theorem sum7 : val_main_v57 (F := Ideal) C T (ix3 b s l) = ∑ k ∈ Finset.range 8, tap C T b s l k :=
  sum_step (n := 7) (by norm_num) (sum6 C T b s l) (w := val_main_v0 (F := Ideal) C (ix3 b ⟨7 + s.val, by omega⟩ l))
    (by pointwise [val_main_v56, val_main_v55, val_main_v54, val_main_v53, val_main_v52, val_main_v51]) (pad_at C b _ l)

/-- and one more: tap 8. -/
theorem sum8 : val_main_v64 (F := Ideal) C T (ix3 b s l) = ∑ k ∈ Finset.range 9, tap C T b s l k :=
  sum_step (n := 8) (by norm_num) (sum7 C T b s l) (w := val_main_v0 (F := Ideal) C (ix3 b ⟨8 + s.val, by omega⟩ l))
    (by pointwise [val_main_v63, val_main_v62, val_main_v61, val_main_v60, val_main_v59, val_main_v58]) (pad_at C b _ l)

/-- and one more: tap 9. -/
theorem sum9 : val_main_v71 (F := Ideal) C T (ix3 b s l) = ∑ k ∈ Finset.range 10, tap C T b s l k :=
  sum_step (n := 9) (by norm_num) (sum8 C T b s l) (w := val_main_v0 (F := Ideal) C (ix3 b ⟨9 + s.val, by omega⟩ l))
    (by pointwise [val_main_v70, val_main_v69, val_main_v68, val_main_v67, val_main_v66, val_main_v65]) (pad_at C b _ l)

/-- and one more: tap 10. -/
theorem sum10 : val_main_v78 (F := Ideal) C T (ix3 b s l) = ∑ k ∈ Finset.range 11, tap C T b s l k :=
  sum_step (n := 10) (by norm_num) (sum9 C T b s l) (w := val_main_v0 (F := Ideal) C (ix3 b ⟨10 + s.val, by omega⟩ l))
    (by pointwise [val_main_v77, val_main_v76, val_main_v75, val_main_v74, val_main_v73, val_main_v72]) (pad_at C b _ l)

/-- and one more: tap 11. -/
theorem sum11 : val_main_v85 (F := Ideal) C T (ix3 b s l) = ∑ k ∈ Finset.range 12, tap C T b s l k :=
  sum_step (n := 11) (by norm_num) (sum10 C T b s l) (w := val_main_v0 (F := Ideal) C (ix3 b ⟨11 + s.val, by omega⟩ l))
    (by pointwise [val_main_v84, val_main_v83, val_main_v82, val_main_v81, val_main_v80, val_main_v79]) (pad_at C b _ l)

/-- and one more: tap 12. -/
theorem sum12 : val_main_v92 (F := Ideal) C T (ix3 b s l) = ∑ k ∈ Finset.range 13, tap C T b s l k :=
  sum_step (n := 12) (by norm_num) (sum11 C T b s l) (w := val_main_v0 (F := Ideal) C (ix3 b ⟨12 + s.val, by omega⟩ l))
    (by pointwise [val_main_v91, val_main_v90, val_main_v89, val_main_v88, val_main_v87, val_main_v86]) (pad_at C b _ l)

/-- and one more: tap 13. -/
theorem sum13 : val_main_v99 (F := Ideal) C T (ix3 b s l) = ∑ k ∈ Finset.range 14, tap C T b s l k :=
  sum_step (n := 13) (by norm_num) (sum12 C T b s l) (w := val_main_v0 (F := Ideal) C (ix3 b ⟨13 + s.val, by omega⟩ l))
    (by pointwise [val_main_v98, val_main_v97, val_main_v96, val_main_v95, val_main_v94, val_main_v93]) (pad_at C b _ l)

/-- and one more: tap 14. -/
theorem sum14 : val_main_v106 (F := Ideal) C T (ix3 b s l) = ∑ k ∈ Finset.range 15, tap C T b s l k :=
  sum_step (n := 14) (by norm_num) (sum13 C T b s l) (w := val_main_v0 (F := Ideal) C (ix3 b ⟨14 + s.val, by omega⟩ l))
    (by pointwise [val_main_v105, val_main_v104, val_main_v103, val_main_v102, val_main_v101, val_main_v100]) (pad_at C b _ l)

/-- and one more: tap 15. -/
theorem sum15 : val_main_v113 (F := Ideal) C T (ix3 b s l) = ∑ k ∈ Finset.range 16, tap C T b s l k :=
  sum_step (n := 15) (by norm_num) (sum14 C T b s l) (w := val_main_v0 (F := Ideal) C (ix3 b ⟨15 + s.val, by omega⟩ l))
    (by pointwise [val_main_v112, val_main_v111, val_main_v110, val_main_v109, val_main_v108, val_main_v107]) (pad_at C b _ l)

/-- and one more: tap 16. -/
theorem sum16 : val_main_v120 (F := Ideal) C T (ix3 b s l) = ∑ k ∈ Finset.range 17, tap C T b s l k :=
  sum_step (n := 16) (by norm_num) (sum15 C T b s l) (w := val_main_v0 (F := Ideal) C (ix3 b ⟨16 + s.val, by omega⟩ l))
    (by pointwise [val_main_v119, val_main_v118, val_main_v117, val_main_v116, val_main_v115, val_main_v114]) (pad_at C b _ l)

/-- and one more: tap 17. -/
theorem sum17 : val_main_v127 (F := Ideal) C T (ix3 b s l) = ∑ k ∈ Finset.range 18, tap C T b s l k :=
  sum_step (n := 17) (by norm_num) (sum16 C T b s l) (w := val_main_v0 (F := Ideal) C (ix3 b ⟨17 + s.val, by omega⟩ l))
    (by pointwise [val_main_v126, val_main_v125, val_main_v124, val_main_v123, val_main_v122, val_main_v121]) (pad_at C b _ l)

/-- and one more: tap 18. -/
theorem sum18 : val_main_v134 (F := Ideal) C T (ix3 b s l) = ∑ k ∈ Finset.range 19, tap C T b s l k :=
  sum_step (n := 18) (by norm_num) (sum17 C T b s l) (w := val_main_v0 (F := Ideal) C (ix3 b ⟨18 + s.val, by omega⟩ l))
    (by pointwise [val_main_v133, val_main_v132, val_main_v131, val_main_v130, val_main_v129, val_main_v128]) (pad_at C b _ l)

/-- and one more: tap 19. -/
theorem sum19 : val_main_v141 (F := Ideal) C T (ix3 b s l) = ∑ k ∈ Finset.range 20, tap C T b s l k :=
  sum_step (n := 19) (by norm_num) (sum18 C T b s l) (w := val_main_v0 (F := Ideal) C (ix3 b ⟨19 + s.val, by omega⟩ l))
    (by pointwise [val_main_v140, val_main_v139, val_main_v138, val_main_v137, val_main_v136, val_main_v135]) (pad_at C b _ l)

/-- and one more: tap 20. -/
theorem sum20 : val_main_v148 (F := Ideal) C T (ix3 b s l) = ∑ k ∈ Finset.range 21, tap C T b s l k :=
  sum_step (n := 20) (by norm_num) (sum19 C T b s l) (w := val_main_v0 (F := Ideal) C (ix3 b ⟨20 + s.val, by omega⟩ l))
    (by pointwise [val_main_v147, val_main_v146, val_main_v145, val_main_v144, val_main_v143, val_main_v142]) (pad_at C b _ l)

/-- and one more: tap 21. -/
theorem sum21 : val_main_v155 (F := Ideal) C T (ix3 b s l) = ∑ k ∈ Finset.range 22, tap C T b s l k :=
  sum_step (n := 21) (by norm_num) (sum20 C T b s l) (w := val_main_v0 (F := Ideal) C (ix3 b ⟨21 + s.val, by omega⟩ l))
    (by pointwise [val_main_v154, val_main_v153, val_main_v152, val_main_v151, val_main_v150, val_main_v149]) (pad_at C b _ l)

/-- and one more: tap 22. -/
theorem sum22 : val_main_v162 (F := Ideal) C T (ix3 b s l) = ∑ k ∈ Finset.range 23, tap C T b s l k :=
  sum_step (n := 22) (by norm_num) (sum21 C T b s l) (w := val_main_v0 (F := Ideal) C (ix3 b ⟨22 + s.val, by omega⟩ l))
    (by pointwise [val_main_v161, val_main_v160, val_main_v159, val_main_v158, val_main_v157, val_main_v156]) (pad_at C b _ l)

/-- and one more: tap 23. -/
theorem sum23 : val_main_v169 (F := Ideal) C T (ix3 b s l) = ∑ k ∈ Finset.range 24, tap C T b s l k :=
  sum_step (n := 23) (by norm_num) (sum22 C T b s l) (w := val_main_v0 (F := Ideal) C (ix3 b ⟨23 + s.val, by omega⟩ l))
    (by pointwise [val_main_v168, val_main_v167, val_main_v166, val_main_v165, val_main_v164, val_main_v163]) (pad_at C b _ l)

/-- and one more: tap 24. -/
theorem sum24 : val_main_v176 (F := Ideal) C T (ix3 b s l) = ∑ k ∈ Finset.range 25, tap C T b s l k :=
  sum_step (n := 24) (by norm_num) (sum23 C T b s l) (w := val_main_v0 (F := Ideal) C (ix3 b ⟨24 + s.val, by omega⟩ l))
    (by pointwise [val_main_v175, val_main_v174, val_main_v173, val_main_v172, val_main_v171, val_main_v170]) (pad_at C b _ l)

/-- and one more: tap 25. -/
theorem sum25 : val_main_v183 (F := Ideal) C T (ix3 b s l) = ∑ k ∈ Finset.range 26, tap C T b s l k :=
  sum_step (n := 25) (by norm_num) (sum24 C T b s l) (w := val_main_v0 (F := Ideal) C (ix3 b ⟨25 + s.val, by omega⟩ l))
    (by pointwise [val_main_v182, val_main_v181, val_main_v180, val_main_v179, val_main_v178, val_main_v177]) (pad_at C b _ l)

/-- and one more: tap 26. -/
theorem sum26 : val_main_v190 (F := Ideal) C T (ix3 b s l) = ∑ k ∈ Finset.range 27, tap C T b s l k :=
  sum_step (n := 26) (by norm_num) (sum25 C T b s l) (w := val_main_v0 (F := Ideal) C (ix3 b ⟨26 + s.val, by omega⟩ l))
    (by pointwise [val_main_v189, val_main_v188, val_main_v187, val_main_v186, val_main_v185, val_main_v184]) (pad_at C b _ l)

/-- and one more: tap 27. -/
theorem sum27 : val_main_v197 (F := Ideal) C T (ix3 b s l) = ∑ k ∈ Finset.range 28, tap C T b s l k :=
  sum_step (n := 27) (by norm_num) (sum26 C T b s l) (w := val_main_v0 (F := Ideal) C (ix3 b ⟨27 + s.val, by omega⟩ l))
    (by pointwise [val_main_v196, val_main_v195, val_main_v194, val_main_v193, val_main_v192, val_main_v191]) (pad_at C b _ l)

/-- and one more: tap 28. -/
theorem sum28 : val_main_v204 (F := Ideal) C T (ix3 b s l) = ∑ k ∈ Finset.range 29, tap C T b s l k :=
  sum_step (n := 28) (by norm_num) (sum27 C T b s l) (w := val_main_v0 (F := Ideal) C (ix3 b ⟨28 + s.val, by omega⟩ l))
    (by pointwise [val_main_v203, val_main_v202, val_main_v201, val_main_v200, val_main_v199, val_main_v198]) (pad_at C b _ l)

/-- and one more: tap 29. -/
theorem sum29 : val_main_v211 (F := Ideal) C T (ix3 b s l) = ∑ k ∈ Finset.range 30, tap C T b s l k :=
  sum_step (n := 29) (by norm_num) (sum28 C T b s l) (w := val_main_v0 (F := Ideal) C (ix3 b ⟨29 + s.val, by omega⟩ l))
    (by pointwise [val_main_v210, val_main_v209, val_main_v208, val_main_v207, val_main_v206, val_main_v205]) (pad_at C b _ l)

/-- and one more: tap 30. -/
theorem sum30 : val_main_v218 (F := Ideal) C T (ix3 b s l) = ∑ k ∈ Finset.range 31, tap C T b s l k :=
  sum_step (n := 30) (by norm_num) (sum29 C T b s l) (w := val_main_v0 (F := Ideal) C (ix3 b ⟨30 + s.val, by omega⟩ l))
    (by pointwise [val_main_v217, val_main_v216, val_main_v215, val_main_v214, val_main_v213, val_main_v212]) (pad_at C b _ l)

/-- The reference's convolution. -/
theorem conv_at :
    val_main_v222 (F := Ideal) C T B (ix3 b s l) = conv C T B b s l := by
  have h : val_main_v222 (F := Ideal) C T B (ix3 b s l) = val_main_v218 (F := Ideal) C T (ix3 b s l) + B (ix2 0 l) := by
    pointwise [val_main_v222, val_main_v221, val_main_v220, val_main_v219]
  rw [h, sum30, conv_of_taps]

end SampleTail
-- ==== Proof.Sample.RefValue.lean ====
/-
  What the tail reference computes at the sample batch's shapes, index by index: `tail` of its arguments.
-/
module

public import proofs.«01_k».proof.Proof.Sample.RefConv
public import proofs.«01_k».proof.Proof.Gen.SampleTailReferenceIdeal.Run
public import proofs.«01_k».proof.Proof.Gen.SampleTailReferenceIdeal.Read
public import Idealize.ShloMosaic.Lib.KernelVsHost
public import Idealize.ShloMosaic.Lib.Pipeline.Value

@[expose] public section

set_option maxRecDepth 16384

noncomputable section

namespace SampleTail

open Tail Cert.SampleTailReferenceIdeal Cert.SampleTailReferenceIdeal.Gen Cert.SampleTailReferenceIdeal.Read Idealize.ShloMosaic Idealize.ShloMosaic.TcCoe Idealize.SL.Sem
open Idealize.ShloMosaic.Pointwise

variable (x : Vec Ideal S32x2048x1024 .f32) (a : Vec Ideal S32x2048x512 .bf16) (C : Vec Ideal S32x2048x512 .f32) (T : Vec Ideal S31x512 .f32)
  (B g β : Vec Ideal S1x512 .f32) (W : Vec Ideal S1024x1024 .bf16) (gm : Vec Ideal S1x1024 .f32) (U : Vec Ideal S1024x4096 .bf16)
  (D : Vec Ideal S4096x1024 .bf16) (gf : Vec Ideal S1x1024 .f32) (b : Fin 32) (s : Fin 2048)

/-- The mean over the channels. -/
theorem mean_at : val_main_v226 (F := Ideal) C T B (ix3 b s 0) = mean (fun l => conv C T B b s l) := by
  have h : val_main_v226 (F := Ideal) C T B (ix3 b s 0)
      = Ideal.div (∑ l, val_main_v222 (F := Ideal) C T B (ix3 b s l)) (Ideal.ofBits FTy.f32 0x44000000#32) := by
    pointwise [val_main_v226, val_main_v225, val_main_cst_1, val_main_v224, val_main_v223, val_main_cst_0]
  rw [h]
  simp only [conv_at]
  rfl

/-- The centred channels. -/
theorem centred_at (l : Fin 512) : val_main_v228 (F := Ideal) C T B (ix3 b s l) = centred (fun l => conv C T B b s l) l := by
  have h : val_main_v228 (F := Ideal) C T B (ix3 b s l)
      = val_main_v222 (F := Ideal) C T B (ix3 b s l) - val_main_v226 (F := Ideal) C T B (ix3 b s 0) := by
    pointwise [val_main_v228, val_main_v227]
  rw [h, conv_at, mean_at]
  rfl

/-- The layer norm. -/
theorem layerNorm_at (l : Fin 512) :
    val_main_v246 (F := Ideal) C T B g β (ix3 b s l)
      = layerNorm (fun l => conv C T B b s l) (fun l => g (ix2 0 l)) (fun l => β (ix2 0 l)) l := by
  have h : val_main_v246 (F := Ideal) C T B g β (ix3 b s l)
      = val_main_v228 (F := Ideal) C T B (ix3 b s l) * Ideal.rsqrt (Ideal.div (∑ k, val_main_v228 (F := Ideal) C T B (ix3 b s k)
          * val_main_v228 (F := Ideal) C T B (ix3 b s k)) (Ideal.ofBits FTy.f32 0x44000000#32) + Ideal.ofBits FTy.f32 0x3727C5AC#32)
          * g (ix2 0 l) + β (ix2 0 l) := by
    pointwise [val_main_v246, val_main_v245, val_main_v244, val_main_v243, val_main_v242, val_main_v241, val_main_v240, val_main_v239,
      val_main_v238, val_main_v237, val_main_v236, val_main_v235, val_main_v234, val_main_cst_4, val_main_v233, val_main_v232, val_main_cst_3,
      val_main_v231, val_main_v230, val_main_cst_2, val_main_v229]
  rw [h]
  simp only [centred_at]
  rfl

/-- The activation. -/
theorem active_at (l : Fin 512) :
    val_main_v247 (F := Ideal) C T B g β (ix3 b s l)
      = active (fun l => conv C T B b s l) (fun l => g (ix2 0 l)) (fun l => β (ix2 0 l)) l := by
  have h : val_main_v247 (F := Ideal) C T B g β (ix3 b s l)
      = val_main_v246 (F := Ideal) C T B g β (ix3 b s l)
        * Ideal.div 1 (1 + Ideal.exp (-val_main_v246 (F := Ideal) C T B g β (ix3 b s l))) := by
    pointwise [val_main_v247, val_main_call1_v5, val_main_call1_v4, val_main_call1_cst_0, val_main_call1_v3, val_main_call1_v2, val_main_call1_cst,
      val_main_call1_v1, val_main_call1_v0]
  rw [h, layerNorm_at]
  rfl

/-- The two mixers side by side: the attention, -/
theorem mixers_left (k : Fin 512) :
    val_main_v249 (F := Ideal) a C T B g β (ix3 b s ⟨k.val, by omega⟩) = a (ix3 b s k) := by
  unfold val_main_v249
  refine (Idealize.ShloMosaic.concatenate_pair_apply_left (t := S32x2048x1024) (s₁ := S32x2048x512) (s₂ := S32x2048x512) _ _ _ _ _ rfl (ix3 b s k) fun d => ?_).trans rfl
  match d with
  | ⟨0, _⟩ => rfl
  | ⟨1, _⟩ => rfl
  | ⟨2, _⟩ => rfl

/-- then the active channels. -/
theorem mixers_right (k : Fin 512) :
    val_main_v249 (F := Ideal) a C T B g β (ix3 b s ⟨512 + k.val, by omega⟩)
      = active (fun l => conv C T B b s l) (fun l => g (ix2 0 l)) (fun l => β (ix2 0 l)) k := by
  unfold val_main_v249
  refine (Idealize.ShloMosaic.concatenate_pair_apply_right (t := S32x2048x1024) (s₁ := S32x2048x512) (s₂ := S32x2048x512) _ _ _ _ _ rfl rfl (ix3 b s k) (fun d hd => ?_) ?_).trans (active_at C T B g β b s k)
  · match d, hd with
    | ⟨0, _⟩, _ => rfl
    | ⟨1, _⟩, _ => rfl
    | ⟨2, _⟩, hd => exact absurd rfl hd
  · exact Nat.add_comm _ _

/-- The first residual. -/
theorem mixed_at (o : Fin 1024) :
    val_main_v252 (F := Ideal) x a C T B g β W (ix3 b s o)
      = mixed (fun o => x (ix3 b s o)) (fun k => a (ix3 b s k))
          (active (fun l => conv C T B b s l) (fun l => g (ix2 0 l)) (fun l => β (ix2 0 l))) (fun k o => W (ix2 k o)) o := by
  have h : val_main_v252 (F := Ideal) x a C T B g β W (ix3 b s o)
      = x (ix3 b s o) + ∑ k : Fin 1024, val_main_v249 (F := Ideal) a C T B g β (ix3 b s k) * W (ix2 k o) := by
    pointwise [val_main_v252, val_main_v251, val_main_v250]
  rw [h, sum_halves]
  simp only [mixers_left, mixers_right]
  rfl

/-- The first RMS norm. -/
theorem rms_at (o : Fin 1024) :
    val_main_v266 (F := Ideal) x a C T B g β W gm (ix3 b s o)
      = rms (fun o => val_main_v252 (F := Ideal) x a C T B g β W (ix3 b s o)) (fun o => gm (ix2 0 o)) o := by
  pointwise [val_main_v266, val_main_v265, val_main_v264, val_main_v263, val_main_v262, val_main_v261, val_main_v260, val_main_v259,
    val_main_v258, val_main_cst_7, val_main_v257, val_main_v256, val_main_cst_6, val_main_v255, val_main_v254, val_main_cst_5, val_main_v253]
  rfl

/-- The hidden units. -/
theorem hidden_at (j : Fin 4096) :
    val_main_v270 (F := Ideal) x a C T B g β W gm U (ix3 b s j)
      = hidden (fun o => val_main_v266 (F := Ideal) x a C T B g β W gm (ix3 b s o)) (fun k j => U (ix2 k j)) j := by
  pointwise [val_main_v270, val_main_v269, val_main_call2_v0, val_main_call2_cst, val_main_v268, val_main_v267]
  rfl

/-- The second residual. -/
theorem mapped_at (o : Fin 1024) :
    val_main_v273 (F := Ideal) x a C T B g β W gm U D (ix3 b s o)
      = mapped (fun o => val_main_v252 (F := Ideal) x a C T B g β W (ix3 b s o)) (fun o => gm (ix2 0 o)) (fun k j => U (ix2 k j))
          (fun j o => D (ix2 j o)) o := by
  have h : val_main_v273 (F := Ideal) x a C T B g β W gm U D (ix3 b s o)
      = val_main_v252 (F := Ideal) x a C T B g β W (ix3 b s o)
        + ∑ j : Fin 4096, val_main_v270 (F := Ideal) x a C T B g β W gm U (ix3 b s j) * D (ix2 j o) := by
    pointwise [val_main_v273, val_main_v272, val_main_v271]
  rw [h]
  simp only [hidden_at, rms_at]
  rfl

/-- The last RMS norm. -/
theorem result_at (o : Fin 1024) :
    val_main_v287 (F := Ideal) x a C T B g β W gm U D gf (ix3 b s o)
      = rms (fun o => val_main_v273 (F := Ideal) x a C T B g β W gm U D (ix3 b s o)) (fun o => gf (ix2 0 o)) o := by
  pointwise [val_main_v287, val_main_v286, val_main_v285, val_main_v284, val_main_v283, val_main_v282, val_main_v281, val_main_v280,
    val_main_v279, val_main_cst_10, val_main_v278, val_main_v277, val_main_cst_9, val_main_v276, val_main_v275, val_main_cst_8, val_main_v274]
  rfl

/-- THE REFERENCE'S RESULT is `tail` of its arguments. -/
theorem reference_eq : val_main_v287 (F := Ideal) x a C T B g β W gm U D gf = tail x a C T B g β W gm U D gf := by
  have hv (b : Fin 32) (s : Fin 2048) (o : Fin 1024) :
      val_main_v287 (F := Ideal) x a C T B g β W gm U D gf (ix3 b s o) = tailAt x a C T B g β W gm U D gf b s o := by
    rw [result_at]
    simp only [mapped_at, mixed_at]
    rfl
  funext i
  have hi : i = ix3 (i 0) (i 1) (i 2) := by
    funext a
    match a with
    | ⟨0, _⟩ => rfl
    | ⟨1, _⟩ => rfl
    | ⟨2, _⟩ => rfl
  exact (congrArg _ hi).trans (hv (i 0) (i 1) (i 2))

open Idealize.ShloMosaic.StableHlo in
/-- The reference runs, ends with `tail` of its arguments, and leaves the arguments unchanged. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v287) = tail (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans ((val_main_v287_eq (launchContents m c)).trans (reference_eq _ _ _ _ _ _ _ _ _ _ _ _)), (h c).2⟩)
    (Cert.SampleTailReferenceIdeal.Value.run m ρ)

end SampleTail
-- ==== Proof.Proj.Spec.lean ====
/-
  What the projection computes, of `N` sequences of `S` positions in `J` tiles: the attention's queries, keys and values,
  and the convolution's gated channels.
-/
module

public import proofs.«01_k».proof.Proof.Tail.Rows

@[expose] public section

noncomputable section

namespace Proj

open Idealize.ShloMosaic Idealize.ShloMosaic.TcCoe Idealize.SL.Sem
open Idealize.ShloMosaic.Pointwise

/-- The coordinate that the rotary embedding pairs with coordinate `d`: the other half of the same axis. -/
def partner (d : Fin 64) : Fin 64 := ⟨if d.val % 32 < 16 then d.val + 16 else d.val - 16, by split <;> omega⟩

/-- The factor a head's RMS norm multiplies by. -/
def headScale (z : Fin 64 → EReal) : EReal :=
  Ideal.rsqrt (Ideal.div (∑ k, z k * z k) (Ideal.ofBits FTy.f32 0x42800000#32) + Ideal.ofBits FTy.f32 0x358637BD#32)

/-- A head turned by the tables `a` (cosines) and `b` (signed sines), and normed. -/
def turn (z a b : Fin 64 → EReal) (d : Fin 64) : EReal := (z d * a d + z (partner d) * b d) * headScale z

/-- A sum of squares is not negative. -/
theorem squares_nonneg (z : Fin 64 → EReal) : 0 ≤ ∑ k, z k * z k :=
  Finset.sum_nonneg fun k _ => by
    rcases le_total 0 (z k) with h | h
    · exact mul_nonneg h h
    · have hn : 0 ≤ -z k := EReal.neg_nonneg.mpr h
      have := mul_nonneg hn hn
      rwa [neg_mul_neg] at this

/-- The scale of a head is a real number, not negative. -/
theorem headScale_real (z : Fin 64 → EReal) : 0 ≤ headScale z ∧ headScale z ≠ ⊤ := by
  have h64 : Ideal.ofBits FTy.f32 0x42800000#32 = ((64 : ℝ) : EReal) := by
    simp [Ideal.ofBits, Ideal.ieee, -EReal.coe_mul]; norm_num
  have heps : ∃ r : ℝ, 0 < r ∧ Ideal.ofBits FTy.f32 0x358637BD#32 = (r : EReal) := by
    refine ⟨_, ?_, by simp [Ideal.ofBits, Ideal.ieee, -EReal.coe_mul]; rfl⟩
    norm_num
  obtain ⟨r, hr, he⟩ := heps
  unfold headScale
  rw [he, h64, Ideal.div_coe (by norm_num)]
  have hs : 0 ≤ (∑ k, z k * z k) * ((1 / 64 : ℝ) : EReal) :=
    mul_nonneg (squares_nonneg z) (by exact_mod_cast (by norm_num : (0 : ℝ) ≤ 1 / 64))
  generalize (∑ k, z k * z k) * ((1 / 64 : ℝ) : EReal) = y at hs
  induction y using EReal.rec with
  | bot => exact absurd hs (by simp)
  | top => rw [EReal.top_add_coe]; exact ⟨le_refl _, EReal.zero_ne_top⟩
  | coe q =>
    have hq : 0 ≤ q := by exact_mod_cast hs
    rw [← EReal.coe_add, Ideal.rsqrt_coe, if_neg (by linarith), if_neg (by linarith)]
    exact ⟨by exact_mod_cast inv_nonneg.mpr (Real.sqrt_nonneg _), EReal.coe_ne_top _⟩

/-- Norming after the rotation is norming before it. -/
theorem turn_eq (z a b : Fin 64 → EReal) (d : Fin 64) :
    turn z a b d = z d * headScale z * a d + z (partner d) * headScale z * b d := by
  unfold turn
  rw [EReal.right_distrib_of_nonneg_of_ne_top (headScale_real z).1 (headScale_real z).2, mul_right_comm, mul_right_comm (z (partner d))]

/-- Entry `e` of a row's projection to queries, keys and values. -/
def zRow (x g : Fin 1024 → EReal) (w : Fin 768 → Fin 1024 → EReal) (e : Fin 768) : EReal := ∑ k, Tail.rms x g k * w e k

/-- Entry `e` of a row's projection to the convolution's channels and their gates. -/
def uRow (x g : Fin 1024 → EReal) (w : Fin 1024 → Fin 1024 → EReal) (e : Fin 1024) : EReal := ∑ k, Tail.rms x g k * w k e

/-- A row's gated channel `l`. -/
def gated (x g : Fin 1024 → EReal) (w : Fin 1024 → Fin 1024 → EReal) (l : Fin 512) : EReal :=
  uRow x g w ⟨l.val, by omega⟩ * Ideal.logistic (uRow x g w ⟨512 + l.val, by omega⟩)

/-- Coordinate `d` of the turned head that starts at entry `o` of the row's projection. -/
def headRow (x g : Fin 1024 → EReal) (w : Fin 768 → Fin 1024 → EReal) (a b : Fin 64 → EReal) (o : ℕ) (ho : o + 64 ≤ 768) (d : Fin 64) : EReal :=
  turn (fun d => zRow x g w ⟨o + d.val, by omega⟩) a b d

section

variable {N S : ℕ} (x : Vec Ideal ⟨3, ![N, S, 1024]⟩ .f32) (g : Vec Ideal ⟨2, ![1, 1024]⟩ .f32) (w : Vec Ideal ⟨2, ![768, 1024]⟩ .bf16)
  (wc : Vec Ideal ⟨2, ![1024, 1024]⟩ .bf16) (T : Vec Ideal ⟨3, ![4, 64, S]⟩ .f32)

/-- Query head `h` at position `s`. -/
def qAt (b : Fin N) (h : Fin 8) (s : Fin S) (d : Fin 64) : EReal :=
  headRow (fun k => x (ix3 b s k)) (fun k => g (ix2 0 k)) (fun e k => w (ix2 e k)) (fun d => T (ix3 0 d s)) (fun d => T (ix3 1 d s))
    (64 * h.val) (by omega) d
/-- Key head `h` at position `s`. -/
def kAt (b : Fin N) (h : Fin 2) (s : Fin S) (d : Fin 64) : EReal :=
  headRow (fun k => x (ix3 b s k)) (fun k => g (ix2 0 k)) (fun e k => w (ix2 e k)) (fun d => T (ix3 2 d s)) (fun d => T (ix3 3 d s))
    (512 + 64 * h.val) (by omega) d
/-- Value head `h` at position `s`. -/
def vAt (b : Fin N) (h : Fin 2) (s : Fin S) (d : Fin 64) : EReal :=
  zRow (fun k => x (ix3 b s k)) (fun k => g (ix2 0 k)) (fun e k => w (ix2 e k)) ⟨640 + 64 * h.val + d.val, by omega⟩
/-- Gated channel `l` at position `s`. -/
def cAt (b : Fin N) (s : Fin S) (l : Fin 512) : EReal :=
  gated (fun k => x (ix3 b s k)) (fun k => g (ix2 0 k)) (fun k e => wc (ix2 k e)) l

end

variable {N S J : ℕ} (hS : 512 * J = S) (x : Vec Ideal ⟨3, ![N, S, 1024]⟩ .f32) (g : Vec Ideal ⟨2, ![1, 1024]⟩ .f32) (w : Vec Ideal ⟨2, ![768, 1024]⟩ .bf16)
  (wc : Vec Ideal ⟨2, ![1024, 1024]⟩ .bf16) (T : Vec Ideal ⟨3, ![4, 64, S]⟩ .f32)

/-- Position `t` of tile `j`. -/
def place (j : Fin J) (t : Fin 512) : Fin S := ⟨512 * j.val + t.val, by omega⟩

/-- The queries, tile by tile. -/
def queries : Vec Ideal ⟨5, ![N, 8, J, 64, 512]⟩ .bf16 := fun i => qAt x g w T (i 0) (i 1) (place hS (i 2) (i 4)) (i 3)
/-- The keys. -/
def keys : Vec Ideal ⟨4, ![N, 2, S, 64]⟩ .bf16 := fun i => kAt x g w T (i 0) (i 1) (i 2) (i 3)
/-- The values, tile by tile. -/
def values : Vec Ideal ⟨5, ![N, 2, J, 64, 512]⟩ .bf16 := fun i => vAt x g w (i 0) (i 1) (place hS (i 2) (i 4)) (i 3)
/-- The gated channels. -/
def channels : Vec Ideal ⟨3, ![N, S, 512]⟩ .f32 := fun i => cAt x g wc (i 0) (i 1) (i 2)

end Proj
-- ==== Proof.Proj.Head.lean ====
/-
  What the projection's body computes: a head turned and normed, on whole vectors and entry by entry.
-/
module

public import proofs.«01_k».proof.Proof.Proj.Spec
public import proofs.«01_k».proof.Proof.Gen.ProjIdeal.Frame
public import Idealize.ShloMosaic.Lib.Pipeline.Value

@[expose] public section

set_option maxRecDepth 16384

noncomputable section

namespace Proj

open Cert.ProjIdeal Cert.ProjIdeal.Gen Idealize.ShloMosaic Idealize.ShloMosaic.TcCoe Idealize.SL.Sem
open Idealize.ShloMosaic.Pointwise

/-- The head with the two halves of each axis exchanged. -/
abbrev exchanged (z : FVec Ideal S64x512 .f32) : FVec Ideal S64x512 .f32 :=
  concatenate S64x512 0 [⟨S16x512, extractStridedSlice S16x512 ![16, 0] z slices_S64x512_o16_0_S16x512⟩,
    ⟨S16x512, extractStridedSlice S16x512 ![0, 0] z slices_S64x512_o0_0_S16x512⟩,
    ⟨S16x512, extractStridedSlice S16x512 ![48, 0] z slices_S64x512_o48_0_S16x512⟩,
    ⟨S16x512, extractStridedSlice S16x512 ![32, 0] z slices_S64x512_o32_0_S16x512⟩] concatenates_S16x512_S16x512_S16x512_S16x512_S64x512_d0

/-- The four exchanged quarters. -/
def quarter (z : FVec Ideal S64x512 .f32) (n : Fin 4) : S16x512.Idx → Ideal .f32 :=
  match n with
  | 0 => extractStridedSlice S16x512 ![16, 0] z slices_S64x512_o16_0_S16x512
  | 1 => extractStridedSlice S16x512 ![0, 0] z slices_S64x512_o0_0_S16x512
  | 2 => extractStridedSlice S16x512 ![48, 0] z slices_S64x512_o48_0_S16x512
  | 3 => extractStridedSlice S16x512 ![32, 0] z slices_S64x512_o32_0_S16x512

theorem quarter_apply (z : FVec Ideal S64x512 .f32) (n : Fin 4) (r : Fin 16) (t : Fin 512) :
    quarter z n (ix2 r t) = z (ix2 (partner ⟨16 * n.val + r.val, by omega⟩) t) := by
  have hr := r.isLt
  match n with
  | 0 =>
    refine congrArg z (funext fun a => Fin.ext ?_)
    match a with
    | ⟨0, _⟩ => show 16 + r.val = if (16 * 0 + r.val) % 32 < 16 then 16 * 0 + r.val + 16 else 16 * 0 + r.val - 16; split <;> omega
    | ⟨1, _⟩ => show 0 + t.val = t.val; omega
  | 1 =>
    refine congrArg z (funext fun a => Fin.ext ?_)
    match a with
    | ⟨0, _⟩ => show 0 + r.val = if (16 * 1 + r.val) % 32 < 16 then 16 * 1 + r.val + 16 else 16 * 1 + r.val - 16; split <;> omega
    | ⟨1, _⟩ => show 0 + t.val = t.val; omega
  | 2 =>
    refine congrArg z (funext fun a => Fin.ext ?_)
    match a with
    | ⟨0, _⟩ => show 48 + r.val = if (16 * 2 + r.val) % 32 < 16 then 16 * 2 + r.val + 16 else 16 * 2 + r.val - 16; split <;> omega
    | ⟨1, _⟩ => show 0 + t.val = t.val; omega
  | 3 =>
    refine congrArg z (funext fun a => Fin.ext ?_)
    match a with
    | ⟨0, _⟩ => show 32 + r.val = if (16 * 3 + r.val) % 32 < 16 then 16 * 3 + r.val + 16 else 16 * 3 + r.val - 16; split <;> omega
    | ⟨1, _⟩ => show 0 + t.val = t.val; omega

/-- Exchanging the halves reads the partner's entry. -/
theorem exchanged_apply (z : FVec Ideal S64x512 .f32) (d : Fin 64) (t : Fin 512) : exchanged z (ix2 d t) = z (ix2 (partner d) t) := by
  have e : exchanged z = concatenate S64x512 0 (List.ofFn fun n : Fin 4 => (⟨S16x512, quarter z n⟩ : (s : Shape) × (s.Idx → Ideal .f32)))
      concatenates_S16x512_S16x512_S16x512_S16x512_S64x512_d0 := rfl
  rw [e]
  refine (Idealize.ShloMosaic.concatenate_ofFn_apply (t := S64x512) (s₁ := S16x512) 0 (quarter z) _ rfl 16 rfl (ix2 d t) ⟨d.val / 16, by omega⟩ rfl
    (ix2 ⟨d.val % 16, by omega⟩ t) rfl (fun b hb => by
      match b, hb with
      | ⟨0, _⟩, hb => exact absurd rfl hb
      | ⟨1, _⟩, _ => rfl)).trans ((quarter_apply z _ _ t).trans ?_)
  refine congrArg (fun d => z (ix2 (partner d) t)) (Fin.ext ?_)
  show 16 * (d.val / 16) + d.val % 16 = d.val
  omega

/-- The body's rotation and norm of a head, on whole vectors. -/
def turned (z : FVec Ideal S64x512 .f32) (a b : Vec Ideal S1x64x512 .f32) : FVec Ideal S64x512 .f32 :=
  mulf (addf (mulf z (shapeCast S64x512 a shapeCasts_S1x64x512_S64x512)) (mulf (exchanged z) (shapeCast S64x512 b shapeCasts_S1x64x512_S64x512)))
    (broadcastTo S64x512 (rsqrt (addf (divf (shapeCast S1x512 (multiReduction .add [0] S512 (mulf z z) 0x00000000#32 reduces_S64x512_S512 (.inl rfl) rfl)
      shapeCasts_S512_S1x512) (broadcast S1x512 (Scalar.ofBits .f32 0x42800000#32))) (broadcast S1x512 (Scalar.ofBits .f32 0x358637BD#32))))
      broadcasts_S1x512_S64x512)

/-- Entry by entry it is `turn`. -/
theorem turned_apply (z : FVec Ideal S64x512 .f32) (a b : Vec Ideal S1x64x512 .f32) (d : Fin 64) (t : Fin 512) :
    turned z a b (ix2 d t) = turn (fun d => z (ix2 d t)) (fun d => a (ix3 0 d t)) (fun d => b (ix3 0 d t)) d := by
  unfold turned
  generalize he : exchanged z = e
  have h : ∀ d, e (ix2 d t) = z (ix2 (partner d) t) := fun d => by rw [← he]; exact exchanged_apply z d t
  pointwise []
  rw [h]
  rfl

/-- A vector laid out as a block of queries or values. -/
theorem laid_apply (v : FVec Ideal S64x512 .f32) (i : S1x1x1x64x512.Idx) :
    shapeCast S1x1x1x64x512 (truncf .bf16 v bitsLt_bf16_f32) shapeCasts_S64x512_S1x1x1x64x512 i = v (ix2 (i 3) (i 4)) := by
  refine (Idealize.ShloMosaic.shapeCast_apply _ _ _ (ix2 (i 3) (i 4)) ?_).trans rfl
  have h0 : (i 0).val < 1 := (i 0).isLt
  have h1 : (i 1).val < 1 := (i 1).isLt
  have h2 : (i 2).val < 1 := (i 2).isLt
  rw [Shape.rowMajor_val_two, Shape.rowMajor_val_five]
  show (i 3).val * 512 + (i 4).val = ((((i 0).val * 1 + (i 1).val) * 1 + (i 2).val) * 64 + (i 3).val) * 512 + (i 4).val
  omega

variable (x0 : Vec Ideal S1x512x1024 .f32) (x1 : Vec Ideal S1x1024 .f32) (x2 : Vec Ideal S768x1024 .bf16) (x3 : Vec Ideal S1024x1024 .bf16)
  (x4 : Vec Ideal S4x64x512 .f32)

/-- The projection of a block's rows. -/
theorem z_apply (e : Fin 768) (t : Fin 512) :
    k0_pay35 x0 x1 x2 x3 x4 (ix2 e t) = zRow (fun k => x0 (ix3 0 t k)) (fun k => x1 (ix2 0 k)) (fun e k => x2 (ix2 e k)) e := by
  have e0 := View.ld_unit_zero (Val := Elt Ideal) (S := S1x512x1024) (off := ![0, 0, 0]) (by decide) inb_S1x512x1024_S1x512x1024_0_0_0 x0
  have e1 := View.ld_unit_zero (Val := Elt Ideal) (S := S1x1024) (off := ![0, 0]) (by decide) inb_S1x1024_S1x1024_0_0 x1
  have e2 := View.ld_unit_zero (Val := Elt Ideal) (S := S768x1024) (off := ![0, 0]) (by decide) inb_S768x1024_S768x1024_0_0 x2
  unfold k0_pay35
  rw [e0, e1, e2]
  have h : k0_pay5 x0 x1 x2 (ix2 e t) = ∑ k, x2 (ix2 e k) * Tail.rms (fun k => x0 (ix3 0 t k)) (fun k => x1 (ix2 0 k)) k := by
    pointwise [k0_pay5, k0_pay3]
    rfl
  exact h.trans (Finset.sum_congr rfl fun k _ => mul_comm _ _)

/-- A head of the block: `headRow` of the row. -/
theorem head_at (o : ℕ) (ho : o + 64 ≤ 768) (hs : S768x512.Slices ![o, 0] S64x512) (a b : Vec Ideal S1x64x512 .f32) (d : Fin 64) (t : Fin 512) :
    turned (extractStridedSlice S64x512 ![o, 0] (k0_pay35 x0 x1 x2 x3 x4) hs) a b (ix2 d t)
      = headRow (fun k => x0 (ix3 0 t k)) (fun k => x1 (ix2 0 k)) (fun e k => x2 (ix2 e k)) (fun d => a (ix3 0 d t)) (fun d => b (ix3 0 d t)) o ho d := by
  rw [turned_apply]
  unfold headRow
  refine congrArg (fun z => turn z (fun d => a (ix3 0 d t)) (fun d => b (ix3 0 d t)) d) (funext fun d => ?_)
  refine Eq.trans ?_ (z_apply x0 x1 x2 x3 x4 ⟨o + d.val, by omega⟩ t)
  refine congrArg (k0_pay35 x0 x1 x2 x3 x4) (funext fun a => Fin.ext ?_)
  match a with
  | ⟨0, _⟩ => rfl
  | ⟨1, _⟩ => show 0 + t.val = t.val; omega

end Proj
-- ==== Proof.Proj.Block.lean ====
/-
  The blocks the projection's body writes, entry by entry.
-/
module

public import proofs.«01_k».proof.Proof.Proj.Head

@[expose] public section

set_option maxRecDepth 16384

noncomputable section

namespace Proj

open Cert.ProjIdeal Cert.ProjIdeal.Gen Idealize.ShloMosaic Idealize.ShloMosaic.TcCoe Idealize.SL.Sem
open Idealize.ShloMosaic.Pointwise

variable (x0 : Vec Ideal S1x512x1024 .f32) (x1 : Vec Ideal S1x1024 .f32) (x2 : Vec Ideal S768x1024 .bf16) (x3 : Vec Ideal S1024x1024 .bf16)
  (x4 : Vec Ideal S4x64x512 .f32)

/-- Equal coordinates give equal entries. -/
theorem coords_congr {α β γ δ : Type} (f : α → β → γ → δ → EReal) {a a' : α} {b b' : β} {c c' : γ} {d d' : δ}
    (ha : a = a') (hb : b = b') (hc : c = c') (hd : d = d') : f a b c d = f a' b' c' d' := by rw [ha, hb, hc, hd]

/-- Query head `h` of the block at column `t`. -/
def qBlockAt (h : Fin 8) (d : Fin 64) (t : Fin 512) : EReal :=
  headRow (fun k => x0 (ix3 0 t k)) (fun k => x1 (ix2 0 k)) (fun e k => x2 (ix2 e k)) (fun d => x4 (ix3 0 d t)) (fun d => x4 (ix3 1 d t))
    (64 * h.val) (by omega) d
/-- Key head `h` of the block at row `t`. -/
def kBlockAt (h : Fin 2) (t : Fin 512) (d : Fin 64) : EReal :=
  headRow (fun k => x0 (ix3 0 t k)) (fun k => x1 (ix2 0 k)) (fun e k => x2 (ix2 e k)) (fun d => x4 (ix3 2 d t)) (fun d => x4 (ix3 3 d t))
    (512 + 64 * h.val) (by omega) d
/-- Value head `h` of the block at column `t`. -/
def vBlockAt (h : Fin 2) (d : Fin 64) (t : Fin 512) : EReal :=
  zRow (fun k => x0 (ix3 0 t k)) (fun k => x1 (ix2 0 k)) (fun e k => x2 (ix2 e k)) ⟨640 + 64 * h.val + d.val, by omega⟩
/-- Gated channel `l` of the block at row `t`. -/
def cBlockAt (t l : Fin 512) : EReal :=
  gated (fun k => x0 (ix3 0 t k)) (fun k => x1 (ix2 0 k)) (fun k e => x3 (ix2 k e)) l

/-- The query block. -/
def qBlock : Vec Ideal S1x8x1x64x512 .bf16 := fun y => qBlockAt x0 x1 x2 x4 (y 1) (y 3) (y 4)
/-- The key block. -/
def kBlock : Vec Ideal S1x2x512x64 .bf16 := fun y => kBlockAt x0 x1 x2 x4 (y 1) (y 2) (y 3)
/-- The value block. -/
def vBlock : Vec Ideal S1x2x1x64x512 .bf16 := fun y => vBlockAt x0 x1 x2 (y 1) (y 3) (y 4)
/-- The block of gated channels. -/
def cBlock : Vec Ideal S1x512x512 .f32 := fun y => cBlockAt x0 x1 x3 (y 1) (y 2)

/-- Table 0 of the block. -/
theorem table0 (d : Fin 64) (t : Fin 512) : View.ld x4 r0_5 (ix3 0 d t) = x4 (ix3 0 d t) := by
  refine congrArg x4 (funext fun a => Fin.ext ?_)
  match a with
  | ⟨0, _⟩ => rfl
  | ⟨1, _⟩ => show 0 + 1 * d.val = d.val; omega
  | ⟨2, _⟩ => show 0 + 1 * t.val = t.val; omega

/-- Table 1 of the block. -/
theorem table1 (d : Fin 64) (t : Fin 512) : View.ld x4 r0_6 (ix3 0 d t) = x4 (ix3 1 d t) := by
  refine congrArg x4 (funext fun a => Fin.ext ?_)
  match a with
  | ⟨0, _⟩ => rfl
  | ⟨1, _⟩ => show 0 + 1 * d.val = d.val; omega
  | ⟨2, _⟩ => show 0 + 1 * t.val = t.val; omega

/-- Table 2 of the block. -/
theorem table2 (d : Fin 64) (t : Fin 512) : View.ld x4 r0_15 (ix3 0 d t) = x4 (ix3 2 d t) := by
  refine congrArg x4 (funext fun a => Fin.ext ?_)
  match a with
  | ⟨0, _⟩ => rfl
  | ⟨1, _⟩ => show 0 + 1 * d.val = d.val; omega
  | ⟨2, _⟩ => show 0 + 1 * t.val = t.val; omega

/-- Table 3 of the block. -/
theorem table3 (d : Fin 64) (t : Fin 512) : View.ld x4 r0_16 (ix3 0 d t) = x4 (ix3 3 d t) := by
  refine congrArg x4 (funext fun a => Fin.ext ?_)
  match a with
  | ⟨0, _⟩ => rfl
  | ⟨1, _⟩ => show 0 + 1 * d.val = d.val; omega
  | ⟨2, _⟩ => show 0 + 1 * t.val = t.val; omega

/-- Equal indices give equal entries. -/
theorem entry_congr {α β γ : Type} (f : α → β → γ → EReal) {a a' : α} {b b' : β} {c c' : γ} (ha : a = a') (hb : b = b') (hc : c = c') :
    f a b c = f a' b' c' := by rw [ha, hb, hc]

/-- Equal tables give equal heads. -/
theorem headRow_congr {x g : Fin 1024 → EReal} {w : Fin 768 → Fin 1024 → EReal} {a a' b b' : Fin 64 → EReal} {o : ℕ} {ho : o + 64 ≤ 768} {d : Fin 64}
    (ha : a = a') (hb : b = b') : headRow x g w a b o ho d = headRow x g w a' b' o ho d := by rw [ha, hb]

/-- What is stored for query head `h`. -/
theorem q_piece (h : Fin 8) (o : ℕ) (ho : o = 64 * h.val) (hs : S768x512.Slices ![o, 0] S64x512) (x : S1x1x1x64x512.Idx) (y : S1x8x1x64x512.Idx)
    (h1 : (y 1).val = h.val) (h3 : (y 3).val = (x 3).val) (h4 : (y 4).val = (x 4).val) :
    shapeCast S1x1x1x64x512 (truncf .bf16 (turned (extractStridedSlice S64x512 ![o, 0] (k0_pay35 x0 x1 x2 x3 x4) hs) (View.ld x4 r0_5) (View.ld x4 r0_6))
      bitsLt_bf16_f32) shapeCasts_S64x512_S1x1x1x64x512 x = qBlock x0 x1 x2 x4 y := by
  subst ho
  refine (laid_apply _ x).trans ((head_at x0 x1 x2 x3 x4 (64 * h.val) (by omega) hs _ _ (x 3) (x 4)).trans ?_)
  have e1 : h = y 1 := Fin.ext h1.symm
  have e3 : x 3 = y 3 := Fin.ext h3.symm
  have e4 : x 4 = y 4 := Fin.ext h4.symm
  refine Eq.trans ?_ (entry_congr (qBlockAt x0 x1 x2 x4) e1 e3 e4)
  have ea : (fun d => View.ld x4 r0_5 (ix3 0 d (x 4))) = fun d => x4 (ix3 0 d (x 4)) := funext fun d => table0 x4 d (x 4)
  have eb : (fun d => View.ld x4 r0_6 (ix3 0 d (x 4))) = fun d => x4 (ix3 1 d (x 4)) := funext fun d => table1 x4 d (x 4)
  exact headRow_congr ea eb

/-- What is stored for value head `h`. -/
theorem v_piece (h : Fin 2) (o : ℕ) (ho : o = 640 + 64 * h.val) (hs : S768x512.Slices ![o, 0] S64x512) (x : S1x1x1x64x512.Idx) (y : S1x2x1x64x512.Idx)
    (h1 : (y 1).val = h.val) (h3 : (y 3).val = (x 3).val) (h4 : (y 4).val = (x 4).val) :
    shapeCast S1x1x1x64x512 (truncf .bf16 (extractStridedSlice S64x512 ![o, 0] (k0_pay35 x0 x1 x2 x3 x4) hs) bitsLt_bf16_f32)
      shapeCasts_S64x512_S1x1x1x64x512 x = vBlock x0 x1 x2 y := by
  subst ho
  have e1 : h = y 1 := Fin.ext h1.symm
  have e3 : x 3 = y 3 := Fin.ext h3.symm
  have e4 : x 4 = y 4 := Fin.ext h4.symm
  refine (laid_apply _ x).trans (Eq.trans ?_ (entry_congr (vBlockAt x0 x1 x2) e1 e3 e4))
  have hx : (x 3).val < 64 := (x 3).isLt
  refine Eq.trans ?_ (z_apply x0 x1 x2 x3 x4 ⟨640 + 64 * h.val + (x 3).val, by omega⟩ (x 4))
  refine congrArg (k0_pay35 x0 x1 x2 x3 x4) (funext fun a => Fin.ext ?_)
  match a with
  | ⟨0, _⟩ => rfl
  | ⟨1, _⟩ => show 0 + (x 4).val = (x 4).val; omega

/-- The queries the body writes. -/
theorem q_block (y : S1x8x1x64x512.Idx) : out0_5 x0 x1 x2 x3 x4 y = qBlock x0 x1 x2 x4 y := by
  refine View.canon_apply_of_pieces (qBlock x0 x1 x2 x4) _ ?_ y (cover0_5 _ _ _ _ _ _ _ _ y)
  intro pc hpc
  rcases List.mem_cons.mp hpc with rfl | hpc
  · intro x
    have u1 : (x 1).val < 1 := (x 1).isLt
    exact q_piece x0 x1 x2 x3 x4 7 448 rfl slices_S768x512_o448_0_S64x512 x (r0_14.idx x) (by show 7 + 1 * (x 1).val = 7; omega)
      (by show 0 + 1 * (x 3).val = (x 3).val; omega) (by show 0 + 1 * (x 4).val = (x 4).val; omega)
  rcases List.mem_cons.mp hpc with rfl | hpc
  · intro x
    have u1 : (x 1).val < 1 := (x 1).isLt
    exact q_piece x0 x1 x2 x3 x4 6 384 rfl slices_S768x512_o384_0_S64x512 x (r0_13.idx x) (by show 6 + 1 * (x 1).val = 6; omega)
      (by show 0 + 1 * (x 3).val = (x 3).val; omega) (by show 0 + 1 * (x 4).val = (x 4).val; omega)
  rcases List.mem_cons.mp hpc with rfl | hpc
  · intro x
    have u1 : (x 1).val < 1 := (x 1).isLt
    exact q_piece x0 x1 x2 x3 x4 5 320 rfl slices_S768x512_o320_0_S64x512 x (r0_12.idx x) (by show 5 + 1 * (x 1).val = 5; omega)
      (by show 0 + 1 * (x 3).val = (x 3).val; omega) (by show 0 + 1 * (x 4).val = (x 4).val; omega)
  rcases List.mem_cons.mp hpc with rfl | hpc
  · intro x
    have u1 : (x 1).val < 1 := (x 1).isLt
    exact q_piece x0 x1 x2 x3 x4 4 256 rfl slices_S768x512_o256_0_S64x512 x (r0_11.idx x) (by show 4 + 1 * (x 1).val = 4; omega)
      (by show 0 + 1 * (x 3).val = (x 3).val; omega) (by show 0 + 1 * (x 4).val = (x 4).val; omega)
  rcases List.mem_cons.mp hpc with rfl | hpc
  · intro x
    have u1 : (x 1).val < 1 := (x 1).isLt
    exact q_piece x0 x1 x2 x3 x4 3 192 rfl slices_S768x512_o192_0_S64x512 x (r0_10.idx x) (by show 3 + 1 * (x 1).val = 3; omega)
      (by show 0 + 1 * (x 3).val = (x 3).val; omega) (by show 0 + 1 * (x 4).val = (x 4).val; omega)
  rcases List.mem_cons.mp hpc with rfl | hpc
  · intro x
    have u1 : (x 1).val < 1 := (x 1).isLt
    exact q_piece x0 x1 x2 x3 x4 2 128 rfl slices_S768x512_o128_0_S64x512 x (r0_9.idx x) (by show 2 + 1 * (x 1).val = 2; omega)
      (by show 0 + 1 * (x 3).val = (x 3).val; omega) (by show 0 + 1 * (x 4).val = (x 4).val; omega)
  rcases List.mem_cons.mp hpc with rfl | hpc
  · intro x
    have u1 : (x 1).val < 1 := (x 1).isLt
    exact q_piece x0 x1 x2 x3 x4 1 64 rfl slices_S768x512_o64_0_S64x512 x (r0_8.idx x) (by show 1 + 1 * (x 1).val = 1; omega)
      (by show 0 + 1 * (x 3).val = (x 3).val; omega) (by show 0 + 1 * (x 4).val = (x 4).val; omega)
  rcases List.mem_cons.mp hpc with rfl | hpc
  · intro x
    have u1 : (x 1).val < 1 := (x 1).isLt
    exact q_piece x0 x1 x2 x3 x4 0 0 rfl slices_S768x512_o0_0_S64x512 x (r0_7.idx x) (by show 0 + 1 * (x 1).val = 0; omega)
      (by show 0 + 1 * (x 3).val = (x 3).val; omega) (by show 0 + 1 * (x 4).val = (x 4).val; omega)
  nomatch hpc

/-- The values the body writes. -/
theorem v_block (y : S1x2x1x64x512.Idx) : out0_7 x0 x1 x2 x3 x4 y = vBlock x0 x1 x2 y := by
  refine View.canon_apply_of_pieces (vBlock x0 x1 x2) _ ?_ y (cover0_7 _ _ y)
  intro pc hpc
  rcases List.mem_cons.mp hpc with rfl | hpc
  · intro x
    have u1 : (x 1).val < 1 := (x 1).isLt
    exact v_piece x0 x1 x2 x3 x4 1 704 rfl slices_S768x512_o704_0_S64x512 x (r0_18.idx x) (by show 1 + 1 * (x 1).val = 1; omega)
      (by show 0 + 1 * (x 3).val = (x 3).val; omega) (by show 0 + 1 * (x 4).val = (x 4).val; omega)
  rcases List.mem_cons.mp hpc with rfl | hpc
  · intro x
    have u1 : (x 1).val < 1 := (x 1).isLt
    exact v_piece x0 x1 x2 x3 x4 0 640 rfl slices_S768x512_o640_0_S64x512 x (r0_17.idx x) (by show 0 + 1 * (x 1).val = 0; omega)
      (by show 0 + 1 * (x 3).val = (x 3).val; omega) (by show 0 + 1 * (x 4).val = (x 4).val; omega)
  nomatch hpc

/-- The two key heads as columns, the second behind the first. -/
theorem keys_eq : k0_pay36 x0 x1 x2 x3 x4 = transpose S512x128 [1, 0] (concatenate S128x512 0
    [⟨S64x512, turned (extractStridedSlice S64x512 ![512, 0] (k0_pay35 x0 x1 x2 x3 x4) slices_S768x512_o512_0_S64x512) (View.ld x4 r0_15) (View.ld x4 r0_16)⟩,
      ⟨S64x512, turned (extractStridedSlice S64x512 ![576, 0] (k0_pay35 x0 x1 x2 x3 x4) slices_S768x512_o576_0_S64x512) (View.ld x4 r0_15) (View.ld x4 r0_16)⟩]
    concatenates_S64x512_S64x512_S128x512_d0) transposes_S128x512_p1_0_S512x128 := rfl

/-- Key head `h` at row `t`. -/
theorem keys_apply (h : Fin 2) (t : Fin 512) (d : Fin 64) :
    k0_pay36 x0 x1 x2 x3 x4 (ix2 t ⟨64 * h.val + d.val, by omega⟩) = kBlockAt x0 x1 x2 x4 h t d := by
  have ea : (fun d => View.ld x4 r0_15 (ix3 0 d t)) = fun d => x4 (ix3 2 d t) := funext fun d => table2 x4 d t
  have eb : (fun d => View.ld x4 r0_16 (ix3 0 d t)) = fun d => x4 (ix3 3 d t) := funext fun d => table3 x4 d t
  rw [keys_eq]
  refine (Idealize.ShloMosaic.transpose_apply _ _ _ _ (ix2 (⟨64 * h.val + d.val, by omega⟩ : Fin 128) t) (fun b => match b with | ⟨0, _⟩ => rfl | ⟨1, _⟩ => rfl)).trans ?_
  match h with
  | 0 =>
    refine (Idealize.ShloMosaic.concatenate_pair_apply_left (t := S128x512) (s₁ := S64x512) (s₂ := S64x512) _ _ _ _ _ rfl (ix2 d t) fun b => ?_).trans ?_
    · match b with
      | ⟨0, _⟩ => show d.val = 64 * 0 + d.val; omega
      | ⟨1, _⟩ => rfl
    · refine (head_at x0 x1 x2 x3 x4 512 (by omega) _ _ _ d t).trans ?_
      exact headRow_congr ea eb
  | 1 =>
    refine (Idealize.ShloMosaic.concatenate_pair_apply_right (t := S128x512) (s₁ := S64x512) (s₂ := S64x512) _ _ _ _ _ rfl rfl (ix2 d t) (fun b hb => ?_) ?_).trans ?_
    · match b, hb with
      | ⟨0, _⟩, hb => exact absurd rfl hb
      | ⟨1, _⟩, _ => rfl
    · show d.val + 64 = 64 * 1 + d.val; omega
    · refine (head_at x0 x1 x2 x3 x4 576 (by omega) _ _ _ d t).trans ?_
      exact headRow_congr ea eb

/-- What is stored for key head 0. -/
theorem k_piece0 (v : FVec Ideal S512x128 .f32) (x : S1x1x512x64.Idx) (e : Fin 128) (he : e.val = 64 * 0 + (x 3).val) :
    k0_pay1 v x = v (ix2 (x 2) e) := by
  have u0 : (x 0).val < 1 := (x 0).isLt
  have u1 : (x 1).val < 1 := (x 1).isLt
  unfold k0_pay1
  refine (Idealize.ShloMosaic.shapeCast_apply _ _ x (ix2 (x 2) (x 3) : S512x64.Idx) ?_).trans ?_
  · rw [Shape.rowMajor_val_two, Shape.rowMajor_val_four]
    show (x 2).val * 64 + (x 3).val = (((x 0).val * 1 + (x 1).val) * 512 + (x 2).val) * 64 + (x 3).val
    omega
  · refine congrArg v (funext fun a => Fin.ext ?_)
    match a with
    | ⟨0, _⟩ => show 0 + (x 2).val = (x 2).val; omega
    | ⟨1, _⟩ => show 0 + (x 3).val = e.val; omega

/-- What is stored for key head 1. -/
theorem k_piece1 (v : FVec Ideal S512x128 .f32) (x : S1x1x512x64.Idx) (e : Fin 128) (he : e.val = 64 * 1 + (x 3).val) :
    k0_pay2 v x = v (ix2 (x 2) e) := by
  have u0 : (x 0).val < 1 := (x 0).isLt
  have u1 : (x 1).val < 1 := (x 1).isLt
  unfold k0_pay2
  refine (Idealize.ShloMosaic.shapeCast_apply _ _ x (ix2 (x 2) (x 3) : S512x64.Idx) ?_).trans ?_
  · rw [Shape.rowMajor_val_two, Shape.rowMajor_val_four]
    show (x 2).val * 64 + (x 3).val = (((x 0).val * 1 + (x 1).val) * 512 + (x 2).val) * 64 + (x 3).val
    omega
  · refine congrArg v (funext fun a => Fin.ext ?_)
    match a with
    | ⟨0, _⟩ => show 0 + (x 2).val = (x 2).val; omega
    | ⟨1, _⟩ => show 64 + (x 3).val = e.val; omega

/-- The keys the body writes. -/
theorem k_block (y : S1x2x512x64.Idx) : out0_6 x0 x1 x2 x3 x4 y = kBlock x0 x1 x2 x4 y := by
  refine View.canon_apply_of_pieces (kBlock x0 x1 x2 x4) _ ?_ y (cover0_6 _ _ y)
  intro pc hpc
  rcases List.mem_cons.mp hpc with rfl | hpc
  · intro x
    have u0 : (x 0).val < 1 := (x 0).isLt
    have u1 : (x 1).val < 1 := (x 1).isLt
    have u3 : (x 3).val < 64 := (x 3).isLt
    have e1 : (1 : Fin 2) = (r0_20.idx x) 1 := Fin.ext (by show 1 = 1 + 1 * (x 1).val; omega)
    have e2 : x 2 = (r0_20.idx x) 2 := Fin.ext (by show (x 2).val = 0 + 1 * (x 2).val; omega)
    have e3 : x 3 = (r0_20.idx x) 3 := Fin.ext (by show (x 3).val = 0 + 1 * (x 3).val; omega)
    refine Eq.trans ?_ (entry_congr (kBlockAt x0 x1 x2 x4) e1 e2 e3)
    refine Eq.trans ?_ (keys_apply x0 x1 x2 x3 x4 1 (x 2) (x 3))
    exact k_piece1 _ x _ rfl
  rcases List.mem_cons.mp hpc with rfl | hpc
  · intro x
    have u0 : (x 0).val < 1 := (x 0).isLt
    have u1 : (x 1).val < 1 := (x 1).isLt
    have u3 : (x 3).val < 64 := (x 3).isLt
    have e1 : (0 : Fin 2) = (r0_19.idx x) 1 := Fin.ext (by show 0 = 0 + 1 * (x 1).val; omega)
    have e2 : x 2 = (r0_19.idx x) 2 := Fin.ext (by show (x 2).val = 0 + 1 * (x 2).val; omega)
    have e3 : x 3 = (r0_19.idx x) 3 := Fin.ext (by show (x 3).val = 0 + 1 * (x 3).val; omega)
    refine Eq.trans ?_ (entry_congr (kBlockAt x0 x1 x2 x4) e1 e2 e3)
    refine Eq.trans ?_ (keys_apply x0 x1 x2 x3 x4 0 (x 2) (x 3))
    exact k_piece0 _ x _ rfl
  nomatch hpc

/-- The gated channels the body writes. -/
theorem c_block (y : S1x512x512.Idx) : out0_8 x0 x1 x2 x3 x4 y = cBlock x0 x1 x3 y := by
  have e0 := View.ld_unit_zero (Val := Elt Ideal) (S := S1x512x1024) (off := ![0, 0, 0]) (by decide) inb_S1x512x1024_S1x512x1024_0_0_0 x0
  have e1 := View.ld_unit_zero (Val := Elt Ideal) (S := S1x1024) (off := ![0, 0]) (by decide) inb_S1x1024_S1x1024_0_0 x1
  have e3 := View.ld_unit_zero (Val := Elt Ideal) (S := S1024x1024) (off := ![0, 0]) (by decide) inb_S1024x1024_S1024x1024_0_0 x3
  have ez := View.canon_unit_zero (Val := Elt Ideal) (e := .f32) (S := S1x512x512) (off := ![0, 0, 0]) (by decide) inb_S1x512x512_S1x512x512_0_0_0
    (k0_pay4 x0 x1 x3)
  unfold out0_8
  rw [e0, e1, e3]
  refine (congrFun ez y).trans ?_
  have hy : y = ix3 0 (y 1) (y 2) := by
    funext a
    match a with
    | ⟨0, _⟩ => exact Subsingleton.elim (α := Fin 1) _ _
    | ⟨1, _⟩ => rfl
    | ⟨2, _⟩ => rfl
  refine (congrArg (k0_pay4 x0 x1 x3) hy).trans ?_
  show k0_pay4 x0 x1 x3 (ix3 0 (y 1 : Fin 512) (y 2 : Fin 512)) = cBlockAt x0 x1 x3 (y 1 : Fin 512) (y 2 : Fin 512)
  generalize (y 1 : Fin 512) = t
  generalize (y 2 : Fin 512) = l
  pointwise [k0_pay4, k0_pay3]
  unfold cBlockAt gated
  rw [zero_sub]
  rfl

end Proj
-- ==== Proof.Proj.Written.lean ====
/-
  The body's blocks as blocks of the four result arrays, for any number of batches and tiles: when the blocks read are the
  arrays' at batch `b` and tile `j`, the blocks written are those of `Spec.lean`'s arrays.
-/
module

public import proofs.«01_k».proof.Proof.Proj.Block

@[expose] public section

set_option maxRecDepth 16384

noncomputable section

namespace Proj

open Cert.ProjIdeal Cert.ProjIdeal.Gen Idealize.ShloMosaic Idealize.ShloMosaic.TcCoe Idealize.SL.Sem
open Idealize.ShloMosaic.Pointwise

variable {N S J : ℕ} (hS : 512 * J = S) {x : Vec Ideal ⟨3, ![N, S, 1024]⟩ .f32} {g : Vec Ideal ⟨2, ![1, 1024]⟩ .f32}
  {w : Vec Ideal ⟨2, ![768, 1024]⟩ .bf16} {wc : Vec Ideal ⟨2, ![1024, 1024]⟩ .bf16} {T : Vec Ideal ⟨3, ![4, 64, S]⟩ .f32}
  {x0 : Vec Ideal S1x512x1024 .f32} {x1 : Vec Ideal S1x1024 .f32} {x2 : Vec Ideal S768x1024 .bf16} {x3 : Vec Ideal S1024x1024 .bf16}
  {x4 : Vec Ideal S4x64x512 .f32} {b : Fin N} {j : Fin J}
  (h0 : ∀ r k, x0 (ix3 0 r k) = x (ix3 b (place hS j r) k)) (h1 : ∀ k, x1 (ix2 0 k) = g (ix2 0 k)) (h2 : ∀ e k, x2 (ix2 e k) = w (ix2 e k))
  (h3 : ∀ k e, x3 (ix2 k e) = wc (ix2 k e)) (h4 : ∀ n d r, x4 (ix3 n d r) = T (ix3 n d (place hS j r)))

include h0 h1 h2 h4 in
/-- The queries written are the array's. -/
theorem queries_written (y : S1x8x1x64x512.Idx) (i : (⟨5, ![N, 8, J, 64, 512]⟩ : Shape).Idx) (e0 : b = i 0) (e1 : y 1 = i 1) (e2 : j = i 2)
    (e3 : y 3 = i 3) (e4 : y 4 = i 4) : out0_5 (F := Ideal) x0 x1 x2 x3 x4 y = queries hS x g w T i := by
  have : ∀ (h : Fin 8) (d : Fin 64) (t : Fin 512), qBlockAt x0 x1 x2 x4 h d t = qAt x g w T b h (place hS j t) d := fun h d t => by
    unfold qBlockAt qAt
    simp only [h0, h1, h2, h4]
  refine (q_block x0 x1 x2 x3 x4 y).trans (Eq.trans ?_ (coords_congr (qAt x g w T) e0 e1 (congr (congrArg (place hS) e2) e4) e3))
  exact this (y 1) (y 3) (y 4)

include h0 h1 h2 h4 in
/-- The keys written are the array's. -/
theorem keys_written (y : S1x2x512x64.Idx) (i : (⟨4, ![N, 2, S, 64]⟩ : Shape).Idx) (e0 : b = i 0) (e1 : y 1 = i 1) (e2 : place hS j (y 2) = i 2)
    (e3 : y 3 = i 3) : out0_6 (F := Ideal) x0 x1 x2 x3 x4 y = keys x g w T i := by
  have : ∀ (h : Fin 2) (t : Fin 512) (d : Fin 64), kBlockAt x0 x1 x2 x4 h t d = kAt x g w T b h (place hS j t) d := fun h t d => by
    unfold kBlockAt kAt
    simp only [h0, h1, h2, h4]
  refine (k_block x0 x1 x2 x3 x4 y).trans (Eq.trans ?_ (coords_congr (kAt x g w T) e0 e1 e2 e3))
  exact this (y 1) (y 2) (y 3)

include h0 h1 h2 in
/-- The values written are the array's. -/
theorem values_written (y : S1x2x1x64x512.Idx) (i : (⟨5, ![N, 2, J, 64, 512]⟩ : Shape).Idx) (e0 : b = i 0) (e1 : y 1 = i 1) (e2 : j = i 2)
    (e3 : y 3 = i 3) (e4 : y 4 = i 4) : out0_7 (F := Ideal) x0 x1 x2 x3 x4 y = values hS x g w i := by
  have : ∀ (h : Fin 2) (d : Fin 64) (t : Fin 512), vBlockAt x0 x1 x2 h d t = vAt x g w b h (place hS j t) d := fun h d t => by
    unfold vBlockAt vAt
    simp only [h0, h1, h2]
  refine (v_block x0 x1 x2 x3 x4 y).trans (Eq.trans ?_ (coords_congr (vAt x g w) e0 e1 (congr (congrArg (place hS) e2) e4) e3))
  exact this (y 1) (y 3) (y 4)

include h0 h1 h3 in
/-- The gated channels written are the array's. -/
theorem channels_written (y : S1x512x512.Idx) (i : (⟨3, ![N, S, 512]⟩ : Shape).Idx) (e0 : b = i 0) (e1 : place hS j (y 1) = i 1) (e2 : y 2 = i 2) :
    out0_8 (F := Ideal) x0 x1 x2 x3 x4 y = channels x g wc i := by
  have : ∀ (t l : Fin 512), cBlockAt x0 x1 x3 t l = cAt x g wc b (place hS j t) l := fun t l => by
    unfold cBlockAt cAt
    simp only [h0, h1, h3]
  refine (c_block x0 x1 x2 x3 x4 y).trans (Eq.trans ?_ (entry_congr (cAt x g wc) e0 e1 e2))
  exact this (y 1) (y 2)

end Proj
-- ==== Proof.Proj.KernelArray.lean ====
/-
  The projection program's four result arrays after a run: every grid point writes its blocks, and the blocks cover the arrays.
-/
module

public import proofs.«01_k».proof.Proof.Proj.Written

@[expose] public section

set_option maxRecDepth 16384

noncomputable section

namespace Proj

open Cert.ProjIdeal Cert.ProjIdeal.Gen Idealize.ShloMosaic Idealize.ShloMosaic.TcCoe Idealize.SL.Sem
open Idealize.ShloMosaic.Pointwise
open Idealize.ShloMosaic.Pipeline (Dat)

/-- Window 0's block index at grid point `t` (batch `t / 16`, tile `t % 16`). -/
theorem index0 : ∀ t : Fin grid0.N, (win0_0.index t 0 = t.val / 16 ∧ win0_0.index t 1 = t.val % 16 ∧ win0_0.index t 2 = 0) := by
  decide +kernel

/-- Window 1's block index at grid point `t` (batch `t / 16`, tile `t % 16`). -/
theorem index1 : ∀ t : Fin grid0.N, (win0_1.index t 0 = 0 ∧ win0_1.index t 1 = 0) := by
  decide +kernel

/-- Window 2's block index at grid point `t` (batch `t / 16`, tile `t % 16`). -/
theorem index2 : ∀ t : Fin grid0.N, (win0_2.index t 0 = 0 ∧ win0_2.index t 1 = 0) := by
  decide +kernel

/-- Window 3's block index at grid point `t` (batch `t / 16`, tile `t % 16`). -/
theorem index3 : ∀ t : Fin grid0.N, (win0_3.index t 0 = 0 ∧ win0_3.index t 1 = 0) := by
  decide +kernel

/-- Window 4's block index at grid point `t` (batch `t / 16`, tile `t % 16`). -/
theorem index4 : ∀ t : Fin grid0.N, (win0_4.index t 0 = 0 ∧ win0_4.index t 1 = 0 ∧ win0_4.index t 2 = t.val % 16) := by
  decide +kernel

/-- Window 5's block index at grid point `t` (batch `t / 16`, tile `t % 16`). -/
theorem index5 : ∀ t : Fin grid0.N, (win0_5.index t 0 = t.val / 16 ∧ win0_5.index t 1 = 0 ∧ win0_5.index t 2 = t.val % 16 ∧ win0_5.index t 3 = 0 ∧ win0_5.index t 4 = 0) := by
  decide +kernel

/-- Window 6's block index at grid point `t` (batch `t / 16`, tile `t % 16`). -/
theorem index6 : ∀ t : Fin grid0.N, (win0_6.index t 0 = t.val / 16 ∧ win0_6.index t 1 = 0 ∧ win0_6.index t 2 = t.val % 16 ∧ win0_6.index t 3 = 0) := by
  decide +kernel

/-- Window 7's block index at grid point `t` (batch `t / 16`, tile `t % 16`). -/
theorem index7 : ∀ t : Fin grid0.N, (win0_7.index t 0 = t.val / 16 ∧ win0_7.index t 1 = 0 ∧ win0_7.index t 2 = t.val % 16 ∧ win0_7.index t 3 = 0 ∧ win0_7.index t 4 = 0) := by
  decide +kernel

/-- Window 8's block index at grid point `t` (batch `t / 16`, tile `t % 16`). -/
theorem index8 : ∀ t : Fin grid0.N, (win0_8.index t 0 = t.val / 16 ∧ win0_8.index t 1 = t.val % 16 ∧ win0_8.index t 2 = 0) := by
  decide +kernel

/-- The grid has 64 points. -/
theorem point_lt (t : Fin cfg0.N) : t.val < 64 := lt_of_lt_of_eq t.isLt N_0

/-- Point `t`'s batch. -/
def pb (t : Fin cfg0.N) : Fin 4 := ⟨t.val / 16, by have := point_lt t; omega⟩
/-- Point `t`'s tile. -/
def pj (t : Fin cfg0.N) : Fin 16 := ⟨t.val % 16, by omega⟩

variable (m : (ℓ : Loc nD τ sig) → Buf (Elt Ideal) ℓ) (ρ : Dev nD → PrngReg)

/-- The rows. -/
abbrev argX (c : Dev nD) : Vec Ideal S4x8192x1024 .f32 := m ((c : Thread nD τ).loc main_arg0)
/-- The gains. -/
abbrev argG (c : Dev nD) : Vec Ideal S1x1024 .f32 := m ((c : Thread nD τ).loc main_arg1)
/-- The weights of queries, keys and values. -/
abbrev argW (c : Dev nD) : Vec Ideal S768x1024 .bf16 := m ((c : Thread nD τ).loc main_arg2)
/-- The weights of the convolution's channels. -/
abbrev argC (c : Dev nD) : Vec Ideal S1024x1024 .bf16 := m ((c : Thread nD τ).loc main_arg3)
/-- The rotation's tables. -/
abbrev argT (c : Dev nD) : Vec Ideal S4x64x8192 .f32 := m ((c : Thread nD τ).loc main_arg4)

/-- The rows of point `t`. -/
theorem iblk0 (c : Dev nD) (t : Fin cfg0.N) (r : Fin 512) (k : Fin 1024) :
    (iblk m c 0 t : Vec Ideal S1x512x1024 .f32) (ix3 0 r k) = argX m c (ix3 (pb t) (place rfl (pj t) r) k) := by
  obtain ⟨e0, e1, e2⟩ := index0 t
  refine congrArg (argX m c) (funext fun a => Fin.ext ?_)
  match a with
  | ⟨0, _⟩ => show win0_0.index t 0 * 1 + 1 * 0 = t.val / 16; rw [e0]; omega
  | ⟨1, _⟩ => show win0_0.index t 1 * 512 + 1 * r.val = 512 * (t.val % 16) + r.val; rw [e1]; omega
  | ⟨2, _⟩ => show win0_0.index t 2 * 1024 + 1 * k.val = k.val; rw [e2]; omega

/-- The gains, whole. -/
theorem iblk1 (c : Dev nD) (t : Fin cfg0.N) (k : Fin 1024) : (iblk m c 1 t : Vec Ideal S1x1024 .f32) (ix2 0 k) = argG m c (ix2 0 k) := by
  obtain ⟨e0, e1⟩ := index1 t
  refine congrArg (argG m c) (funext fun a => Fin.ext ?_)
  match a with
  | ⟨0, _⟩ => show win0_1.index t 0 * 1 + 1 * 0 = 0; rw [e0]
  | ⟨1, _⟩ => show win0_1.index t 1 * 1024 + 1 * k.val = k.val; rw [e1]; omega

/-- The weights, whole. -/
theorem iblk2 (c : Dev nD) (t : Fin cfg0.N) (e : Fin 768) (k : Fin 1024) :
    (iblk m c 2 t : Vec Ideal S768x1024 .bf16) (ix2 e k) = argW m c (ix2 e k) := by
  obtain ⟨e0, e1⟩ := index2 t
  refine congrArg (argW m c) (funext fun a => Fin.ext ?_)
  match a with
  | ⟨0, _⟩ => show win0_2.index t 0 * 768 + 1 * e.val = e.val; rw [e0]; omega
  | ⟨1, _⟩ => show win0_2.index t 1 * 1024 + 1 * k.val = k.val; rw [e1]; omega

/-- The channels' weights, whole. -/
theorem iblk3 (c : Dev nD) (t : Fin cfg0.N) (k e : Fin 1024) :
    (iblk m c 3 t : Vec Ideal S1024x1024 .bf16) (ix2 k e) = argC m c (ix2 k e) := by
  obtain ⟨e0, e1⟩ := index3 t
  refine congrArg (argC m c) (funext fun a => Fin.ext ?_)
  match a with
  | ⟨0, _⟩ => show win0_3.index t 0 * 1024 + 1 * k.val = k.val; rw [e0]; omega
  | ⟨1, _⟩ => show win0_3.index t 1 * 1024 + 1 * e.val = e.val; rw [e1]; omega

/-- The tables at point `t`'s positions. -/
theorem iblk4 (c : Dev nD) (t : Fin cfg0.N) (n : Fin 4) (d : Fin 64) (r : Fin 512) :
    (iblk m c 4 t : Vec Ideal S4x64x512 .f32) (ix3 n d r) = argT m c (ix3 n d (place rfl (pj t) r)) := by
  obtain ⟨e0, e1, e2⟩ := index4 t
  refine congrArg (argT m c) (funext fun a => Fin.ext ?_)
  match a with
  | ⟨0, _⟩ => show win0_4.index t 0 * 4 + 1 * n.val = n.val; rw [e0]; omega
  | ⟨1, _⟩ => show win0_4.index t 1 * 64 + 1 * d.val = d.val; rw [e1]; omega
  | ⟨2, _⟩ => show win0_4.index t 2 * 512 + 1 * r.val = 512 * (t.val % 16) + r.val; rw [e2]; omega

/-- What point `t` writes back of the queries is the array's block. -/
theorem flushed5 (c : Dev nD) (t : Fin cfg0.N) :
    (dats m 0 c).flushed 5 t = ((cfg0.win 5).blk t).view.read (Elt Ideal) (queries rfl (argX m c) (argG m c) (argW m c) (argT m c)) := by
  obtain ⟨e0, e1, e2, e3, e4⟩ := index5 t
  show (cfg0.win 5).cut (grid0.coords t) ((dats m 0 c).after 5 t) = _
  rw [after0_5]
  funext y
  have u0 : (y 0).val < 1 := (y 0).isLt
  have u1 : (y 1).val < 8 := (y 1).isLt
  have u2 : (y 2).val < 1 := (y 2).isLt
  have u3 : (y 3).val < 64 := (y 3).isLt
  have u4 : (y 4).val < 512 := (y 4).isLt
  show out0_5 (F := Ideal) (iblk m c 0 t) (iblk m c 1 t) (iblk m c 2 t) (iblk m c 3 t) (iblk m c 4 t) y = queries rfl (argX m c) (argG m c) (argW m c) (argT m c) (((cfg0.win 5).blk t).view.emb y)
  have f0 : pb t = (((cfg0.win 5).blk t).view.emb y) 0 := Fin.ext (by show t.val / 16 = win0_5.index t 0 * 1 + 1 * (y 0).val; rw [e0]; omega)
  have f1 : y 1 = (((cfg0.win 5).blk t).view.emb y) 1 := Fin.ext (by show (y 1).val = win0_5.index t 1 * 8 + 1 * (y 1).val; rw [e1]; omega)
  have f2 : pj t = (((cfg0.win 5).blk t).view.emb y) 2 := Fin.ext (by show t.val % 16 = win0_5.index t 2 * 1 + 1 * (y 2).val; rw [e2]; omega)
  have f3 : y 3 = (((cfg0.win 5).blk t).view.emb y) 3 := Fin.ext (by show (y 3).val = win0_5.index t 3 * 64 + 1 * (y 3).val; rw [e3]; omega)
  have f4 : y 4 = (((cfg0.win 5).blk t).view.emb y) 4 := Fin.ext (by show (y 4).val = win0_5.index t 4 * 512 + 1 * (y 4).val; rw [e4]; omega)
  exact queries_written (x3 := iblk m c 3 t) rfl (iblk0 m c t) (iblk1 m c t) (iblk2 m c t) (iblk4 m c t) y _ f0 f1 f2 f3 f4

/-- The blocks of queries cover the array. -/
theorem cover5 (i : S4x8x16x64x512.Idx) : ∃ t : Fin cfg0.N, (cfg0.win 5).flush t = true ∧ i ∈ ((cfg0.win 5).blk t).view.set := by
  have h0 : (i 0).val < 4 := (i 0).isLt
  have h1 : (i 1).val < 8 := (i 1).isLt
  have h2 : (i 2).val < 16 := (i 2).isLt
  have h3 : (i 3).val < 64 := (i 3).isLt
  have h4 : (i 4).val < 512 := (i 4).isLt
  have hN : cfg0.N = 64 := N_0
  refine ⟨⟨(i 0).val * 16 + (i 2).val, by omega⟩, flush0_5 _, ?_⟩
  generalize ht : (⟨(i 0).val * 16 + (i 2).val, by omega⟩ : Fin cfg0.N) = t
  have hv : t.val = (i 0).val * 16 + (i 2).val := by rw [← ht]
  obtain ⟨e0, e1, e2, e3, e4⟩ := index5 t
  show i ∈ ((View.whole main_v0_0).slice (win0_5.rect t)).set
  rw [View.set_slice_whole, Rect.mem_set_unit]
  intro a
  match a with
  | ⟨0, _⟩ =>
    show win0_5.index t 0 * 1 ≤ (i 0).val ∧ (i 0).val < win0_5.index t 0 * 1 + 1
    rw [e0]; omega
  | ⟨1, _⟩ =>
    show win0_5.index t 1 * 8 ≤ (i 1).val ∧ (i 1).val < win0_5.index t 1 * 8 + 8
    rw [e1]; omega
  | ⟨2, _⟩ =>
    show win0_5.index t 2 * 1 ≤ (i 2).val ∧ (i 2).val < win0_5.index t 2 * 1 + 1
    rw [e2]; omega
  | ⟨3, _⟩ =>
    show win0_5.index t 3 * 64 ≤ (i 3).val ∧ (i 3).val < win0_5.index t 3 * 64 + 64
    rw [e3]; omega
  | ⟨4, _⟩ =>
    show win0_5.index t 4 * 512 ≤ (i 4).val ∧ (i 4).val < win0_5.index t 4 * 512 + 512
    rw [e4]; omega

/-- The array of queries after the run. -/
theorem final5 (c : Dev nD) : (dats m 0 c).arrAt 5 cfg0.N = queries rfl (argX m c) (argG m c) (argW m c) (argT m c) :=
  (dats m 0 c).arrAt_eq_of_cover 5 _ (fun t _ => flushed5 m c t) cover5

/-- What point `t` writes back of the keys is the array's block. -/
theorem flushed6 (c : Dev nD) (t : Fin cfg0.N) :
    (dats m 0 c).flushed 6 t = ((cfg0.win 6).blk t).view.read (Elt Ideal) (keys (argX m c) (argG m c) (argW m c) (argT m c)) := by
  obtain ⟨e0, e1, e2, e3⟩ := index6 t
  show (cfg0.win 6).cut (grid0.coords t) ((dats m 0 c).after 6 t) = _
  rw [after0_6]
  funext y
  have u0 : (y 0).val < 1 := (y 0).isLt
  have u1 : (y 1).val < 2 := (y 1).isLt
  have u2 : (y 2).val < 512 := (y 2).isLt
  have u3 : (y 3).val < 64 := (y 3).isLt
  show out0_6 (F := Ideal) (iblk m c 0 t) (iblk m c 1 t) (iblk m c 2 t) (iblk m c 3 t) (iblk m c 4 t) y = keys (argX m c) (argG m c) (argW m c) (argT m c) (((cfg0.win 6).blk t).view.emb y)
  have f0 : pb t = (((cfg0.win 6).blk t).view.emb y) 0 := Fin.ext (by show t.val / 16 = win0_6.index t 0 * 1 + 1 * (y 0).val; rw [e0]; omega)
  have f1 : y 1 = (((cfg0.win 6).blk t).view.emb y) 1 := Fin.ext (by show (y 1).val = win0_6.index t 1 * 2 + 1 * (y 1).val; rw [e1]; omega)
  have f2 : place rfl (pj t) (y 2) = (((cfg0.win 6).blk t).view.emb y) 2 := Fin.ext (by show 512 * (t.val % 16) + (y 2).val = win0_6.index t 2 * 512 + 1 * (y 2).val; rw [e2]; omega)
  have f3 : y 3 = (((cfg0.win 6).blk t).view.emb y) 3 := Fin.ext (by show (y 3).val = win0_6.index t 3 * 64 + 1 * (y 3).val; rw [e3]; omega)
  exact keys_written (x3 := iblk m c 3 t) rfl (iblk0 m c t) (iblk1 m c t) (iblk2 m c t) (iblk4 m c t) y _ f0 f1 f2 f3

/-- The blocks of keys cover the array. -/
theorem cover6 (i : S4x2x8192x64.Idx) : ∃ t : Fin cfg0.N, (cfg0.win 6).flush t = true ∧ i ∈ ((cfg0.win 6).blk t).view.set := by
  have h0 : (i 0).val < 4 := (i 0).isLt
  have h1 : (i 1).val < 2 := (i 1).isLt
  have h2 : (i 2).val < 8192 := (i 2).isLt
  have h3 : (i 3).val < 64 := (i 3).isLt
  have hN : cfg0.N = 64 := N_0
  refine ⟨⟨(i 0).val * 16 + (i 2).val / 512, by omega⟩, flush0_6 _, ?_⟩
  generalize ht : (⟨(i 0).val * 16 + (i 2).val / 512, by omega⟩ : Fin cfg0.N) = t
  have hv : t.val = (i 0).val * 16 + (i 2).val / 512 := by rw [← ht]
  obtain ⟨e0, e1, e2, e3⟩ := index6 t
  show i ∈ ((View.whole main_v0_1).slice (win0_6.rect t)).set
  rw [View.set_slice_whole, Rect.mem_set_unit]
  intro a
  match a with
  | ⟨0, _⟩ =>
    show win0_6.index t 0 * 1 ≤ (i 0).val ∧ (i 0).val < win0_6.index t 0 * 1 + 1
    rw [e0]; omega
  | ⟨1, _⟩ =>
    show win0_6.index t 1 * 2 ≤ (i 1).val ∧ (i 1).val < win0_6.index t 1 * 2 + 2
    rw [e1]; omega
  | ⟨2, _⟩ =>
    show win0_6.index t 2 * 512 ≤ (i 2).val ∧ (i 2).val < win0_6.index t 2 * 512 + 512
    rw [e2]; omega
  | ⟨3, _⟩ =>
    show win0_6.index t 3 * 64 ≤ (i 3).val ∧ (i 3).val < win0_6.index t 3 * 64 + 64
    rw [e3]; omega

/-- The array of keys after the run. -/
theorem final6 (c : Dev nD) : (dats m 0 c).arrAt 6 cfg0.N = keys (argX m c) (argG m c) (argW m c) (argT m c) :=
  (dats m 0 c).arrAt_eq_of_cover 6 _ (fun t _ => flushed6 m c t) cover6

/-- What point `t` writes back of the values is the array's block. -/
theorem flushed7 (c : Dev nD) (t : Fin cfg0.N) :
    (dats m 0 c).flushed 7 t = ((cfg0.win 7).blk t).view.read (Elt Ideal) (values rfl (argX m c) (argG m c) (argW m c)) := by
  obtain ⟨e0, e1, e2, e3, e4⟩ := index7 t
  show (cfg0.win 7).cut (grid0.coords t) ((dats m 0 c).after 7 t) = _
  rw [after0_7]
  funext y
  have u0 : (y 0).val < 1 := (y 0).isLt
  have u1 : (y 1).val < 2 := (y 1).isLt
  have u2 : (y 2).val < 1 := (y 2).isLt
  have u3 : (y 3).val < 64 := (y 3).isLt
  have u4 : (y 4).val < 512 := (y 4).isLt
  show out0_7 (F := Ideal) (iblk m c 0 t) (iblk m c 1 t) (iblk m c 2 t) (iblk m c 3 t) (iblk m c 4 t) y = values rfl (argX m c) (argG m c) (argW m c) (((cfg0.win 7).blk t).view.emb y)
  have f0 : pb t = (((cfg0.win 7).blk t).view.emb y) 0 := Fin.ext (by show t.val / 16 = win0_7.index t 0 * 1 + 1 * (y 0).val; rw [e0]; omega)
  have f1 : y 1 = (((cfg0.win 7).blk t).view.emb y) 1 := Fin.ext (by show (y 1).val = win0_7.index t 1 * 2 + 1 * (y 1).val; rw [e1]; omega)
  have f2 : pj t = (((cfg0.win 7).blk t).view.emb y) 2 := Fin.ext (by show t.val % 16 = win0_7.index t 2 * 1 + 1 * (y 2).val; rw [e2]; omega)
  have f3 : y 3 = (((cfg0.win 7).blk t).view.emb y) 3 := Fin.ext (by show (y 3).val = win0_7.index t 3 * 64 + 1 * (y 3).val; rw [e3]; omega)
  have f4 : y 4 = (((cfg0.win 7).blk t).view.emb y) 4 := Fin.ext (by show (y 4).val = win0_7.index t 4 * 512 + 1 * (y 4).val; rw [e4]; omega)
  exact values_written (x3 := iblk m c 3 t) (x4 := iblk m c 4 t) rfl (iblk0 m c t) (iblk1 m c t) (iblk2 m c t) y _ f0 f1 f2 f3 f4

/-- The blocks of values cover the array. -/
theorem cover7 (i : S4x2x16x64x512.Idx) : ∃ t : Fin cfg0.N, (cfg0.win 7).flush t = true ∧ i ∈ ((cfg0.win 7).blk t).view.set := by
  have h0 : (i 0).val < 4 := (i 0).isLt
  have h1 : (i 1).val < 2 := (i 1).isLt
  have h2 : (i 2).val < 16 := (i 2).isLt
  have h3 : (i 3).val < 64 := (i 3).isLt
  have h4 : (i 4).val < 512 := (i 4).isLt
  have hN : cfg0.N = 64 := N_0
  refine ⟨⟨(i 0).val * 16 + (i 2).val, by omega⟩, flush0_7 _, ?_⟩
  generalize ht : (⟨(i 0).val * 16 + (i 2).val, by omega⟩ : Fin cfg0.N) = t
  have hv : t.val = (i 0).val * 16 + (i 2).val := by rw [← ht]
  obtain ⟨e0, e1, e2, e3, e4⟩ := index7 t
  show i ∈ ((View.whole main_v0_2).slice (win0_7.rect t)).set
  rw [View.set_slice_whole, Rect.mem_set_unit]
  intro a
  match a with
  | ⟨0, _⟩ =>
    show win0_7.index t 0 * 1 ≤ (i 0).val ∧ (i 0).val < win0_7.index t 0 * 1 + 1
    rw [e0]; omega
  | ⟨1, _⟩ =>
    show win0_7.index t 1 * 2 ≤ (i 1).val ∧ (i 1).val < win0_7.index t 1 * 2 + 2
    rw [e1]; omega
  | ⟨2, _⟩ =>
    show win0_7.index t 2 * 1 ≤ (i 2).val ∧ (i 2).val < win0_7.index t 2 * 1 + 1
    rw [e2]; omega
  | ⟨3, _⟩ =>
    show win0_7.index t 3 * 64 ≤ (i 3).val ∧ (i 3).val < win0_7.index t 3 * 64 + 64
    rw [e3]; omega
  | ⟨4, _⟩ =>
    show win0_7.index t 4 * 512 ≤ (i 4).val ∧ (i 4).val < win0_7.index t 4 * 512 + 512
    rw [e4]; omega

/-- The array of values after the run. -/
theorem final7 (c : Dev nD) : (dats m 0 c).arrAt 7 cfg0.N = values rfl (argX m c) (argG m c) (argW m c) :=
  (dats m 0 c).arrAt_eq_of_cover 7 _ (fun t _ => flushed7 m c t) cover7

/-- What point `t` writes back of the channels is the array's block. -/
theorem flushed8 (c : Dev nD) (t : Fin cfg0.N) :
    (dats m 0 c).flushed 8 t = ((cfg0.win 8).blk t).view.read (Elt Ideal) (channels (argX m c) (argG m c) (argC m c)) := by
  obtain ⟨e0, e1, e2⟩ := index8 t
  show (cfg0.win 8).cut (grid0.coords t) ((dats m 0 c).after 8 t) = _
  rw [after0_8]
  funext y
  have u0 : (y 0).val < 1 := (y 0).isLt
  have u1 : (y 1).val < 512 := (y 1).isLt
  have u2 : (y 2).val < 512 := (y 2).isLt
  show out0_8 (F := Ideal) (iblk m c 0 t) (iblk m c 1 t) (iblk m c 2 t) (iblk m c 3 t) (iblk m c 4 t) y = channels (argX m c) (argG m c) (argC m c) (((cfg0.win 8).blk t).view.emb y)
  have f0 : pb t = (((cfg0.win 8).blk t).view.emb y) 0 := Fin.ext (by show t.val / 16 = win0_8.index t 0 * 1 + 1 * (y 0).val; rw [e0]; omega)
  have f1 : place rfl (pj t) (y 1) = (((cfg0.win 8).blk t).view.emb y) 1 := Fin.ext (by show 512 * (t.val % 16) + (y 1).val = win0_8.index t 1 * 512 + 1 * (y 1).val; rw [e1]; omega)
  have f2 : y 2 = (((cfg0.win 8).blk t).view.emb y) 2 := Fin.ext (by show (y 2).val = win0_8.index t 2 * 512 + 1 * (y 2).val; rw [e2]; omega)
  exact channels_written (x2 := iblk m c 2 t) (x4 := iblk m c 4 t) rfl (iblk0 m c t) (iblk1 m c t) (iblk3 m c t) y _ f0 f1 f2

/-- The blocks of channels cover the array. -/
theorem cover8 (i : S4x8192x512.Idx) : ∃ t : Fin cfg0.N, (cfg0.win 8).flush t = true ∧ i ∈ ((cfg0.win 8).blk t).view.set := by
  have h0 : (i 0).val < 4 := (i 0).isLt
  have h1 : (i 1).val < 8192 := (i 1).isLt
  have h2 : (i 2).val < 512 := (i 2).isLt
  have hN : cfg0.N = 64 := N_0
  refine ⟨⟨(i 0).val * 16 + (i 1).val / 512, by omega⟩, flush0_8 _, ?_⟩
  generalize ht : (⟨(i 0).val * 16 + (i 1).val / 512, by omega⟩ : Fin cfg0.N) = t
  have hv : t.val = (i 0).val * 16 + (i 1).val / 512 := by rw [← ht]
  obtain ⟨e0, e1, e2⟩ := index8 t
  show i ∈ ((View.whole main_v0_3).slice (win0_8.rect t)).set
  rw [View.set_slice_whole, Rect.mem_set_unit]
  intro a
  match a with
  | ⟨0, _⟩ =>
    show win0_8.index t 0 * 1 ≤ (i 0).val ∧ (i 0).val < win0_8.index t 0 * 1 + 1
    rw [e0]; omega
  | ⟨1, _⟩ =>
    show win0_8.index t 1 * 512 ≤ (i 1).val ∧ (i 1).val < win0_8.index t 1 * 512 + 512
    rw [e1]; omega
  | ⟨2, _⟩ =>
    show win0_8.index t 2 * 512 ≤ (i 2).val ∧ (i 2).val < win0_8.index t 2 * 512 + 512
    rw [e2]; omega

/-- The array of channels after the run. -/
theorem final8 (c : Dev nD) : (dats m 0 c).arrAt 8 cfg0.N = channels (argX m c) (argG m c) (argC m c) :=
  (dats m 0 c).arrAt_eq_of_cover 8 _ (fun t _ => flushed8 m c t) cover8

/-- The run ends with the four arrays at what the projection computes of the arguments, the arguments unchanged. -/
theorem kernel_run :
    θ_run defs (onTc (τ := τ) (main (F := Ideal))) ⟨m, fun _ => 0, ρ⟩ fun r => ∀ c : Dev nD,
      r.2.mem ((c : Thread nD τ).loc main_v0_0) = queries rfl (argX m c) (argG m c) (argW m c) (argT m c)
      ∧ r.2.mem ((c : Thread nD τ).loc main_v0_1) = keys (argX m c) (argG m c) (argW m c) (argT m c)
      ∧ r.2.mem ((c : Thread nD τ).loc main_v0_2) = values rfl (argX m c) (argG m c) (argW m c)
      ∧ r.2.mem ((c : Thread nD τ).loc main_v0_3) = channels (argX m c) (argG m c) (argC m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (final5 m c), ((h.1 c).1 6).trans (final6 m c), ((h.1 c).1 7).trans (final7 m c),
    ((h.1 c).1 8).trans (final8 m c), h.2 c⟩) (θ_run_and (run_main m ρ) (unchanged m ρ))

end Proj
-- ==== Proof.Proj.Turn.lean ====
/-
  A head's rotation written as two nested concatenations of quarters: read entry by entry, every entry with its partner.
-/
module

public import proofs.«01_k».proof.Proof.Proj.Spec
public import Idealize.ShloMosaic.Lib.Pipeline.Value

@[expose] public section

set_option maxRecDepth 16384

noncomputable section

namespace Proj

open Idealize.ShloMosaic Idealize.ShloMosaic.TcCoe Idealize.SL.Sem
open Idealize.ShloMosaic.Pointwise

variable {N S H : ℕ}

/-- Rows of `W` entries for every head at every position. -/
abbrev Heads (N S H W : ℕ) : Shape := ⟨4, ![N, S, H, W]⟩

/-- Two rows of entries, one behind the other: an entry of the first, -/
theorem joined_left {W W' : ℕ} (u v : Vec Ideal (Heads N S H W) .f32)
    (hc : Shape.Concatenates [Heads N S H W, Heads N S H W] (Heads N S H W') 3) (b : Fin N) (s : Fin S) (h : Fin H)
    (r : Fin W) (d : Fin W') (hd : d.val = r.val) :
    concatenate (Heads N S H W') 3 [⟨Heads N S H W, u⟩, ⟨Heads N S H W, v⟩] hc (ix4 b s h d) = u (ix4 b s h r) := by
  refine Idealize.ShloMosaic.concatenate_pair_apply_left (t := Heads N S H W') (s₁ := Heads N S H W) (s₂ := Heads N S H W) _ _ _ _ _ rfl (ix4 b s h r) fun a => ?_
  match a with
  | ⟨0, _⟩ => rfl
  | ⟨1, _⟩ => rfl
  | ⟨2, _⟩ => rfl
  | ⟨3, _⟩ => exact hd.symm

/-- and one of the second. -/
theorem joined_right {W W' : ℕ} (u v : Vec Ideal (Heads N S H W) .f32)
    (hc : Shape.Concatenates [Heads N S H W, Heads N S H W] (Heads N S H W') 3) (b : Fin N) (s : Fin S) (h : Fin H)
    (r : Fin W) (d : Fin W') (hd : d.val = W + r.val) :
    concatenate (Heads N S H W') 3 [⟨Heads N S H W, u⟩, ⟨Heads N S H W, v⟩] hc (ix4 b s h d) = v (ix4 b s h r) := by
  refine Idealize.ShloMosaic.concatenate_pair_apply_right (t := Heads N S H W') (s₁ := Heads N S H W) (s₂ := Heads N S H W) _ _ _ _ _ rfl rfl (ix4 b s h r) (fun a ha => ?_) ?_
  · match a, ha with
    | ⟨0, _⟩, _ => rfl
    | ⟨1, _⟩, _ => rfl
    | ⟨2, _⟩, _ => rfl
    | ⟨3, _⟩, ha => exact absurd rfl ha
  · show r.val + W = d.val
    omega

/-- Entry `o + r` under the cosines and entry `p + r` under the signed sines. -/
def pairAt (z a c : Fin 64 → EReal) (o p : ℕ) (ho : o + 16 ≤ 64) (hp : p + 16 ≤ 64) (r : Fin 16) : EReal :=
  z ⟨o + r.val, by omega⟩ * a ⟨o + r.val, by omega⟩ + z ⟨p + r.val, by omega⟩ * c ⟨o + r.val, by omega⟩

/-- A head whose four quarters pair with their neighbours, joined, is every entry and its partner with their tables. -/
theorem turned_of_quarters (u0 u1 u2 u3 : Vec Ideal (Heads N S H 16) .f32)
    (hc : Shape.Concatenates [Heads N S H 16, Heads N S H 16] (Heads N S H 32) 3)
    (hc' : Shape.Concatenates [Heads N S H 32, Heads N S H 32] (Heads N S H 64) 3)
    (b : Fin N) (s : Fin S) (h : Fin H) (z a c : Fin 64 → EReal)
    (h0 : ∀ r, u0 (ix4 b s h r) = pairAt z a c 0 16 (by omega) (by omega) r)
    (h1 : ∀ r, u1 (ix4 b s h r) = pairAt z a c 16 0 (by omega) (by omega) r)
    (h2 : ∀ r, u2 (ix4 b s h r) = pairAt z a c 32 48 (by omega) (by omega) r)
    (h3 : ∀ r, u3 (ix4 b s h r) = pairAt z a c 48 32 (by omega) (by omega) r) (d : Fin 64) :
    concatenate (Heads N S H 64) 3
        [⟨Heads N S H 32, concatenate (Heads N S H 32) 3 [⟨Heads N S H 16, u0⟩, ⟨Heads N S H 16, u1⟩] hc⟩,
          ⟨Heads N S H 32, concatenate (Heads N S H 32) 3 [⟨Heads N S H 16, u2⟩, ⟨Heads N S H 16, u3⟩] hc⟩] hc' (ix4 b s h d)
      = z d * a d + z (partner d) * c d := by
  have key : ∀ p q : Fin 64, p = d → q = partner d → z p * a p + z q * c p = z d * a d + z (partner d) * c d := by
    rintro p q rfl rfl
    rfl
  rcases lt_or_ge d.val 32 with h32 | h32
  · refine (joined_left _ _ hc' b s h ⟨d.val, h32⟩ d rfl).trans ?_
    rcases lt_or_ge d.val 16 with h16 | h16
    · refine (joined_left _ _ hc b s h ⟨d.val, h16⟩ _ rfl).trans ((h0 _).trans (key _ _ (Fin.ext ?_) (Fin.ext ?_)))
      · show 0 + d.val = d.val
        omega
      · show 16 + d.val = if d.val % 32 < 16 then d.val + 16 else d.val - 16
        split <;> omega
    · refine (joined_right _ _ hc b s h ⟨d.val - 16, by omega⟩ _ (by show d.val = 16 + (d.val - 16); omega)).trans ((h1 _).trans (key _ _ (Fin.ext ?_) (Fin.ext ?_)))
      · show 16 + (d.val - 16) = d.val
        omega
      · show 0 + (d.val - 16) = if d.val % 32 < 16 then d.val + 16 else d.val - 16
        split <;> omega
  · refine (joined_right _ _ hc' b s h ⟨d.val - 32, by omega⟩ d (by show d.val = 32 + (d.val - 32); omega)).trans ?_
    rcases lt_or_ge d.val 48 with h48 | h48
    · refine (joined_left _ _ hc b s h ⟨d.val - 32, by omega⟩ _ rfl).trans ((h2 _).trans (key _ _ (Fin.ext ?_) (Fin.ext ?_)))
      · show 32 + (d.val - 32) = d.val
        omega
      · show 48 + (d.val - 32) = if d.val % 32 < 16 then d.val + 16 else d.val - 16
        split <;> omega
    · refine (joined_right _ _ hc b s h ⟨d.val - 48, by omega⟩ _ (by show d.val - 32 = 16 + (d.val - 48); omega)).trans ((h3 _).trans (key _ _ (Fin.ext ?_) (Fin.ext ?_)))
      · show 48 + (d.val - 48) = d.val
        omega
      · show 32 + (d.val - 48) = if d.val % 32 < 16 then d.val + 16 else d.val - 16
        split <;> omega

/-- A pair whose places are given by their values. -/
theorem pairAt_of_val (z a c : Fin 64 → EReal) (o p : ℕ) (ho : o + 16 ≤ 64) (hp : p + 16 ≤ 64) (r : Fin 16) {i j k l : Fin 64}
    (hi : i.val = o + r.val) (hj : j.val = o + r.val) (hk : k.val = p + r.val) (hl : l.val = o + r.val) :
    z i * a j + z k * c l = pairAt z a c o p ho hp r :=
  congrArg₂ (· + ·) (congrArg₂ (· * ·) (congrArg z (Fin.ext hi)) (congrArg a (Fin.ext hj)))
    (congrArg₂ (· * ·) (congrArg z (Fin.ext hk)) (congrArg c (Fin.ext hl)))

/-- A head taken from the row's projection, normed and turned in steps, is the turned head of `Spec.lean`. -/
theorem headRow_of_steps (x g : Fin 1024 → EReal) (w : Fin 768 → Fin 1024 → EReal) (a b : Fin 64 → EReal) (o : ℕ) (ho : o + 64 ≤ 768)
    (turned normed head cs sn : Fin 64 → EReal) (ht : ∀ d, turned d = normed d * cs d + normed (partner d) * sn d)
    (hn : ∀ d, normed d = head d * headScale head) (hh : ∀ d, head d = zRow x g w ⟨o + d.val, by omega⟩)
    (hc : ∀ d, cs d = a d) (hs : ∀ d, sn d = b d) (d : Fin 64) : turned d = headRow x g w a b o ho d := by
  obtain rfl : cs = a := funext hc
  obtain rfl : sn = b := funext hs
  rw [ht, hn, hn, ← turn_eq]
  exact congrArg (fun z => turn z _ _ d) (funext hh)

end Proj
-- ==== Proof.Proj.RefValue.lean ====
/-
  What the projection's reference computes: its four results are those of `Spec.lean`.
-/
module

public import proofs.«01_k».proof.Proof.Proj.Turn
public import proofs.«01_k».proof.Proof.Gen.ProjReferenceIdeal.Run
public import proofs.«01_k».proof.Proof.Gen.ProjReferenceIdeal.Read

@[expose] public section

set_option maxRecDepth 16384

noncomputable section

namespace Proj

open Cert.ProjReferenceIdeal Cert.ProjReferenceIdeal.Gen Cert.ProjReferenceIdeal.Read Idealize.ShloMosaic Idealize.ShloMosaic.TcCoe Idealize.SL.Sem
open Idealize.ShloMosaic.Pointwise

variable (x : Vec Ideal S4x8192x1024 .f32) (g : Vec Ideal S1x1024 .f32) (w : Vec Ideal S768x1024 .bf16) (wc : Vec Ideal S1024x1024 .bf16)
  (T : Vec Ideal S4x64x8192 .f32)

/-- The normed rows. -/
theorem ref_rows (b : Fin 4) (s : Fin 8192) (k : Fin 1024) :
    val_main_v13 (F := Ideal) x g (ix3 b s k) = Tail.rms (fun k => x (ix3 b s k)) (fun k => g (ix2 0 k)) k := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl

/-- The projection's entries. -/
theorem ref_z (b : Fin 4) (s : Fin 8192) (e : Fin 768) :
    val_main_v15 (F := Ideal) x g w (ix3 b s e) = zRow (fun k => x (ix3 b s k)) (fun k => g (ix2 0 k)) (fun e k => w (ix2 e k)) e := by
  have h : val_main_v15 (F := Ideal) x g w (ix3 b s e) = ∑ k, val_main_v13 (F := Ideal) x g (ix3 b s k) * w (ix2 e k) := by
    pointwise [val_main_v15, val_main_v14]
  rw [h]
  exact Finset.sum_congr rfl fun k _ => congrArg (· * _) (ref_rows x g b s k)

/-- The query heads before the norm. -/
theorem ref_q_head (b : Fin 4) (s : Fin 8192) (h : Fin 8) (d : Fin 64) :
    val_main_v17 (F := Ideal) x g w (ix4 b s h d) = val_main_v15 (F := Ideal) x g w (ix3 b s ⟨64 * h.val + d.val, by omega⟩) := by
  pointwise [val_main_v17, val_main_v16]
  exact congrArg (fun e => val_main_v15 (F := Ideal) x g w (ix3 b s e)) (Fin.ext (by show h.val * 64 + d.val = 64 * h.val + d.val; omega))

/-- The normed query heads. -/
theorem ref_q_norm (b : Fin 4) (s : Fin 8192) (h : Fin 8) (d : Fin 64) :
    val_main_v31 (F := Ideal) x g w (ix4 b s h d) = val_main_v17 (F := Ideal) x g w (ix4 b s h d) * headScale (fun d => val_main_v17 (F := Ideal) x g w (ix4 b s h d)) := by
  pointwise [val_main_v22, val_main_v23, val_main_v24, val_main_v25, val_main_v26, val_main_v27, val_main_v28, val_main_v29, val_main_v30, val_main_v31, val_main_cst_2, val_main_cst_3, val_main_cst_4]
  rfl

/-- The query heads' cosines. -/
theorem ref_q_cos (s : Fin 8192) (d : Fin 64) : val_main_v34 (F := Ideal) T (ix2 s d) = T (ix3 0 d s) := by
  pointwise [val_main_v34, val_main_v33, val_main_v32]

/-- The query heads' signed sines. -/
theorem ref_q_sin (s : Fin 8192) (d : Fin 64) : val_main_v37 (F := Ideal) T (ix2 s d) = T (ix3 1 d s) := by
  pointwise [val_main_v37, val_main_v36, val_main_v35]

/-- The query heads' entries 0 to 15, turned. -/
theorem ref_q_quarter0 (b : Fin 4) (s : Fin 8192) (h : Fin 8) (r : Fin 16) :
    val_main_v53 (F := Ideal) x g w T (ix4 b s h r)
      = pairAt (fun d => val_main_v31 (F := Ideal) x g w (ix4 b s h d)) (fun d => val_main_v34 (F := Ideal) T (ix2 s d))
        (fun d => val_main_v37 (F := Ideal) T (ix2 s d)) 0 16 (by omega) (by omega) r := by
  unfold pairAt
  pointwise [val_main_v38, val_main_v39, val_main_v40, val_main_v41, val_main_v42, val_main_v43, val_main_v44, val_main_v45, val_main_v46, val_main_v47, val_main_v48, val_main_v49, val_main_v50, val_main_v51, val_main_v52, val_main_v53]

/-- The query heads' entries 16 to 31, turned. -/
theorem ref_q_quarter1 (b : Fin 4) (s : Fin 8192) (h : Fin 8) (r : Fin 16) :
    val_main_v64 (F := Ideal) x g w T (ix4 b s h r)
      = pairAt (fun d => val_main_v31 (F := Ideal) x g w (ix4 b s h d)) (fun d => val_main_v34 (F := Ideal) T (ix2 s d))
        (fun d => val_main_v37 (F := Ideal) T (ix2 s d)) 16 0 (by omega) (by omega) r := by
  unfold pairAt
  pointwise [val_main_v38, val_main_v39, val_main_v40, val_main_v41, val_main_v42, val_main_v54, val_main_v55, val_main_v56, val_main_v57, val_main_v58, val_main_v59, val_main_v60, val_main_v61, val_main_v62, val_main_v63, val_main_v64]

/-- The query heads' entries 32 to 47, turned. -/
theorem ref_q_quarter2 (b : Fin 4) (s : Fin 8192) (h : Fin 8) (r : Fin 16) :
    val_main_v81 (F := Ideal) x g w T (ix4 b s h r)
      = pairAt (fun d => val_main_v31 (F := Ideal) x g w (ix4 b s h d)) (fun d => val_main_v34 (F := Ideal) T (ix2 s d))
        (fun d => val_main_v37 (F := Ideal) T (ix2 s d)) 32 48 (by omega) (by omega) r := by
  refine Eq.trans ?_ (pairAt_of_val (i := ⟨32 + r.val, by omega⟩) (j := ⟨32 + r.val, by omega⟩) (k := ⟨32 + (16 + r.val), by omega⟩) (l := ⟨32 + r.val, by omega⟩) _ _ _ 32 48 (by omega) (by omega) r (by show 32 + r.val = 32 + r.val; omega) (by show 32 + r.val = 32 + r.val; omega) (by show 32 + (16 + r.val) = 48 + r.val; omega) (by show 32 + r.val = 32 + r.val; omega))
  pointwise [val_main_v66, val_main_v67, val_main_v68, val_main_v69, val_main_v70, val_main_v71, val_main_v72, val_main_v73, val_main_v74, val_main_v75, val_main_v76, val_main_v77, val_main_v78, val_main_v79, val_main_v80, val_main_v81]

/-- The query heads' entries 48 to 63, turned. -/
theorem ref_q_quarter3 (b : Fin 4) (s : Fin 8192) (h : Fin 8) (r : Fin 16) :
    val_main_v92 (F := Ideal) x g w T (ix4 b s h r)
      = pairAt (fun d => val_main_v31 (F := Ideal) x g w (ix4 b s h d)) (fun d => val_main_v34 (F := Ideal) T (ix2 s d))
        (fun d => val_main_v37 (F := Ideal) T (ix2 s d)) 48 32 (by omega) (by omega) r := by
  refine Eq.trans ?_ (pairAt_of_val (i := ⟨32 + (16 + r.val), by omega⟩) (j := ⟨32 + (16 + r.val), by omega⟩) (k := ⟨32 + r.val, by omega⟩) (l := ⟨32 + (16 + r.val), by omega⟩) _ _ _ 48 32 (by omega) (by omega) r (by show 32 + (16 + r.val) = 48 + r.val; omega) (by show 32 + (16 + r.val) = 48 + r.val; omega) (by show 32 + r.val = 32 + r.val; omega) (by show 32 + (16 + r.val) = 48 + r.val; omega))
  pointwise [val_main_v66, val_main_v67, val_main_v68, val_main_v69, val_main_v70, val_main_v82, val_main_v83, val_main_v84, val_main_v85, val_main_v86, val_main_v87, val_main_v88, val_main_v89, val_main_v90, val_main_v91, val_main_v92]

/-- The query heads turned: every entry and its partner with their tables. -/
theorem ref_q_turned (b : Fin 4) (s : Fin 8192) (h : Fin 8) (d : Fin 64) :
    val_main_v94 (F := Ideal) x g w T (ix4 b s h d)
      = val_main_v31 (F := Ideal) x g w (ix4 b s h d) * val_main_v34 (F := Ideal) T (ix2 s d)
        + val_main_v31 (F := Ideal) x g w (ix4 b s h (partner d)) * val_main_v37 (F := Ideal) T (ix2 s d) := by
  exact turned_of_quarters _ _ _ _ _ _ b s h (fun d => val_main_v31 (F := Ideal) x g w (ix4 b s h d))
    (fun d => val_main_v34 (F := Ideal) T (ix2 s d)) (fun d => val_main_v37 (F := Ideal) T (ix2 s d)) (ref_q_quarter0 x g w T b s h)
    (ref_q_quarter1 x g w T b s h) (ref_q_quarter2 x g w T b s h) (ref_q_quarter3 x g w T b s h) d

/-- They are the query heads of `Spec.lean`. -/
theorem ref_q (b : Fin 4) (s : Fin 8192) (h : Fin 8) (d : Fin 64) : val_main_v94 (F := Ideal) x g w T (ix4 b s h d) = qAt x g w T b h s d :=
  headRow_of_steps (fun k => x (ix3 b s k)) (fun k => g (ix2 0 k)) (fun e k => w (ix2 e k)) (fun d => T (ix3 0 d s)) (fun d => T (ix3 1 d s))
    (64 * h.val) (by omega) (fun d => val_main_v94 (F := Ideal) x g w T (ix4 b s h d)) (fun d => val_main_v31 (F := Ideal) x g w (ix4 b s h d))
    (fun d => val_main_v17 (F := Ideal) x g w (ix4 b s h d)) (fun d => val_main_v34 (F := Ideal) T (ix2 s d)) (fun d => val_main_v37 (F := Ideal) T (ix2 s d))
    (ref_q_turned x g w T b s h) (ref_q_norm x g w b s h) (fun d => (ref_q_head x g w b s h d).trans (ref_z x g w b s _)) (ref_q_cos T s) (ref_q_sin T s) d

/-- The key heads before the norm. -/
theorem ref_k_head (b : Fin 4) (s : Fin 8192) (h : Fin 2) (d : Fin 64) :
    val_main_v19 (F := Ideal) x g w (ix4 b s h d) = val_main_v15 (F := Ideal) x g w (ix3 b s ⟨512 + 64 * h.val + d.val, by omega⟩) := by
  pointwise [val_main_v19, val_main_v18]
  exact congrArg (fun e => val_main_v15 (F := Ideal) x g w (ix3 b s e)) (Fin.ext (by show 512 + (h.val * 64 + d.val) = 512 + 64 * h.val + d.val; omega))

/-- The normed key heads. -/
theorem ref_k_norm (b : Fin 4) (s : Fin 8192) (h : Fin 2) (d : Fin 64) :
    val_main_v104 (F := Ideal) x g w (ix4 b s h d) = val_main_v19 (F := Ideal) x g w (ix4 b s h d) * headScale (fun d => val_main_v19 (F := Ideal) x g w (ix4 b s h d)) := by
  pointwise [val_main_v95, val_main_v96, val_main_v97, val_main_v98, val_main_v99, val_main_v100, val_main_v101, val_main_v102, val_main_v103, val_main_v104, val_main_cst_5, val_main_cst_6, val_main_cst_7]
  rfl

/-- The key heads' cosines. -/
theorem ref_k_cos (s : Fin 8192) (d : Fin 64) : val_main_v107 (F := Ideal) T (ix2 s d) = T (ix3 2 d s) := by
  pointwise [val_main_v107, val_main_v106, val_main_v105]

/-- The key heads' signed sines. -/
theorem ref_k_sin (s : Fin 8192) (d : Fin 64) : val_main_v110 (F := Ideal) T (ix2 s d) = T (ix3 3 d s) := by
  pointwise [val_main_v110, val_main_v109, val_main_v108]

/-- The key heads' entries 0 to 15, turned. -/
theorem ref_k_quarter0 (b : Fin 4) (s : Fin 8192) (h : Fin 2) (r : Fin 16) :
    val_main_v126 (F := Ideal) x g w T (ix4 b s h r)
      = pairAt (fun d => val_main_v104 (F := Ideal) x g w (ix4 b s h d)) (fun d => val_main_v107 (F := Ideal) T (ix2 s d))
        (fun d => val_main_v110 (F := Ideal) T (ix2 s d)) 0 16 (by omega) (by omega) r := by
  unfold pairAt
  pointwise [val_main_v111, val_main_v112, val_main_v113, val_main_v114, val_main_v115, val_main_v116, val_main_v117, val_main_v118, val_main_v119, val_main_v120, val_main_v121, val_main_v122, val_main_v123, val_main_v124, val_main_v125, val_main_v126]

/-- The key heads' entries 16 to 31, turned. -/
theorem ref_k_quarter1 (b : Fin 4) (s : Fin 8192) (h : Fin 2) (r : Fin 16) :
    val_main_v137 (F := Ideal) x g w T (ix4 b s h r)
      = pairAt (fun d => val_main_v104 (F := Ideal) x g w (ix4 b s h d)) (fun d => val_main_v107 (F := Ideal) T (ix2 s d))
        (fun d => val_main_v110 (F := Ideal) T (ix2 s d)) 16 0 (by omega) (by omega) r := by
  unfold pairAt
  pointwise [val_main_v111, val_main_v112, val_main_v113, val_main_v114, val_main_v115, val_main_v127, val_main_v128, val_main_v129, val_main_v130, val_main_v131, val_main_v132, val_main_v133, val_main_v134, val_main_v135, val_main_v136, val_main_v137]

/-- The key heads' entries 32 to 47, turned. -/
theorem ref_k_quarter2 (b : Fin 4) (s : Fin 8192) (h : Fin 2) (r : Fin 16) :
    val_main_v154 (F := Ideal) x g w T (ix4 b s h r)
      = pairAt (fun d => val_main_v104 (F := Ideal) x g w (ix4 b s h d)) (fun d => val_main_v107 (F := Ideal) T (ix2 s d))
        (fun d => val_main_v110 (F := Ideal) T (ix2 s d)) 32 48 (by omega) (by omega) r := by
  refine Eq.trans ?_ (pairAt_of_val (i := ⟨32 + r.val, by omega⟩) (j := ⟨32 + r.val, by omega⟩) (k := ⟨32 + (16 + r.val), by omega⟩) (l := ⟨32 + r.val, by omega⟩) _ _ _ 32 48 (by omega) (by omega) r (by show 32 + r.val = 32 + r.val; omega) (by show 32 + r.val = 32 + r.val; omega) (by show 32 + (16 + r.val) = 48 + r.val; omega) (by show 32 + r.val = 32 + r.val; omega))
  pointwise [val_main_v139, val_main_v140, val_main_v141, val_main_v142, val_main_v143, val_main_v144, val_main_v145, val_main_v146, val_main_v147, val_main_v148, val_main_v149, val_main_v150, val_main_v151, val_main_v152, val_main_v153, val_main_v154]

/-- The key heads' entries 48 to 63, turned. -/
theorem ref_k_quarter3 (b : Fin 4) (s : Fin 8192) (h : Fin 2) (r : Fin 16) :
    val_main_v165 (F := Ideal) x g w T (ix4 b s h r)
      = pairAt (fun d => val_main_v104 (F := Ideal) x g w (ix4 b s h d)) (fun d => val_main_v107 (F := Ideal) T (ix2 s d))
        (fun d => val_main_v110 (F := Ideal) T (ix2 s d)) 48 32 (by omega) (by omega) r := by
  refine Eq.trans ?_ (pairAt_of_val (i := ⟨32 + (16 + r.val), by omega⟩) (j := ⟨32 + (16 + r.val), by omega⟩) (k := ⟨32 + r.val, by omega⟩) (l := ⟨32 + (16 + r.val), by omega⟩) _ _ _ 48 32 (by omega) (by omega) r (by show 32 + (16 + r.val) = 48 + r.val; omega) (by show 32 + (16 + r.val) = 48 + r.val; omega) (by show 32 + r.val = 32 + r.val; omega) (by show 32 + (16 + r.val) = 48 + r.val; omega))
  pointwise [val_main_v139, val_main_v140, val_main_v141, val_main_v142, val_main_v143, val_main_v155, val_main_v156, val_main_v157, val_main_v158, val_main_v159, val_main_v160, val_main_v161, val_main_v162, val_main_v163, val_main_v164, val_main_v165]

/-- The key heads turned: every entry and its partner with their tables. -/
theorem ref_k_turned (b : Fin 4) (s : Fin 8192) (h : Fin 2) (d : Fin 64) :
    val_main_v167 (F := Ideal) x g w T (ix4 b s h d)
      = val_main_v104 (F := Ideal) x g w (ix4 b s h d) * val_main_v107 (F := Ideal) T (ix2 s d)
        + val_main_v104 (F := Ideal) x g w (ix4 b s h (partner d)) * val_main_v110 (F := Ideal) T (ix2 s d) := by
  exact turned_of_quarters _ _ _ _ _ _ b s h (fun d => val_main_v104 (F := Ideal) x g w (ix4 b s h d))
    (fun d => val_main_v107 (F := Ideal) T (ix2 s d)) (fun d => val_main_v110 (F := Ideal) T (ix2 s d)) (ref_k_quarter0 x g w T b s h)
    (ref_k_quarter1 x g w T b s h) (ref_k_quarter2 x g w T b s h) (ref_k_quarter3 x g w T b s h) d

/-- They are the key heads of `Spec.lean`. -/
theorem ref_k (b : Fin 4) (s : Fin 8192) (h : Fin 2) (d : Fin 64) : val_main_v167 (F := Ideal) x g w T (ix4 b s h d) = kAt x g w T b h s d :=
  headRow_of_steps (fun k => x (ix3 b s k)) (fun k => g (ix2 0 k)) (fun e k => w (ix2 e k)) (fun d => T (ix3 2 d s)) (fun d => T (ix3 3 d s))
    (512 + 64 * h.val) (by omega) (fun d => val_main_v167 (F := Ideal) x g w T (ix4 b s h d)) (fun d => val_main_v104 (F := Ideal) x g w (ix4 b s h d))
    (fun d => val_main_v19 (F := Ideal) x g w (ix4 b s h d)) (fun d => val_main_v107 (F := Ideal) T (ix2 s d)) (fun d => val_main_v110 (F := Ideal) T (ix2 s d))
    (ref_k_turned x g w T b s h) (ref_k_norm x g w b s h) (fun d => (ref_k_head x g w b s h d).trans (ref_z x g w b s _)) (ref_k_cos T s) (ref_k_sin T s) d

/-- The value heads. -/
theorem ref_v (b : Fin 4) (s : Fin 8192) (h : Fin 2) (d : Fin 64) : val_main_v21 (F := Ideal) x g w (ix4 b s h d) = vAt x g w b h s d := by
  have e : val_main_v21 (F := Ideal) x g w (ix4 b s h d) = val_main_v15 (F := Ideal) x g w (ix3 b s ⟨640 + 64 * h.val + d.val, by omega⟩) := by
    pointwise [val_main_v21, val_main_v20]
    exact congrArg (fun e => val_main_v15 (F := Ideal) x g w (ix3 b s e)) (Fin.ext (by show 640 + (h.val * 64 + d.val) = 640 + 64 * h.val + d.val; omega))
  exact e.trans (ref_z x g w b s _)

/-- The channels and gates. -/
theorem ref_u (b : Fin 4) (s : Fin 8192) (e : Fin 1024) :
    val_main_v169 (F := Ideal) x g wc (ix3 b s e) = uRow (fun k => x (ix3 b s k)) (fun k => g (ix2 0 k)) (fun k e => wc (ix2 k e)) e := by
  have h : val_main_v169 (F := Ideal) x g wc (ix3 b s e) = ∑ k, val_main_v13 (F := Ideal) x g (ix3 b s k) * wc (ix2 k e) := by
    pointwise [val_main_v169, val_main_v168]
  rw [h]
  exact Finset.sum_congr rfl fun k _ => congrArg (· * _) (ref_rows x g b s k)

/-- The gated channels. -/
theorem ref_c (b : Fin 4) (s : Fin 8192) (l : Fin 512) : val_main_v178 (F := Ideal) x g wc (ix3 b s l) = cAt x g wc b s l := by
  pointwise [val_main_v170, val_main_v171, val_main_v172, val_main_v173, val_main_v174, val_main_v175, val_main_v176, val_main_v177, val_main_v178, val_main_cst_8, val_main_cst_9]
  rw [ref_u, ref_u]
  unfold cAt gated
  rfl

/-- How the queries are laid out. -/
theorem queries_laid (u : Vec Ideal S4x8192x8x64 .f32) (b : Fin 4) (h : Fin 8) (j : Fin 16) (d : Fin 64) (t : Fin 512) :
    truncf (F := Ideal) .bf16 (transpose S4x8x16x64x512 [0, 3, 1, 4, 2] (shapeCast S4x16x512x8x64 u shapeCasts_S4x8192x8x64_S4x16x512x8x64)
      transposes_S4x16x512x8x64_S4x8x16x64x512_0_3_1_4_2) bitsLt_bf16_f32 (ix5 b h j d t) = u (ix4 b (place rfl j t) h d) := by
  pointwise []
  exact congrArg (fun s => u (ix4 b s h d)) (Fin.ext (by show j.val * 512 + t.val = 512 * j.val + t.val; omega))

/-- The reference's queries. -/
theorem reference_queries : val_main_v183 (F := Ideal) x g w T = queries rfl x g w T := by
  funext i
  rw [eq_ix5 i]
  generalize i 0 = b
  generalize i 1 = h
  generalize i 2 = j
  generalize i 3 = d
  generalize i 4 = t
  change Fin 4 at b
  change Fin 8 at h
  change Fin 16 at j
  change Fin 64 at d
  change Fin 512 at t
  unfold val_main_v183 val_main_v180 val_main_v179
  exact (queries_laid _ b h j d t).trans (ref_q x g w T b _ h d)

/-- The reference's keys. -/
theorem reference_keys : val_main_v185 (F := Ideal) x g w T = keys x g w T := by
  funext i
  rw [eq_ix4 i]
  generalize i 0 = b
  generalize i 1 = h
  generalize i 2 = s
  generalize i 3 = d
  change Fin 4 at b
  change Fin 2 at h
  change Fin 8192 at s
  change Fin 64 at d
  have e : val_main_v185 (F := Ideal) x g w T (ix4 b h s d) = val_main_v167 (F := Ideal) x g w T (ix4 b s h d) := by
    pointwise [val_main_v185, val_main_v184]
  exact e.trans (ref_k x g w T b s h d)

/-- The reference's values. -/
theorem reference_values : val_main_v186 (F := Ideal) x g w = values rfl x g w := by
  funext i
  rw [eq_ix5 i]
  generalize i 0 = b
  generalize i 1 = h
  generalize i 2 = j
  generalize i 3 = d
  generalize i 4 = t
  change Fin 4 at b
  change Fin 2 at h
  change Fin 16 at j
  change Fin 64 at d
  change Fin 512 at t
  have e : val_main_v186 (F := Ideal) x g w (ix5 b h j d t) = val_main_v21 (F := Ideal) x g w (ix4 b (place rfl j t) h d) := by
    pointwise [val_main_v186, val_main_v182, val_main_v181]
    exact congrArg (fun s => val_main_v21 (F := Ideal) x g w (ix4 b s h d)) (Fin.ext (by show j.val * 512 + t.val = 512 * j.val + t.val; omega))
  exact e.trans (ref_v x g w b _ h d)

/-- The reference's gated channels. -/
theorem reference_channels : val_main_v178 (F := Ideal) x g wc = channels x g wc := by
  funext i
  rw [eq_ix3 i]
  exact ref_c x g wc (i 0) (i 1) (i 2)

open Idealize.ShloMosaic.StableHlo in
/-- The reference runs, ends with the four arrays, and leaves the arguments unchanged. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v183) = queries rfl (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v185) = keys (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v186) = values rfl (m ((c.tc : Thread nD τ).loc main_arg0)) (m ((c.tc : Thread nD τ).loc main_arg1)) (m ((c.tc : Thread nD τ).loc main_arg2))
      ∧ r.2.mem ((c.tc : Thread nD τ).loc main_v178) = channels (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v183_eq (launchContents m c)).trans (reference_queries _ _ _ _)),
    (h c).2.1.trans ((val_main_v185_eq (launchContents m c)).trans (reference_keys _ _ _ _)),
    (h c).2.2.1.trans ((val_main_v186_eq (launchContents m c)).trans (reference_values _ _ _)),
    (h c).2.2.2.1.trans ((val_main_v178_eq (launchContents m c)).trans (reference_channels _ _ _)), (h c).2.2.2.2⟩)
    (Cert.ProjReferenceIdeal.Value.run m ρ)

end Proj
-- ==== Proof.Sample.AttnBlock.lean ====
/-
  What the attention body computes at one grid point at the sample batch's shapes: each head's loop keeps the running softmax of its queries
  over 2048 keys, 512 a trip, by the same step as at the prompt's shapes.
-/
module

public import proofs.«01_k».proof.Proof.Block
public import proofs.«01_k».proof.Proof.Gen.SampleAttnIdeal.Value

@[expose] public section

set_option maxRecDepth 16384

noncomputable section

namespace SampleAttn

open Attn Cert.SampleAttnIdeal Cert.SampleAttnIdeal.Gen Idealize.ShloMosaic Idealize.ShloMosaic.TcCoe Idealize.SL.Sem
open Idealize.ShloMosaic.Pointwise

variable {s : Fin 512 → ℕ → ℝ} {v : Fin 64 → ℕ → EReal}

section Loops

variable (c : Dev nD) (i : grid0.Coords) (arg3 : Memref sig .tc .vmem S1x4x1x64x512 .bf16) (harg3 : arg3.IsWhole)
  (arg4 : Memref sig .tc .vmem S1x1x2048x64 .bf16) (harg4 : arg4.IsWhole)
  (arg5 : Memref sig .tc .vmem S1x1x4x64x512 .bf16) (harg5 : arg5.IsWhole)
  (arg6 : Memref sig .tc .vmem S1x512x256 .bf16) (harg6 : arg6.IsWhole)
  (B4 : Vec Ideal S1x1x2048x64 .bf16) (B5 : Vec Ideal S1x1x4x64x512 .bf16)
  (q : Vec Ideal S1x1x1x64x512 .bf16)
  (hs : ∀ x n, ∑ d : Fin 64, B4 (ix4 0 0 (key n) d) * q (ix5 0 0 0 d x) = (s x n : EReal))
  (hv : ∀ d n, B5 (ix5 0 0 (chunk n) d (place n)) = v d n)

include hs hv

/-- The first head's loop before trip `k`: a running softmax over `512 k` keys. -/
theorem loop1 : ∀ k, k ≤ 4 → Holds s v (512 * k)
    (st_k0_t1 (F := Ideal) Variants.none c none i arg3 harg3 arg4 harg4 arg5 harg5 arg6 harg6 q
      (harg4.unread B4) (harg5.unread B5) (k0_pay17, k0_pay18, k0_pay19) k)
  | 0, _ => holds_init
  | k + 1, hk => by
    have ih := loop1 k (by omega)
    have ht : k < k0_t1_loop.trips := hk
    rw [st_k0_t1_succ (k := ⟨k, ht⟩)]
    unfold tripR_k0_t1 trip_k0_t1
    dsimp only
    sl_unfold_words
    simp only [View.readAt_eq_ld, harg4.read_unread, harg5.read_unread]
    exact holds_chunk (J := 4) rfl hk q B4 B5 hs hv _ (k0_off1_eq ⟨k, ht⟩) (k0_off1_inb ⟨k, ht⟩) _ (k0_off2_eq ⟨k, ht⟩) (k0_off2_inb ⟨k, ht⟩) _ ih

/-- The second head's loop before trip `k`. -/
theorem loop2 : ∀ k, k ≤ 4 → Holds s v (512 * k)
    (st_k0_t2 (F := Ideal) Variants.none c none i arg3 harg3 arg4 harg4 arg5 harg5 arg6 harg6 q
      (harg4.unread B4) (harg5.unread B5) (k0_pay27, k0_pay28, k0_pay29) k)
  | 0, _ => holds_init
  | k + 1, hk => by
    have ih := loop2 k (by omega)
    have ht : k < k0_t2_loop.trips := hk
    rw [st_k0_t2_succ (k := ⟨k, ht⟩)]
    unfold tripR_k0_t2 trip_k0_t2
    dsimp only
    sl_unfold_words
    simp only [View.readAt_eq_ld, harg4.read_unread, harg5.read_unread]
    exact holds_chunk (J := 4) rfl hk q B4 B5 hs hv _ (k0_off3_eq ⟨k, ht⟩) (k0_off3_inb ⟨k, ht⟩) _ (k0_off4_eq ⟨k, ht⟩) (k0_off4_inb ⟨k, ht⟩) _ ih

/-- The third head's loop before trip `k`. -/
theorem loop3 : ∀ k, k ≤ 4 → Holds s v (512 * k)
    (st_k0_t3 (F := Ideal) Variants.none c none i arg3 harg3 arg4 harg4 arg5 harg5 arg6 harg6 (k0_pay37 q)
      (harg4.unread B4) (harg5.unread B5) (k0_pay38, k0_pay39, k0_pay40) k)
  | 0, _ => holds_init
  | k + 1, hk => by
    have ih := loop3 k (by omega)
    have ht : k < k0_t3_loop.trips := hk
    rw [st_k0_t3_succ (k := ⟨k, ht⟩)]
    unfold tripR_k0_t3 trip_k0_t3
    dsimp only
    sl_unfold_words
    simp only [View.readAt_eq_ld, harg4.read_unread, harg5.read_unread]
    exact holds_chunk (J := 4) rfl hk q B4 B5 hs hv _ (k0_off5_eq ⟨k, ht⟩) (k0_off5_inb ⟨k, ht⟩) _ (k0_off6_eq ⟨k, ht⟩) (k0_off6_inb ⟨k, ht⟩) _ ih

/-- The fourth head's loop before trip `k`. -/
theorem loop4 : ∀ k, k ≤ 4 → Holds s v (512 * k)
    (st_k0_t4 (F := Ideal) Variants.none c none i arg3 harg3 arg4 harg4 arg5 harg5 arg6 harg6 q
      (harg4.unread B4) (harg5.unread B5) (k0_pay7, k0_pay8, k0_pay9) k)
  | 0, _ => holds_init
  | k + 1, hk => by
    have ih := loop4 k (by omega)
    have ht : k < k0_t4_loop.trips := hk
    rw [st_k0_t4_succ (k := ⟨k, ht⟩)]
    unfold tripR_k0_t4 trip_k0_t4
    dsimp only
    sl_unfold_words
    simp only [View.readAt_eq_ld, harg4.read_unread, harg5.read_unread]
    exact holds_chunk (J := 4) rfl hk q B4 B5 hs hv _ (k0_off7_eq ⟨k, ht⟩) (k0_off7_inb ⟨k, ht⟩) _ (k0_off8_eq ⟨k, ht⟩) (k0_off8_inb ⟨k, ht⟩) _ ih

end Loops

/-- THE BODY'S BLOCK: when the scores are real, query `x`'s entry for head `h` and coordinate `d` is the softmax mean of
    the values. -/
theorem out_apply (c : Dev nD) (i : grid0.Coords) (arg3 : Memref sig .tc .vmem S1x4x1x64x512 .bf16) (harg3 : arg3.IsWhole)
    (arg4 : Memref sig .tc .vmem S1x1x2048x64 .bf16) (harg4 : arg4.IsWhole)
    (arg5 : Memref sig .tc .vmem S1x1x4x64x512 .bf16) (harg5 : arg5.IsWhole)
    (arg6 : Memref sig .tc .vmem S1x512x256 .bf16) (harg6 : arg6.IsWhole)
    (Q : Vec Ideal S1x4x1x64x512 .bf16) (K : Vec Ideal S1x1x2048x64 .bf16) (V : Vec Ideal S1x1x4x64x512 .bf16)
    (hreal : ∀ h x n, blockScore Q K h x n = ((blockScore Q K h x n).toReal : EReal))
    (u : Fin 1) (x : Fin 512) (h : Fin 4) (d : Fin 64) :
    out0_A_3 (F := Ideal) c i arg3 harg3 arg4 harg4 arg5 harg5 arg6 harg6 Q K V
        (ix3 u x ⟨64 * h.val + d.val, by have := h.isLt; have := d.isLt; omega⟩)
      = mean (fun n => (blockScore Q K h x n).toReal) (blockValue V d) 2048 := by
  unfold out0_A_3
  rw [View.read_writes_eq_canon _ _ _ (fun y => cover0_A_3 c i arg3 harg3 arg4 harg4 arg5 harg5 arg6 harg6 Q K V y)]
  unfold kernelRun0_A
  dsimp only
  sl_unfold_words
  rw [View.canon_unit_zero (by decide)]
  simp only [View.readAt_eq_ld, harg4.read_unread, harg5.read_unread, harg3.read_unread]
  have hs := score_loaded Q K hreal
  exact stored_apply _ _ _ _ _ _ _ _ (fun h d x => mean (fun n => (blockScore Q K h x n).toReal) (blockValue V d) 2048)
    (Holds.mean (by norm_num) _ (loop1 c i arg3 harg3 arg4 harg4 arg5 harg5 arg6 harg6 K V _ (hs 0 _) (fun _ _ => rfl) 4 le_rfl))
    (Holds.mean (by norm_num) _ (loop2 c i arg3 harg3 arg4 harg4 arg5 harg5 arg6 harg6 K V _ (hs 1 _) (fun _ _ => rfl) 4 le_rfl))
    (Holds.mean (by norm_num) _ (loop3 c i arg3 harg3 arg4 harg4 arg5 harg5 arg6 harg6 K V _ (hs 2 _) (fun _ _ => rfl) 4 le_rfl))
    (Holds.mean (by norm_num) _ (loop4 c i arg3 harg3 arg4 harg4 arg5 harg5 arg6 harg6 K V _ (hs 3 _) (fun _ _ => rfl) 4 le_rfl))
    u x h d

end SampleAttn
-- ==== Proof.Sample.AttnArray.lean ====
/-
  The attention program's result array after a run at the sample batch's shapes: every grid point writes its block of `attn` of the three arguments,
  and the blocks cover the array.
-/
module

public import proofs.«01_k».proof.Proof.Spec
public import proofs.«01_k».proof.Proof.Sample.AttnBlock
public import Idealize.ShloMosaic.Lib.Pipeline.Value

@[expose] public section

set_option maxRecDepth 16384

noncomputable section

namespace SampleAttn

open Attn Cert.SampleAttnIdeal Cert.SampleAttnIdeal.Gen Idealize.ShloMosaic Idealize.ShloMosaic.TcCoe Idealize.SL.Sem
open Idealize.ShloMosaic.Pointwise
open Idealize.ShloMosaic.Pipeline (Dat)

/-- The windows' block indices at grid point `t`: batch `t / 8`, key/value head `t / 4 % 2`, query tile `t % 4`. -/
theorem index_facts : ∀ t : Fin grid0.N,
    (win0_0.index t 0 = t.val / 8 ∧ win0_0.index t 1 = t.val / 4 % 2 ∧ win0_0.index t 2 = t.val % 4
      ∧ win0_0.index t 3 = 0 ∧ win0_0.index t 4 = 0)
    ∧ (win0_1.index t 0 = t.val / 8 ∧ win0_1.index t 1 = t.val / 4 % 2 ∧ win0_1.index t 2 = 0 ∧ win0_1.index t 3 = 0)
    ∧ (win0_2.index t 0 = t.val / 8 ∧ win0_2.index t 1 = t.val / 4 % 2 ∧ win0_2.index t 2 = 0 ∧ win0_2.index t 3 = 0
      ∧ win0_2.index t 4 = 0)
    ∧ (win0_3.index t 0 = t.val / 8 ∧ win0_3.index t 1 = t.val % 4 ∧ win0_3.index t 2 = t.val / 4 % 2) := by
  decide +kernel

/-- The grid's point `t` among its 256. -/
theorem point_lt (t : Fin cfg0.N) : t.val < 256 := lt_of_lt_of_eq t.isLt N_0

/-- Point `t`'s batch, key/value head and query tile. -/
def pb (t : Fin cfg0.N) : Fin 32 := ⟨t.val / 8, by have := point_lt t; omega⟩
/-- Point `t`'s key/value head. -/
def pg (t : Fin cfg0.N) : Fin 2 := ⟨t.val / 4 % 2, by omega⟩
/-- Point `t`'s query tile. -/
def pj (t : Fin cfg0.N) : Fin 4 := ⟨t.val % 4, by omega⟩

variable (m : (ℓ : Loc nD τ sig) → Buf (Elt Ideal) ℓ) (ρ : Dev nD → PrngReg)

/-- The query argument on device `c`. -/
abbrev argQ (c : Dev nD) : Vec Ideal S32x8x4x64x512 .bf16 := m ((c : Thread nD τ).loc main_arg0)
/-- The key argument on device `c`. -/
abbrev argK (c : Dev nD) : Vec Ideal S32x2x2048x64 .bf16 := m ((c : Thread nD τ).loc main_arg1)
/-- The value argument on device `c`. -/
abbrev argV (c : Dev nD) : Vec Ideal S32x2x4x64x512 .bf16 := m ((c : Thread nD τ).loc main_arg2)

/-- The query block at a point, read off the query argument. -/
theorem iblk0_apply (c : Dev nD) (t : Fin cfg0.N) (h : Fin 4) (a : Fin 8) (ha : a.val = 4 * (pg t).val + h.val) (d : Fin 64) (x : Fin 512) :
    iblk m c 0 t (ix5 0 h 0 d x) = argQ m c (ix5 (pb t) a (pj t) d x) := by
  obtain ⟨⟨e0, e1, e2, e3, e4⟩, _⟩ := index_facts t
  refine congrArg (argQ m c) (funext fun e => Fin.ext ?_)
  match e with
  | ⟨0, _⟩ => show win0_0.index t 0 * 1 + 0 = t.val / 8; rw [e0]; omega
  | ⟨1, _⟩ => show win0_0.index t 1 * 4 + 1 * h.val = a.val; rw [e1, ha]; show t.val / 4 % 2 * 4 + 1 * h.val = 4 * (t.val / 4 % 2) + h.val; omega
  | ⟨2, _⟩ => show win0_0.index t 2 * 1 + 0 = t.val % 4; rw [e2]; omega
  | ⟨3, _⟩ => show win0_0.index t 3 * 64 + 1 * d.val = d.val; rw [e3]; omega
  | ⟨4, _⟩ => show win0_0.index t 4 * 512 + 1 * x.val = x.val; rw [e4]; omega

/-- The key block at a point, read off the key argument. -/
theorem iblk1_apply (c : Dev nD) (t : Fin cfg0.N) (n : Fin 2048) (d : Fin 64) :
    iblk m c 1 t (ix4 0 0 n d) = argK m c (ix4 (pb t) (pg t) n d) := by
  obtain ⟨_, ⟨e0, e1, e2, e3⟩, _⟩ := index_facts t
  refine congrArg (argK m c) (funext fun a => Fin.ext ?_)
  match a with
  | ⟨0, _⟩ => show win0_1.index t 0 * 1 + 0 = t.val / 8; rw [e0]; omega
  | ⟨1, _⟩ => show win0_1.index t 1 * 1 + 0 = t.val / 4 % 2; rw [e1]; omega
  | ⟨2, _⟩ => show win0_1.index t 2 * 2048 + 1 * n.val = n.val; rw [e2]; omega
  | ⟨3, _⟩ => show win0_1.index t 3 * 64 + 1 * d.val = d.val; rw [e3]; omega

/-- The value block at a point, read off the value argument. -/
theorem iblk2_apply (c : Dev nD) (t : Fin cfg0.N) (k : Fin 4) (d : Fin 64) (x : Fin 512) :
    iblk m c 2 t (ix5 0 0 k d x) = argV m c (ix5 (pb t) (pg t) k d x) := by
  obtain ⟨_, _, ⟨e0, e1, e2, e3, e4⟩, _⟩ := index_facts t
  refine congrArg (argV m c) (funext fun a => Fin.ext ?_)
  match a with
  | ⟨0, _⟩ => show win0_2.index t 0 * 1 + 0 = t.val / 8; rw [e0]; omega
  | ⟨1, _⟩ => show win0_2.index t 1 * 1 + 0 = t.val / 4 % 2; rw [e1]; omega
  | ⟨2, _⟩ => show win0_2.index t 2 * 4 + 1 * k.val = k.val; rw [e2]; omega
  | ⟨3, _⟩ => show win0_2.index t 3 * 64 + 1 * d.val = d.val; rw [e3]; omega
  | ⟨4, _⟩ => show win0_2.index t 4 * 512 + 1 * x.val = x.val; rw [e4]; omega

/-- WHAT POINT `t` WRITES BACK is its block of `attn`, when the scores are real. -/
theorem flushed_eq (c : Dev nD) (hreal : ∀ b h t n, score (argQ m c) (argK m c) b h t n = ((score (argQ m c) (argK m c) b h t n).toReal : EReal))
    (t : Fin cfg0.N) :
    (dats m 0 c).flushed 3 t = ((cfg0.win 3).blk t).view.read (Elt Ideal) (attn (argQ m c) (argK m c) (argV m c)) := by
  rw [Value.flushed3_A]
  obtain ⟨_, _, _, e0, e1, e2⟩ := index_facts t
  funext (y : S1x512x256.Idx)
  have hy : (y 2).val < 256 := (y 2).isLt
  have ey : y = ix3 (y 0) (y 1) ⟨64 * ((y 2).val / 64) + (y 2).val % 64, by omega⟩ := by
    funext a
    match a with
    | ⟨0, _⟩ => rfl
    | ⟨1, _⟩ => rfl
    | ⟨2, _⟩ => exact Fin.ext (by show (y 2).val = 64 * ((y 2).val / 64) + (y 2).val % 64; omega)
  show out0_A_3 (F := Ideal) c (grid0.coords t) (ms0_0 t) (hs0_0 t) (ms0_1 t) (hs0_1 t) (ms0_2 t) (hs0_2 t) (ms0_3 t) (hs0_3 t)
    (iblk m c 0 t) (iblk m c 1 t) (iblk m c 2 t) y = attn (argQ m c) (argK m c) (argV m c) (((cfg0.win 3).blk t).view.emb y)
  have ht := point_lt t
  have hx : (y 1).val < 512 := (y 1).isLt
  have hu : (y 0).val < 1 := (y 0).isLt
  have hs := blockScore_eq (J := 4) rfl (argQ m c) (argK m c) (iblk m c 0 t) (iblk m c 1 t) (pb t) (pg t) (pj t) (iblk0_apply m c t) (iblk1_apply m c t)
  refine (congrArg _ ey).trans ((out_apply c _ _ _ _ _ _ _ _ _ _ _ _ (fun h x n => by
      rw [hs h ⟨4 * (t.val / 4 % 2) + h.val, by omega⟩ rfl x ⟨512 * (t.val % 4) + x.val, by omega⟩ rfl n]; exact hreal _ _ _ _)
    (y 0) (y 1) ⟨(y 2).val / 64, by omega⟩ ⟨(y 2).val % 64, by omega⟩).trans ?_)
  have eemb : ((cfg0.win 3).blk t).view.emb y
      = ix3 (pb t) ⟨512 * (t.val % 4) + (y 1).val, by omega⟩ ⟨256 * (t.val / 4 % 2) + (y 2).val, by omega⟩ := by
    funext a
    refine Fin.ext ?_
    match a with
    | ⟨0, _⟩ => show win0_3.index t 0 * 1 + 1 * (y 0).val = t.val / 8; rw [e0]; omega
    | ⟨1, _⟩ => show win0_3.index t 1 * 512 + 1 * (y 1).val = 512 * (t.val % 4) + (y 1).val; rw [e1]; omega
    | ⟨2, _⟩ => show win0_3.index t 2 * 256 + 1 * (y 2).val = 256 * (t.val / 4 % 2) + (y 2).val; rw [e2]; omega
  rw [eemb]
  exact attn_block (J := 4) rfl (argQ m c) (argK m c) (argV m c) (iblk m c 0 t) (iblk m c 1 t) (iblk m c 2 t) (pb t) (pg t) (pj t)
    (iblk0_apply m c t) (iblk1_apply m c t) (iblk2_apply m c t) (y 1) (y 2) _ rfl _ rfl _ rfl _ rfl

/-- The blocks the points write back cover the result array. -/
theorem cover (i : S32x2048x512.Idx) : ∃ t : Fin cfg0.N, (cfg0.win 3).flush t = true ∧ i ∈ ((cfg0.win 3).blk t).view.set := by
  have h0 : (i 0).val < 32 := (i 0).isLt
  have h1 : (i 1).val < 2048 := (i 1).isLt
  have h2 : (i 2).val < 512 := (i 2).isLt
  have hN : cfg0.N = 256 := N_0
  refine ⟨⟨(i 0).val * 8 + (i 2).val / 256 * 4 + (i 1).val / 512, by omega⟩, flush0_3 _, ?_⟩
  generalize ht : (⟨(i 0).val * 8 + (i 2).val / 256 * 4 + (i 1).val / 512, by omega⟩ : Fin cfg0.N) = t
  have hv : t.val = (i 0).val * 8 + (i 2).val / 256 * 4 + (i 1).val / 512 := by rw [← ht]
  obtain ⟨_, _, _, e0, e1, e2⟩ := index_facts t
  show i ∈ ((View.whole main_v0).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [e0]; omega
  | ⟨1, _⟩ =>
    show win0_3.index t 1 * 512 ≤ (i 1).val ∧ (i 1).val < win0_3.index t 1 * 512 + 512
    rw [e1]; omega
  | ⟨2, _⟩ =>
    show win0_3.index t 2 * 256 ≤ (i 2).val ∧ (i 2).val < win0_3.index t 2 * 256 + 256
    rw [e2]; omega

/-- The result array after the run is attention of the arguments, -/
theorem final (c : Dev nD)
    (hreal : ∀ b h t n, score (argQ m c) (argK m c) b h t n = ((score (argQ m c) (argK m c) b h t n).toReal : EReal)) :
    (dats m 0 c).arrAt 3 cfg0.N = attn (argQ m c) (argK m c) (argV m c) :=
  (dats m 0 c).arrAt_eq_of_cover 3 _ (fun t _ => flushed_eq m c hreal t) cover

/-- and the run ends with it, the arguments unchanged. -/
theorem kernel_run (hreal : ∀ (c : Dev nD) b h t n, score (argQ m c) (argK m c) b h t n = ((score (argQ m c) (argK m c) b h t n).toReal : EReal)) :
    θ_run defs (onTc (τ := τ) (main (F := Ideal))) ⟨m, fun _ => 0, ρ⟩ fun r => ∀ c : Dev nD,
      r.2.mem ((c : Thread nD τ).loc main_v0) = attn (argQ m c) (argK m c) (argV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hreal c)), (h c).2⟩) (Value.run_blocks m ρ)

end SampleAttn
-- ==== Proof.Sample.AttnRef.lean ====
/-
  What the attention reference computes at the sample batch's shapes, index by index: `attn` of its three arguments.
-/
module

public import proofs.«01_k».proof.Proof.Shift
public import proofs.«01_k».proof.Proof.Gen.SampleAttnReferenceIdeal.Run
public import proofs.«01_k».proof.Proof.Gen.SampleAttnReferenceIdeal.Read

@[expose] public section

set_option maxRecDepth 16384

noncomputable section

namespace SampleAttn

open Attn Cert.SampleAttnReferenceIdeal Cert.SampleAttnReferenceIdeal.Gen Cert.SampleAttnReferenceIdeal.Read Idealize.ShloMosaic Idealize.ShloMosaic.TcCoe Idealize.SL.Sem
open Idealize.ShloMosaic.Pointwise

variable (Q : Vec Ideal S32x8x4x64x512 .bf16) (K : Vec Ideal S32x2x2048x64 .bf16) (V : Vec Ideal S32x2x4x64x512 .bf16)

/-- The reference's logits: the scores times the logarithm of two. -/
theorem logit_apply (b : Fin 32) (g : Fin 2) (r : Fin 4) (t n : Fin 2048) :
    val_main_v11 (F := Ideal) Q K (ix5 b g r t n)
      = score Q K b ⟨4 * g.val + r.val, by have := g.isLt; have := r.isLt; omega⟩ t n.val * (Real.log 2 : EReal) := by
  have h : val_main_v11 (F := Ideal) Q K (ix5 b g r t n) =
      (∑ x : Fin 64, K (ix4 b g n x) * Q (ix5 b ⟨g.val * 4 + r.val, by have := g.isLt; have := r.isLt; omega⟩
        ⟨t.val / 512, by have := t.isLt; omega⟩ x ⟨t.val % 512, by omega⟩)) * Ideal.log (Ideal.ofBits FTy.f32 0x40000000#32) := by
    pointwise [val_main_v11, val_main_v10, val_main_v9, val_main_cst, val_main_v8, val_main_v7, val_main_v3, val_main_v2, val_main_v1, val_main_v0]
  exact h.trans (logit_eq (J := 4) rfl Q K b g r t n)

/-- The reference's shift of a row of logits is a real when the scores are. -/
theorem shift_real (hreal : ∀ b h t n, score Q K b h t n = ((score Q K b h t n).toReal : EReal)) (j : S32x2x4x2048.Idx) :
    ∃ M : ℝ, val_main_v14 (F := Ideal) Q K j = (M : EReal) := by
  have hv (b : Fin 32) (g : Fin 2) (r : Fin 4) (t n : Fin 2048) : ∃ y : ℝ, val_main_v11 (F := Ideal) Q K (ix5 b g r t n) = (y : EReal) :=
    ⟨_, by rw [logit_apply, hreal, ← EReal.coe_mul]⟩
  obtain ⟨μ, hμ⟩ := reduce_max_real (by norm_num) (by decide) reducesTo_S32x2x4x2048x2048_S32x2x4x2048_d4 h_S_ (val_main_v11 (F := Ideal) Q K) (fun i => by
    rw [eq_ix5 i]
    exact hv (i 0) (i 1) (i 2) (i 3) (i 4)) j
  refine ⟨μ, ?_⟩
  rw [val_main_v14_apply, val_main_v13_apply]
  unfold val_main_v12
  show max (Ideal.ofBits .f32 0xFF800000#32) _ = _
  rw [ofBits_bot, max_eq_right bot_le]
  exact hμ

/-- The reference's softmax weights. -/
theorem weight_apply (hreal : ∀ b h t n, score Q K b h t n = ((score Q K b h t n).toReal : EReal))
    (b : Fin 32) (g : Fin 2) (r : Fin 4) (t n : Fin 2048) :
    val_main_v22 (F := Ideal) Q K (ix5 b g r t n)
      = ((weight (fun k => (score Q K b ⟨4 * g.val + r.val, by have := g.isLt; have := r.isLt; omega⟩ t k).toReal) 2048 n.val : ℝ) : EReal) := by
  have h : val_main_v22 (F := Ideal) Q K (ix5 b g r t n) =
      Ideal.div (Ideal.exp (val_main_v11 (F := Ideal) Q K (ix5 b g r t n) - val_main_v14 (F := Ideal) Q K (ix4 b g r t)))
        (∑ x, Ideal.exp (val_main_v11 (F := Ideal) Q K (ix5 b g r t x) - val_main_v14 (F := Ideal) Q K (ix4 b g r t))) := by
    pointwise [val_main_v22, val_main_v21, val_main_v20, val_main_v19, val_main_cst_2, val_main_v18, val_main_v17, val_main_v16, val_main_v15]
  rw [h]
  exact weight_of_logits (by norm_num) (fun k => score Q K b ⟨4 * g.val + r.val, by have := g.isLt; have := r.isLt; omega⟩ t k) (hreal b _ t)
    (fun x => val_main_v11 (F := Ideal) Q K (ix5 b g r t x)) _ (shift_real Q K hreal (ix4 b g r t)) (logit_apply Q K b g r t) n

/-- THE REFERENCE'S RESULT is `attn` of its arguments, when the scores are real. -/
theorem reference_eq (hreal : ∀ b h t n, score Q K b h t n = ((score Q K b h t n).toReal : EReal)) :
    val_main_v26 (F := Ideal) Q K V = attn Q K V := by
  funext i
  rw [eq_ix3 i]
  generalize i 0 = b
  generalize i 1 = t
  generalize i 2 = y
  change Fin 32 at b
  change Fin 2048 at t
  change Fin 512 at y
  have hy := y.isLt
  have h : val_main_v26 (F := Ideal) Q K V (ix3 b t y) = ∑ x : Fin 2048,
      V (ix5 b ⟨y.val / 256, by omega⟩ ⟨x.val / 512, by have := x.isLt; omega⟩ ⟨y.val % 64, by omega⟩ ⟨x.val % 512, by omega⟩) *
        val_main_v22 (F := Ideal) Q K (ix5 b ⟨y.val / 256, by omega⟩ ⟨y.val / 64 % 4, by omega⟩ t x) := by
    pointwise [val_main_v26, val_main_v25, val_main_v24, val_main_v23, val_main_v6, val_main_v5, val_main_v4]
  exact h.trans (attn_of_weights (J := 4) rfl Q K V (fun g r t n => val_main_v22 (F := Ideal) Q K (ix5 b g r t n)) b (weight_apply Q K hreal b) t y)

open Idealize.ShloMosaic.StableHlo in
/-- The reference runs, ends with `attn` of its arguments, and leaves the arguments unchanged. -/
theorem reference_run (m : (ℓ : Loc nD τ sig) → Buf (Elt Ideal) ℓ) (ρ : Dev nD → PrngReg)
    (hreal : ∀ (c : Dev nD) b h t n, score (m ((c.tc : Thread nD τ).loc main_arg0)) (m ((c.tc : Thread nD τ).loc main_arg1)) b h t n
      = ((score (m ((c.tc : Thread nD τ).loc main_arg0)) (m ((c.tc : Thread nD τ).loc main_arg1)) b h t n).toReal : EReal)) :
    θ_run (defs (F := Ideal)) (onTc (τ := τ) (main (F := Ideal))) ⟨m, fun _ => 0, ρ⟩ fun r => ∀ c : Dev nD,
      r.2.mem ((c.tc : Thread nD τ).loc main_v26) = attn (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v26_eq _ _).trans (reference_eq _ _ _ (hreal c))), (h c).2⟩)
    (Cert.SampleAttnReferenceIdeal.Value.run m ρ)

end SampleAttn
-- ==== Proof.Sample.AttnPre.lean ====
/-
  What the precondition at the sample batch's shapes says: every query and every key is a real.
-/
module

public import proofs.«01_k».proof.Proof.Pre
public import proofs.«01_k».proof.Proof.Gen.Pre_finite_sample
public import Idealize.ShloMosaic.Lib.ReduceAll

@[expose] public section

set_option maxRecDepth 16384

noncomputable section

namespace SampleAttn

open Attn Cert.Pre_finite_sample Cert.Pre_finite_sample.Gen Idealize.ShloMosaic

instance : Subsingleton S_.Idx := ⟨fun a b => funext fun k => k.elim0⟩

/-- The precondition's word is one only when every query and every key is a real. -/
theorem finite_real (Q : FVec Ideal S32x8x4x64x512 .bf16) (K : FVec Ideal S32x2x2048x64 .bf16) (V : FVec Ideal S32x2x4x64x512 .bf16)
    (h : fn (F := Ideal) Q K V = fun _ => 1#1) :
    (∀ i, (Q i : EReal) = ((Q i : EReal).toReal : EReal)) ∧ ∀ i, (K i : EReal) = ((K i : EReal).toReal : EReal) := by
  have h0 := congrFun h (Shape.Idx.first h_S_)
  dsimp only [fn] at h0
  obtain ⟨hq, hk⟩ := IntOp.andi_eq_one.1 h0
  exact ⟨fun i => real_of_abs_lt (by rw [← ofBits_top]; exact Host.reduce_andi_all _ _ _ _ _ hq i),
    fun i => real_of_abs_lt (by rw [← ofBits_top]; exact Host.reduce_andi_all _ _ _ _ _ hk i)⟩

end SampleAttn
-- ==== Proof.Sample.ProjArray.lean ====
/-
  The projection program at the sample batch's shapes: its four result arrays after a run: every grid point writes its blocks, and the blocks cover the arrays.
-/
module

public import proofs.«01_k».proof.Proof.Proj.Written
public import proofs.«01_k».proof.Proof.Gen.SampleProjIdeal.Frame

@[expose] public section

set_option maxRecDepth 16384

noncomputable section

namespace SampleProj

open Proj Cert.SampleProjIdeal Cert.SampleProjIdeal.Gen Idealize.ShloMosaic Idealize.ShloMosaic.TcCoe Idealize.SL.Sem
open Idealize.ShloMosaic.Pointwise
open Idealize.ShloMosaic.Pipeline (Dat)

/-- Window 0's block index at grid point `t` (batch `t / 4`, tile `t % 4`). -/
theorem index0 : ∀ t : Fin grid0.N, (win0_0.index t 0 = t.val / 4 ∧ win0_0.index t 1 = t.val % 4 ∧ win0_0.index t 2 = 0) := by
  decide +kernel

/-- Window 1's block index at grid point `t` (batch `t / 4`, tile `t % 4`). -/
theorem index1 : ∀ t : Fin grid0.N, (win0_1.index t 0 = 0 ∧ win0_1.index t 1 = 0) := by
  decide +kernel

/-- Window 2's block index at grid point `t` (batch `t / 4`, tile `t % 4`). -/
theorem index2 : ∀ t : Fin grid0.N, (win0_2.index t 0 = 0 ∧ win0_2.index t 1 = 0) := by
  decide +kernel

/-- Window 3's block index at grid point `t` (batch `t / 4`, tile `t % 4`). -/
theorem index3 : ∀ t : Fin grid0.N, (win0_3.index t 0 = 0 ∧ win0_3.index t 1 = 0) := by
  decide +kernel

/-- Window 4's block index at grid point `t` (batch `t / 4`, tile `t % 4`). -/
theorem index4 : ∀ t : Fin grid0.N, (win0_4.index t 0 = 0 ∧ win0_4.index t 1 = 0 ∧ win0_4.index t 2 = t.val % 4) := by
  decide +kernel

/-- Window 5's block index at grid point `t` (batch `t / 4`, tile `t % 4`). -/
theorem index5 : ∀ t : Fin grid0.N, (win0_5.index t 0 = t.val / 4 ∧ win0_5.index t 1 = 0 ∧ win0_5.index t 2 = t.val % 4 ∧ win0_5.index t 3 = 0 ∧ win0_5.index t 4 = 0) := by
  decide +kernel

/-- Window 6's block index at grid point `t` (batch `t / 4`, tile `t % 4`). -/
theorem index6 : ∀ t : Fin grid0.N, (win0_6.index t 0 = t.val / 4 ∧ win0_6.index t 1 = 0 ∧ win0_6.index t 2 = t.val % 4 ∧ win0_6.index t 3 = 0) := by
  decide +kernel

/-- Window 7's block index at grid point `t` (batch `t / 4`, tile `t % 4`). -/
theorem index7 : ∀ t : Fin grid0.N, (win0_7.index t 0 = t.val / 4 ∧ win0_7.index t 1 = 0 ∧ win0_7.index t 2 = t.val % 4 ∧ win0_7.index t 3 = 0 ∧ win0_7.index t 4 = 0) := by
  decide +kernel

/-- Window 8's block index at grid point `t` (batch `t / 4`, tile `t % 4`). -/
theorem index8 : ∀ t : Fin grid0.N, (win0_8.index t 0 = t.val / 4 ∧ win0_8.index t 1 = t.val % 4 ∧ win0_8.index t 2 = 0) := by
  decide +kernel

/-- The grid has 128 points. -/
theorem point_lt (t : Fin cfg0.N) : t.val < 128 := lt_of_lt_of_eq t.isLt N_0

/-- Point `t`'s batch. -/
def pb (t : Fin cfg0.N) : Fin 32 := ⟨t.val / 4, by have := point_lt t; omega⟩
/-- Point `t`'s tile. -/
def pj (t : Fin cfg0.N) : Fin 4 := ⟨t.val % 4, by omega⟩

variable (m : (ℓ : Loc nD τ sig) → Buf (Elt Ideal) ℓ) (ρ : Dev nD → PrngReg)

/-- The rows. -/
abbrev argX (c : Dev nD) : Vec Ideal S32x2048x1024 .f32 := m ((c : Thread nD τ).loc main_arg0)
/-- The gains. -/
abbrev argG (c : Dev nD) : Vec Ideal S1x1024 .f32 := m ((c : Thread nD τ).loc main_arg1)
/-- The weights of queries, keys and values. -/
abbrev argW (c : Dev nD) : Vec Ideal S768x1024 .bf16 := m ((c : Thread nD τ).loc main_arg2)
/-- The weights of the convolution's channels. -/
abbrev argC (c : Dev nD) : Vec Ideal S1024x1024 .bf16 := m ((c : Thread nD τ).loc main_arg3)
/-- The rotation's tables. -/
abbrev argT (c : Dev nD) : Vec Ideal S4x64x2048 .f32 := m ((c : Thread nD τ).loc main_arg4)

/-- The rows of point `t`. -/
theorem iblk0 (c : Dev nD) (t : Fin cfg0.N) (r : Fin 512) (k : Fin 1024) :
    (iblk m c 0 t : Vec Ideal S1x512x1024 .f32) (ix3 0 r k) = argX m c (ix3 (pb t) (place rfl (pj t) r) k) := by
  obtain ⟨e0, e1, e2⟩ := index0 t
  refine congrArg (argX m c) (funext fun a => Fin.ext ?_)
  match a with
  | ⟨0, _⟩ => show win0_0.index t 0 * 1 + 1 * 0 = t.val / 4; rw [e0]; omega
  | ⟨1, _⟩ => show win0_0.index t 1 * 512 + 1 * r.val = 512 * (t.val % 4) + r.val; rw [e1]; omega
  | ⟨2, _⟩ => show win0_0.index t 2 * 1024 + 1 * k.val = k.val; rw [e2]; omega

/-- The gains, whole. -/
theorem iblk1 (c : Dev nD) (t : Fin cfg0.N) (k : Fin 1024) : (iblk m c 1 t : Vec Ideal S1x1024 .f32) (ix2 0 k) = argG m c (ix2 0 k) := by
  obtain ⟨e0, e1⟩ := index1 t
  refine congrArg (argG m c) (funext fun a => Fin.ext ?_)
  match a with
  | ⟨0, _⟩ => show win0_1.index t 0 * 1 + 1 * 0 = 0; rw [e0]
  | ⟨1, _⟩ => show win0_1.index t 1 * 1024 + 1 * k.val = k.val; rw [e1]; omega

/-- The weights, whole. -/
theorem iblk2 (c : Dev nD) (t : Fin cfg0.N) (e : Fin 768) (k : Fin 1024) :
    (iblk m c 2 t : Vec Ideal S768x1024 .bf16) (ix2 e k) = argW m c (ix2 e k) := by
  obtain ⟨e0, e1⟩ := index2 t
  refine congrArg (argW m c) (funext fun a => Fin.ext ?_)
  match a with
  | ⟨0, _⟩ => show win0_2.index t 0 * 768 + 1 * e.val = e.val; rw [e0]; omega
  | ⟨1, _⟩ => show win0_2.index t 1 * 1024 + 1 * k.val = k.val; rw [e1]; omega

/-- The channels' weights, whole. -/
theorem iblk3 (c : Dev nD) (t : Fin cfg0.N) (k e : Fin 1024) :
    (iblk m c 3 t : Vec Ideal S1024x1024 .bf16) (ix2 k e) = argC m c (ix2 k e) := by
  obtain ⟨e0, e1⟩ := index3 t
  refine congrArg (argC m c) (funext fun a => Fin.ext ?_)
  match a with
  | ⟨0, _⟩ => show win0_3.index t 0 * 1024 + 1 * k.val = k.val; rw [e0]; omega
  | ⟨1, _⟩ => show win0_3.index t 1 * 1024 + 1 * e.val = e.val; rw [e1]; omega

/-- The tables at point `t`'s positions. -/
theorem iblk4 (c : Dev nD) (t : Fin cfg0.N) (n : Fin 4) (d : Fin 64) (r : Fin 512) :
    (iblk m c 4 t : Vec Ideal S4x64x512 .f32) (ix3 n d r) = argT m c (ix3 n d (place rfl (pj t) r)) := by
  obtain ⟨e0, e1, e2⟩ := index4 t
  refine congrArg (argT m c) (funext fun a => Fin.ext ?_)
  match a with
  | ⟨0, _⟩ => show win0_4.index t 0 * 4 + 1 * n.val = n.val; rw [e0]; omega
  | ⟨1, _⟩ => show win0_4.index t 1 * 64 + 1 * d.val = d.val; rw [e1]; omega
  | ⟨2, _⟩ => show win0_4.index t 2 * 512 + 1 * r.val = 512 * (t.val % 4) + r.val; rw [e2]; omega

/-- What point `t` writes back of the queries is the array's block. -/
theorem flushed5 (c : Dev nD) (t : Fin cfg0.N) :
    (dats m 0 c).flushed 5 t = ((cfg0.win 5).blk t).view.read (Elt Ideal) (queries rfl (argX m c) (argG m c) (argW m c) (argT m c)) := by
  obtain ⟨e0, e1, e2, e3, e4⟩ := index5 t
  show (cfg0.win 5).cut (grid0.coords t) ((dats m 0 c).after 5 t) = _
  rw [after0_5]
  funext y
  have u0 : (y 0).val < 1 := (y 0).isLt
  have u1 : (y 1).val < 8 := (y 1).isLt
  have u2 : (y 2).val < 1 := (y 2).isLt
  have u3 : (y 3).val < 64 := (y 3).isLt
  have u4 : (y 4).val < 512 := (y 4).isLt
  show out0_5 (F := Ideal) (iblk m c 0 t) (iblk m c 1 t) (iblk m c 2 t) (iblk m c 3 t) (iblk m c 4 t) y = queries rfl (argX m c) (argG m c) (argW m c) (argT m c) (((cfg0.win 5).blk t).view.emb y)
  have f0 : pb t = (((cfg0.win 5).blk t).view.emb y) 0 := Fin.ext (by show t.val / 4 = win0_5.index t 0 * 1 + 1 * (y 0).val; rw [e0]; omega)
  have f1 : y 1 = (((cfg0.win 5).blk t).view.emb y) 1 := Fin.ext (by show (y 1).val = win0_5.index t 1 * 8 + 1 * (y 1).val; rw [e1]; omega)
  have f2 : pj t = (((cfg0.win 5).blk t).view.emb y) 2 := Fin.ext (by show t.val % 4 = win0_5.index t 2 * 1 + 1 * (y 2).val; rw [e2]; omega)
  have f3 : y 3 = (((cfg0.win 5).blk t).view.emb y) 3 := Fin.ext (by show (y 3).val = win0_5.index t 3 * 64 + 1 * (y 3).val; rw [e3]; omega)
  have f4 : y 4 = (((cfg0.win 5).blk t).view.emb y) 4 := Fin.ext (by show (y 4).val = win0_5.index t 4 * 512 + 1 * (y 4).val; rw [e4]; omega)
  exact queries_written (x3 := iblk m c 3 t) rfl (iblk0 m c t) (iblk1 m c t) (iblk2 m c t) (iblk4 m c t) y _ f0 f1 f2 f3 f4

/-- The blocks of queries cover the array. -/
theorem cover5 (i : S32x8x4x64x512.Idx) : ∃ t : Fin cfg0.N, (cfg0.win 5).flush t = true ∧ i ∈ ((cfg0.win 5).blk t).view.set := by
  have h0 : (i 0).val < 32 := (i 0).isLt
  have h1 : (i 1).val < 8 := (i 1).isLt
  have h2 : (i 2).val < 4 := (i 2).isLt
  have h3 : (i 3).val < 64 := (i 3).isLt
  have h4 : (i 4).val < 512 := (i 4).isLt
  have hN : cfg0.N = 128 := N_0
  refine ⟨⟨(i 0).val * 4 + (i 2).val, by omega⟩, flush0_5 _, ?_⟩
  generalize ht : (⟨(i 0).val * 4 + (i 2).val, by omega⟩ : Fin cfg0.N) = t
  have hv : t.val = (i 0).val * 4 + (i 2).val := by rw [← ht]
  obtain ⟨e0, e1, e2, e3, e4⟩ := index5 t
  show i ∈ ((View.whole main_v0_0).slice (win0_5.rect t)).set
  rw [View.set_slice_whole, Rect.mem_set_unit]
  intro a
  match a with
  | ⟨0, _⟩ =>
    show win0_5.index t 0 * 1 ≤ (i 0).val ∧ (i 0).val < win0_5.index t 0 * 1 + 1
    rw [e0]; omega
  | ⟨1, _⟩ =>
    show win0_5.index t 1 * 8 ≤ (i 1).val ∧ (i 1).val < win0_5.index t 1 * 8 + 8
    rw [e1]; omega
  | ⟨2, _⟩ =>
    show win0_5.index t 2 * 1 ≤ (i 2).val ∧ (i 2).val < win0_5.index t 2 * 1 + 1
    rw [e2]; omega
  | ⟨3, _⟩ =>
    show win0_5.index t 3 * 64 ≤ (i 3).val ∧ (i 3).val < win0_5.index t 3 * 64 + 64
    rw [e3]; omega
  | ⟨4, _⟩ =>
    show win0_5.index t 4 * 512 ≤ (i 4).val ∧ (i 4).val < win0_5.index t 4 * 512 + 512
    rw [e4]; omega

/-- The array of queries after the run. -/
theorem final5 (c : Dev nD) : (dats m 0 c).arrAt 5 cfg0.N = queries rfl (argX m c) (argG m c) (argW m c) (argT m c) :=
  (dats m 0 c).arrAt_eq_of_cover 5 _ (fun t _ => flushed5 m c t) cover5

/-- What point `t` writes back of the keys is the array's block. -/
theorem flushed6 (c : Dev nD) (t : Fin cfg0.N) :
    (dats m 0 c).flushed 6 t = ((cfg0.win 6).blk t).view.read (Elt Ideal) (keys (argX m c) (argG m c) (argW m c) (argT m c)) := by
  obtain ⟨e0, e1, e2, e3⟩ := index6 t
  show (cfg0.win 6).cut (grid0.coords t) ((dats m 0 c).after 6 t) = _
  rw [after0_6]
  funext y
  have u0 : (y 0).val < 1 := (y 0).isLt
  have u1 : (y 1).val < 2 := (y 1).isLt
  have u2 : (y 2).val < 512 := (y 2).isLt
  have u3 : (y 3).val < 64 := (y 3).isLt
  show out0_6 (F := Ideal) (iblk m c 0 t) (iblk m c 1 t) (iblk m c 2 t) (iblk m c 3 t) (iblk m c 4 t) y = keys (argX m c) (argG m c) (argW m c) (argT m c) (((cfg0.win 6).blk t).view.emb y)
  have f0 : pb t = (((cfg0.win 6).blk t).view.emb y) 0 := Fin.ext (by show t.val / 4 = win0_6.index t 0 * 1 + 1 * (y 0).val; rw [e0]; omega)
  have f1 : y 1 = (((cfg0.win 6).blk t).view.emb y) 1 := Fin.ext (by show (y 1).val = win0_6.index t 1 * 2 + 1 * (y 1).val; rw [e1]; omega)
  have f2 : place rfl (pj t) (y 2) = (((cfg0.win 6).blk t).view.emb y) 2 := Fin.ext (by show 512 * (t.val % 4) + (y 2).val = win0_6.index t 2 * 512 + 1 * (y 2).val; rw [e2]; omega)
  have f3 : y 3 = (((cfg0.win 6).blk t).view.emb y) 3 := Fin.ext (by show (y 3).val = win0_6.index t 3 * 64 + 1 * (y 3).val; rw [e3]; omega)
  exact keys_written (x3 := iblk m c 3 t) rfl (iblk0 m c t) (iblk1 m c t) (iblk2 m c t) (iblk4 m c t) y _ f0 f1 f2 f3

/-- The blocks of keys cover the array. -/
theorem cover6 (i : S32x2x2048x64.Idx) : ∃ t : Fin cfg0.N, (cfg0.win 6).flush t = true ∧ i ∈ ((cfg0.win 6).blk t).view.set := by
  have h0 : (i 0).val < 32 := (i 0).isLt
  have h1 : (i 1).val < 2 := (i 1).isLt
  have h2 : (i 2).val < 2048 := (i 2).isLt
  have h3 : (i 3).val < 64 := (i 3).isLt
  have hN : cfg0.N = 128 := N_0
  refine ⟨⟨(i 0).val * 4 + (i 2).val / 512, by omega⟩, flush0_6 _, ?_⟩
  generalize ht : (⟨(i 0).val * 4 + (i 2).val / 512, by omega⟩ : Fin cfg0.N) = t
  have hv : t.val = (i 0).val * 4 + (i 2).val / 512 := by rw [← ht]
  obtain ⟨e0, e1, e2, e3⟩ := index6 t
  show i ∈ ((View.whole main_v0_1).slice (win0_6.rect t)).set
  rw [View.set_slice_whole, Rect.mem_set_unit]
  intro a
  match a with
  | ⟨0, _⟩ =>
    show win0_6.index t 0 * 1 ≤ (i 0).val ∧ (i 0).val < win0_6.index t 0 * 1 + 1
    rw [e0]; omega
  | ⟨1, _⟩ =>
    show win0_6.index t 1 * 2 ≤ (i 1).val ∧ (i 1).val < win0_6.index t 1 * 2 + 2
    rw [e1]; omega
  | ⟨2, _⟩ =>
    show win0_6.index t 2 * 512 ≤ (i 2).val ∧ (i 2).val < win0_6.index t 2 * 512 + 512
    rw [e2]; omega
  | ⟨3, _⟩ =>
    show win0_6.index t 3 * 64 ≤ (i 3).val ∧ (i 3).val < win0_6.index t 3 * 64 + 64
    rw [e3]; omega

/-- The array of keys after the run. -/
theorem final6 (c : Dev nD) : (dats m 0 c).arrAt 6 cfg0.N = keys (argX m c) (argG m c) (argW m c) (argT m c) :=
  (dats m 0 c).arrAt_eq_of_cover 6 _ (fun t _ => flushed6 m c t) cover6

/-- What point `t` writes back of the values is the array's block. -/
theorem flushed7 (c : Dev nD) (t : Fin cfg0.N) :
    (dats m 0 c).flushed 7 t = ((cfg0.win 7).blk t).view.read (Elt Ideal) (values rfl (argX m c) (argG m c) (argW m c)) := by
  obtain ⟨e0, e1, e2, e3, e4⟩ := index7 t
  show (cfg0.win 7).cut (grid0.coords t) ((dats m 0 c).after 7 t) = _
  rw [after0_7]
  funext y
  have u0 : (y 0).val < 1 := (y 0).isLt
  have u1 : (y 1).val < 2 := (y 1).isLt
  have u2 : (y 2).val < 1 := (y 2).isLt
  have u3 : (y 3).val < 64 := (y 3).isLt
  have u4 : (y 4).val < 512 := (y 4).isLt
  show out0_7 (F := Ideal) (iblk m c 0 t) (iblk m c 1 t) (iblk m c 2 t) (iblk m c 3 t) (iblk m c 4 t) y = values rfl (argX m c) (argG m c) (argW m c) (((cfg0.win 7).blk t).view.emb y)
  have f0 : pb t = (((cfg0.win 7).blk t).view.emb y) 0 := Fin.ext (by show t.val / 4 = win0_7.index t 0 * 1 + 1 * (y 0).val; rw [e0]; omega)
  have f1 : y 1 = (((cfg0.win 7).blk t).view.emb y) 1 := Fin.ext (by show (y 1).val = win0_7.index t 1 * 2 + 1 * (y 1).val; rw [e1]; omega)
  have f2 : pj t = (((cfg0.win 7).blk t).view.emb y) 2 := Fin.ext (by show t.val % 4 = win0_7.index t 2 * 1 + 1 * (y 2).val; rw [e2]; omega)
  have f3 : y 3 = (((cfg0.win 7).blk t).view.emb y) 3 := Fin.ext (by show (y 3).val = win0_7.index t 3 * 64 + 1 * (y 3).val; rw [e3]; omega)
  have f4 : y 4 = (((cfg0.win 7).blk t).view.emb y) 4 := Fin.ext (by show (y 4).val = win0_7.index t 4 * 512 + 1 * (y 4).val; rw [e4]; omega)
  exact values_written (x3 := iblk m c 3 t) (x4 := iblk m c 4 t) rfl (iblk0 m c t) (iblk1 m c t) (iblk2 m c t) y _ f0 f1 f2 f3 f4

/-- The blocks of values cover the array. -/
theorem cover7 (i : S32x2x4x64x512.Idx) : ∃ t : Fin cfg0.N, (cfg0.win 7).flush t = true ∧ i ∈ ((cfg0.win 7).blk t).view.set := by
  have h0 : (i 0).val < 32 := (i 0).isLt
  have h1 : (i 1).val < 2 := (i 1).isLt
  have h2 : (i 2).val < 4 := (i 2).isLt
  have h3 : (i 3).val < 64 := (i 3).isLt
  have h4 : (i 4).val < 512 := (i 4).isLt
  have hN : cfg0.N = 128 := N_0
  refine ⟨⟨(i 0).val * 4 + (i 2).val, by omega⟩, flush0_7 _, ?_⟩
  generalize ht : (⟨(i 0).val * 4 + (i 2).val, by omega⟩ : Fin cfg0.N) = t
  have hv : t.val = (i 0).val * 4 + (i 2).val := by rw [← ht]
  obtain ⟨e0, e1, e2, e3, e4⟩ := index7 t
  show i ∈ ((View.whole main_v0_2).slice (win0_7.rect t)).set
  rw [View.set_slice_whole, Rect.mem_set_unit]
  intro a
  match a with
  | ⟨0, _⟩ =>
    show win0_7.index t 0 * 1 ≤ (i 0).val ∧ (i 0).val < win0_7.index t 0 * 1 + 1
    rw [e0]; omega
  | ⟨1, _⟩ =>
    show win0_7.index t 1 * 2 ≤ (i 1).val ∧ (i 1).val < win0_7.index t 1 * 2 + 2
    rw [e1]; omega
  | ⟨2, _⟩ =>
    show win0_7.index t 2 * 1 ≤ (i 2).val ∧ (i 2).val < win0_7.index t 2 * 1 + 1
    rw [e2]; omega
  | ⟨3, _⟩ =>
    show win0_7.index t 3 * 64 ≤ (i 3).val ∧ (i 3).val < win0_7.index t 3 * 64 + 64
    rw [e3]; omega
  | ⟨4, _⟩ =>
    show win0_7.index t 4 * 512 ≤ (i 4).val ∧ (i 4).val < win0_7.index t 4 * 512 + 512
    rw [e4]; omega

/-- The array of values after the run. -/
theorem final7 (c : Dev nD) : (dats m 0 c).arrAt 7 cfg0.N = values rfl (argX m c) (argG m c) (argW m c) :=
  (dats m 0 c).arrAt_eq_of_cover 7 _ (fun t _ => flushed7 m c t) cover7

/-- What point `t` writes back of the channels is the array's block. -/
theorem flushed8 (c : Dev nD) (t : Fin cfg0.N) :
    (dats m 0 c).flushed 8 t = ((cfg0.win 8).blk t).view.read (Elt Ideal) (channels (argX m c) (argG m c) (argC m c)) := by
  obtain ⟨e0, e1, e2⟩ := index8 t
  show (cfg0.win 8).cut (grid0.coords t) ((dats m 0 c).after 8 t) = _
  rw [after0_8]
  funext y
  have u0 : (y 0).val < 1 := (y 0).isLt
  have u1 : (y 1).val < 512 := (y 1).isLt
  have u2 : (y 2).val < 512 := (y 2).isLt
  show out0_8 (F := Ideal) (iblk m c 0 t) (iblk m c 1 t) (iblk m c 2 t) (iblk m c 3 t) (iblk m c 4 t) y = channels (argX m c) (argG m c) (argC m c) (((cfg0.win 8).blk t).view.emb y)
  have f0 : pb t = (((cfg0.win 8).blk t).view.emb y) 0 := Fin.ext (by show t.val / 4 = win0_8.index t 0 * 1 + 1 * (y 0).val; rw [e0]; omega)
  have f1 : place rfl (pj t) (y 1) = (((cfg0.win 8).blk t).view.emb y) 1 := Fin.ext (by show 512 * (t.val % 4) + (y 1).val = win0_8.index t 1 * 512 + 1 * (y 1).val; rw [e1]; omega)
  have f2 : y 2 = (((cfg0.win 8).blk t).view.emb y) 2 := Fin.ext (by show (y 2).val = win0_8.index t 2 * 512 + 1 * (y 2).val; rw [e2]; omega)
  exact channels_written (x2 := iblk m c 2 t) (x4 := iblk m c 4 t) rfl (iblk0 m c t) (iblk1 m c t) (iblk3 m c t) y _ f0 f1 f2

/-- The blocks of channels cover the array. -/
theorem cover8 (i : S32x2048x512.Idx) : ∃ t : Fin cfg0.N, (cfg0.win 8).flush t = true ∧ i ∈ ((cfg0.win 8).blk t).view.set := by
  have h0 : (i 0).val < 32 := (i 0).isLt
  have h1 : (i 1).val < 2048 := (i 1).isLt
  have h2 : (i 2).val < 512 := (i 2).isLt
  have hN : cfg0.N = 128 := N_0
  refine ⟨⟨(i 0).val * 4 + (i 1).val / 512, by omega⟩, flush0_8 _, ?_⟩
  generalize ht : (⟨(i 0).val * 4 + (i 1).val / 512, by omega⟩ : Fin cfg0.N) = t
  have hv : t.val = (i 0).val * 4 + (i 1).val / 512 := by rw [← ht]
  obtain ⟨e0, e1, e2⟩ := index8 t
  show i ∈ ((View.whole main_v0_3).slice (win0_8.rect t)).set
  rw [View.set_slice_whole, Rect.mem_set_unit]
  intro a
  match a with
  | ⟨0, _⟩ =>
    show win0_8.index t 0 * 1 ≤ (i 0).val ∧ (i 0).val < win0_8.index t 0 * 1 + 1
    rw [e0]; omega
  | ⟨1, _⟩ =>
    show win0_8.index t 1 * 512 ≤ (i 1).val ∧ (i 1).val < win0_8.index t 1 * 512 + 512
    rw [e1]; omega
  | ⟨2, _⟩ =>
    show win0_8.index t 2 * 512 ≤ (i 2).val ∧ (i 2).val < win0_8.index t 2 * 512 + 512
    rw [e2]; omega

/-- The array of channels after the run. -/
theorem final8 (c : Dev nD) : (dats m 0 c).arrAt 8 cfg0.N = channels (argX m c) (argG m c) (argC m c) :=
  (dats m 0 c).arrAt_eq_of_cover 8 _ (fun t _ => flushed8 m c t) cover8

/-- The run ends with the four arrays at what the projection computes of the arguments, the arguments unchanged. -/
theorem kernel_run :
    θ_run defs (onTc (τ := τ) (main (F := Ideal))) ⟨m, fun _ => 0, ρ⟩ fun r => ∀ c : Dev nD,
      r.2.mem ((c : Thread nD τ).loc main_v0_0) = queries rfl (argX m c) (argG m c) (argW m c) (argT m c)
      ∧ r.2.mem ((c : Thread nD τ).loc main_v0_1) = keys (argX m c) (argG m c) (argW m c) (argT m c)
      ∧ r.2.mem ((c : Thread nD τ).loc main_v0_2) = values rfl (argX m c) (argG m c) (argW m c)
      ∧ r.2.mem ((c : Thread nD τ).loc main_v0_3) = channels (argX m c) (argG m c) (argC m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (final5 m c), ((h.1 c).1 6).trans (final6 m c), ((h.1 c).1 7).trans (final7 m c),
    ((h.1 c).1 8).trans (final8 m c), h.2 c⟩) (θ_run_and (run_main m ρ) (unchanged m ρ))

end SampleProj
-- ==== Proof.Sample.ProjRef.lean ====
/-
  What the projection's reference computes at the sample batch's shapes: its four results are those of `Spec.lean`.
-/
module

public import proofs.«01_k».proof.Proof.Proj.Turn
public import proofs.«01_k».proof.Proof.Gen.SampleProjReferenceIdeal.Run
public import proofs.«01_k».proof.Proof.Gen.SampleProjReferenceIdeal.Read

@[expose] public section

set_option maxRecDepth 16384

noncomputable section

namespace SampleProj

open Proj Cert.SampleProjReferenceIdeal Cert.SampleProjReferenceIdeal.Gen Cert.SampleProjReferenceIdeal.Read Idealize.ShloMosaic Idealize.ShloMosaic.TcCoe Idealize.SL.Sem
open Idealize.ShloMosaic.Pointwise

variable (x : Vec Ideal S32x2048x1024 .f32) (g : Vec Ideal S1x1024 .f32) (w : Vec Ideal S768x1024 .bf16) (wc : Vec Ideal S1024x1024 .bf16)
  (T : Vec Ideal S4x64x2048 .f32)

/-- The normed rows. -/
theorem ref_rows (b : Fin 32) (s : Fin 2048) (k : Fin 1024) :
    val_main_v13 (F := Ideal) x g (ix3 b s k) = Tail.rms (fun k => x (ix3 b s k)) (fun k => g (ix2 0 k)) k := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl

/-- The projection's entries. -/
theorem ref_z (b : Fin 32) (s : Fin 2048) (e : Fin 768) :
    val_main_v15 (F := Ideal) x g w (ix3 b s e) = zRow (fun k => x (ix3 b s k)) (fun k => g (ix2 0 k)) (fun e k => w (ix2 e k)) e := by
  have h : val_main_v15 (F := Ideal) x g w (ix3 b s e) = ∑ k, val_main_v13 (F := Ideal) x g (ix3 b s k) * w (ix2 e k) := by
    pointwise [val_main_v15, val_main_v14]
  rw [h]
  exact Finset.sum_congr rfl fun k _ => congrArg (· * _) (ref_rows x g b s k)

/-- The query heads before the norm. -/
theorem ref_q_head (b : Fin 32) (s : Fin 2048) (h : Fin 8) (d : Fin 64) :
    val_main_v17 (F := Ideal) x g w (ix4 b s h d) = val_main_v15 (F := Ideal) x g w (ix3 b s ⟨64 * h.val + d.val, by omega⟩) := by
  pointwise [val_main_v17, val_main_v16]
  exact congrArg (fun e => val_main_v15 (F := Ideal) x g w (ix3 b s e)) (Fin.ext (by show h.val * 64 + d.val = 64 * h.val + d.val; omega))

/-- The normed query heads. -/
theorem ref_q_norm (b : Fin 32) (s : Fin 2048) (h : Fin 8) (d : Fin 64) :
    val_main_v31 (F := Ideal) x g w (ix4 b s h d) = val_main_v17 (F := Ideal) x g w (ix4 b s h d) * headScale (fun d => val_main_v17 (F := Ideal) x g w (ix4 b s h d)) := by
  pointwise [val_main_v22, val_main_v23, val_main_v24, val_main_v25, val_main_v26, val_main_v27, val_main_v28, val_main_v29, val_main_v30, val_main_v31, val_main_cst_2, val_main_cst_3, val_main_cst_4]
  rfl

/-- The query heads' cosines. -/
theorem ref_q_cos (s : Fin 2048) (d : Fin 64) : val_main_v34 (F := Ideal) T (ix2 s d) = T (ix3 0 d s) := by
  pointwise [val_main_v34, val_main_v33, val_main_v32]

/-- The query heads' signed sines. -/
theorem ref_q_sin (s : Fin 2048) (d : Fin 64) : val_main_v37 (F := Ideal) T (ix2 s d) = T (ix3 1 d s) := by
  pointwise [val_main_v37, val_main_v36, val_main_v35]

/-- The query heads' entries 0 to 15, turned. -/
theorem ref_q_quarter0 (b : Fin 32) (s : Fin 2048) (h : Fin 8) (r : Fin 16) :
    val_main_v53 (F := Ideal) x g w T (ix4 b s h r)
      = pairAt (fun d => val_main_v31 (F := Ideal) x g w (ix4 b s h d)) (fun d => val_main_v34 (F := Ideal) T (ix2 s d))
        (fun d => val_main_v37 (F := Ideal) T (ix2 s d)) 0 16 (by omega) (by omega) r := by
  unfold pairAt
  pointwise [val_main_v38, val_main_v39, val_main_v40, val_main_v41, val_main_v42, val_main_v43, val_main_v44, val_main_v45, val_main_v46, val_main_v47, val_main_v48, val_main_v49, val_main_v50, val_main_v51, val_main_v52, val_main_v53]

/-- The query heads' entries 16 to 31, turned. -/
theorem ref_q_quarter1 (b : Fin 32) (s : Fin 2048) (h : Fin 8) (r : Fin 16) :
    val_main_v64 (F := Ideal) x g w T (ix4 b s h r)
      = pairAt (fun d => val_main_v31 (F := Ideal) x g w (ix4 b s h d)) (fun d => val_main_v34 (F := Ideal) T (ix2 s d))
        (fun d => val_main_v37 (F := Ideal) T (ix2 s d)) 16 0 (by omega) (by omega) r := by
  unfold pairAt
  pointwise [val_main_v38, val_main_v39, val_main_v40, val_main_v41, val_main_v42, val_main_v54, val_main_v55, val_main_v56, val_main_v57, val_main_v58, val_main_v59, val_main_v60, val_main_v61, val_main_v62, val_main_v63, val_main_v64]

/-- The query heads' entries 32 to 47, turned. -/
theorem ref_q_quarter2 (b : Fin 32) (s : Fin 2048) (h : Fin 8) (r : Fin 16) :
    val_main_v81 (F := Ideal) x g w T (ix4 b s h r)
      = pairAt (fun d => val_main_v31 (F := Ideal) x g w (ix4 b s h d)) (fun d => val_main_v34 (F := Ideal) T (ix2 s d))
        (fun d => val_main_v37 (F := Ideal) T (ix2 s d)) 32 48 (by omega) (by omega) r := by
  refine Eq.trans ?_ (pairAt_of_val (i := ⟨32 + r.val, by omega⟩) (j := ⟨32 + r.val, by omega⟩) (k := ⟨32 + (16 + r.val), by omega⟩) (l := ⟨32 + r.val, by omega⟩) _ _ _ 32 48 (by omega) (by omega) r (by show 32 + r.val = 32 + r.val; omega) (by show 32 + r.val = 32 + r.val; omega) (by show 32 + (16 + r.val) = 48 + r.val; omega) (by show 32 + r.val = 32 + r.val; omega))
  pointwise [val_main_v66, val_main_v67, val_main_v68, val_main_v69, val_main_v70, val_main_v71, val_main_v72, val_main_v73, val_main_v74, val_main_v75, val_main_v76, val_main_v77, val_main_v78, val_main_v79, val_main_v80, val_main_v81]

/-- The query heads' entries 48 to 63, turned. -/
theorem ref_q_quarter3 (b : Fin 32) (s : Fin 2048) (h : Fin 8) (r : Fin 16) :
    val_main_v92 (F := Ideal) x g w T (ix4 b s h r)
      = pairAt (fun d => val_main_v31 (F := Ideal) x g w (ix4 b s h d)) (fun d => val_main_v34 (F := Ideal) T (ix2 s d))
        (fun d => val_main_v37 (F := Ideal) T (ix2 s d)) 48 32 (by omega) (by omega) r := by
  refine Eq.trans ?_ (pairAt_of_val (i := ⟨32 + (16 + r.val), by omega⟩) (j := ⟨32 + (16 + r.val), by omega⟩) (k := ⟨32 + r.val, by omega⟩) (l := ⟨32 + (16 + r.val), by omega⟩) _ _ _ 48 32 (by omega) (by omega) r (by show 32 + (16 + r.val) = 48 + r.val; omega) (by show 32 + (16 + r.val) = 48 + r.val; omega) (by show 32 + r.val = 32 + r.val; omega) (by show 32 + (16 + r.val) = 48 + r.val; omega))
  pointwise [val_main_v66, val_main_v67, val_main_v68, val_main_v69, val_main_v70, val_main_v82, val_main_v83, val_main_v84, val_main_v85, val_main_v86, val_main_v87, val_main_v88, val_main_v89, val_main_v90, val_main_v91, val_main_v92]

/-- The query heads turned: every entry and its partner with their tables. -/
theorem ref_q_turned (b : Fin 32) (s : Fin 2048) (h : Fin 8) (d : Fin 64) :
    val_main_v94 (F := Ideal) x g w T (ix4 b s h d)
      = val_main_v31 (F := Ideal) x g w (ix4 b s h d) * val_main_v34 (F := Ideal) T (ix2 s d)
        + val_main_v31 (F := Ideal) x g w (ix4 b s h (partner d)) * val_main_v37 (F := Ideal) T (ix2 s d) := by
  exact turned_of_quarters _ _ _ _ _ _ b s h (fun d => val_main_v31 (F := Ideal) x g w (ix4 b s h d))
    (fun d => val_main_v34 (F := Ideal) T (ix2 s d)) (fun d => val_main_v37 (F := Ideal) T (ix2 s d)) (ref_q_quarter0 x g w T b s h)
    (ref_q_quarter1 x g w T b s h) (ref_q_quarter2 x g w T b s h) (ref_q_quarter3 x g w T b s h) d

/-- They are the query heads of `Spec.lean`. -/
theorem ref_q (b : Fin 32) (s : Fin 2048) (h : Fin 8) (d : Fin 64) : val_main_v94 (F := Ideal) x g w T (ix4 b s h d) = qAt x g w T b h s d :=
  headRow_of_steps (fun k => x (ix3 b s k)) (fun k => g (ix2 0 k)) (fun e k => w (ix2 e k)) (fun d => T (ix3 0 d s)) (fun d => T (ix3 1 d s))
    (64 * h.val) (by omega) (fun d => val_main_v94 (F := Ideal) x g w T (ix4 b s h d)) (fun d => val_main_v31 (F := Ideal) x g w (ix4 b s h d))
    (fun d => val_main_v17 (F := Ideal) x g w (ix4 b s h d)) (fun d => val_main_v34 (F := Ideal) T (ix2 s d)) (fun d => val_main_v37 (F := Ideal) T (ix2 s d))
    (ref_q_turned x g w T b s h) (ref_q_norm x g w b s h) (fun d => (ref_q_head x g w b s h d).trans (ref_z x g w b s _)) (ref_q_cos T s) (ref_q_sin T s) d

/-- The key heads before the norm. -/
theorem ref_k_head (b : Fin 32) (s : Fin 2048) (h : Fin 2) (d : Fin 64) :
    val_main_v19 (F := Ideal) x g w (ix4 b s h d) = val_main_v15 (F := Ideal) x g w (ix3 b s ⟨512 + 64 * h.val + d.val, by omega⟩) := by
  pointwise [val_main_v19, val_main_v18]
  exact congrArg (fun e => val_main_v15 (F := Ideal) x g w (ix3 b s e)) (Fin.ext (by show 512 + (h.val * 64 + d.val) = 512 + 64 * h.val + d.val; omega))

/-- The normed key heads. -/
theorem ref_k_norm (b : Fin 32) (s : Fin 2048) (h : Fin 2) (d : Fin 64) :
    val_main_v104 (F := Ideal) x g w (ix4 b s h d) = val_main_v19 (F := Ideal) x g w (ix4 b s h d) * headScale (fun d => val_main_v19 (F := Ideal) x g w (ix4 b s h d)) := by
  pointwise [val_main_v95, val_main_v96, val_main_v97, val_main_v98, val_main_v99, val_main_v100, val_main_v101, val_main_v102, val_main_v103, val_main_v104, val_main_cst_5, val_main_cst_6, val_main_cst_7]
  rfl

/-- The key heads' cosines. -/
theorem ref_k_cos (s : Fin 2048) (d : Fin 64) : val_main_v107 (F := Ideal) T (ix2 s d) = T (ix3 2 d s) := by
  pointwise [val_main_v107, val_main_v106, val_main_v105]

/-- The key heads' signed sines. -/
theorem ref_k_sin (s : Fin 2048) (d : Fin 64) : val_main_v110 (F := Ideal) T (ix2 s d) = T (ix3 3 d s) := by
  pointwise [val_main_v110, val_main_v109, val_main_v108]

/-- The key heads' entries 0 to 15, turned. -/
theorem ref_k_quarter0 (b : Fin 32) (s : Fin 2048) (h : Fin 2) (r : Fin 16) :
    val_main_v126 (F := Ideal) x g w T (ix4 b s h r)
      = pairAt (fun d => val_main_v104 (F := Ideal) x g w (ix4 b s h d)) (fun d => val_main_v107 (F := Ideal) T (ix2 s d))
        (fun d => val_main_v110 (F := Ideal) T (ix2 s d)) 0 16 (by omega) (by omega) r := by
  unfold pairAt
  pointwise [val_main_v111, val_main_v112, val_main_v113, val_main_v114, val_main_v115, val_main_v116, val_main_v117, val_main_v118, val_main_v119, val_main_v120, val_main_v121, val_main_v122, val_main_v123, val_main_v124, val_main_v125, val_main_v126]

/-- The key heads' entries 16 to 31, turned. -/
theorem ref_k_quarter1 (b : Fin 32) (s : Fin 2048) (h : Fin 2) (r : Fin 16) :
    val_main_v137 (F := Ideal) x g w T (ix4 b s h r)
      = pairAt (fun d => val_main_v104 (F := Ideal) x g w (ix4 b s h d)) (fun d => val_main_v107 (F := Ideal) T (ix2 s d))
        (fun d => val_main_v110 (F := Ideal) T (ix2 s d)) 16 0 (by omega) (by omega) r := by
  unfold pairAt
  pointwise [val_main_v111, val_main_v112, val_main_v113, val_main_v114, val_main_v115, val_main_v127, val_main_v128, val_main_v129, val_main_v130, val_main_v131, val_main_v132, val_main_v133, val_main_v134, val_main_v135, val_main_v136, val_main_v137]

/-- The key heads' entries 32 to 47, turned. -/
theorem ref_k_quarter2 (b : Fin 32) (s : Fin 2048) (h : Fin 2) (r : Fin 16) :
    val_main_v154 (F := Ideal) x g w T (ix4 b s h r)
      = pairAt (fun d => val_main_v104 (F := Ideal) x g w (ix4 b s h d)) (fun d => val_main_v107 (F := Ideal) T (ix2 s d))
        (fun d => val_main_v110 (F := Ideal) T (ix2 s d)) 32 48 (by omega) (by omega) r := by
  refine Eq.trans ?_ (pairAt_of_val (i := ⟨32 + r.val, by omega⟩) (j := ⟨32 + r.val, by omega⟩) (k := ⟨32 + (16 + r.val), by omega⟩) (l := ⟨32 + r.val, by omega⟩) _ _ _ 32 48 (by omega) (by omega) r (by show 32 + r.val = 32 + r.val; omega) (by show 32 + r.val = 32 + r.val; omega) (by show 32 + (16 + r.val) = 48 + r.val; omega) (by show 32 + r.val = 32 + r.val; omega))
  pointwise [val_main_v139, val_main_v140, val_main_v141, val_main_v142, val_main_v143, val_main_v144, val_main_v145, val_main_v146, val_main_v147, val_main_v148, val_main_v149, val_main_v150, val_main_v151, val_main_v152, val_main_v153, val_main_v154]

/-- The key heads' entries 48 to 63, turned. -/
theorem ref_k_quarter3 (b : Fin 32) (s : Fin 2048) (h : Fin 2) (r : Fin 16) :
    val_main_v165 (F := Ideal) x g w T (ix4 b s h r)
      = pairAt (fun d => val_main_v104 (F := Ideal) x g w (ix4 b s h d)) (fun d => val_main_v107 (F := Ideal) T (ix2 s d))
        (fun d => val_main_v110 (F := Ideal) T (ix2 s d)) 48 32 (by omega) (by omega) r := by
  refine Eq.trans ?_ (pairAt_of_val (i := ⟨32 + (16 + r.val), by omega⟩) (j := ⟨32 + (16 + r.val), by omega⟩) (k := ⟨32 + r.val, by omega⟩) (l := ⟨32 + (16 + r.val), by omega⟩) _ _ _ 48 32 (by omega) (by omega) r (by show 32 + (16 + r.val) = 48 + r.val; omega) (by show 32 + (16 + r.val) = 48 + r.val; omega) (by show 32 + r.val = 32 + r.val; omega) (by show 32 + (16 + r.val) = 48 + r.val; omega))
  pointwise [val_main_v139, val_main_v140, val_main_v141, val_main_v142, val_main_v143, val_main_v155, val_main_v156, val_main_v157, val_main_v158, val_main_v159, val_main_v160, val_main_v161, val_main_v162, val_main_v163, val_main_v164, val_main_v165]

/-- The key heads turned: every entry and its partner with their tables. -/
theorem ref_k_turned (b : Fin 32) (s : Fin 2048) (h : Fin 2) (d : Fin 64) :
    val_main_v167 (F := Ideal) x g w T (ix4 b s h d)
      = val_main_v104 (F := Ideal) x g w (ix4 b s h d) * val_main_v107 (F := Ideal) T (ix2 s d)
        + val_main_v104 (F := Ideal) x g w (ix4 b s h (partner d)) * val_main_v110 (F := Ideal) T (ix2 s d) := by
  exact turned_of_quarters _ _ _ _ _ _ b s h (fun d => val_main_v104 (F := Ideal) x g w (ix4 b s h d))
    (fun d => val_main_v107 (F := Ideal) T (ix2 s d)) (fun d => val_main_v110 (F := Ideal) T (ix2 s d)) (ref_k_quarter0 x g w T b s h)
    (ref_k_quarter1 x g w T b s h) (ref_k_quarter2 x g w T b s h) (ref_k_quarter3 x g w T b s h) d

/-- They are the key heads of `Spec.lean`. -/
theorem ref_k (b : Fin 32) (s : Fin 2048) (h : Fin 2) (d : Fin 64) : val_main_v167 (F := Ideal) x g w T (ix4 b s h d) = kAt x g w T b h s d :=
  headRow_of_steps (fun k => x (ix3 b s k)) (fun k => g (ix2 0 k)) (fun e k => w (ix2 e k)) (fun d => T (ix3 2 d s)) (fun d => T (ix3 3 d s))
    (512 + 64 * h.val) (by omega) (fun d => val_main_v167 (F := Ideal) x g w T (ix4 b s h d)) (fun d => val_main_v104 (F := Ideal) x g w (ix4 b s h d))
    (fun d => val_main_v19 (F := Ideal) x g w (ix4 b s h d)) (fun d => val_main_v107 (F := Ideal) T (ix2 s d)) (fun d => val_main_v110 (F := Ideal) T (ix2 s d))
    (ref_k_turned x g w T b s h) (ref_k_norm x g w b s h) (fun d => (ref_k_head x g w b s h d).trans (ref_z x g w b s _)) (ref_k_cos T s) (ref_k_sin T s) d

/-- The value heads. -/
theorem ref_v (b : Fin 32) (s : Fin 2048) (h : Fin 2) (d : Fin 64) : val_main_v21 (F := Ideal) x g w (ix4 b s h d) = vAt x g w b h s d := by
  have e : val_main_v21 (F := Ideal) x g w (ix4 b s h d) = val_main_v15 (F := Ideal) x g w (ix3 b s ⟨640 + 64 * h.val + d.val, by omega⟩) := by
    pointwise [val_main_v21, val_main_v20]
    exact congrArg (fun e => val_main_v15 (F := Ideal) x g w (ix3 b s e)) (Fin.ext (by show 640 + (h.val * 64 + d.val) = 640 + 64 * h.val + d.val; omega))
  exact e.trans (ref_z x g w b s _)

/-- The channels and gates. -/
theorem ref_u (b : Fin 32) (s : Fin 2048) (e : Fin 1024) :
    val_main_v169 (F := Ideal) x g wc (ix3 b s e) = uRow (fun k => x (ix3 b s k)) (fun k => g (ix2 0 k)) (fun k e => wc (ix2 k e)) e := by
  have h : val_main_v169 (F := Ideal) x g wc (ix3 b s e) = ∑ k, val_main_v13 (F := Ideal) x g (ix3 b s k) * wc (ix2 k e) := by
    pointwise [val_main_v169, val_main_v168]
  rw [h]
  exact Finset.sum_congr rfl fun k _ => congrArg (· * _) (ref_rows x g b s k)

/-- The gated channels. -/
theorem ref_c (b : Fin 32) (s : Fin 2048) (l : Fin 512) : val_main_v178 (F := Ideal) x g wc (ix3 b s l) = cAt x g wc b s l := by
  pointwise [val_main_v170, val_main_v171, val_main_v172, val_main_v173, val_main_v174, val_main_v175, val_main_v176, val_main_v177, val_main_v178, val_main_cst_8, val_main_cst_9]
  rw [ref_u, ref_u]
  unfold cAt gated
  rfl

/-- How the queries are laid out. -/
theorem queries_laid (u : Vec Ideal S32x2048x8x64 .f32) (b : Fin 32) (h : Fin 8) (j : Fin 4) (d : Fin 64) (t : Fin 512) :
    truncf (F := Ideal) .bf16 (transpose S32x8x4x64x512 [0, 3, 1, 4, 2] (shapeCast S32x4x512x8x64 u shapeCasts_S32x2048x8x64_S32x4x512x8x64)
      transposes_S32x4x512x8x64_S32x8x4x64x512_0_3_1_4_2) bitsLt_bf16_f32 (ix5 b h j d t) = u (ix4 b (place rfl j t) h d) := by
  pointwise []
  exact congrArg (fun s => u (ix4 b s h d)) (Fin.ext (by show j.val * 512 + t.val = 512 * j.val + t.val; omega))

/-- The reference's queries. -/
theorem reference_queries : val_main_v183 (F := Ideal) x g w T = queries rfl x g w T := by
  funext i
  rw [eq_ix5 i]
  generalize i 0 = b
  generalize i 1 = h
  generalize i 2 = j
  generalize i 3 = d
  generalize i 4 = t
  change Fin 32 at b
  change Fin 8 at h
  change Fin 4 at j
  change Fin 64 at d
  change Fin 512 at t
  unfold val_main_v183 val_main_v180 val_main_v179
  exact (queries_laid _ b h j d t).trans (ref_q x g w T b _ h d)

/-- The reference's keys. -/
theorem reference_keys : val_main_v185 (F := Ideal) x g w T = keys x g w T := by
  funext i
  rw [eq_ix4 i]
  generalize i 0 = b
  generalize i 1 = h
  generalize i 2 = s
  generalize i 3 = d
  change Fin 32 at b
  change Fin 2 at h
  change Fin 2048 at s
  change Fin 64 at d
  have e : val_main_v185 (F := Ideal) x g w T (ix4 b h s d) = val_main_v167 (F := Ideal) x g w T (ix4 b s h d) := by
    pointwise [val_main_v185, val_main_v184]
  exact e.trans (ref_k x g w T b s h d)

/-- The reference's values. -/
theorem reference_values : val_main_v186 (F := Ideal) x g w = values rfl x g w := by
  funext i
  rw [eq_ix5 i]
  generalize i 0 = b
  generalize i 1 = h
  generalize i 2 = j
  generalize i 3 = d
  generalize i 4 = t
  change Fin 32 at b
  change Fin 2 at h
  change Fin 4 at j
  change Fin 64 at d
  change Fin 512 at t
  have e : val_main_v186 (F := Ideal) x g w (ix5 b h j d t) = val_main_v21 (F := Ideal) x g w (ix4 b (place rfl j t) h d) := by
    pointwise [val_main_v186, val_main_v182, val_main_v181]
    exact congrArg (fun s => val_main_v21 (F := Ideal) x g w (ix4 b s h d)) (Fin.ext (by show j.val * 512 + t.val = 512 * j.val + t.val; omega))
  exact e.trans (ref_v x g w b _ h d)

/-- The reference's gated channels. -/
theorem reference_channels : val_main_v178 (F := Ideal) x g wc = channels x g wc := by
  funext i
  rw [eq_ix3 i]
  exact ref_c x g wc (i 0) (i 1) (i 2)

open Idealize.ShloMosaic.StableHlo in
/-- The reference runs, ends with the four arrays, and leaves the arguments unchanged. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v183) = queries rfl (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v185) = keys (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v186) = values rfl (m ((c.tc : Thread nD τ).loc main_arg0)) (m ((c.tc : Thread nD τ).loc main_arg1)) (m ((c.tc : Thread nD τ).loc main_arg2))
      ∧ r.2.mem ((c.tc : Thread nD τ).loc main_v178) = channels (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v183_eq (launchContents m c)).trans (reference_queries _ _ _ _)),
    (h c).2.1.trans ((val_main_v185_eq (launchContents m c)).trans (reference_keys _ _ _ _)),
    (h c).2.2.1.trans ((val_main_v186_eq (launchContents m c)).trans (reference_values _ _ _)),
    (h c).2.2.2.1.trans ((val_main_v178_eq (launchContents m c)).trans (reference_channels _ _ _)), (h c).2.2.2.2⟩)
    (Cert.SampleProjReferenceIdeal.Value.run m ρ)

end SampleProj
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Tail
public import proofs.«01_k».proof.Proof.Gen.TailIdeal
public import proofs.«01_k».proof.Proof.Gen.TailIdeal.Skeleton
public import proofs.«01_k».proof.Proof.Gen.TailIdeal.Loops
public import proofs.«01_k».proof.Proof.Gen.TailIdeal.Launch
public import proofs.«01_k».proof.Proof.Gen.TailIdeal.Points
public import proofs.«01_k».proof.Proof.Gen.TailIdeal.Frame
public import proofs.«01_k».proof.Proof.Gen.TailReferenceIdeal
public import proofs.«01_k».proof.Proof.Gen.TailReferenceIdeal.Run
public import proofs.«01_k».proof.Proof.Gen.TailReferenceIdeal.Read
public import proofs.«01_k».proof.Proof.Gen.SampleTail
public import proofs.«01_k».proof.Proof.Gen.SampleTailIdeal
public import proofs.«01_k».proof.Proof.Gen.SampleTailIdeal.Skeleton
public import proofs.«01_k».proof.Proof.Gen.SampleTailIdeal.Loops
public import proofs.«01_k».proof.Proof.Gen.SampleTailIdeal.Launch
public import proofs.«01_k».proof.Proof.Gen.SampleTailIdeal.Points
public import proofs.«01_k».proof.Proof.Gen.SampleTailIdeal.Frame
public import proofs.«01_k».proof.Proof.Gen.SampleTailReferenceIdeal
public import proofs.«01_k».proof.Proof.Gen.SampleTailReferenceIdeal.Run
public import proofs.«01_k».proof.Proof.Gen.SampleTailReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.SampleAttn
public import proofs.«01_k».proof.Proof.Gen.SampleAttn.Skeleton
public import proofs.«01_k».proof.Proof.Gen.SampleAttn.Loops
public import proofs.«01_k».proof.Proof.Gen.SampleAttn.Launch
public import proofs.«01_k».proof.Proof.Gen.SampleAttn.Points
public import proofs.«01_k».proof.Proof.Gen.SampleAttn.Frame
public import proofs.«01_k».proof.Proof.Gen.SampleAttnIdeal
public import proofs.«01_k».proof.Proof.Gen.SampleAttnIdeal.Skeleton
public import proofs.«01_k».proof.Proof.Gen.SampleAttnIdeal.Loops
public import proofs.«01_k».proof.Proof.Gen.SampleAttnIdeal.Launch
public import proofs.«01_k».proof.Proof.Gen.SampleAttnIdeal.Points
public import proofs.«01_k».proof.Proof.Gen.SampleAttnIdeal.Frame
public import proofs.«01_k».proof.Proof.Gen.SampleAttnIdeal.Value
public import proofs.«01_k».proof.Proof.Gen.SampleAttnReferenceIdeal
public import proofs.«01_k».proof.Proof.Gen.SampleAttnReferenceIdeal.Run
public import proofs.«01_k».proof.Proof.Gen.SampleAttnReferenceIdeal.Read
public import proofs.«01_k».proof.Proof.Gen.SampleProj
public import proofs.«01_k».proof.Proof.Gen.SampleProj.Skeleton
public import proofs.«01_k».proof.Proof.Gen.SampleProj.Launch
public import proofs.«01_k».proof.Proof.Gen.SampleProj.Points
public import proofs.«01_k».proof.Proof.Gen.SampleProj.Frame
public import proofs.«01_k».proof.Proof.Gen.SampleProjIdeal
public import proofs.«01_k».proof.Proof.Gen.SampleProjIdeal.Skeleton
public import proofs.«01_k».proof.Proof.Gen.SampleProjIdeal.Launch
public import proofs.«01_k».proof.Proof.Gen.SampleProjIdeal.Points
public import proofs.«01_k».proof.Proof.Gen.SampleProjIdeal.Frame
public import proofs.«01_k».proof.Proof.Gen.SampleProjReferenceIdeal
public import proofs.«01_k».proof.Proof.Gen.SampleProjReferenceIdeal.Run
public import proofs.«01_k».proof.Proof.Gen.SampleProjReferenceIdeal.Read
public import proofs.«01_k».proof.Proof.Gen.Pre_finite_sample
public import proofs.«01_k».proof.Proof.KernelValue
public import proofs.«01_k».proof.Proof.RefValue
public import proofs.«01_k».proof.Proof.Pre
public import proofs.«01_k».proof.Proof.Tail.Same
public import proofs.«01_k».proof.Proof.Tail.TailIdealFrame
public import proofs.«01_k».proof.Proof.Tail.KernelArray
public import proofs.«01_k».proof.Proof.Tail.RefValue
public import proofs.«01_k».proof.Proof.Sample.Same
public import proofs.«01_k».proof.Proof.Sample.Frame
public import proofs.«01_k».proof.Proof.Sample.KernelArray
public import proofs.«01_k».proof.Proof.Sample.RefValue
public import proofs.«01_k».proof.Proof.Proj.KernelArray
public import proofs.«01_k».proof.Proof.Proj.RefValue
public import proofs.«01_k».proof.Proof.Sample.AttnArray
public import proofs.«01_k».proof.Proof.Sample.AttnRef
public import proofs.«01_k».proof.Proof.Sample.AttnPre
public import proofs.«01_k».proof.Proof.Sample.ProjArray
public import proofs.«01_k».proof.Proof.Sample.ProjRef
public import Idealize.ShloMosaic.Adequacy
public import Idealize.ShloMosaic.Init

@[expose] public section

noncomputable section

namespace Cert.Proof

open Idealize.ShloMosaic Idealize.SL.Sem Cert.Kernel

/-- The scores of every device's queries and keys are real under the precondition. -/
theorem attention_real (m : (ℓ : Loc Cert.KernelIdeal.nD Cert.KernelIdeal.τ Cert.KernelIdeal.sig) → Buf (Elt Ideal) ℓ)
    (h : Cert.Pre_KernelIdeal_finite m) (c : Dev Cert.KernelIdeal.nD) (b : Fin 4) (hd : Fin 8) (t : Fin 8192) (n : ℕ) :
    Attn.score (Attn.argQ m c) (Attn.argK m c) b hd t n = ((Attn.score (Attn.argQ m c) (Attn.argK m c) b hd t n).toReal : EReal) :=
  have hf := Attn.finite_real _ _ _ (h c)
  Attn.score_real hf.1 hf.2 b hd t n

/-- The attention's equation: kernel and reference end with `attn` of the arguments. -/
theorem attention : Cert.algebraic_KernelIdeal_ReferenceIdeal_pre_finite := by
  intro m g m' g' hpre heq
  refine ⟨fun c => Attn.attn (Attn.argQ m c) (Attn.argK m c) (Attn.argV m c),
    Attn.kernel_run m g (attention_real m hpre), ?_⟩
  have e := fun c => (heq c).1
  have e1 := fun c => (heq c).2.1
  have e2 := fun c => (heq c).2.2
  refine (θ_run _ _ _).mono (fun r h c => ⟨(h c).1.trans ?_, (h c).2⟩) (Attn.reference_run m' g' fun c => ?_)
  · rw [e c, e1 c]
    exact attention_real m hpre c
  · rw [e c, e1 c, e2 c]

/-- The reference runs, leaves its arguments unchanged and ends with every counter at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The tail's equation: kernel and reference end with `tail` of the arguments. -/
theorem tail : Cert.algebraic_TailIdeal_TailReferenceIdeal := by
  intro m g m' g' _ heq
  refine ⟨fun c => _root_.Tail.result m c, _root_.Tail.kernel_run m g, ?_⟩
  refine (θ_run _ _ _).mono (fun r h c => ⟨(h c).1.trans ?_, (h c).2⟩) (_root_.Tail.reference_run m' g')
  obtain ⟨e0, e1, e2, e3, e4, e5, e6, e7, e8, e9, e10, e11⟩ := heq c
  rw [e0, e1, e2, e3, e4, e5, e6, e7, e8, e9, e10, e11]

/-- The tail's reference runs, leaves its arguments unchanged and ends with every counter at zero. -/
theorem tail_reference_frame : Cert.quiescent_TailReferenceIdeal := fun m ρ _ =>
  (θ_run Cert.TailReferenceIdeal.defs _ _).mono (fun r h => ⟨fun c => (h c).2, sem_eq_zero_of_no_sems (by decide) r.2⟩)
    (Cert.TailReferenceIdeal.Value.run (F := Ideal) m ρ)

/-- The projection's equation: kernel and reference end with the same queries, keys, values and gated channels. -/
theorem projection : Cert.algebraic_ProjIdeal_ProjReferenceIdeal := by
  intro m g m' g' _ heq
  refine ⟨fun c => _root_.Proj.queries rfl (_root_.Proj.argX m c) (_root_.Proj.argG m c) (_root_.Proj.argW m c) (_root_.Proj.argT m c),
    fun c => _root_.Proj.keys (_root_.Proj.argX m c) (_root_.Proj.argG m c) (_root_.Proj.argW m c) (_root_.Proj.argT m c),
    fun c => _root_.Proj.values rfl (_root_.Proj.argX m c) (_root_.Proj.argG m c) (_root_.Proj.argW m c),
    fun c => _root_.Proj.channels (_root_.Proj.argX m c) (_root_.Proj.argG m c) (_root_.Proj.argC m c), _root_.Proj.kernel_run m g, ?_⟩
  refine (θ_run _ _ _).mono (fun r h c => ⟨(h c).1.trans ?_, (h c).2.1.trans ?_, (h c).2.2.1.trans ?_, (h c).2.2.2.1.trans ?_, (h c).2.2.2.2⟩)
    (_root_.Proj.reference_run m' g')
  all_goals obtain ⟨e0, e1, e2, e3, e4⟩ := heq c
  · rw [e0, e1, e2, e4]
  · rw [e0, e1, e2, e4]
  · rw [e0, e1, e2]
  · rw [e0, e1, e3]

/-- The projection's reference runs, leaves its arguments unchanged and ends with every counter at zero. -/
theorem projection_reference_frame : Cert.quiescent_ProjReferenceIdeal := fun m ρ _ =>
  (θ_run Cert.ProjReferenceIdeal.defs _ _).mono (fun r h => ⟨fun c => (h c).2.2.2.2, sem_eq_zero_of_no_sems (by decide) r.2⟩)
    (Cert.ProjReferenceIdeal.Value.run (F := Ideal) m ρ)

/-- The tail's equation at the sample batch's shapes: kernel and reference end with `tail` of the arguments. -/
theorem sample_tail : Cert.algebraic_SampleTailIdeal_SampleTailReferenceIdeal := by
  intro m g m' g' _ heq
  refine ⟨fun c => _root_.SampleTail.result m c, _root_.SampleTail.kernel_run m g, ?_⟩
  refine (θ_run _ _ _).mono (fun r h c => ⟨(h c).1.trans ?_, (h c).2⟩) (_root_.SampleTail.reference_run m' g')
  obtain ⟨e0, e1, e2, e3, e4, e5, e6, e7, e8, e9, e10, e11⟩ := heq c
  rw [e0, e1, e2, e3, e4, e5, e6, e7, e8, e9, e10, e11]

/-- The tail's reference at the sample batch's shapes runs, leaves its arguments unchanged and ends with every counter at zero. -/
theorem sample_tail_reference_frame : Cert.quiescent_SampleTailReferenceIdeal := fun m ρ _ =>
  (θ_run Cert.SampleTailReferenceIdeal.defs _ _).mono (fun r h => ⟨fun c => (h c).2, sem_eq_zero_of_no_sems (by decide) r.2⟩)
    (Cert.SampleTailReferenceIdeal.Value.run (F := Ideal) m ρ)

/-- The scores of every device's queries and keys are real under the precondition, at the sample batch's shapes. -/
theorem sample_attention_real (m : (ℓ : Loc Cert.SampleAttnIdeal.nD Cert.SampleAttnIdeal.τ Cert.SampleAttnIdeal.sig) → Buf (Elt Ideal) ℓ)
    (h : Cert.Pre_SampleAttnIdeal_finite_sample m) (c : Dev Cert.SampleAttnIdeal.nD) (b : Fin 32) (hd : Fin 8) (t : Fin 2048) (n : ℕ) :
    Attn.score (_root_.SampleAttn.argQ m c) (_root_.SampleAttn.argK m c) b hd t n = ((Attn.score (_root_.SampleAttn.argQ m c) (_root_.SampleAttn.argK m c) b hd t n).toReal : EReal) :=
  have hf := _root_.SampleAttn.finite_real _ _ _ (h c)
  Attn.score_real hf.1 hf.2 b hd t n

/-- The attention's equation at the sample batch's shapes: kernel and reference end with `attn` of the arguments. -/
theorem sample_attention : Cert.algebraic_SampleAttnIdeal_SampleAttnReferenceIdeal_pre_finite_sample := by
  intro m g m' g' hpre heq
  refine ⟨fun c => Attn.attn (_root_.SampleAttn.argQ m c) (_root_.SampleAttn.argK m c) (_root_.SampleAttn.argV m c),
    _root_.SampleAttn.kernel_run m g (sample_attention_real m hpre), ?_⟩
  have e := fun c => (heq c).1
  have e1 := fun c => (heq c).2.1
  have e2 := fun c => (heq c).2.2
  refine (θ_run _ _ _).mono (fun r h c => ⟨(h c).1.trans ?_, (h c).2⟩) (_root_.SampleAttn.reference_run m' g' fun c => ?_)
  · rw [e c, e1 c]
    exact sample_attention_real m hpre c
  · rw [e c, e1 c, e2 c]

/-- The attention's reference at the sample batch's shapes runs, leaves its arguments unchanged and ends with every counter at zero. -/
theorem sample_attention_reference_frame : Cert.quiescent_SampleAttnReferenceIdeal := fun m ρ _ =>
  (θ_run Cert.SampleAttnReferenceIdeal.defs _ _).mono (fun r h => ⟨fun c => (h c).2, sem_eq_zero_of_no_sems (by decide) r.2⟩)
    (Cert.SampleAttnReferenceIdeal.Value.run (F := Ideal) m ρ)

/-- The projection's equation at the sample batch's shapes: kernel and reference end with the same queries, keys, values and gated channels. -/
theorem sample_projection : Cert.algebraic_SampleProjIdeal_SampleProjReferenceIdeal := by
  intro m g m' g' _ heq
  refine ⟨fun c => _root_.Proj.queries rfl (_root_.SampleProj.argX m c) (_root_.SampleProj.argG m c) (_root_.SampleProj.argW m c) (_root_.SampleProj.argT m c),
    fun c => _root_.Proj.keys (_root_.SampleProj.argX m c) (_root_.SampleProj.argG m c) (_root_.SampleProj.argW m c) (_root_.SampleProj.argT m c),
    fun c => _root_.Proj.values rfl (_root_.SampleProj.argX m c) (_root_.SampleProj.argG m c) (_root_.SampleProj.argW m c),
    fun c => _root_.Proj.channels (_root_.SampleProj.argX m c) (_root_.SampleProj.argG m c) (_root_.SampleProj.argC m c), _root_.SampleProj.kernel_run m g, ?_⟩
  refine (θ_run _ _ _).mono (fun r h c => ⟨(h c).1.trans ?_, (h c).2.1.trans ?_, (h c).2.2.1.trans ?_, (h c).2.2.2.1.trans ?_, (h c).2.2.2.2⟩)
    (_root_.SampleProj.reference_run m' g')
  all_goals obtain ⟨e0, e1, e2, e3, e4⟩ := heq c
  · rw [e0, e1, e2, e4]
  · rw [e0, e1, e2, e4]
  · rw [e0, e1, e2]
  · rw [e0, e1, e3]

/-- The projection's reference at the sample batch's shapes runs, leaves its arguments unchanged and ends with every counter at zero. -/
theorem sample_projection_reference_frame : Cert.quiescent_SampleProjReferenceIdeal := fun m ρ _ =>
  (θ_run Cert.SampleProjReferenceIdeal.defs _ _).mono (fun r h => ⟨fun c => (h c).2.2.2.2, sem_eq_zero_of_no_sems (by decide) r.2⟩)
    (Cert.SampleProjReferenceIdeal.Value.run (F := Ideal) m ρ)

/-- Everything the certificate claims. -/
theorem claim : Cert.Claim :=
  ⟨Cert.Kernel.Gen.facts, Cert.KernelIdeal.Gen.facts, Cert.ReferenceIdeal.Gen.facts, Cert.Tail.Gen.facts, Cert.TailIdeal.Gen.facts,
    Cert.TailReferenceIdeal.Gen.facts, Cert.Proj.Gen.facts, Cert.ProjIdeal.Gen.facts, Cert.ProjReferenceIdeal.Gen.facts, Cert.SampleTail.Gen.facts,
    Cert.SampleTailIdeal.Gen.facts, Cert.SampleTailReferenceIdeal.Gen.facts, Cert.SampleAttn.Gen.facts, Cert.SampleAttnIdeal.Gen.facts,
    Cert.SampleAttnReferenceIdeal.Gen.facts, Cert.SampleProj.Gen.facts, Cert.SampleProjIdeal.Gen.facts, Cert.SampleProjReferenceIdeal.Gen.facts,
    Cert.Pre_finite.Gen.facts, Cert.Pre_finite_sample.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    fun m ρ _ => _root_.Tail.unchanged m ρ, fun m ρ _ => _root_.Tail.TailIdealRun.unchanged m ρ, tail_reference_frame,
    fun m ρ _ => Cert.Proj.Gen.frame m ρ, fun m ρ _ => Cert.ProjIdeal.Gen.frame m ρ, projection_reference_frame,
    fun m ρ _ => _root_.SampleTail.program_unchanged m ρ, fun m ρ _ => _root_.SampleTail.unchanged m ρ, sample_tail_reference_frame,
    fun m ρ _ => Cert.SampleAttn.Gen.frame m ρ, fun m ρ _ => Cert.SampleAttnIdeal.Gen.frame m ρ,
    fun m ρ _ => Cert.SampleAttnIdeal.Gen.frame m ρ, sample_attention_reference_frame, fun m ρ _ => sample_attention_reference_frame m ρ trivial,
    fun m ρ _ => Cert.SampleProj.Gen.frame m ρ, fun m ρ _ => Cert.SampleProjIdeal.Gen.frame m ρ, sample_projection_reference_frame,
    trivial, attention, trivial, tail, trivial, projection, trivial, sample_tail, trivial, sample_attention,
    trivial, sample_projection⟩

end Cert.Proof

end
